-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelDwDown (m : (ℓ : Loc Cert.KernelDwDown.nD Cert.KernelDwDown.τ Cert.KernelDwDown.sig) → Buf (Elt Bits) ℓ) : Prop :=
  True

def Pre_KernelDwDownIdeal (m : (ℓ : Loc Cert.KernelDwDownIdeal.nD Cert.KernelDwDownIdeal.τ Cert.KernelDwDownIdeal.sig) → Buf (Elt Ideal) ℓ) : Prop :=
  True

def Pre_ReferenceDwDownIdeal (m : (ℓ : Loc Cert.ReferenceDwDownIdeal.nD Cert.ReferenceDwDownIdeal.τ Cert.ReferenceDwDownIdeal.sig) → Buf (Elt Ideal) ℓ) : Prop :=
  True

def Pre_KernelDwUp (m : (ℓ : Loc Cert.KernelDwUp.nD Cert.KernelDwUp.τ Cert.KernelDwUp.sig) → Buf (Elt Bits) ℓ) : Prop :=
  True

def Pre_KernelDwUpIdeal (m : (ℓ : Loc Cert.KernelDwUpIdeal.nD Cert.KernelDwUpIdeal.τ Cert.KernelDwUpIdeal.sig) → Buf (Elt Ideal) ℓ) : Prop :=
  True

def Pre_ReferenceDwUpIdeal (m : (ℓ : Loc Cert.ReferenceDwUpIdeal.nD Cert.ReferenceDwUpIdeal.τ Cert.ReferenceDwUpIdeal.sig) → Buf (Elt Ideal) ℓ) : Prop :=
  True

def Pre_KernelDwOut (m : (ℓ : Loc Cert.KernelDwOut.nD Cert.KernelDwOut.τ Cert.KernelDwOut.sig) → Buf (Elt Bits) ℓ) : Prop :=
  True

def Pre_KernelDwOutIdeal (m : (ℓ : Loc Cert.KernelDwOutIdeal.nD Cert.KernelDwOutIdeal.τ Cert.KernelDwOutIdeal.sig) → Buf (Elt Ideal) ℓ) : Prop :=
  True

def Pre_ReferenceDwOutIdeal (m : (ℓ : Loc Cert.ReferenceDwOutIdeal.nD Cert.ReferenceDwOutIdeal.τ Cert.ReferenceDwOutIdeal.sig) → Buf (Elt Ideal) ℓ) : Prop :=
  True

def Pre_KernelDwIn (m : (ℓ : Loc Cert.KernelDwIn.nD Cert.KernelDwIn.τ Cert.KernelDwIn.sig) → Buf (Elt Bits) ℓ) : Prop :=
  True

def Pre_KernelDwInIdeal (m : (ℓ : Loc Cert.KernelDwInIdeal.nD Cert.KernelDwInIdeal.τ Cert.KernelDwInIdeal.sig) → Buf (Elt Ideal) ℓ) : Prop :=
  True

def Pre_ReferenceDwInIdeal (m : (ℓ : Loc Cert.ReferenceDwInIdeal.nD Cert.ReferenceDwInIdeal.τ Cert.ReferenceDwInIdeal.sig) → Buf (Elt Ideal) ℓ) : Prop :=
  True

def Pre_KernelResDown (m : (ℓ : Loc Cert.KernelResDown.nD Cert.KernelResDown.τ Cert.KernelResDown.sig) → Buf (Elt Bits) ℓ) : Prop :=
  True

def Pre_KernelResDownIdeal (m : (ℓ : Loc Cert.KernelResDownIdeal.nD Cert.KernelResDownIdeal.τ Cert.KernelResDownIdeal.sig) → Buf (Elt Ideal) ℓ) : Prop :=
  True

def Pre_ReferenceResDownIdeal (m : (ℓ : Loc Cert.ReferenceResDownIdeal.nD Cert.ReferenceResDownIdeal.τ Cert.ReferenceResDownIdeal.sig) → Buf (Elt Ideal) ℓ) : Prop :=
  True

def Pre_KernelResOut (m : (ℓ : Loc Cert.KernelResOut.nD Cert.KernelResOut.τ Cert.KernelResOut.sig) → Buf (Elt Bits) ℓ) : Prop :=
  True

def Pre_KernelResOutIdeal (m : (ℓ : Loc Cert.KernelResOutIdeal.nD Cert.KernelResOutIdeal.τ Cert.KernelResOutIdeal.sig) → Buf (Elt Ideal) ℓ) : Prop :=
  True

def Pre_ReferenceResOutIdeal (m : (ℓ : Loc Cert.ReferenceResOutIdeal.nD Cert.ReferenceResOutIdeal.τ Cert.ReferenceResOutIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelUpBwd (m : (ℓ : Loc Cert.KernelUpBwd.nD Cert.KernelUpBwd.τ Cert.KernelUpBwd.sig) → Buf (Elt Bits) ℓ) : Prop :=
  True

def Pre_KernelUpBwdIdeal (m : (ℓ : Loc Cert.KernelUpBwdIdeal.nD Cert.KernelUpBwdIdeal.τ Cert.KernelUpBwdIdeal.sig) → Buf (Elt Ideal) ℓ) : Prop :=
  True

def Pre_ReferenceUpBwdIdeal (m : (ℓ : Loc Cert.ReferenceUpBwdIdeal.nD Cert.ReferenceUpBwdIdeal.τ Cert.ReferenceUpBwdIdeal.sig) → Buf (Elt Ideal) ℓ) : Prop :=
  True

def Pre_KernelInBwd (m : (ℓ : Loc Cert.KernelInBwd.nD Cert.KernelInBwd.τ Cert.KernelInBwd.sig) → Buf (Elt Bits) ℓ) : Prop :=
  True

def Pre_KernelInBwdIdeal (m : (ℓ : Loc Cert.KernelInBwdIdeal.nD Cert.KernelInBwdIdeal.τ Cert.KernelInBwdIdeal.sig) → Buf (Elt Ideal) ℓ) : Prop :=
  True

def Pre_ReferenceInBwdIdeal (m : (ℓ : Loc Cert.ReferenceInBwdIdeal.nD Cert.ReferenceInBwdIdeal.τ Cert.ReferenceInBwdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelDwDown [hKernelDwDown : Cert.KernelDwDown.Facts] : Prop :=
  ∀ (m : (ℓ : Loc Cert.KernelDwDown.nD Cert.KernelDwDown.τ Cert.KernelDwDown.sig) → Buf (Elt Bits) ℓ) (g : Dev Cert.KernelDwDown.nD → PrngReg), Pre_KernelDwDown m →
    θ_run (Cert.KernelDwDown.defs (F := Bits)) (onTc (τ := Cert.KernelDwDown.τ) (Cert.KernelDwDown.main (F := Bits))) ⟨m, fun _ => 0, g⟩ (fun r => (∀ c : Dev Cert.KernelDwDown.nD,
      r.2.mem ((c.tc : Thread Cert.KernelDwDown.nD Cert.KernelDwDown.τ).loc Cert.KernelDwDown.main_arg0) = m ((c.tc : Thread Cert.KernelDwDown.nD Cert.KernelDwDown.τ).loc Cert.KernelDwDown.main_arg0)
      ∧ r.2.mem ((c.tc : Thread Cert.KernelDwDown.nD Cert.KernelDwDown.τ).loc Cert.KernelDwDown.main_arg1) = m ((c.tc : Thread Cert.KernelDwDown.nD Cert.KernelDwDown.τ).loc Cert.KernelDwDown.main_arg1))
      ∧ r.2.sem = fun _ => 0)

def quiescent_KernelDwDownIdeal [hKernelDwDownIdeal : Cert.KernelDwDownIdeal.Facts] : Prop :=
  ∀ (m : (ℓ : Loc Cert.KernelDwDownIdeal.nD Cert.KernelDwDownIdeal.τ Cert.KernelDwDownIdeal.sig) → Buf (Elt Ideal) ℓ) (g : Dev Cert.KernelDwDownIdeal.nD → PrngReg), Pre_KernelDwDownIdeal m →
    θ_run (Cert.KernelDwDownIdeal.defs (F := Ideal)) (onTc (τ := Cert.KernelDwDownIdeal.τ) (Cert.KernelDwDownIdeal.main (F := Ideal))) ⟨m, fun _ => 0, g⟩ (fun r => (∀ c : Dev Cert.KernelDwDownIdeal.nD,
      r.2.mem ((c.tc : Thread Cert.KernelDwDownIdeal.nD Cert.KernelDwDownIdeal.τ).loc Cert.KernelDwDownIdeal.main_arg0) = m ((c.tc : Thread Cert.KernelDwDownIdeal.nD Cert.KernelDwDownIdeal.τ).loc Cert.KernelDwDownIdeal.main_arg0)
      ∧ r.2.mem ((c.tc : Thread Cert.KernelDwDownIdeal.nD Cert.KernelDwDownIdeal.τ).loc Cert.KernelDwDownIdeal.main_arg1) = m ((c.tc : Thread Cert.KernelDwDownIdeal.nD Cert.KernelDwDownIdeal.τ).loc Cert.KernelDwDownIdeal.main_arg1))
      ∧ r.2.sem = fun _ => 0)

def quiescent_ReferenceDwDownIdeal [hReferenceDwDownIdeal : Cert.ReferenceDwDownIdeal.Facts] : Prop :=
  ∀ (m : (ℓ : Loc Cert.ReferenceDwDownIdeal.nD Cert.ReferenceDwDownIdeal.τ Cert.ReferenceDwDownIdeal.sig) → Buf (Elt Ideal) ℓ) (g : Dev Cert.ReferenceDwDownIdeal.nD → PrngReg), Pre_ReferenceDwDownIdeal m →
    θ_run (Cert.ReferenceDwDownIdeal.defs (F := Ideal)) (onTc (τ := Cert.ReferenceDwDownIdeal.τ) (Cert.ReferenceDwDownIdeal.main (F := Ideal))) ⟨m, fun _ => 0, g⟩ (fun r => (∀ c : Dev Cert.ReferenceDwDownIdeal.nD,
      r.2.mem ((c.tc : Thread Cert.ReferenceDwDownIdeal.nD Cert.ReferenceDwDownIdeal.τ).loc Cert.ReferenceDwDownIdeal.main_arg0) = m ((c.tc : Thread Cert.ReferenceDwDownIdeal.nD Cert.ReferenceDwDownIdeal.τ).loc Cert.ReferenceDwDownIdeal.main_arg0)
      ∧ r.2.mem ((c.tc : Thread Cert.ReferenceDwDownIdeal.nD Cert.ReferenceDwDownIdeal.τ).loc Cert.ReferenceDwDownIdeal.main_arg1) = m ((c.tc : Thread Cert.ReferenceDwDownIdeal.nD Cert.ReferenceDwDownIdeal.τ).loc Cert.ReferenceDwDownIdeal.main_arg1))
      ∧ r.2.sem = fun _ => 0)

def quiescent_KernelDwUp [hKernelDwUp : Cert.KernelDwUp.Facts] : Prop :=
  ∀ (m : (ℓ : Loc Cert.KernelDwUp.nD Cert.KernelDwUp.τ Cert.KernelDwUp.sig) → Buf (Elt Bits) ℓ) (g : Dev Cert.KernelDwUp.nD → PrngReg), Pre_KernelDwUp m →
    θ_run (Cert.KernelDwUp.defs (F := Bits)) (onTc (τ := Cert.KernelDwUp.τ) (Cert.KernelDwUp.main (F := Bits))) ⟨m, fun _ => 0, g⟩ (fun r => (∀ c : Dev Cert.KernelDwUp.nD,
      r.2.mem ((c.tc : Thread Cert.KernelDwUp.nD Cert.KernelDwUp.τ).loc Cert.KernelDwUp.main_arg0) = m ((c.tc : Thread Cert.KernelDwUp.nD Cert.KernelDwUp.τ).loc Cert.KernelDwUp.main_arg0)
      ∧ r.2.mem ((c.tc : Thread Cert.KernelDwUp.nD Cert.KernelDwUp.τ).loc Cert.KernelDwUp.main_arg1) = m ((c.tc : Thread Cert.KernelDwUp.nD Cert.KernelDwUp.τ).loc Cert.KernelDwUp.main_arg1))
      ∧ r.2.sem = fun _ => 0)

def quiescent_KernelDwUpIdeal [hKernelDwUpIdeal : Cert.KernelDwUpIdeal.Facts] : Prop :=
  ∀ (m : (ℓ : Loc Cert.KernelDwUpIdeal.nD Cert.KernelDwUpIdeal.τ Cert.KernelDwUpIdeal.sig) → Buf (Elt Ideal) ℓ) (g : Dev Cert.KernelDwUpIdeal.nD → PrngReg), Pre_KernelDwUpIdeal m →
    θ_run (Cert.KernelDwUpIdeal.defs (F := Ideal)) (onTc (τ := Cert.KernelDwUpIdeal.τ) (Cert.KernelDwUpIdeal.main (F := Ideal))) ⟨m, fun _ => 0, g⟩ (fun r => (∀ c : Dev Cert.KernelDwUpIdeal.nD,
      r.2.mem ((c.tc : Thread Cert.KernelDwUpIdeal.nD Cert.KernelDwUpIdeal.τ).loc Cert.KernelDwUpIdeal.main_arg0) = m ((c.tc : Thread Cert.KernelDwUpIdeal.nD Cert.KernelDwUpIdeal.τ).loc Cert.KernelDwUpIdeal.main_arg0)
      ∧ r.2.mem ((c.tc : Thread Cert.KernelDwUpIdeal.nD Cert.KernelDwUpIdeal.τ).loc Cert.KernelDwUpIdeal.main_arg1) = m ((c.tc : Thread Cert.KernelDwUpIdeal.nD Cert.KernelDwUpIdeal.τ).loc Cert.KernelDwUpIdeal.main_arg1))
      ∧ r.2.sem = fun _ => 0)

def quiescent_ReferenceDwUpIdeal [hReferenceDwUpIdeal : Cert.ReferenceDwUpIdeal.Facts] : Prop :=
  ∀ (m : (ℓ : Loc Cert.ReferenceDwUpIdeal.nD Cert.ReferenceDwUpIdeal.τ Cert.ReferenceDwUpIdeal.sig) → Buf (Elt Ideal) ℓ) (g : Dev Cert.ReferenceDwUpIdeal.nD → PrngReg), Pre_ReferenceDwUpIdeal m →
    θ_run (Cert.ReferenceDwUpIdeal.defs (F := Ideal)) (onTc (τ := Cert.ReferenceDwUpIdeal.τ) (Cert.ReferenceDwUpIdeal.main (F := Ideal))) ⟨m, fun _ => 0, g⟩ (fun r => (∀ c : Dev Cert.ReferenceDwUpIdeal.nD,
      r.2.mem ((c.tc : Thread Cert.ReferenceDwUpIdeal.nD Cert.ReferenceDwUpIdeal.τ).loc Cert.ReferenceDwUpIdeal.main_arg0) = m ((c.tc : Thread Cert.ReferenceDwUpIdeal.nD Cert.ReferenceDwUpIdeal.τ).loc Cert.ReferenceDwUpIdeal.main_arg0)
      ∧ r.2.mem ((c.tc : Thread Cert.ReferenceDwUpIdeal.nD Cert.ReferenceDwUpIdeal.τ).loc Cert.ReferenceDwUpIdeal.main_arg1) = m ((c.tc : Thread Cert.ReferenceDwUpIdeal.nD Cert.ReferenceDwUpIdeal.τ).loc Cert.ReferenceDwUpIdeal.main_arg1))
      ∧ r.2.sem = fun _ => 0)

def quiescent_KernelDwOut [hKernelDwOut : Cert.KernelDwOut.Facts] : Prop :=
  ∀ (m : (ℓ : Loc Cert.KernelDwOut.nD Cert.KernelDwOut.τ Cert.KernelDwOut.sig) → Buf (Elt Bits) ℓ) (g : Dev Cert.KernelDwOut.nD → PrngReg), Pre_KernelDwOut m →
    θ_run (Cert.KernelDwOut.defs (F := Bits)) (onTc (τ := Cert.KernelDwOut.τ) (Cert.KernelDwOut.main (F := Bits))) ⟨m, fun _ => 0, g⟩ (fun r => (∀ c : Dev Cert.KernelDwOut.nD,
      r.2.mem ((c.tc : Thread Cert.KernelDwOut.nD Cert.KernelDwOut.τ).loc Cert.KernelDwOut.main_arg0) = m ((c.tc : Thread Cert.KernelDwOut.nD Cert.KernelDwOut.τ).loc Cert.KernelDwOut.main_arg0)
      ∧ r.2.mem ((c.tc : Thread Cert.KernelDwOut.nD Cert.KernelDwOut.τ).loc Cert.KernelDwOut.main_arg1) = m ((c.tc : Thread Cert.KernelDwOut.nD Cert.KernelDwOut.τ).loc Cert.KernelDwOut.main_arg1))
      ∧ r.2.sem = fun _ => 0)

def quiescent_KernelDwOutIdeal [hKernelDwOutIdeal : Cert.KernelDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg), Pre_KernelDwOutIdeal m →
    θ_run (Cert.KernelDwOutIdeal.defs (F := Ideal)) (onTc (τ := Cert.KernelDwOutIdeal.τ) (Cert.KernelDwOutIdeal.main (F := Ideal))) ⟨m, fun _ => 0, g⟩ (fun r => (∀ c : Dev Cert.KernelDwOutIdeal.nD,
      r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
      ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1))
      ∧ r.2.sem = fun _ => 0)

def quiescent_ReferenceDwOutIdeal [hReferenceDwOutIdeal : Cert.ReferenceDwOutIdeal.Facts] : Prop :=
  ∀ (m : (ℓ : Loc Cert.ReferenceDwOutIdeal.nD Cert.ReferenceDwOutIdeal.τ Cert.ReferenceDwOutIdeal.sig) → Buf (Elt Ideal) ℓ) (g : Dev Cert.ReferenceDwOutIdeal.nD → PrngReg), Pre_ReferenceDwOutIdeal m →
    θ_run (Cert.ReferenceDwOutIdeal.defs (F := Ideal)) (onTc (τ := Cert.ReferenceDwOutIdeal.τ) (Cert.ReferenceDwOutIdeal.main (F := Ideal))) ⟨m, fun _ => 0, g⟩ (fun r => (∀ c : Dev Cert.ReferenceDwOutIdeal.nD,
      r.2.mem ((c.tc : Thread Cert.ReferenceDwOutIdeal.nD Cert.ReferenceDwOutIdeal.τ).loc Cert.ReferenceDwOutIdeal.main_arg0) = m ((c.tc : Thread Cert.ReferenceDwOutIdeal.nD Cert.ReferenceDwOutIdeal.τ).loc Cert.ReferenceDwOutIdeal.main_arg0)
      ∧ r.2.mem ((c.tc : Thread Cert.ReferenceDwOutIdeal.nD Cert.ReferenceDwOutIdeal.τ).loc Cert.ReferenceDwOutIdeal.main_arg1) = m ((c.tc : Thread Cert.ReferenceDwOutIdeal.nD Cert.ReferenceDwOutIdeal.τ).loc Cert.ReferenceDwOutIdeal.main_arg1))
      ∧ r.2.sem = fun _ => 0)

def quiescent_KernelDwIn [hKernelDwIn : Cert.KernelDwIn.Facts] : Prop :=
  ∀ (m : (ℓ : Loc Cert.KernelDwIn.nD Cert.KernelDwIn.τ Cert.KernelDwIn.sig) → Buf (Elt Bits) ℓ) (g : Dev Cert.KernelDwIn.nD → PrngReg), Pre_KernelDwIn m →
    θ_run (Cert.KernelDwIn.defs (F := Bits)) (onTc (τ := Cert.KernelDwIn.τ) (Cert.KernelDwIn.main (F := Bits))) ⟨m, fun _ => 0, g⟩ (fun r => (∀ c : Dev Cert.KernelDwIn.nD,
      r.2.mem ((c.tc : Thread Cert.KernelDwIn.nD Cert.KernelDwIn.τ).loc Cert.KernelDwIn.main_arg0) = m ((c.tc : Thread Cert.KernelDwIn.nD Cert.KernelDwIn.τ).loc Cert.KernelDwIn.main_arg0)
      ∧ r.2.mem ((c.tc : Thread Cert.KernelDwIn.nD Cert.KernelDwIn.τ).loc Cert.KernelDwIn.main_arg1) = m ((c.tc : Thread Cert.KernelDwIn.nD Cert.KernelDwIn.τ).loc Cert.KernelDwIn.main_arg1))
      ∧ r.2.sem = fun _ => 0)

def quiescent_KernelDwInIdeal [hKernelDwInIdeal : Cert.KernelDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg), Pre_KernelDwInIdeal m →
    θ_run (Cert.KernelDwInIdeal.defs (F := Ideal)) (onTc (τ := Cert.KernelDwInIdeal.τ) (Cert.KernelDwInIdeal.main (F := Ideal))) ⟨m, fun _ => 0, g⟩ (fun r => (∀ c : Dev Cert.KernelDwInIdeal.nD,
      r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
      ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1))
      ∧ r.2.sem = fun _ => 0)

def quiescent_ReferenceDwInIdeal [hReferenceDwInIdeal : Cert.ReferenceDwInIdeal.Facts] : Prop :=
  ∀ (m : (ℓ : Loc Cert.ReferenceDwInIdeal.nD Cert.ReferenceDwInIdeal.τ Cert.ReferenceDwInIdeal.sig) → Buf (Elt Ideal) ℓ) (g : Dev Cert.ReferenceDwInIdeal.nD → PrngReg), Pre_ReferenceDwInIdeal m →
    θ_run (Cert.ReferenceDwInIdeal.defs (F := Ideal)) (onTc (τ := Cert.ReferenceDwInIdeal.τ) (Cert.ReferenceDwInIdeal.main (F := Ideal))) ⟨m, fun _ => 0, g⟩ (fun r => (∀ c : Dev Cert.ReferenceDwInIdeal.nD,
      r.2.mem ((c.tc : Thread Cert.ReferenceDwInIdeal.nD Cert.ReferenceDwInIdeal.τ).loc Cert.ReferenceDwInIdeal.main_arg0) = m ((c.tc : Thread Cert.ReferenceDwInIdeal.nD Cert.ReferenceDwInIdeal.τ).loc Cert.ReferenceDwInIdeal.main_arg0)
      ∧ r.2.mem ((c.tc : Thread Cert.ReferenceDwInIdeal.nD Cert.ReferenceDwInIdeal.τ).loc Cert.ReferenceDwInIdeal.main_arg1) = m ((c.tc : Thread Cert.ReferenceDwInIdeal.nD Cert.ReferenceDwInIdeal.τ).loc Cert.ReferenceDwInIdeal.main_arg1))
      ∧ r.2.sem = fun _ => 0)

def quiescent_KernelResDown [hKernelResDown : Cert.KernelResDown.Facts] : Prop :=
  ∀ (m : (ℓ : Loc Cert.KernelResDown.nD Cert.KernelResDown.τ Cert.KernelResDown.sig) → Buf (Elt Bits) ℓ) (g : Dev Cert.KernelResDown.nD → PrngReg), Pre_KernelResDown m →
    θ_run (Cert.KernelResDown.defs (F := Bits)) (onTc (τ := Cert.KernelResDown.τ) (Cert.KernelResDown.main (F := Bits))) ⟨m, fun _ => 0, g⟩ (fun r => (∀ c : Dev Cert.KernelResDown.nD,
      r.2.mem ((c.tc : Thread Cert.KernelResDown.nD Cert.KernelResDown.τ).loc Cert.KernelResDown.main_arg0) = m ((c.tc : Thread Cert.KernelResDown.nD Cert.KernelResDown.τ).loc Cert.KernelResDown.main_arg0)
      ∧ r.2.mem ((c.tc : Thread Cert.KernelResDown.nD Cert.KernelResDown.τ).loc Cert.KernelResDown.main_arg1) = m ((c.tc : Thread Cert.KernelResDown.nD Cert.KernelResDown.τ).loc Cert.KernelResDown.main_arg1)
      ∧ r.2.mem ((c.tc : Thread Cert.KernelResDown.nD Cert.KernelResDown.τ).loc Cert.KernelResDown.main_arg2) = m ((c.tc : Thread Cert.KernelResDown.nD Cert.KernelResDown.τ).loc Cert.KernelResDown.main_arg2)
      ∧ r.2.mem ((c.tc : Thread Cert.KernelResDown.nD Cert.KernelResDown.τ).loc Cert.KernelResDown.main_arg3) = m ((c.tc : Thread Cert.KernelResDown.nD Cert.KernelResDown.τ).loc Cert.KernelResDown.main_arg3))
      ∧ r.2.sem = fun _ => 0)

def quiescent_KernelResDownIdeal [hKernelResDownIdeal : Cert.KernelResDownIdeal.Facts] : Prop :=
  ∀ (m : (ℓ : Loc Cert.KernelResDownIdeal.nD Cert.KernelResDownIdeal.τ Cert.KernelResDownIdeal.sig) → Buf (Elt Ideal) ℓ) (g : Dev Cert.KernelResDownIdeal.nD → PrngReg), Pre_KernelResDownIdeal m →
    θ_run (Cert.KernelResDownIdeal.defs (F := Ideal)) (onTc (τ := Cert.KernelResDownIdeal.τ) (Cert.KernelResDownIdeal.main (F := Ideal))) ⟨m, fun _ => 0, g⟩ (fun r => (∀ c : Dev Cert.KernelResDownIdeal.nD,
      r.2.mem ((c.tc : Thread Cert.KernelResDownIdeal.nD Cert.KernelResDownIdeal.τ).loc Cert.KernelResDownIdeal.main_arg0) = m ((c.tc : Thread Cert.KernelResDownIdeal.nD Cert.KernelResDownIdeal.τ).loc Cert.KernelResDownIdeal.main_arg0)
      ∧ r.2.mem ((c.tc : Thread Cert.KernelResDownIdeal.nD Cert.KernelResDownIdeal.τ).loc Cert.KernelResDownIdeal.main_arg1) = m ((c.tc : Thread Cert.KernelResDownIdeal.nD Cert.KernelResDownIdeal.τ).loc Cert.KernelResDownIdeal.main_arg1)
      ∧ r.2.mem ((c.tc : Thread Cert.KernelResDownIdeal.nD Cert.KernelResDownIdeal.τ).loc Cert.KernelResDownIdeal.main_arg2) = m ((c.tc : Thread Cert.KernelResDownIdeal.nD Cert.KernelResDownIdeal.τ).loc Cert.KernelResDownIdeal.main_arg2)
      ∧ r.2.mem ((c.tc : Thread Cert.KernelResDownIdeal.nD Cert.KernelResDownIdeal.τ).loc Cert.KernelResDownIdeal.main_arg3) = m ((c.tc : Thread Cert.KernelResDownIdeal.nD Cert.KernelResDownIdeal.τ).loc Cert.KernelResDownIdeal.main_arg3))
      ∧ r.2.sem = fun _ => 0)

def quiescent_ReferenceResDownIdeal [hReferenceResDownIdeal : Cert.ReferenceResDownIdeal.Facts] : Prop :=
  ∀ (m : (ℓ : Loc Cert.ReferenceResDownIdeal.nD Cert.ReferenceResDownIdeal.τ Cert.ReferenceResDownIdeal.sig) → Buf (Elt Ideal) ℓ) (g : Dev Cert.ReferenceResDownIdeal.nD → PrngReg), Pre_ReferenceResDownIdeal m →
    θ_run (Cert.ReferenceResDownIdeal.defs (F := Ideal)) (onTc (τ := Cert.ReferenceResDownIdeal.τ) (Cert.ReferenceResDownIdeal.main (F := Ideal))) ⟨m, fun _ => 0, g⟩ (fun r => (∀ c : Dev Cert.ReferenceResDownIdeal.nD,
      r.2.mem ((c.tc : Thread Cert.ReferenceResDownIdeal.nD Cert.ReferenceResDownIdeal.τ).loc Cert.ReferenceResDownIdeal.main_arg0) = m ((c.tc : Thread Cert.ReferenceResDownIdeal.nD Cert.ReferenceResDownIdeal.τ).loc Cert.ReferenceResDownIdeal.main_arg0)
      ∧ r.2.mem ((c.tc : Thread Cert.ReferenceResDownIdeal.nD Cert.ReferenceResDownIdeal.τ).loc Cert.ReferenceResDownIdeal.main_arg1) = m ((c.tc : Thread Cert.ReferenceResDownIdeal.nD Cert.ReferenceResDownIdeal.τ).loc Cert.ReferenceResDownIdeal.main_arg1)
      ∧ r.2.mem ((c.tc : Thread Cert.ReferenceResDownIdeal.nD Cert.ReferenceResDownIdeal.τ).loc Cert.ReferenceResDownIdeal.main_arg2) = m ((c.tc : Thread Cert.ReferenceResDownIdeal.nD Cert.ReferenceResDownIdeal.τ).loc Cert.ReferenceResDownIdeal.main_arg2)
      ∧ r.2.mem ((c.tc : Thread Cert.ReferenceResDownIdeal.nD Cert.ReferenceResDownIdeal.τ).loc Cert.ReferenceResDownIdeal.main_arg3) = m ((c.tc : Thread Cert.ReferenceResDownIdeal.nD Cert.ReferenceResDownIdeal.τ).loc Cert.ReferenceResDownIdeal.main_arg3))
      ∧ r.2.sem = fun _ => 0)

def quiescent_KernelResOut [hKernelResOut : Cert.KernelResOut.Facts] : Prop :=
  ∀ (m : (ℓ : Loc Cert.KernelResOut.nD Cert.KernelResOut.τ Cert.KernelResOut.sig) → Buf (Elt Bits) ℓ) (g : Dev Cert.KernelResOut.nD → PrngReg), Pre_KernelResOut m →
    θ_run (Cert.KernelResOut.defs (F := Bits)) (onTc (τ := Cert.KernelResOut.τ) (Cert.KernelResOut.main (F := Bits))) ⟨m, fun _ => 0, g⟩ (fun r => (∀ c : Dev Cert.KernelResOut.nD,
      r.2.mem ((c.tc : Thread Cert.KernelResOut.nD Cert.KernelResOut.τ).loc Cert.KernelResOut.main_arg0) = m ((c.tc : Thread Cert.KernelResOut.nD Cert.KernelResOut.τ).loc Cert.KernelResOut.main_arg0)
      ∧ r.2.mem ((c.tc : Thread Cert.KernelResOut.nD Cert.KernelResOut.τ).loc Cert.KernelResOut.main_arg1) = m ((c.tc : Thread Cert.KernelResOut.nD Cert.KernelResOut.τ).loc Cert.KernelResOut.main_arg1)
      ∧ r.2.mem ((c.tc : Thread Cert.KernelResOut.nD Cert.KernelResOut.τ).loc Cert.KernelResOut.main_arg2) = m ((c.tc : Thread Cert.KernelResOut.nD Cert.KernelResOut.τ).loc Cert.KernelResOut.main_arg2)
      ∧ r.2.mem ((c.tc : Thread Cert.KernelResOut.nD Cert.KernelResOut.τ).loc Cert.KernelResOut.main_arg3) = m ((c.tc : Thread Cert.KernelResOut.nD Cert.KernelResOut.τ).loc Cert.KernelResOut.main_arg3))
      ∧ r.2.sem = fun _ => 0)

def quiescent_KernelResOutIdeal [hKernelResOutIdeal : Cert.KernelResOutIdeal.Facts] : Prop :=
  ∀ (m : (ℓ : Loc Cert.KernelResOutIdeal.nD Cert.KernelResOutIdeal.τ Cert.KernelResOutIdeal.sig) → Buf (Elt Ideal) ℓ) (g : Dev Cert.KernelResOutIdeal.nD → PrngReg), Pre_KernelResOutIdeal m →
    θ_run (Cert.KernelResOutIdeal.defs (F := Ideal)) (onTc (τ := Cert.KernelResOutIdeal.τ) (Cert.KernelResOutIdeal.main (F := Ideal))) ⟨m, fun _ => 0, g⟩ (fun r => (∀ c : Dev Cert.KernelResOutIdeal.nD,
      r.2.mem ((c.tc : Thread Cert.KernelResOutIdeal.nD Cert.KernelResOutIdeal.τ).loc Cert.KernelResOutIdeal.main_arg0) = m ((c.tc : Thread Cert.KernelResOutIdeal.nD Cert.KernelResOutIdeal.τ).loc Cert.KernelResOutIdeal.main_arg0)
      ∧ r.2.mem ((c.tc : Thread Cert.KernelResOutIdeal.nD Cert.KernelResOutIdeal.τ).loc Cert.KernelResOutIdeal.main_arg1) = m ((c.tc : Thread Cert.KernelResOutIdeal.nD Cert.KernelResOutIdeal.τ).loc Cert.KernelResOutIdeal.main_arg1)
      ∧ r.2.mem ((c.tc : Thread Cert.KernelResOutIdeal.nD Cert.KernelResOutIdeal.τ).loc Cert.KernelResOutIdeal.main_arg2) = m ((c.tc : Thread Cert.KernelResOutIdeal.nD Cert.KernelResOutIdeal.τ).loc Cert.KernelResOutIdeal.main_arg2)
      ∧ r.2.mem ((c.tc : Thread Cert.KernelResOutIdeal.nD Cert.KernelResOutIdeal.τ).loc Cert.KernelResOutIdeal.main_arg3) = m ((c.tc : Thread Cert.KernelResOutIdeal.nD Cert.KernelResOutIdeal.τ).loc Cert.KernelResOutIdeal.main_arg3))
      ∧ r.2.sem = fun _ => 0)

def quiescent_ReferenceResOutIdeal [hReferenceResOutIdeal : Cert.ReferenceResOutIdeal.Facts] : Prop :=
  ∀ (m : (ℓ : Loc Cert.ReferenceResOutIdeal.nD Cert.ReferenceResOutIdeal.τ Cert.ReferenceResOutIdeal.sig) → Buf (Elt Ideal) ℓ) (g : Dev Cert.ReferenceResOutIdeal.nD → PrngReg), Pre_ReferenceResOutIdeal m →
    θ_run (Cert.ReferenceResOutIdeal.defs (F := Ideal)) (onTc (τ := Cert.ReferenceResOutIdeal.τ) (Cert.ReferenceResOutIdeal.main (F := Ideal))) ⟨m, fun _ => 0, g⟩ (fun r => (∀ c : Dev Cert.ReferenceResOutIdeal.nD,
      r.2.mem ((c.tc : Thread Cert.ReferenceResOutIdeal.nD Cert.ReferenceResOutIdeal.τ).loc Cert.ReferenceResOutIdeal.main_arg0) = m ((c.tc : Thread Cert.ReferenceResOutIdeal.nD Cert.ReferenceResOutIdeal.τ).loc Cert.ReferenceResOutIdeal.main_arg0)
      ∧ r.2.mem ((c.tc : Thread Cert.ReferenceResOutIdeal.nD Cert.ReferenceResOutIdeal.τ).loc Cert.ReferenceResOutIdeal.main_arg1) = m ((c.tc : Thread Cert.ReferenceResOutIdeal.nD Cert.ReferenceResOutIdeal.τ).loc Cert.ReferenceResOutIdeal.main_arg1)
      ∧ r.2.mem ((c.tc : Thread Cert.ReferenceResOutIdeal.nD Cert.ReferenceResOutIdeal.τ).loc Cert.ReferenceResOutIdeal.main_arg2) = m ((c.tc : Thread Cert.ReferenceResOutIdeal.nD Cert.ReferenceResOutIdeal.τ).loc Cert.ReferenceResOutIdeal.main_arg2)
      ∧ r.2.mem ((c.tc : Thread Cert.ReferenceResOutIdeal.nD Cert.ReferenceResOutIdeal.τ).loc Cert.ReferenceResOutIdeal.main_arg3) = m ((c.tc : Thread Cert.ReferenceResOutIdeal.nD Cert.ReferenceResOutIdeal.τ).loc Cert.ReferenceResOutIdeal.main_arg3))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelUpBwd [hKernelUpBwd : Cert.KernelUpBwd.Facts] : Prop :=
  ∀ (m : (ℓ : Loc Cert.KernelUpBwd.nD Cert.KernelUpBwd.τ Cert.KernelUpBwd.sig) → Buf (Elt Bits) ℓ) (g : Dev Cert.KernelUpBwd.nD → PrngReg), Pre_KernelUpBwd m →
    θ_run (Cert.KernelUpBwd.defs (F := Bits)) (onTc (τ := Cert.KernelUpBwd.τ) (Cert.KernelUpBwd.main (F := Bits))) ⟨m, fun _ => 0, g⟩ (fun r => (∀ c : Dev Cert.KernelUpBwd.nD,
      r.2.mem ((c.tc : Thread Cert.KernelUpBwd.nD Cert.KernelUpBwd.τ).loc Cert.KernelUpBwd.main_arg0) = m ((c.tc : Thread Cert.KernelUpBwd.nD Cert.KernelUpBwd.τ).loc Cert.KernelUpBwd.main_arg0)
      ∧ r.2.mem ((c.tc : Thread Cert.KernelUpBwd.nD Cert.KernelUpBwd.τ).loc Cert.KernelUpBwd.main_arg1) = m ((c.tc : Thread Cert.KernelUpBwd.nD Cert.KernelUpBwd.τ).loc Cert.KernelUpBwd.main_arg1)
      ∧ r.2.mem ((c.tc : Thread Cert.KernelUpBwd.nD Cert.KernelUpBwd.τ).loc Cert.KernelUpBwd.main_arg2) = m ((c.tc : Thread Cert.KernelUpBwd.nD Cert.KernelUpBwd.τ).loc Cert.KernelUpBwd.main_arg2)
      ∧ r.2.mem ((c.tc : Thread Cert.KernelUpBwd.nD Cert.KernelUpBwd.τ).loc Cert.KernelUpBwd.main_arg3) = m ((c.tc : Thread Cert.KernelUpBwd.nD Cert.KernelUpBwd.τ).loc Cert.KernelUpBwd.main_arg3)
      ∧ r.2.mem ((c.tc : Thread Cert.KernelUpBwd.nD Cert.KernelUpBwd.τ).loc Cert.KernelUpBwd.main_arg4) = m ((c.tc : Thread Cert.KernelUpBwd.nD Cert.KernelUpBwd.τ).loc Cert.KernelUpBwd.main_arg4))
      ∧ r.2.sem = fun _ => 0)

def quiescent_KernelUpBwdIdeal [hKernelUpBwdIdeal : Cert.KernelUpBwdIdeal.Facts] : Prop :=
  ∀ (m : (ℓ : Loc Cert.KernelUpBwdIdeal.nD Cert.KernelUpBwdIdeal.τ Cert.KernelUpBwdIdeal.sig) → Buf (Elt Ideal) ℓ) (g : Dev Cert.KernelUpBwdIdeal.nD → PrngReg), Pre_KernelUpBwdIdeal m →
    θ_run (Cert.KernelUpBwdIdeal.defs (F := Ideal)) (onTc (τ := Cert.KernelUpBwdIdeal.τ) (Cert.KernelUpBwdIdeal.main (F := Ideal))) ⟨m, fun _ => 0, g⟩ (fun r => (∀ c : Dev Cert.KernelUpBwdIdeal.nD,
      r.2.mem ((c.tc : Thread Cert.KernelUpBwdIdeal.nD Cert.KernelUpBwdIdeal.τ).loc Cert.KernelUpBwdIdeal.main_arg0) = m ((c.tc : Thread Cert.KernelUpBwdIdeal.nD Cert.KernelUpBwdIdeal.τ).loc Cert.KernelUpBwdIdeal.main_arg0)
      ∧ r.2.mem ((c.tc : Thread Cert.KernelUpBwdIdeal.nD Cert.KernelUpBwdIdeal.τ).loc Cert.KernelUpBwdIdeal.main_arg1) = m ((c.tc : Thread Cert.KernelUpBwdIdeal.nD Cert.KernelUpBwdIdeal.τ).loc Cert.KernelUpBwdIdeal.main_arg1)
      ∧ r.2.mem ((c.tc : Thread Cert.KernelUpBwdIdeal.nD Cert.KernelUpBwdIdeal.τ).loc Cert.KernelUpBwdIdeal.main_arg2) = m ((c.tc : Thread Cert.KernelUpBwdIdeal.nD Cert.KernelUpBwdIdeal.τ).loc Cert.KernelUpBwdIdeal.main_arg2)
      ∧ r.2.mem ((c.tc : Thread Cert.KernelUpBwdIdeal.nD Cert.KernelUpBwdIdeal.τ).loc Cert.KernelUpBwdIdeal.main_arg3) = m ((c.tc : Thread Cert.KernelUpBwdIdeal.nD Cert.KernelUpBwdIdeal.τ).loc Cert.KernelUpBwdIdeal.main_arg3)
      ∧ r.2.mem ((c.tc : Thread Cert.KernelUpBwdIdeal.nD Cert.KernelUpBwdIdeal.τ).loc Cert.KernelUpBwdIdeal.main_arg4) = m ((c.tc : Thread Cert.KernelUpBwdIdeal.nD Cert.KernelUpBwdIdeal.τ).loc Cert.KernelUpBwdIdeal.main_arg4))
      ∧ r.2.sem = fun _ => 0)

def quiescent_ReferenceUpBwdIdeal [hReferenceUpBwdIdeal : Cert.ReferenceUpBwdIdeal.Facts] : Prop :=
  ∀ (m : (ℓ : Loc Cert.ReferenceUpBwdIdeal.nD Cert.ReferenceUpBwdIdeal.τ Cert.ReferenceUpBwdIdeal.sig) → Buf (Elt Ideal) ℓ) (g : Dev Cert.ReferenceUpBwdIdeal.nD → PrngReg), Pre_ReferenceUpBwdIdeal m →
    θ_run (Cert.ReferenceUpBwdIdeal.defs (F := Ideal)) (onTc (τ := Cert.ReferenceUpBwdIdeal.τ) (Cert.ReferenceUpBwdIdeal.main (F := Ideal))) ⟨m, fun _ => 0, g⟩ (fun r => (∀ c : Dev Cert.ReferenceUpBwdIdeal.nD,
      r.2.mem ((c.tc : Thread Cert.ReferenceUpBwdIdeal.nD Cert.ReferenceUpBwdIdeal.τ).loc Cert.ReferenceUpBwdIdeal.main_arg0) = m ((c.tc : Thread Cert.ReferenceUpBwdIdeal.nD Cert.ReferenceUpBwdIdeal.τ).loc Cert.ReferenceUpBwdIdeal.main_arg0)
      ∧ r.2.mem ((c.tc : Thread Cert.ReferenceUpBwdIdeal.nD Cert.ReferenceUpBwdIdeal.τ).loc Cert.ReferenceUpBwdIdeal.main_arg1) = m ((c.tc : Thread Cert.ReferenceUpBwdIdeal.nD Cert.ReferenceUpBwdIdeal.τ).loc Cert.ReferenceUpBwdIdeal.main_arg1)
      ∧ r.2.mem ((c.tc : Thread Cert.ReferenceUpBwdIdeal.nD Cert.ReferenceUpBwdIdeal.τ).loc Cert.ReferenceUpBwdIdeal.main_arg2) = m ((c.tc : Thread Cert.ReferenceUpBwdIdeal.nD Cert.ReferenceUpBwdIdeal.τ).loc Cert.ReferenceUpBwdIdeal.main_arg2)
      ∧ r.2.mem ((c.tc : Thread Cert.ReferenceUpBwdIdeal.nD Cert.ReferenceUpBwdIdeal.τ).loc Cert.ReferenceUpBwdIdeal.main_arg3) = m ((c.tc : Thread Cert.ReferenceUpBwdIdeal.nD Cert.ReferenceUpBwdIdeal.τ).loc Cert.ReferenceUpBwdIdeal.main_arg3)
      ∧ r.2.mem ((c.tc : Thread Cert.ReferenceUpBwdIdeal.nD Cert.ReferenceUpBwdIdeal.τ).loc Cert.ReferenceUpBwdIdeal.main_arg4) = m ((c.tc : Thread Cert.ReferenceUpBwdIdeal.nD Cert.ReferenceUpBwdIdeal.τ).loc Cert.ReferenceUpBwdIdeal.main_arg4))
      ∧ r.2.sem = fun _ => 0)

def quiescent_KernelInBwd [hKernelInBwd : Cert.KernelInBwd.Facts] : Prop :=
  ∀ (m : (ℓ : Loc Cert.KernelInBwd.nD Cert.KernelInBwd.τ Cert.KernelInBwd.sig) → Buf (Elt Bits) ℓ) (g : Dev Cert.KernelInBwd.nD → PrngReg), Pre_KernelInBwd m →
    θ_run (Cert.KernelInBwd.defs (F := Bits)) (onTc (τ := Cert.KernelInBwd.τ) (Cert.KernelInBwd.main (F := Bits))) ⟨m, fun _ => 0, g⟩ (fun r => (∀ c : Dev Cert.KernelInBwd.nD,
      r.2.mem ((c.tc : Thread Cert.KernelInBwd.nD Cert.KernelInBwd.τ).loc Cert.KernelInBwd.main_arg0) = m ((c.tc : Thread Cert.KernelInBwd.nD Cert.KernelInBwd.τ).loc Cert.KernelInBwd.main_arg0)
      ∧ r.2.mem ((c.tc : Thread Cert.KernelInBwd.nD Cert.KernelInBwd.τ).loc Cert.KernelInBwd.main_arg1) = m ((c.tc : Thread Cert.KernelInBwd.nD Cert.KernelInBwd.τ).loc Cert.KernelInBwd.main_arg1)
      ∧ r.2.mem ((c.tc : Thread Cert.KernelInBwd.nD Cert.KernelInBwd.τ).loc Cert.KernelInBwd.main_arg2) = m ((c.tc : Thread Cert.KernelInBwd.nD Cert.KernelInBwd.τ).loc Cert.KernelInBwd.main_arg2)
      ∧ r.2.mem ((c.tc : Thread Cert.KernelInBwd.nD Cert.KernelInBwd.τ).loc Cert.KernelInBwd.main_arg3) = m ((c.tc : Thread Cert.KernelInBwd.nD Cert.KernelInBwd.τ).loc Cert.KernelInBwd.main_arg3)
      ∧ r.2.mem ((c.tc : Thread Cert.KernelInBwd.nD Cert.KernelInBwd.τ).loc Cert.KernelInBwd.main_arg4) = m ((c.tc : Thread Cert.KernelInBwd.nD Cert.KernelInBwd.τ).loc Cert.KernelInBwd.main_arg4)
      ∧ r.2.mem ((c.tc : Thread Cert.KernelInBwd.nD Cert.KernelInBwd.τ).loc Cert.KernelInBwd.main_arg5) = m ((c.tc : Thread Cert.KernelInBwd.nD Cert.KernelInBwd.τ).loc Cert.KernelInBwd.main_arg5)
      ∧ r.2.mem ((c.tc : Thread Cert.KernelInBwd.nD Cert.KernelInBwd.τ).loc Cert.KernelInBwd.main_arg6) = m ((c.tc : Thread Cert.KernelInBwd.nD Cert.KernelInBwd.τ).loc Cert.KernelInBwd.main_arg6)
      ∧ r.2.mem ((c.tc : Thread Cert.KernelInBwd.nD Cert.KernelInBwd.τ).loc Cert.KernelInBwd.main_arg7) = m ((c.tc : Thread Cert.KernelInBwd.nD Cert.KernelInBwd.τ).loc Cert.KernelInBwd.main_arg7)
      ∧ r.2.mem ((c.tc : Thread Cert.KernelInBwd.nD Cert.KernelInBwd.τ).loc Cert.KernelInBwd.main_arg8) = m ((c.tc : Thread Cert.KernelInBwd.nD Cert.KernelInBwd.τ).loc Cert.KernelInBwd.main_arg8)
      ∧ r.2.mem ((c.tc : Thread Cert.KernelInBwd.nD Cert.KernelInBwd.τ).loc Cert.KernelInBwd.main_arg9) = m ((c.tc : Thread Cert.KernelInBwd.nD Cert.KernelInBwd.τ).loc Cert.KernelInBwd.main_arg9)
      ∧ r.2.mem ((c.tc : Thread Cert.KernelInBwd.nD Cert.KernelInBwd.τ).loc Cert.KernelInBwd.main_arg10) = m ((c.tc : Thread Cert.KernelInBwd.nD Cert.KernelInBwd.τ).loc Cert.KernelInBwd.main_arg10))
      ∧ r.2.sem = fun _ => 0)

def quiescent_KernelInBwdIdeal [hKernelInBwdIdeal : Cert.KernelInBwdIdeal.Facts] : Prop :=
  ∀ (m : (ℓ : Loc Cert.KernelInBwdIdeal.nD Cert.KernelInBwdIdeal.τ Cert.KernelInBwdIdeal.sig) → Buf (Elt Ideal) ℓ) (g : Dev Cert.KernelInBwdIdeal.nD → PrngReg), Pre_KernelInBwdIdeal m →
    θ_run (Cert.KernelInBwdIdeal.defs (F := Ideal)) (onTc (τ := Cert.KernelInBwdIdeal.τ) (Cert.KernelInBwdIdeal.main (F := Ideal))) ⟨m, fun _ => 0, g⟩ (fun r => (∀ c : Dev Cert.KernelInBwdIdeal.nD,
      r.2.mem ((c.tc : Thread Cert.KernelInBwdIdeal.nD Cert.KernelInBwdIdeal.τ).loc Cert.KernelInBwdIdeal.main_arg0) = m ((c.tc : Thread Cert.KernelInBwdIdeal.nD Cert.KernelInBwdIdeal.τ).loc Cert.KernelInBwdIdeal.main_arg0)
      ∧ r.2.mem ((c.tc : Thread Cert.KernelInBwdIdeal.nD Cert.KernelInBwdIdeal.τ).loc Cert.KernelInBwdIdeal.main_arg1) = m ((c.tc : Thread Cert.KernelInBwdIdeal.nD Cert.KernelInBwdIdeal.τ).loc Cert.KernelInBwdIdeal.main_arg1)
      ∧ r.2.mem ((c.tc : Thread Cert.KernelInBwdIdeal.nD Cert.KernelInBwdIdeal.τ).loc Cert.KernelInBwdIdeal.main_arg2) = m ((c.tc : Thread Cert.KernelInBwdIdeal.nD Cert.KernelInBwdIdeal.τ).loc Cert.KernelInBwdIdeal.main_arg2)
      ∧ r.2.mem ((c.tc : Thread Cert.KernelInBwdIdeal.nD Cert.KernelInBwdIdeal.τ).loc Cert.KernelInBwdIdeal.main_arg3) = m ((c.tc : Thread Cert.KernelInBwdIdeal.nD Cert.KernelInBwdIdeal.τ).loc Cert.KernelInBwdIdeal.main_arg3)
      ∧ r.2.mem ((c.tc : Thread Cert.KernelInBwdIdeal.nD Cert.KernelInBwdIdeal.τ).loc Cert.KernelInBwdIdeal.main_arg4) = m ((c.tc : Thread Cert.KernelInBwdIdeal.nD Cert.KernelInBwdIdeal.τ).loc Cert.KernelInBwdIdeal.main_arg4)
      ∧ r.2.mem ((c.tc : Thread Cert.KernelInBwdIdeal.nD Cert.KernelInBwdIdeal.τ).loc Cert.KernelInBwdIdeal.main_arg5) = m ((c.tc : Thread Cert.KernelInBwdIdeal.nD Cert.KernelInBwdIdeal.τ).loc Cert.KernelInBwdIdeal.main_arg5)
      ∧ r.2.mem ((c.tc : Thread Cert.KernelInBwdIdeal.nD Cert.KernelInBwdIdeal.τ).loc Cert.KernelInBwdIdeal.main_arg6) = m ((c.tc : Thread Cert.KernelInBwdIdeal.nD Cert.KernelInBwdIdeal.τ).loc Cert.KernelInBwdIdeal.main_arg6)
      ∧ r.2.mem ((c.tc : Thread Cert.KernelInBwdIdeal.nD Cert.KernelInBwdIdeal.τ).loc Cert.KernelInBwdIdeal.main_arg7) = m ((c.tc : Thread Cert.KernelInBwdIdeal.nD Cert.KernelInBwdIdeal.τ).loc Cert.KernelInBwdIdeal.main_arg7)
      ∧ r.2.mem ((c.tc : Thread Cert.KernelInBwdIdeal.nD Cert.KernelInBwdIdeal.τ).loc Cert.KernelInBwdIdeal.main_arg8) = m ((c.tc : Thread Cert.KernelInBwdIdeal.nD Cert.KernelInBwdIdeal.τ).loc Cert.KernelInBwdIdeal.main_arg8)
      ∧ r.2.mem ((c.tc : Thread Cert.KernelInBwdIdeal.nD Cert.KernelInBwdIdeal.τ).loc Cert.KernelInBwdIdeal.main_arg9) = m ((c.tc : Thread Cert.KernelInBwdIdeal.nD Cert.KernelInBwdIdeal.τ).loc Cert.KernelInBwdIdeal.main_arg9)
      ∧ r.2.mem ((c.tc : Thread Cert.KernelInBwdIdeal.nD Cert.KernelInBwdIdeal.τ).loc Cert.KernelInBwdIdeal.main_arg10) = m ((c.tc : Thread Cert.KernelInBwdIdeal.nD Cert.KernelInBwdIdeal.τ).loc Cert.KernelInBwdIdeal.main_arg10))
      ∧ r.2.sem = fun _ => 0)

def quiescent_ReferenceInBwdIdeal [hReferenceInBwdIdeal : Cert.ReferenceInBwdIdeal.Facts] : Prop :=
  ∀ (m : (ℓ : Loc Cert.ReferenceInBwdIdeal.nD Cert.ReferenceInBwdIdeal.τ Cert.ReferenceInBwdIdeal.sig) → Buf (Elt Ideal) ℓ) (g : Dev Cert.ReferenceInBwdIdeal.nD → PrngReg), Pre_ReferenceInBwdIdeal m →
    θ_run (Cert.ReferenceInBwdIdeal.defs (F := Ideal)) (onTc (τ := Cert.ReferenceInBwdIdeal.τ) (Cert.ReferenceInBwdIdeal.main (F := Ideal))) ⟨m, fun _ => 0, g⟩ (fun r => (∀ c : Dev Cert.ReferenceInBwdIdeal.nD,
      r.2.mem ((c.tc : Thread Cert.ReferenceInBwdIdeal.nD Cert.ReferenceInBwdIdeal.τ).loc Cert.ReferenceInBwdIdeal.main_arg0) = m ((c.tc : Thread Cert.ReferenceInBwdIdeal.nD Cert.ReferenceInBwdIdeal.τ).loc Cert.ReferenceInBwdIdeal.main_arg0)
      ∧ r.2.mem ((c.tc : Thread Cert.ReferenceInBwdIdeal.nD Cert.ReferenceInBwdIdeal.τ).loc Cert.ReferenceInBwdIdeal.main_arg1) = m ((c.tc : Thread Cert.ReferenceInBwdIdeal.nD Cert.ReferenceInBwdIdeal.τ).loc Cert.ReferenceInBwdIdeal.main_arg1)
      ∧ r.2.mem ((c.tc : Thread Cert.ReferenceInBwdIdeal.nD Cert.ReferenceInBwdIdeal.τ).loc Cert.ReferenceInBwdIdeal.main_arg2) = m ((c.tc : Thread Cert.ReferenceInBwdIdeal.nD Cert.ReferenceInBwdIdeal.τ).loc Cert.ReferenceInBwdIdeal.main_arg2)
      ∧ r.2.mem ((c.tc : Thread Cert.ReferenceInBwdIdeal.nD Cert.ReferenceInBwdIdeal.τ).loc Cert.ReferenceInBwdIdeal.main_arg3) = m ((c.tc : Thread Cert.ReferenceInBwdIdeal.nD Cert.ReferenceInBwdIdeal.τ).loc Cert.ReferenceInBwdIdeal.main_arg3)
      ∧ r.2.mem ((c.tc : Thread Cert.ReferenceInBwdIdeal.nD Cert.ReferenceInBwdIdeal.τ).loc Cert.ReferenceInBwdIdeal.main_arg4) = m ((c.tc : Thread Cert.ReferenceInBwdIdeal.nD Cert.ReferenceInBwdIdeal.τ).loc Cert.ReferenceInBwdIdeal.main_arg4)
      ∧ r.2.mem ((c.tc : Thread Cert.ReferenceInBwdIdeal.nD Cert.ReferenceInBwdIdeal.τ).loc Cert.ReferenceInBwdIdeal.main_arg5) = m ((c.tc : Thread Cert.ReferenceInBwdIdeal.nD Cert.ReferenceInBwdIdeal.τ).loc Cert.ReferenceInBwdIdeal.main_arg5)
      ∧ r.2.mem ((c.tc : Thread Cert.ReferenceInBwdIdeal.nD Cert.ReferenceInBwdIdeal.τ).loc Cert.ReferenceInBwdIdeal.main_arg6) = m ((c.tc : Thread Cert.ReferenceInBwdIdeal.nD Cert.ReferenceInBwdIdeal.τ).loc Cert.ReferenceInBwdIdeal.main_arg6)
      ∧ r.2.mem ((c.tc : Thread Cert.ReferenceInBwdIdeal.nD Cert.ReferenceInBwdIdeal.τ).loc Cert.ReferenceInBwdIdeal.main_arg7) = m ((c.tc : Thread Cert.ReferenceInBwdIdeal.nD Cert.ReferenceInBwdIdeal.τ).loc Cert.ReferenceInBwdIdeal.main_arg7)
      ∧ r.2.mem ((c.tc : Thread Cert.ReferenceInBwdIdeal.nD Cert.ReferenceInBwdIdeal.τ).loc Cert.ReferenceInBwdIdeal.main_arg8) = m ((c.tc : Thread Cert.ReferenceInBwdIdeal.nD Cert.ReferenceInBwdIdeal.τ).loc Cert.ReferenceInBwdIdeal.main_arg8)
      ∧ r.2.mem ((c.tc : Thread Cert.ReferenceInBwdIdeal.nD Cert.ReferenceInBwdIdeal.τ).loc Cert.ReferenceInBwdIdeal.main_arg9) = m ((c.tc : Thread Cert.ReferenceInBwdIdeal.nD Cert.ReferenceInBwdIdeal.τ).loc Cert.ReferenceInBwdIdeal.main_arg9)
      ∧ r.2.mem ((c.tc : Thread Cert.ReferenceInBwdIdeal.nD Cert.ReferenceInBwdIdeal.τ).loc Cert.ReferenceInBwdIdeal.main_arg10) = m ((c.tc : Thread Cert.ReferenceInBwdIdeal.nD Cert.ReferenceInBwdIdeal.τ).loc Cert.ReferenceInBwdIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v144) = v2 c
          ∧ r.2.mem ((c.tc : Thread Cert.ReferenceIdeal.nD Cert.ReferenceIdeal.τ).loc Cert.ReferenceIdeal.main_v146) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v14) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v4) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelDwDown_KernelDwDownIdeal : Prop :=
  True

def algebraic_KernelDwDownIdeal_ReferenceDwDownIdeal [hKernelDwDownIdeal : Cert.KernelDwDownIdeal.Facts] [hReferenceDwDownIdeal : Cert.ReferenceDwDownIdeal.Facts] : Prop :=
  ∀ (m : (ℓ : Loc Cert.KernelDwDownIdeal.nD Cert.KernelDwDownIdeal.τ Cert.KernelDwDownIdeal.sig) → Buf (Elt Ideal) ℓ) (g : Dev Cert.KernelDwDownIdeal.nD → PrngReg)
    (m' : (ℓ : Loc Cert.ReferenceDwDownIdeal.nD Cert.ReferenceDwDownIdeal.τ Cert.ReferenceDwDownIdeal.sig) → Buf (Elt Ideal) ℓ) (g' : Dev Cert.ReferenceDwDownIdeal.nD → PrngReg), Pre_KernelDwDownIdeal m →
    (∀ c : Dev Cert.KernelDwDownIdeal.nD,
      m' ((c.tc : Thread Cert.ReferenceDwDownIdeal.nD Cert.ReferenceDwDownIdeal.τ).loc Cert.ReferenceDwDownIdeal.main_arg0) = m ((c.tc : Thread Cert.KernelDwDownIdeal.nD Cert.KernelDwDownIdeal.τ).loc Cert.KernelDwDownIdeal.main_arg0)
      ∧ m' ((c.tc : Thread Cert.ReferenceDwDownIdeal.nD Cert.ReferenceDwDownIdeal.τ).loc Cert.ReferenceDwDownIdeal.main_arg1) = m ((c.tc : Thread Cert.KernelDwDownIdeal.nD Cert.KernelDwDownIdeal.τ).loc Cert.KernelDwDownIdeal.main_arg1)) →
    ∃ (v0 : (c : Dev Cert.KernelDwDownIdeal.nD) → Buf (Elt Ideal) ((c.tc : Thread Cert.KernelDwDownIdeal.nD Cert.KernelDwDownIdeal.τ).loc Cert.KernelDwDownIdeal.main_v0)),
      θ_run (Cert.KernelDwDownIdeal.defs (F := Ideal)) (onTc (τ := Cert.KernelDwDownIdeal.τ) (Cert.KernelDwDownIdeal.main (F := Ideal))) ⟨m, fun _ => 0, g⟩ (fun r => ∀ c : Dev Cert.KernelDwDownIdeal.nD,
          r.2.mem ((c.tc : Thread Cert.KernelDwDownIdeal.nD Cert.KernelDwDownIdeal.τ).loc Cert.KernelDwDownIdeal.main_v0) = v0 c
          ∧ r.2.mem ((c.tc : Thread Cert.KernelDwDownIdeal.nD Cert.KernelDwDownIdeal.τ).loc Cert.KernelDwDownIdeal.main_arg0) = m ((c.tc : Thread Cert.KernelDwDownIdeal.nD Cert.KernelDwDownIdeal.τ).loc Cert.KernelDwDownIdeal.main_arg0)
          ∧ r.2.mem ((c.tc : Thread Cert.KernelDwDownIdeal.nD Cert.KernelDwDownIdeal.τ).loc Cert.KernelDwDownIdeal.main_arg1) = m ((c.tc : Thread Cert.KernelDwDownIdeal.nD Cert.KernelDwDownIdeal.τ).loc Cert.KernelDwDownIdeal.main_arg1))
      ∧ θ_run (Cert.ReferenceDwDownIdeal.defs (F := Ideal)) (onTc (τ := Cert.ReferenceDwDownIdeal.τ) (Cert.ReferenceDwDownIdeal.main (F := Ideal))) ⟨m', fun _ => 0, g'⟩ (fun r => ∀ c : Dev Cert.ReferenceDwDownIdeal.nD,
          r.2.mem ((c.tc : Thread Cert.ReferenceDwDownIdeal.nD Cert.ReferenceDwDownIdeal.τ).loc Cert.ReferenceDwDownIdeal.main_v6) = v0 c
          ∧ r.2.mem ((c.tc : Thread Cert.ReferenceDwDownIdeal.nD Cert.ReferenceDwDownIdeal.τ).loc Cert.ReferenceDwDownIdeal.main_arg0) = m' ((c.tc : Thread Cert.ReferenceDwDownIdeal.nD Cert.ReferenceDwDownIdeal.τ).loc Cert.ReferenceDwDownIdeal.main_arg0)
          ∧ r.2.mem ((c.tc : Thread Cert.ReferenceDwDownIdeal.nD Cert.ReferenceDwDownIdeal.τ).loc Cert.ReferenceDwDownIdeal.main_arg1) = m' ((c.tc : Thread Cert.ReferenceDwDownIdeal.nD Cert.ReferenceDwDownIdeal.τ).loc Cert.ReferenceDwDownIdeal.main_arg1))

def preserves_KernelDwUp_KernelDwUpIdeal : Prop :=
  True

def algebraic_KernelDwUpIdeal_ReferenceDwUpIdeal [hKernelDwUpIdeal : Cert.KernelDwUpIdeal.Facts] [hReferenceDwUpIdeal : Cert.ReferenceDwUpIdeal.Facts] : Prop :=
  ∀ (m : (ℓ : Loc Cert.KernelDwUpIdeal.nD Cert.KernelDwUpIdeal.τ Cert.KernelDwUpIdeal.sig) → Buf (Elt Ideal) ℓ) (g : Dev Cert.KernelDwUpIdeal.nD → PrngReg)
    (m' : (ℓ : Loc Cert.ReferenceDwUpIdeal.nD Cert.ReferenceDwUpIdeal.τ Cert.ReferenceDwUpIdeal.sig) → Buf (Elt Ideal) ℓ) (g' : Dev Cert.ReferenceDwUpIdeal.nD → PrngReg), Pre_KernelDwUpIdeal m →
    (∀ c : Dev Cert.KernelDwUpIdeal.nD,
      m' ((c.tc : Thread Cert.ReferenceDwUpIdeal.nD Cert.ReferenceDwUpIdeal.τ).loc Cert.ReferenceDwUpIdeal.main_arg0) = m ((c.tc : Thread Cert.KernelDwUpIdeal.nD Cert.KernelDwUpIdeal.τ).loc Cert.KernelDwUpIdeal.main_arg0)
      ∧ m' ((c.tc : Thread Cert.ReferenceDwUpIdeal.nD Cert.ReferenceDwUpIdeal.τ).loc Cert.ReferenceDwUpIdeal.main_arg1) = m ((c.tc : Thread Cert.KernelDwUpIdeal.nD Cert.KernelDwUpIdeal.τ).loc Cert.KernelDwUpIdeal.main_arg1)) →
    ∃ (v0 : (c : Dev Cert.KernelDwUpIdeal.nD) → Buf (Elt Ideal) ((c.tc : Thread Cert.KernelDwUpIdeal.nD Cert.KernelDwUpIdeal.τ).loc Cert.KernelDwUpIdeal.main_v0)),
      θ_run (Cert.KernelDwUpIdeal.defs (F := Ideal)) (onTc (τ := Cert.KernelDwUpIdeal.τ) (Cert.KernelDwUpIdeal.main (F := Ideal))) ⟨m, fun _ => 0, g⟩ (fun r => ∀ c : Dev Cert.KernelDwUpIdeal.nD,
          r.2.mem ((c.tc : Thread Cert.KernelDwUpIdeal.nD Cert.KernelDwUpIdeal.τ).loc Cert.KernelDwUpIdeal.main_v0) = v0 c
          ∧ r.2.mem ((c.tc : Thread Cert.KernelDwUpIdeal.nD Cert.KernelDwUpIdeal.τ).loc Cert.KernelDwUpIdeal.main_arg0) = m ((c.tc : Thread Cert.KernelDwUpIdeal.nD Cert.KernelDwUpIdeal.τ).loc Cert.KernelDwUpIdeal.main_arg0)
          ∧ r.2.mem ((c.tc : Thread Cert.KernelDwUpIdeal.nD Cert.KernelDwUpIdeal.τ).loc Cert.KernelDwUpIdeal.main_arg1) = m ((c.tc : Thread Cert.KernelDwUpIdeal.nD Cert.KernelDwUpIdeal.τ).loc Cert.KernelDwUpIdeal.main_arg1))
      ∧ θ_run (Cert.ReferenceDwUpIdeal.defs (F := Ideal)) (onTc (τ := Cert.ReferenceDwUpIdeal.τ) (Cert.ReferenceDwUpIdeal.main (F := Ideal))) ⟨m', fun _ => 0, g'⟩ (fun r => ∀ c : Dev Cert.ReferenceDwUpIdeal.nD,
          r.2.mem ((c.tc : Thread Cert.ReferenceDwUpIdeal.nD Cert.ReferenceDwUpIdeal.τ).loc Cert.ReferenceDwUpIdeal.main_v8) = v0 c
          ∧ r.2.mem ((c.tc : Thread Cert.ReferenceDwUpIdeal.nD Cert.ReferenceDwUpIdeal.τ).loc Cert.ReferenceDwUpIdeal.main_arg0) = m' ((c.tc : Thread Cert.ReferenceDwUpIdeal.nD Cert.ReferenceDwUpIdeal.τ).loc Cert.ReferenceDwUpIdeal.main_arg0)
          ∧ r.2.mem ((c.tc : Thread Cert.ReferenceDwUpIdeal.nD Cert.ReferenceDwUpIdeal.τ).loc Cert.ReferenceDwUpIdeal.main_arg1) = m' ((c.tc : Thread Cert.ReferenceDwUpIdeal.nD Cert.ReferenceDwUpIdeal.τ).loc Cert.ReferenceDwUpIdeal.main_arg1))

def preserves_KernelDwOut_KernelDwOutIdeal : Prop :=
  True

def algebraic_KernelDwOutIdeal_ReferenceDwOutIdeal [hKernelDwOutIdeal : Cert.KernelDwOutIdeal.Facts] [hReferenceDwOutIdeal : Cert.ReferenceDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg)
    (m' : (ℓ : Loc Cert.ReferenceDwOutIdeal.nD Cert.ReferenceDwOutIdeal.τ Cert.ReferenceDwOutIdeal.sig) → Buf (Elt Ideal) ℓ) (g' : Dev Cert.ReferenceDwOutIdeal.nD → PrngReg), Pre_KernelDwOutIdeal m →
    (∀ c : Dev Cert.KernelDwOutIdeal.nD,
      m' ((c.tc : Thread Cert.ReferenceDwOutIdeal.nD Cert.ReferenceDwOutIdeal.τ).loc Cert.ReferenceDwOutIdeal.main_arg0) = m ((c.tc : Thread Cert.KernelDwOutIdeal.nD Cert.KernelDwOutIdeal.τ).loc Cert.KernelDwOutIdeal.main_arg0)
      ∧ m' ((c.tc : Thread Cert.ReferenceDwOutIdeal.nD Cert.ReferenceDwOutIdeal.τ).loc Cert.ReferenceDwOutIdeal.main_arg1) = m ((c.tc : Thread Cert.KernelDwOutIdeal.nD Cert.KernelDwOutIdeal.τ).loc Cert.KernelDwOutIdeal.main_arg1)) →
    ∃ (v0 : (c : Dev Cert.KernelDwOutIdeal.nD) → Buf (Elt Ideal) ((c.tc : Thread Cert.KernelDwOutIdeal.nD Cert.KernelDwOutIdeal.τ).loc Cert.KernelDwOutIdeal.main_v0)),
      θ_run (Cert.KernelDwOutIdeal.defs (F := Ideal)) (onTc (τ := Cert.KernelDwOutIdeal.τ) (Cert.KernelDwOutIdeal.main (F := Ideal))) ⟨m, fun _ => 0, g⟩ (fun r => ∀ c : Dev Cert.KernelDwOutIdeal.nD,
          r.2.mem ((c.tc : Thread Cert.KernelDwOutIdeal.nD Cert.KernelDwOutIdeal.τ).loc Cert.KernelDwOutIdeal.main_v0) = v0 c
          ∧ r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
          ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1))
      ∧ θ_run (Cert.ReferenceDwOutIdeal.defs (F := Ideal)) (onTc (τ := Cert.ReferenceDwOutIdeal.τ) (Cert.ReferenceDwOutIdeal.main (F := Ideal))) ⟨m', fun _ => 0, g'⟩ (fun r => ∀ c : Dev Cert.ReferenceDwOutIdeal.nD,
          r.2.mem ((c.tc : Thread Cert.ReferenceDwOutIdeal.nD Cert.ReferenceDwOutIdeal.τ).loc Cert.ReferenceDwOutIdeal.main_v6) = v0 c
          ∧ r.2.mem ((c.tc : Thread Cert.ReferenceDwOutIdeal.nD Cert.ReferenceDwOutIdeal.τ).loc Cert.ReferenceDwOutIdeal.main_arg0) = m' ((c.tc : Thread Cert.ReferenceDwOutIdeal.nD Cert.ReferenceDwOutIdeal.τ).loc Cert.ReferenceDwOutIdeal.main_arg0)
          ∧ r.2.mem ((c.tc : Thread Cert.ReferenceDwOutIdeal.nD Cert.ReferenceDwOutIdeal.τ).loc Cert.ReferenceDwOutIdeal.main_arg1) = m' ((c.tc : Thread Cert.ReferenceDwOutIdeal.nD Cert.ReferenceDwOutIdeal.τ).loc Cert.ReferenceDwOutIdeal.main_arg1))

def preserves_KernelDwIn_KernelDwInIdeal : Prop :=
  True

def algebraic_KernelDwInIdeal_ReferenceDwInIdeal [hKernelDwInIdeal : Cert.KernelDwInIdeal.Facts] [hReferenceDwInIdeal : Cert.ReferenceDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg)
    (m' : (ℓ : Loc Cert.ReferenceDwInIdeal.nD Cert.ReferenceDwInIdeal.τ Cert.ReferenceDwInIdeal.sig) → Buf (Elt Ideal) ℓ) (g' : Dev Cert.ReferenceDwInIdeal.nD → PrngReg), Pre_KernelDwInIdeal m →
    (∀ c : Dev Cert.KernelDwInIdeal.nD,
      m' ((c.tc : Thread Cert.ReferenceDwInIdeal.nD Cert.ReferenceDwInIdeal.τ).loc Cert.ReferenceDwInIdeal.main_arg0) = m ((c.tc : Thread Cert.KernelDwInIdeal.nD Cert.KernelDwInIdeal.τ).loc Cert.KernelDwInIdeal.main_arg0)
      ∧ m' ((c.tc : Thread Cert.ReferenceDwInIdeal.nD Cert.ReferenceDwInIdeal.τ).loc Cert.ReferenceDwInIdeal.main_arg1) = m ((c.tc : Thread Cert.KernelDwInIdeal.nD Cert.KernelDwInIdeal.τ).loc Cert.KernelDwInIdeal.main_arg1)) →
    ∃ (v0 : (c : Dev Cert.KernelDwInIdeal.nD) → Buf (Elt Ideal) ((c.tc : Thread Cert.KernelDwInIdeal.nD Cert.KernelDwInIdeal.τ).loc Cert.KernelDwInIdeal.main_v0)),
      θ_run (Cert.KernelDwInIdeal.defs (F := Ideal)) (onTc (τ := Cert.KernelDwInIdeal.τ) (Cert.KernelDwInIdeal.main (F := Ideal))) ⟨m, fun _ => 0, g⟩ (fun r => ∀ c : Dev Cert.KernelDwInIdeal.nD,
          r.2.mem ((c.tc : Thread Cert.KernelDwInIdeal.nD Cert.KernelDwInIdeal.τ).loc Cert.KernelDwInIdeal.main_v0) = v0 c
          ∧ r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
          ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1))
      ∧ θ_run (Cert.ReferenceDwInIdeal.defs (F := Ideal)) (onTc (τ := Cert.ReferenceDwInIdeal.τ) (Cert.ReferenceDwInIdeal.main (F := Ideal))) ⟨m', fun _ => 0, g'⟩ (fun r => ∀ c : Dev Cert.ReferenceDwInIdeal.nD,
          r.2.mem ((c.tc : Thread Cert.ReferenceDwInIdeal.nD Cert.ReferenceDwInIdeal.τ).loc Cert.ReferenceDwInIdeal.main_v6) = v0 c
          ∧ r.2.mem ((c.tc : Thread Cert.ReferenceDwInIdeal.nD Cert.ReferenceDwInIdeal.τ).loc Cert.ReferenceDwInIdeal.main_arg0) = m' ((c.tc : Thread Cert.ReferenceDwInIdeal.nD Cert.ReferenceDwInIdeal.τ).loc Cert.ReferenceDwInIdeal.main_arg0)
          ∧ r.2.mem ((c.tc : Thread Cert.ReferenceDwInIdeal.nD Cert.ReferenceDwInIdeal.τ).loc Cert.ReferenceDwInIdeal.main_arg1) = m' ((c.tc : Thread Cert.ReferenceDwInIdeal.nD Cert.ReferenceDwInIdeal.τ).loc Cert.ReferenceDwInIdeal.main_arg1))

def preserves_KernelResDown_KernelResDownIdeal : Prop :=
  True

def algebraic_KernelResDownIdeal_ReferenceResDownIdeal [hKernelResDownIdeal : Cert.KernelResDownIdeal.Facts] [hReferenceResDownIdeal : Cert.ReferenceResDownIdeal.Facts] : Prop :=
  ∀ (m : (ℓ : Loc Cert.KernelResDownIdeal.nD Cert.KernelResDownIdeal.τ Cert.KernelResDownIdeal.sig) → Buf (Elt Ideal) ℓ) (g : Dev Cert.KernelResDownIdeal.nD → PrngReg)
    (m' : (ℓ : Loc Cert.ReferenceResDownIdeal.nD Cert.ReferenceResDownIdeal.τ Cert.ReferenceResDownIdeal.sig) → Buf (Elt Ideal) ℓ) (g' : Dev Cert.ReferenceResDownIdeal.nD → PrngReg), Pre_KernelResDownIdeal m →
    (∀ c : Dev Cert.KernelResDownIdeal.nD,
      m' ((c.tc : Thread Cert.ReferenceResDownIdeal.nD Cert.ReferenceResDownIdeal.τ).loc Cert.ReferenceResDownIdeal.main_arg0) = m ((c.tc : Thread Cert.KernelResDownIdeal.nD Cert.KernelResDownIdeal.τ).loc Cert.KernelResDownIdeal.main_arg0)
      ∧ m' ((c.tc : Thread Cert.ReferenceResDownIdeal.nD Cert.ReferenceResDownIdeal.τ).loc Cert.ReferenceResDownIdeal.main_arg1) = m ((c.tc : Thread Cert.KernelResDownIdeal.nD Cert.KernelResDownIdeal.τ).loc Cert.KernelResDownIdeal.main_arg1)
      ∧ m' ((c.tc : Thread Cert.ReferenceResDownIdeal.nD Cert.ReferenceResDownIdeal.τ).loc Cert.ReferenceResDownIdeal.main_arg2) = m ((c.tc : Thread Cert.KernelResDownIdeal.nD Cert.KernelResDownIdeal.τ).loc Cert.KernelResDownIdeal.main_arg2)
      ∧ m' ((c.tc : Thread Cert.ReferenceResDownIdeal.nD Cert.ReferenceResDownIdeal.τ).loc Cert.ReferenceResDownIdeal.main_arg3) = m ((c.tc : Thread Cert.KernelResDownIdeal.nD Cert.KernelResDownIdeal.τ).loc Cert.KernelResDownIdeal.main_arg3)) →
    ∃ (v0 : (c : Dev Cert.KernelResDownIdeal.nD) → Buf (Elt Ideal) ((c.tc : Thread Cert.KernelResDownIdeal.nD Cert.KernelResDownIdeal.τ).loc Cert.KernelResDownIdeal.main_v0)),
      θ_run (Cert.KernelResDownIdeal.defs (F := Ideal)) (onTc (τ := Cert.KernelResDownIdeal.τ) (Cert.KernelResDownIdeal.main (F := Ideal))) ⟨m, fun _ => 0, g⟩ (fun r => ∀ c : Dev Cert.KernelResDownIdeal.nD,
          r.2.mem ((c.tc : Thread Cert.KernelResDownIdeal.nD Cert.KernelResDownIdeal.τ).loc Cert.KernelResDownIdeal.main_v0) = v0 c
          ∧ r.2.mem ((c.tc : Thread Cert.KernelResDownIdeal.nD Cert.KernelResDownIdeal.τ).loc Cert.KernelResDownIdeal.main_arg0) = m ((c.tc : Thread Cert.KernelResDownIdeal.nD Cert.KernelResDownIdeal.τ).loc Cert.KernelResDownIdeal.main_arg0)
          ∧ r.2.mem ((c.tc : Thread Cert.KernelResDownIdeal.nD Cert.KernelResDownIdeal.τ).loc Cert.KernelResDownIdeal.main_arg1) = m ((c.tc : Thread Cert.KernelResDownIdeal.nD Cert.KernelResDownIdeal.τ).loc Cert.KernelResDownIdeal.main_arg1)
          ∧ r.2.mem ((c.tc : Thread Cert.KernelResDownIdeal.nD Cert.KernelResDownIdeal.τ).loc Cert.KernelResDownIdeal.main_arg2) = m ((c.tc : Thread Cert.KernelResDownIdeal.nD Cert.KernelResDownIdeal.τ).loc Cert.KernelResDownIdeal.main_arg2)
          ∧ r.2.mem ((c.tc : Thread Cert.KernelResDownIdeal.nD Cert.KernelResDownIdeal.τ).loc Cert.KernelResDownIdeal.main_arg3) = m ((c.tc : Thread Cert.KernelResDownIdeal.nD Cert.KernelResDownIdeal.τ).loc Cert.KernelResDownIdeal.main_arg3))
      ∧ θ_run (Cert.ReferenceResDownIdeal.defs (F := Ideal)) (onTc (τ := Cert.ReferenceResDownIdeal.τ) (Cert.ReferenceResDownIdeal.main (F := Ideal))) ⟨m', fun _ => 0, g'⟩ (fun r => ∀ c : Dev Cert.ReferenceResDownIdeal.nD,
          r.2.mem ((c.tc : Thread Cert.ReferenceResDownIdeal.nD Cert.ReferenceResDownIdeal.τ).loc Cert.ReferenceResDownIdeal.main_v4) = v0 c
          ∧ r.2.mem ((c.tc : Thread Cert.ReferenceResDownIdeal.nD Cert.ReferenceResDownIdeal.τ).loc Cert.ReferenceResDownIdeal.main_arg0) = m' ((c.tc : Thread Cert.ReferenceResDownIdeal.nD Cert.ReferenceResDownIdeal.τ).loc Cert.ReferenceResDownIdeal.main_arg0)
          ∧ r.2.mem ((c.tc : Thread Cert.ReferenceResDownIdeal.nD Cert.ReferenceResDownIdeal.τ).loc Cert.ReferenceResDownIdeal.main_arg1) = m' ((c.tc : Thread Cert.ReferenceResDownIdeal.nD Cert.ReferenceResDownIdeal.τ).loc Cert.ReferenceResDownIdeal.main_arg1)
          ∧ r.2.mem ((c.tc : Thread Cert.ReferenceResDownIdeal.nD Cert.ReferenceResDownIdeal.τ).loc Cert.ReferenceResDownIdeal.main_arg2) = m' ((c.tc : Thread Cert.ReferenceResDownIdeal.nD Cert.ReferenceResDownIdeal.τ).loc Cert.ReferenceResDownIdeal.main_arg2)
          ∧ r.2.mem ((c.tc : Thread Cert.ReferenceResDownIdeal.nD Cert.ReferenceResDownIdeal.τ).loc Cert.ReferenceResDownIdeal.main_arg3) = m' ((c.tc : Thread Cert.ReferenceResDownIdeal.nD Cert.ReferenceResDownIdeal.τ).loc Cert.ReferenceResDownIdeal.main_arg3))

def preserves_KernelResOut_KernelResOutIdeal : Prop :=
  True

def algebraic_KernelResOutIdeal_ReferenceResOutIdeal [hKernelResOutIdeal : Cert.KernelResOutIdeal.Facts] [hReferenceResOutIdeal : Cert.ReferenceResOutIdeal.Facts] : Prop :=
  ∀ (m : (ℓ : Loc Cert.KernelResOutIdeal.nD Cert.KernelResOutIdeal.τ Cert.KernelResOutIdeal.sig) → Buf (Elt Ideal) ℓ) (g : Dev Cert.KernelResOutIdeal.nD → PrngReg)
    (m' : (ℓ : Loc Cert.ReferenceResOutIdeal.nD Cert.ReferenceResOutIdeal.τ Cert.ReferenceResOutIdeal.sig) → Buf (Elt Ideal) ℓ) (g' : Dev Cert.ReferenceResOutIdeal.nD → PrngReg), Pre_KernelResOutIdeal m →
    (∀ c : Dev Cert.KernelResOutIdeal.nD,
      m' ((c.tc : Thread Cert.ReferenceResOutIdeal.nD Cert.ReferenceResOutIdeal.τ).loc Cert.ReferenceResOutIdeal.main_arg0) = m ((c.tc : Thread Cert.KernelResOutIdeal.nD Cert.KernelResOutIdeal.τ).loc Cert.KernelResOutIdeal.main_arg0)
      ∧ m' ((c.tc : Thread Cert.ReferenceResOutIdeal.nD Cert.ReferenceResOutIdeal.τ).loc Cert.ReferenceResOutIdeal.main_arg1) = m ((c.tc : Thread Cert.KernelResOutIdeal.nD Cert.KernelResOutIdeal.τ).loc Cert.KernelResOutIdeal.main_arg1)
      ∧ m' ((c.tc : Thread Cert.ReferenceResOutIdeal.nD Cert.ReferenceResOutIdeal.τ).loc Cert.ReferenceResOutIdeal.main_arg2) = m ((c.tc : Thread Cert.KernelResOutIdeal.nD Cert.KernelResOutIdeal.τ).loc Cert.KernelResOutIdeal.main_arg2)
      ∧ m' ((c.tc : Thread Cert.ReferenceResOutIdeal.nD Cert.ReferenceResOutIdeal.τ).loc Cert.ReferenceResOutIdeal.main_arg3) = m ((c.tc : Thread Cert.KernelResOutIdeal.nD Cert.KernelResOutIdeal.τ).loc Cert.KernelResOutIdeal.main_arg3)) →
    ∃ (v0 : (c : Dev Cert.KernelResOutIdeal.nD) → Buf (Elt Ideal) ((c.tc : Thread Cert.KernelResOutIdeal.nD Cert.KernelResOutIdeal.τ).loc Cert.KernelResOutIdeal.main_v0)),
      θ_run (Cert.KernelResOutIdeal.defs (F := Ideal)) (onTc (τ := Cert.KernelResOutIdeal.τ) (Cert.KernelResOutIdeal.main (F := Ideal))) ⟨m, fun _ => 0, g⟩ (fun r => ∀ c : Dev Cert.KernelResOutIdeal.nD,
          r.2.mem ((c.tc : Thread Cert.KernelResOutIdeal.nD Cert.KernelResOutIdeal.τ).loc Cert.KernelResOutIdeal.main_v0) = v0 c
          ∧ r.2.mem ((c.tc : Thread Cert.KernelResOutIdeal.nD Cert.KernelResOutIdeal.τ).loc Cert.KernelResOutIdeal.main_arg0) = m ((c.tc : Thread Cert.KernelResOutIdeal.nD Cert.KernelResOutIdeal.τ).loc Cert.KernelResOutIdeal.main_arg0)
          ∧ r.2.mem ((c.tc : Thread Cert.KernelResOutIdeal.nD Cert.KernelResOutIdeal.τ).loc Cert.KernelResOutIdeal.main_arg1) = m ((c.tc : Thread Cert.KernelResOutIdeal.nD Cert.KernelResOutIdeal.τ).loc Cert.KernelResOutIdeal.main_arg1)
          ∧ r.2.mem ((c.tc : Thread Cert.KernelResOutIdeal.nD Cert.KernelResOutIdeal.τ).loc Cert.KernelResOutIdeal.main_arg2) = m ((c.tc : Thread Cert.KernelResOutIdeal.nD Cert.KernelResOutIdeal.τ).loc Cert.KernelResOutIdeal.main_arg2)
          ∧ r.2.mem ((c.tc : Thread Cert.KernelResOutIdeal.nD Cert.KernelResOutIdeal.τ).loc Cert.KernelResOutIdeal.main_arg3) = m ((c.tc : Thread Cert.KernelResOutIdeal.nD Cert.KernelResOutIdeal.τ).loc Cert.KernelResOutIdeal.main_arg3))
      ∧ θ_run (Cert.ReferenceResOutIdeal.defs (F := Ideal)) (onTc (τ := Cert.ReferenceResOutIdeal.τ) (Cert.ReferenceResOutIdeal.main (F := Ideal))) ⟨m', fun _ => 0, g'⟩ (fun r => ∀ c : Dev Cert.ReferenceResOutIdeal.nD,
          r.2.mem ((c.tc : Thread Cert.ReferenceResOutIdeal.nD Cert.ReferenceResOutIdeal.τ).loc Cert.ReferenceResOutIdeal.main_v4) = v0 c
          ∧ r.2.mem ((c.tc : Thread Cert.ReferenceResOutIdeal.nD Cert.ReferenceResOutIdeal.τ).loc Cert.ReferenceResOutIdeal.main_arg0) = m' ((c.tc : Thread Cert.ReferenceResOutIdeal.nD Cert.ReferenceResOutIdeal.τ).loc Cert.ReferenceResOutIdeal.main_arg0)
          ∧ r.2.mem ((c.tc : Thread Cert.ReferenceResOutIdeal.nD Cert.ReferenceResOutIdeal.τ).loc Cert.ReferenceResOutIdeal.main_arg1) = m' ((c.tc : Thread Cert.ReferenceResOutIdeal.nD Cert.ReferenceResOutIdeal.τ).loc Cert.ReferenceResOutIdeal.main_arg1)
          ∧ r.2.mem ((c.tc : Thread Cert.ReferenceResOutIdeal.nD Cert.ReferenceResOutIdeal.τ).loc Cert.ReferenceResOutIdeal.main_arg2) = m' ((c.tc : Thread Cert.ReferenceResOutIdeal.nD Cert.ReferenceResOutIdeal.τ).loc Cert.ReferenceResOutIdeal.main_arg2)
          ∧ r.2.mem ((c.tc : Thread Cert.ReferenceResOutIdeal.nD Cert.ReferenceResOutIdeal.τ).loc Cert.ReferenceResOutIdeal.main_arg3) = m' ((c.tc : Thread Cert.ReferenceResOutIdeal.nD Cert.ReferenceResOutIdeal.τ).loc Cert.ReferenceResOutIdeal.main_arg3))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v0_0)) (v1 : (c : Dev Cert.KernelUpIdeal.nD) → Buf (Elt Ideal) ((c.tc : Thread Cert.KernelUpIdeal.nD Cert.KernelUpIdeal.τ).loc Cert.KernelUpIdeal.main_v0_1)) (v2 : (c : Dev Cert.KernelUpIdeal.nD) → Buf (Elt Ideal) ((c.tc : Thread Cert.KernelUpIdeal.nD Cert.KernelUpIdeal.τ).loc Cert.KernelUpIdeal.main_v0_2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0_0) = v0 c
          ∧ r.2.mem ((c.tc : Thread Cert.KernelUpIdeal.nD Cert.KernelUpIdeal.τ).loc Cert.KernelUpIdeal.main_v0_1) = v1 c
          ∧ r.2.mem ((c.tc : Thread Cert.KernelUpIdeal.nD Cert.KernelUpIdeal.τ).loc Cert.KernelUpIdeal.main_v0_2) = v2 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v21) = v0 c
          ∧ r.2.mem ((c.tc : Thread Cert.ReferenceUpIdeal.nD Cert.ReferenceUpIdeal.τ).loc Cert.ReferenceUpIdeal.main_v20) = v1 c
          ∧ r.2.mem ((c.tc : Thread Cert.ReferenceUpIdeal.nD Cert.ReferenceUpIdeal.τ).loc Cert.ReferenceUpIdeal.main_v24) = v2 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v0_0)) (v1 : (c : Dev Cert.KernelInIdeal.nD) → Buf (Elt Ideal) ((c.tc : Thread Cert.KernelInIdeal.nD Cert.KernelInIdeal.τ).loc Cert.KernelInIdeal.main_v0_1)) (v2 : (c : Dev Cert.KernelInIdeal.nD) → Buf (Elt Ideal) ((c.tc : Thread Cert.KernelInIdeal.nD Cert.KernelInIdeal.τ).loc Cert.KernelInIdeal.main_v0_2)) (v3 : (c : Dev Cert.KernelInIdeal.nD) → Buf (Elt Ideal) ((c.tc : Thread Cert.KernelInIdeal.nD Cert.KernelInIdeal.τ).loc Cert.KernelInIdeal.main_v0_3)) (v4 : (c : Dev Cert.KernelInIdeal.nD) → Buf (Elt Ideal) ((c.tc : Thread Cert.KernelInIdeal.nD Cert.KernelInIdeal.τ).loc Cert.KernelInIdeal.main_v0_4)) (v5 : (c : Dev Cert.KernelInIdeal.nD) → Buf (Elt Ideal) ((c.tc : Thread Cert.KernelInIdeal.nD Cert.KernelInIdeal.τ).loc Cert.KernelInIdeal.main_v0_5)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0_0) = v0 c
          ∧ r.2.mem ((c.tc : Thread Cert.KernelInIdeal.nD Cert.KernelInIdeal.τ).loc Cert.KernelInIdeal.main_v0_1) = v1 c
          ∧ r.2.mem ((c.tc : Thread Cert.KernelInIdeal.nD Cert.KernelInIdeal.τ).loc Cert.KernelInIdeal.main_v0_2) = v2 c
          ∧ r.2.mem ((c.tc : Thread Cert.KernelInIdeal.nD Cert.KernelInIdeal.τ).loc Cert.KernelInIdeal.main_v0_3) = v3 c
          ∧ r.2.mem ((c.tc : Thread Cert.KernelInIdeal.nD Cert.KernelInIdeal.τ).loc Cert.KernelInIdeal.main_v0_4) = v4 c
          ∧ r.2.mem ((c.tc : Thread Cert.KernelInIdeal.nD Cert.KernelInIdeal.τ).loc Cert.KernelInIdeal.main_v0_5) = v5 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v18) = v0 c
          ∧ r.2.mem ((c.tc : Thread Cert.ReferenceInIdeal.nD Cert.ReferenceInIdeal.τ).loc Cert.ReferenceInIdeal.main_v19) = v1 c
          ∧ r.2.mem ((c.tc : Thread Cert.ReferenceInIdeal.nD Cert.ReferenceInIdeal.τ).loc Cert.ReferenceInIdeal.main_v20) = v2 c
          ∧ r.2.mem ((c.tc : Thread Cert.ReferenceInIdeal.nD Cert.ReferenceInIdeal.τ).loc Cert.ReferenceInIdeal.main_v21) = v3 c
          ∧ r.2.mem ((c.tc : Thread Cert.ReferenceInIdeal.nD Cert.ReferenceInIdeal.τ).loc Cert.ReferenceInIdeal.main_v22) = v4 c
          ∧ r.2.mem ((c.tc : Thread Cert.ReferenceInIdeal.nD Cert.ReferenceInIdeal.τ).loc Cert.ReferenceInIdeal.main_v23) = v5 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelUpBwd_KernelUpBwdIdeal : Prop :=
  True

def algebraic_KernelUpBwdIdeal_ReferenceUpBwdIdeal [hKernelUpBwdIdeal : Cert.KernelUpBwdIdeal.Facts] [hReferenceUpBwdIdeal : Cert.ReferenceUpBwdIdeal.Facts] : Prop :=
  ∀ (m : (ℓ : Loc Cert.KernelUpBwdIdeal.nD Cert.KernelUpBwdIdeal.τ Cert.KernelUpBwdIdeal.sig) → Buf (Elt Ideal) ℓ) (g : Dev Cert.KernelUpBwdIdeal.nD → PrngReg)
    (m' : (ℓ : Loc Cert.ReferenceUpBwdIdeal.nD Cert.ReferenceUpBwdIdeal.τ Cert.ReferenceUpBwdIdeal.sig) → Buf (Elt Ideal) ℓ) (g' : Dev Cert.ReferenceUpBwdIdeal.nD → PrngReg), Pre_KernelUpBwdIdeal m →
    (∀ c : Dev Cert.KernelUpBwdIdeal.nD,
      m' ((c.tc : Thread Cert.ReferenceUpBwdIdeal.nD Cert.ReferenceUpBwdIdeal.τ).loc Cert.ReferenceUpBwdIdeal.main_arg0) = m ((c.tc : Thread Cert.KernelUpBwdIdeal.nD Cert.KernelUpBwdIdeal.τ).loc Cert.KernelUpBwdIdeal.main_arg0)
      ∧ m' ((c.tc : Thread Cert.ReferenceUpBwdIdeal.nD Cert.ReferenceUpBwdIdeal.τ).loc Cert.ReferenceUpBwdIdeal.main_arg1) = m ((c.tc : Thread Cert.KernelUpBwdIdeal.nD Cert.KernelUpBwdIdeal.τ).loc Cert.KernelUpBwdIdeal.main_arg1)
      ∧ m' ((c.tc : Thread Cert.ReferenceUpBwdIdeal.nD Cert.ReferenceUpBwdIdeal.τ).loc Cert.ReferenceUpBwdIdeal.main_arg2) = m ((c.tc : Thread Cert.KernelUpBwdIdeal.nD Cert.KernelUpBwdIdeal.τ).loc Cert.KernelUpBwdIdeal.main_arg2)
      ∧ m' ((c.tc : Thread Cert.ReferenceUpBwdIdeal.nD Cert.ReferenceUpBwdIdeal.τ).loc Cert.ReferenceUpBwdIdeal.main_arg3) = m ((c.tc : Thread Cert.KernelUpBwdIdeal.nD Cert.KernelUpBwdIdeal.τ).loc Cert.KernelUpBwdIdeal.main_arg3)
      ∧ m' ((c.tc : Thread Cert.ReferenceUpBwdIdeal.nD Cert.ReferenceUpBwdIdeal.τ).loc Cert.ReferenceUpBwdIdeal.main_arg4) = m ((c.tc : Thread Cert.KernelUpBwdIdeal.nD Cert.KernelUpBwdIdeal.τ).loc Cert.KernelUpBwdIdeal.main_arg4)) →
    ∃ (v0 : (c : Dev Cert.KernelUpBwdIdeal.nD) → Buf (Elt Ideal) ((c.tc : Thread Cert.KernelUpBwdIdeal.nD Cert.KernelUpBwdIdeal.τ).loc Cert.KernelUpBwdIdeal.main_v0_0)) (v1 : (c : Dev Cert.KernelUpBwdIdeal.nD) → Buf (Elt Ideal) ((c.tc : Thread Cert.KernelUpBwdIdeal.nD Cert.KernelUpBwdIdeal.τ).loc Cert.KernelUpBwdIdeal.main_v0_1)),
      θ_run (Cert.KernelUpBwdIdeal.defs (F := Ideal)) (onTc (τ := Cert.KernelUpBwdIdeal.τ) (Cert.KernelUpBwdIdeal.main (F := Ideal))) ⟨m, fun _ => 0, g⟩ (fun r => ∀ c : Dev Cert.KernelUpBwdIdeal.nD,
          r.2.mem ((c.tc : Thread Cert.KernelUpBwdIdeal.nD Cert.KernelUpBwdIdeal.τ).loc Cert.KernelUpBwdIdeal.main_v0_0) = v0 c
          ∧ r.2.mem ((c.tc : Thread Cert.KernelUpBwdIdeal.nD Cert.KernelUpBwdIdeal.τ).loc Cert.KernelUpBwdIdeal.main_v0_1) = v1 c
          ∧ r.2.mem ((c.tc : Thread Cert.KernelUpBwdIdeal.nD Cert.KernelUpBwdIdeal.τ).loc Cert.KernelUpBwdIdeal.main_arg0) = m ((c.tc : Thread Cert.KernelUpBwdIdeal.nD Cert.KernelUpBwdIdeal.τ).loc Cert.KernelUpBwdIdeal.main_arg0)
          ∧ r.2.mem ((c.tc : Thread Cert.KernelUpBwdIdeal.nD Cert.KernelUpBwdIdeal.τ).loc Cert.KernelUpBwdIdeal.main_arg1) = m ((c.tc : Thread Cert.KernelUpBwdIdeal.nD Cert.KernelUpBwdIdeal.τ).loc Cert.KernelUpBwdIdeal.main_arg1)
          ∧ r.2.mem ((c.tc : Thread Cert.KernelUpBwdIdeal.nD Cert.KernelUpBwdIdeal.τ).loc Cert.KernelUpBwdIdeal.main_arg2) = m ((c.tc : Thread Cert.KernelUpBwdIdeal.nD Cert.KernelUpBwdIdeal.τ).loc Cert.KernelUpBwdIdeal.main_arg2)
          ∧ r.2.mem ((c.tc : Thread Cert.KernelUpBwdIdeal.nD Cert.KernelUpBwdIdeal.τ).loc Cert.KernelUpBwdIdeal.main_arg3) = m ((c.tc : Thread Cert.KernelUpBwdIdeal.nD Cert.KernelUpBwdIdeal.τ).loc Cert.KernelUpBwdIdeal.main_arg3)
          ∧ r.2.mem ((c.tc : Thread Cert.KernelUpBwdIdeal.nD Cert.KernelUpBwdIdeal.τ).loc Cert.KernelUpBwdIdeal.main_arg4) = m ((c.tc : Thread Cert.KernelUpBwdIdeal.nD Cert.KernelUpBwdIdeal.τ).loc Cert.KernelUpBwdIdeal.main_arg4))
      ∧ θ_run (Cert.ReferenceUpBwdIdeal.defs (F := Ideal)) (onTc (τ := Cert.ReferenceUpBwdIdeal.τ) (Cert.ReferenceUpBwdIdeal.main (F := Ideal))) ⟨m', fun _ => 0, g'⟩ (fun r => ∀ c : Dev Cert.ReferenceUpBwdIdeal.nD,
          r.2.mem ((c.tc : Thread Cert.ReferenceUpBwdIdeal.nD Cert.ReferenceUpBwdIdeal.τ).loc Cert.ReferenceUpBwdIdeal.main_v46) = v0 c
          ∧ r.2.mem ((c.tc : Thread Cert.ReferenceUpBwdIdeal.nD Cert.ReferenceUpBwdIdeal.τ).loc Cert.ReferenceUpBwdIdeal.main_v47) = v1 c
          ∧ r.2.mem ((c.tc : Thread Cert.ReferenceUpBwdIdeal.nD Cert.ReferenceUpBwdIdeal.τ).loc Cert.ReferenceUpBwdIdeal.main_arg0) = m' ((c.tc : Thread Cert.ReferenceUpBwdIdeal.nD Cert.ReferenceUpBwdIdeal.τ).loc Cert.ReferenceUpBwdIdeal.main_arg0)
          ∧ r.2.mem ((c.tc : Thread Cert.ReferenceUpBwdIdeal.nD Cert.ReferenceUpBwdIdeal.τ).loc Cert.ReferenceUpBwdIdeal.main_arg1) = m' ((c.tc : Thread Cert.ReferenceUpBwdIdeal.nD Cert.ReferenceUpBwdIdeal.τ).loc Cert.ReferenceUpBwdIdeal.main_arg1)
          ∧ r.2.mem ((c.tc : Thread Cert.ReferenceUpBwdIdeal.nD Cert.ReferenceUpBwdIdeal.τ).loc Cert.ReferenceUpBwdIdeal.main_arg2) = m' ((c.tc : Thread Cert.ReferenceUpBwdIdeal.nD Cert.ReferenceUpBwdIdeal.τ).loc Cert.ReferenceUpBwdIdeal.main_arg2)
          ∧ r.2.mem ((c.tc : Thread Cert.ReferenceUpBwdIdeal.nD Cert.ReferenceUpBwdIdeal.τ).loc Cert.ReferenceUpBwdIdeal.main_arg3) = m' ((c.tc : Thread Cert.ReferenceUpBwdIdeal.nD Cert.ReferenceUpBwdIdeal.τ).loc Cert.ReferenceUpBwdIdeal.main_arg3)
          ∧ r.2.mem ((c.tc : Thread Cert.ReferenceUpBwdIdeal.nD Cert.ReferenceUpBwdIdeal.τ).loc Cert.ReferenceUpBwdIdeal.main_arg4) = m' ((c.tc : Thread Cert.ReferenceUpBwdIdeal.nD Cert.ReferenceUpBwdIdeal.τ).loc Cert.ReferenceUpBwdIdeal.main_arg4))

def preserves_KernelInBwd_KernelInBwdIdeal : Prop :=
  True

def algebraic_KernelInBwdIdeal_ReferenceInBwdIdeal [hKernelInBwdIdeal : Cert.KernelInBwdIdeal.Facts] [hReferenceInBwdIdeal : Cert.ReferenceInBwdIdeal.Facts] : Prop :=
  ∀ (m : (ℓ : Loc Cert.KernelInBwdIdeal.nD Cert.KernelInBwdIdeal.τ Cert.KernelInBwdIdeal.sig) → Buf (Elt Ideal) ℓ) (g : Dev Cert.KernelInBwdIdeal.nD → PrngReg)
    (m' : (ℓ : Loc Cert.ReferenceInBwdIdeal.nD Cert.ReferenceInBwdIdeal.τ Cert.ReferenceInBwdIdeal.sig) → Buf (Elt Ideal) ℓ) (g' : Dev Cert.ReferenceInBwdIdeal.nD → PrngReg), Pre_KernelInBwdIdeal m →
    (∀ c : Dev Cert.KernelInBwdIdeal.nD,
      m' ((c.tc : Thread Cert.ReferenceInBwdIdeal.nD Cert.ReferenceInBwdIdeal.τ).loc Cert.ReferenceInBwdIdeal.main_arg0) = m ((c.tc : Thread Cert.KernelInBwdIdeal.nD Cert.KernelInBwdIdeal.τ).loc Cert.KernelInBwdIdeal.main_arg0)
      ∧ m' ((c.tc : Thread Cert.ReferenceInBwdIdeal.nD Cert.ReferenceInBwdIdeal.τ).loc Cert.ReferenceInBwdIdeal.main_arg1) = m ((c.tc : Thread Cert.KernelInBwdIdeal.nD Cert.KernelInBwdIdeal.τ).loc Cert.KernelInBwdIdeal.main_arg1)
      ∧ m' ((c.tc : Thread Cert.ReferenceInBwdIdeal.nD Cert.ReferenceInBwdIdeal.τ).loc Cert.ReferenceInBwdIdeal.main_arg2) = m ((c.tc : Thread Cert.KernelInBwdIdeal.nD Cert.KernelInBwdIdeal.τ).loc Cert.KernelInBwdIdeal.main_arg2)
      ∧ m' ((c.tc : Thread Cert.ReferenceInBwdIdeal.nD Cert.ReferenceInBwdIdeal.τ).loc Cert.ReferenceInBwdIdeal.main_arg3) = m ((c.tc : Thread Cert.KernelInBwdIdeal.nD Cert.KernelInBwdIdeal.τ).loc Cert.KernelInBwdIdeal.main_arg3)
      ∧ m' ((c.tc : Thread Cert.ReferenceInBwdIdeal.nD Cert.ReferenceInBwdIdeal.τ).loc Cert.ReferenceInBwdIdeal.main_arg4) = m ((c.tc : Thread Cert.KernelInBwdIdeal.nD Cert.KernelInBwdIdeal.τ).loc Cert.KernelInBwdIdeal.main_arg4)
      ∧ m' ((c.tc : Thread Cert.ReferenceInBwdIdeal.nD Cert.ReferenceInBwdIdeal.τ).loc Cert.ReferenceInBwdIdeal.main_arg5) = m ((c.tc : Thread Cert.KernelInBwdIdeal.nD Cert.KernelInBwdIdeal.τ).loc Cert.KernelInBwdIdeal.main_arg5)
      ∧ m' ((c.tc : Thread Cert.ReferenceInBwdIdeal.nD Cert.ReferenceInBwdIdeal.τ).loc Cert.ReferenceInBwdIdeal.main_arg6) = m ((c.tc : Thread Cert.KernelInBwdIdeal.nD Cert.KernelInBwdIdeal.τ).loc Cert.KernelInBwdIdeal.main_arg6)
      ∧ m' ((c.tc : Thread Cert.ReferenceInBwdIdeal.nD Cert.ReferenceInBwdIdeal.τ).loc Cert.ReferenceInBwdIdeal.main_arg7) = m ((c.tc : Thread Cert.KernelInBwdIdeal.nD Cert.KernelInBwdIdeal.τ).loc Cert.KernelInBwdIdeal.main_arg7)
      ∧ m' ((c.tc : Thread Cert.ReferenceInBwdIdeal.nD Cert.ReferenceInBwdIdeal.τ).loc Cert.ReferenceInBwdIdeal.main_arg8) = m ((c.tc : Thread Cert.KernelInBwdIdeal.nD Cert.KernelInBwdIdeal.τ).loc Cert.KernelInBwdIdeal.main_arg8)
      ∧ m' ((c.tc : Thread Cert.ReferenceInBwdIdeal.nD Cert.ReferenceInBwdIdeal.τ).loc Cert.ReferenceInBwdIdeal.main_arg9) = m ((c.tc : Thread Cert.KernelInBwdIdeal.nD Cert.KernelInBwdIdeal.τ).loc Cert.KernelInBwdIdeal.main_arg9)
      ∧ m' ((c.tc : Thread Cert.ReferenceInBwdIdeal.nD Cert.ReferenceInBwdIdeal.τ).loc Cert.ReferenceInBwdIdeal.main_arg10) = m ((c.tc : Thread Cert.KernelInBwdIdeal.nD Cert.KernelInBwdIdeal.τ).loc Cert.KernelInBwdIdeal.main_arg10)) →
    ∃ (v0 : (c : Dev Cert.KernelInBwdIdeal.nD) → Buf (Elt Ideal) ((c.tc : Thread Cert.KernelInBwdIdeal.nD Cert.KernelInBwdIdeal.τ).loc Cert.KernelInBwdIdeal.main_v0_0)) (v1 : (c : Dev Cert.KernelInBwdIdeal.nD) → Buf (Elt Ideal) ((c.tc : Thread Cert.KernelInBwdIdeal.nD Cert.KernelInBwdIdeal.τ).loc Cert.KernelInBwdIdeal.main_v0_1)) (v2 : (c : Dev Cert.KernelInBwdIdeal.nD) → Buf (Elt Ideal) ((c.tc : Thread Cert.KernelInBwdIdeal.nD Cert.KernelInBwdIdeal.τ).loc Cert.KernelInBwdIdeal.main_v0_2)),
      θ_run (Cert.KernelInBwdIdeal.defs (F := Ideal)) (onTc (τ := Cert.KernelInBwdIdeal.τ) (Cert.KernelInBwdIdeal.main (F := Ideal))) ⟨m, fun _ => 0, g⟩ (fun r => ∀ c : Dev Cert.KernelInBwdIdeal.nD,
          r.2.mem ((c.tc : Thread Cert.KernelInBwdIdeal.nD Cert.KernelInBwdIdeal.τ).loc Cert.KernelInBwdIdeal.main_v0_0) = v0 c
          ∧ r.2.mem ((c.tc : Thread Cert.KernelInBwdIdeal.nD Cert.KernelInBwdIdeal.τ).loc Cert.KernelInBwdIdeal.main_v0_1) = v1 c
          ∧ r.2.mem ((c.tc : Thread Cert.KernelInBwdIdeal.nD Cert.KernelInBwdIdeal.τ).loc Cert.KernelInBwdIdeal.main_v0_2) = v2 c
          ∧ r.2.mem ((c.tc : Thread Cert.KernelInBwdIdeal.nD Cert.KernelInBwdIdeal.τ).loc Cert.KernelInBwdIdeal.main_arg0) = m ((c.tc : Thread Cert.KernelInBwdIdeal.nD Cert.KernelInBwdIdeal.τ).loc Cert.KernelInBwdIdeal.main_arg0)
          ∧ r.2.mem ((c.tc : Thread Cert.KernelInBwdIdeal.nD Cert.KernelInBwdIdeal.τ).loc Cert.KernelInBwdIdeal.main_arg1) = m ((c.tc : Thread Cert.KernelInBwdIdeal.nD Cert.KernelInBwdIdeal.τ).loc Cert.KernelInBwdIdeal.main_arg1)
          ∧ r.2.mem ((c.tc : Thread Cert.KernelInBwdIdeal.nD Cert.KernelInBwdIdeal.τ).loc Cert.KernelInBwdIdeal.main_arg2) = m ((c.tc : Thread Cert.KernelInBwdIdeal.nD Cert.KernelInBwdIdeal.τ).loc Cert.KernelInBwdIdeal.main_arg2)
          ∧ r.2.mem ((c.tc : Thread Cert.KernelInBwdIdeal.nD Cert.KernelInBwdIdeal.τ).loc Cert.KernelInBwdIdeal.main_arg3) = m ((c.tc : Thread Cert.KernelInBwdIdeal.nD Cert.KernelInBwdIdeal.τ).loc Cert.KernelInBwdIdeal.main_arg3)
          ∧ r.2.mem ((c.tc : Thread Cert.KernelInBwdIdeal.nD Cert.KernelInBwdIdeal.τ).loc Cert.KernelInBwdIdeal.main_arg4) = m ((c.tc : Thread Cert.KernelInBwdIdeal.nD Cert.KernelInBwdIdeal.τ).loc Cert.KernelInBwdIdeal.main_arg4)
          ∧ r.2.mem ((c.tc : Thread Cert.KernelInBwdIdeal.nD Cert.KernelInBwdIdeal.τ).loc Cert.KernelInBwdIdeal.main_arg5) = m ((c.tc : Thread Cert.KernelInBwdIdeal.nD Cert.KernelInBwdIdeal.τ).loc Cert.KernelInBwdIdeal.main_arg5)
          ∧ r.2.mem ((c.tc : Thread Cert.KernelInBwdIdeal.nD Cert.KernelInBwdIdeal.τ).loc Cert.KernelInBwdIdeal.main_arg6) = m ((c.tc : Thread Cert.KernelInBwdIdeal.nD Cert.KernelInBwdIdeal.τ).loc Cert.KernelInBwdIdeal.main_arg6)
          ∧ r.2.mem ((c.tc : Thread Cert.KernelInBwdIdeal.nD Cert.KernelInBwdIdeal.τ).loc Cert.KernelInBwdIdeal.main_arg7) = m ((c.tc : Thread Cert.KernelInBwdIdeal.nD Cert.KernelInBwdIdeal.τ).loc Cert.KernelInBwdIdeal.main_arg7)
          ∧ r.2.mem ((c.tc : Thread Cert.KernelInBwdIdeal.nD Cert.KernelInBwdIdeal.τ).loc Cert.KernelInBwdIdeal.main_arg8) = m ((c.tc : Thread Cert.KernelInBwdIdeal.nD Cert.KernelInBwdIdeal.τ).loc Cert.KernelInBwdIdeal.main_arg8)
          ∧ r.2.mem ((c.tc : Thread Cert.KernelInBwdIdeal.nD Cert.KernelInBwdIdeal.τ).loc Cert.KernelInBwdIdeal.main_arg9) = m ((c.tc : Thread Cert.KernelInBwdIdeal.nD Cert.KernelInBwdIdeal.τ).loc Cert.KernelInBwdIdeal.main_arg9)
          ∧ r.2.mem ((c.tc : Thread Cert.KernelInBwdIdeal.nD Cert.KernelInBwdIdeal.τ).loc Cert.KernelInBwdIdeal.main_arg10) = m ((c.tc : Thread Cert.KernelInBwdIdeal.nD Cert.KernelInBwdIdeal.τ).loc Cert.KernelInBwdIdeal.main_arg10))
      ∧ θ_run (Cert.ReferenceInBwdIdeal.defs (F := Ideal)) (onTc (τ := Cert.ReferenceInBwdIdeal.τ) (Cert.ReferenceInBwdIdeal.main (F := Ideal))) ⟨m', fun _ => 0, g'⟩ (fun r => ∀ c : Dev Cert.ReferenceInBwdIdeal.nD,
          r.2.mem ((c.tc : Thread Cert.ReferenceInBwdIdeal.nD Cert.ReferenceInBwdIdeal.τ).loc Cert.ReferenceInBwdIdeal.main_v49) = v0 c
          ∧ r.2.mem ((c.tc : Thread Cert.ReferenceInBwdIdeal.nD Cert.ReferenceInBwdIdeal.τ).loc Cert.ReferenceInBwdIdeal.main_v50) = v1 c
          ∧ r.2.mem ((c.tc : Thread Cert.ReferenceInBwdIdeal.nD Cert.ReferenceInBwdIdeal.τ).loc Cert.ReferenceInBwdIdeal.main_v51) = v2 c
          ∧ r.2.mem ((c.tc : Thread Cert.ReferenceInBwdIdeal.nD Cert.ReferenceInBwdIdeal.τ).loc Cert.ReferenceInBwdIdeal.main_arg0) = m' ((c.tc : Thread Cert.ReferenceInBwdIdeal.nD Cert.ReferenceInBwdIdeal.τ).loc Cert.ReferenceInBwdIdeal.main_arg0)
          ∧ r.2.mem ((c.tc : Thread Cert.ReferenceInBwdIdeal.nD Cert.ReferenceInBwdIdeal.τ).loc Cert.ReferenceInBwdIdeal.main_arg1) = m' ((c.tc : Thread Cert.ReferenceInBwdIdeal.nD Cert.ReferenceInBwdIdeal.τ).loc Cert.ReferenceInBwdIdeal.main_arg1)
          ∧ r.2.mem ((c.tc : Thread Cert.ReferenceInBwdIdeal.nD Cert.ReferenceInBwdIdeal.τ).loc Cert.ReferenceInBwdIdeal.main_arg2) = m' ((c.tc : Thread Cert.ReferenceInBwdIdeal.nD Cert.ReferenceInBwdIdeal.τ).loc Cert.ReferenceInBwdIdeal.main_arg2)
          ∧ r.2.mem ((c.tc : Thread Cert.ReferenceInBwdIdeal.nD Cert.ReferenceInBwdIdeal.τ).loc Cert.ReferenceInBwdIdeal.main_arg3) = m' ((c.tc : Thread Cert.ReferenceInBwdIdeal.nD Cert.ReferenceInBwdIdeal.τ).loc Cert.ReferenceInBwdIdeal.main_arg3)
          ∧ r.2.mem ((c.tc : Thread Cert.ReferenceInBwdIdeal.nD Cert.ReferenceInBwdIdeal.τ).loc Cert.ReferenceInBwdIdeal.main_arg4) = m' ((c.tc : Thread Cert.ReferenceInBwdIdeal.nD Cert.ReferenceInBwdIdeal.τ).loc Cert.ReferenceInBwdIdeal.main_arg4)
          ∧ r.2.mem ((c.tc : Thread Cert.ReferenceInBwdIdeal.nD Cert.ReferenceInBwdIdeal.τ).loc Cert.ReferenceInBwdIdeal.main_arg5) = m' ((c.tc : Thread Cert.ReferenceInBwdIdeal.nD Cert.ReferenceInBwdIdeal.τ).loc Cert.ReferenceInBwdIdeal.main_arg5)
          ∧ r.2.mem ((c.tc : Thread Cert.ReferenceInBwdIdeal.nD Cert.ReferenceInBwdIdeal.τ).loc Cert.ReferenceInBwdIdeal.main_arg6) = m' ((c.tc : Thread Cert.ReferenceInBwdIdeal.nD Cert.ReferenceInBwdIdeal.τ).loc Cert.ReferenceInBwdIdeal.main_arg6)
          ∧ r.2.mem ((c.tc : Thread Cert.ReferenceInBwdIdeal.nD Cert.ReferenceInBwdIdeal.τ).loc Cert.ReferenceInBwdIdeal.main_arg7) = m' ((c.tc : Thread Cert.ReferenceInBwdIdeal.nD Cert.ReferenceInBwdIdeal.τ).loc Cert.ReferenceInBwdIdeal.main_arg7)
          ∧ r.2.mem ((c.tc : Thread Cert.ReferenceInBwdIdeal.nD Cert.ReferenceInBwdIdeal.τ).loc Cert.ReferenceInBwdIdeal.main_arg8) = m' ((c.tc : Thread Cert.ReferenceInBwdIdeal.nD Cert.ReferenceInBwdIdeal.τ).loc Cert.ReferenceInBwdIdeal.main_arg8)
          ∧ r.2.mem ((c.tc : Thread Cert.ReferenceInBwdIdeal.nD Cert.ReferenceInBwdIdeal.τ).loc Cert.ReferenceInBwdIdeal.main_arg9) = m' ((c.tc : Thread Cert.ReferenceInBwdIdeal.nD Cert.ReferenceInBwdIdeal.τ).loc Cert.ReferenceInBwdIdeal.main_arg9)
          ∧ r.2.mem ((c.tc : Thread Cert.ReferenceInBwdIdeal.nD Cert.ReferenceInBwdIdeal.τ).loc Cert.ReferenceInBwdIdeal.main_arg10) = m' ((c.tc : Thread Cert.ReferenceInBwdIdeal.nD Cert.ReferenceInBwdIdeal.τ).loc Cert.ReferenceInBwdIdeal.main_arg10))

def Claim : Prop :=
  ∃ (hKernel : Cert.Kernel.Facts) (hKernelIdeal : Cert.KernelIdeal.Facts) (hReferenceIdeal : Cert.ReferenceIdeal.Facts) (hKernelDown : Cert.KernelDown.Facts) (hKernelDownIdeal : Cert.KernelDownIdeal.Facts) (hReferenceDownIdeal : Cert.ReferenceDownIdeal.Facts) (hKernelOut : Cert.KernelOut.Facts) (hKernelOutIdeal : Cert.KernelOutIdeal.Facts) (hReferenceOutIdeal : Cert.ReferenceOutIdeal.Facts) (hKernelDwDown : Cert.KernelDwDown.Facts) (hKernelDwDownIdeal : Cert.KernelDwDownIdeal.Facts) (hReferenceDwDownIdeal : Cert.ReferenceDwDownIdeal.Facts) (hKernelDwUp : Cert.KernelDwUp.Facts) (hKernelDwUpIdeal : Cert.KernelDwUpIdeal.Facts) (hReferenceDwUpIdeal : Cert.ReferenceDwUpIdeal.Facts) (hKernelDwOut : Cert.KernelDwOut.Facts) (hKernelDwOutIdeal : Cert.KernelDwOutIdeal.Facts) (hReferenceDwOutIdeal : Cert.ReferenceDwOutIdeal.Facts) (hKernelDwIn : Cert.KernelDwIn.Facts) (hKernelDwInIdeal : Cert.KernelDwInIdeal.Facts) (hReferenceDwInIdeal : Cert.ReferenceDwInIdeal.Facts) (hKernelResDown : Cert.KernelResDown.Facts) (hKernelResDownIdeal : Cert.KernelResDownIdeal.Facts) (hReferenceResDownIdeal : Cert.ReferenceResDownIdeal.Facts) (hKernelResOut : Cert.KernelResOut.Facts) (hKernelResOutIdeal : Cert.KernelResOutIdeal.Facts) (hReferenceResOutIdeal : Cert.ReferenceResOutIdeal.Facts) (hKernelUp : Cert.KernelUp.Facts) (hKernelUpIdeal : Cert.KernelUpIdeal.Facts) (hReferenceUpIdeal : Cert.ReferenceUpIdeal.Facts) (hKernelIn : Cert.KernelIn.Facts) (hKernelInIdeal : Cert.KernelInIdeal.Facts) (hReferenceInIdeal : Cert.ReferenceInIdeal.Facts) (hKernelUpBwd : Cert.KernelUpBwd.Facts) (hKernelUpBwdIdeal : Cert.KernelUpBwdIdeal.Facts) (hReferenceUpBwdIdeal : Cert.ReferenceUpBwdIdeal.Facts) (hKernelInBwd : Cert.KernelInBwd.Facts) (hKernelInBwdIdeal : Cert.KernelInBwdIdeal.Facts) (hReferenceInBwdIdeal : Cert.ReferenceInBwdIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelDwDown (hKernelDwDown := hKernelDwDown)
    ∧ quiescent_KernelDwDownIdeal (hKernelDwDownIdeal := hKernelDwDownIdeal)
    ∧ quiescent_ReferenceDwDownIdeal (hReferenceDwDownIdeal := hReferenceDwDownIdeal)
    ∧ quiescent_KernelDwUp (hKernelDwUp := hKernelDwUp)
    ∧ quiescent_KernelDwUpIdeal (hKernelDwUpIdeal := hKernelDwUpIdeal)
    ∧ quiescent_ReferenceDwUpIdeal (hReferenceDwUpIdeal := hReferenceDwUpIdeal)
    ∧ quiescent_KernelDwOut (hKernelDwOut := hKernelDwOut)
    ∧ quiescent_KernelDwOutIdeal (hKernelDwOutIdeal := hKernelDwOutIdeal)
    ∧ quiescent_ReferenceDwOutIdeal (hReferenceDwOutIdeal := hReferenceDwOutIdeal)
    ∧ quiescent_KernelDwIn (hKernelDwIn := hKernelDwIn)
    ∧ quiescent_KernelDwInIdeal (hKernelDwInIdeal := hKernelDwInIdeal)
    ∧ quiescent_ReferenceDwInIdeal (hReferenceDwInIdeal := hReferenceDwInIdeal)
    ∧ quiescent_KernelResDown (hKernelResDown := hKernelResDown)
    ∧ quiescent_KernelResDownIdeal (hKernelResDownIdeal := hKernelResDownIdeal)
    ∧ quiescent_ReferenceResDownIdeal (hReferenceResDownIdeal := hReferenceResDownIdeal)
    ∧ quiescent_KernelResOut (hKernelResOut := hKernelResOut)
    ∧ quiescent_KernelResOutIdeal (hKernelResOutIdeal := hKernelResOutIdeal)
    ∧ quiescent_ReferenceResOutIdeal (hReferenceResOutIdeal := hReferenceResOutIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelUpBwd (hKernelUpBwd := hKernelUpBwd)
    ∧ quiescent_KernelUpBwdIdeal (hKernelUpBwdIdeal := hKernelUpBwdIdeal)
    ∧ quiescent_ReferenceUpBwdIdeal (hReferenceUpBwdIdeal := hReferenceUpBwdIdeal)
    ∧ quiescent_KernelInBwd (hKernelInBwd := hKernelInBwd)
    ∧ quiescent_KernelInBwdIdeal (hKernelInBwdIdeal := hKernelInBwdIdeal)
    ∧ quiescent_ReferenceInBwdIdeal (hReferenceInBwdIdeal := hReferenceInBwdIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDown_KernelDownIdeal
    ∧ algebraic_KernelDownIdeal_ReferenceDownIdeal (hKernelDownIdeal := hKernelDownIdeal) (hReferenceDownIdeal := hReferenceDownIdeal)
    ∧ preserves_KernelOut_KernelOutIdeal
    ∧ algebraic_KernelOutIdeal_ReferenceOutIdeal (hKernelOutIdeal := hKernelOutIdeal) (hReferenceOutIdeal := hReferenceOutIdeal)
    ∧ preserves_KernelDwDown_KernelDwDownIdeal
    ∧ algebraic_KernelDwDownIdeal_ReferenceDwDownIdeal (hKernelDwDownIdeal := hKernelDwDownIdeal) (hReferenceDwDownIdeal := hReferenceDwDownIdeal)
    ∧ preserves_KernelDwUp_KernelDwUpIdeal
    ∧ algebraic_KernelDwUpIdeal_ReferenceDwUpIdeal (hKernelDwUpIdeal := hKernelDwUpIdeal) (hReferenceDwUpIdeal := hReferenceDwUpIdeal)
    ∧ preserves_KernelDwOut_KernelDwOutIdeal
    ∧ algebraic_KernelDwOutIdeal_ReferenceDwOutIdeal (hKernelDwOutIdeal := hKernelDwOutIdeal) (hReferenceDwOutIdeal := hReferenceDwOutIdeal)
    ∧ preserves_KernelDwIn_KernelDwInIdeal
    ∧ algebraic_KernelDwInIdeal_ReferenceDwInIdeal (hKernelDwInIdeal := hKernelDwInIdeal) (hReferenceDwInIdeal := hReferenceDwInIdeal)
    ∧ preserves_KernelResDown_KernelResDownIdeal
    ∧ algebraic_KernelResDownIdeal_ReferenceResDownIdeal (hKernelResDownIdeal := hKernelResDownIdeal) (hReferenceResDownIdeal := hReferenceResDownIdeal)
    ∧ preserves_KernelResOut_KernelResOutIdeal
    ∧ algebraic_KernelResOutIdeal_ReferenceResOutIdeal (hKernelResOutIdeal := hKernelResOutIdeal) (hReferenceResOutIdeal := hReferenceResOutIdeal)
    ∧ preserves_KernelUp_KernelUpIdeal
    ∧ algebraic_KernelUpIdeal_ReferenceUpIdeal (hKernelUpIdeal := hKernelUpIdeal) (hReferenceUpIdeal := hReferenceUpIdeal)
    ∧ preserves_KernelIn_KernelInIdeal
    ∧ algebraic_KernelInIdeal_ReferenceInIdeal (hKernelInIdeal := hKernelInIdeal) (hReferenceInIdeal := hReferenceInIdeal)
    ∧ preserves_KernelUpBwd_KernelUpBwdIdeal
    ∧ algebraic_KernelUpBwdIdeal_ReferenceUpBwdIdeal (hKernelUpBwdIdeal := hKernelUpBwdIdeal) (hReferenceUpBwdIdeal := hReferenceUpBwdIdeal)
    ∧ preserves_KernelInBwd_KernelInBwdIdeal
    ∧ algebraic_KernelInBwdIdeal_ReferenceInBwdIdeal (hKernelInBwdIdeal := hKernelInBwdIdeal) (hReferenceInBwdIdeal := hReferenceInBwdIdeal)
-- ==== Pre_finite.lean ====
abbrev S2048x640 : Shape := ⟨2, ![2048, 640]⟩
abbrev S2048x768 : Shape := ⟨2, ![2048, 768]⟩
abbrev S32 : Shape := ⟨1, ![32]⟩
abbrev S2048x2048 : Shape := ⟨2, ![2048, 2048]⟩
abbrev S_ : Shape := ⟨0, ![]⟩

class Facts : Prop where
  bcast_S_S2048x640 : S_.BroadcastsInDim S2048x640 (![] : Fin 0 → Fin S2048x640.rank)
  reducesTo_S2048x640_S_d0_1 : S2048x640.ReducesTo [0, 1] S_
  h_S_ : 0 < S_.numel
  bcast_S_S2048x768 : S_.BroadcastsInDim S2048x768 (![] : Fin 0 → Fin S2048x768.rank)
  reducesTo_S2048x768_S_d0_1 : S2048x768.ReducesTo [0, 1] S_
  bcast_S_S32 : S_.BroadcastsInDim S32 (![] : Fin 0 → Fin S32.rank)
  reducesTo_S32_S_d0 : S32.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2048x640 .f32) (main_arg1 : FVec F S2048x768 .f32) (main_arg2 : FVec F S32 .f32) (main_arg3 : FVec F S2048x2048 .f32) : IVec S_ 1 :=
  let main_v0 : FVec F S2048x640 .f32 := Host.absf main_arg0
  let main_cst : FVec F S_ .f32 := constant S_ .f32 0x7F800000#32
  let main_v1 : FVec F S2048x640 .f32 := broadcastInDim S2048x640 ![] bcast_S_S2048x640 main_cst
  let main_v2 : IVec S2048x640 1 := cmpf .olt main_v0 main_v1
  let main_c : IVec S_ 1 := constantI S_ 1 1#1
  let main_v3 : IVec S_ 1 := (fun x v => Host.reduce IntOp.andi x v reducesTo_S2048x640_S_d0_1 h_S_) main_v2 main_c
  let main_v4 : FVec F S2048x768 .f32 := Host.absf main_arg1
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : FVec F S32 .f32 := Host.absf main_arg2
  let main_cst_2 : FVec F S_ .f32 := constant S_ .f32 0x7F800000#32
  let main_v9 : FVec F S32 .f32 := broadcastInDim S32 ![] bcast_S_S32 main_cst_2
  let main_v10 : IVec S32 1 := cmpf .olt main_v8 main_v9
  let main_c_3 : IVec S_ 1 := constantI S_ 1 1#1
  let main_v11 : IVec S_ 1 := (fun x v => Host.reduce IntOp.andi x v reducesTo_S32_S_d0 h_S_) main_v10 main_c_3
  let main_v12 : FVec F S2048x2048 .f32 := Host.absf main_arg3
  let main_cst_4 : FVec F S_ .f32 := constant S_ .f32 0x7F800000#32
  let main_v13 : FVec F S2048x2048 .f32 := broadcastInDim S2048x2048 ![] bcast_S_S2048x2048 main_cst_4
  let main_v14 : IVec S2048x2048 1 := cmpf .olt main_v12 main_v13
  let main_c_5 : IVec S_ 1 := constantI S_ 1 1#1
  let main_v15 : IVec S_ 1 := (fun x v => Host.reduce IntOp.andi x v reducesTo_S2048x2048_S_d0_1 h_S_) main_v14 main_c_5
  fn_part1 (F := F) main_v3 main_v7 main_v11 main_v15
-- ==== Kernel.lean ====
abbrev S2048x640 : Shape := ⟨2, ![2048, 640]⟩
abbrev S2048x768 : Shape := ⟨2, ![2048, 768]⟩
abbrev S32 : Shape := ⟨1, ![32]⟩
abbrev S2048x2048 : Shape := ⟨2, ![2048, 2048]⟩
abbrev S2048x512 : Shape := ⟨2, ![2048, 512]⟩
abbrev S2048x128 : Shape := ⟨2, ![2048, 128]⟩
abbrev S8x128 : Shape := ⟨2, ![8, 128]⟩
abbrev S128x512 : Shape := ⟨2, ![128, 512]⟩
abbrev S128x128 : Shape := ⟨2, ![128, 128]⟩
abbrev S512x1 : Shape := ⟨2, ![512, 1]⟩
abbrev S128x64 : Shape := ⟨2, ![128, 64]⟩
abbrev S512x64 : Shape := ⟨2, ![512, 64]⟩
abbrev S512x128 : Shape := ⟨2, ![512, 128]⟩
abbrev S1 : Shape := ⟨1, ![1]⟩
abbrev S512 : Shape := ⟨1, ![512]⟩
abbrev S1x1 : Shape := ⟨2, ![1, 1]⟩

abbrev nBuf : Space → Nat
  | .hbm => 8
  | .vmem => 11
  | .smem => 1
  | _ => 0

abbrev bufTy : (tb : Table) → Fin (tcTables nBuf tb) → BufTy
  | .hbm, ⟨0, _⟩ => ⟨S2048x640, .f32⟩
  | .hbm, ⟨1, _⟩ => ⟨S2048x768, .f32⟩
  | .hbm, ⟨2, _⟩ => ⟨S32, .f32⟩
  | .hbm, ⟨3, _⟩ => ⟨S2048x2048, .f32⟩
  | .hbm, ⟨4, _⟩ => ⟨S2048x512, .f32⟩
  | .hbm, ⟨5, _⟩ => ⟨S2048x128, .f32⟩
  | .hbm, ⟨6, _⟩ => ⟨S2048x128, .f32⟩
  | .hbm, ⟨7, _⟩ => ⟨S8x128, .f32⟩
  | .local _ .vmem, ⟨0, _⟩ => ⟨S128x512, .f32⟩
  | .local _ .vmem, ⟨1, _⟩ => ⟨S128x512, .f32⟩
  | .local _ .vmem, ⟨2, _⟩ => ⟨S2048x128, .f32⟩
  | .local _ .vmem, ⟨3, _⟩ => ⟨S2048x128, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S2048x128, .f32⟩
  | .local _ .vmem, ⟨9, _⟩ => ⟨S2048x128, .f32⟩
  | .local _ .vmem, ⟨10, _⟩ => ⟨S8x128, .f32⟩
  | .local _ .smem, ⟨0, _⟩ => ⟨S32, .f32⟩
  | _, _ => ⟨S2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c128_i32 : BitVec 32 := 128#32
  let v5 : BitVec 32 := Scalar.muli arg0 c128_i32
  v5
def k0_off1 (i : grid0.Coords) : Fin 2 → Nat :=
  let arg0 : BitVec 32 := BitVec.ofNat 32 (i 0).val
  let c128_i32 : BitVec 32 := 128#32
  let v5 : BitVec 32 := Scalar.muli arg0 c128_i32
  let v6 : BitVec 32 := v5
  let v7 : Index := Scalar.indexCast v6
  let c0_4 : Index := 0#32
  ![v7.toNat, 0]
def k0_mult2 (i : grid0.Coords) : BitVec 32 :=
  let arg0 : BitVec 32 := BitVec.ofNat 32 (i 0).val
  let c1_i32 : BitVec 32 := 1#32
  let v9 : BitVec 32 := Scalar.subi arg0 c1_i32
  let c0_i32_5 : BitVec 32 := 0#32
  let v10 : BitVec 32 := Scalar.maxsi v9 c0_i32_5
  let c128_i32_6 : BitVec 32 := 128#32
  let v11 : BitVec 32 := Scalar.muli v10 c128_i32_6
  v11
def k0_off2 (i : grid0.Coords) : Fin 2 → Nat :=
  let arg0 : BitVec 32 := BitVec.ofNat 32 (i 0).val
  let c1_i32 : BitVec 32 := 1#32
  let v9 : BitVec 32 := Scalar.subi arg0 c1_i32
  let c0_i32_5 : BitVec 32 := 0#32
  let v10 : BitVec 32 := Scalar.maxsi v9 c0_i32_5
  let c128_i32_6 : BitVec 32 := 128#32
  let v11 : BitVec 32 := Scalar.muli v10 c128_i32_6
  let v12 : BitVec 32 := v11
  let v13 : Index := Scalar.indexCast v12
  let c0_7 : Index := 0#32
  ![v13.toNat, 0]
def k0_mult3 (i : grid0.Coords) : BitVec 32 :=
  let arg0 : BitVec 32 := BitVec.ofNat 32 (i 0).val
  let c128_i32_8 : BitVec 32 := 128#32
  let v15 : BitVec 32 := Scalar.muli arg0 c128_i32_8
  v15
def k0_mult4 (i : grid0.Coords) : BitVec 32 :=
  let arg0 : BitVec 32 := BitVec.ofNat 32 (i 0).val
  let c1_i32_10 : BitVec 32 := 1#32
  let v19 : BitVec 32 := Scalar.subi arg0 c1_i32_10
  let c0_i32_11 : BitVec 32 := 0#32
  let v20 : BitVec 32 := Scalar.maxsi v19 c0_i32_11
  let c128_i32_12 : BitVec 32 := 128#32
  let v21 : BitVec 32 := Scalar.muli v20 c128_i32_12
  v21
def k0_mult5 (i : grid0.Coords) : BitVec 32 :=
  let arg0 : BitVec 32 := BitVec.ofNat 32 (i 0).val
  let c128_i32_145 : BitVec 32 := 128#32
  let v486 : BitVec 32 := Scalar.muli arg0 c128_i32_145
  v486
def k0_mult6 (i : grid0.Coords) : BitVec 32 :=
  let arg0 : BitVec 32 := BitVec.ofNat 32 (i 0).val
  let c1_i32_146 : BitVec 32 := 1#32
  let v488 : BitVec 32 := Scalar.subi arg0 c1_i32_146
  let c0_i32_147 : BitVec 32 := 0#32
  let v489 : BitVec 32 := Scalar.maxsi v488 c0_i32_147
  let c128_i32_148 : BitVec 32 := 128#32
  let v490 : BitVec 32 := Scalar.muli v489 c128_i32_148
  v490
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_3 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2048x640 : Shape := ⟨2, ![2048, 640]⟩
abbrev S2048x768 : Shape := ⟨2, ![2048, 768]⟩
abbrev S32 : Shape := ⟨1, ![32]⟩
abbrev S2048x2048 : Shape := ⟨2, ![2048, 2048]⟩
abbrev S2048x512 : Shape := ⟨2, ![2048, 512]⟩
abbrev S1x2048x8x64 : Shape := ⟨4, ![1, 2048, 8, 64]⟩
abbrev S2048x128 : Shape := ⟨2, ![2048, 128]⟩
abbrev S1x2048x2x64 : Shape := ⟨4, ![1, 2048, 2, 64]⟩
abbrev S1x2048x512 : Shape := ⟨3, ![1, 2048, 512]⟩
abbrev S4x8 : Shape := ⟨2, ![4, 8]⟩
abbrev S1x8 : Shape := ⟨2, ![1, 8]⟩
abbrev S8 : Shape := ⟨1, ![8]⟩
abbrev S1x16x128x2x4x64 : Shape := ⟨6, ![1, 16, 128, 2, 4, 64]⟩
abbrev S1x16x128x2x64 : Shape := ⟨5, ![1, 16, 128, 2, 64]⟩
abbrev S_ : Shape := ⟨0, ![]⟩
abbrev S1x1x128x2x64 : Shape := ⟨5, ![1, 1, 128, 2, 64]⟩
abbrev S1x15x128x2x64 : Shape := ⟨5, ![1, 15, 128, 2, 64]⟩
abbrev S1x16x256x2x64 : Shape := ⟨5, ![1, 16, 256, 2, 64]⟩
abbrev S1x16x2x256x128x4 : Shape := ⟨6, ![1, 16, 2, 256, 128, 4]⟩
abbrev S1x16x2x4x128x256 : Shape := ⟨6, ![1, 16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S1x1x2x4x1x1 : Shape := ⟨6, ![1, 1, 2, 4, 1, 1]⟩
abbrev S1x16x2x4x128x1 : Shape := ⟨6, ![1, 16, 2, 4, 128, 1]⟩
abbrev S1x16x2x4x128x257 : Shape := ⟨6, ![1, 16, 2, 4, 128, 257]⟩
abbrev S1x16x2x4x128 : Shape := ⟨5, ![1, 16, 2, 4, 128]⟩
abbrev S1x16x2x64x4x128 : Shape := ⟨6, ![1, 16, 2, 64, 4, 128]⟩
abbrev S1x16x2x64x256 : Shape := ⟨5, ![1, 16, 2, 64, 256]⟩
abbrev S16x2x4x128 : Shape := ⟨4, ![16, 2, 4, 128]⟩
abbrev S2x4 : Shape := ⟨2, ![2, 4]⟩
abbrev S1x16x2x128x4x64 : Shape := ⟨6, ![1, 16, 2, 128, 4, 64]⟩
abbrev S1x16x2x256x64 : Shape := ⟨5, ![1, 16, 2, 256, 64]⟩
abbrev S8x1 : Shape := ⟨2, ![8, 1]⟩
abbrev S8x128 : Shape := ⟨2, ![8, 128]⟩

abbrev nBuf : Space → Nat
  | .hbm => 187
  | .vmem => 0
  | .smem => 0
  | _ => 0

abbrev hbmTy0_0 (i : Nat) : BufTy := match i % 128 with
  | 0 => ⟨S2048x640, .f32⟩
  | 1 => ⟨S2048x768, .f32⟩
  | 2 => ⟨S32, .f32⟩
  | 3 => ⟨S2048x2048, .f32⟩
  | 4 => ⟨S2048x512, .f32⟩
  | 5 => ⟨S1x2048x8x64, .f32⟩
  | 6 => ⟨S2048x128, .f32⟩
  | 7 => ⟨S1x2048x2x64, .f32⟩
  | 8 => ⟨S2048x128, .f32⟩
  | 9 => ⟨S1x2048x2x64, .f32⟩
  | 10 => ⟨S2048x512, .f32⟩
  | 11 => ⟨S1x2048x512, .f32⟩
  | 12 => ⟨S4x8, .f32⟩
  | 13 => ⟨S1x8, .f32⟩
  | 14 => ⟨S8, .f32⟩
  | 15 => ⟨S1x16x128x2x4x64, .f32⟩
  | 16 => ⟨S1x16x128x2x64, .f32⟩
  | 17 => ⟨S_, .f32⟩
  | 18 => ⟨S1x1x128x2x64, .f32⟩
  | 19 => ⟨S1x15x128x2x64, .f32⟩
  | 20 => ⟨S1x16x128x2x64, .f32⟩
  | 21 => ⟨S_, .f32⟩
  | 22 => ⟨S1x1x128x2x64, .f32⟩
  | 23 => ⟨S1x16x256x2x64, .f32⟩
  | 24 => ⟨S1x16x128x2x64, .f32⟩
  | 25 => ⟨S_, .f32⟩
  | 26 => ⟨S1x1x128x2x64, .f32⟩
  | 27 => ⟨S1x15x128x2x64, .f32⟩
  | 28 => ⟨S1x16x128x2x64, .f32⟩
  | 29 => ⟨S_, .f32⟩
  | 30 => ⟨S1x1x128x2x64, .f32⟩
  | 31 => ⟨S1x16x256x2x64, .f32⟩
  | 32 => ⟨S1x16x2x256x128x4, .f32⟩
  | 33 => ⟨S1x16x2x4x128x256, .f32⟩
  | 34 => ⟨S_, .f32⟩
  | 35 => ⟨S1x16x2x4x128x256, .f32⟩
  | 36 => ⟨S1x16x2x4x128x256, .f32⟩
  | 37 => ⟨S128, .i32⟩
  | 38 => ⟨S128x1, .i32⟩
  | 39 => ⟨S256, .i32⟩
  | 40 => ⟨S1x256, .i32⟩
  | 41 => ⟨S_, .i32⟩
  | 42 => ⟨S128x1, .i32⟩
  | 43 => ⟨S128x1, .i32⟩
  | 44 => ⟨S128x256, .i32⟩
  | 45 => ⟨S128x256, .i32⟩
  | 46 => ⟨S128x256, .i32⟩
  | 47 => ⟨S_, .i32⟩
  | 48 => ⟨S128x256, .i32⟩
  | 49 => ⟨S128x256, .i1⟩
  | 50 => ⟨S_, .i32⟩
  | 51 => ⟨S128x256, .i32⟩
  | 52 => ⟨S128x256, .i1⟩
  | 53 => ⟨S128x256, .i1⟩
  | 54 => ⟨S16, .i32⟩
  | 55 => ⟨S16x1x1, .i32⟩
  | 56 => ⟨S_, .i32⟩
  | 57 => ⟨S16x1x1, .i32⟩
  | 58 => ⟨S16x1x1, .i32⟩
  | 59 => ⟨S1x1x256, .i32⟩
  | 60 => ⟨S16x1x256, .i32⟩
  | 61 => ⟨S16x1x256, .i32⟩
  | 62 => ⟨S16x1x256, .i32⟩
  | 63 => ⟨S_, .i32⟩
  | 64 => ⟨S16x1x256, .i32⟩
  | 65 => ⟨S16x1x256, .i32⟩
  | 66 => ⟨S1x128x256, .i1⟩
  | 67 => ⟨S_, .i32⟩
  | 68 => ⟨S16x1x256, .i32⟩
  | 69 => ⟨S16x1x256, .i1⟩
  | 70 => ⟨S16x128x256, .i1⟩
  | 71 => ⟨S16x128x256, .i1⟩
  | 72 => ⟨S16x128x256, .i1⟩
  | 73 => ⟨S1x16x1x1x128x256, .i1⟩
  | 74 => ⟨S_, .f32⟩
  | 75 => ⟨S_, .f32⟩
  | 76 => ⟨S1x16x2x4x128x256, .i1⟩
  | 77 => ⟨S1x16x2x4x128x256, .f32⟩
  | 78 => ⟨S1x16x2x4x128x256, .f32⟩
  | 79 => ⟨S_, .f32⟩
  | 80 => ⟨S1x16x2x4x128x256, .f32⟩
  | 81 => ⟨S1x1x2x4x1x1, .f32⟩
  | 82 => ⟨S1x16x2x4x128x1, .f32⟩
  | 83 => ⟨S1x16x2x4x128x257, .f32⟩
  | 84 => ⟨S_, .f32⟩
  | 85 => ⟨S1x16x2x4x128, .f32⟩
  | 86 => ⟨S1x16x2x4x128x1, .f32⟩
  | 87 => ⟨S1x16x2x4x128x257, .f32⟩
  | 88 => ⟨S1x16x2x4x128x257, .i1⟩
  | 89 => ⟨S1x16x2x4x128x257, .f32⟩
  | 90 => ⟨S_, .f32⟩
  | 91 => ⟨S1x16x2x4x128, .f32⟩
  | 92 => ⟨S_, .f32⟩
  | 93 => ⟨S1x16x2x4x128, .f32⟩
  | 94 => ⟨S1x16x2x4x128, .f32⟩
  | 95 => ⟨S_, .f32⟩
  | 96 => ⟨S1x16x2x4x128, .f32⟩
  | 97 => ⟨S1x16x2x4x128, .i1⟩
  | 98 => ⟨S_, .f32⟩
  | 99 => ⟨S1x16x2x4x128, .f32⟩
  | 100 => ⟨S1x16x2x4x128, .i1⟩
  | 101 => ⟨S_, .f32⟩
  | 102 => ⟨S1x16x2x4x128, .f32⟩
  | 103 => ⟨S_, .f32⟩
  | 104 => ⟨S1x16x2x4x128, .f32⟩
  | 105 => ⟨S_, .f32⟩
  | 106 => ⟨S1x16x2x4x128, .f32⟩
  | 107 => ⟨S1x16x2x4x128, .f32⟩
  | 108 => ⟨S1x16x2x4x128, .f32⟩
  | 109 => ⟨S1x16x2x4x128x1, .f32⟩
  | 110 => ⟨S1x16x2x4x128x257, .f32⟩
  | 111 => ⟨S1x16x2x4x128x257, .f32⟩
  | 112 => ⟨S1x16x2x4x128x257, .f32⟩
  | 113 => ⟨S_, .f32⟩
  | 114 => ⟨S1x16x2x4x128, .f32⟩
  | 115 => ⟨S1x16x2x4x128x1, .f32⟩
  | 116 => ⟨S1x16x2x4x128x257, .f32⟩
  | 117 => ⟨S1x16x2x4x128x257, .f32⟩
  | 118 => ⟨S1x16x2x4x128x1, .f32⟩
  | 119 => ⟨S_, .f32⟩
  | 120 => ⟨S1x16x2x4x128x1, .f32⟩
  | 121 => ⟨S1x16x2x4x128x1, .f32⟩
  | 122 => ⟨S1x16x2x4x128x256, .f32⟩
  | 123 => ⟨S1x16x2x64x4x128, .f32⟩
  | 124 => ⟨S1x16x128x2x4x64, .f32⟩
  | 125 => ⟨S1x2048x512, .f32⟩
  | 126 => ⟨S1x16x128x2x4x64, .f32⟩
  | 127 => ⟨S1x16x2x64x4x128, .f32⟩
  | _ => ⟨S2048x640, .f32⟩

abbrev hbmTy0_1 (i : Nat) : BufTy := match i % 128 with
  | 0 => ⟨S1x16x2x4x128x256, .f32⟩
  | 1 => ⟨S1x16x2x64x256, .f32⟩
  | 2 => ⟨S1x16x256x2x64, .f32⟩
  | 3 => ⟨S_, .f32⟩
  | 4 => ⟨S1x16x2x4x128x257, .f32⟩
  | 5 => ⟨S1x16x2x4x128x257, .f32⟩
  | 6 => ⟨S1x16x2x4x128x257, .f32⟩
  | 7 => ⟨S1x16x2x4x128x257, .f32⟩
  | 8 => ⟨S_, .f32⟩
  | 9 => ⟨S1x16x2x4x128, .f32⟩
  | 10 => ⟨S1x16x2x4x128x1, .f32⟩
  | 11 => ⟨S1x16x2x4x128x1, .f32⟩
  | 12 => ⟨S1x16x2x4x128x257, .f32⟩
  | 13 => ⟨S1x16x2x4x128x257, .f32⟩
  | 14 => ⟨S_, .f32⟩
  | 15 => ⟨S16x2x4x128, .f32⟩
  | 16 => ⟨S1x16x2x4x128, .f32⟩
  | 17 => ⟨S1x16x2x4x128x257, .f32⟩
  | 18 => ⟨S1x16x2x4x128x257, .f32⟩
  | 19 => ⟨S1x16x2x4x128x257, .f32⟩
  | 20 => ⟨S1x16x2x4x128x256, .f32⟩
  | 21 => ⟨S1x16x2x4x128x1, .f32⟩
  | 22 => ⟨S_, .f32⟩
  | 23 => ⟨S2x4, .f32⟩
  | 24 => ⟨S1x1x2x4x1x1, .f32⟩
  | 25 => ⟨S8, .f32⟩
  | 26 => ⟨S_, .f32⟩
  | 27 => ⟨S1x16x2x4x128x256, .f32⟩
  | 28 => ⟨S1x16x2x4x128x256, .f32⟩
  | 29 => ⟨S_, .f32⟩
  | 30 => ⟨S1x16x2x4x128x256, .f32⟩
  | 31 => ⟨S1x16x2x4x128x256, .f32⟩
  | 32 => ⟨S1x16x2x256x128x4, .f32⟩
  | 33 => ⟨S1x16x2x128x4x64, .f32⟩
  | 34 => ⟨S1x16x128x2x4x64, .f32⟩
  | 35 => ⟨S1x16x2x256x64, .f32⟩
  | 36 => ⟨S1x16x256x2x64, .f32⟩
  | 37 => ⟨S1x16x128x2x64, .f32⟩
  | 38 => ⟨S1x16x128x2x64, .f32⟩
  | 39 => ⟨S1x1x128x2x64, .f32⟩
  | 40 => ⟨S1x15x128x2x64, .f32⟩
  | 41 => ⟨S_, .f32⟩
  | 42 => ⟨S1x16x128x2x64, .f32⟩
  | 43 => ⟨S1x16x128x2x64, .f32⟩
  | 44 => ⟨S1x2048x2x64, .f32⟩
  | 45 => ⟨S1x16x128x2x64, .f32⟩
  | 46 => ⟨S1x16x128x2x64, .f32⟩
  | 47 => ⟨S1x1x128x2x64, .f32⟩
  | 48 => ⟨S1x15x128x2x64, .f32⟩
  | 49 => ⟨S_, .f32⟩
  | 50 => ⟨S1x16x128x2x64, .f32⟩
  | 51 => ⟨S1x16x128x2x64, .f32⟩
  | 52 => ⟨S1x2048x2x64, .f32⟩
  | 53 => ⟨S1x2048x8x64, .f32⟩
  | 54 => ⟨S2048x512, .f32⟩
  | 55 => ⟨S2048x128, .f32⟩
  | 56 => ⟨S2048x128, .f32⟩
  | 57 => ⟨S8x1, .f32⟩
  | 58 => ⟨S8x128, .f32⟩
  | _ => ⟨S2048x640, .f32⟩

abbrev hbmTy (i : Nat) : BufTy := match i / 128 with
  | 0 => hbmTy0_0 i
  | 1 => hbmTy0_1 i
  | _ => ⟨S2048x640, .f32⟩

abbrev bufTy : (tb : Table) → Fin (tcTables nBuf tb) → BufTy
  | .hbm, ⟨i, _⟩ => hbmTy i
  | _, _ => ⟨S2048x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_4 : Ref sig .tc := ⟨.hbm, 47, rfl⟩
abbrev main_v37 : Ref sig .tc := ⟨.hbm, 48, rfl⟩
abbrev main_v38 : Ref sig .tc := ⟨.hbm, 49, rfl⟩
abbrev main_c_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_call0_v0 : Ref sig .tc := ⟨.hbm, 75, rfl⟩
abbrev main_v59_1 : Ref sig .tc := ⟨.hbm, 76, rfl⟩
abbrev main_call0_v2 : Ref sig .tc := ⟨.hbm, 77, rfl⟩
abbrev main_v59_0 : Ref sig .tc := ⟨.hbm, 78, rfl⟩
abbrev main_call0_cst : Ref sig .tc := ⟨.hbm, 79, rfl⟩
abbrev main_v59_2 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_cst_13 : Ref sig .tc := ⟨.hbm, 95, rfl⟩
abbrev main_v71 : Ref sig .tc := ⟨.hbm, 96, rfl⟩
abbrev main_v72 : Ref sig .tc := ⟨.hbm, 97, rfl⟩
abbrev main_cst_14 : Ref sig .tc := ⟨.hbm, 98, rfl⟩
abbrev main_v73 : Ref sig .tc := ⟨.hbm, 99, rfl⟩
abbrev main_v74 : Ref sig .tc := ⟨.hbm, 100, rfl⟩
abbrev main_cst_15 : Ref sig .tc := ⟨.hbm, 101, rfl⟩
abbrev main_v75 : Ref sig .tc := ⟨.hbm, 102, rfl⟩
abbrev main_cst_16 : Ref sig .tc := ⟨.hbm, 103, rfl⟩
abbrev main_v76 : Ref sig .tc := ⟨.hbm, 104, rfl⟩
abbrev main_cst_17 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_18 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_19 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_20 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_21 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_22 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_23 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_call1_cst : Ref sig .tc := ⟨.hbm, 154, rfl⟩
abbrev main_call1_v0 : Ref sig .tc := ⟨.hbm, 155, rfl⟩
abbrev main_v119 : Ref sig .tc := ⟨.hbm, 156, rfl⟩
abbrev main_cst_24 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_25 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_26 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩

abbrev nD : Nat := 1
abbrev τ : Topo := Topo.v7x

variable {F : FTy → Type} [FloatOps F]
-- ==== KernelDown.lean ====
abbrev S2048x1024 : Shape := ⟨2, ![2048, 1024]⟩
abbrev S8x1x512x1024 : Shape := ⟨4, ![8, 1, 512, 1024]⟩
abbrev S2048x4096 : Shape := ⟨2, ![2048, 4096]⟩
abbrev S512x1024 : Shape := ⟨2, ![512, 1024]⟩
abbrev S512x4096 : Shape := ⟨2, ![512, 4096]⟩
abbrev S1x1x512x1024 : Shape := ⟨4, ![1, 1, 512, 1024]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S8x1x512x1024, .bf16⟩
  | .hbm, ⟨2, _⟩ => ⟨S2048x4096, .f32⟩
  | .hbm, ⟨3, _⟩ => ⟨S2048x1024, .f32⟩
  | .hbm, ⟨4, _⟩ => ⟨S2048x4096, .bf16⟩
  | .local _ .vmem, ⟨0, _⟩ => ⟨S512x1024, .f32⟩
  | .local _ .vmem, ⟨1, _⟩ => ⟨S512x1024, .f32⟩
  | .local _ .vmem, ⟨2, _⟩ => ⟨S8x1x512x1024, .bf16⟩
  | .local _ .vmem, ⟨3, _⟩ => ⟨S512x4096, .f32⟩
  | .local _ .vmem, ⟨4, _⟩ => ⟨S512x4096, .f32⟩
  | .local _ .vmem, ⟨5, _⟩ => ⟨S512x4096, .bf16⟩
  | .local _ .vmem, ⟨6, _⟩ => ⟨S512x4096, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceDownIdeal.lean ====
abbrev S2048x1024 : Shape := ⟨2, ![2048, 1024]⟩
abbrev S8x1x512x1024 : Shape := ⟨4, ![8, 1, 512, 1024]⟩
abbrev S2048x4096 : Shape := ⟨2, ![2048, 4096]⟩
abbrev S4096x1024 : Shape := ⟨2, ![4096, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x1x512x1024, .bf16⟩
  | .hbm, ⟨2, _⟩ => ⟨S2048x4096, .f32⟩
  | .hbm, ⟨3, _⟩ => ⟨S2048x1024, .f32⟩
  | .hbm, ⟨4, _⟩ => ⟨S4096x1024, .bf16⟩
  | .hbm, ⟨5, _⟩ => ⟨S4096x1024, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .i1⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S_, .f32⟩
  | .hbm, ⟨16, _⟩ => ⟨S2048x4096, .f32⟩
  | .hbm, ⟨17, _⟩ => ⟨S2048x4096, .f32⟩
  | .hbm, ⟨18, _⟩ => ⟨S2048x1024, .f32⟩
  | .hbm, ⟨19, _⟩ => ⟨S2048x4096, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== KernelOut.lean ====
abbrev S2048x1024 : Shape := ⟨2, ![2048, 1024]⟩
abbrev S8x1x256x1024 : Shape := ⟨4, ![8, 1, 256, 1024]⟩
abbrev S2048x2048 : Shape := ⟨2, ![2048, 2048]⟩
abbrev S512x1024 : Shape := ⟨2, ![512, 1024]⟩
abbrev S512x2048 : Shape := ⟨2, ![512, 2048]⟩
abbrev S8x256x1024 : Shape := ⟨3, ![8, 256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S8x1x256x1024, .bf16⟩
  | .hbm, ⟨2, _⟩ => ⟨S2048x1024, .f32⟩
  | .hbm, ⟨3, _⟩ => ⟨S2048x2048, .f32⟩
  | .local _ .vmem, ⟨0, _⟩ => ⟨S512x1024, .f32⟩
  | .local _ .vmem, ⟨1, _⟩ => ⟨S512x1024, .f32⟩
  | .local _ .vmem, ⟨2, _⟩ => ⟨S8x1x256x1024, .bf16⟩
  | .local _ .vmem, ⟨3, _⟩ => ⟨S512x2048, .f32⟩
  | .local _ .vmem, ⟨4, _⟩ => ⟨S512x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceOutIdeal.lean ====
abbrev S2048x1024 : Shape := ⟨2, ![2048, 1024]⟩
abbrev S8x1x256x1024 : Shape := ⟨4, ![8, 1, 256, 1024]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x1x256x1024, .bf16⟩
  | .hbm, ⟨2, _⟩ => ⟨S2048x1024, .f32⟩
  | .hbm, ⟨3, _⟩ => ⟨S2048x1024, .bf16⟩
  | .hbm, ⟨4, _⟩ => ⟨S2048x1024, .f32⟩
  | .hbm, ⟨5, _⟩ => ⟨S_, .f32⟩
  | .hbm, ⟨6, _⟩ => ⟨S2048x2048, .f32⟩
  | .hbm, ⟨7, _⟩ => ⟨S2048x1024, .f32⟩
  | .hbm, ⟨8, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelDwDown.lean ====
abbrev S2048x4096 : Shape := ⟨2, ![2048, 4096]⟩
abbrev S2048x1024 : Shape := ⟨2, ![2048, 1024]⟩
abbrev S8x512x1024 : Shape := ⟨3, ![8, 512, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S8x512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S1x512x1024, .bf16⟩
  | .local _ .vmem, ⟨4, _⟩ => ⟨S1x512x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDwDownIdeal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩
abbrev S8x512x1024 : Shape := ⟨3, ![8, 512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S_, .f32⟩
  | .hbm, ⟨3, _⟩ => ⟨S4096x1024, .f32⟩
  | .hbm, ⟨4, _⟩ => ⟨S2048x4096, .f32⟩
  | .hbm, ⟨5, _⟩ => ⟨S2048x1024, .f32⟩
  | .hbm, ⟨6, _⟩ => ⟨S1024x4096, .f32⟩
  | .hbm, ⟨7, _⟩ => ⟨S4096x1024, .f32⟩
  | .hbm, ⟨8, _⟩ => ⟨S8x512x1024, .f32⟩
  | .hbm, ⟨9, _⟩ => ⟨S8x512x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwUp.lean ====
abbrev S2048x1024 : Shape := ⟨2, ![2048, 1024]⟩
abbrev S2048x4096 : Shape := ⟨2, ![2048, 4096]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== ReferenceDwUpIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S_, .f32⟩
  | .hbm, ⟨3, _⟩ => ⟨S1024x4096, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDwOut.lean ====
abbrev S2048x2048 : Shape := ⟨2, ![2048, 2048]⟩
abbrev S2048x1024 : Shape := ⟨2, ![2048, 1024]⟩
abbrev S8x256x1024 : Shape := ⟨3, ![8, 256, 1024]⟩
abbrev S2048x512 : Shape := ⟨2, ![2048, 512]⟩
abbrev S2x256x1024 : Shape := ⟨3, ![2, 256, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S8x256x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2x256x1024, .bf16⟩
  | .local _ .vmem, ⟨4, _⟩ => ⟨S2x256x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDwOutIdeal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩
abbrev S8x256x1024 : Shape := ⟨3, ![8, 256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S2048x2048, .f32⟩
  | .hbm, ⟨5, _⟩ => ⟨S2048x1024, .f32⟩
  | .hbm, ⟨6, _⟩ => ⟨S1024x2048, .f32⟩
  | .hbm, ⟨7, _⟩ => ⟨S2048x1024, .f32⟩
  | .hbm, ⟨8, _⟩ => ⟨S8x256x1024, .f32⟩
  | .hbm, ⟨9, _⟩ => ⟨S8x256x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwIn.lean ====
abbrev S2048x1024 : Shape := ⟨2, ![2048, 1024]⟩
abbrev S2048x4480 : Shape := ⟨2, ![2048, 4480]⟩
abbrev S1024x4480 : Shape := ⟨2, ![1024, 4480]⟩
abbrev S2048x512 : Shape := ⟨2, ![2048, 512]⟩
abbrev S2048x640 : Shape := ⟨2, ![2048, 640]⟩
abbrev S512x640 : Shape := ⟨2, ![512, 640]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x4480, .bf16⟩
  | .hbm, ⟨2, _⟩ => ⟨S1024x4480, .bf16⟩
  | .local _ .vmem, ⟨0, _⟩ => ⟨S2048x512, .bf16⟩
  | .local _ .vmem, ⟨1, _⟩ => ⟨S2048x512, .bf16⟩
  | .local _ .vmem, ⟨2, _⟩ => ⟨S2048x640, .bf16⟩
  | .local _ .vmem, ⟨3, _⟩ => ⟨S2048x640, .bf16⟩
  | .local _ .vmem, ⟨4, _⟩ => ⟨S512x640, .bf16⟩
  | .local _ .vmem, ⟨5, _⟩ => ⟨S512x640, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwInIdeal.lean ====
abbrev S2048x1024 : Shape := ⟨2, ![2048, 1024]⟩
abbrev S2048x4480 : Shape := ⟨2, ![2048, 4480]⟩
abbrev S_ : Shape := ⟨0, ![]⟩
abbrev S1024x4480 : Shape := ⟨2, ![1024, 4480]⟩
abbrev S4480x1024 : Shape := ⟨2, ![4480, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4480, .bf16⟩
  | .hbm, ⟨2, _⟩ => ⟨S_, .f32⟩
  | .hbm, ⟨3, _⟩ => ⟨S1024x4480, .f32⟩
  | .hbm, ⟨4, _⟩ => ⟨S2048x1024, .f32⟩
  | .hbm, ⟨5, _⟩ => ⟨S2048x4480, .f32⟩
  | .hbm, ⟨6, _⟩ => ⟨S2048x4480, .f32⟩
  | .hbm, ⟨7, _⟩ => ⟨S4480x1024, .f32⟩
  | .hbm, ⟨8, _⟩ => ⟨S1024x4480, .f32⟩
  | .hbm, ⟨9, _⟩ => ⟨S1024x4480, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelResDown.lean ====
abbrev S2048x4096 : Shape := ⟨2, ![2048, 4096]⟩
abbrev S8x1x512x1024 : Shape := ⟨4, ![8, 1, 512, 1024]⟩
abbrev S2048x1024 : Shape := ⟨2, ![2048, 1024]⟩
abbrev S512x4096 : Shape := ⟨2, ![512, 4096]⟩
abbrev S512x1024 : Shape := ⟨2, ![512, 1024]⟩
abbrev S8x512x1024 : Shape := ⟨3, ![8, 512, 1024]⟩
abbrev S4096x1024 : Shape := ⟨2, ![4096, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S8x1x512x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .local _ .vmem, ⟨0, _⟩ => ⟨S512x4096, .bf16⟩
  | .local _ .vmem, ⟨1, _⟩ => ⟨S512x4096, .bf16⟩
  | .local _ .vmem, ⟨2, _⟩ => ⟨S8x1x512x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceResDownIdeal.lean ====
abbrev S2048x4096 : Shape := ⟨2, ![2048, 4096]⟩
abbrev S8x1x512x1024 : Shape := ⟨4, ![8, 1, 512, 1024]⟩
abbrev S2048x1024 : Shape := ⟨2, ![2048, 1024]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S8x1x512x1024, .bf16⟩
  | .hbm, ⟨2, _⟩ => ⟨S2048x1024, .f32⟩
  | .hbm, ⟨3, _⟩ => ⟨S2048x1024, .f32⟩
  | .hbm, ⟨4, _⟩ => ⟨S4096x1024, .bf16⟩
  | .hbm, ⟨5, _⟩ => ⟨S4096x1024, .f32⟩
  | .hbm, ⟨6, _⟩ => ⟨S2048x4096, .f32⟩
  | .hbm, ⟨7, _⟩ => ⟨S2048x1024, .f32⟩
  | .hbm, ⟨8, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelResOut.lean ====
abbrev S2048x2048 : Shape := ⟨2, ![2048, 2048]⟩
abbrev S8x1x256x1024 : Shape := ⟨4, ![8, 1, 256, 1024]⟩
abbrev S2048x1024 : Shape := ⟨2, ![2048, 1024]⟩
abbrev S512x2048 : Shape := ⟨2, ![512, 2048]⟩
abbrev S512x1024 : Shape := ⟨2, ![512, 1024]⟩
abbrev S8x256x1024 : Shape := ⟨3, ![8, 256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S8x1x256x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .local _ .vmem, ⟨0, _⟩ => ⟨S512x2048, .bf16⟩
  | .local _ .vmem, ⟨1, _⟩ => ⟨S512x2048, .bf16⟩
  | .local _ .vmem, ⟨2, _⟩ => ⟨S8x1x256x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceResOutIdeal.lean ====
abbrev S2048x2048 : Shape := ⟨2, ![2048, 2048]⟩
abbrev S8x1x256x1024 : Shape := ⟨4, ![8, 1, 256, 1024]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x1x256x1024, .bf16⟩
  | .hbm, ⟨2, _⟩ => ⟨S2048x1024, .f32⟩
  | .hbm, ⟨3, _⟩ => ⟨S2048x1024, .f32⟩
  | .hbm, ⟨4, _⟩ => ⟨S2048x1024, .bf16⟩
  | .hbm, ⟨5, _⟩ => ⟨S2048x1024, .f32⟩
  | .hbm, ⟨6, _⟩ => ⟨S2048x2048, .f32⟩
  | .hbm, ⟨7, _⟩ => ⟨S2048x1024, .f32⟩
  | .hbm, ⟨8, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelUp.lean ====
abbrev S2048x1024 : Shape := ⟨2, ![2048, 1024]⟩
abbrev S4x1x1024 : Shape := ⟨3, ![4, 1, 1024]⟩
abbrev S8x1x1024x512 : Shape := ⟨4, ![8, 1, 1024, 512]⟩
abbrev S2048x4096 : Shape := ⟨2, ![2048, 4096]⟩
abbrev S256x1024 : Shape := ⟨2, ![256, 1024]⟩
abbrev S1x1x1024 : Shape := ⟨3, ![1, 1, 1024]⟩
abbrev S256x4096 : Shape := ⟨2, ![256, 4096]⟩
abbrev S256 : Shape := ⟨1, ![256]⟩
abbrev S256x1 : Shape := ⟨2, ![256, 1]⟩
abbrev S1x1024 : Shape := ⟨2, ![1, 1024]⟩
abbrev S1x1x1024x512 : Shape := ⟨4, ![1, 1, 1024, 512]⟩
abbrev S1024x512 : Shape := ⟨2, ![1024, 512]⟩
abbrev S256x512 : Shape := ⟨2, ![256, 512]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S4x1x1024, .f32⟩
  | .hbm, ⟨2, _⟩ => ⟨S8x1x1024x512, .bf16⟩
  | .hbm, ⟨3, _⟩ => ⟨S2048x1024, .bf16⟩
  | .hbm, ⟨4, _⟩ => ⟨S2048x4096, .f32⟩
  | .hbm, ⟨5, _⟩ => ⟨S2048x4096, .bf16⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S8x1x1024x512, .bf16⟩
  | .local _ .vmem, ⟨4, _⟩ => ⟨S256x1024, .bf16⟩
  | .local _ .vmem, ⟨5, _⟩ => ⟨S256x1024, .bf16⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceUpIdeal.lean ====
abbrev S2048x1024 : Shape := ⟨2, ![2048, 1024]⟩
abbrev S4x1x1024 : Shape := ⟨3, ![4, 1, 1024]⟩
abbrev S8x1x1024x512 : Shape := ⟨4, ![8, 1, 1024, 512]⟩
abbrev S8x1024x512 : Shape := ⟨3, ![8, 1024, 512]⟩
abbrev S1024x8x512 : Shape := ⟨3, ![1024, 8, 512]⟩
abbrev S1024x4096 : Shape := ⟨2, ![1024, 4096]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x1x1024, .f32⟩
  | .hbm, ⟨2, _⟩ => ⟨S8x1x1024x512, .bf16⟩
  | .hbm, ⟨3, _⟩ => ⟨S8x1024x512, .bf16⟩
  | .hbm, ⟨4, _⟩ => ⟨S1024x8x512, .bf16⟩
  | .hbm, ⟨5, _⟩ => ⟨S1024x4096, .bf16⟩
  | .hbm, ⟨6, _⟩ => ⟨S1024x4096, .f32⟩
  | .hbm, ⟨7, _⟩ => ⟨S4x1024, .f32⟩
  | .hbm, ⟨8, _⟩ => ⟨S1x1024, .f32⟩
  | .hbm, ⟨9, _⟩ => ⟨S1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x4096, .f32⟩
  | .hbm, ⟨27, _⟩ => ⟨S2048x1024, .bf16⟩
  | .hbm, ⟨28, _⟩ => ⟨S_, .f32⟩
  | .hbm, ⟨29, _⟩ => ⟨S2048x4096, .f32⟩
  | .hbm, ⟨30, _⟩ => ⟨S2048x4096, .f32⟩
  | .hbm, ⟨31, _⟩ => ⟨S2048x4096, .f32⟩
  | .hbm, ⟨32, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_cst : Ref sig .tc := ⟨.hbm, 28, rfl⟩
abbrev main_call0_v0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== KernelIn.lean ====
abbrev S2048x1024 : Shape := ⟨2, ![2048, 1024]⟩
abbrev S4x1x1024 : Shape := ⟨3, ![4, 1, 1024]⟩
abbrev S1024x4480 : Shape := ⟨2, ![1024, 4480]⟩
abbrev S2048x1536 : Shape := ⟨2, ![2048, 1536]⟩
abbrev S2048x768 : Shape := ⟨2, ![2048, 768]⟩
abbrev S2048x128 : Shape := ⟨2, ![2048, 128]⟩
abbrev S512x1024 : Shape := ⟨2, ![512, 1024]⟩
abbrev S1x1x1024 : Shape := ⟨3, ![1, 1, 1024]⟩
abbrev S512x1536 : Shape := ⟨2, ![512, 1536]⟩
abbrev S512x768 : Shape := ⟨2, ![512, 768]⟩
abbrev S512x128 : Shape := ⟨2, ![512, 128]⟩
abbrev S512 : Shape := ⟨1, ![512]⟩
abbrev S512x1 : Shape := ⟨2, ![512, 1]⟩
abbrev S1x1024 : Shape := ⟨2, ![1, 1024]⟩
abbrev S1024x1024 : Shape := ⟨2, ![1024, 1024]⟩
abbrev S1024x1536 : Shape := ⟨2, ![1024, 1536]⟩
abbrev S1024x768 : Shape := ⟨2, ![1024, 768]⟩
abbrev S1024x128 : Shape := ⟨2, ![1024, 128]⟩

abbrev nBuf : Space → Nat
  | .hbm => 9
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S4x1x1024, .f32⟩
  | .hbm, ⟨2, _⟩ => ⟨S1024x4480, .bf16⟩
  | .hbm, ⟨3, _⟩ => ⟨S2048x1024, .bf16⟩
  | .hbm, ⟨4, _⟩ => ⟨S2048x1024, .f32⟩
  | .hbm, ⟨5, _⟩ => ⟨S2048x1536, .f32⟩
  | .hbm, ⟨6, _⟩ => ⟨S2048x768, .f32⟩
  | .hbm, ⟨7, _⟩ => ⟨S2048x1024, .f32⟩
  | .hbm, ⟨8, _⟩ => ⟨S2048x128, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1024x4480, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1536, .f32⟩
  | .local _ .vmem, ⟨9, _⟩ => ⟨S512x1536, .f32⟩
  | .local _ .vmem, ⟨10, _⟩ => ⟨S512x768, .f32⟩
  | .local _ .vmem, ⟨11, _⟩ => ⟨S512x768, .f32⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4480 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceInIdeal.lean ====
abbrev S2048x1024 : Shape := ⟨2, ![2048, 1024]⟩
abbrev S4x1x1024 : Shape := ⟨3, ![4, 1, 1024]⟩
abbrev S1024x4480 : Shape := ⟨2, ![1024, 4480]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x4480 : Shape := ⟨2, ![2048, 4480]⟩
abbrev S2048x1536 : Shape := ⟨2, ![2048, 1536]⟩
abbrev S2048x768 : Shape := ⟨2, ![2048, 768]⟩
abbrev S2048x128 : Shape := ⟨2, ![2048, 128]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x1x1024, .f32⟩
  | .hbm, ⟨2, _⟩ => ⟨S1024x4480, .bf16⟩
  | .hbm, ⟨3, _⟩ => ⟨S4x1024, .f32⟩
  | .hbm, ⟨4, _⟩ => ⟨S1x1024, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S1024x4480, .f32⟩
  | .hbm, ⟨23, _⟩ => ⟨S2048x4480, .f32⟩
  | .hbm, ⟨24, _⟩ => ⟨S2048x1024, .bf16⟩
  | .hbm, ⟨25, _⟩ => ⟨S2048x1024, .f32⟩
  | .hbm, ⟨26, _⟩ => ⟨S2048x1536, .f32⟩
  | .hbm, ⟨27, _⟩ => ⟨S2048x768, .f32⟩
  | .hbm, ⟨28, _⟩ => ⟨S2048x1024, .f32⟩
  | .hbm, ⟨29, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== KernelUpBwd.lean ====
abbrev S2048x4096 : Shape := ⟨2, ![2048, 4096]⟩
abbrev S8x1x1024x512 : Shape := ⟨4, ![8, 1, 1024, 512]⟩
abbrev S2048x1024 : Shape := ⟨2, ![2048, 1024]⟩
abbrev S4x1x1024 : Shape := ⟨3, ![4, 1, 1024]⟩
abbrev S1x1024 : Shape := ⟨2, ![1, 1024]⟩
abbrev S512x4096 : Shape := ⟨2, ![512, 4096]⟩
abbrev S512x1024 : Shape := ⟨2, ![512, 1024]⟩
abbrev S1x1x1024 : Shape := ⟨3, ![1, 1, 1024]⟩
abbrev S512x512 : Shape := ⟨2, ![512, 512]⟩
abbrev S1x1x1024x512 : Shape := ⟨4, ![1, 1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2048x4096, .bf16⟩
  | .hbm, ⟨1, _⟩ => ⟨S8x1x1024x512, .bf16⟩
  | .hbm, ⟨2, _⟩ => ⟨S2048x1024, .f32⟩
  | .hbm, ⟨3, _⟩ => ⟨S2048x1024, .f32⟩
  | .hbm, ⟨4, _⟩ => ⟨S4x1x1024, .f32⟩
  | .hbm, ⟨5, _⟩ => ⟨S2048x1024, .f32⟩
  | .hbm, ⟨6, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1x1024x512, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceUpBwdIdeal.lean ====
abbrev S2048x4096 : Shape := ⟨2, ![2048, 4096]⟩
abbrev S8x1x1024x512 : Shape := ⟨4, ![8, 1, 1024, 512]⟩
abbrev S2048x1024 : Shape := ⟨2, ![2048, 1024]⟩
abbrev S4x1x1024 : Shape := ⟨3, ![4, 1, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 62
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S8x1x1024x512, .bf16⟩
  | .hbm, ⟨2, _⟩ => ⟨S2048x1024, .f32⟩
  | .hbm, ⟨3, _⟩ => ⟨S2048x1024, .f32⟩
  | .hbm, ⟨4, _⟩ => ⟨S4x1x1024, .f32⟩
  | .hbm, ⟨5, _⟩ => ⟨S8x1024x512, .bf16⟩
  | .hbm, ⟨6, _⟩ => ⟨S1024x8x512, .bf16⟩
  | .hbm, ⟨7, _⟩ => ⟨S1024x4096, .bf16⟩
  | .hbm, ⟨8, _⟩ => ⟨S1024x4096, .f32⟩
  | .hbm, ⟨9, _⟩ => ⟨S4x1024, .f32⟩
  | .hbm, ⟨10, _⟩ => ⟨S1x1024, .f32⟩
  | .hbm, ⟨11, _⟩ => ⟨S1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x4096, .f32⟩
  | .hbm, ⟨33, _⟩ => ⟨S2048x4096, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S2048x1024, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S_, .f32⟩
  | .hbm, ⟨55, _⟩ => ⟨S2048, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S1x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== KernelInBwd.lean ====
abbrev S2048x1024 : Shape := ⟨2, ![2048, 1024]⟩
abbrev S2048x1536 : Shape := ⟨2, ![2048, 1536]⟩
abbrev S2048x640 : Shape := ⟨2, ![2048, 640]⟩
abbrev S2048x128 : Shape := ⟨2, ![2048, 128]⟩
abbrev S2048x512 : Shape := ⟨2, ![2048, 512]⟩
abbrev S1024x4480 : Shape := ⟨2, ![1024, 4480]⟩
abbrev S4x1x1024 : Shape := ⟨3, ![4, 1, 1024]⟩
abbrev S1x1024 : Shape := ⟨2, ![1, 1024]⟩
abbrev S2048x4480 : Shape := ⟨2, ![2048, 4480]⟩
abbrev S256x1024 : Shape := ⟨2, ![256, 1024]⟩
abbrev S256x1536 : Shape := ⟨2, ![256, 1536]⟩
abbrev S256x640 : Shape := ⟨2, ![256, 640]⟩
abbrev S256x128 : Shape := ⟨2, ![256, 128]⟩
abbrev S256x512 : Shape := ⟨2, ![256, 512]⟩
abbrev S1x1x1024 : Shape := ⟨3, ![1, 1, 1024]⟩
abbrev S256x4480 : Shape := ⟨2, ![256, 4480]⟩
abbrev S256 : Shape := ⟨1, ![256]⟩
abbrev S256x1 : Shape := ⟨2, ![256, 1]⟩
abbrev S1024 : Shape := ⟨1, ![1024]⟩

abbrev nBuf : Space → Nat
  | .hbm => 14
  | .vmem => 25
  | .smem => 0
  | _ => 0

abbrev bufTy : (tb : Table) → Fin (tcTables nBuf tb) → BufTy
  | .hbm, ⟨0, _⟩ => ⟨S2048x1024, .bf16⟩
  | .hbm, ⟨1, _⟩ => ⟨S2048x1536, .bf16⟩
  | .hbm, ⟨2, _⟩ => ⟨S2048x640, .bf16⟩
  | .hbm, ⟨3, _⟩ => ⟨S2048x128, .f32⟩
  | .hbm, ⟨4, _⟩ => ⟨S2048x512, .bf16⟩
  | .hbm, ⟨5, _⟩ => ⟨S2048x512, .bf16⟩
  | .hbm, ⟨6, _⟩ => ⟨S2048x128, .bf16⟩
  | .hbm, ⟨7, _⟩ => ⟨S1024x4480, .bf16⟩
  | .hbm, ⟨8, _⟩ => ⟨S2048x1024, .f32⟩
  | .hbm, ⟨9, _⟩ => ⟨S2048x1024, .f32⟩
  | .hbm, ⟨10, _⟩ => ⟨S4x1x1024, .f32⟩
  | .hbm, ⟨11, _⟩ => ⟨S2048x1024, .f32⟩
  | .hbm, ⟨12, _⟩ => ⟨S1x1024, .f32⟩
  | .hbm, ⟨13, _⟩ => ⟨S2048x4480, .bf16⟩
  | .local _ .vmem, ⟨0, _⟩ => ⟨S256x1024, .bf16⟩
  | .local _ .vmem, ⟨1, _⟩ => ⟨S256x1024, .bf16⟩
  | .local _ .vmem, ⟨2, _⟩ => ⟨S256x1536, .bf16⟩
  | .local _ .vmem, ⟨3, _⟩ => ⟨S256x1536, .bf16⟩
  | .local _ .vmem, ⟨4, _⟩ => ⟨S256x640, .bf16⟩
  | .local _ .vmem, ⟨5, _⟩ => ⟨S256x640, .bf16⟩
  | .local _ .vmem, ⟨6, _⟩ => ⟨S256x128, .f32⟩
  | .local _ .vmem, ⟨7, _⟩ => ⟨S256x128, .f32⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x128, .bf16⟩
  | .local _ .vmem, ⟨13, _⟩ => ⟨S256x128, .bf16⟩
  | .local _ .vmem, ⟨14, _⟩ => ⟨S1024x4480, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S1x1x1024, .f32⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | .local _ .vmem, ⟨23, _⟩ => ⟨S256x4480, .bf16⟩
  | .local _ .vmem, ⟨24, _⟩ => ⟨S256x4480, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x4480 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x4480 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceInBwdIdeal.lean ====
abbrev S2048x1024 : Shape := ⟨2, ![2048, 1024]⟩
abbrev S2048x1536 : Shape := ⟨2, ![2048, 1536]⟩
abbrev S2048x640 : Shape := ⟨2, ![2048, 640]⟩
abbrev S2048x128 : Shape := ⟨2, ![2048, 128]⟩
abbrev S2048x512 : Shape := ⟨2, ![2048, 512]⟩
abbrev S1024x4480 : Shape := ⟨2, ![1024, 4480]⟩
abbrev S4x1x1024 : Shape := ⟨3, ![4, 1, 1024]⟩
abbrev S2048x4480 : Shape := ⟨2, ![2048, 4480]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 72
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1536, .bf16⟩
  | .hbm, ⟨2, _⟩ => ⟨S2048x640, .bf16⟩
  | .hbm, ⟨3, _⟩ => ⟨S2048x128, .f32⟩
  | .hbm, ⟨4, _⟩ => ⟨S2048x512, .bf16⟩
  | .hbm, ⟨5, _⟩ => ⟨S2048x512, .bf16⟩
  | .hbm, ⟨6, _⟩ => ⟨S2048x128, .bf16⟩
  | .hbm, ⟨7, _⟩ => ⟨S1024x4480, .bf16⟩
  | .hbm, ⟨8, _⟩ => ⟨S2048x1024, .f32⟩
  | .hbm, ⟨9, _⟩ => ⟨S2048x1024, .f32⟩
  | .hbm, ⟨10, _⟩ => ⟨S4x1x1024, .f32⟩
  | .hbm, ⟨11, _⟩ => ⟨S2048x1024, .f32⟩
  | .hbm, ⟨12, _⟩ => ⟨S2048x1536, .f32⟩
  | .hbm, ⟨13, _⟩ => ⟨S2048x640, .f32⟩
  | .hbm, ⟨14, _⟩ => ⟨S2048x512, .f32⟩
  | .hbm, ⟨15, _⟩ => ⟨S2048x512, .f32⟩
  | .hbm, ⟨16, _⟩ => ⟨S2048x128, .f32⟩
  | .hbm, ⟨17, _⟩ => ⟨S2048x4480, .f32⟩
  | .hbm, ⟨18, _⟩ => ⟨S4x1024, .f32⟩
  | .hbm, ⟨19, _⟩ => ⟨S1x1024, .f32⟩
  | .hbm, ⟨20, _⟩ => ⟨S1024, .f32⟩
  | .hbm, ⟨21, _⟩ => ⟨S2048x1024, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S1024x4480, .f32⟩
  | .hbm, ⟨42, _⟩ => ⟨S2048x4480, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S2048x1024, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S1x1024, .f32⟩
  | .hbm, ⟨71, _⟩ => ⟨S2048x4480, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Proof.Attn.Block.lean ====
/-
  What one block of the attention gradient computes, as named arrays: the two groups of heads' probabilities, the
  derivative of the scores, and from them the block's rows of dq and its additions to dk, dv and the sinks' derivative,
  each a payload of the kernel's text applied to the block's arguments; and the step a grid point makes on the arrays
  that are summed over the grid. At any value instance.
-/
module

public import proofs.«01_k».proof.Proof.Gen.KernelIdeal.Frame
public import proofs.«01_k».proof.Proof.Gen.KernelIdeal.Skeleton

@[expose] public section

set_option maxRecDepth 16384

noncomputable section

namespace Cert.Proof.Attn

open Cert.KernelIdeal Cert.KernelIdeal.Gen
open Idealize.ShloMosaic

variable {F : FTy → Type} [FloatOps F]

/-- The rows of the block before the grid point's own (of its own at the first point), in closed form. -/
theorem off2_eq : ∀ i : grid0.Coords, k0_off2 i = ![128 * ((i 0).val - 1), 0] := by decide +kernel

/-- The block's own rows and the rows before them in a key, value, dk or dv array. -/
abbrev rOwn (i : grid0.Coords) : Rect S2048x128 := Rect.unit (s := S2048x128) (k0_off1 i) S128x128.size (k0_off1_inb i)
abbrev rPrev (i : grid0.Coords) : Rect S2048x128 := Rect.unit (s := S2048x128) (k0_off2 i) S128x128.size (k0_off2_inb i)
/-- The whole of a block of query rows, and of the sinks' derivative. -/
abbrev rRows : Rect S128x512 := Rect.unit (s := S128x512) ![0, 0] S128x512.size inb_S128x512_S128x512_0_0
abbrev rAll : Rect S2048x128 := Rect.unit (s := S2048x128) ![0, 0] S2048x128.size inb_S2048x128_S2048x128_0_0
abbrev rSink : Rect S8x128 := Rect.unit (s := S8x128) ![0, 0] S8x128.size inb_S8x128_S8x128_0_0

/-- What the body reads at a grid point: the point, the sinks, the block's query rows, all keys, all values and the
    block's rows of the output's derivative. -/
structure Blk (F : FTy → Type) where
  i : grid0.Coords
  x1 : Vec F S32 .f32
  x2 : Vec F S128x512 .f32
  x3 : Vec F S2048x128 .f32
  x4 : Vec F S2048x128 .f32
  x5 : Vec F S128x512 .f32

variable (B : Blk F)

/-- The loads: query rows and output derivative whole, keys and values at the own and the previous rows. -/
def qv : Vec F S128x512 .f32 := View.ld (Val := Elt F) (e' := .f32) B.x2 rRows
def dov : Vec F S128x512 .f32 := View.ld (Val := Elt F) (e' := .f32) B.x5 rRows
def kOwn : Vec F S128x128 .f32 := View.ld (Val := Elt F) (e' := .f32) B.x3 (rOwn B.i)
def kPrev : Vec F S128x128 .f32 := View.ld (Val := Elt F) (e' := .f32) B.x3 (rPrev B.i)
def vOwn : Vec F S128x128 .f32 := View.ld (Val := Elt F) (e' := .f32) B.x4 (rOwn B.i)
def vPrev : Vec F S128x128 .f32 := View.ld (Val := Elt F) (e' := .f32) B.x4 (rPrev B.i)
/-- One sink of the layer. -/
def sk (j : ℕ) (h : ∀ a, (![j] : Fin 1 → ℕ) a + S1.size a ≤ S32.size a) : Elt F .f32 :=
  View.ld (Val := Elt F) (e' := .f32) B.x1 (Rect.unit (s := S32) ![j] S1.size h) (Shape.Idx.first (numel1_S1.symm ▸ Nat.one_pos))

/-- The grid point as a word. -/
def nw : BitVec 32 := BitVec.ofNat 32 (B.i 0).val

/-- Row numbers of a group's stacked heads, the sinks' row numbers, and the key columns. -/
def rowIota : IVec S512x1 32 := iota .tc S512x1 32 [0] iota_S512x1_d0_w32
def sinkIota : IVec S8x128 32 := iota .tc S8x128 32 [0] iota_S8x128_d0_w32
def colIota : IVec S512x128 32 := iota .tc S512x128 32 [1] iota_S512x128_d1_w32

/-- The head a stacked row belongs to. -/
def headOf : IVec S512x1 32 := k0_pay6 rowIota 128#32 k0_pay4 k0_pay5 1#1
/-- Which merged keys are of the own block. -/
def own0 : IVec S512x128 1 := k0_pay15 colIota 128#32 k0_pay12 k0_pay13 k0_pay14

/-! ### The first group of heads -/

def q0 : FVec F S512x64 .f32 := k0_pay8 (qv B)
def do0 : FVec F S512x64 .f32 := k0_pay9 (dov B)
def s0 : FVec F S512x128 .f32 :=
  k0_pay16 (nw B) (k0_pay10 (qv B) (kOwn B)) (k0_pay11 (qv B) (kPrev B)) colIota 128#32 k0_pay12 k0_pay13 k0_pay14
def sa : FVec F S512x1 .f32 := k0_pay18 (sk B 8 inb_S32_S1_8)
def p0 : FVec F S512x128 .f32 := k0_pay25 (s0 B) k0_pay17 (sa B) k0_pay19 (sk B 9 inb_S32_S1_9) (sk B 10 inb_S32_S1_10) (sk B 11 inb_S32_S1_11)
def ps0 : FVec F S512x1 .f32 := k0_pay26 (s0 B) k0_pay17 (sa B) k0_pay19 (sk B 9 inb_S32_S1_9) (sk B 10 inb_S32_S1_10) (sk B 11 inb_S32_S1_11)
def del0 : FVec F S512x1 .f32 :=
  k0_pay28 (vOwn B) (vPrev B) (do0 B) own0 (s0 B) k0_pay17 (sa B) k0_pay19 (sk B 9 inb_S32_S1_9) (sk B 10 inb_S32_S1_10) (sk B 11 inb_S32_S1_11)
def ds0 : FVec F S512x128 .f32 :=
  k0_pay29 (vOwn B) (vPrev B) (do0 B) own0 (s0 B) k0_pay17 (sa B) k0_pay19 (sk B 9 inb_S32_S1_9) (sk B 10 inb_S32_S1_10) (sk B 11 inb_S32_S1_11)
def dsOwn0 : FVec F S512x128 .f32 :=
  k0_pay30 (vOwn B) (vPrev B) (do0 B) own0 (s0 B) k0_pay17 (sa B) k0_pay19 (sk B 9 inb_S32_S1_9) (sk B 10 inb_S32_S1_10) (sk B 11 inb_S32_S1_11)
def dq0 : FVec F S512x64 .f32 := k0_pay32 (kOwn B) (kPrev B) own0 (ds0 B) (dsOwn0 B)
def dkOwn0 : FVec F S128x64 .f32 := k0_pay33 (q0 B) (dsOwn0 B)
def dvOwn0 : FVec F S128x64 .f32 := k0_pay34 (do0 B) own0 (p0 B) (Scalar.ofBits .f32 0x00000000#32)
def dkPrev0 : FVec F S128x64 .f32 := k0_pay35 (q0 B) own0 (ds0 B)
def dvPrev0 : FVec F S128x64 .f32 := k0_pay36 (do0 B) own0 (p0 B)
def acc0 : FVec F S8x128 .f32 :=
  k0_pay40 headOf sinkIota k0_pay7 (k0_pay37 (ps0 B) (del0 B)) (k0_pay38 headOf (ps0 B) (del0 B)) (k0_pay39 sinkIota)

/-! ### The second -/

def q1 : FVec F S512x64 .f32 := k0_pay41 (qv B)
def do1 : FVec F S512x64 .f32 := k0_pay42 (dov B)
def s1 : FVec F S512x128 .f32 := k0_pay44 (nw B) (qv B) (kOwn B) (kPrev B)
def sb : FVec F S512x1 .f32 :=
  k0_pay46 rowIota 128#32 k0_pay45 (sk B 12 inb_S32_S1_12) (sk B 13 inb_S32_S1_13) (sk B 14 inb_S32_S1_14) (sk B 15 inb_S32_S1_15)
def ps1 : FVec F S512x1 .f32 := k0_pay52 (s1 B) (sb B)
def del1 : FVec F S512x1 .f32 := k0_pay54 (vOwn B) (vPrev B) (do1 B) k0_pay43 (s1 B) (sb B)
def dsOwn1 : FVec F S512x128 .f32 := k0_pay56 (vOwn B) (vPrev B) (do1 B) k0_pay43 (s1 B) (sb B)
def pOwn1 : FVec F S512x128 .f32 := k0_pay57 k0_pay43 (s1 B) (sb B)
def dsPrev1 : FVec F S512x128 .f32 := k0_pay58 (vOwn B) (vPrev B) (do1 B) k0_pay43 (s1 B) (sb B)
def pPrev1 : FVec F S512x128 .f32 := k0_pay59 k0_pay43 (s1 B) (sb B)
def dq1 : FVec F S512x64 .f32 :=
  k0_pay61 (k0_pay60 (kOwn B) (kPrev B) (vOwn B) (vPrev B) (do1 B) k0_pay43 (s1 B) (sb B)) (Scalar.ofBits .f32 0x3E000000#32)
def dkOwn1 : FVec F S128x64 .f32 := k0_pay62 (q1 B) (dsOwn1 B)
def dvOwn1 : FVec F S128x64 .f32 := k0_pay63 (do1 B) (pOwn1 B)
def dkPrev1 : FVec F S128x64 .f32 := k0_pay64 (q1 B) (dsPrev1 B)
def dvPrev1 : FVec F S128x64 .f32 := k0_pay65 (do1 B) (pPrev1 B)
def acc1 : FVec F S8x128 .f32 :=
  k0_pay70 headOf sinkIota (k0_pay66 (ps1 B) (del1 B)) (k0_pay67 headOf sinkIota (acc0 B) (ps1 B) (del1 B)) (k0_pay68 sinkIota)
    (Scalar.ofBits .f32 0x00000000#32) (k0_pay69 headOf (ps1 B) (del1 B))

/-! ### The block's rows of dq, and the step on the arrays summed over the grid -/

def dqRows : FVec F S128x512 .f32 := k0_pay71 (dq0 B) (dq1 B)

/-- dk after the point, of what it held before: the own rows added to, then the previous ones. -/
def stepK (a : Vec F S2048x128 .f32) : Vec F S2048x128 .f32 :=
  let a' := (rOwn B.i).overlay a (k0_pay72 (dkOwn0 B) (dkOwn1 B) (View.ld (Val := Elt F) (e' := .f32) a (rOwn B.i)))
  (rPrev B.i).overlay a' (k0_pay74 (dkPrev0 B) (dkPrev1 B) (View.ld (Val := Elt F) (e' := .f32) a' (rPrev B.i)))
/-- dv likewise. -/
def stepV (a : Vec F S2048x128 .f32) : Vec F S2048x128 .f32 :=
  let a' := (rOwn B.i).overlay a (k0_pay73 (dvOwn0 B) (dvOwn1 B) (View.ld (Val := Elt F) (e' := .f32) a (rOwn B.i)))
  (rPrev B.i).overlay a' (k0_pay75 (dvPrev0 B) (dvPrev1 B) (View.ld (Val := Elt F) (e' := .f32) a' (rPrev B.i)))
/-- The sinks' derivative likewise. -/
def stepS (a : Vec F S8x128 .f32) : Vec F S8x128 .f32 := rSink.overlay a (k0_pay76 (acc1 B) (View.ld (Val := Elt F) (e' := .f32) a rSink))

end Cert.Proof.Attn
-- ==== Proof.Attn.Body.lean ====
/-
  The body of the attention gradient, run once at a grid point: at the first point, where the arrays summed over the
  grid are set to zero, and at any other. At any value instance.
-/
module

public import proofs.«01_k».proof.Proof.Attn.Block
public import Idealize.ShloMosaic.Lib.Pipeline.Frame
public import Idealize.ShloMosaic.Lib.Tactic

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

instance closed2 (i : grid0.Coords) : ClosedOff (k0_off2 i) := ⟨![128 * ((i 0).val - 1), 0], off2_eq i⟩

/-- What a buffer reads as after one more store: the stored rectangle over what it read as before. -/
theorem read_writes_overlay {sig' : RefSig} {κ : Kind} {sp : Space} {s : Shape} {e : EltTy} {Val : EltTy → Type}
    (v : View sig' κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [View.read_writes_cons_miss v f ⟨r, w⟩ L y hy, Rect.overlay_of_not_mem _ _ _ hy]

/-- Two stores, each of a function of what its rectangle read as at the time: the second over the first, over what the
    stores `L₀` before them left. -/
theorem two_stores {sig' : RefSig} {κ : Kind} {sp : Space} {s : Shape} {e : EltTy} {Val : EltTy → Type}
    (v : View sig' κ sp s e) (f : v.ty.Contents Val) (r₁ r₂ : Rect s)
    (g₁ : (r₁.shape.Idx → Val e) → r₁.shape.Idx → Val e) (g₂ : (r₂.shape.Idx → Val e) → r₂.shape.Idx → Val e)
    (L L₀ : List (View.Piece Val s e)) (w₁ : r₁.shape.Idx → Val e) (w₂ : r₂.shape.Idx → Val e) (hL : L = ⟨r₁, w₁⟩ :: L₀)
    (h₁ : w₁ = g₁ (v.readAt Val r₁ (v.writes Val f L₀))) (h₂ : w₂ = g₂ (v.readAt Val r₂ (v.writes Val f L))) :
    v.read Val (v.writes Val f (⟨r₂, w₂⟩ :: L))
      = r₂.overlay (r₁.overlay (v.read Val (v.writes Val f L₀)) (g₁ (View.ld (v.read Val (v.writes Val f L₀)) r₁)))
          (g₂ (View.ld (r₁.overlay (v.read Val (v.writes Val f L₀)) (g₁ (View.ld (v.read Val (v.writes Val f L₀)) r₁))) r₂)) := by
  subst hL h₂ h₁
  simp only [View.readAt_eq_ld, read_writes_overlay]

/-- A store of a whole array leaves the array stored. -/
theorem overlay_full {α : Type} (s : Shape) (off : Fin s.rank → ℕ) (h0 : ∀ a, off a = 0) (inb : ∀ a, off a + s.size a ≤ s.size a)
    (X : s.Idx → α) (w : s.Idx → α) : (Rect.unit off s.size inb).overlay X w = w := by
  funext y
  have e : (Rect.unit off s.size inb).emb y = y := funext fun a => Fin.ext (by
    show off a + 1 * (y a).val = (y a).val
    rw [h0 a]; omega)
  exact (congrArg ((Rect.unit off s.size inb).overlay X w) e.symm).trans (Rect.overlay_emb (Rect.unit off s.size inb) X w y)

/-- What a buffer reads as after a store of it whole. -/
theorem read_writes_full {sig' : RefSig} {κ : Kind} {sp : Space} {s : Shape} {e : EltTy} {Val : EltTy → Type}
    (v : View sig' κ sp s e) (f : v.ty.Contents Val) (off : Fin s.rank → ℕ) (h0 : ∀ a, off a = 0)
    (inb : ∀ a, off a + s.size a ≤ s.size a) (w : s.Idx → Val e) (L : List (View.Piece Val s e)) :
    v.read Val (v.writes Val f (⟨Rect.unit off s.size inb, w⟩ :: L)) = w :=
  (read_writes_overlay v f (Rect.unit off s.size inb) w L).trans (overlay_full s off h0 inb _ w)

theorem zeros2 : ∀ a : Fin 2, (![0, 0] : Fin 2 → ℕ) a = 0 := by decide

/-- What the five argument buffers hold, as the body's arguments. -/
abbrev blk (i : grid0.Coords) (M1 : Memref sig .tc .smem S32 .f32) (M2 : Memref sig .tc .vmem S128x512 .f32)
    (M3 M4 : Memref sig .tc .vmem S2048x128 .f32) (M5 : Memref sig .tc .vmem S128x512 .f32)
    (f1 : M1.view.ty.Contents (Elt F)) (f2 : M2.view.ty.Contents (Elt F)) (f3 : M3.view.ty.Contents (Elt F))
    (f4 : M4.view.ty.Contents (Elt F)) (f5 : M5.view.ty.Contents (Elt F)) : Blk F :=
  ⟨i, M1.view.read (Elt F) f1, M2.view.read (Elt F) f2, M3.view.read (Elt F) f3, M4.view.read (Elt F) f4, M5.view.read (Elt F) f5⟩

/-- The condition the body tests at the top: whether this is the first point. -/
abbrev first (i : grid0.Coords) : Prop :=
  Scalar.cmpi .ne (Scalar.extui (Scalar.cmpi .eq (BitVec.ofNat 32 (i 0).val) 0#32) : BitVec 32) 0#32 = 1#1

set_option maxHeartbeats 400000 in
/-- At a point after the first. -/
theorem run_later (c : Dev nD) (B : Blk F)
    (M1 : Memref sig .tc .smem S32 .f32) (h1 : M1.IsWhole) (M2 : Memref sig .tc .vmem S128x512 .f32) (h2 : M2.IsWhole)
    (M3 : Memref sig .tc .vmem S2048x128 .f32) (h3 : M3.IsWhole) (M4 : Memref sig .tc .vmem S2048x128 .f32) (h4 : M4.IsWhole)
    (M5 : Memref sig .tc .vmem S128x512 .f32) (h5 : M5.IsWhole) (M6 : Memref sig .tc .vmem S128x512 .f32) (h6 : M6.IsWhole)
    (M7 : Memref sig .tc .vmem S2048x128 .f32) (h7 : M7.IsWhole) (M8 : Memref sig .tc .vmem S2048x128 .f32) (h8 : M8.IsWhole)
    (M9 : Memref sig .tc .vmem S8x128 .f32) (h9 : M9.IsWhole)
    (hc : ¬ first B.i) (a6 : Vec F S128x512 .f32) (a7 a8 : Vec F S2048x128 .f32) (a9 : Vec F S8x128 .f32)
    (K : PUnit → sProp 𝕄) :
    iprop(owns (c : Thread nD τ) M1 fullShare B.x1 ∗ owns (c : Thread nD τ) M2 fullShare B.x2 ∗ owns (c : Thread nD τ) M3 fullShare B.x3
      ∗ owns (c : Thread nD τ) M4 fullShare B.x4 ∗ owns (c : Thread nD τ) M5 fullShare B.x5
      ∗ owns (c : Thread nD τ) M6 fullShare a6 ∗ owns (c : Thread nD τ) M7 fullShare a7 ∗ owns (c : Thread nD τ) M8 fullShare a8
      ∗ owns (c : Thread nD τ) M9 fullShare a9
      ∗ (iprop(owns (c : Thread nD τ) M1 fullShare B.x1 ∗ owns (c : Thread nD τ) M2 fullShare B.x2 ∗ owns (c : Thread nD τ) M3 fullShare B.x3
          ∗ owns (c : Thread nD τ) M4 fullShare B.x4 ∗ owns (c : Thread nD τ) M5 fullShare B.x5
          ∗ owns (c : Thread nD τ) M6 fullShare (dqRows B) ∗ owns (c : Thread nD τ) M7 fullShare (stepK B a7)
          ∗ owns (c : Thread nD τ) M8 fullShare (stepV B a8) ∗ owns (c : Thread nD τ) M9 fullShare (stepS B a9)) -∗ K ⟨⟩))
    ⊢ wp frame (wpE (defs₀ (F := F)) Variants.none c none) Set.univ
        (cc0_attn_bwd B.i M1 h1 M2 h2 M3 h3 M4 h4 M5 h5 M6 h6 M7 h7 M8 h8 M9 h9) K := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
  obtain ⟨i, x1, x2, x3, x4, x5⟩ := B
  dsimp only at e1 e2 e3 e4 e5 hc ⊢
  subst e1 e2 e3 e4 e5 e6 e7 e8 e9
  sl_unfold [cc0_attn_bwd]
  sl_exec
  sl_step
  iapply Hk
  isplitl [H1]; · iexists f1; isplitr; swap; · iexact H1
                  ipureintro; rfl
  isplitl [H2]; · iexists f2; isplitr; swap; · iexact H2
                  ipureintro; rfl
  isplitl [H3]; · iexists f3; isplitr; swap; · iexact H3
                  ipureintro; rfl
  isplitl [H4]; · iexists f4; isplitr; swap; · iexact H4
                  ipureintro; rfl
  isplitl [H5]; · iexists f5; isplitr; swap; · iexact H5
                  ipureintro; rfl
  isplitl [H6]
  · iexists _; isplitr; swap; · iexact H6
    ipureintro
    exact read_writes_full M6.view f6 _ zeros2 _ _ _
  isplitl [H7]
  · iexists _; isplitr; swap; · iexact H7
    ipureintro
    exact (two_stores M7.view f7 (rOwn i) (rPrev i)
      (k0_pay72 (dkOwn0 (blk i M1 M2 M3 M4 M5 f1 f2 f3 f4 f5)) (dkOwn1 (blk i M1 M2 M3 M4 M5 f1 f2 f3 f4 f5))) (k0_pay74 (dkPrev0 (blk i M1 M2 M3 M4 M5 f1 f2 f3 f4 f5)) (dkPrev1 (blk i M1 M2 M3 M4 M5 f1 f2 f3 f4 f5)))
      _ [] _ _ (by with_unfolding_all rfl) (by congr 1) (by congr 1)).trans (by unfold stepK; rfl)
  isplitl [H8]
  · iexists _; isplitr; swap; · iexact H8
    ipureintro
    exact (two_stores M8.view f8 (rOwn i) (rPrev i)
      (k0_pay73 (dvOwn0 (blk i M1 M2 M3 M4 M5 f1 f2 f3 f4 f5)) (dvOwn1 (blk i M1 M2 M3 M4 M5 f1 f2 f3 f4 f5))) (k0_pay75 (dvPrev0 (blk i M1 M2 M3 M4 M5 f1 f2 f3 f4 f5)) (dvPrev1 (blk i M1 M2 M3 M4 M5 f1 f2 f3 f4 f5)))
      _ [] _ _ (by with_unfolding_all rfl) (by congr 1) (by congr 1)).trans (by unfold stepV; rfl)
  iexists _; isplitr; swap; · iexact H9
  ipureintro
  rw [read_writes_overlay]; rfl

set_option maxHeartbeats 400000 in
/-- At the first point: whatever the three arrays held. -/
theorem run_first (c : Dev nD) (B : Blk F)
    (M1 : Memref sig .tc .smem S32 .f32) (h1 : M1.IsWhole) (M2 : Memref sig .tc .vmem S128x512 .f32) (h2 : M2.IsWhole)
    (M3 : Memref sig .tc .vmem S2048x128 .f32) (h3 : M3.IsWhole) (M4 : Memref sig .tc .vmem S2048x128 .f32) (h4 : M4.IsWhole)
    (M5 : Memref sig .tc .vmem S128x512 .f32) (h5 : M5.IsWhole) (M6 : Memref sig .tc .vmem S128x512 .f32) (h6 : M6.IsWhole)
    (M7 : Memref sig .tc .vmem S2048x128 .f32) (h7 : M7.IsWhole) (M8 : Memref sig .tc .vmem S2048x128 .f32) (h8 : M8.IsWhole)
    (M9 : Memref sig .tc .vmem S8x128 .f32) (h9 : M9.IsWhole)
    (hc : first B.i) (a6 : Vec F S128x512 .f32) (a7 a8 : Vec F S2048x128 .f32) (a9 : Vec F S8x128 .f32)
    (K : PUnit → sProp 𝕄) :
    iprop(owns (c : Thread nD τ) M1 fullShare B.x1 ∗ owns (c : Thread nD τ) M2 fullShare B.x2 ∗ owns (c : Thread nD τ) M3 fullShare B.x3
      ∗ owns (c : Thread nD τ) M4 fullShare B.x4 ∗ owns (c : Thread nD τ) M5 fullShare B.x5
      ∗ owns (c : Thread nD τ) M6 fullShare a6 ∗ owns (c : Thread nD τ) M7 fullShare a7 ∗ owns (c : Thread nD τ) M8 fullShare a8
      ∗ owns (c : Thread nD τ) M9 fullShare a9
      ∗ (iprop(owns (c : Thread nD τ) M1 fullShare B.x1 ∗ owns (c : Thread nD τ) M2 fullShare B.x2 ∗ owns (c : Thread nD τ) M3 fullShare B.x3
          ∗ owns (c : Thread nD τ) M4 fullShare B.x4 ∗ owns (c : Thread nD τ) M5 fullShare B.x5
          ∗ owns (c : Thread nD τ) M6 fullShare (dqRows B) ∗ owns (c : Thread nD τ) M7 fullShare (stepK B k0_pay1)
          ∗ owns (c : Thread nD τ) M8 fullShare (stepV B k0_pay2) ∗ owns (c : Thread nD τ) M9 fullShare (stepS B k0_pay3)) -∗ K ⟨⟩))
    ⊢ wp frame (wpE (defs₀ (F := F)) Variants.none c none) Set.univ
        (cc0_attn_bwd B.i M1 h1 M2 h2 M3 h3 M4 h4 M5 h5 M6 h6 M7 h7 M8 h8 M9 h9) K := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
  obtain ⟨i, x1, x2, x3, x4, x5⟩ := B
  dsimp only at e1 e2 e3 e4 e5 hc ⊢
  subst e1 e2 e3 e4 e5 e6 e7 e8 e9
  sl_unfold [cc0_attn_bwd]
  sl_exec
  sl_step
  iapply Hk
  isplitl [H1]; · iexists f1; isplitr; swap; · iexact H1
                  ipureintro; rfl
  isplitl [H2]; · iexists f2; isplitr; swap; · iexact H2
                  ipureintro; rfl
  isplitl [H3]; · iexists f3; isplitr; swap; · iexact H3
                  ipureintro; rfl
  isplitl [H4]; · iexists f4; isplitr; swap; · iexact H4
                  ipureintro; rfl
  isplitl [H5]; · iexists f5; isplitr; swap; · iexact H5
                  ipureintro; rfl
  isplitl [H6]
  · iexists _; isplitr; swap; · iexact H6
    ipureintro
    exact read_writes_full M6.view f6 _ zeros2 _ _ _
  isplitl [H7]
  · iexists _; isplitr; swap; · iexact H7
    ipureintro
    exact (two_stores M7.view M7.view.junk (rOwn i) (rPrev i)
      (k0_pay72 (dkOwn0 (blk i M1 M2 M3 M4 M5 f1 f2 f3 f4 f5)) (dkOwn1 (blk i M1 M2 M3 M4 M5 f1 f2 f3 f4 f5))) (k0_pay74 (dkPrev0 (blk i M1 M2 M3 M4 M5 f1 f2 f3 f4 f5)) (dkPrev1 (blk i M1 M2 M3 M4 M5 f1 f2 f3 f4 f5)))
      _ [⟨rAll, k0_pay1⟩] _ _ (by with_unfolding_all rfl) (by congr 1) (by congr 1)).trans
      (by rw [read_writes_full M7.view _ _ zeros2]; rfl)
  isplitl [H8]
  · iexists _; isplitr; swap; · iexact H8
    ipureintro
    exact (two_stores M8.view M8.view.junk (rOwn i) (rPrev i)
      (k0_pay73 (dvOwn0 (blk i M1 M2 M3 M4 M5 f1 f2 f3 f4 f5)) (dvOwn1 (blk i M1 M2 M3 M4 M5 f1 f2 f3 f4 f5))) (k0_pay75 (dvPrev0 (blk i M1 M2 M3 M4 M5 f1 f2 f3 f4 f5)) (dvPrev1 (blk i M1 M2 M3 M4 M5 f1 f2 f3 f4 f5)))
      _ [⟨rAll, k0_pay2⟩] _ _ (by with_unfolding_all rfl) (by congr 1) (by congr 1)).trans
      (by rw [read_writes_full M8.view _ _ zeros2]; rfl)
  iexists _; isplitr; swap; · iexact H9
  ipureintro
  have e : M9.view.read (Elt F) (M9.view.writes (Elt F) M9.view.junk [⟨rSink, k0_pay3⟩]) = k0_pay3 :=
    read_writes_full M9.view _ _ zeros2 _ _ _
  refine (read_writes_full M9.view _ _ zeros2 _ _ _).trans (Eq.trans ?_ ((congrArg (fun X => k0_pay76 (acc1 (blk i M1 M2 M3 M4 M5 f1 f2 f3 f4 f5))
    (View.ld (Val := Elt F) (e' := .f32) X rSink)) e).trans (overlay_full S8x128 _ zeros2 _ _ _).symm))
  with_unfolding_all rfl

end Cert.Proof.Attn
-- ==== Proof.Attn.Run.lean ====
/-
  The run of the attention gradient over the grid: what each window's buffer holds after each point (dk, dv and the
  sinks' derivative summed from the first point on), the body's obligation at a point, and the run of the whole program.
  At any value instance.
-/
module

public import proofs.«01_k».proof.Proof.Attn.Body

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's arguments at a point: the windows' blocks there. -/
def blkAt (c : Dev nD) (t : Fin cfg0.N) : Blk F :=
  ⟨grid0.coords t, iblk m c 0 t, X0_1 m c t, iblk m c 2 t, iblk m c 3 t, iblk m c 4 t⟩

/-- What dk's buffer holds after the points up to `n`: the steps from zero. -/
def accK (c : Dev nD) : (n : ℕ) → n < cfg0.N → Vec F S2048x128 .f32
  | 0, h => stepK (blkAt m c ⟨0, h⟩) k0_pay1
  | n + 1, h => stepK (blkAt m c ⟨n + 1, h⟩) (accK c n (Nat.lt_of_succ_lt h))
/-- dv's likewise. -/
def accV (c : Dev nD) : (n : ℕ) → n < cfg0.N → Vec F S2048x128 .f32
  | 0, h => stepV (blkAt m c ⟨0, h⟩) k0_pay2
  | n + 1, h => stepV (blkAt m c ⟨n + 1, h⟩) (accV c n (Nat.lt_of_succ_lt h))
/-- The sinks' derivative's likewise. -/
def accS (c : Dev nD) : (n : ℕ) → n < cfg0.N → Vec F S8x128 .f32
  | 0, h => stepS (blkAt m c ⟨0, h⟩) k0_pay3
  | n + 1, h => stepS (blkAt m c ⟨n + 1, h⟩) (accS c n (Nat.lt_of_succ_lt h))

/-- The arrays as the region finds them; after the body each input's buffer at its block, dq's at the block's rows, the
    others at their sums so far; the two windows on one array hold their shares of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => dqRows (blkAt m c t)
    | ⟨6, _⟩ => accK m c t.val t.isLt
    | ⟨7, _⟩ => accV m c t.val t.isLt
    | ⟨8, _⟩ => accS m c t.val t.isLt
  Φ _ := Pipeline.ΦA spec0 c
  q w := Pipeline.shareOf spec0 w
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = dqRows (blkAt m c t) := by dsimp only [dats]
theorem after_6 (c : Dev nD) (t : Fin cfg0.N) : (dats m 0 c).after 6 t = accK m c t.val t.isLt := by dsimp only [dats]
theorem after_7 (c : Dev nD) (t : Fin cfg0.N) : (dats m 0 c).after 7 t = accV m c t.val t.isLt := by dsimp only [dats]
theorem after_8 (c : Dev nD) (t : Fin cfg0.N) : (dats m 0 c).after 8 t = accS m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The point before `t`. -/
abbrev pred (t : Fin cfg0.N) : Fin cfg0.N := ⟨t.val - 1, Nat.lt_of_le_of_lt (Nat.sub_le _ _) t.isLt⟩

theorem not_last (t : Fin cfg0.N) (ht : t.val ≠ 0) : ¬ (pred t).val % 16 = 15 := by
  have h16 : t.val < 16 := lt_of_lt_of_eq t.isLt N_0
  show ¬ (t.val - 1) % 16 = 15
  omega

theorem before_6 (c : Dev nD) (t : Fin cfg0.N) (ht : t.val ≠ 0) (d) :
    (dats m 0 c).before 6 t d = accK m c (t.val - 1) (pred t).isLt :=
  ((dats m 0 c).before_out_kept 6 rfl t ht (Bool.eq_false_iff.mpr fun h => not_last t ht ((flush0_6 (pred t)).mp h)) (fun _ => rfl) (fun _ _ => rfl) d).trans
    (after_6 m c (pred t))
theorem before_7 (c : Dev nD) (t : Fin cfg0.N) (ht : t.val ≠ 0) (d) :
    (dats m 0 c).before 7 t d = accV m c (t.val - 1) (pred t).isLt :=
  ((dats m 0 c).before_out_kept 7 rfl t ht (Bool.eq_false_iff.mpr fun h => not_last t ht ((flush0_7 (pred t)).mp h)) (fun _ => rfl) (fun _ _ => rfl) d).trans
    (after_7 m c (pred t))
theorem before_8 (c : Dev nD) (t : Fin cfg0.N) (ht : t.val ≠ 0) (d) :
    (dats m 0 c).before 8 t d = accS m c (t.val - 1) (pred t).isLt :=
  ((dats m 0 c).before_out_kept 8 rfl t ht (Bool.eq_false_iff.mpr fun h => not_last t ht ((flush0_8 (pred t)).mp h)) (fun _ => rfl) (fun _ _ => rfl) d).trans
    (after_8 m c (pred t))

theorem accK_first (c : Dev nD) (t : Fin cfg0.N) (ht : t.val = 0) : accK m c t.val t.isLt = stepK (blkAt m c t) k0_pay1 := by
  obtain ⟨n, h⟩ := t; dsimp only at ht; subst ht; rfl
theorem accV_first (c : Dev nD) (t : Fin cfg0.N) (ht : t.val = 0) : accV m c t.val t.isLt = stepV (blkAt m c t) k0_pay2 := by
  obtain ⟨n, h⟩ := t; dsimp only at ht; subst ht; rfl
theorem accS_first (c : Dev nD) (t : Fin cfg0.N) (ht : t.val = 0) : accS m c t.val t.isLt = stepS (blkAt m c t) k0_pay3 := by
  obtain ⟨n, h⟩ := t; dsimp only at ht; subst ht; rfl
theorem accK_later (c : Dev nD) (t : Fin cfg0.N) (ht : t.val ≠ 0) :
    accK m c t.val t.isLt = stepK (blkAt m c t) (accK m c (t.val - 1) (pred t).isLt) := by
  obtain ⟨n, h⟩ := t; cases n with | zero => exact absurd rfl ht | succ n => rfl
theorem accV_later (c : Dev nD) (t : Fin cfg0.N) (ht : t.val ≠ 0) :
    accV m c t.val t.isLt = stepV (blkAt m c t) (accV m c (t.val - 1) (pred t).isLt) := by
  obtain ⟨n, h⟩ := t; cases n with | zero => exact absurd rfl ht | succ n => rfl
theorem accS_later (c : Dev nD) (t : Fin cfg0.N) (ht : t.val ≠ 0) :
    accS m c t.val t.isLt = stepS (blkAt m c t) (accS m c (t.val - 1) (pred t).isLt) := by
  obtain ⟨n, h⟩ := t; cases n with | zero => exact absurd rfl ht | succ n => rfl

/-- The body's test holds at the first point alone. -/
theorem first_iff : ∀ t : Fin cfg0.N, first (grid0.coords t) ↔ t.val = 0 := by decide +kernel

theorem body_obligation (c : Dev nD) : BodyObligation (dats (F := F) m 0 c) (defs₀ (F := F)) Variants.none () Set.univ := fun t => by
  rw [bigSep_W0, bigSep_W0]
  sl_whnfR [defs₀, Defs.onTc]
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  by_cases ht : t.val = 0
  · rw [accK_first m c t ht, accV_first m c t ht, accS_first m c t ht]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (blkAt m c t) _ _ _ _ _ _ _ _ _ _ _ _ _ _ _ _ _ _ ((first_iff t).mpr ht) _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [before_6 m c t ht, before_7 m c t ht, before_8 m c t ht]
    rw [accK_later m c t ht, accV_later m c t ht, accS_later m c t ht]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_later c (blkAt m c t) _ _ _ _ _ _ _ _ _ _ _ _ _ _ _ _ _ _ (fun h => ht ((first_iff t).mp h)) _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

-- the launch theorem's implicit arguments are found by unifying its conclusion with this statement, which takes
-- unfolding plain definitions in a metavariable's type
set_option backward.isDefEq.respectTransparency.types false in
/-- The whole program terminates with every array of the pipeline at what the proof data say and every counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := fun _ _ => rfl) (hΦ := fun _ _ => rfl)

end Cert.Proof.Attn
-- ==== Proof.Attn.Frames.lean ====
/- The frames of the attention gradient's programs: each ends with its arguments as they were and every counter at
   zero. The kernel's two frames are one run, taken at the two kinds of float. -/
module

public import proofs.«01_k».proof.Defs
public import proofs.«01_k».proof.Proof.Attn.Run
public import proofs.«01_k».proof.Proof.Gen.Kernel
public import proofs.«01_k».proof.Proof.Gen.ReferenceIdeal.Run

@[expose] public section

noncomputable section

namespace Cert.Proof.Attn

open Idealize.ShloMosaic Idealize.SL.Sem

/-- The idealized kernel's frame. -/
theorem frame_kernelIdeal : Cert.quiescent_KernelIdeal := fun m ρ _ =>
  θ_run_with_sems (Cert.KernelIdeal.Gen.frame_of m ρ (dats m) fun _ _ => rfl) (run_main m ρ)

/-- The two programs' bodies are one text: their tables agree at every label. -/
theorem bodies_eq : @Cert.Kernel.defs₀ Bits _ _ = @Cert.KernelIdeal.defs₀ Bits _ _ :=
  congrArg Defs.onTc (by
    funext ℓ a
    match ℓ, a with
    | 0, (_, _) => rfl)

/-- So are the tables with the pipeline's own labels. -/
theorem tables_eq : @Cert.Kernel.defs Bits _ _ = @Cert.KernelIdeal.defs Bits _ _ :=
  congrArg (Pipeline.defs (Cert.KernelIdeal.pcfgs (F := Bits))) bodies_eq

/-- A run under one table is a run under an equal one. -/
theorem run_congr {nD : ℕ} {τ : Topo} {sig : RefSig} {Val : EltTy → Type} {Λ : Labels} {d d' : Defs nD τ sig Val Λ} (e : d = d')
    {p : (c : Thread nD τ) → Prog (TpuEff nD τ sig Val Λ c.2) PUnit} {s : MemSt nD τ sig Val}
    {Q : PUnit × MemSt nD τ sig Val → Prop} (h : θ_run d' p s Q) : θ_run d p s Q := e ▸ h

/-- The kernel's frame: the same run, at the machine's floats. -/
theorem frame_kernel : Cert.quiescent_Kernel := fun m ρ _ =>
  run_congr tables_eq
    (θ_run_with_sems (Cert.KernelIdeal.Gen.frame_of (F := Bits) m ρ (dats m) fun _ _ => rfl) (run_main (F := Bits) m ρ))

/-- The reference's frame. -/
theorem frame_reference : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

end Cert.Proof.Attn

end
-- ==== Proof.Attn.Row.lean ====
/- One row of the attention and of its gradient, in two spellings of the same numbers.

   A query row sees 128 keys, each in its own block or in the block before, and a sink. One spelling keeps the 128 keys
   merged and divides once; the other lays them out over 257 columns (the block before, the own block, the sink), with
   `⊥` where a column is masked, and differentiates the quotient. Both give the same probabilities and gradients. -/
module

public import Idealize.ShloMosaic.Lib.ValueIdx

@[expose] public section

noncomputable section

namespace Cert.Proof.Attn

open Idealize.ShloMosaic

/-- The column of key `j` of the block before. -/
def cp (j : Fin 128) : Fin 257 := ⟨j.val, by omega⟩
/-- The column of key `j` of the own block. -/
def co (j : Fin 128) : Fin 257 := ⟨128 + j.val, by omega⟩
/-- The sink's column. -/
def cl : Fin 257 := ⟨256, by omega⟩

/-- A sum over the columns, in the three parts. -/
theorem sum_cols {M : Type*} [AddCommMonoid M] (f : Fin 257 → M) :
    ∑ k, f k = ∑ j, f (cp j) + ∑ j, f (co j) + f cl := by
  rw [Fin.sum_univ_castSucc (n := 256) f]
  congr 1
  exact Fin.sum_univ_add (a := 128) (b := 128) (fun k : Fin (128 + 128) => f (Fin.castSucc k))

/-- Every column is one of the three. -/
theorem cols_cases (P : Fin 257 → Prop) (hp : ∀ j, P (cp j)) (ho : ∀ j, P (co j)) (hl : P cl) : ∀ c, P c := by
  intro c
  by_cases h1 : c.val < 128
  · exact hp ⟨c.val, h1⟩
  by_cases h2 : c.val < 256
  · have e : c = co ⟨c.val - 128, by omega⟩ := Fin.ext (by show c.val = 128 + (c.val - 128); omega)
    rw [e]; exact ho _
  · have e : c = cl := Fin.ext (by show c.val = 256; omega)
    rw [e]; exact hl

/-- A sum of numbers, taken among the extended ones. -/
theorem sum_coe {ι : Type*} (A : Finset ι) (f : ι → ℝ) : ∑ j ∈ A, (f j : EReal) = ((∑ j ∈ A, f j : ℝ) : EReal) := by
  classical
  induction A using Finset.induction_on with
  | empty => rfl
  | insert a A ha ih => rw [Finset.sum_insert ha, Finset.sum_insert ha, ih, EReal.coe_add]

/- The merged spelling: scores `x`, gradients `y` of the probabilities, the sink's score `σ`. -/

def kM (x : Fin 128 → EReal) (σ : EReal) : EReal := max ((Finset.univ : Finset (Fin 128)).fold max ⊥ x) σ
def kInv (x : Fin 128 → EReal) (σ : EReal) : EReal :=
  Ideal.div 1 (∑ j, Ideal.exp (x j - kM x σ) + Ideal.exp (σ - kM x σ))
def kP (x : Fin 128 → EReal) (σ : EReal) (j : Fin 128) : EReal := Ideal.exp (x j - kM x σ) * kInv x σ
def kPs (x : Fin 128 → EReal) (σ : EReal) : EReal := Ideal.exp (σ - kM x σ) * kInv x σ
def kDel (x y : Fin 128 → EReal) (σ : EReal) : EReal := ∑ j, kP x σ j * y j
def kD (x y : Fin 128 → EReal) (σ : EReal) (j : Fin 128) : EReal := kP x σ j * (y j - kDel x y σ)
def kDs (x y : Fin 128 → EReal) (σ : EReal) : EReal := 0 - kPs x σ * kDel x y σ

/- The spelling over the 257 columns. -/

def rM (X : Fin 257 → EReal) : EReal := Finset.univ.sup X
def rE (X : Fin 257 → EReal) (c : Fin 257) : EReal := Ideal.exp (X c - rM X)
def rS (X : Fin 257 → EReal) : EReal := ∑ c, rE X c
def rP (X : Fin 257 → EReal) (c : Fin 257) : EReal := Ideal.div (rE X c) (rS X)
def rT (X Y : Fin 257 → EReal) : EReal := ∑ c, Y c * Ideal.div 1 (rS X * rS X) * rE X c
def rD (X Y : Fin 257 → EReal) (c : Fin 257) : EReal := (Ideal.div (Y c) (rS X) + -(rT X Y)) * rE X c

/-- The two spellings' data. -/
structure RowOf (own : Fin 128 → Prop) [DecidablePred own] (x y : Fin 128 → EReal) (σ : EReal) (X Y : Fin 257 → EReal) : Prop where
  hx : ∀ j, x j = ⊥ ∨ ∃ r : ℝ, x j = r
  hy : ∀ j, ∃ r : ℝ, y j = r
  hσ : ∃ r : ℝ, σ = r
  xo : ∀ j, X (co j) = if own j then x j else ⊥
  xp : ∀ j, X (cp j) = if own j then ⊥ else x j
  xl : X cl = σ
  hY : ∀ c, ∃ r : ℝ, Y c = r
  yo : ∀ j, own j → Y (co j) = y j
  yp : ∀ j, ¬ own j → x j ≠ ⊥ → Y (cp j) = y j
  yl : Y cl = 0

namespace RowOf

variable {own : Fin 128 → Prop} [DecidablePred own] {x y : Fin 128 → EReal} {σ : EReal} {X Y : Fin 257 → EReal}

theorem max_eq (h : RowOf own x y σ X Y) : rM X = kM x σ := by
  refine eq_of_forall_ge_iff fun c => ?_
  rw [rM, kM, Finset.sup_le_iff, max_le_iff, Finset.fold_max_le]
  constructor
  · intro H
    refine ⟨⟨bot_le, fun j _ => ?_⟩, h.xl ▸ H cl (Finset.mem_univ _)⟩
    by_cases o : own j
    · have := H (co j) (Finset.mem_univ _); rwa [h.xo, if_pos o] at this
    · have := H (cp j) (Finset.mem_univ _); rwa [h.xp, if_neg o] at this
  · rintro ⟨⟨-, H⟩, hs⟩ k -
    refine cols_cases (fun k => X k ≤ c) (fun j => ?_) (fun j => ?_) (h.xl ▸ hs) k
    · rw [h.xp]; split
      · exact bot_le
      · exact H j (Finset.mem_univ _)
    · rw [h.xo]; split
      · exact H j (Finset.mem_univ _)
      · exact bot_le

/-- The largest score is a number: the sink is one, and no score is `⊤`. -/
theorem max_real (h : RowOf own x y σ X Y) : ∃ r : ℝ, kM x σ = r := by
  obtain ⟨s, hs⟩ := h.hσ
  have hne : ∀ j, x j ≠ ⊤ := fun j => by
    rcases h.hx j with e | ⟨r, e⟩ <;> rw [e]
    · exact bot_ne_top
    · exact EReal.coe_ne_top r
  have hb : kM x σ ≠ ⊥ := fun e => by
    have : σ ≤ ⊥ := e ▸ le_max_right _ _
    rw [hs] at this
    exact EReal.coe_ne_bot s (le_bot_iff.mp this)
  have ht : kM x σ ≠ ⊤ := by
    refine ne_of_lt ?_
    rw [kM, max_lt_iff, Finset.fold_max_lt]
    refine ⟨⟨bot_lt_top, fun j _ => lt_top_iff_ne_top.mpr (hne j)⟩, ?_⟩
    rw [hs]; exact EReal.coe_lt_top s
  exact ⟨(kM x σ).toReal, (EReal.coe_toReal ht hb).symm⟩

/-- The row's numbers: exponentials `e` (zero where a key is masked), the sink's `w`, their sum `s > 0`, the gradients. -/
theorem reals (h : RowOf own x y σ X Y) : ∃ (e z : Fin 128 → ℝ) (w s : ℝ) (u : Fin 257 → ℝ),
    s = ∑ j, e j + w ∧ 0 < s
    ∧ (∀ j, Ideal.exp (x j - kM x σ) = (e j : EReal)) ∧ Ideal.exp (σ - kM x σ) = (w : EReal)
    ∧ (∀ j, y j = (z j : EReal)) ∧ (∀ c, Y c = (u c : EReal))
    ∧ (∀ j, own j → u (co j) = z j) ∧ (∀ j, ¬ own j → e j ≠ 0 → u (cp j) = z j) ∧ u cl = 0 := by
  obtain ⟨m, hm⟩ := h.max_real
  obtain ⟨t, ht⟩ := h.hσ
  choose z hz using h.hy
  choose u hu using h.hY
  have hex : ∀ j, ∃ r : ℝ, 0 ≤ r ∧ Ideal.exp (x j - kM x σ) = (r : EReal) ∧ (r ≠ 0 → x j ≠ ⊥) := fun j => by
    rcases h.hx j with e | ⟨r, e⟩
    · exact ⟨0, le_refl _, by rw [e, EReal.bot_sub, Ideal.exp_bot]; rfl, fun hr => absurd rfl hr⟩
    · exact ⟨Real.exp (r - m), (Real.exp_pos _).le, by rw [e, hm, ← EReal.coe_sub, Ideal.exp_coe],
        fun _ => e ▸ EReal.coe_ne_bot r⟩
  choose e he0 he hne using hex
  refine ⟨e, z, Real.exp (t - m), _, u, rfl, ?_, he, by rw [hm, ht, ← EReal.coe_sub, Ideal.exp_coe], hz, hu, ?_, ?_, ?_⟩
  · exact add_pos_of_nonneg_of_pos (Finset.sum_nonneg fun j _ => he0 j) (Real.exp_pos _)
  · intro j o
    exact EReal.coe_injective (by rw [← hu, ← hz, h.yo j o])
  · intro j o hj
    exact EReal.coe_injective (by rw [← hu, ← hz, h.yp j o (hne j hj)])
  · exact EReal.coe_injective (by rw [← hu, h.yl]; rfl)

/-- What both spellings come to. -/
theorem agree (h : RowOf own x y σ X Y) : ∃ (p d : Fin 128 → ℝ) (ds : ℝ),
    (∀ j, kP x σ j = (p j : EReal)) ∧ (∀ j, kD x y σ j = (d j : EReal)) ∧ kDs x y σ = (ds : EReal)
    ∧ (∀ j, rP X (co j) = if own j then (p j : EReal) else 0) ∧ (∀ j, rP X (cp j) = if own j then 0 else (p j : EReal))
    ∧ (∀ j, rD X Y (co j) = if own j then (d j : EReal) else 0) ∧ (∀ j, rD X Y (cp j) = if own j then 0 else (d j : EReal))
    ∧ rD X Y cl = (ds : EReal) := by
  obtain ⟨e, z, w, s, u, hs, s0, he, hw, hz, hu, uo, up, ul⟩ := h.reals
  have sn : s ≠ 0 := s0.ne'
  have hsum : ∀ f : Fin 128 → ℝ, ∑ j, (f j : EReal) = ((∑ j, f j : ℝ) : EReal) := sum_coe Finset.univ
  -- the merged spelling
  have kinv : kInv x σ = ((1 / s : ℝ) : EReal) := by
    rw [kInv, Finset.sum_congr rfl fun j _ => he j, hw, hsum, ← EReal.coe_add, ← hs, Ideal.div_coe sn, one_mul]
  have kp : ∀ j, kP x σ j = ((e j * (1 / s) : ℝ) : EReal) := fun j => by rw [kP, he, kinv, EReal.coe_mul]
  have kps : kPs x σ = ((w * (1 / s) : ℝ) : EReal) := by rw [kPs, hw, kinv, EReal.coe_mul]
  have kdel : kDel x y σ = ((∑ j, e j * (1 / s) * z j : ℝ) : EReal) := by
    rw [kDel, ← hsum]
    exact Finset.sum_congr rfl fun j _ => by rw [kp, hz, EReal.coe_mul (e j * (1 / s))]
  have kd : ∀ j, kD x y σ j = ((e j * (1 / s) * (z j - ∑ j, e j * (1 / s) * z j) : ℝ) : EReal) := fun j => by
    rw [kD, kp, hz, kdel, ← EReal.coe_sub, ← EReal.coe_mul]
  have kds : kDs x y σ = ((-(w * (1 / s) * ∑ j, e j * (1 / s) * z j) : ℝ) : EReal) := by
    rw [kDs, kps, kdel, ← EReal.coe_mul, zero_sub, EReal.coe_neg]
  -- the columns
  have eo : ∀ j, rE X (co j) = ((if own j then e j else 0 : ℝ) : EReal) := fun j => by
    obtain ⟨m, hm⟩ := h.max_real
    rw [rE, h.max_eq, h.xo]
    split
    · exact he j
    · rw [EReal.bot_sub, Ideal.exp_bot]; rfl
  have ep : ∀ j, rE X (cp j) = ((if own j then 0 else e j : ℝ) : EReal) := fun j => by
    rw [rE, h.max_eq, h.xp]
    split
    · rw [EReal.bot_sub, Ideal.exp_bot]; rfl
    · exact he j
  have el : rE X cl = (w : EReal) := by rw [rE, h.max_eq, h.xl, hw]
  have rs : rS X = (s : EReal) := by
    rw [rS, sum_cols, Finset.sum_congr rfl fun j _ => ep j, Finset.sum_congr rfl fun j _ => eo j, el, hsum, hsum,
      ← EReal.coe_add, ← EReal.coe_add, hs, ← Finset.sum_add_distrib]
    rw [Finset.sum_congr rfl fun j _ => show (if own j then (0 : ℝ) else e j) + (if own j then e j else 0) = e j by
      by_cases o : own j
      · rw [if_pos o, if_pos o, zero_add]
      · rw [if_neg o, if_neg o, add_zero]]
  have rss : Ideal.div 1 (rS X * rS X) = ((1 / (s * s) : ℝ) : EReal) := by
    rw [rs, ← EReal.coe_mul, Ideal.div_coe (mul_ne_zero sn sn), one_mul]
  have tm : ∀ c (v : ℝ), rE X c = (v : EReal) → Y c * Ideal.div 1 (rS X * rS X) * rE X c = ((u c * (1 / (s * s)) * v : ℝ) : EReal) :=
    fun c v hv => by rw [hu, rss, hv, EReal.coe_mul, EReal.coe_mul]
  have upe : ∀ j, ¬ own j → u (cp j) * e j = z j * e j := fun j o => by
    by_cases h0 : e j = 0
    · rw [h0, mul_zero, mul_zero]
    · rw [up j o h0]
  have rt : rT X Y = (((∑ j, e j * (1 / s) * z j) * (1 / s) : ℝ) : EReal) := by
    rw [rT, sum_cols, Finset.sum_congr rfl fun j _ => tm _ _ (ep j), Finset.sum_congr rfl fun j _ => tm _ _ (eo j), tm _ _ el,
      hsum, hsum, ← EReal.coe_add, ← EReal.coe_add, ul, ← Finset.sum_add_distrib, Finset.sum_mul]
    congr 1
    rw [zero_mul, zero_mul, add_zero]
    refine Finset.sum_congr rfl fun j _ => ?_
    by_cases o : own j
    · rw [if_pos o, if_pos o, uo j o]; field_simp; ring
    · rw [if_neg o, if_neg o]
      have := upe j o
      field_simp
      linear_combination this
  have rdc : ∀ c (v : ℝ), rE X c = (v : EReal) →
      rD X Y c = (((u c * (1 / s) + -((∑ j, e j * (1 / s) * z j) * (1 / s))) * v : ℝ) : EReal) := fun c v hv => by
    rw [rD, hu, rs, rt, hv, Ideal.div_coe sn, ← EReal.coe_mul, ← EReal.coe_neg, ← EReal.coe_add, ← EReal.coe_mul]
  refine ⟨_, _, _, kp, kd, kds, fun j => ?_, fun j => ?_, fun j => ?_, fun j => ?_, ?_⟩
  · rw [rP, eo, rs, Ideal.div_coe sn, ← EReal.coe_mul]
    split <;> simp
  · rw [rP, ep, rs, Ideal.div_coe sn, ← EReal.coe_mul]
    split <;> simp
  · rw [rdc _ _ (eo j)]
    by_cases o : own j
    · rw [if_pos o, if_pos o, uo j o]; congr 1; ring
    · rw [if_neg o, if_neg o, mul_zero]; rfl
  · rw [rdc _ _ (ep j)]
    by_cases o : own j
    · rw [if_pos o, if_pos o, mul_zero]; rfl
    · rw [if_neg o, if_neg o]; congr 1
      have := upe j o
      linear_combination (1 / s) * this
  · rw [rdc _ _ el, ul]; congr 1; ring

end RowOf

end Cert.Proof.Attn

end
-- ==== Proof.Attn.KOps.lean ====
/- The kernel's array operations at an index: stacked heads, contractions, row reductions, masks. -/
module

public import proofs.«01_k».proof.Proof.Attn.Block
public import proofs.«01_k».proof.Proof.Attn.Row
public import Idealize.ShloMosaic.Lib.ValueIdx
public import Idealize.ShloMosaic.Lib.KernelVsHost
public import Idealize.ShloMosaic.PureOps.Ideal.Laws
public import Idealize.ShloMosaic.Lib.TwoAxisContraction

@[expose] public section

set_option maxRecDepth 16384

noncomputable section

namespace Cert.Proof.Attn

open Cert.KernelIdeal Cert.KernelIdeal.Gen
open Idealize.ShloMosaic Idealize.ShloMosaic.ValueIdx

/-- Row `a` of the stacked head `r`. -/
def stk (r : Fin 4) (a : Fin 128) : Fin 512 := ⟨128 * r.val + a.val, by omega⟩

/-- A sum over the stacked rows, head by head. -/
theorem sum_stk (f : Fin 512 → EReal) : ∑ R, f R = ∑ r : Fin 4, ∑ a : Fin 128, f (stk r a) := by
  rw [← Fintype.sum_prod_type']
  refine (Fintype.sum_equiv (finProdFinEquiv (m := 4) (n := 128)) _ _ (fun p => ?_)).symm
  exact congrArg f (Fin.ext (by show 128 * p.1.val + p.2.val = p.2.val + 128 * p.1.val; omega))

/-- Rows against rows. -/
theorem mm_nt {φ : FTy} (l : FVec Ideal S512x64 φ) (q : FVec Ideal S128x64 φ) (R : Fin 512) (j : Fin 128) :
    matmul dot_S512x64_S128x64_S512x128_1_1_0_0_n_n none l q (constant S512x128 .f32 0x00000000#32) (ix2 R j)
      = ∑ d : Fin 64, l (ix2 R d) * q (ix2 j d) := by
  refine (Ideal.matmul_constant_zero_apply _ _ l q _).trans ?_
  refine Fintype.sum_equiv (contrEquiv1 dot_S512x64_S128x64_S512x128_1_1_0_0_n_n 64 rfl rfl) _ _ (fun k => ?_)
  refine congrArg₂ (fun x y : EReal => x * y) (congrArg l (funext fun b => ?_)) (congrArg q (funext fun b => ?_))
  · match b with
    | ⟨0, _⟩ => rfl
    | ⟨1, _⟩ => rfl
  · match b with
    | ⟨0, _⟩ => rfl
    | ⟨1, _⟩ => rfl

/-- Rows against columns. -/
theorem mm_nn {φ : FTy} (l : FVec Ideal S512x128 φ) (q : FVec Ideal S128x64 φ) (R : Fin 512) (d : Fin 64) :
    matmul dot_S512x128_S128x64_S512x64_1_0_0_1_n_n none l q (constant S512x64 .f32 0x00000000#32) (ix2 R d)
      = ∑ j : Fin 128, l (ix2 R j) * q (ix2 j d) := by
  refine (Ideal.matmul_constant_zero_apply _ _ l q _).trans ?_
  refine Fintype.sum_equiv (contrEquiv1 dot_S512x128_S128x64_S512x64_1_0_0_1_n_n 128 rfl rfl) _ _ (fun k => ?_)
  refine congrArg₂ (fun x y : EReal => x * y) (congrArg l (funext fun b => ?_)) (congrArg q (funext fun b => ?_))
  · match b with
    | ⟨0, _⟩ => rfl
    | ⟨1, _⟩ => rfl
  · match b with
    | ⟨0, _⟩ => rfl
    | ⟨1, _⟩ => rfl

/-- Columns against columns. -/
theorem mm_tn {φ : FTy} (l : FVec Ideal S512x128 φ) (q : FVec Ideal S512x64 φ) (j : Fin 128) (d : Fin 64) :
    matmul dot_S512x128_S512x64_S128x64_0_0_1_1_n_n none l q (constant S128x64 .f32 0x00000000#32) (ix2 j d)
      = ∑ r : Fin 4, ∑ a : Fin 128, l (ix2 (stk r a) j) * q (ix2 (stk r a) d) := by
  rw [← sum_stk (fun R => l (ix2 R j) * q (ix2 R d))]
  refine (Ideal.matmul_constant_zero_apply _ _ l q _).trans ?_
  refine Fintype.sum_equiv (contrEquiv1 dot_S512x128_S512x64_S128x64_0_0_1_1_n_n 512 rfl rfl) _ _ (fun k => ?_)
  refine congrArg₂ (fun x y : EReal => x * y) (congrArg l (funext fun b => ?_)) (congrArg q (funext fun b => ?_))
  · match b with
    | ⟨0, _⟩ => rfl
    | ⟨1, _⟩ => rfl
  · match b with
    | ⟨0, _⟩ => rfl
    | ⟨1, _⟩ => rfl

/-- Four heads' columns stacked, from the column on that the first starts at. -/
theorem stack_apply (o0 o1 o2 o3 : ℕ) (x : FVec Ideal S128x512 .f32)
    (h0 : S128x512.Slices ![0, o0] S128x64) (h1 : S128x512.Slices ![0, o1] S128x64)
    (h2 : S128x512.Slices ![0, o2] S128x64) (h3 : S128x512.Slices ![0, o3] S128x64)
    (e1 : o1 = o0 + 64) (e2 : o2 = o0 + 128) (e3 : o3 = o0 + 192)
    (hc : Shape.Concatenates (List.map (·.1) ([⟨S128x64, extractStridedSlice S128x64 ![0, o0] x h0⟩, ⟨S128x64, extractStridedSlice S128x64 ![0, o1] x h1⟩,
      ⟨S128x64, extractStridedSlice S128x64 ![0, o2] x h2⟩, ⟨S128x64, extractStridedSlice S128x64 ![0, o3] x h3⟩] : List ((s : Shape) × (s.Idx → EReal)))) S512x64 0)
    (r : Fin 4) (a : Fin 128) (d : Fin 64) (k : Fin 512) (hk : k.val = o0 + 64 * r.val + d.val) :
    concatenate S512x64 0 ([⟨S128x64, extractStridedSlice S128x64 ![0, o0] x h0⟩, ⟨S128x64, extractStridedSlice S128x64 ![0, o1] x h1⟩,
      ⟨S128x64, extractStridedSlice S128x64 ![0, o2] x h2⟩, ⟨S128x64, extractStridedSlice S128x64 ![0, o3] x h3⟩] : List ((s : Shape) × (s.Idx → EReal))) hc (ix2 (stk r a) d)
      = x (ix2 a k) := by
  subst e1 e2 e3
  match r, hk with
  | ⟨0, _⟩, hk =>
    refine (concatenate_apply_piece (t := S512x64) (0 : Fin 2) _ hc _ 0 (by decide : 0 < 4) S128x64 _ rfl rfl 0 rfl (ix2 a d)
      (fun b hb => match b, hb with | ⟨0, _⟩, hb => absurd rfl hb | ⟨1, _⟩, _ => rfl) (by show 0 + a.val = 128 * 0 + a.val; omega)).trans ?_
    exact extractStridedSlice_apply _ _ _ _ _ (fun b => match b with
      | ⟨0, _⟩ => (Nat.zero_add _).symm | ⟨1, _⟩ => (by show k.val = o0 + d.val; rw [hk]; simp))
  | ⟨1, _⟩, hk =>
    refine (concatenate_apply_piece (t := S512x64) (0 : Fin 2) _ hc _ 1 (by decide : 1 < 4) S128x64 _ rfl rfl 128 rfl (ix2 a d)
      (fun b hb => match b, hb with | ⟨0, _⟩, hb => absurd rfl hb | ⟨1, _⟩, _ => rfl) (by show 128 + a.val = 128 * 1 + a.val; omega)).trans ?_
    exact extractStridedSlice_apply _ _ _ _ _ (fun b => match b with
      | ⟨0, _⟩ => (Nat.zero_add _).symm | ⟨1, _⟩ => (by show k.val = o0 + 64 + d.val; exact hk))
  | ⟨2, _⟩, hk =>
    refine (concatenate_apply_piece (t := S512x64) (0 : Fin 2) _ hc _ 2 (by decide : 2 < 4) S128x64 _ rfl rfl 256 rfl (ix2 a d)
      (fun b hb => match b, hb with | ⟨0, _⟩, hb => absurd rfl hb | ⟨1, _⟩, _ => rfl) (by show 256 + a.val = 128 * 2 + a.val; omega)).trans ?_
    exact extractStridedSlice_apply _ _ _ _ _ (fun b => match b with
      | ⟨0, _⟩ => (Nat.zero_add _).symm | ⟨1, _⟩ => (by show k.val = o0 + 128 + d.val; exact hk))
  | ⟨3, _⟩, hk =>
    refine (concatenate_apply_piece (t := S512x64) (0 : Fin 2) _ hc _ 3 (by decide : 3 < 4) S128x64 _ rfl rfl 384 rfl (ix2 a d)
      (fun b hb => match b, hb with | ⟨0, _⟩, hb => absurd rfl hb | ⟨1, _⟩, _ => rfl) (by show 384 + a.val = 128 * 3 + a.val; omega)).trans ?_
    exact extractStridedSlice_apply _ _ _ _ _ (fun b => match b with
      | ⟨0, _⟩ => (Nat.zero_add _).symm | ⟨1, _⟩ => (by show k.val = o0 + 192 + d.val; exact hk))

/-- One group's columns of keys or values. -/
theorem slice_apply (o : ℕ) (x : FVec Ideal S128x128 .f32) (h : S128x128.Slices ![0, o] S128x64) (j : Fin 128) (d : Fin 64)
    (k : Fin 128) (hk : k.val = o + d.val) :
    extractStridedSlice S128x64 ![0, o] x h (ix2 j d) = x (ix2 j k) :=
  extractStridedSlice_apply _ _ _ _ _ (fun b => match b with
    | ⟨0, _⟩ => (Nat.zero_add _).symm | ⟨1, _⟩ => hk)

theorem col_lift (R : Fin 512) (j : Fin 128) (h : Shape.Reduces S512x128 [1] S512) :
    h.lift (ix1 R) j = ix2 R j := by
  funext b
  match b with
  | ⟨0, _⟩ => rfl
  | ⟨1, _⟩ => rfl

theorem col_cast (y : S512.Idx → EReal) (R : Fin 512) :
    shapeCast S512x1 y shapeCasts_S512_S512x1 (ix2 R (0 : Fin 1)) = y (ix1 R) :=
  shapeCast_apply _ _ _ _ (by
    rw [Shape.rowMajor_val_one, Shape.rowMajor_val_two]
    show R.val = R.val * 1 + 0
    omega)

theorem kinf_word : Ideal.ofBits .f32 0xFF800000#32 = (⊥ : EReal) := by simp [Ideal.ofBits, Ideal.ieee]

theorem kzero_word : Ideal.ofBits .f32 0x00000000#32 = (0 : EReal) := Ideal.ofBits_zero_f32

/-- A row's sum, put in a column. -/
theorem sum_col (y : FVec Ideal S512x128 .f32) (h : Shape.Reduces S512x128 [1] S512) (h1 : FKind.Formats .f32) (h2 : (0x00000000#32 : BitVec 32) = FKind.add.neutral .f32 h1) (R : Fin 512) :
    shapeCast S512x1 (multiReduction (F := Ideal) .add [1] S512 y 0x00000000#32 h h1 h2) shapeCasts_S512_S512x1 (ix2 R (0 : Fin 1))
      = ∑ j : Fin 128, y (ix2 R j) := by
  rw [col_cast]
  refine (Ideal.multiReduction_add_single y _ h h1 h2 (ix1 R)).trans ?_
  exact Finset.sum_congr rfl fun c _ => congrArg y (col_lift R c h)

/-- A row's maximum, put in a column. -/
theorem max_col (y : FVec Ideal S512x128 .f32) (h : Shape.Reduces S512x128 [1] S512) (h1 : FKind.Formats .f32) (h2 : (0xFF800000#32 : BitVec 32) = FKind.maximumf.neutral .f32 h1) (R : Fin 512) :
    shapeCast S512x1 (multiReduction (F := Ideal) .maximumf [1] S512 y 0xFF800000#32 h h1 h2) shapeCasts_S512_S512x1 (ix2 R (0 : Fin 1))
      = (Finset.univ : Finset (Fin 128)).fold max ⊥ (fun j => y (ix2 R j)) := by
  rw [col_cast]
  refine (Ideal.multiReduction_maximumf_single y _ h h1 h2 (ix1 R)).trans ?_
  have e : FloatOps.ofBits (F := Ideal) .f32 0xFF800000#32 = (⊥ : EReal) := kinf_word
  rw [e]
  show Finset.univ.fold max ⊥ _ = Finset.univ.fold max ⊥ _
  exact congrArg (Finset.fold max ⊥ · Finset.univ) (funext fun c => congrArg y (col_lift R c h))

/-- A column repeated along the rows. -/
theorem bcast_col_apply (y : S512x1.Idx → EReal) (h : S512x1.Broadcasts S512x128) (R : Fin 512) (j : Fin 128) :
    broadcastTo S512x128 y h (ix2 R j) = y (ix2 R (0 : Fin 1)) :=
  broadcastTo_apply _ _ _ _ (fun b => match b with
    | ⟨0, _⟩ => rfl | ⟨1, _⟩ => rfl)

end Cert.Proof.Attn
-- ==== Proof.Attn.KMask.lean ====
/- The kernel's masks, heads and sinks at an index. -/
module

public import proofs.«01_k».proof.Proof.Attn.KOps

@[expose] public section

set_option maxRecDepth 16384

noncomputable section

namespace Cert.Proof.Attn

open Cert.KernelIdeal Cert.KernelIdeal.Gen
open Idealize.ShloMosaic Idealize.ShloMosaic.ValueIdx

theorem head_first : ∀ R : Fin 512, headOf (ix2 R (0 : Fin 1)) = BitVec.ofNat 32 (R.val / 128) := by decide +kernel

theorem head_second : ∀ R : Fin 512, k0_pay17 (ix2 R (0 : Fin 1)) = BitVec.ofNat 32 (R.val / 128) := by decide +kernel

theorem stk_div (r : Fin 4) (a : Fin 128) : (stk r a).val / 128 = r.val := by
  show (128 * r.val + a.val) / 128 = r.val
  omega

theorem headOf_at (r : Fin 4) (a : Fin 128) : headOf (ix2 (stk r a) (0 : Fin 1)) = BitVec.ofNat 32 r.val := by
  rw [head_first, stk_div]

theorem pay17_at (r : Fin 4) (a : Fin 128) : k0_pay17 (ix2 (stk r a) (0 : Fin 1)) = BitVec.ofNat 32 r.val := by
  rw [head_second, stk_div]

/-- The first group's sinks, put at their heads' rows. -/
theorem sink_first (s0 s1 s2 s3 : EReal) (r : Fin 4) (a : Fin 128) :
    k0_pay20 (F := Ideal) k0_pay17 (k0_pay18 s0) k0_pay19 s1 s2 s3 (ix2 (stk r a) (0 : Fin 1)) = ![s0, s1, s2, s3] r := by
  have e : k0_pay20 (F := Ideal) k0_pay17 (k0_pay18 s0) k0_pay19 s1 s2 s3 (ix2 (stk r a) (0 : Fin 1))
      = Scalar.select (IntOp.cmpi .eq (k0_pay17 (ix2 (stk r a) (0 : Fin 1))) 3#32) s3
        (Scalar.select (IntOp.cmpi .eq (k0_pay17 (ix2 (stk r a) (0 : Fin 1))) 2#32) s2
        (Scalar.select (IntOp.cmpi .eq (k0_pay17 (ix2 (stk r a) (0 : Fin 1))) 1#32) s1
        (Scalar.select (IntOp.cmpi .eq (k0_pay17 (ix2 (stk r a) (0 : Fin 1))) 0#32) s0 (Ideal.ofBits .f32 0x00000000#32)))) := rfl
  rw [e, pay17_at]
  match r with
  | ⟨0, _⟩ => rfl
  | ⟨1, _⟩ => rfl
  | ⟨2, _⟩ => rfl
  | ⟨3, _⟩ => rfl

/-- The second group's sinks, put at their heads' rows. -/
theorem sink_second (s0 s1 s2 s3 : EReal) (r : Fin 4) (a : Fin 128) :
    k0_pay46 (F := Ideal) rowIota 128#32 k0_pay45 s0 s1 s2 s3 (ix2 (stk r a) (0 : Fin 1)) = ![s0, s1, s2, s3] r := by
  have e : k0_pay46 (F := Ideal) rowIota 128#32 k0_pay45 s0 s1 s2 s3 (ix2 (stk r a) (0 : Fin 1))
      = Scalar.select (IntOp.cmpi .eq (k0_pay17 (ix2 (stk r a) (0 : Fin 1))) 3#32) s3
        (Scalar.select (IntOp.cmpi .eq (k0_pay17 (ix2 (stk r a) (0 : Fin 1))) 2#32) s2
        (Scalar.select (IntOp.cmpi .eq (k0_pay17 (ix2 (stk r a) (0 : Fin 1))) 1#32) s1
        (Scalar.select (IntOp.cmpi .eq (k0_pay17 (ix2 (stk r a) (0 : Fin 1))) 0#32) s0 (Ideal.ofBits .f32 0x00000000#32)))) := rfl
  rw [e, pay17_at]
  match r with
  | ⟨0, _⟩ => rfl
  | ⟨1, _⟩ => rfl
  | ⟨2, _⟩ => rfl
  | ⟨3, _⟩ => rfl

/-- The number of a stacked row within its head, as the kernel's text computes it. -/
def rowWord (R : Fin 512) : BitVec 32 :=
  let m : BitVec 32 := Scalar.select (Scalar.cmpi .eq 128#32 0#32) 1#32 128#32
  let w : BitVec 32 := IntOp.remsi .vector (BitVec.ofNat 32 (0 * 512 + R.val)) m
  Scalar.select (IntOp.andi (IntOp.xori (IntOp.cmpi .slt w 0#32) (Scalar.cmpi .slt m 0#32)) (IntOp.cmpi .ne w 0#32)) (IntOp.addi w m) w

theorem rowWord_eq : ∀ R : Fin 512, rowWord R = BitVec.ofNat 32 (R.val % 128) := by decide +kernel

theorem sle_bits (a j : Fin 128) : IntOp.cmpi .sle (BitVec.ofNat 32 (0 * 128 + j.val)) (BitVec.ofNat 32 a.val) = if j.val ≤ a.val then 1#1 else 0#1 := by
  have e (x : Fin 128) : (BitVec.ofNat 32 x.val).toInt = (x.val : ℤ) := by
    have := x.isLt
    rw [BitVec.toInt_eq_toNat_cond, BitVec.toNat_ofNat, Nat.mod_eq_of_lt (by omega), if_pos (by omega)]
  show BitVec.ofBool (BitVec.sle _ _) = _
  rw [Nat.zero_mul, Nat.zero_add, BitVec.sle_eq_decide, e, e]
  by_cases h : j.val ≤ a.val
  · rw [if_pos h, decide_eq_true (by exact_mod_cast h)]; rfl
  · rw [if_neg h, decide_eq_false (by exact_mod_cast h)]; rfl

theorem row_bits (r : Fin 4) (a j : Fin 128) :
    IntOp.cmpi .sle (BitVec.ofNat 32 (0 * 128 + j.val)) (rowWord (stk r a)) = if j.val ≤ a.val then 1#1 else 0#1 := by
  rw [rowWord_eq, show (stk r a).val % 128 = a.val by show (128 * r.val + a.val) % 128 = a.val; omega, sle_bits]

/-- The own block's keys: those up to the row. -/
theorem own_second (r : Fin 4) (a j : Fin 128) : k0_pay43 (ix2 (stk r a) j) = if j.val ≤ a.val then 1#1 else 0#1 := by
  rw [← row_bits r]
  rfl

theorem own_first (r : Fin 4) (a j : Fin 128) : own0 (ix2 (stk r a) j) = if j.val ≤ a.val then 1#1 else 0#1 := by
  rw [← row_bits r]
  rfl

theorem later_bits : ∀ n : Fin 16, Scalar.cmpi .sge (BitVec.ofNat 32 n.val) 1#32 = if n.val = 0 then 0#1 else 1#1 := by decide +kernel

theorem eighth_word : Ideal.ofBits .f32 0x3E000000#32 = ((1 / 8 : ℝ) : EReal) := by
  simp only [Ideal.ofBits, Ideal.ieee]
  simp
  refine (EReal.coe_mul _ _).symm.trans (congrArg _ ?_)
  norm_num

end Cert.Proof.Attn
-- ==== Proof.Attn.KRow.lean ====
/- The kernel's softmax rows and their cotangents, from the scores and the weights' cotangents, at an index. -/
module

public import proofs.«01_k».proof.Proof.Attn.KOps
public import Idealize.ShloMosaic.Lib.IdealHost

@[expose] public section

set_option maxRecDepth 16384

noncomputable section

namespace Cert.Proof.Attn

open Cert.KernelIdeal Cert.KernelIdeal.Gen
open Idealize.ShloMosaic Idealize.ShloMosaic.ValueIdx

theorem row_m (S : FVec Ideal S512x128 .f32) (σ : FVec Ideal S512x1 .f32) (R : Fin 512) :
    k0_pay47 S σ (ix2 R (0 : Fin 1)) = kM (fun j => S (ix2 R j)) (σ (ix2 R (0 : Fin 1))) := by
  unfold k0_pay47 kM
  exact congrArg₂ (fun x y : EReal => max x y) (max_col S _ _ _ R) rfl

theorem row_e (S : FVec Ideal S512x128 .f32) (σ : FVec Ideal S512x1 .f32) (R : Fin 512) (j : Fin 128) :
    k0_pay48 S σ (ix2 R j) = Ideal.exp (S (ix2 R j) - kM (fun j => S (ix2 R j)) (σ (ix2 R (0 : Fin 1)))) := by
  rw [← row_m]
  unfold k0_pay48
  generalize k0_pay47 S σ = y
  exact congrArg (fun z : EReal => Ideal.exp (S (ix2 R j) - z)) (bcast_col_apply y broadcasts_S512x1_S512x128 R j)

theorem row_es (S : FVec Ideal S512x128 .f32) (σ : FVec Ideal S512x1 .f32) (R : Fin 512) :
    k0_pay49 S σ (ix2 R (0 : Fin 1)) = Ideal.exp (σ (ix2 R (0 : Fin 1)) - kM (fun j => S (ix2 R j)) (σ (ix2 R (0 : Fin 1)))) := by
  rw [← row_m]
  rfl

theorem row_inv (S : FVec Ideal S512x128 .f32) (σ : FVec Ideal S512x1 .f32) (R : Fin 512) :
    k0_pay50 S σ (ix2 R (0 : Fin 1)) = kInv (fun j => S (ix2 R j)) (σ (ix2 R (0 : Fin 1))) := by
  unfold k0_pay50 kInv
  rw [← row_es]
  refine congrArg₂ Ideal.div Ideal.ofBits_one_f32 (congrArg₂ (fun x y : EReal => x + y) ?_ rfl)
  refine (sum_col _ _ _ _ R).trans ?_
  exact Finset.sum_congr rfl fun j _ => row_e S σ R j

theorem row_p (S : FVec Ideal S512x128 .f32) (σ : FVec Ideal S512x1 .f32) (R : Fin 512) (j : Fin 128) :
    k0_pay51 S σ (ix2 R j) = kP (fun j => S (ix2 R j)) (σ (ix2 R (0 : Fin 1))) j := by
  unfold k0_pay51 kP
  refine congrArg₂ (fun x y : EReal => x * y) (row_e S σ R j) ?_
  exact (bcast_col_apply _ _ R j).trans (row_inv S σ R)

theorem row_ps (S : FVec Ideal S512x128 .f32) (σ : FVec Ideal S512x1 .f32) (R : Fin 512) :
    k0_pay52 S σ (ix2 R (0 : Fin 1)) = kPs (fun j => S (ix2 R j)) (σ (ix2 R (0 : Fin 1))) := by
  unfold k0_pay52 kPs
  exact congrArg₂ (fun x y : EReal => x * y) (row_es S σ R) (row_inv S σ R)

/-- The row's weighted sum of the cotangents. -/
def gDel (P Y : FVec Ideal S512x128 .f32) : FVec Ideal S512x1 .f32 :=
  shapeCast S512x1 (multiReduction (F := Ideal) .add [1] S512 (mulf P Y) 0x00000000#32 reduces_S512x128_S512 (.inl rfl) rfl) shapeCasts_S512_S512x1

/-- The scores' cotangents. -/
def gD (P Y : FVec Ideal S512x128 .f32) (D : FVec Ideal S512x1 .f32) : FVec Ideal S512x128 .f32 :=
  mulf P (subf Y (broadcastTo S512x128 D broadcasts_S512x1_S512x128))

theorem row_del (S : FVec Ideal S512x128 .f32) (σ : FVec Ideal S512x1 .f32) (Y : FVec Ideal S512x128 .f32) (R : Fin 512) :
    gDel (k0_pay51 S σ) Y (ix2 R (0 : Fin 1)) = kDel (fun j => S (ix2 R j)) (fun j => Y (ix2 R j)) (σ (ix2 R (0 : Fin 1))) := by
  unfold gDel kDel
  refine (sum_col _ _ _ _ R).trans ?_
  exact Finset.sum_congr rfl fun j _ => congrArg₂ (fun x y : EReal => x * y) (row_p S σ R j) rfl

theorem row_d (S : FVec Ideal S512x128 .f32) (σ : FVec Ideal S512x1 .f32) (Y : FVec Ideal S512x128 .f32) (R : Fin 512) (j : Fin 128) :
    gD (k0_pay51 S σ) Y (gDel (k0_pay51 S σ) Y) (ix2 R j) = kD (fun j => S (ix2 R j)) (fun j => Y (ix2 R j)) (σ (ix2 R (0 : Fin 1))) j := by
  unfold gD kD
  refine congrArg₂ (fun x y : EReal => x * y) (row_p S σ R j) (congrArg₂ (fun x y : EReal => x - y) rfl ?_)
  exact (bcast_col_apply _ _ R j).trans (row_del S σ Y R)

end Cert.Proof.Attn
-- ==== Proof.Attn.KBlk.lean ====
/- One block's rows at an index: scores, weights and their cotangents, head by head. -/
module

public import proofs.«01_k».proof.Proof.Attn.KMask
public import proofs.«01_k».proof.Proof.Attn.KRow

@[expose] public section

set_option maxRecDepth 16384

noncomputable section

namespace Cert.Proof.Attn

open Cert.KernelIdeal Cert.KernelIdeal.Gen
open Idealize.ShloMosaic Idealize.ShloMosaic.ValueIdx

variable (B : Blk Ideal)

/-- A group's column. -/
def gcol (g : Fin 2) (d : Fin 64) : Fin 128 := ⟨64 * g.val + d.val, by omega⟩
/-- A head's column. -/
def hcol (g : Fin 2) (r : Fin 4) (d : Fin 64) : Fin 512 := ⟨64 * (4 * g.val + r.val) + d.val, by omega⟩

/-- The block's queries and cotangents. -/
def bq (g : Fin 2) (r : Fin 4) (a : Fin 128) (d : Fin 64) : EReal := qv B (ix2 a (hcol g r d))
def bo (g : Fin 2) (r : Fin 4) (a : Fin 128) (d : Fin 64) : EReal := dov B (ix2 a (hcol g r d))
/-- A head's sink. -/
def bs (g : Fin 2) (r : Fin 4) : EReal := B.x1 (ix1 (⟨8 + (4 * g.val + r.val), by omega⟩ : Fin 32))
/-- The merged scores. -/
def bx (g : Fin 2) (r : Fin 4) (a j : Fin 128) : EReal :=
  if j.val ≤ a.val then (∑ d : Fin 64, bq B g r a d * kOwn B (ix2 j (gcol g d))) * ((1 / 8 : ℝ) : EReal)
  else if (B.i 0).val = 0 then ⊥
  else (∑ d : Fin 64, bq B g r a d * kPrev B (ix2 j (gcol g d))) * ((1 / 8 : ℝ) : EReal)
/-- The merged weights' cotangents. -/
def by_ (g : Fin 2) (r : Fin 4) (a j : Fin 128) : EReal :=
  if j.val ≤ a.val then ∑ d : Fin 64, bo B g r a d * vOwn B (ix2 j (gcol g d))
  else ∑ d : Fin 64, bo B g r a d * vPrev B (ix2 j (gcol g d))
/-- The weights, the scores' cotangents and the sink's. -/
def bp (g : Fin 2) (r : Fin 4) (a j : Fin 128) : EReal := kP (bx B g r a) (bs B g r) j
def bd (g : Fin 2) (r : Fin 4) (a j : Fin 128) : EReal := kD (bx B g r a) (by_ B g r a) (bs B g r) j
def bds (g : Fin 2) (r : Fin 4) (a : Fin 128) : EReal := kDs (bx B g r a) (by_ B g r a) (bs B g r)

/-- Scaled products of rows. -/
def scores (q : FVec Ideal S512x64 .f32) (k : FVec Ideal S128x64 .f32) : FVec Ideal S512x128 .f32 :=
  mulf (matmul dot_S512x64_S128x64_S512x128_1_1_0_0_n_n none (truncf .bf16 q bitsLt_bf16_f32) (truncf .bf16 k bitsLt_bf16_f32) (constant S512x128 .f32 0x00000000#32))
    (broadcast S512x128 (Scalar.ofBits (F := Ideal) .f32 0x3E000000#32))
/-- Products of rows. -/
def weights (q : FVec Ideal S512x64 .f32) (k : FVec Ideal S128x64 .f32) : FVec Ideal S512x128 .f32 :=
  matmul dot_S512x64_S128x64_S512x128_1_1_0_0_n_n none (truncf .bf16 q bitsLt_bf16_f32) (truncf .bf16 k bitsLt_bf16_f32) (constant S512x128 .f32 0x00000000#32)

theorem weights_at (q : FVec Ideal S512x64 .f32) (k : FVec Ideal S128x64 .f32) (R : Fin 512) (j : Fin 128) :
    weights q k (ix2 R j) = ∑ d : Fin 64, q (ix2 R d) * k (ix2 j d) :=
  mm_nt (φ := .bf16) _ _ R j

theorem scores_at (q : FVec Ideal S512x64 .f32) (k : FVec Ideal S128x64 .f32) (R : Fin 512) (j : Fin 128) :
    scores q k (ix2 R j) = (∑ d : Fin 64, q (ix2 R d) * k (ix2 j d)) * ((1 / 8 : ℝ) : EReal) :=
  congrArg₂ (fun x y : EReal => x * y) (mm_nt (φ := .bf16) _ _ R j) eighth_word

theorem nw_later : Scalar.cmpi .sge (nw B) 1#32 = if (B.i 0).val = 0 then 0#1 else 1#1 :=
  later_bits ⟨(B.i 0).val, (B.i 0).isLt⟩

theorem sk_at (j : ℕ) (h : ∀ a, (![j] : Fin 1 → ℕ) a + S1.size a ≤ S32.size a) (k : Fin 32) (hk : j = k.val) : sk B j h = B.x1 (ix1 k) := by
  subst hk
  unfold sk
  refine congrArg B.x1 (funext fun b => Fin.ext ?_)
  match b with
  | ⟨0, _⟩ => rfl

/-- The sinks at the stacked rows, the weights' cotangents, the weights and the scores' cotangents. -/
def sig0 : FVec Ideal S512x1 .f32 := k0_pay20 k0_pay17 (sa B) k0_pay19 (sk B 9 inb_S32_S1_9) (sk B 10 inb_S32_S1_10) (sk B 11 inb_S32_S1_11)
def sig1 : FVec Ideal S512x1 .f32 := sb B
def y0 : FVec Ideal S512x128 .f32 := k0_pay27 (vOwn B) (vPrev B) (do0 B) own0
def y1 : FVec Ideal S512x128 .f32 := k0_pay53 (vOwn B) (vPrev B) (do1 B) k0_pay43
def P0 : FVec Ideal S512x128 .f32 := k0_pay51 (s0 B) (sig0 B)
def P1 : FVec Ideal S512x128 .f32 := k0_pay51 (s1 B) (sig1 B)
def D0 : FVec Ideal S512x128 .f32 := gD (P0 B) (y0 B) (gDel (P0 B) (y0 B))
def D1 : FVec Ideal S512x128 .f32 := gD (P1 B) (y1 B) (gDel (P1 B) (y1 B))

theorem q0_at (r : Fin 4) (a : Fin 128) (d : Fin 64) : q0 B (ix2 (stk r a) d) = bq B 0 r a d := by
  unfold q0 bq
  generalize qv B = x
  exact stack_apply 0 64 128 192 x _ _ _ _ rfl rfl rfl concatenates_S128x64_S128x64_S128x64_S128x64_S512x64_d0 r a d _ (by show 64 * (4 * 0 + r.val) + d.val = 0 + 64 * r.val + d.val; omega)

theorem do0_at (r : Fin 4) (a : Fin 128) (d : Fin 64) : do0 B (ix2 (stk r a) d) = bo B 0 r a d := by
  unfold do0 bo
  generalize dov B = x
  exact stack_apply 0 64 128 192 x _ _ _ _ rfl rfl rfl concatenates_S128x64_S128x64_S128x64_S128x64_S512x64_d0 r a d _ (by show 64 * (4 * 0 + r.val) + d.val = 0 + 64 * r.val + d.val; omega)

theorem s0_at (r : Fin 4) (a j : Fin 128) : s0 B (ix2 (stk r a) j) = bx B 0 r a j := by
  have e (k : FVec Ideal S128x128 .f32) : (∑ d : Fin 64, q0 B (ix2 (stk r a) d) * k (ix2 j (gcol 0 d))) = ∑ d : Fin 64, bq B 0 r a d * k (ix2 j (gcol 0 d)) :=
    Finset.sum_congr rfl fun d _ => by rw [q0_at]
  have m (k : FVec Ideal S128x128 .f32) : scores (q0 B) (extractStridedSlice S128x64 ![0, 0] k slices_S128x128_o0_0_S128x64) (ix2 (stk r a) j)
      = (∑ d : Fin 64, bq B 0 r a d * k (ix2 j (gcol 0 d))) * ((1 / 8 : ℝ) : EReal) := by
    rw [scores_at, ← e]
    refine congrArg₂ (fun x y : EReal => x * y) ?_ rfl
    exact Finset.sum_congr rfl fun d _ => congrArg₂ (fun x y : EReal => x * y) rfl (slice_apply 0 k _ j d _ (by show 64 * 0 + d.val = 0 + d.val; omega))
  have h : s0 B (ix2 (stk r a) j) = Scalar.select (own0 (ix2 (stk r a) j))
      (scores (q0 B) (extractStridedSlice S128x64 ![0, 0] (kOwn B) slices_S128x128_o0_0_S128x64) (ix2 (stk r a) j))
      (Scalar.select (Scalar.cmpi .sge (nw B) 1#32)
        (scores (q0 B) (extractStridedSlice S128x64 ![0, 0] (kPrev B) slices_S128x128_o0_0_S128x64))
        (broadcast S512x128 (Ideal.ofBits .f32 0xFF800000#32)) (ix2 (stk r a) j)) := rfl
  rw [h, own_first, nw_later]
  unfold bx
  by_cases hj : j.val ≤ a.val
  · rw [if_pos hj, if_pos hj, ← m]; rfl
  rw [if_neg hj, if_neg hj]
  by_cases hn : (B.i 0).val = 0
  · rw [if_pos hn, if_pos hn, ← kinf_word]; rfl
  · rw [if_neg hn, if_neg hn, ← m]; rfl

theorem y0_at (r : Fin 4) (a j : Fin 128) : y0 B (ix2 (stk r a) j) = by_ B 0 r a j := by
  have m (k : FVec Ideal S128x128 .f32) : weights (do0 B) (extractStridedSlice S128x64 ![0, 0] k slices_S128x128_o0_0_S128x64) (ix2 (stk r a) j)
      = ∑ d : Fin 64, bo B 0 r a d * k (ix2 j (gcol 0 d)) := by
    rw [weights_at]
    exact Finset.sum_congr rfl fun d _ => congrArg₂ (fun x y : EReal => x * y) (do0_at B r a d) (slice_apply 0 k _ j d _ (by show 64 * 0 + d.val = 0 + d.val; omega))
  have h : y0 B (ix2 (stk r a) j) = Scalar.select (own0 (ix2 (stk r a) j))
      (weights (do0 B) (extractStridedSlice S128x64 ![0, 0] (vOwn B) slices_S128x128_o0_0_S128x64) (ix2 (stk r a) j))
      (weights (do0 B) (extractStridedSlice S128x64 ![0, 0] (vPrev B) slices_S128x128_o0_0_S128x64) (ix2 (stk r a) j)) := rfl
  rw [h, own_first, m, m]
  unfold by_
  by_cases hj : j.val ≤ a.val
  · rw [if_pos hj, if_pos hj]; rfl
  · rw [if_neg hj, if_neg hj]; rfl

theorem sig0_at (r : Fin 4) (a : Fin 128) : sig0 B (ix2 (stk r a) (0 : Fin 1)) = bs B 0 r := by
  unfold sig0
  refine (sink_first _ _ _ _ r a).trans ?_
  unfold bs
  match r with
  | ⟨0, _⟩ => exact sk_at B 8 _ _ rfl
  | ⟨1, _⟩ => exact sk_at B 9 _ _ rfl
  | ⟨2, _⟩ => exact sk_at B 10 _ _ rfl
  | ⟨3, _⟩ => exact sk_at B 11 _ _ rfl

theorem rowS0 (r : Fin 4) (a : Fin 128) : (fun j => s0 B (ix2 (stk r a) j)) = bx B 0 r a := funext fun j => s0_at B r a j

theorem rowY0 (r : Fin 4) (a : Fin 128) : (fun j => y0 B (ix2 (stk r a) j)) = by_ B 0 r a := funext fun j => y0_at B r a j

theorem P0_at (r : Fin 4) (a j : Fin 128) : P0 B (ix2 (stk r a) j) = bp B 0 r a j := by
  unfold P0 bp
  rw [row_p, rowS0, sig0_at]

theorem D0_at (r : Fin 4) (a j : Fin 128) : D0 B (ix2 (stk r a) j) = bd B 0 r a j := by
  unfold D0 P0 bd
  rw [row_d, rowS0, rowY0, sig0_at]

theorem ps0_at (r : Fin 4) (a : Fin 128) : ps0 B (ix2 (stk r a) (0 : Fin 1)) = kPs (bx B 0 r a) (bs B 0 r) := by
  rw [show ps0 B = k0_pay52 (s0 B) (sig0 B) from rfl, row_ps, rowS0, sig0_at]

theorem del0_at (r : Fin 4) (a : Fin 128) : del0 B (ix2 (stk r a) (0 : Fin 1)) = kDel (bx B 0 r a) (by_ B 0 r a) (bs B 0 r) := by
  rw [show del0 B = gDel (k0_pay51 (s0 B) (sig0 B)) (y0 B) from rfl, row_del, rowS0, rowY0, sig0_at]

theorem q1_at (r : Fin 4) (a : Fin 128) (d : Fin 64) : q1 B (ix2 (stk r a) d) = bq B 1 r a d := by
  unfold q1 bq
  generalize qv B = x
  exact stack_apply 256 320 384 448 x _ _ _ _ rfl rfl rfl concatenates_S128x64_S128x64_S128x64_S128x64_S512x64_d0 r a d _ (by show 64 * (4 * 1 + r.val) + d.val = 256 + 64 * r.val + d.val; omega)

theorem do1_at (r : Fin 4) (a : Fin 128) (d : Fin 64) : do1 B (ix2 (stk r a) d) = bo B 1 r a d := by
  unfold do1 bo
  generalize dov B = x
  exact stack_apply 256 320 384 448 x _ _ _ _ rfl rfl rfl concatenates_S128x64_S128x64_S128x64_S128x64_S512x64_d0 r a d _ (by show 64 * (4 * 1 + r.val) + d.val = 256 + 64 * r.val + d.val; omega)

theorem s1_at (r : Fin 4) (a j : Fin 128) : s1 B (ix2 (stk r a) j) = bx B 1 r a j := by
  have e (k : FVec Ideal S128x128 .f32) : (∑ d : Fin 64, q1 B (ix2 (stk r a) d) * k (ix2 j (gcol 1 d))) = ∑ d : Fin 64, bq B 1 r a d * k (ix2 j (gcol 1 d)) :=
    Finset.sum_congr rfl fun d _ => by rw [q1_at]
  have m (k : FVec Ideal S128x128 .f32) : scores (q1 B) (extractStridedSlice S128x64 ![0, 64] k slices_S128x128_o0_64_S128x64) (ix2 (stk r a) j)
      = (∑ d : Fin 64, bq B 1 r a d * k (ix2 j (gcol 1 d))) * ((1 / 8 : ℝ) : EReal) := by
    rw [scores_at, ← e]
    refine congrArg₂ (fun x y : EReal => x * y) ?_ rfl
    exact Finset.sum_congr rfl fun d _ => congrArg₂ (fun x y : EReal => x * y) rfl (slice_apply 64 k _ j d _ (by show 64 * 1 + d.val = 64 + d.val; omega))
  have h : s1 B (ix2 (stk r a) j) = Scalar.select (k0_pay43 (ix2 (stk r a) j))
      (scores (q1 B) (extractStridedSlice S128x64 ![0, 64] (kOwn B) slices_S128x128_o0_64_S128x64) (ix2 (stk r a) j))
      (Scalar.select (Scalar.cmpi .sge (nw B) 1#32)
        (scores (q1 B) (extractStridedSlice S128x64 ![0, 64] (kPrev B) slices_S128x128_o0_64_S128x64))
        (broadcast S512x128 (Ideal.ofBits .f32 0xFF800000#32)) (ix2 (stk r a) j)) := rfl
  rw [h, own_second, nw_later]
  unfold bx
  by_cases hj : j.val ≤ a.val
  · rw [if_pos hj, if_pos hj, ← m]; rfl
  rw [if_neg hj, if_neg hj]
  by_cases hn : (B.i 0).val = 0
  · rw [if_pos hn, if_pos hn, ← kinf_word]; rfl
  · rw [if_neg hn, if_neg hn, ← m]; rfl

theorem y1_at (r : Fin 4) (a j : Fin 128) : y1 B (ix2 (stk r a) j) = by_ B 1 r a j := by
  have m (k : FVec Ideal S128x128 .f32) : weights (do1 B) (extractStridedSlice S128x64 ![0, 64] k slices_S128x128_o0_64_S128x64) (ix2 (stk r a) j)
      = ∑ d : Fin 64, bo B 1 r a d * k (ix2 j (gcol 1 d)) := by
    rw [weights_at]
    exact Finset.sum_congr rfl fun d _ => congrArg₂ (fun x y : EReal => x * y) (do1_at B r a d) (slice_apply 64 k _ j d _ (by show 64 * 1 + d.val = 64 + d.val; omega))
  have h : y1 B (ix2 (stk r a) j) = Scalar.select (k0_pay43 (ix2 (stk r a) j))
      (weights (do1 B) (extractStridedSlice S128x64 ![0, 64] (vOwn B) slices_S128x128_o0_64_S128x64) (ix2 (stk r a) j))
      (weights (do1 B) (extractStridedSlice S128x64 ![0, 64] (vPrev B) slices_S128x128_o0_64_S128x64) (ix2 (stk r a) j)) := rfl
  rw [h, own_second, m, m]
  unfold by_
  by_cases hj : j.val ≤ a.val
  · rw [if_pos hj, if_pos hj]; rfl
  · rw [if_neg hj, if_neg hj]; rfl

theorem sig1_at (r : Fin 4) (a : Fin 128) : sig1 B (ix2 (stk r a) (0 : Fin 1)) = bs B 1 r := by
  unfold sig1
  refine (sink_second _ _ _ _ r a).trans ?_
  unfold bs
  match r with
  | ⟨0, _⟩ => exact sk_at B 12 _ _ rfl
  | ⟨1, _⟩ => exact sk_at B 13 _ _ rfl
  | ⟨2, _⟩ => exact sk_at B 14 _ _ rfl
  | ⟨3, _⟩ => exact sk_at B 15 _ _ rfl

theorem rowS1 (r : Fin 4) (a : Fin 128) : (fun j => s1 B (ix2 (stk r a) j)) = bx B 1 r a := funext fun j => s1_at B r a j

theorem rowY1 (r : Fin 4) (a : Fin 128) : (fun j => y1 B (ix2 (stk r a) j)) = by_ B 1 r a := funext fun j => y1_at B r a j

theorem P1_at (r : Fin 4) (a j : Fin 128) : P1 B (ix2 (stk r a) j) = bp B 1 r a j := by
  unfold P1 bp
  rw [row_p, rowS1, sig1_at]

theorem D1_at (r : Fin 4) (a j : Fin 128) : D1 B (ix2 (stk r a) j) = bd B 1 r a j := by
  unfold D1 P1 bd
  rw [row_d, rowS1, rowY1, sig1_at]

theorem ps1_at (r : Fin 4) (a : Fin 128) : ps1 B (ix2 (stk r a) (0 : Fin 1)) = kPs (bx B 1 r a) (bs B 1 r) := by
  rw [show ps1 B = k0_pay52 (s1 B) (sig1 B) from rfl, row_ps, rowS1, sig1_at]

theorem del1_at (r : Fin 4) (a : Fin 128) : del1 B (ix2 (stk r a) (0 : Fin 1)) = kDel (bx B 1 r a) (by_ B 1 r a) (bs B 1 r) := by
  rw [show del1 B = gDel (k0_pay51 (s1 B) (sig1 B)) (y1 B) from rfl, row_del, rowS1, rowY1, sig1_at]

end Cert.Proof.Attn
-- ==== Proof.Attn.KOut.lean ====
/- One block's results at an index, group by group. -/
module

public import proofs.«01_k».proof.Proof.Attn.KBlk

@[expose] public section

set_option maxRecDepth 16384

noncomputable section

namespace Cert.Proof.Attn

open Cert.KernelIdeal Cert.KernelIdeal.Gen
open Idealize.ShloMosaic Idealize.ShloMosaic.ValueIdx

variable (B : Blk Ideal)

/-- Rows against columns, in the kernel's text. -/
def spread (l : FVec Ideal S512x128 .f32) (k : FVec Ideal S128x64 .f32) : FVec Ideal S512x64 .f32 :=
  matmul dot_S512x128_S128x64_S512x64_1_0_0_1_n_n none (truncf .bf16 l bitsLt_bf16_f32) (truncf .bf16 k bitsLt_bf16_f32) (constant S512x64 .f32 0x00000000#32)
/-- Columns against columns, in the kernel's text. -/
def gather (l : FVec Ideal S512x128 .f32) (q : FVec Ideal S512x64 .f32) : FVec Ideal S128x64 .f32 :=
  matmul dot_S512x128_S512x64_S128x64_0_0_1_1_n_n none (truncf .bf16 l bitsLt_bf16_f32) (truncf .bf16 q bitsLt_bf16_f32) (constant S128x64 .f32 0x00000000#32)

theorem spread_at (l : FVec Ideal S512x128 .f32) (k : FVec Ideal S128x64 .f32) (R : Fin 512) (d : Fin 64) :
    spread l k (ix2 R d) = ∑ j : Fin 128, l (ix2 R j) * k (ix2 j d) := mm_nn (φ := .bf16) _ _ R d

theorem gather_at (l : FVec Ideal S512x128 .f32) (q : FVec Ideal S512x64 .f32) (j : Fin 128) (d : Fin 64) :
    gather l q (ix2 j d) = ∑ r : Fin 4, ∑ a : Fin 128, l (ix2 (stk r a) j) * q (ix2 (stk r a) d) := mm_tn (φ := .bf16) _ _ j d

theorem selO0 (X : FVec Ideal S512x128 .f32) (f : Fin 4 → Fin 128 → Fin 128 → EReal) (h : ∀ r a j, X (ix2 (stk r a) j) = f r a j) (r : Fin 4) (a j : Fin 128) :
    select own0 X (broadcast S512x128 (Scalar.ofBits (F := Ideal) .f32 0x00000000#32)) (ix2 (stk r a) j) = if j.val ≤ a.val then f r a j else 0 := by
  rw [select_apply, own_first, h]
  by_cases hj : j.val ≤ a.val
  · rw [if_pos hj, if_pos hj]; rfl
  · rw [if_neg hj, if_neg hj]; exact kzero_word

theorem selP0 (X : FVec Ideal S512x128 .f32) (f : Fin 4 → Fin 128 → Fin 128 → EReal) (h : ∀ r a j, X (ix2 (stk r a) j) = f r a j) (r : Fin 4) (a j : Fin 128) :
    select own0 (broadcast S512x128 (Scalar.ofBits (F := Ideal) .f32 0x00000000#32)) X (ix2 (stk r a) j) = if j.val ≤ a.val then 0 else f r a j := by
  rw [select_apply, own_first, h]
  by_cases hj : j.val ≤ a.val
  · rw [if_pos hj, if_pos hj]; exact kzero_word
  · rw [if_neg hj, if_neg hj]; rfl

theorem dq0_at (r : Fin 4) (a : Fin 128) (d : Fin 64) : dq0 B (ix2 (stk r a) d)
    = ((∑ j : Fin 128, (if j.val ≤ a.val then bd B 0 r a j else 0) * kOwn B (ix2 j (gcol 0 d)))
      + ∑ j : Fin 128, (if j.val ≤ a.val then 0 else bd B 0 r a j) * kPrev B (ix2 j (gcol 0 d))) * ((1 / 8 : ℝ) : EReal) := by
  have h : dq0 B = mulf (addf (spread (select own0 (D0 B) (broadcast S512x128 (Scalar.ofBits (F := Ideal) .f32 0x00000000#32))) (extractStridedSlice S128x64 ![0, 0] (kOwn B) slices_S128x128_o0_0_S128x64))
      (spread (select own0 (broadcast S512x128 (Scalar.ofBits (F := Ideal) .f32 0x00000000#32)) (D0 B)) (extractStridedSlice S128x64 ![0, 0] (kPrev B) slices_S128x128_o0_0_S128x64)))
      (broadcast S512x64 (Scalar.ofBits (F := Ideal) .f32 0x3E000000#32)) := rfl
  rw [h]
  refine congrArg₂ (fun x y : EReal => x * y) (congrArg₂ (fun x y : EReal => x + y) ?_ ?_) eighth_word
  · rw [spread_at]
    exact Finset.sum_congr rfl fun j _ => congrArg₂ (fun x y : EReal => x * y) (selO0 (D0 B) (bd B 0) (D0_at B) r a j)
      (slice_apply 0 _ _ j d _ (by show 64 * 0 + d.val = 0 + d.val; omega))
  · rw [spread_at]
    exact Finset.sum_congr rfl fun j _ => congrArg₂ (fun x y : EReal => x * y) (selP0 (D0 B) (bd B 0) (D0_at B) r a j)
      (slice_apply 0 _ _ j d _ (by show 64 * 0 + d.val = 0 + d.val; omega))

theorem dkOwn0_at (j : Fin 128) (d : Fin 64) : dkOwn0 B (ix2 j d)
    = (∑ r : Fin 4, ∑ a : Fin 128, (if j.val ≤ a.val then bd B 0 r a j else 0) * bq B 0 r a d) * ((1 / 8 : ℝ) : EReal) := by
  have h : dkOwn0 B = mulf (gather (select own0 (D0 B) (broadcast S512x128 (Scalar.ofBits (F := Ideal) .f32 0x00000000#32))) (q0 B))
      (broadcast S128x64 (Scalar.ofBits (F := Ideal) .f32 0x3E000000#32)) := rfl
  rw [h]
  refine congrArg₂ (fun x y : EReal => x * y) ?_ eighth_word
  rw [gather_at]
  exact Finset.sum_congr rfl fun r _ => Finset.sum_congr rfl fun a _ =>
    congrArg₂ (fun x y : EReal => x * y) (selO0 (D0 B) (bd B 0) (D0_at B) r a j) (q0_at B r a d)

theorem dkPrev0_at (j : Fin 128) (d : Fin 64) : dkPrev0 B (ix2 j d)
    = (∑ r : Fin 4, ∑ a : Fin 128, (if j.val ≤ a.val then 0 else bd B 0 r a j) * bq B 0 r a d) * ((1 / 8 : ℝ) : EReal) := by
  have h : dkPrev0 B = mulf (gather (select own0 (broadcast S512x128 (Scalar.ofBits (F := Ideal) .f32 0x00000000#32)) (D0 B)) (q0 B))
      (broadcast S128x64 (Scalar.ofBits (F := Ideal) .f32 0x3E000000#32)) := rfl
  rw [h]
  refine congrArg₂ (fun x y : EReal => x * y) ?_ eighth_word
  rw [gather_at]
  exact Finset.sum_congr rfl fun r _ => Finset.sum_congr rfl fun a _ =>
    congrArg₂ (fun x y : EReal => x * y) (selP0 (D0 B) (bd B 0) (D0_at B) r a j) (q0_at B r a d)

theorem dvOwn0_at (j : Fin 128) (d : Fin 64) : dvOwn0 B (ix2 j d)
    = ∑ r : Fin 4, ∑ a : Fin 128, (if j.val ≤ a.val then bp B 0 r a j else 0) * bo B 0 r a d := by
  have h : dvOwn0 B = gather (select own0 (P0 B) (broadcast S512x128 (Scalar.ofBits (F := Ideal) .f32 0x00000000#32))) (do0 B) := rfl
  rw [h, gather_at]
  exact Finset.sum_congr rfl fun r _ => Finset.sum_congr rfl fun a _ =>
    congrArg₂ (fun x y : EReal => x * y) (selO0 (P0 B) (bp B 0) (P0_at B) r a j) (do0_at B r a d)

theorem dvPrev0_at (j : Fin 128) (d : Fin 64) : dvPrev0 B (ix2 j d)
    = ∑ r : Fin 4, ∑ a : Fin 128, (if j.val ≤ a.val then 0 else bp B 0 r a j) * bo B 0 r a d := by
  have h : dvPrev0 B = gather (select own0 (broadcast S512x128 (Scalar.ofBits (F := Ideal) .f32 0x00000000#32)) (P0 B)) (do0 B) := rfl
  rw [h, gather_at]
  exact Finset.sum_congr rfl fun r _ => Finset.sum_congr rfl fun a _ =>
    congrArg₂ (fun x y : EReal => x * y) (selP0 (P0 B) (bp B 0) (P0_at B) r a j) (do0_at B r a d)

/-- Minus the sink's weight times the row's sum. -/
def N0 : FVec Ideal S512x1 .f32 := subf (broadcast S512x1 (Scalar.ofBits (F := Ideal) .f32 0x00000000#32)) (mulf (ps0 B) (del0 B))

theorem N0_at (r : Fin 4) (a : Fin 128) : N0 B (ix2 (stk r a) (0 : Fin 1)) = bds B 0 r a := by
  unfold N0 bds kDs
  exact congrArg₂ (fun x y : EReal => x - y) kzero_word (congrArg₂ (fun x y : EReal => x * y) (ps0_at B r a) (del0_at B r a))

theorem selO1 (X : FVec Ideal S512x128 .f32) (f : Fin 4 → Fin 128 → Fin 128 → EReal) (h : ∀ r a j, X (ix2 (stk r a) j) = f r a j) (r : Fin 4) (a j : Fin 128) :
    select k0_pay43 X (broadcast S512x128 (Scalar.ofBits (F := Ideal) .f32 0x00000000#32)) (ix2 (stk r a) j) = if j.val ≤ a.val then f r a j else 0 := by
  rw [select_apply, own_second, h]
  by_cases hj : j.val ≤ a.val
  · rw [if_pos hj, if_pos hj]; rfl
  · rw [if_neg hj, if_neg hj]; exact kzero_word

theorem selP1 (X : FVec Ideal S512x128 .f32) (f : Fin 4 → Fin 128 → Fin 128 → EReal) (h : ∀ r a j, X (ix2 (stk r a) j) = f r a j) (r : Fin 4) (a j : Fin 128) :
    select k0_pay43 (broadcast S512x128 (Scalar.ofBits (F := Ideal) .f32 0x00000000#32)) X (ix2 (stk r a) j) = if j.val ≤ a.val then 0 else f r a j := by
  rw [select_apply, own_second, h]
  by_cases hj : j.val ≤ a.val
  · rw [if_pos hj, if_pos hj]; exact kzero_word
  · rw [if_neg hj, if_neg hj]; rfl

theorem dq1_at (r : Fin 4) (a : Fin 128) (d : Fin 64) : dq1 B (ix2 (stk r a) d)
    = ((∑ j : Fin 128, (if j.val ≤ a.val then bd B 1 r a j else 0) * kOwn B (ix2 j (gcol 1 d)))
      + ∑ j : Fin 128, (if j.val ≤ a.val then 0 else bd B 1 r a j) * kPrev B (ix2 j (gcol 1 d))) * ((1 / 8 : ℝ) : EReal) := by
  have h : dq1 B = mulf (addf (spread (select k0_pay43 (D1 B) (broadcast S512x128 (Scalar.ofBits (F := Ideal) .f32 0x00000000#32))) (extractStridedSlice S128x64 ![0, 64] (kOwn B) slices_S128x128_o0_64_S128x64))
      (spread (select k0_pay43 (broadcast S512x128 (Scalar.ofBits (F := Ideal) .f32 0x00000000#32)) (D1 B)) (extractStridedSlice S128x64 ![0, 64] (kPrev B) slices_S128x128_o0_64_S128x64)))
      (broadcast S512x64 (Scalar.ofBits (F := Ideal) .f32 0x3E000000#32)) := rfl
  rw [h]
  refine congrArg₂ (fun x y : EReal => x * y) (congrArg₂ (fun x y : EReal => x + y) ?_ ?_) eighth_word
  · rw [spread_at]
    exact Finset.sum_congr rfl fun j _ => congrArg₂ (fun x y : EReal => x * y) (selO1 (D1 B) (bd B 1) (D1_at B) r a j)
      (slice_apply 64 _ _ j d _ (by show 64 * 1 + d.val = 64 + d.val; omega))
  · rw [spread_at]
    exact Finset.sum_congr rfl fun j _ => congrArg₂ (fun x y : EReal => x * y) (selP1 (D1 B) (bd B 1) (D1_at B) r a j)
      (slice_apply 64 _ _ j d _ (by show 64 * 1 + d.val = 64 + d.val; omega))

theorem dkOwn1_at (j : Fin 128) (d : Fin 64) : dkOwn1 B (ix2 j d)
    = (∑ r : Fin 4, ∑ a : Fin 128, (if j.val ≤ a.val then bd B 1 r a j else 0) * bq B 1 r a d) * ((1 / 8 : ℝ) : EReal) := by
  have h : dkOwn1 B = mulf (gather (select k0_pay43 (D1 B) (broadcast S512x128 (Scalar.ofBits (F := Ideal) .f32 0x00000000#32))) (q1 B))
      (broadcast S128x64 (Scalar.ofBits (F := Ideal) .f32 0x3E000000#32)) := rfl
  rw [h]
  refine congrArg₂ (fun x y : EReal => x * y) ?_ eighth_word
  rw [gather_at]
  exact Finset.sum_congr rfl fun r _ => Finset.sum_congr rfl fun a _ =>
    congrArg₂ (fun x y : EReal => x * y) (selO1 (D1 B) (bd B 1) (D1_at B) r a j) (q1_at B r a d)

theorem dkPrev1_at (j : Fin 128) (d : Fin 64) : dkPrev1 B (ix2 j d)
    = (∑ r : Fin 4, ∑ a : Fin 128, (if j.val ≤ a.val then 0 else bd B 1 r a j) * bq B 1 r a d) * ((1 / 8 : ℝ) : EReal) := by
  have h : dkPrev1 B = mulf (gather (select k0_pay43 (broadcast S512x128 (Scalar.ofBits (F := Ideal) .f32 0x00000000#32)) (D1 B)) (q1 B))
      (broadcast S128x64 (Scalar.ofBits (F := Ideal) .f32 0x3E000000#32)) := rfl
  rw [h]
  refine congrArg₂ (fun x y : EReal => x * y) ?_ eighth_word
  rw [gather_at]
  exact Finset.sum_congr rfl fun r _ => Finset.sum_congr rfl fun a _ =>
    congrArg₂ (fun x y : EReal => x * y) (selP1 (D1 B) (bd B 1) (D1_at B) r a j) (q1_at B r a d)

theorem dvOwn1_at (j : Fin 128) (d : Fin 64) : dvOwn1 B (ix2 j d)
    = ∑ r : Fin 4, ∑ a : Fin 128, (if j.val ≤ a.val then bp B 1 r a j else 0) * bo B 1 r a d := by
  have h : dvOwn1 B = gather (select k0_pay43 (P1 B) (broadcast S512x128 (Scalar.ofBits (F := Ideal) .f32 0x00000000#32))) (do1 B) := rfl
  rw [h, gather_at]
  exact Finset.sum_congr rfl fun r _ => Finset.sum_congr rfl fun a _ =>
    congrArg₂ (fun x y : EReal => x * y) (selO1 (P1 B) (bp B 1) (P1_at B) r a j) (do1_at B r a d)

theorem dvPrev1_at (j : Fin 128) (d : Fin 64) : dvPrev1 B (ix2 j d)
    = ∑ r : Fin 4, ∑ a : Fin 128, (if j.val ≤ a.val then 0 else bp B 1 r a j) * bo B 1 r a d := by
  have h : dvPrev1 B = gather (select k0_pay43 (broadcast S512x128 (Scalar.ofBits (F := Ideal) .f32 0x00000000#32)) (P1 B)) (do1 B) := rfl
  rw [h, gather_at]
  exact Finset.sum_congr rfl fun r _ => Finset.sum_congr rfl fun a _ =>
    congrArg₂ (fun x y : EReal => x * y) (selP1 (P1 B) (bp B 1) (P1_at B) r a j) (do1_at B r a d)

/-- Minus the sink's weight times the row's sum. -/
def N1 : FVec Ideal S512x1 .f32 := subf (broadcast S512x1 (Scalar.ofBits (F := Ideal) .f32 0x00000000#32)) (mulf (ps1 B) (del1 B))

theorem N1_at (r : Fin 4) (a : Fin 128) : N1 B (ix2 (stk r a) (0 : Fin 1)) = bds B 1 r a := by
  unfold N1 bds kDs
  exact congrArg₂ (fun x y : EReal => x - y) kzero_word (congrArg₂ (fun x y : EReal => x * y) (ps1_at B r a) (del1_at B r a))

end Cert.Proof.Attn
-- ==== Proof.Attn.KSum.lean ====
/- One block's results at an index: rows of dq, additions to dk and dv, and the sinks' derivative. -/
module

public import proofs.«01_k».proof.Proof.Attn.KOut

@[expose] public section

set_option maxRecDepth 16384

noncomputable section

namespace Cert.Proof.Attn

open Cert.KernelIdeal Cert.KernelIdeal.Gen
open Idealize.ShloMosaic Idealize.ShloMosaic.ValueIdx

variable (B : Blk Ideal)

theorem rows_at (o : ℕ) (x : FVec Ideal S512x64 .f32) (h : S512x64.Slices ![o, 0] S128x64) (a : Fin 128) (d : Fin 64)
    (R : Fin 512) (hR : R.val = o + a.val) : extractStridedSlice S128x64 ![o, 0] x h (ix2 a d) = x (ix2 R d) :=
  extractStridedSlice_apply _ _ _ _ _ (fun b => match b with
    | ⟨0, _⟩ => hR | ⟨1, _⟩ => (Nat.zero_add _).symm)

theorem piece8 (p0 p1 p2 p3 p4 p5 p6 p7 : S128x64.Idx → EReal)
    (hc : Shape.Concatenates (List.map (·.1) ([⟨S128x64, p0⟩, ⟨S128x64, p1⟩, ⟨S128x64, p2⟩, ⟨S128x64, p3⟩, ⟨S128x64, p4⟩, ⟨S128x64, p5⟩, ⟨S128x64, p6⟩, ⟨S128x64, p7⟩] : List ((s : Shape) × (s.Idx → EReal)))) S128x512 1)
    (k : Fin 8) (a : Fin 128) (d : Fin 64) (c : Fin 512) (hk : c.val = 64 * k.val + d.val) :
    concatenate S128x512 1 ([⟨S128x64, p0⟩, ⟨S128x64, p1⟩, ⟨S128x64, p2⟩, ⟨S128x64, p3⟩, ⟨S128x64, p4⟩, ⟨S128x64, p5⟩, ⟨S128x64, p6⟩, ⟨S128x64, p7⟩] : List ((s : Shape) × (s.Idx → EReal))) hc (ix2 a c) = ![p0, p1, p2, p3, p4, p5, p6, p7] k (ix2 a d) := by
  match k, hk with
  | ⟨0, _⟩, hk =>
    exact concatenate_apply_piece (t := S128x512) (1 : Fin 2) _ hc _ 0 (by decide : 0 < 8) S128x64 _ rfl rfl 0 rfl (ix2 a d)
      (fun b hb => match b, hb with | ⟨0, _⟩, _ => rfl | ⟨1, _⟩, hb => absurd rfl hb) hk.symm
  | ⟨1, _⟩, hk =>
    exact concatenate_apply_piece (t := S128x512) (1 : Fin 2) _ hc _ 1 (by decide : 1 < 8) S128x64 _ rfl rfl 64 rfl (ix2 a d)
      (fun b hb => match b, hb with | ⟨0, _⟩, _ => rfl | ⟨1, _⟩, hb => absurd rfl hb) hk.symm
  | ⟨2, _⟩, hk =>
    exact concatenate_apply_piece (t := S128x512) (1 : Fin 2) _ hc _ 2 (by decide : 2 < 8) S128x64 _ rfl rfl 128 rfl (ix2 a d)
      (fun b hb => match b, hb with | ⟨0, _⟩, _ => rfl | ⟨1, _⟩, hb => absurd rfl hb) hk.symm
  | ⟨3, _⟩, hk =>
    exact concatenate_apply_piece (t := S128x512) (1 : Fin 2) _ hc _ 3 (by decide : 3 < 8) S128x64 _ rfl rfl 192 rfl (ix2 a d)
      (fun b hb => match b, hb with | ⟨0, _⟩, _ => rfl | ⟨1, _⟩, hb => absurd rfl hb) hk.symm
  | ⟨4, _⟩, hk =>
    exact concatenate_apply_piece (t := S128x512) (1 : Fin 2) _ hc _ 4 (by decide : 4 < 8) S128x64 _ rfl rfl 256 rfl (ix2 a d)
      (fun b hb => match b, hb with | ⟨0, _⟩, _ => rfl | ⟨1, _⟩, hb => absurd rfl hb) hk.symm
  | ⟨5, _⟩, hk =>
    exact concatenate_apply_piece (t := S128x512) (1 : Fin 2) _ hc _ 5 (by decide : 5 < 8) S128x64 _ rfl rfl 320 rfl (ix2 a d)
      (fun b hb => match b, hb with | ⟨0, _⟩, _ => rfl | ⟨1, _⟩, hb => absurd rfl hb) hk.symm
  | ⟨6, _⟩, hk =>
    exact concatenate_apply_piece (t := S128x512) (1 : Fin 2) _ hc _ 6 (by decide : 6 < 8) S128x64 _ rfl rfl 384 rfl (ix2 a d)
      (fun b hb => match b, hb with | ⟨0, _⟩, _ => rfl | ⟨1, _⟩, hb => absurd rfl hb) hk.symm
  | ⟨7, _⟩, hk =>
    exact concatenate_apply_piece (t := S128x512) (1 : Fin 2) _ hc _ 7 (by decide : 7 < 8) S128x64 _ rfl rfl 448 rfl (ix2 a d)
      (fun b hb => match b, hb with | ⟨0, _⟩, _ => rfl | ⟨1, _⟩, hb => absurd rfl hb) hk.symm

/-- Eight heads' rows laid side by side. -/
theorem side_at (x y : FVec Ideal S512x64 .f32) (a : Fin 128) (g : Fin 2) (r : Fin 4) (d : Fin 64) :
    k0_pay71 x y (ix2 a (hcol g r d)) = (if g.val = 0 then x else y) (ix2 (stk r a) d) := by
  unfold k0_pay71
  match g, r with
  | ⟨0, _⟩, ⟨0, _⟩ =>
    refine (piece8 _ _ _ _ _ _ _ _ concatenates_S128x64_S128x64_S128x64_S128x64_S128x64_S128x64_S128x64_S128x64_S128x512_d1 0 a d _ rfl).trans ?_
    exact rows_at 0 x slices_S512x64_o0_0_S128x64 a d (stk 0 a) rfl
  | ⟨0, _⟩, ⟨1, _⟩ =>
    refine (piece8 _ _ _ _ _ _ _ _ concatenates_S128x64_S128x64_S128x64_S128x64_S128x64_S128x64_S128x64_S128x64_S128x512_d1 1 a d _ rfl).trans ?_
    exact rows_at 128 x slices_S512x64_o128_0_S128x64 a d (stk 1 a) rfl
  | ⟨0, _⟩, ⟨2, _⟩ =>
    refine (piece8 _ _ _ _ _ _ _ _ concatenates_S128x64_S128x64_S128x64_S128x64_S128x64_S128x64_S128x64_S128x64_S128x512_d1 2 a d _ rfl).trans ?_
    exact rows_at 256 x slices_S512x64_o256_0_S128x64 a d (stk 2 a) rfl
  | ⟨0, _⟩, ⟨3, _⟩ =>
    refine (piece8 _ _ _ _ _ _ _ _ concatenates_S128x64_S128x64_S128x64_S128x64_S128x64_S128x64_S128x64_S128x64_S128x512_d1 3 a d _ rfl).trans ?_
    exact rows_at 384 x slices_S512x64_o384_0_S128x64 a d (stk 3 a) rfl
  | ⟨1, _⟩, ⟨0, _⟩ =>
    refine (piece8 _ _ _ _ _ _ _ _ concatenates_S128x64_S128x64_S128x64_S128x64_S128x64_S128x64_S128x64_S128x64_S128x512_d1 4 a d _ rfl).trans ?_
    exact rows_at 0 y slices_S512x64_o0_0_S128x64 a d (stk 0 a) rfl
  | ⟨1, _⟩, ⟨1, _⟩ =>
    refine (piece8 _ _ _ _ _ _ _ _ concatenates_S128x64_S128x64_S128x64_S128x64_S128x64_S128x64_S128x64_S128x64_S128x512_d1 5 a d _ rfl).trans ?_
    exact rows_at 128 y slices_S512x64_o128_0_S128x64 a d (stk 1 a) rfl
  | ⟨1, _⟩, ⟨2, _⟩ =>
    refine (piece8 _ _ _ _ _ _ _ _ concatenates_S128x64_S128x64_S128x64_S128x64_S128x64_S128x64_S128x64_S128x64_S128x512_d1 6 a d _ rfl).trans ?_
    exact rows_at 256 y slices_S512x64_o256_0_S128x64 a d (stk 2 a) rfl
  | ⟨1, _⟩, ⟨3, _⟩ =>
    refine (piece8 _ _ _ _ _ _ _ _ concatenates_S128x64_S128x64_S128x64_S128x64_S128x64_S128x64_S128x64_S128x64_S128x512_d1 7 a d _ rfl).trans ?_
    exact rows_at 384 y slices_S512x64_o384_0_S128x64 a d (stk 3 a) rfl

/-- The block's rows of dq. -/
theorem dqRows_at (a : Fin 128) (g : Fin 2) (r : Fin 4) (d : Fin 64) : dqRows B (ix2 a (hcol g r d))
    = ((∑ j : Fin 128, (if j.val ≤ a.val then bd B g r a j else 0) * kOwn B (ix2 j (gcol g d)))
      + ∑ j : Fin 128, (if j.val ≤ a.val then 0 else bd B g r a j) * kPrev B (ix2 j (gcol g d))) * ((1 / 8 : ℝ) : EReal) := by
  unfold dqRows
  rw [side_at]
  match g with
  | ⟨0, _⟩ => exact dq0_at B r a d
  | ⟨1, _⟩ => exact dq1_at B r a d

theorem pair_at (x y : FVec Ideal S128x64 .f32) (z : FVec Ideal S128x128 .f32) (j : Fin 128) (g : Fin 2) (d : Fin 64) :
    k0_pay72 x y z (ix2 j (gcol g d)) = z (ix2 j (gcol g d)) + (if g.val = 0 then x else y) (ix2 j d) := by
  unfold k0_pay72
  refine congrArg₂ (fun x y : EReal => x + y) (congrFun (shapeCast_self z _) _) ?_
  match g with
  | ⟨0, _⟩ =>
    exact concatenate_pair_apply_left (t := S128x128) (s₁ := S128x64) (s₂ := S128x64) (1 : Fin 2) _ _ _ _ rfl
      (ix2 j d) (fun b => match b with | ⟨0, _⟩ => rfl | ⟨1, _⟩ => by show d.val = 64 * 0 + d.val; omega)
  | ⟨1, _⟩ =>
    exact concatenate_pair_apply_right (t := S128x128) (s₁ := S128x64) (s₂ := S128x64) (1 : Fin 2) _ _ _ _ rfl rfl
      (ix2 j d) (fun b hb => match b, hb with | ⟨0, _⟩, _ => rfl | ⟨1, _⟩, hb => absurd rfl hb) (by show d.val + 64 = 64 * 1 + d.val; omega)

theorem add73_at (x y : FVec Ideal S128x64 .f32) (z : FVec Ideal S128x128 .f32) (j : Fin 128) (g : Fin 2) (d : Fin 64) :
    k0_pay73 x y z (ix2 j (gcol g d)) = z (ix2 j (gcol g d)) + (if g.val = 0 then x else y) (ix2 j d) :=
  pair_at x y z j g d

theorem add74_at (x y : FVec Ideal S128x64 .f32) (z : FVec Ideal S128x128 .f32) (j : Fin 128) (g : Fin 2) (d : Fin 64) :
    k0_pay74 x y z (ix2 j (gcol g d)) = z (ix2 j (gcol g d)) + (if g.val = 0 then x else y) (ix2 j d) :=
  pair_at x y z j g d

theorem add75_at (x y : FVec Ideal S128x64 .f32) (z : FVec Ideal S128x128 .f32) (j : Fin 128) (g : Fin 2) (d : Fin 64) :
    k0_pay75 x y z (ix2 j (gcol g d)) = z (ix2 j (gcol g d)) + (if g.val = 0 then x else y) (ix2 j d) :=
  pair_at x y z j g d

/-- One head's sum added to its row. -/
def accTerm (p : FVec Ideal S8x128 .f32) (N : FVec Ideal S512x1 .f32) (r h : BitVec 32) : FVec Ideal S8x128 .f32 :=
  addf p (select (cmpi .eq sinkIota (broadcast S8x128 h))
    (broadcastTo S8x128 (shapeCast S1x1 (shapeCast S1x1 (multiReduction (F := Ideal) .add [0] S1
      (select (cmpi .eq headOf (broadcast S512x1 r)) N (broadcast S512x1 (Scalar.ofBits (F := Ideal) .f32 0x00000000#32)))
      0x00000000#32 reduces_S512x1_S1 (.inl rfl) rfl) shapeCasts_S1_S1x1) shapeCasts_S1x1_S1x1) broadcasts_S1x1_S8x128)
    (broadcast S8x128 (Scalar.ofBits (F := Ideal) .f32 0x00000000#32)))

theorem one_lift (R : Fin 512) (h : Shape.Reduces S512x1 [0] S1) : h.lift (ix1 (0 : Fin 1)) R = ix2 R (0 : Fin 1) := by
  funext b
  match b with
  | ⟨0, _⟩ => rfl
  | ⟨1, _⟩ => rfl

theorem sum_one (y : FVec Ideal S512x1 .f32) (h : Shape.Reduces S512x1 [0] S1) (h1 : FKind.Formats .f32) (h2 : (0x00000000#32 : BitVec 32) = FKind.add.neutral .f32 h1) (i : Fin 8) (l : Fin 128) :
    broadcastTo S8x128 (shapeCast S1x1 (shapeCast S1x1 (multiReduction (F := Ideal) .add [0] S1 y 0x00000000#32 h h1 h2) shapeCasts_S1_S1x1) shapeCasts_S1x1_S1x1) broadcasts_S1x1_S8x128 (ix2 i l)
      = ∑ R : Fin 512, y (ix2 R (0 : Fin 1)) := by
  refine (broadcastTo_apply _ _ _ (ix2 (0 : Fin 1) (0 : Fin 1)) (fun b => match b with | ⟨0, _⟩ => rfl | ⟨1, _⟩ => rfl)).trans ?_
  rw [shapeCast_self]
  refine (shapeCast_apply _ _ _ (ix1 (0 : Fin 1)) rfl).trans ?_
  refine (Ideal.multiReduction_add_single y _ h h1 h2 (ix1 (0 : Fin 1))).trans ?_
  exact Finset.sum_congr rfl fun c _ => congrArg y (one_lift c h)

theorem word_eq : ∀ i h : Fin 8, IntOp.cmpi .eq (BitVec.ofNat 32 (0 * 8 + i.val)) (BitVec.ofNat 32 h.val) = if i = h then 1#1 else 0#1 := by decide +kernel

theorem word_eq' : ∀ i h : Fin 4, IntOp.cmpi .eq (BitVec.ofNat 32 i.val) (BitVec.ofNat 32 h.val) = if i = h then 1#1 else 0#1 := by decide +kernel

theorem sum_head (N : FVec Ideal S512x1 .f32) (f : Fin 4 → Fin 128 → EReal) (r : Fin 4) (hf : ∀ r a, N (ix2 (stk r a) (0 : Fin 1)) = f r a) :
    (∑ R : Fin 512, select (cmpi .eq headOf (broadcast S512x1 (BitVec.ofNat 32 r.val))) N (broadcast S512x1 (Scalar.ofBits (F := Ideal) .f32 0x00000000#32)) (ix2 R (0 : Fin 1)))
      = ∑ a : Fin 128, f r a := by
  rw [sum_stk]
  have e (r' : Fin 4) (a : Fin 128) : select (cmpi .eq headOf (broadcast S512x1 (BitVec.ofNat 32 r.val))) N (broadcast S512x1 (Scalar.ofBits (F := Ideal) .f32 0x00000000#32)) (ix2 (stk r' a) (0 : Fin 1))
      = if r' = r then f r' a else 0 := by
    rw [select_apply, hf]
    have c : cmpi .eq headOf (broadcast S512x1 (BitVec.ofNat 32 r.val)) (ix2 (stk r' a) (0 : Fin 1)) = if r' = r then 1#1 else 0#1 := by
      rw [← word_eq', ← headOf_at r' a]
      rfl
    rw [c]
    by_cases h : r' = r
    · rw [if_pos h, if_pos h]; rfl
    · rw [if_neg h, if_neg h]; exact kzero_word
  rw [Finset.sum_eq_single r]
  · exact Finset.sum_congr rfl fun a _ => by rw [e, if_pos rfl]
  · intro r' _ hr
    exact Finset.sum_eq_zero fun a _ => by rw [e, if_neg hr]
  · intro h
    exact absurd (Finset.mem_univ r) h

theorem accTerm_at (p : FVec Ideal S8x128 .f32) (N : FVec Ideal S512x1 .f32) (f : Fin 4 → Fin 128 → EReal) (hf : ∀ r a, N (ix2 (stk r a) (0 : Fin 1)) = f r a)
    (r : Fin 4) (h i : Fin 8) (l : Fin 128) :
    accTerm p N (BitVec.ofNat 32 r.val) (BitVec.ofNat 32 h.val) (ix2 i l) = p (ix2 i l) + if i = h then ∑ a : Fin 128, f r a else 0 := by
  unfold accTerm
  refine congrArg₂ (fun x y : EReal => x + y) rfl ?_
  refine (congrArg (fun z : EReal => Scalar.select (cmpi .eq sinkIota (broadcast S8x128 (BitVec.ofNat 32 h.val)) (ix2 i l)) z (Ideal.ofBits .f32 0x00000000#32))
    ((sum_one _ _ _ _ i l).trans (sum_head N f r hf))).trans ?_
  have c : cmpi .eq sinkIota (broadcast S8x128 (BitVec.ofNat 32 h.val)) (ix2 i l) = if i = h then 1#1 else 0#1 := by
    rw [← word_eq]
    rfl
  rw [c]
  by_cases hh : i = h
  · rw [if_pos hh, if_pos hh]; rfl
  · rw [if_neg hh, if_neg hh]; exact kzero_word

theorem acc0_eq : acc0 B = accTerm (accTerm (accTerm (accTerm k0_pay7 (N0 B) 0#32 0#32) (N0 B) 1#32 1#32) (N0 B) 2#32 2#32) (N0 B) 3#32 3#32 := rfl

theorem acc1_eq : acc1 B = accTerm (accTerm (accTerm (accTerm (acc0 B) (N1 B) 0#32 4#32) (N1 B) 1#32 5#32) (N1 B) 2#32 6#32) (N1 B) 3#32 7#32 := rfl

theorem acc0_at (i : Fin 8) (l : Fin 128) : acc0 B (ix2 i l)
    = (((0 + if i = 0 then ∑ a : Fin 128, bds B 0 0 a else 0) + if i = 1 then ∑ a : Fin 128, bds B 0 1 a else 0)
      + if i = 2 then ∑ a : Fin 128, bds B 0 2 a else 0) + if i = 3 then ∑ a : Fin 128, bds B 0 3 a else 0 := by
  rw [acc0_eq]
  refine (accTerm_at _ (N0 B) (bds B 0) (N0_at B) 3 3 i l).trans (congrArg₂ (fun x y : EReal => x + y) ?_ rfl)
  refine (accTerm_at _ (N0 B) (bds B 0) (N0_at B) 2 2 i l).trans (congrArg₂ (fun x y : EReal => x + y) ?_ rfl)
  refine (accTerm_at _ (N0 B) (bds B 0) (N0_at B) 1 1 i l).trans (congrArg₂ (fun x y : EReal => x + y) ?_ rfl)
  refine (accTerm_at _ (N0 B) (bds B 0) (N0_at B) 0 0 i l).trans (congrArg₂ (fun x y : EReal => x + y) ?_ rfl)
  exact kzero_word

theorem acc1_at (i : Fin 8) (l : Fin 128) : acc1 B (ix2 i l)
    = (((acc0 B (ix2 i l) + if i = 4 then ∑ a : Fin 128, bds B 1 0 a else 0) + if i = 5 then ∑ a : Fin 128, bds B 1 1 a else 0)
      + if i = 6 then ∑ a : Fin 128, bds B 1 2 a else 0) + if i = 7 then ∑ a : Fin 128, bds B 1 3 a else 0 := by
  rw [acc1_eq]
  refine (accTerm_at _ (N1 B) (bds B 1) (N1_at B) 3 7 i l).trans (congrArg₂ (fun x y : EReal => x + y) ?_ rfl)
  refine (accTerm_at _ (N1 B) (bds B 1) (N1_at B) 2 6 i l).trans (congrArg₂ (fun x y : EReal => x + y) ?_ rfl)
  refine (accTerm_at _ (N1 B) (bds B 1) (N1_at B) 1 5 i l).trans (congrArg₂ (fun x y : EReal => x + y) ?_ rfl)
  exact accTerm_at _ (N1 B) (bds B 1) (N1_at B) 0 4 i l

/-- A head's row of the sinks' derivative's addition. -/
theorem sink_at (g : Fin 2) (r : Fin 4) (l : Fin 128) :
    acc1 B (ix2 (⟨4 * g.val + r.val, by omega⟩ : Fin 8) l) = ∑ a : Fin 128, bds B g r a := by
  have z {i : Fin 8} {j : Fin 8} (h : i.val ≠ j.val) (x : EReal) : (if i = j then x else 0) = 0 := if_neg fun e => h (congrArg Fin.val e)
  rw [acc1_at, acc0_at]
  match g, r with
  | ⟨0, _⟩, ⟨0, _⟩ =>
    rw [if_pos (show (⟨4 * 0 + 0, _⟩ : Fin 8) = 0 from rfl), z (show (⟨4 * 0 + 0, _⟩ : Fin 8).val ≠ ((1 : Fin 8)).val from (by decide : (0 : ℕ) ≠ 1)), z (show (⟨4 * 0 + 0, _⟩ : Fin 8).val ≠ ((2 : Fin 8)).val from (by decide : (0 : ℕ) ≠ 2)), z (show (⟨4 * 0 + 0, _⟩ : Fin 8).val ≠ ((3 : Fin 8)).val from (by decide : (0 : ℕ) ≠ 3)), z (show (⟨4 * 0 + 0, _⟩ : Fin 8).val ≠ ((4 : Fin 8)).val from (by decide : (0 : ℕ) ≠ 4)), z (show (⟨4 * 0 + 0, _⟩ : Fin 8).val ≠ ((5 : Fin 8)).val from (by decide : (0 : ℕ) ≠ 5)), z (show (⟨4 * 0 + 0, _⟩ : Fin 8).val ≠ ((6 : Fin 8)).val from (by decide : (0 : ℕ) ≠ 6)), z (show (⟨4 * 0 + 0, _⟩ : Fin 8).val ≠ ((7 : Fin 8)).val from (by decide : (0 : ℕ) ≠ 7))]
    simp only [zero_add, add_zero]
    rfl
  | ⟨0, _⟩, ⟨1, _⟩ =>
    rw [z (show (⟨4 * 0 + 1, _⟩ : Fin 8).val ≠ ((0 : Fin 8)).val from (by decide : (1 : ℕ) ≠ 0)), if_pos (show (⟨4 * 0 + 1, _⟩ : Fin 8) = 1 from rfl), z (show (⟨4 * 0 + 1, _⟩ : Fin 8).val ≠ ((2 : Fin 8)).val from (by decide : (1 : ℕ) ≠ 2)), z (show (⟨4 * 0 + 1, _⟩ : Fin 8).val ≠ ((3 : Fin 8)).val from (by decide : (1 : ℕ) ≠ 3)), z (show (⟨4 * 0 + 1, _⟩ : Fin 8).val ≠ ((4 : Fin 8)).val from (by decide : (1 : ℕ) ≠ 4)), z (show (⟨4 * 0 + 1, _⟩ : Fin 8).val ≠ ((5 : Fin 8)).val from (by decide : (1 : ℕ) ≠ 5)), z (show (⟨4 * 0 + 1, _⟩ : Fin 8).val ≠ ((6 : Fin 8)).val from (by decide : (1 : ℕ) ≠ 6)), z (show (⟨4 * 0 + 1, _⟩ : Fin 8).val ≠ ((7 : Fin 8)).val from (by decide : (1 : ℕ) ≠ 7))]
    simp only [zero_add, add_zero]
    rfl
  | ⟨0, _⟩, ⟨2, _⟩ =>
    rw [z (show (⟨4 * 0 + 2, _⟩ : Fin 8).val ≠ ((0 : Fin 8)).val from (by decide : (2 : ℕ) ≠ 0)), z (show (⟨4 * 0 + 2, _⟩ : Fin 8).val ≠ ((1 : Fin 8)).val from (by decide : (2 : ℕ) ≠ 1)), if_pos (show (⟨4 * 0 + 2, _⟩ : Fin 8) = 2 from rfl), z (show (⟨4 * 0 + 2, _⟩ : Fin 8).val ≠ ((3 : Fin 8)).val from (by decide : (2 : ℕ) ≠ 3)), z (show (⟨4 * 0 + 2, _⟩ : Fin 8).val ≠ ((4 : Fin 8)).val from (by decide : (2 : ℕ) ≠ 4)), z (show (⟨4 * 0 + 2, _⟩ : Fin 8).val ≠ ((5 : Fin 8)).val from (by decide : (2 : ℕ) ≠ 5)), z (show (⟨4 * 0 + 2, _⟩ : Fin 8).val ≠ ((6 : Fin 8)).val from (by decide : (2 : ℕ) ≠ 6)), z (show (⟨4 * 0 + 2, _⟩ : Fin 8).val ≠ ((7 : Fin 8)).val from (by decide : (2 : ℕ) ≠ 7))]
    simp only [zero_add, add_zero]
    rfl
  | ⟨0, _⟩, ⟨3, _⟩ =>
    rw [z (show (⟨4 * 0 + 3, _⟩ : Fin 8).val ≠ ((0 : Fin 8)).val from (by decide : (3 : ℕ) ≠ 0)), z (show (⟨4 * 0 + 3, _⟩ : Fin 8).val ≠ ((1 : Fin 8)).val from (by decide : (3 : ℕ) ≠ 1)), z (show (⟨4 * 0 + 3, _⟩ : Fin 8).val ≠ ((2 : Fin 8)).val from (by decide : (3 : ℕ) ≠ 2)), if_pos (show (⟨4 * 0 + 3, _⟩ : Fin 8) = 3 from rfl), z (show (⟨4 * 0 + 3, _⟩ : Fin 8).val ≠ ((4 : Fin 8)).val from (by decide : (3 : ℕ) ≠ 4)), z (show (⟨4 * 0 + 3, _⟩ : Fin 8).val ≠ ((5 : Fin 8)).val from (by decide : (3 : ℕ) ≠ 5)), z (show (⟨4 * 0 + 3, _⟩ : Fin 8).val ≠ ((6 : Fin 8)).val from (by decide : (3 : ℕ) ≠ 6)), z (show (⟨4 * 0 + 3, _⟩ : Fin 8).val ≠ ((7 : Fin 8)).val from (by decide : (3 : ℕ) ≠ 7))]
    simp only [zero_add, add_zero]
    rfl
  | ⟨1, _⟩, ⟨0, _⟩ =>
    rw [z (show (⟨4 * 1 + 0, _⟩ : Fin 8).val ≠ ((0 : Fin 8)).val from (by decide : (4 : ℕ) ≠ 0)), z (show (⟨4 * 1 + 0, _⟩ : Fin 8).val ≠ ((1 : Fin 8)).val from (by decide : (4 : ℕ) ≠ 1)), z (show (⟨4 * 1 + 0, _⟩ : Fin 8).val ≠ ((2 : Fin 8)).val from (by decide : (4 : ℕ) ≠ 2)), z (show (⟨4 * 1 + 0, _⟩ : Fin 8).val ≠ ((3 : Fin 8)).val from (by decide : (4 : ℕ) ≠ 3)), if_pos (show (⟨4 * 1 + 0, _⟩ : Fin 8) = 4 from rfl), z (show (⟨4 * 1 + 0, _⟩ : Fin 8).val ≠ ((5 : Fin 8)).val from (by decide : (4 : ℕ) ≠ 5)), z (show (⟨4 * 1 + 0, _⟩ : Fin 8).val ≠ ((6 : Fin 8)).val from (by decide : (4 : ℕ) ≠ 6)), z (show (⟨4 * 1 + 0, _⟩ : Fin 8).val ≠ ((7 : Fin 8)).val from (by decide : (4 : ℕ) ≠ 7))]
    simp only [zero_add, add_zero]
    rfl
  | ⟨1, _⟩, ⟨1, _⟩ =>
    rw [z (show (⟨4 * 1 + 1, _⟩ : Fin 8).val ≠ ((0 : Fin 8)).val from (by decide : (5 : ℕ) ≠ 0)), z (show (⟨4 * 1 + 1, _⟩ : Fin 8).val ≠ ((1 : Fin 8)).val from (by decide : (5 : ℕ) ≠ 1)), z (show (⟨4 * 1 + 1, _⟩ : Fin 8).val ≠ ((2 : Fin 8)).val from (by decide : (5 : ℕ) ≠ 2)), z (show (⟨4 * 1 + 1, _⟩ : Fin 8).val ≠ ((3 : Fin 8)).val from (by decide : (5 : ℕ) ≠ 3)), z (show (⟨4 * 1 + 1, _⟩ : Fin 8).val ≠ ((4 : Fin 8)).val from (by decide : (5 : ℕ) ≠ 4)), if_pos (show (⟨4 * 1 + 1, _⟩ : Fin 8) = 5 from rfl), z (show (⟨4 * 1 + 1, _⟩ : Fin 8).val ≠ ((6 : Fin 8)).val from (by decide : (5 : ℕ) ≠ 6)), z (show (⟨4 * 1 + 1, _⟩ : Fin 8).val ≠ ((7 : Fin 8)).val from (by decide : (5 : ℕ) ≠ 7))]
    simp only [zero_add, add_zero]
    rfl
  | ⟨1, _⟩, ⟨2, _⟩ =>
    rw [z (show (⟨4 * 1 + 2, _⟩ : Fin 8).val ≠ ((0 : Fin 8)).val from (by decide : (6 : ℕ) ≠ 0)), z (show (⟨4 * 1 + 2, _⟩ : Fin 8).val ≠ ((1 : Fin 8)).val from (by decide : (6 : ℕ) ≠ 1)), z (show (⟨4 * 1 + 2, _⟩ : Fin 8).val ≠ ((2 : Fin 8)).val from (by decide : (6 : ℕ) ≠ 2)), z (show (⟨4 * 1 + 2, _⟩ : Fin 8).val ≠ ((3 : Fin 8)).val from (by decide : (6 : ℕ) ≠ 3)), z (show (⟨4 * 1 + 2, _⟩ : Fin 8).val ≠ ((4 : Fin 8)).val from (by decide : (6 : ℕ) ≠ 4)), z (show (⟨4 * 1 + 2, _⟩ : Fin 8).val ≠ ((5 : Fin 8)).val from (by decide : (6 : ℕ) ≠ 5)), if_pos (show (⟨4 * 1 + 2, _⟩ : Fin 8) = 6 from rfl), z (show (⟨4 * 1 + 2, _⟩ : Fin 8).val ≠ ((7 : Fin 8)).val from (by decide : (6 : ℕ) ≠ 7))]
    simp only [zero_add, add_zero]
    rfl
  | ⟨1, _⟩, ⟨3, _⟩ =>
    rw [z (show (⟨4 * 1 + 3, _⟩ : Fin 8).val ≠ ((0 : Fin 8)).val from (by decide : (7 : ℕ) ≠ 0)), z (show (⟨4 * 1 + 3, _⟩ : Fin 8).val ≠ ((1 : Fin 8)).val from (by decide : (7 : ℕ) ≠ 1)), z (show (⟨4 * 1 + 3, _⟩ : Fin 8).val ≠ ((2 : Fin 8)).val from (by decide : (7 : ℕ) ≠ 2)), z (show (⟨4 * 1 + 3, _⟩ : Fin 8).val ≠ ((3 : Fin 8)).val from (by decide : (7 : ℕ) ≠ 3)), z (show (⟨4 * 1 + 3, _⟩ : Fin 8).val ≠ ((4 : Fin 8)).val from (by decide : (7 : ℕ) ≠ 4)), z (show (⟨4 * 1 + 3, _⟩ : Fin 8).val ≠ ((5 : Fin 8)).val from (by decide : (7 : ℕ) ≠ 5)), z (show (⟨4 * 1 + 3, _⟩ : Fin 8).val ≠ ((6 : Fin 8)).val from (by decide : (7 : ℕ) ≠ 6)), if_pos (show (⟨4 * 1 + 3, _⟩ : Fin 8) = 7 from rfl)]
    simp only [zero_add, add_zero]
    rfl

end Cert.Proof.Attn
-- ==== Proof.Attn.RefOps.lean ====
/- The reference's stages as functions of its four arguments. -/
module

public import proofs.«01_k».proof.Proof.Attn.Row
public import proofs.«01_k».proof.Proof.Gen.ReferenceIdeal

@[expose] public section

set_option maxRecDepth 16384

noncomputable section

namespace Cert.Proof.Attn

open Cert.ReferenceIdeal Cert.ReferenceIdeal.Gen
open Idealize.ShloMosaic Idealize.ShloMosaic.ValueIdx

/-- The four arguments. -/
abbrev A0 := (⟨⟨2, ![2048, 640]⟩, .f32⟩ : BufTy).Contents (Elt Ideal)
abbrev A1 := (⟨⟨2, ![2048, 768]⟩, .f32⟩ : BufTy).Contents (Elt Ideal)
abbrev A2 := (⟨⟨1, ![32]⟩, .f32⟩ : BufTy).Contents (Elt Ideal)
abbrev A3 := (⟨⟨2, ![2048, 2048]⟩, .f32⟩ : BufTy).Contents (Elt Ideal)

def r_v0 (x0 : A0) : FVec Ideal S2048x512 .f32 :=
  extractStridedSlice S2048x512 ![0, 0] (x0) slices_S2048x640_S2048x512_0_0
def r_v1 (x0 : A0) : FVec Ideal S1x2048x8x64 .f32 :=
  shapeCast _ (r_v0 x0) shapeCasts_S2048x512_S1x2048x8x64
def r_v2 (x0 : A0) : FVec Ideal S2048x128 .f32 :=
  extractStridedSlice S2048x128 ![0, 512] (x0) slices_S2048x640_S2048x128_0_512
def r_v3 (x0 : A0) : FVec Ideal S1x2048x2x64 .f32 :=
  shapeCast _ (r_v2 x0) shapeCasts_S2048x128_S1x2048x2x64
def r_v4 (x1 : A1) : FVec Ideal S2048x128 .f32 :=
  extractStridedSlice S2048x128 ![0, 640] (x1) slices_S2048x768_S2048x128_0_640
def r_v5 (x1 : A1) : FVec Ideal S1x2048x2x64 .f32 :=
  shapeCast _ (r_v4 x1) shapeCasts_S2048x128_S1x2048x2x64
def r_v6 (x3 : A3) : FVec Ideal S2048x512 .f32 :=
  extractStridedSlice S2048x512 ![0, 1024] (x3) slices_S2048x2048_S2048x512_0_1024
def r_v7 (x3 : A3) : FVec Ideal S1x2048x512 .f32 :=
  shapeCast _ (r_v6 x3) shapeCasts_S2048x512_S1x2048x512
def r_v8 (x2 : A2) : FVec Ideal S4x8 .f32 :=
  shapeCast _ (x2) shapeCasts_S32_S4x8
def r_v9 (x2 : A2) : FVec Ideal S1x8 .f32 :=
  extractStridedSlice S1x8 ![1, 0] (r_v8 x2) slices_S4x8_S1x8_1_0
def r_v10 (x2 : A2) : FVec Ideal S8 .f32 :=
  shapeCast _ (r_v9 x2) shapeCasts_S1x8_S8
def r_v11 (x0 : A0) : FVec Ideal S1x16x128x2x4x64 .f32 :=
  shapeCast _ (r_v1 x0) shapeCasts_S1x2048x8x64_S1x16x128x2x4x64
def r_v12 (x0 : A0) : FVec Ideal S1x16x128x2x64 .f32 :=
  shapeCast _ (r_v3 x0) shapeCasts_S1x2048x2x64_S1x16x128x2x64
def r_cst : FVec Ideal S_ .f32 :=
  constant S_ .f32 0x00000000#32
def r_v13 : FVec Ideal S1x1x128x2x64 .f32 :=
  broadcastInDim S1x1x128x2x64 ![] bcast_S_S1x1x128x2x64 (r_cst)
def r_v14 (x0 : A0) : FVec Ideal S1x15x128x2x64 .f32 :=
  extractStridedSlice S1x15x128x2x64 ![0, 0, 0, 0, 0] (r_v12 x0) slices_S1x16x128x2x64_S1x15x128x2x64_0_0_0_0_0
def r_v15 (x0 : A0) : FVec Ideal S1x16x128x2x64 .f32 :=
  concatenate S1x16x128x2x64 1 [⟨S1x1x128x2x64, (r_v13)⟩, ⟨S1x15x128x2x64, (r_v14 x0)⟩] concatenates_S1x1x128x2x64_S1x15x128x2x64_S1x16x128x2x64_d1
def r_v17 (x0 : A0) : FVec Ideal S1x16x256x2x64 .f32 :=
  concatenate S1x16x256x2x64 2 [⟨S1x16x128x2x64, (r_v15 x0)⟩, ⟨S1x16x128x2x64, (r_v12 x0)⟩] concatenates_S1x16x128x2x64_S1x16x128x2x64_S1x16x256x2x64_d2
def r_v18 (x1 : A1) : FVec Ideal S1x16x128x2x64 .f32 :=
  shapeCast _ (r_v5 x1) shapeCasts_S1x2048x2x64_S1x16x128x2x64
def r_cst_1 : FVec Ideal S_ .f32 :=
  constant S_ .f32 0x00000000#32
def r_v19 : FVec Ideal S1x1x128x2x64 .f32 :=
  broadcastInDim S1x1x128x2x64 ![] bcast_S_S1x1x128x2x64 (r_cst_1)
def r_v20 (x1 : A1) : FVec Ideal S1x15x128x2x64 .f32 :=
  extractStridedSlice S1x15x128x2x64 ![0, 0, 0, 0, 0] (r_v18 x1) slices_S1x16x128x2x64_S1x15x128x2x64_0_0_0_0_0
def r_v21 (x1 : A1) : FVec Ideal S1x16x128x2x64 .f32 :=
  concatenate S1x16x128x2x64 1 [⟨S1x1x128x2x64, (r_v19)⟩, ⟨S1x15x128x2x64, (r_v20 x1)⟩] concatenates_S1x1x128x2x64_S1x15x128x2x64_S1x16x128x2x64_d1
def r_v23 (x1 : A1) : FVec Ideal S1x16x256x2x64 .f32 :=
  concatenate S1x16x256x2x64 2 [⟨S1x16x128x2x64, (r_v21 x1)⟩, ⟨S1x16x128x2x64, (r_v18 x1)⟩] concatenates_S1x16x128x2x64_S1x16x128x2x64_S1x16x256x2x64_d2
def r_v24 (x0 : A0) : FVec Ideal S1x16x2x256x128x4 .f32 :=
  Host.dotGeneral dot_S1x16x256x2x64_S1x16x128x2x4x64_S1x16x2x256x128x4_4_5_2_24_013_013 none (r_v17 x0) (r_v11 x0)
def r_v25 (x0 : A0) : FVec Ideal S1x16x2x4x128x256 .f32 :=
  transpose S1x16x2x4x128x256 [0, 1, 2, 5, 4, 3] (r_v24 x0) transposes_S1x16x2x256x128x4_S1x16x2x4x128x256_0_1_2_5_4_3
def r_cst_3 : FVec Ideal S_ .f32 :=
  constant S_ .f32 0x3E000000#32
def r_v26 : FVec Ideal S1x16x2x4x128x256 .f32 :=
  broadcastInDim S1x16x2x4x128x256 ![] bcast_S_S1x16x2x4x128x256 (r_cst_3)
def r_v27 (x0 : A0) : FVec Ideal S1x16x2x4x128x256 .f32 :=
  mulf (r_v25 x0) (r_v26)
def r_v28 : IVec S128 32 :=
  iotaInDim S128 32 0
def r_v29 : IVec S128x1 32 :=
  broadcastInDim S128x1 ![0] bcast_S128_S128x1_0 (r_v28)
def r_v30 : IVec S256 32 :=
  iotaInDim S256 32 0
def r_v31 : IVec S1x256 32 :=
  broadcastInDim S1x256 ![1] bcast_S256_S1x256_1 (r_v30)
def r_c : IVec S_ 32 :=
  constantI S_ 32 128#32
def r_v32 : IVec S128x1 32 :=
  broadcastInDim S128x1 ![] bcast_S_S128x1 (r_c)
def r_v33 : IVec S128x1 32 :=
  addi (r_v29) (r_v32)
def r_v34 : IVec S128x256 32 :=
  broadcastInDim S128x256 ![0, 1] bcast_S128x1_S128x256_0_1 (r_v33)
def r_v35 : IVec S128x256 32 :=
  broadcastInDim S128x256 ![0, 1] bcast_S1x256_S128x256_0_1 (r_v31)
def r_v36 : IVec S128x256 32 :=
  subi (r_v34) (r_v35)
def r_c_4 : IVec S_ 32 :=
  constantI S_ 32 0#32
def r_v37 : IVec S128x256 32 :=
  broadcastInDim S128x256 ![] bcast_S_S128x256 (r_c_4)
def r_v38 : IVec S128x256 1 :=
  cmpi .sge (r_v36) (r_v37)
def r_c_5 : IVec S_ 32 :=
  constantI S_ 32 128#32
def r_v39 : IVec S128x256 32 :=
  broadcastInDim S128x256 ![] bcast_S_S128x256 (r_c_5)
def r_v40 : IVec S128x256 1 :=
  cmpi .slt (r_v36) (r_v39)
def r_v41 : IVec S128x256 1 :=
  andi (r_v38) (r_v40)
def r_v42 : IVec S16 32 :=
  iotaInDim S16 32 0
def r_v43 : IVec S16x1x1 32 :=
  broadcastInDim S16x1x1 ![0] bcast_S16_S16x1x1_0 (r_v42)
def r_c_6 : IVec S_ 32 :=
  constantI S_ 32 128#32
def r_v44 : IVec S16x1x1 32 :=
  broadcastInDim S16x1x1 ![] bcast_S_S16x1x1 (r_c_6)
def r_v45 : IVec S16x1x1 32 :=
  muli (r_v43) (r_v44)
def r_v46 : IVec S1x1x256 32 :=
  broadcastInDim S1x1x256 ![1, 2] bcast_S1x256_S1x1x256_1_2 (r_v31)
def r_v47 : IVec S16x1x256 32 :=
  broadcastInDim S16x1x256 ![0, 1, 2] bcast_S16x1x1_S16x1x256_0_1_2 (r_v45)
def r_v48 : IVec S16x1x256 32 :=
  broadcastInDim S16x1x256 ![0, 1, 2] bcast_S1x1x256_S16x1x256_0_1_2 (r_v46)
def r_v49 : IVec S16x1x256 32 :=
  addi (r_v47) (r_v48)
def r_c_7 : IVec S_ 32 :=
  constantI S_ 32 128#32
def r_v50 : IVec S16x1x256 32 :=
  broadcastInDim S16x1x256 ![] bcast_S_S16x1x256 (r_c_7)
def r_v51 : IVec S16x1x256 32 :=
  subi (r_v49) (r_v50)
def r_v52 : IVec S1x128x256 1 :=
  broadcastInDim S1x128x256 ![1, 2] bcast_S128x256_S1x128x256_1_2 (r_v41)
def r_c_8 : IVec S_ 32 :=
  constantI S_ 32 0#32
def r_v53 : IVec S16x1x256 32 :=
  broadcastInDim S16x1x256 ![] bcast_S_S16x1x256 (r_c_8)
def r_v54 : IVec S16x1x256 1 :=
  cmpi .sge (r_v51) (r_v53)
def r_v55 : IVec S16x128x256 1 :=
  broadcastInDim S16x128x256 ![0, 1, 2] bcast_S1x128x256_S16x128x256_0_1_2 (r_v52)
def r_v56 : IVec S16x128x256 1 :=
  broadcastInDim S16x128x256 ![0, 1, 2] bcast_S16x1x256_S16x128x256_0_1_2 (r_v54)
def r_v57 : IVec S16x128x256 1 :=
  andi (r_v55) (r_v56)
def r_v58 : IVec S1x16x1x1x128x256 1 :=
  broadcastInDim S1x16x1x1x128x256 ![1, 4, 5] bcast_S16x128x256_S1x16x1x1x128x256_1_4_5 (r_v57)
def r_cst_9 : FVec Ideal S_ .f32 :=
  constant S_ .f32 0xFF800000#32
def r_call0_v0 : FVec Ideal S_ .f32 :=
  id (r_cst_9)
def r_v59_1 : IVec S1x16x2x4x128x256 1 :=
  broadcastInDim S1x16x2x4x128x256 ![0, 1, 2, 3, 4, 5] bcast_S1x16x1x1x128x256_S1x16x2x4x128x256_0_1_2_3_4_5 (r_v58)
def r_call0_v2 : FVec Ideal S1x16x2x4x128x256 .f32 :=
  broadcastInDim S1x16x2x4x128x256 ![] bcast_S_S1x16x2x4x128x256 (r_call0_v0)
def r_v59_0 (x0 : A0) : FVec Ideal S1x16x2x4x128x256 .f32 :=
  select (r_v59_1) (r_v27 x0) (r_call0_v2)
def r_v60 (x2 : A2) : FVec Ideal S1x1x2x4x1x1 .f32 :=
  shapeCast _ (r_v10 x2) shapeCasts_S8_S1x1x2x4x1x1
def r_v61 (x2 : A2) : FVec Ideal S1x16x2x4x128x1 .f32 :=
  broadcastInDim S1x16x2x4x128x1 ![0, 1, 2, 3, 4, 5] bcast_S1x1x2x4x1x1_S1x16x2x4x128x1_0_1_2_3_4_5 (r_v60 x2)
def r_v62 (x0 : A0) (x2 : A2) : FVec Ideal S1x16x2x4x128x257 .f32 :=
  concatenate S1x16x2x4x128x257 5 [⟨S1x16x2x4x128x256, (r_v59_0 x0)⟩, ⟨S1x16x2x4x128x1, (r_v61 x2)⟩] concatenates_S1x16x2x4x128x256_S1x16x2x4x128x1_S1x16x2x4x128x257_d5
def r_cst_10 : FVec Ideal S_ .f32 :=
  constant S_ .f32 0xFF800000#32
def r_v63 (x0 : A0) (x2 : A2) : FVec Ideal S1x16x2x4x128 .f32 :=
  Host.reduce FloatOps.maximumf (r_v62 x0 x2) (r_cst_10) reducesTo_S1x16x2x4x128x257_S1x16x2x4x128_d5 h_S_
def r_cst_12 : FVec Ideal S_ .f32 :=
  constant S_ .f32 0xFF800000#32
def r_v69 : FVec Ideal S1x16x2x4x128 .f32 :=
  broadcastInDim S1x16x2x4x128 ![] bcast_S_S1x16x2x4x128 (r_cst_12)
def r_v70 (x0 : A0) (x2 : A2) : FVec Ideal S1x16x2x4x128 .f32 :=
  maximumf (r_v69) (r_v63 x0 x2)
def r_v80 (x0 : A0) (x2 : A2) : FVec Ideal S1x16x2x4x128x1 .f32 :=
  broadcastInDim S1x16x2x4x128x1 ![0, 1, 2, 3, 4] bcast_S1x16x2x4x128_S1x16x2x4x128x1_0_1_2_3_4 (r_v70 x0 x2)
def r_v81 (x0 : A0) (x2 : A2) : FVec Ideal S1x16x2x4x128x257 .f32 :=
  broadcastInDim S1x16x2x4x128x257 ![0, 1, 2, 3, 4, 5] bcast_S1x16x2x4x128x1_S1x16x2x4x128x257_0_1_2_3_4_5 (r_v80 x0 x2)
def r_v82 (x0 : A0) (x2 : A2) : FVec Ideal S1x16x2x4x128x257 .f32 :=
  subf (r_v62 x0 x2) (r_v81 x0 x2)
def r_v83 (x0 : A0) (x2 : A2) : FVec Ideal S1x16x2x4x128x257 .f32 :=
  Host.exp (r_v82 x0 x2)
def r_cst_18 : FVec Ideal S_ .f32 :=
  constant S_ .f32 0x00000000#32
def r_v84 (x0 : A0) (x2 : A2) : FVec Ideal S1x16x2x4x128 .f32 :=
  Host.reduceAdd (r_v83 x0 x2) (r_cst_18) reducesTo_S1x16x2x4x128x257_S1x16x2x4x128_d5 h_S_
def r_v85 (x0 : A0) (x2 : A2) : FVec Ideal S1x16x2x4x128x1 .f32 :=
  broadcastInDim S1x16x2x4x128x1 ![0, 1, 2, 3, 4] bcast_S1x16x2x4x128_S1x16x2x4x128x1_0_1_2_3_4 (r_v84 x0 x2)
def r_v86 (x0 : A0) (x2 : A2) : FVec Ideal S1x16x2x4x128x257 .f32 :=
  broadcastInDim S1x16x2x4x128x257 ![0, 1, 2, 3, 4, 5] bcast_S1x16x2x4x128x1_S1x16x2x4x128x257_0_1_2_3_4_5 (r_v85 x0 x2)
def r_v87 (x0 : A0) (x2 : A2) : FVec Ideal S1x16x2x4x128x257 .f32 :=
  Host.divf (r_v83 x0 x2) (r_v86 x0 x2)
def r_v88 (x0 : A0) (x2 : A2) : FVec Ideal S1x16x2x4x128x1 .f32 :=
  mulf (r_v85 x0 x2) (r_v85 x0 x2)
def r_cst_19 : FVec Ideal S_ .f32 :=
  constant S_ .f32 0x3F800000#32
def r_v89 : FVec Ideal S1x16x2x4x128x1 .f32 :=
  broadcastInDim S1x16x2x4x128x1 ![] bcast_S_S1x16x2x4x128x1 (r_cst_19)
def r_v90 (x0 : A0) (x2 : A2) : FVec Ideal S1x16x2x4x128x1 .f32 :=
  Host.divf (r_v89) (r_v88 x0 x2)
def r_v91 (x0 : A0) (x2 : A2) : FVec Ideal S1x16x2x4x128x256 .f32 :=
  extractStridedSlice S1x16x2x4x128x256 ![0, 0, 0, 0, 0, 0] (r_v87 x0 x2) slices_S1x16x2x4x128x257_S1x16x2x4x128x256_0_0_0_0_0_0
def r_v95 (x3 : A3) : FVec Ideal S1x16x128x2x4x64 .f32 :=
  shapeCast _ (r_v7 x3) shapeCasts_S1x2048x512_S1x16x128x2x4x64
def r_v96 (x3 : A3) : FVec Ideal S1x16x2x64x4x128 .f32 :=
  transpose S1x16x2x64x4x128 [0, 1, 3, 5, 4, 2] (r_v95 x3) transposes_S1x16x128x2x4x64_S1x16x2x64x4x128_0_1_3_5_4_2
def r_v97 (x1 : A1) (x3 : A3) : FVec Ideal S1x16x2x4x128x256 .f32 :=
  Host.dotGeneral dot_S1x16x2x64x4x128_S1x16x256x2x64_S1x16x2x4x128x256_3_4_45_2_012_013 none (r_v96 x3) (r_v23 x1)
def r_v98 (x0 : A0) (x2 : A2) (x3 : A3) : FVec Ideal S1x16x2x64x256 .f32 :=
  Host.dotGeneral dot_S1x16x2x64x4x128_S1x16x2x4x128x256_S1x16x2x64x256_45_34_3_5_012_012 none (r_v96 x3) (r_v91 x0 x2)
def r_v99 (x0 : A0) (x2 : A2) (x3 : A3) : FVec Ideal S1x16x256x2x64 .f32 :=
  transpose S1x16x256x2x64 [0, 1, 4, 2, 3] (r_v98 x0 x2 x3) transposes_S1x16x2x64x256_S1x16x256x2x64_0_1_4_2_3
def r_cst_20 : FVec Ideal S_ .f32 :=
  constant S_ .f32 0x00000000#32
def r_v100 (x1 : A1) (x3 : A3) : FVec Ideal S1x16x2x4x128x257 .f32 :=
  pad S1x16x2x4x128x257 ![0, 0, 0, 0, 0, 0] ![0, 0, 0, 0, 0, 1] ![0, 0, 0, 0, 0, 0] (r_v97 x1 x3) (r_cst_20) pads_S1x16x2x4x128x256_S1x16x2x4x128x257_000_000_000_000_000_010 h_S_
def r_v101 (x0 : A0) (x2 : A2) : FVec Ideal S1x16x2x4x128x257 .f32 :=
  broadcastInDim S1x16x2x4x128x257 ![0, 1, 2, 3, 4, 5] bcast_S1x16x2x4x128x1_S1x16x2x4x128x257_0_1_2_3_4_5 (r_v90 x0 x2)
def r_v102 (x0 : A0) (x1 : A1) (x2 : A2) (x3 : A3) : FVec Ideal S1x16x2x4x128x257 .f32 :=
  mulf (r_v100 x1 x3) (r_v101 x0 x2)
def r_v103 (x0 : A0) (x1 : A1) (x2 : A2) (x3 : A3) : FVec Ideal S1x16x2x4x128x257 .f32 :=
  mulf (r_v102 x0 x1 x2 x3) (r_v83 x0 x2)
def r_cst_21 : FVec Ideal S_ .f32 :=
  constant S_ .f32 0x00000000#32
def r_v104 (x0 : A0) (x1 : A1) (x2 : A2) (x3 : A3) : FVec Ideal S1x16x2x4x128 .f32 :=
  Host.reduceAdd (r_v103 x0 x1 x2 x3) (r_cst_21) reducesTo_S1x16x2x4x128x257_S1x16x2x4x128_d5 h_S_
def r_v105 (x0 : A0) (x1 : A1) (x2 : A2) (x3 : A3) : FVec Ideal S1x16x2x4x128x1 .f32 :=
  shapeCast _ (r_v104 x0 x1 x2 x3) shapeCasts_S1x16x2x4x128_S1x16x2x4x128x1
def r_v106 (x0 : A0) (x1 : A1) (x2 : A2) (x3 : A3) : FVec Ideal S1x16x2x4x128x1 .f32 :=
  Host.negf (r_v105 x0 x1 x2 x3)
def r_v107 (x0 : A0) (x2 : A2) : FVec Ideal S1x16x2x4x128x257 .f32 :=
  broadcastInDim S1x16x2x4x128x257 ![0, 1, 2, 3, 4, 5] bcast_S1x16x2x4x128x1_S1x16x2x4x128x257_0_1_2_3_4_5 (r_v85 x0 x2)
def r_v108 (x0 : A0) (x1 : A1) (x2 : A2) (x3 : A3) : FVec Ideal S1x16x2x4x128x257 .f32 :=
  Host.divf (r_v100 x1 x3) (r_v107 x0 x2)
def r_cst_22 : FVec Ideal S_ .f32 :=
  constant S_ .f32 0x00000000#32
def r_v109 (x0 : A0) (x1 : A1) (x2 : A2) (x3 : A3) : FVec Ideal S16x2x4x128 .f32 :=
  Host.reduceAdd (r_v106 x0 x1 x2 x3) (r_cst_22) reducesTo_S1x16x2x4x128x1_S16x2x4x128_d0_5 h_S_
def r_v110 (x0 : A0) (x1 : A1) (x2 : A2) (x3 : A3) : FVec Ideal S1x16x2x4x128 .f32 :=
  broadcastInDim S1x16x2x4x128 ![1, 2, 3, 4] bcast_S16x2x4x128_S1x16x2x4x128_1_2_3_4 (r_v109 x0 x1 x2 x3)
def r_v111 (x0 : A0) (x1 : A1) (x2 : A2) (x3 : A3) : FVec Ideal S1x16x2x4x128x257 .f32 :=
  broadcastInDim S1x16x2x4x128x257 ![0, 1, 2, 3, 4] bcast_S1x16x2x4x128_S1x16x2x4x128x257_0_1_2_3_4 (r_v110 x0 x1 x2 x3)
def r_v112 (x0 : A0) (x1 : A1) (x2 : A2) (x3 : A3) : FVec Ideal S1x16x2x4x128x257 .f32 :=
  addf (r_v108 x0 x1 x2 x3) (r_v111 x0 x1 x2 x3)
def r_v113 (x0 : A0) (x1 : A1) (x2 : A2) (x3 : A3) : FVec Ideal S1x16x2x4x128x257 .f32 :=
  mulf (r_v112 x0 x1 x2 x3) (r_v83 x0 x2)
def r_v114 (x0 : A0) (x1 : A1) (x2 : A2) (x3 : A3) : FVec Ideal S1x16x2x4x128x256 .f32 :=
  extractStridedSlice S1x16x2x4x128x256 ![0, 0, 0, 0, 0, 0] (r_v113 x0 x1 x2 x3) slices_S1x16x2x4x128x257_S1x16x2x4x128x256_0_0_0_0_0_0
def r_v115 (x0 : A0) (x1 : A1) (x2 : A2) (x3 : A3) : FVec Ideal S1x16x2x4x128x1 .f32 :=
  extractStridedSlice S1x16x2x4x128x1 ![0, 0, 0, 0, 0, 256] (r_v113 x0 x1 x2 x3) slices_S1x16x2x4x128x257_S1x16x2x4x128x1_0_0_0_0_0_256
def r_cst_23 : FVec Ideal S_ .f32 :=
  constant S_ .f32 0x00000000#32
def r_v116 (x0 : A0) (x1 : A1) (x2 : A2) (x3 : A3) : FVec Ideal S2x4 .f32 :=
  Host.reduceAdd (r_v115 x0 x1 x2 x3) (r_cst_23) reducesTo_S1x16x2x4x128x1_S2x4_d0_1_4_5 h_S_
def r_v117 (x0 : A0) (x1 : A1) (x2 : A2) (x3 : A3) : FVec Ideal S1x1x2x4x1x1 .f32 :=
  broadcastInDim S1x1x2x4x1x1 ![2, 3] bcast_S2x4_S1x1x2x4x1x1_2_3 (r_v116 x0 x1 x2 x3)
def r_v118 (x0 : A0) (x1 : A1) (x2 : A2) (x3 : A3) : FVec Ideal S8 .f32 :=
  shapeCast _ (r_v117 x0 x1 x2 x3) shapeCasts_S1x1x2x4x1x1_S8
def r_call1_cst : FVec Ideal S_ .f32 :=
  constant S_ .f32 0x00000000#32
def r_call1_v0 : FVec Ideal S1x16x2x4x128x256 .f32 :=
  broadcastInDim S1x16x2x4x128x256 ![] bcast_S_S1x16x2x4x128x256 (r_call1_cst)
def r_v119 (x0 : A0) (x1 : A1) (x2 : A2) (x3 : A3) : FVec Ideal S1x16x2x4x128x256 .f32 :=
  select (r_v59_1) (r_v114 x0 x1 x2 x3) (r_call1_v0)
def r_cst_24 : FVec Ideal S_ .f32 :=
  constant S_ .f32 0x3E000000#32
def r_v120 : FVec Ideal S1x16x2x4x128x256 .f32 :=
  broadcastInDim S1x16x2x4x128x256 ![] bcast_S_S1x16x2x4x128x256 (r_cst_24)
def r_v121 (x0 : A0) (x1 : A1) (x2 : A2) (x3 : A3) : FVec Ideal S1x16x2x4x128x256 .f32 :=
  mulf (r_v119 x0 x1 x2 x3) (r_v120)
def r_v122 (x0 : A0) (x1 : A1) (x2 : A2) (x3 : A3) : FVec Ideal S1x16x2x256x128x4 .f32 :=
  transpose S1x16x2x256x128x4 [0, 1, 2, 5, 4, 3] (r_v121 x0 x1 x2 x3) transposes_S1x16x2x4x128x256_S1x16x2x256x128x4_0_1_2_5_4_3
def r_v123 (x0 : A0) (x1 : A1) (x2 : A2) (x3 : A3) : FVec Ideal S1x16x2x128x4x64 .f32 :=
  Host.dotGeneral dot_S1x16x2x256x128x4_S1x16x256x2x64_S1x16x2x128x4x64_3_2_45_4_012_013 none (r_v122 x0 x1 x2 x3) (r_v17 x0)
def r_v124 (x0 : A0) (x1 : A1) (x2 : A2) (x3 : A3) : FVec Ideal S1x16x128x2x4x64 .f32 :=
  transpose S1x16x128x2x4x64 [0, 1, 3, 2, 4, 5] (r_v123 x0 x1 x2 x3) transposes_S1x16x2x128x4x64_S1x16x128x2x4x64_0_1_3_2_4_5
def r_v125 (x0 : A0) (x1 : A1) (x2 : A2) (x3 : A3) : FVec Ideal S1x16x2x256x64 .f32 :=
  Host.dotGeneral dot_S1x16x2x256x128x4_S1x16x128x2x4x64_S1x16x2x256x64_45_24_3_5_012_013 none (r_v122 x0 x1 x2 x3) (r_v11 x0)
def r_v126 (x0 : A0) (x1 : A1) (x2 : A2) (x3 : A3) : FVec Ideal S1x16x256x2x64 .f32 :=
  transpose S1x16x256x2x64 [0, 1, 3, 2, 4] (r_v125 x0 x1 x2 x3) transposes_S1x16x2x256x64_S1x16x256x2x64_0_1_3_2_4
def r_v127 (x0 : A0) (x2 : A2) (x3 : A3) : FVec Ideal S1x16x128x2x64 .f32 :=
  extractStridedSlice S1x16x128x2x64 ![0, 0, 0, 0, 0] (r_v99 x0 x2 x3) slices_S1x16x256x2x64_S1x16x128x2x64_0_0_0_0_0
def r_v128 (x0 : A0) (x2 : A2) (x3 : A3) : FVec Ideal S1x16x128x2x64 .f32 :=
  extractStridedSlice S1x16x128x2x64 ![0, 0, 128, 0, 0] (r_v99 x0 x2 x3) slices_S1x16x256x2x64_S1x16x128x2x64_0_0_128_0_0
def r_v130 (x0 : A0) (x2 : A2) (x3 : A3) : FVec Ideal S1x15x128x2x64 .f32 :=
  extractStridedSlice S1x15x128x2x64 ![0, 1, 0, 0, 0] (r_v127 x0 x2 x3) slices_S1x16x128x2x64_S1x15x128x2x64_0_1_0_0_0
def r_cst_25 : FVec Ideal S_ .f32 :=
  constant S_ .f32 0x00000000#32
def r_v131 (x0 : A0) (x2 : A2) (x3 : A3) : FVec Ideal S1x16x128x2x64 .f32 :=
  pad S1x16x128x2x64 ![0, 0, 0, 0, 0] ![0, 1, 0, 0, 0] ![0, 0, 0, 0, 0] (r_v130 x0 x2 x3) (r_cst_25) pads_S1x15x128x2x64_S1x16x128x2x64_000_010_000_000_000 h_S_
def r_v132 (x0 : A0) (x2 : A2) (x3 : A3) : FVec Ideal S1x16x128x2x64 .f32 :=
  addf (r_v128 x0 x2 x3) (r_v131 x0 x2 x3)
def r_v133 (x0 : A0) (x2 : A2) (x3 : A3) : FVec Ideal S1x2048x2x64 .f32 :=
  shapeCast _ (r_v132 x0 x2 x3) shapeCasts_S1x16x128x2x64_S1x2048x2x64
def r_v134 (x0 : A0) (x1 : A1) (x2 : A2) (x3 : A3) : FVec Ideal S1x16x128x2x64 .f32 :=
  extractStridedSlice S1x16x128x2x64 ![0, 0, 0, 0, 0] (r_v126 x0 x1 x2 x3) slices_S1x16x256x2x64_S1x16x128x2x64_0_0_0_0_0
def r_v135 (x0 : A0) (x1 : A1) (x2 : A2) (x3 : A3) : FVec Ideal S1x16x128x2x64 .f32 :=
  extractStridedSlice S1x16x128x2x64 ![0, 0, 128, 0, 0] (r_v126 x0 x1 x2 x3) slices_S1x16x256x2x64_S1x16x128x2x64_0_0_128_0_0
def r_v137 (x0 : A0) (x1 : A1) (x2 : A2) (x3 : A3) : FVec Ideal S1x15x128x2x64 .f32 :=
  extractStridedSlice S1x15x128x2x64 ![0, 1, 0, 0, 0] (r_v134 x0 x1 x2 x3) slices_S1x16x128x2x64_S1x15x128x2x64_0_1_0_0_0
def r_cst_26 : FVec Ideal S_ .f32 :=
  constant S_ .f32 0x00000000#32
def r_v138 (x0 : A0) (x1 : A1) (x2 : A2) (x3 : A3) : FVec Ideal S1x16x128x2x64 .f32 :=
  pad S1x16x128x2x64 ![0, 0, 0, 0, 0] ![0, 1, 0, 0, 0] ![0, 0, 0, 0, 0] (r_v137 x0 x1 x2 x3) (r_cst_26) pads_S1x15x128x2x64_S1x16x128x2x64_000_010_000_000_000 h_S_
def r_v139 (x0 : A0) (x1 : A1) (x2 : A2) (x3 : A3) : FVec Ideal S1x16x128x2x64 .f32 :=
  addf (r_v135 x0 x1 x2 x3) (r_v138 x0 x1 x2 x3)
def r_v140 (x0 : A0) (x1 : A1) (x2 : A2) (x3 : A3) : FVec Ideal S1x2048x2x64 .f32 :=
  shapeCast _ (r_v139 x0 x1 x2 x3) shapeCasts_S1x16x128x2x64_S1x2048x2x64
def r_v141 (x0 : A0) (x1 : A1) (x2 : A2) (x3 : A3) : FVec Ideal S1x2048x8x64 .f32 :=
  shapeCast _ (r_v124 x0 x1 x2 x3) shapeCasts_S1x16x128x2x4x64_S1x2048x8x64
def r_v142 (x0 : A0) (x1 : A1) (x2 : A2) (x3 : A3) : FVec Ideal S2048x512 .f32 :=
  shapeCast _ (r_v141 x0 x1 x2 x3) shapeCasts_S1x2048x8x64_S2048x512
def r_v143 (x0 : A0) (x1 : A1) (x2 : A2) (x3 : A3) : FVec Ideal S2048x128 .f32 :=
  shapeCast _ (r_v140 x0 x1 x2 x3) shapeCasts_S1x2048x2x64_S2048x128
def r_v144 (x0 : A0) (x2 : A2) (x3 : A3) : FVec Ideal S2048x128 .f32 :=
  shapeCast _ (r_v133 x0 x2 x3) shapeCasts_S1x2048x2x64_S2048x128
def r_v145 (x0 : A0) (x1 : A1) (x2 : A2) (x3 : A3) : FVec Ideal S8x1 .f32 :=
  broadcastInDim S8x1 ![0] bcast_S8_S8x1_0 (r_v118 x0 x1 x2 x3)
def r_v146 (x0 : A0) (x1 : A1) (x2 : A2) (x3 : A3) : FVec Ideal S8x128 .f32 :=
  broadcastInDim S8x128 ![0, 1] bcast_S8x1_S8x128_0_1 (r_v145 x0 x1 x2 x3)

end Cert.Proof.Attn

end
-- ==== Proof.Attn.RefIn.lean ====
/- The reference's inputs at an index: blocks of the queries, keys, values and cotangents. -/
module

public import proofs.«01_k».proof.Proof.Attn.RefOps
public import Idealize.ShloMosaic.Lib.ValueIdx
public import Idealize.ShloMosaic.Lib.ValueIdxRank6
public import Idealize.ShloMosaic.Lib.KernelVsHost

@[expose] public section

set_option maxRecDepth 16384

noncomputable section

namespace Cert.Proof.Attn

open Cert.ReferenceIdeal Cert.ReferenceIdeal.Gen
open Idealize.ShloMosaic Idealize.ShloMosaic.ValueIdx

/-- Row `a` of block `n`. -/
def rowOf (n : Fin 16) (a : Fin 128) : Fin 2048 := ⟨128 * n.val + a.val, by omega⟩

/-- The query of head `4g + r`. -/
def qAt (x0 : A0) (n : Fin 16) (g : Fin 2) (r : Fin 4) (a : Fin 128) (d : Fin 64) : EReal :=
  x0 (ix2 (rowOf n a) (⟨64 * (4 * g.val + r.val) + d.val, by omega⟩ : Fin 640))

/-- The cotangent of head `4g + r`. -/
def oAt (x3 : A3) (n : Fin 16) (g : Fin 2) (r : Fin 4) (a : Fin 128) (d : Fin 64) : EReal :=
  x3 (ix2 (rowOf n a) (⟨1024 + (64 * (4 * g.val + r.val) + d.val), by omega⟩ : Fin 2048))

/-- A key. -/
def kAt (x0 : A0) (l : Fin 2048) (g : Fin 2) (d : Fin 64) : EReal := x0 (ix2 l (⟨512 + (64 * g.val + d.val), by omega⟩ : Fin 640))

/-- A value. -/
def vAt (x1 : A1) (l : Fin 2048) (g : Fin 2) (d : Fin 64) : EReal := x1 (ix2 l (⟨640 + (64 * g.val + d.val), by omega⟩ : Fin 768))

/-- The sink of head `4g + r` of the second layer of four. -/
def sinkAt (x2 : A2) (g : Fin 2) (r : Fin 4) : EReal := x2 (ix1 (⟨8 + (4 * g.val + r.val), by omega⟩ : Fin 32))

/-- A block's window of a table of rows: the block before (zeros before the first), then the block. -/
def win (T : Fin 2048 → EReal) (n : Fin 16) (c : Fin 256) : EReal :=
  if h : c.val < 128 then (if h0 : n.val = 0 then 0 else T (rowOf ⟨n.val - 1, by omega⟩ ⟨c.val, h⟩))
  else T (rowOf n ⟨c.val - 128, by omega⟩)

theorem ref_v11 (x0 : A0) (n : Fin 16) (a : Fin 128) (g : Fin 2) (r : Fin 4) (d : Fin 64) :
    r_v11 x0 (ix6 (0 : Fin 1) n a g r d) = qAt x0 n g r a d := by
  unfold r_v11 r_v1 r_v0 qAt
  rw [shapeCast_apply _ _ (ix6 (0 : Fin 1) n a g r d) (ix4 (0 : Fin 1) (rowOf n a) (⟨4 * g.val + r.val, by omega⟩ : Fin 8) d) (by
    rewrite [Shape.rowMajor_val_six, Shape.rowMajor_val_four]
    show ((0 * 2048 + (128 * n.val + a.val)) * 8 + (4 * g.val + r.val)) * 64 + d.val
      = ((((0 * 16 + n.val) * 128 + a.val) * 2 + g.val) * 4 + r.val) * 64 + d.val
    omega)]
  rw [shapeCast_apply _ _ _ (ix2 (rowOf n a) (⟨64 * (4 * g.val + r.val) + d.val, by omega⟩ : Fin 512)) (by
    rewrite [Shape.rowMajor_val_two, Shape.rowMajor_val_four]
    show (128 * n.val + a.val) * 512 + (64 * (4 * g.val + r.val) + d.val)
      = ((0 * 2048 + (128 * n.val + a.val)) * 8 + (4 * g.val + r.val)) * 64 + d.val
    omega)]
  exact extractStridedSlice_apply _ _ _ _ _ (fun b => match b with
    | ⟨0, _⟩ => (Nat.zero_add _).symm
    | ⟨1, _⟩ => (Nat.zero_add _).symm)

theorem ref_v95 (x3 : A3) (n : Fin 16) (a : Fin 128) (g : Fin 2) (r : Fin 4) (d : Fin 64) :
    r_v95 x3 (ix6 (0 : Fin 1) n a g r d) = oAt x3 n g r a d := by
  unfold r_v95 r_v7 r_v6 oAt
  rw [shapeCast_apply _ _ (ix6 (0 : Fin 1) n a g r d) (ix3 (0 : Fin 1) (rowOf n a) (⟨64 * (4 * g.val + r.val) + d.val, by omega⟩ : Fin 512)) (by
    rewrite [Shape.rowMajor_val_six, Shape.rowMajor_val_three]
    show (0 * 2048 + (128 * n.val + a.val)) * 512 + (64 * (4 * g.val + r.val) + d.val)
      = ((((0 * 16 + n.val) * 128 + a.val) * 2 + g.val) * 4 + r.val) * 64 + d.val
    omega)]
  rw [shapeCast_apply _ _ _ (ix2 (rowOf n a) (⟨64 * (4 * g.val + r.val) + d.val, by omega⟩ : Fin 512)) (by
    rewrite [Shape.rowMajor_val_two, Shape.rowMajor_val_three]
    show (128 * n.val + a.val) * 512 + (64 * (4 * g.val + r.val) + d.val)
      = (0 * 2048 + (128 * n.val + a.val)) * 512 + (64 * (4 * g.val + r.val) + d.val)
    omega)]
  exact extractStridedSlice_apply _ _ _ _ _ (fun b => match b with
    | ⟨0, _⟩ => (Nat.zero_add _).symm
    | ⟨1, _⟩ => rfl)

theorem ref_v12 (x0 : A0) (n : Fin 16) (a : Fin 128) (g : Fin 2) (d : Fin 64) :
    r_v12 x0 (ix5 (0 : Fin 1) n a g d) = kAt x0 (rowOf n a) g d := by
  unfold r_v12 r_v3 r_v2 kAt
  rw [shapeCast_apply _ _ (ix5 (0 : Fin 1) n a g d) (ix4 (0 : Fin 1) (rowOf n a) g d) (by
    rewrite [Shape.rowMajor_val_five, Shape.rowMajor_val_four]
    show ((0 * 2048 + (128 * n.val + a.val)) * 2 + g.val) * 64 + d.val
      = (((0 * 16 + n.val) * 128 + a.val) * 2 + g.val) * 64 + d.val
    omega)]
  rw [shapeCast_apply _ _ _ (ix2 (rowOf n a) (⟨64 * g.val + d.val, by omega⟩ : Fin 128)) (by
    rewrite [Shape.rowMajor_val_two, Shape.rowMajor_val_four]
    show (128 * n.val + a.val) * 128 + (64 * g.val + d.val)
      = ((0 * 2048 + (128 * n.val + a.val)) * 2 + g.val) * 64 + d.val
    omega)]
  exact extractStridedSlice_apply _ _ _ _ _ (fun b => match b with
    | ⟨0, _⟩ => (Nat.zero_add _).symm
    | ⟨1, _⟩ => rfl)

theorem ref_v18 (x1 : A1) (n : Fin 16) (a : Fin 128) (g : Fin 2) (d : Fin 64) :
    r_v18 x1 (ix5 (0 : Fin 1) n a g d) = vAt x1 (rowOf n a) g d := by
  unfold r_v18 r_v5 r_v4 vAt
  rw [shapeCast_apply _ _ (ix5 (0 : Fin 1) n a g d) (ix4 (0 : Fin 1) (rowOf n a) g d) (by
    rewrite [Shape.rowMajor_val_five, Shape.rowMajor_val_four]
    show ((0 * 2048 + (128 * n.val + a.val)) * 2 + g.val) * 64 + d.val
      = (((0 * 16 + n.val) * 128 + a.val) * 2 + g.val) * 64 + d.val
    omega)]
  rw [shapeCast_apply _ _ _ (ix2 (rowOf n a) (⟨64 * g.val + d.val, by omega⟩ : Fin 128)) (by
    rewrite [Shape.rowMajor_val_two, Shape.rowMajor_val_four]
    show (128 * n.val + a.val) * 128 + (64 * g.val + d.val)
      = ((0 * 2048 + (128 * n.val + a.val)) * 2 + g.val) * 64 + d.val
    omega)]
  exact extractStridedSlice_apply _ _ _ _ _ (fun b => match b with
    | ⟨0, _⟩ => (Nat.zero_add _).symm
    | ⟨1, _⟩ => rfl)

theorem ref_v60 (x2 : A2) (g : Fin 2) (r : Fin 4) :
    r_v60 x2 (ix6 (0 : Fin 1) (0 : Fin 1) g r (0 : Fin 1) (0 : Fin 1)) = sinkAt x2 g r := by
  unfold r_v60 r_v10 r_v9 r_v8 sinkAt
  rw [shapeCast_apply _ _ (ix6 (0 : Fin 1) (0 : Fin 1) g r (0 : Fin 1) (0 : Fin 1)) (ix1 (⟨4 * g.val + r.val, by omega⟩ : Fin 8)) (by
    rewrite [Shape.rowMajor_val_one, Shape.rowMajor_val_six]
    show 4 * g.val + r.val = ((((0 * 1 + 0) * 2 + g.val) * 4 + r.val) * 1 + 0) * 1 + 0
    omega)]
  rw [shapeCast_apply _ _ _ (ix2 (0 : Fin 1) (⟨4 * g.val + r.val, by omega⟩ : Fin 8)) (by
    rewrite [Shape.rowMajor_val_one, Shape.rowMajor_val_two]
    show 0 * 8 + (4 * g.val + r.val) = 4 * g.val + r.val
    omega)]
  rw [extractStridedSlice_apply _ _ _ (ix2 (0 : Fin 1) (⟨4 * g.val + r.val, by omega⟩ : Fin 8)) (ix2 (1 : Fin 4) (⟨4 * g.val + r.val, by omega⟩ : Fin 8)) (fun b => match b with
    | ⟨0, _⟩ => rfl
    | ⟨1, _⟩ => (Nat.zero_add _).symm)]
  exact shapeCast_apply _ _ _ (ix1 (⟨8 + (4 * g.val + r.val), by omega⟩ : Fin 32)) (by
    rewrite [Shape.rowMajor_val_one, Shape.rowMajor_val_two]
    show 8 + (4 * g.val + r.val) = 1 * 8 + (4 * g.val + r.val)
    omega)

/-- A table's blocks with a block of zeros put before them, side by side with the blocks: the window. -/
theorem concat_win (z : S1x1x128x2x64.Idx → EReal) (y : S1x16x128x2x64.Idx → EReal) (w : S1x15x128x2x64.Idx → EReal)
    (hz : ∀ i, z i = 0) (hw : ∀ (n : Fin 15) (a : Fin 128) (g : Fin 2) (d : Fin 64),
      w (ix5 (0 : Fin 1) n a g d) = y (ix5 (0 : Fin 1) (⟨n.val, by omega⟩ : Fin 16) a g d))
    (T : Fin 2048 → Fin 2 → Fin 64 → EReal) (hy : ∀ n a g d, y (ix5 (0 : Fin 1) n a g d) = T (rowOf n a) g d)
    (n : Fin 16) (c : Fin 256) (g : Fin 2) (d : Fin 64) :
    concatenate S1x16x256x2x64 2 [⟨S1x16x128x2x64, concatenate S1x16x128x2x64 1 [⟨S1x1x128x2x64, z⟩, ⟨S1x15x128x2x64, w⟩]
        concatenates_S1x1x128x2x64_S1x15x128x2x64_S1x16x128x2x64_d1⟩, ⟨S1x16x128x2x64, y⟩]
        concatenates_S1x16x128x2x64_S1x16x128x2x64_S1x16x256x2x64_d2 (ix5 (0 : Fin 1) n c g d)
      = win (fun l => T l g d) n c := by
  unfold win
  by_cases h : c.val < 128
  · rw [dif_pos h]
    rw [concatenate_pair_apply_left (s₁ := S1x16x128x2x64) (s₂ := S1x16x128x2x64) (2 : Fin 5) _ _ _ (ix5 (0 : Fin 1) n c g d) rfl (ix5 (0 : Fin 1) n (⟨c.val, h⟩ : Fin 128) g d) (fun b => by
      match b with
      | ⟨0, _⟩ => rfl
      | ⟨1, _⟩ => rfl
      | ⟨2, _⟩ => rfl
      | ⟨3, _⟩ => rfl
      | ⟨4, _⟩ => rfl)]
    by_cases hn : n.val = 0
    · rw [dif_pos hn]
      rw [concatenate_pair_apply_left (t := S1x16x128x2x64) (s₁ := S1x1x128x2x64) (s₂ := S1x15x128x2x64) (1 : Fin 5) _ _ _ _ rfl (ix5 (0 : Fin 1) (0 : Fin 1) (⟨c.val, h⟩ : Fin 128) g d) (fun b => by
        match b with
        | ⟨0, _⟩ => rfl
        | ⟨1, _⟩ => exact hn.symm
        | ⟨2, _⟩ => rfl
        | ⟨3, _⟩ => rfl
        | ⟨4, _⟩ => rfl), hz]
    · rw [dif_neg hn]
      rw [concatenate_pair_apply_right (t := S1x16x128x2x64) (s₁ := S1x1x128x2x64) (s₂ := S1x15x128x2x64) (1 : Fin 5) _ _ _ _ rfl rfl
        (ix5 (0 : Fin 1) (⟨n.val - 1, by omega⟩ : Fin 15) (⟨c.val, h⟩ : Fin 128) g d) (fun b hb => by
        match b with
        | ⟨0, _⟩ => rfl
        | ⟨1, _⟩ => exact absurd rfl hb
        | ⟨2, _⟩ => rfl
        | ⟨3, _⟩ => rfl
        | ⟨4, _⟩ => rfl) (by show n.val - 1 + 1 = n.val; omega), hw, hy]
  · rw [dif_neg h]
    rw [concatenate_pair_apply_right (s₁ := S1x16x128x2x64) (s₂ := S1x16x128x2x64) (2 : Fin 5) _ _ _ (ix5 (0 : Fin 1) n c g d) rfl rfl
      (ix5 (0 : Fin 1) n (⟨c.val - 128, by omega⟩ : Fin 128) g d) (fun b hb => by
      match b with
      | ⟨0, _⟩ => rfl
      | ⟨1, _⟩ => rfl
      | ⟨2, _⟩ => exact absurd rfl hb
      | ⟨3, _⟩ => rfl
      | ⟨4, _⟩ => rfl) (by show c.val - 128 + 128 = c.val; omega), hy]

theorem slice15 (y : S1x16x128x2x64.Idx → EReal) (n : Fin 15) (a : Fin 128) (g : Fin 2) (d : Fin 64) :
    extractStridedSlice S1x15x128x2x64 ![0, 0, 0, 0, 0] y slices_S1x16x128x2x64_S1x15x128x2x64_0_0_0_0_0 (ix5 (0 : Fin 1) n a g d)
      = y (ix5 (0 : Fin 1) (⟨n.val, by omega⟩ : Fin 16) a g d) :=
  extractStridedSlice_apply _ _ _ _ _ (fun b => match b with
    | ⟨0, _⟩ => rfl
    | ⟨1, _⟩ => (Nat.zero_add _).symm
    | ⟨2, _⟩ => (Nat.zero_add _).symm
    | ⟨3, _⟩ => (Nat.zero_add _).symm
    | ⟨4, _⟩ => (Nat.zero_add _).symm)

theorem zero_word : Ideal.ofBits .f32 0x00000000#32 = (0 : EReal) := Ideal.ofBits_zero_f32

theorem ref_v17 (x0 : A0) (n : Fin 16) (c : Fin 256) (g : Fin 2) (d : Fin 64) :
    r_v17 x0 (ix5 (0 : Fin 1) n c g d) = win (fun l => kAt x0 l g d) n c :=
  concat_win r_v13 (r_v12 x0) (r_v14 x0) (fun _ => zero_word) (fun n a g d => slice15 (r_v12 x0) n a g d) (kAt x0) (ref_v12 x0) n c g d

theorem ref_v23 (x1 : A1) (n : Fin 16) (c : Fin 256) (g : Fin 2) (d : Fin 64) :
    r_v23 x1 (ix5 (0 : Fin 1) n c g d) = win (fun l => vAt x1 l g d) n c :=
  concat_win r_v19 (r_v18 x1) (r_v20 x1) (fun _ => zero_word) (fun n a g d => slice15 (r_v18 x1) n a g d) (vAt x1) (ref_v18 x1) n c g d

end Cert.Proof.Attn

end
-- ==== Proof.Attn.KLoad.lean ====
/- What a grid point reads, as entries of the arguments. -/
module

public import proofs.«01_k».proof.Proof.Attn.KBlk
public import proofs.«01_k».proof.Proof.Attn.Run
public import proofs.«01_k».proof.Proof.Attn.RefIn
public import Idealize.ShloMosaic.Lib.Pipeline.Value

@[expose] public section

set_option maxRecDepth 16384

noncomputable section

namespace Cert.Proof.Attn

open Cert.KernelIdeal Cert.KernelIdeal.Gen
open Idealize.ShloMosaic Idealize.ShloMosaic.ValueIdx

variable (m : (ℓ : Loc nD τ sig) → Buf (Elt Ideal) ℓ) (c : Dev nD)

/-- The arguments as arrays. -/
abbrev g0 : A0 := m ((c.tc : Thread nD τ).loc main_arg0)
abbrev g1 : A1 := m ((c.tc : Thread nD τ).loc main_arg1)
abbrev g2 : A2 := m ((c.tc : Thread nD τ).loc main_arg2)
abbrev g3 : A3 := m ((c.tc : Thread nD τ).loc main_arg3)

/-- A block's number as a grid point. -/
def pt (n : Fin 16) : Fin cfg0.N := ⟨n.val, lt_of_lt_of_eq n.isLt N_0.symm⟩

theorem index_0 : ∀ t : Fin cfg0.N, (cfg0.win 0).index t = ![0] := by decide +kernel
theorem index_1 : ∀ t : Fin cfg0.N, (cfg0.win 1).index t = ![t.val, 0] := by decide +kernel
theorem index_2 : ∀ t : Fin cfg0.N, (cfg0.win 2).index t = ![0, 4] := by decide +kernel
theorem index_3 : ∀ t : Fin cfg0.N, (cfg0.win 3).index t = ![0, 5] := by decide +kernel
theorem index_4 : ∀ t : Fin cfg0.N, (cfg0.win 4).index t = ![t.val, 2] := by decide +kernel
theorem coords_val : ∀ t : Fin cfg0.N, (grid0.coords t 0).val = t.val := by decide +kernel
theorem off1_eq : ∀ i : grid0.Coords, k0_off1 i = ![128 * (i 0).val, 0] := by decide +kernel

theorem emb_val (w : Fin cfg0.W) (t : Fin cfg0.N) (y : ((cfg0.win w).xblock (cfg0.grid.coords t)).Idx) (b : Fin (cfg0.win w).shape.rank)
    (hk : (cfg0.win w).kind = .blocked) (k z : ℕ) (hi : (cfg0.win w).index t b = k) (hz : k * (cfg0.win w).size b + (y b).val = z) :
    (((cfg0.win w).rect t).emb y b : ℕ) = z :=
  ((cfg0.win w).rect_emb_val t y b hk).trans (by rw [hi]; exact hz)

theorem blk0_at (n : Fin 16) (k : Fin 32) : iblk m c 0 (pt n) (ix1 k) = g2 m c (ix1 k) :=
  congrArg (g2 m c) (funext fun b => match b with
    | ⟨0, _⟩ => Fin.ext (emb_val 0 (pt n) (ix1 k) ⟨0, by decide⟩ rfl 0 k.val (congrFun (index_0 _) 0) (by show 0 * _ + k.val = _; omega)))

theorem blk1_at (n : Fin 16) (a : Fin 128) (k : Fin 512) :
    X0_1 m c (pt n) (ix2 a k) = g0 m c (ix2 (rowOf n a) (⟨k.val, by omega⟩ : Fin 640)) :=
  (dif_pos (moved0_1 (pt n) (ix2 a k))).trans
  (congrArg (g0 m c) (funext fun b => match b with
    | ⟨0, _⟩ => Fin.ext (emb_val 1 (pt n) _ ⟨0, by decide⟩ rfl n.val (128 * n.val + a.val) (congrFun (index_1 _) 0) (by show n.val * 128 + a.val = _; omega))
    | ⟨1, _⟩ => Fin.ext (emb_val 1 (pt n) _ ⟨1, by decide⟩ rfl 0 k.val (congrFun (index_1 _) 1) (by show 0 * 512 + k.val = _; omega))))

theorem blk2_at (n : Fin 16) (l : Fin 2048) (k : Fin 128) :
    iblk m c 2 (pt n) (ix2 l k) = g0 m c (ix2 l (⟨512 + k.val, by omega⟩ : Fin 640)) :=
  congrArg (g0 m c) (funext fun b => match b with
    | ⟨0, _⟩ => Fin.ext (emb_val 2 (pt n) (ix2 l k) ⟨0, by decide⟩ rfl 0 l.val (congrFun (index_2 _) 0) (by show 0 * 2048 + l.val = _; omega))
    | ⟨1, _⟩ => Fin.ext (emb_val 2 (pt n) (ix2 l k) ⟨1, by decide⟩ rfl 4 (512 + k.val) (congrFun (index_2 _) 1) (by show 4 * 128 + k.val = _; omega)))

theorem blk3_at (n : Fin 16) (l : Fin 2048) (k : Fin 128) :
    iblk m c 3 (pt n) (ix2 l k) = g1 m c (ix2 l (⟨640 + k.val, by omega⟩ : Fin 768)) :=
  congrArg (g1 m c) (funext fun b => match b with
    | ⟨0, _⟩ => Fin.ext (emb_val 3 (pt n) (ix2 l k) ⟨0, by decide⟩ rfl 0 l.val (congrFun (index_3 _) 0) (by show 0 * 2048 + l.val = _; omega))
    | ⟨1, _⟩ => Fin.ext (emb_val 3 (pt n) (ix2 l k) ⟨1, by decide⟩ rfl 5 (640 + k.val) (congrFun (index_3 _) 1) (by show 5 * 128 + k.val = _; omega)))

theorem blk4_at (n : Fin 16) (a : Fin 128) (k : Fin 512) :
    iblk m c 4 (pt n) (ix2 a k) = g3 m c (ix2 (rowOf n a) (⟨1024 + k.val, by omega⟩ : Fin 2048)) :=
  congrArg (g3 m c) (funext fun b => match b with
    | ⟨0, _⟩ => Fin.ext (emb_val 4 (pt n) (ix2 a k) ⟨0, by decide⟩ rfl n.val (128 * n.val + a.val) (congrFun (index_4 _) 0) (by show n.val * 128 + a.val = _; omega))
    | ⟨1, _⟩ => Fin.ext (emb_val 4 (pt n) (ix2 a k) ⟨1, by decide⟩ rfl 2 (1024 + k.val) (congrFun (index_4 _) 1) (by show 2 * 512 + k.val = _; omega)))

theorem point_at (n : Fin 16) : ((blkAt m c (pt n)).i 0).val = n.val := coords_val (pt n)

/-- The row before a block's own, or the first block's own. -/
def prevRow (n : Fin 16) (j : Fin 128) : Fin 2048 := ⟨128 * (n.val - 1) + j.val, by omega⟩

theorem own_idx (i : grid0.Coords) (n : Fin 16) (h : (i 0).val = n.val) (j k : Fin 128) : (rOwn i).idx (ix2 j k) = ix2 (rowOf n j) k :=
  funext fun b => match b with
    | ⟨0, _⟩ => Fin.ext (by show k0_off1 i 0 + 1 * j.val = 128 * n.val + j.val; rw [off1_eq, ← h]; show 128 * (i 0).val + 1 * j.val = _; omega)
    | ⟨1, _⟩ => Fin.ext (by show k0_off1 i 1 + 1 * k.val = k.val; rw [off1_eq]; show 0 + 1 * k.val = _; omega)

theorem prev_idx (i : grid0.Coords) (n : Fin 16) (h : (i 0).val = n.val) (j k : Fin 128) : (rPrev i).idx (ix2 j k) = ix2 (prevRow n j) k :=
  funext fun b => match b with
    | ⟨0, _⟩ => Fin.ext (by show k0_off2 i 0 + 1 * j.val = 128 * (n.val - 1) + j.val; rw [off2_eq, ← h]; show 128 * ((i 0).val - 1) + 1 * j.val = _; omega)
    | ⟨1, _⟩ => Fin.ext (by show k0_off2 i 1 + 1 * k.val = k.val; rw [off2_eq]; show 0 + 1 * k.val = _; omega)

theorem rows_idx (a : Fin 128) (k : Fin 512) : rRows.idx (ix2 a k) = ix2 a k :=
  funext fun b => match b with
    | ⟨0, _⟩ => Fin.ext (by show 0 + 1 * a.val = a.val; omega)
    | ⟨1, _⟩ => Fin.ext (by show 0 + 1 * k.val = k.val; omega)

theorem bq_at (n : Fin 16) (g : Fin 2) (r : Fin 4) (a : Fin 128) (d : Fin 64) : bq (blkAt m c (pt n)) g r a d = qAt (g0 m c) n g r a d :=
  (congrArg (X0_1 m c (pt n)) (rows_idx a (hcol g r d))).trans (blk1_at m c n a (hcol g r d))

theorem bo_at (n : Fin 16) (g : Fin 2) (r : Fin 4) (a : Fin 128) (d : Fin 64) : bo (blkAt m c (pt n)) g r a d = oAt (g3 m c) n g r a d :=
  (congrArg (iblk m c 4 (pt n)) (rows_idx a (hcol g r d))).trans (blk4_at m c n a (hcol g r d))

theorem bs_at (n : Fin 16) (g : Fin 2) (r : Fin 4) : bs (blkAt m c (pt n)) g r = sinkAt (g2 m c) g r :=
  blk0_at m c n _

theorem kOwn_at (n : Fin 16) (g : Fin 2) (j : Fin 128) (d : Fin 64) :
    kOwn (blkAt m c (pt n)) (ix2 j (gcol g d)) = kAt (g0 m c) (rowOf n j) g d :=
  (congrArg (iblk m c 2 (pt n)) (own_idx _ n (point_at m c n) j (gcol g d))).trans (blk2_at m c n (rowOf n j) (gcol g d))

theorem kPrev_at (n : Fin 16) (g : Fin 2) (j : Fin 128) (d : Fin 64) :
    kPrev (blkAt m c (pt n)) (ix2 j (gcol g d)) = kAt (g0 m c) (prevRow n j) g d :=
  (congrArg (iblk m c 2 (pt n)) (prev_idx _ n (point_at m c n) j (gcol g d))).trans (blk2_at m c n (prevRow n j) (gcol g d))

theorem vOwn_at (n : Fin 16) (g : Fin 2) (j : Fin 128) (d : Fin 64) :
    vOwn (blkAt m c (pt n)) (ix2 j (gcol g d)) = vAt (g1 m c) (rowOf n j) g d :=
  (congrArg (iblk m c 3 (pt n)) (own_idx _ n (point_at m c n) j (gcol g d))).trans (blk3_at m c n (rowOf n j) (gcol g d))

theorem vPrev_at (n : Fin 16) (g : Fin 2) (j : Fin 128) (d : Fin 64) :
    vPrev (blkAt m c (pt n)) (ix2 j (gcol g d)) = vAt (g1 m c) (prevRow n j) g d :=
  (congrArg (iblk m c 3 (pt n)) (prev_idx _ n (point_at m c n) j (gcol g d))).trans (blk3_at m c n (prevRow n j) (gcol g d))

end Cert.Proof.Attn
-- ==== Proof.Attn.KStep.lean ====
/- One grid point on the arrays summed over the grid, and the sums after the last, at an index. -/
module

public import proofs.«01_k».proof.Proof.Attn.KOut
public import proofs.«01_k».proof.Proof.Attn.KSum
public import proofs.«01_k».proof.Proof.Attn.KLoad

@[expose] public section

set_option maxRecDepth 16384

noncomputable section

namespace Cert.Proof.Attn

open Cert.KernelIdeal Cert.KernelIdeal.Gen
open Idealize.ShloMosaic Idealize.ShloMosaic.ValueIdx

variable (B : Blk Ideal)

/-- The own and previous rows' additions to dk and dv. -/
def kO (g : Fin 2) (d : Fin 64) (j : Fin 128) : EReal :=
  (∑ r : Fin 4, ∑ a : Fin 128, (if j.val ≤ a.val then bd B g r a j else 0) * bq B g r a d) * ((1 / 8 : ℝ) : EReal)
def kP' (g : Fin 2) (d : Fin 64) (j : Fin 128) : EReal :=
  (∑ r : Fin 4, ∑ a : Fin 128, (if j.val ≤ a.val then 0 else bd B g r a j) * bq B g r a d) * ((1 / 8 : ℝ) : EReal)
def vO (g : Fin 2) (d : Fin 64) (j : Fin 128) : EReal :=
  ∑ r : Fin 4, ∑ a : Fin 128, (if j.val ≤ a.val then bp B g r a j else 0) * bo B g r a d
def vP (g : Fin 2) (d : Fin 64) (j : Fin 128) : EReal :=
  ∑ r : Fin 4, ∑ a : Fin 128, (if j.val ≤ a.val then 0 else bp B g r a j) * bo B g r a d

/-- Rows added to at a block, at an index of the array. -/
theorem added (off : Fin 2 → ℕ) (inb) (n : Fin 16)
    (hi : ∀ j k : Fin 128, (Rect.unit (s := S2048x128) off S128x128.size inb).idx (ix2 j k) = ix2 (rowOf n j) k)
    (a : Vec Ideal S2048x128 .f32) (w : Vec Ideal S128x128 .f32) (f : Fin 128 → EReal) (k : Fin 128)
    (hw : ∀ j : Fin 128, w (ix2 j k) = a (ix2 (rowOf n j) k) + f j) (i : Fin 16) (j : Fin 128) :
    (Rect.unit (s := S2048x128) off S128x128.size inb).overlay a w (ix2 (rowOf i j) k)
      = a (ix2 (rowOf i j) k) + if i = n then f j else 0 := by
  by_cases h : i = n
  · subst h
    rw [if_pos rfl, ← hw j, ← hi j k]
    exact Rect.overlay_emb (Rect.unit (s := S2048x128) off S128x128.size inb) a w (ix2 j k)
  · rw [if_neg h, add_zero]
    refine Rect.overlay_of_not_mem _ _ _ fun hm => h ?_
    obtain ⟨y, hy⟩ := LoadRect.exists_idx_of_mem _ hm
    have ey : y = ix2 (y 0 : Fin 128) (y 1 : Fin 128) := funext fun b => match b with | ⟨0, _⟩ => rfl | ⟨1, _⟩ => rfl
    have e0 : rowOf n (y 0) = rowOf i j := congrFun ((hi (y 0) (y 1)).symm.trans ((congrArg _ ey.symm).trans hy)) 0
    have e1 : 128 * n.val + (y 0 : Fin 128).val = 128 * i.val + j.val := congrArg Fin.val e0
    have hy0 : (y 0 : Fin 128).val < 128 := (y 0).isLt
    exact Fin.ext (by omega)

/-- The block before, or the first. -/
def before (n : Fin 16) : Fin 16 := ⟨n.val - 1, by omega⟩

/-- The loads at the own and previous rows. -/
theorem ld_own (i : grid0.Coords) (n : Fin 16) (h : (i 0).val = n.val) (a : Vec Ideal S2048x128 .f32) (j k : Fin 128) :
    View.ld (Val := Elt Ideal) (e' := .f32) a (rOwn i) (ix2 j k) = a (ix2 (rowOf n j) k) :=
  congrArg a (own_idx i n h j k)

theorem ld_prev (i : grid0.Coords) (n : Fin 16) (h : (i 0).val = n.val) (a : Vec Ideal S2048x128 .f32) (j k : Fin 128) :
    View.ld (Val := Elt Ideal) (e' := .f32) a (rPrev i) (ix2 j k) = a (ix2 (rowOf (before n) j) k) :=
  congrArg a (prev_idx i n h j k)

theorem kO_at (g : Fin 2) (d : Fin 64) (j : Fin 128) : (if g.val = 0 then dkOwn0 B else dkOwn1 B) (ix2 j d) = kO B g d j := by
  match g with
  | ⟨0, _⟩ => exact dkOwn0_at B j d
  | ⟨1, _⟩ => exact dkOwn1_at B j d

theorem kP_at (g : Fin 2) (d : Fin 64) (j : Fin 128) : (if g.val = 0 then dkPrev0 B else dkPrev1 B) (ix2 j d) = kP' B g d j := by
  match g with
  | ⟨0, _⟩ => exact dkPrev0_at B j d
  | ⟨1, _⟩ => exact dkPrev1_at B j d

theorem vO_at (g : Fin 2) (d : Fin 64) (j : Fin 128) : (if g.val = 0 then dvOwn0 B else dvOwn1 B) (ix2 j d) = vO B g d j := by
  match g with
  | ⟨0, _⟩ => exact dvOwn0_at B j d
  | ⟨1, _⟩ => exact dvOwn1_at B j d

theorem vP_at (g : Fin 2) (d : Fin 64) (j : Fin 128) : (if g.val = 0 then dvPrev0 B else dvPrev1 B) (ix2 j d) = vP B g d j := by
  match g with
  | ⟨0, _⟩ => exact dvPrev0_at B j d
  | ⟨1, _⟩ => exact dvPrev1_at B j d

theorem stepK_at (n : Fin 16) (h : (B.i 0).val = n.val) (a : Vec Ideal S2048x128 .f32) (g : Fin 2) (d : Fin 64) (i : Fin 16) (j : Fin 128) :
    stepK B a (ix2 (rowOf i j) (gcol g d))
      = (a (ix2 (rowOf i j) (gcol g d)) + if i = n then kO B g d j else 0) + if i = before n then kP' B g d j else 0 := by
  unfold stepK
  refine (added (k0_off2 B.i) (k0_off2_inb B.i) (before n) (prev_idx B.i n h) _ _ (kP' B g d) (gcol g d) (fun j => ?_) i j).trans
    (congrArg₂ (fun x y : EReal => x + y)
      (added (k0_off1 B.i) (k0_off1_inb B.i) n (own_idx B.i n h) _ _ (kO B g d) (gcol g d) (fun j => ?_) i j) rfl)
  · refine (add74_at _ _ _ j g d).trans (congrArg₂ (fun x y : EReal => x + y) ?_ (kP_at B g d j))
    exact ld_prev B.i n h _ j (gcol g d)
  · refine (pair_at _ _ _ j g d).trans (congrArg₂ (fun x y : EReal => x + y) ?_ (kO_at B g d j))
    exact ld_own B.i n h _ j (gcol g d)

theorem stepV_at (n : Fin 16) (h : (B.i 0).val = n.val) (a : Vec Ideal S2048x128 .f32) (g : Fin 2) (d : Fin 64) (i : Fin 16) (j : Fin 128) :
    stepV B a (ix2 (rowOf i j) (gcol g d))
      = (a (ix2 (rowOf i j) (gcol g d)) + if i = n then vO B g d j else 0) + if i = before n then vP B g d j else 0 := by
  unfold stepV
  refine (added (k0_off2 B.i) (k0_off2_inb B.i) (before n) (prev_idx B.i n h) _ _ (vP B g d) (gcol g d) (fun j => ?_) i j).trans
    (congrArg₂ (fun x y : EReal => x + y)
      (added (k0_off1 B.i) (k0_off1_inb B.i) n (own_idx B.i n h) _ _ (vO B g d) (gcol g d) (fun j => ?_) i j) rfl)
  · refine (add75_at _ _ _ j g d).trans (congrArg₂ (fun x y : EReal => x + y) ?_ (vP_at B g d j))
    exact ld_prev B.i n h _ j (gcol g d)
  · refine (add73_at _ _ _ j g d).trans (congrArg₂ (fun x y : EReal => x + y) ?_ (vO_at B g d j))
    exact ld_own B.i n h _ j (gcol g d)

theorem stepS_at (a : Vec Ideal S8x128 .f32) (g : Fin 2) (r : Fin 4) (l : Fin 128) :
    stepS B a (ix2 (⟨4 * g.val + r.val, by omega⟩ : Fin 8) l)
      = a (ix2 (⟨4 * g.val + r.val, by omega⟩ : Fin 8) l) + ∑ t : Fin 128, bds B g r t := by
  unfold stepS
  refine (congrFun (overlay_full S8x128 ![0, 0] zeros2 inb_S8x128_S8x128_0_0 a _) _).trans ?_
  unfold k0_pay76
  refine congrArg₂ (fun x y : EReal => x + y) ((congrFun (shapeCast_self _ _) _).trans ?_) (sink_at B g r l)
  exact congrArg a (funext fun b => match b with
    | ⟨0, _⟩ => Fin.ext (by show 0 + 1 * _ = _; omega)
    | ⟨1, _⟩ => Fin.ext (by show 0 + 1 * _ = _; omega))

/-- At the first block nothing before it is seen. -/
theorem first_p (h : (B.i 0).val = 0) (g : Fin 2) (r : Fin 4) (a j : Fin 128) (hj : ¬ j.val ≤ a.val) : bp B g r a j = 0 := by
  have e : bx B g r a j = ⊥ := by unfold bx; rw [if_neg hj, if_pos h]
  unfold bp kP
  rw [e, sub_eq_add_neg, EReal.bot_add]
  exact zero_mul _

theorem first_d (h : (B.i 0).val = 0) (g : Fin 2) (r : Fin 4) (a j : Fin 128) (hj : ¬ j.val ≤ a.val) : bd B g r a j = 0 := by
  have e : kP (bx B g r a) (bs B g r) j = 0 := first_p B h g r a j hj
  unfold bd kD
  rw [e, zero_mul]

theorem first_kP (h : (B.i 0).val = 0) (g : Fin 2) (d : Fin 64) (j : Fin 128) : kP' B g d j = 0 := by
  unfold kP'
  rw [Finset.sum_eq_zero fun r _ => Finset.sum_eq_zero fun a _ => ?_, zero_mul]
  split
  · exact zero_mul _
  · rename_i hj
    rw [first_d B h g r a j hj, zero_mul]

theorem first_vP (h : (B.i 0).val = 0) (g : Fin 2) (d : Fin 64) (j : Fin 128) : vP B g d j = 0 := by
  unfold vP
  refine Finset.sum_eq_zero fun r _ => Finset.sum_eq_zero fun a _ => ?_
  split
  · exact zero_mul _
  · rename_i hj
    rw [first_p B h g r a j hj, zero_mul]

/-- Sums built block by block, each adding to its own rows and the rows before: what the rows hold after block `n`. -/
theorem ladder (s : ℕ → Fin 16 → EReal) (o p : Fin 16 → EReal) (hp : p 0 = 0)
    (h0 : ∀ i, s 0 i = (0 + if i = 0 then o 0 else 0) + if i = before 0 then p 0 else 0)
    (hs : ∀ n (h : n + 1 < 16) i, s (n + 1) i = (s n i + if i = ⟨n + 1, h⟩ then o ⟨n + 1, h⟩ else 0) + if i = before ⟨n + 1, h⟩ then p ⟨n + 1, h⟩ else 0)
    (n : ℕ) (hn : n < 16) (i : Fin 16) :
    s n i = (if i.val ≤ n then o i else 0) + if h : i.val + 1 ≤ n then p ⟨i.val + 1, by omega⟩ else 0 := by
  induction n with
  | zero =>
    rw [h0 i, hp, ite_self, add_zero, zero_add, dif_neg (by omega), add_zero]
    by_cases e : i = 0
    · subst e; rw [if_pos rfl, if_pos (show (0 : Fin 16).val ≤ 0 from Nat.le_refl 0)]
    · rw [if_neg e, if_neg fun h => e (Fin.ext (by omega))]
  | succ n ih =>
    rw [hs n hn i, ih (by omega)]
    rcases Nat.lt_trichotomy i.val n with h | h | h
    · rw [if_pos (by omega), dif_pos (by omega), if_neg (fun e => by subst e; simp at h), if_neg (fun e => by subst e; simp [before] at h),
        if_pos (by omega), dif_pos (by omega), add_zero, add_zero]
    · subst h
      rw [if_pos (by omega), dif_neg (by omega), if_neg (fun e => absurd (congrArg Fin.val e) (by show i.val ≠ i.val + 1; omega)), if_pos (show i = before ⟨i.val + 1, hn⟩ from Fin.ext rfl),
        if_pos (by omega), dif_pos (by omega), add_zero, add_zero]
    · rw [if_neg (show ¬ i.val ≤ n by omega), dif_neg (show ¬ i.val + 1 ≤ n by omega),
        if_neg (show ¬ i = before ⟨n + 1, hn⟩ from fun e => absurd (congrArg Fin.val e) (by show i.val ≠ n; omega)),
        dif_neg (show ¬ i.val + 1 ≤ n + 1 by omega), add_zero, add_zero, add_zero, zero_add]
      by_cases e : i = ⟨n + 1, hn⟩
      · subst e; rw [if_pos rfl, if_pos (show (⟨n + 1, hn⟩ : Fin 16).val ≤ n + 1 from Nat.le_refl (n + 1))]
      · rw [if_neg e, if_neg (show ¬ i.val ≤ n + 1 from fun h' => e (Fin.ext (by show i.val = n + 1; omega)))]

end Cert.Proof.Attn
-- ==== Proof.Attn.KArr.lean ====
/- The arrays the kernel leaves, at an index. -/
module

public import proofs.«01_k».proof.Proof.Attn.KStep

@[expose] public section

set_option maxRecDepth 16384

noncomputable section

namespace Cert.Proof.Attn

open Cert.KernelIdeal Cert.KernelIdeal.Gen
open Idealize.ShloMosaic Idealize.ShloMosaic.ValueIdx

variable (m : (ℓ : Loc nD τ sig) → Buf (Elt Ideal) ℓ) (c : Dev nD)

theorem N_16 : cfg0.N = 16 := N_0

/-- The last grid point. -/
theorem last_lt : 15 < cfg0.N := by rw [N_16]; omega

theorem accK_upto (n : ℕ) (hn : n < cfg0.N) (i : Fin 16) (j : Fin 128) (g : Fin 2) (d : Fin 64) :
    accK m c n hn (ix2 (rowOf i j) (gcol g d))
      = (if i.val ≤ n then kO (blkAt m c (pt i)) g d j else 0)
        + if h : i.val + 1 ≤ n then kP' (blkAt m c (pt ⟨i.val + 1, by have := lt_of_lt_of_eq hn N_16; omega⟩)) g d j else 0 := by
  have L := ladder (fun n i => if h : n < cfg0.N then accK m c n h (ix2 (rowOf i j) (gcol g d)) else 0)
    (fun i => kO (blkAt m c (pt i)) g d j) (fun i => kP' (blkAt m c (pt i)) g d j)
    (first_kP _ (point_at m c 0) g d j)
    (fun i => (dif_pos (show 0 < cfg0.N by rw [N_16]; omega)).trans
      ((stepK_at _ 0 (point_at m c 0) (k0_pay1 (F := Ideal)) g d i j).trans (by rw [show (k0_pay1 : FVec Ideal S2048x128 .f32) (ix2 (rowOf i j) (gcol g d)) = 0 from kzero_word])))
    (fun n h i => by
      have h1 : n < cfg0.N := by rw [N_16]; omega
      have h2 : n + 1 < cfg0.N := by rw [N_16]; omega
      simp only [dif_pos h1, dif_pos h2]
      exact stepK_at _ ⟨n + 1, h⟩ (point_at m c ⟨n + 1, h⟩) (accK m c n h1) g d i j)
    n (lt_of_lt_of_eq hn N_16) i
  rw [dif_pos hn] at L
  exact L

theorem accK_at (i : Fin 16) (j : Fin 128) (g : Fin 2) (d : Fin 64) :
    accK m c 15 last_lt (ix2 (rowOf i j) (gcol g d))
      = kO (blkAt m c (pt i)) g d j + if h : i.val + 1 < 16 then kP' (blkAt m c (pt ⟨i.val + 1, h⟩)) g d j else 0 := by
  rw [accK_upto m c 15 last_lt i j g d, if_pos (show i.val ≤ 15 by omega)]
  by_cases e : i.val + 1 < 16
  · rw [dif_pos e, dif_pos (show i.val + 1 ≤ 15 by omega)]
  · rw [dif_neg e, dif_neg (show ¬ i.val + 1 ≤ 15 by omega)]

theorem accV_upto (n : ℕ) (hn : n < cfg0.N) (i : Fin 16) (j : Fin 128) (g : Fin 2) (d : Fin 64) :
    accV m c n hn (ix2 (rowOf i j) (gcol g d))
      = (if i.val ≤ n then vO (blkAt m c (pt i)) g d j else 0)
        + if h : i.val + 1 ≤ n then vP (blkAt m c (pt ⟨i.val + 1, by have := lt_of_lt_of_eq hn N_16; omega⟩)) g d j else 0 := by
  have L := ladder (fun n i => if h : n < cfg0.N then accV m c n h (ix2 (rowOf i j) (gcol g d)) else 0)
    (fun i => vO (blkAt m c (pt i)) g d j) (fun i => vP (blkAt m c (pt i)) g d j)
    (first_vP _ (point_at m c 0) g d j)
    (fun i => (dif_pos (show 0 < cfg0.N by rw [N_16]; omega)).trans
      ((stepV_at _ 0 (point_at m c 0) (k0_pay2 (F := Ideal)) g d i j).trans (by rw [show (k0_pay2 : FVec Ideal S2048x128 .f32) (ix2 (rowOf i j) (gcol g d)) = 0 from kzero_word])))
    (fun n h i => by
      have h1 : n < cfg0.N := by rw [N_16]; omega
      have h2 : n + 1 < cfg0.N := by rw [N_16]; omega
      simp only [dif_pos h1, dif_pos h2]
      exact stepV_at _ ⟨n + 1, h⟩ (point_at m c ⟨n + 1, h⟩) (accV m c n h1) g d i j)
    n (lt_of_lt_of_eq hn N_16) i
  rw [dif_pos hn] at L
  exact L

theorem accV_at (i : Fin 16) (j : Fin 128) (g : Fin 2) (d : Fin 64) :
    accV m c 15 last_lt (ix2 (rowOf i j) (gcol g d))
      = vO (blkAt m c (pt i)) g d j + if h : i.val + 1 < 16 then vP (blkAt m c (pt ⟨i.val + 1, h⟩)) g d j else 0 := by
  rw [accV_upto m c 15 last_lt i j g d, if_pos (show i.val ≤ 15 by omega)]
  by_cases e : i.val + 1 < 16
  · rw [dif_pos e, dif_pos (show i.val + 1 ≤ 15 by omega)]
  · rw [dif_neg e, dif_neg (show ¬ i.val + 1 ≤ 15 by omega)]

theorem accS_upto (n : ℕ) (h : n < cfg0.N) (g : Fin 2) (r : Fin 4) (l : Fin 128) :
    accS m c n h (ix2 (⟨4 * g.val + r.val, by omega⟩ : Fin 8) l)
      = ∑ k : Fin (n + 1), ∑ a : Fin 128, bds (blkAt m c ⟨k.val, lt_of_lt_of_le k.isLt h⟩) g r a := by
  induction n with
  | zero =>
    rw [Fin.sum_univ_one]
    refine (stepS_at (blkAt m c ⟨0, h⟩) (k0_pay3 (F := Ideal)) g r l).trans ?_
    rw [show (k0_pay3 : FVec Ideal S8x128 .f32) (ix2 (⟨4 * g.val + r.val, by omega⟩ : Fin 8) l) = 0 from kzero_word, zero_add]
    rfl
  | succ n ih =>
    rw [Fin.sum_univ_castSucc]
    refine (stepS_at (blkAt m c ⟨n + 1, h⟩) _ g r l).trans (congrArg₂ (fun x y : EReal => x + y) ?_ rfl)
    exact ih (Nat.lt_of_succ_lt h)

theorem accS_at (g : Fin 2) (r : Fin 4) (l : Fin 128) :
    accS m c 15 last_lt (ix2 (⟨4 * g.val + r.val, by omega⟩ : Fin 8) l) = ∑ n : Fin 16, ∑ a : Fin 128, bds (blkAt m c (pt n)) g r a :=
  accS_upto m c 15 last_lt g r l

theorem index_5 : ∀ t : Fin cfg0.N, (cfg0.win 5).index t = ![t.val, 0] := by decide +kernel

theorem index_6 : ∀ t : Fin cfg0.N, (cfg0.win 6).index t = ![0, 0] := by decide +kernel

theorem index_7 : ∀ t : Fin cfg0.N, (cfg0.win 7).index t = ![0, 0] := by decide +kernel

theorem index_8 : ∀ t : Fin cfg0.N, (cfg0.win 8).index t = ![0, 0] := by decide +kernel

theorem pt_surj (t : Fin cfg0.N) : t = pt ⟨t.val, lt_of_lt_of_eq t.isLt N_16⟩ := rfl

theorem emb_5 (n : Fin 16) (a : Fin 128) (k : Fin 512) : ((cfg0.win 5).blk (pt n)).view.emb (ix2 a k) = ix2 (rowOf n a) k :=
  funext fun b => match b with
    | ⟨0, _⟩ => Fin.ext (emb_val 5 (pt n) (ix2 a k) ⟨0, by decide⟩ rfl n.val (128 * n.val + a.val) (congrFun (index_5 _) 0) (by show n.val * 128 + a.val = _; omega))
    | ⟨1, _⟩ => Fin.ext (emb_val 5 (pt n) (ix2 a k) ⟨1, by decide⟩ rfl 0 k.val (congrFun (index_5 _) 1) (by show 0 * 512 + k.val = _; omega))

theorem emb_6 (t : Fin cfg0.N) (a : Fin 2048) (k : Fin 128) : ((cfg0.win 6).blk t).view.emb (ix2 a k) = ix2 a k :=
  funext fun b => match b with
    | ⟨0, _⟩ => Fin.ext (emb_val 6 t (ix2 a k) ⟨0, by decide⟩ rfl 0 a.val (congrFun (index_6 _) 0) (by show 0 * 2048 + a.val = _; omega))
    | ⟨1, _⟩ => Fin.ext (emb_val 6 t (ix2 a k) ⟨1, by decide⟩ rfl 0 k.val (congrFun (index_6 _) 1) (by show 0 * 128 + k.val = _; omega))

theorem emb_7 (t : Fin cfg0.N) (a : Fin 2048) (k : Fin 128) : ((cfg0.win 7).blk t).view.emb (ix2 a k) = ix2 a k :=
  funext fun b => match b with
    | ⟨0, _⟩ => Fin.ext (emb_val 7 t (ix2 a k) ⟨0, by decide⟩ rfl 0 a.val (congrFun (index_7 _) 0) (by show 0 * 2048 + a.val = _; omega))
    | ⟨1, _⟩ => Fin.ext (emb_val 7 t (ix2 a k) ⟨1, by decide⟩ rfl 0 k.val (congrFun (index_7 _) 1) (by show 0 * 128 + k.val = _; omega))

theorem emb_8 (t : Fin cfg0.N) (a : Fin 8) (k : Fin 128) : ((cfg0.win 8).blk t).view.emb (ix2 a k) = ix2 a k :=
  funext fun b => match b with
    | ⟨0, _⟩ => Fin.ext (emb_val 8 t (ix2 a k) ⟨0, by decide⟩ rfl 0 a.val (congrFun (index_8 _) 0) (by show 0 * 8 + a.val = _; omega))
    | ⟨1, _⟩ => Fin.ext (emb_val 8 t (ix2 a k) ⟨1, by decide⟩ rfl 0 k.val (congrFun (index_8 _) 1) (by show 0 * 128 + k.val = _; omega))

/-- A two-axis index by its coordinates. -/
theorem eta2 {p q : ℕ} (y : (⟨2, ![p, q]⟩ : Shape).Idx) : y = ix2 (y 0 : Fin p) (y 1 : Fin q) :=
  funext fun b => match b with | ⟨0, _⟩ => rfl | ⟨1, _⟩ => rfl

theorem row_eta (l : Fin 2048) : l = rowOf ⟨l.val / 128, by omega⟩ ⟨l.val % 128, Nat.mod_lt _ (by omega)⟩ :=
  Fin.ext (by show l.val = 128 * (l.val / 128) + l.val % 128; omega)

theorem arr_5 (G : Vec Ideal S2048x512 .f32) (hG : ∀ (n : Fin 16) (a : Fin 128) (k : Fin 512), dqRows (blkAt m c (pt n)) (ix2 a k) = G (ix2 (rowOf n a) k)) :
    (dats m 0 c).arrAt 5 cfg0.N = G := by
  refine Pipeline.Dat.arrAt_eq_of_cover _ _ _ (fun t _ => ?_) fun i => ?_
  · rw [pt_surj t]
    generalize (⟨t.val, lt_of_lt_of_eq t.isLt N_16⟩ : Fin 16) = n
    refine funext fun (y : S128x512.Idx) => ?_
    rw [eta2 y]
    generalize (y 0 : Fin 128) = a
    generalize (y 1 : Fin 512) = k
    refine Eq.trans ?_ ((hG n a k).trans (congrArg G (emb_5 n a k).symm))
    show (dats m 0 c).after 5 (pt n) (ix2 a k) = _
    rw [after_5]
  · obtain ⟨l, k, rfl⟩ : ∃ (l : Fin 2048) (k : Fin 512), i = ix2 l k := ⟨i 0, i 1, eta2 i⟩
    rw [row_eta l]
    generalize (⟨l.val / 128, by omega⟩ : Fin 16) = n
    generalize (⟨l.val % 128, Nat.mod_lt _ (by omega)⟩ : Fin 128) = a
    exact ⟨pt n, flush0_5 _, Finset.mem_map.mpr ⟨ix2 a k, Finset.mem_univ _, emb_5 n a k⟩⟩

theorem last_of {t : Fin cfg0.N} (h : t.val % 16 = 15) : t = ⟨15, last_lt⟩ :=
  Fin.ext (by have := lt_of_lt_of_eq t.isLt N_16; show t.val = 15; omega)

theorem arr_6 : (dats m 0 c).arrAt 6 cfg0.N = accK m c 15 last_lt := by
  refine Pipeline.Dat.arrAt_eq_of_cover _ _ _ (fun t ht => ?_) fun i => ?_
  · rw [last_of ((flush0_6 t).mp ht)]
    refine funext fun (y : S2048x128.Idx) => ?_
    rw [eta2 y]
    generalize (y 0 : Fin 2048) = a
    generalize (y 1 : Fin 128) = k
    refine Eq.trans ?_ (congrArg (accK m c 15 last_lt) (emb_6 ⟨15, last_lt⟩ a k).symm)
    show (dats m 0 c).after 6 ⟨15, last_lt⟩ (ix2 a k) = _
    rw [after_6]
  · obtain ⟨a, k, rfl⟩ : ∃ (l : Fin 2048) (k : Fin 128), i = ix2 l k := ⟨i 0, i 1, eta2 i⟩
    exact ⟨⟨15, last_lt⟩, (flush0_6 _).mpr rfl, Finset.mem_map.mpr ⟨ix2 a k, Finset.mem_univ _, emb_6 _ a k⟩⟩

theorem arr_7 : (dats m 0 c).arrAt 7 cfg0.N = accV m c 15 last_lt := by
  refine Pipeline.Dat.arrAt_eq_of_cover _ _ _ (fun t ht => ?_) fun i => ?_
  · rw [last_of ((flush0_7 t).mp ht)]
    refine funext fun (y : S2048x128.Idx) => ?_
    rw [eta2 y]
    generalize (y 0 : Fin 2048) = a
    generalize (y 1 : Fin 128) = k
    refine Eq.trans ?_ (congrArg (accV m c 15 last_lt) (emb_7 ⟨15, last_lt⟩ a k).symm)
    show (dats m 0 c).after 7 ⟨15, last_lt⟩ (ix2 a k) = _
    rw [after_7]
  · obtain ⟨a, k, rfl⟩ : ∃ (l : Fin 2048) (k : Fin 128), i = ix2 l k := ⟨i 0, i 1, eta2 i⟩
    exact ⟨⟨15, last_lt⟩, (flush0_7 _).mpr rfl, Finset.mem_map.mpr ⟨ix2 a k, Finset.mem_univ _, emb_7 _ a k⟩⟩

theorem arr_8 : (dats m 0 c).arrAt 8 cfg0.N = accS m c 15 last_lt := by
  refine Pipeline.Dat.arrAt_eq_of_cover _ _ _ (fun t ht => ?_) fun i => ?_
  · rw [last_of ((flush0_8 t).mp ht)]
    refine funext fun (y : S8x128.Idx) => ?_
    rw [eta2 y]
    generalize (y 0 : Fin 8) = a
    generalize (y 1 : Fin 128) = k
    refine Eq.trans ?_ (congrArg (accS m c 15 last_lt) (emb_8 ⟨15, last_lt⟩ a k).symm)
    show (dats m 0 c).after 8 ⟨15, last_lt⟩ (ix2 a k) = _
    rw [after_8]
  · obtain ⟨a, k, rfl⟩ : ∃ (l : Fin 8) (k : Fin 128), i = ix2 l k := ⟨i 0, i 1, eta2 i⟩
    exact ⟨⟨15, last_lt⟩, (flush0_8 _).mpr rfl, Finset.mem_map.mpr ⟨ix2 a k, Finset.mem_univ _, emb_8 _ a k⟩⟩

end Cert.Proof.Attn
-- ==== Proof.Attn.RefDots.lean ====
/- The reference's contractions at an index. -/
module

public import proofs.«01_k».proof.Proof.Attn.RefOps
public import Idealize.ShloMosaic.Lib.ValueIdx
public import Idealize.ShloMosaic.Lib.ValueIdxRank6
public import Idealize.ShloMosaic.Lib.KernelVsHost
public import Idealize.ShloMosaic.PureOps.Ideal.Laws
public import Idealize.ShloMosaic.Lib.TwoAxisContraction

@[expose] public section

set_option maxRecDepth 16384

noncomputable section

namespace Cert.Proof.Attn

open Cert.ReferenceIdeal Cert.ReferenceIdeal.Gen
open Idealize.ShloMosaic Idealize.ShloMosaic.ValueIdx

/-- Scores: rows of the window against the block's queries. -/
theorem dot_scores (l : FVec Ideal S1x16x256x2x64 .f32) (q : FVec Ideal S1x16x128x2x4x64 .f32)
    (n : Fin 16) (g : Fin 2) (c : Fin 256) (a : Fin 128) (r : Fin 4) :
    Host.dotGeneral (F := Ideal) dot_S1x16x256x2x64_S1x16x128x2x4x64_S1x16x2x256x128x4_4_5_2_24_013_013 none l q (ix6 (0 : Fin 1) n g c a r)
      = ∑ d : Fin 64, l (ix5 (0 : Fin 1) n c g d) * q (ix6 (0 : Fin 1) n a g r d) := by
  refine (Ideal.dotGeneral_apply _ _ _ l q _).trans ?_
  refine Fintype.sum_equiv (contrEquiv1 dot_S1x16x256x2x64_S1x16x128x2x4x64_S1x16x2x256x128x4_4_5_2_24_013_013 64 rfl rfl) _ _ (fun k => ?_)
  refine congrArg₂ (fun x y : EReal => x * y) (congrArg l (funext fun b => ?_)) (congrArg q (funext fun b => ?_))
  · match b with
    | ⟨0, _⟩ => rfl
    | ⟨1, _⟩ => rfl
    | ⟨2, _⟩ => rfl
    | ⟨3, _⟩ => rfl
    | ⟨4, _⟩ => rfl
  · match b with
    | ⟨0, _⟩ => rfl
    | ⟨1, _⟩ => rfl
    | ⟨2, _⟩ => rfl
    | ⟨3, _⟩ => rfl
    | ⟨4, _⟩ => rfl
    | ⟨5, _⟩ => rfl

/-- The cotangents of the weights: the cotangent rows against the window's values. -/
theorem dot_dp (l : FVec Ideal S1x16x2x64x4x128 .f32) (q : FVec Ideal S1x16x256x2x64 .f32)
    (n : Fin 16) (g : Fin 2) (r : Fin 4) (a : Fin 128) (c : Fin 256) :
    Host.dotGeneral (F := Ideal) dot_S1x16x2x64x4x128_S1x16x256x2x64_S1x16x2x4x128x256_3_4_45_2_012_013 none l q (ix6 (0 : Fin 1) n g r a c)
      = ∑ d : Fin 64, l (ix6 (0 : Fin 1) n g d r a) * q (ix5 (0 : Fin 1) n c g d) := by
  refine (Ideal.dotGeneral_apply _ _ _ l q _).trans ?_
  refine Fintype.sum_equiv (contrEquiv1 dot_S1x16x2x64x4x128_S1x16x256x2x64_S1x16x2x4x128x256_3_4_45_2_012_013 64 rfl rfl) _ _ (fun k => ?_)
  refine congrArg₂ (fun x y : EReal => x * y) (congrArg l (funext fun b => ?_)) (congrArg q (funext fun b => ?_))
  · match b with
    | ⟨0, _⟩ => rfl
    | ⟨1, _⟩ => rfl
    | ⟨2, _⟩ => rfl
    | ⟨3, _⟩ => rfl
    | ⟨4, _⟩ => rfl
    | ⟨5, _⟩ => rfl
  · match b with
    | ⟨0, _⟩ => rfl
    | ⟨1, _⟩ => rfl
    | ⟨2, _⟩ => rfl
    | ⟨3, _⟩ => rfl
    | ⟨4, _⟩ => rfl

/-- The queries' cotangent: the scores' cotangent against the window's keys. -/
theorem dot_dq (l : FVec Ideal S1x16x2x256x128x4 .f32) (q : FVec Ideal S1x16x256x2x64 .f32)
    (n : Fin 16) (g : Fin 2) (a : Fin 128) (r : Fin 4) (d : Fin 64) :
    Host.dotGeneral (F := Ideal) dot_S1x16x2x256x128x4_S1x16x256x2x64_S1x16x2x128x4x64_3_2_45_4_012_013 none l q (ix6 (0 : Fin 1) n g a r d)
      = ∑ c : Fin 256, l (ix6 (0 : Fin 1) n g c a r) * q (ix5 (0 : Fin 1) n c g d) := by
  refine (Ideal.dotGeneral_apply _ _ _ l q _).trans ?_
  refine Fintype.sum_equiv (contrEquiv1 dot_S1x16x2x256x128x4_S1x16x256x2x64_S1x16x2x128x4x64_3_2_45_4_012_013 256 rfl rfl) _ _ (fun k => ?_)
  refine congrArg₂ (fun x y : EReal => x * y) (congrArg l (funext fun b => ?_)) (congrArg q (funext fun b => ?_))
  · match b with
    | ⟨0, _⟩ => rfl
    | ⟨1, _⟩ => rfl
    | ⟨2, _⟩ => rfl
    | ⟨3, _⟩ => rfl
    | ⟨4, _⟩ => rfl
    | ⟨5, _⟩ => rfl
  · match b with
    | ⟨0, _⟩ => rfl
    | ⟨1, _⟩ => rfl
    | ⟨2, _⟩ => rfl
    | ⟨3, _⟩ => rfl
    | ⟨4, _⟩ => rfl

/-- The window's values' cotangent. -/
theorem dot_dv (l : FVec Ideal S1x16x2x64x4x128 .f32) (q : FVec Ideal S1x16x2x4x128x256 .f32)
    (n : Fin 16) (g : Fin 2) (d : Fin 64) (c : Fin 256) :
    Host.dotGeneral (F := Ideal) dot_S1x16x2x64x4x128_S1x16x2x4x128x256_S1x16x2x64x256_45_34_3_5_012_012 none l q (ix5 (0 : Fin 1) n g d c)
      = ∑ r : Fin 4, ∑ a : Fin 128, l (ix6 (0 : Fin 1) n g d r a) * q (ix6 (0 : Fin 1) n g r a c) := by
  refine (Ideal.dotGeneral_apply _ _ _ l q _).trans ?_
  rw [sum_contr2 dot_S1x16x2x64x4x128_S1x16x2x4x128x256_S1x16x2x64x256_45_34_3_5_012_012 4 128 rfl rfl rfl]
  refine Finset.sum_congr rfl fun r _ => Finset.sum_congr rfl fun a _ => ?_
  refine congrArg₂ (fun x y : EReal => x * y) (congrArg l (funext fun b => ?_)) (congrArg q (funext fun b => ?_))
  · match b with
    | ⟨0, _⟩ => rfl
    | ⟨1, _⟩ => rfl
    | ⟨2, _⟩ => rfl
    | ⟨3, _⟩ => rfl
    | ⟨4, _⟩ => rfl
    | ⟨5, _⟩ => rfl
  · match b with
    | ⟨0, _⟩ => rfl
    | ⟨1, _⟩ => rfl
    | ⟨2, _⟩ => rfl
    | ⟨3, _⟩ => rfl
    | ⟨4, _⟩ => rfl
    | ⟨5, _⟩ => rfl

/-- The window's keys' cotangent. -/
theorem dot_dk (l : FVec Ideal S1x16x2x256x128x4 .f32) (q : FVec Ideal S1x16x128x2x4x64 .f32)
    (n : Fin 16) (g : Fin 2) (c : Fin 256) (d : Fin 64) :
    Host.dotGeneral (F := Ideal) dot_S1x16x2x256x128x4_S1x16x128x2x4x64_S1x16x2x256x64_45_24_3_5_012_013 none l q (ix5 (0 : Fin 1) n g c d)
      = ∑ a : Fin 128, ∑ r : Fin 4, l (ix6 (0 : Fin 1) n g c a r) * q (ix6 (0 : Fin 1) n a g r d) := by
  refine (Ideal.dotGeneral_apply _ _ _ l q _).trans ?_
  rw [sum_contr2 dot_S1x16x2x256x128x4_S1x16x128x2x4x64_S1x16x2x256x64_45_24_3_5_012_013 128 4 rfl rfl rfl]
  refine Finset.sum_congr rfl fun a _ => Finset.sum_congr rfl fun r _ => ?_
  refine congrArg₂ (fun x y : EReal => x * y) (congrArg l (funext fun b => ?_)) (congrArg q (funext fun b => ?_))
  · match b with
    | ⟨0, _⟩ => rfl
    | ⟨1, _⟩ => rfl
    | ⟨2, _⟩ => rfl
    | ⟨3, _⟩ => rfl
    | ⟨4, _⟩ => rfl
    | ⟨5, _⟩ => rfl
  · match b with
    | ⟨0, _⟩ => rfl
    | ⟨1, _⟩ => rfl
    | ⟨2, _⟩ => rfl
    | ⟨3, _⟩ => rfl
    | ⟨4, _⟩ => rfl
    | ⟨5, _⟩ => rfl

end Cert.Proof.Attn

end
-- ==== Proof.Attn.RefMask.lean ====
/- The window mask at an index. -/
module

public import proofs.«01_k».proof.Proof.Attn.RefOps
public import Idealize.ShloMosaic.Lib.ValueIdx
public import Idealize.ShloMosaic.Lib.ValueIdxRank6
public import Idealize.ShloMosaic.Lib.KernelVsHost
public import Idealize.ShloMosaic.PureOps.Ideal.Laws

@[expose] public section

set_option maxRecDepth 16384

noncomputable section

namespace Cert.Proof.Attn

open Cert.ReferenceIdeal Cert.ReferenceIdeal.Gen
open Idealize.ShloMosaic Idealize.ShloMosaic.ValueIdx

/-- Whether row `a` of block `n` sees column `c` of its window. -/
def seen (n : Fin 16) (a : Fin 128) (c : Fin 256) : Prop := c.val ≤ a.val + 128 ∧ a.val < c.val ∧ 128 ≤ 128 * n.val + c.val

instance (n : Fin 16) (a : Fin 128) (c : Fin 256) : Decidable (seen n a c) := by unfold seen; infer_instance

theorem dist_bits (a : Fin 128) (c : Fin 256) :
    IntOp.subi (IntOp.addi (BitVec.ofNat 32 a.val) 128#32) (BitVec.ofNat 32 c.val)
      = IntOp.subi (BitVec.ofNat 32 (a.val + 256 - c.val)) 128#32 := by
  show (BitVec.ofNat 32 a.val + 128#32) - BitVec.ofNat 32 c.val = BitVec.ofNat 32 (a.val + 256 - c.val) - 128#32
  apply BitVec.eq_of_toNat_eq
  simp only [BitVec.toNat_sub, BitVec.toNat_add, BitVec.toNat_ofNat]
  omega

theorem near_bits : ∀ d : Fin 384,
    IntOp.andi (IntOp.cmpi .sge (IntOp.subi (BitVec.ofNat 32 d.val) 128#32) 0#32)
      (IntOp.cmpi .slt (IntOp.subi (BitVec.ofNat 32 d.val) 128#32) 128#32)
    = if 128 ≤ d.val ∧ d.val < 256 then 1#1 else 0#1 := by decide +kernel

theorem band_bits (a : Fin 128) (c : Fin 256) :
    IntOp.andi (IntOp.cmpi .sge (IntOp.subi (IntOp.addi (BitVec.ofNat 32 a.val) 128#32) (BitVec.ofNat 32 c.val)) 0#32)
      (IntOp.cmpi .slt (IntOp.subi (IntOp.addi (BitVec.ofNat 32 a.val) 128#32) (BitVec.ofNat 32 c.val)) 128#32)
    = if c.val ≤ a.val + 128 ∧ a.val < c.val then 1#1 else 0#1 := by
  rw [dist_bits]
  refine (near_bits ⟨a.val + 256 - c.val, by omega⟩).trans ?_
  by_cases h : c.val ≤ a.val + 128 ∧ a.val < c.val
  · rw [if_pos h, if_pos (by constructor <;> show _ <;> simp only [] <;> omega)]
  · rw [if_neg h, if_neg (by simp only []; omega)]

theorem before_bits : ∀ (n : Fin 16) (c : Fin 256),
    IntOp.cmpi .sge (IntOp.subi (IntOp.addi (IntOp.muli (BitVec.ofNat 32 n.val) 128#32) (BitVec.ofNat 32 c.val)) 128#32) 0#32
    = if 128 ≤ 128 * n.val + c.val then 1#1 else 0#1 := by decide +kernel

theorem ref_v41 (a : Fin 128) (c : Fin 256) : r_v41 (ix2 a c)
    = IntOp.andi (IntOp.cmpi .sge (IntOp.subi (IntOp.addi (BitVec.ofNat 32 a.val) 128#32) (BitVec.ofNat 32 c.val)) 0#32)
      (IntOp.cmpi .slt (IntOp.subi (IntOp.addi (BitVec.ofNat 32 a.val) 128#32) (BitVec.ofNat 32 c.val)) 128#32) := rfl

theorem ref_v54 (n : Fin 16) (c : Fin 256) : r_v54 (ix3 n (0 : Fin 1) c)
    = IntOp.cmpi .sge (IntOp.subi (IntOp.addi (IntOp.muli (BitVec.ofNat 32 n.val) 128#32) (BitVec.ofNat 32 c.val)) 128#32) 0#32 := rfl

theorem ref_v57 (n : Fin 16) (a : Fin 128) (c : Fin 256) :
    r_v57 (ix3 n a c) = IntOp.andi (r_v41 (ix2 a c)) (r_v54 (ix3 n (0 : Fin 1) c)) := by
  unfold r_v57 r_v55 r_v52 r_v56
  generalize r_v41 = x
  generalize r_v54 = y
  refine congrArg₂ IntOp.andi ?_ ?_
  · rw [broadcastInDim_apply _ _ _ _ (ix3 (0 : Fin 1) a c) (fun b => match b with | ⟨0, _⟩ => rfl | ⟨1, _⟩ => rfl | ⟨2, _⟩ => rfl)]
    exact broadcastInDim_apply _ _ _ _ _ (fun b => match b with | ⟨0, _⟩ => rfl | ⟨1, _⟩ => rfl)
  · exact broadcastInDim_apply _ _ _ _ _ (fun b => match b with | ⟨0, _⟩ => rfl | ⟨1, _⟩ => rfl | ⟨2, _⟩ => rfl)

theorem ref_v59_1 (n : Fin 16) (g : Fin 2) (r : Fin 4) (a : Fin 128) (c : Fin 256) :
    r_v59_1 (ix6 (0 : Fin 1) n g r a c) = r_v57 (ix3 n a c) := by
  unfold r_v59_1 r_v58
  generalize r_v57 = y
  rw [broadcastInDim_apply _ _ _ (ix6 (0 : Fin 1) n g r a c) (ix6 (0 : Fin 1) n (0 : Fin 1) (0 : Fin 1) a c) (fun b => match b with
    | ⟨0, _⟩ => rfl | ⟨1, _⟩ => rfl | ⟨2, _⟩ => rfl | ⟨3, _⟩ => rfl | ⟨4, _⟩ => rfl | ⟨5, _⟩ => rfl)]
  exact broadcastInDim_apply _ _ _ _ _ (fun b => match b with | ⟨0, _⟩ => rfl | ⟨1, _⟩ => rfl | ⟨2, _⟩ => rfl)

theorem ref_mask (n : Fin 16) (g : Fin 2) (r : Fin 4) (a : Fin 128) (c : Fin 256) :
    r_v59_1 (ix6 (0 : Fin 1) n g r a c) = if seen n a c then 1#1 else 0#1 := by
  rw [ref_v59_1, ref_v57, ref_v41, ref_v54, band_bits, before_bits]
  rw [show (if seen n a c then (1#1 : BitVec 1) else 0#1) = if c.val ≤ a.val + 128 ∧ a.val < c.val ∧ 128 ≤ 128 * n.val + c.val then 1#1 else 0#1 from rfl]
  by_cases h1 : c.val ≤ a.val + 128 ∧ a.val < c.val <;> by_cases h2 : 128 ≤ 128 * n.val + c.val
  · rw [if_pos h1, if_pos h2, if_pos ⟨h1.1, h1.2, h2⟩]; rfl
  · rw [if_pos h1, if_neg h2, if_neg fun h => h2 h.2.2]; rfl
  · rw [if_neg h1, if_pos h2, if_neg fun h => h1 ⟨h.1, h.2.1⟩]; rfl
  · rw [if_neg h1, if_neg h2, if_neg fun h => h2 h.2.2]; rfl

end Cert.Proof.Attn

end
-- ==== Proof.Attn.RefRow.lean ====
/- The reference's softmax rows and their cotangents at an index. -/
module

public import proofs.«01_k».proof.Proof.Attn.RefIn
public import proofs.«01_k».proof.Proof.Attn.RefDots
public import proofs.«01_k».proof.Proof.Attn.RefMask
public import Idealize.ShloMosaic.Lib.IdealHost

@[expose] public section

set_option maxRecDepth 16384

noncomputable section

namespace Cert.Proof.Attn

open Cert.ReferenceIdeal Cert.ReferenceIdeal.Gen
open Idealize.ShloMosaic Idealize.ShloMosaic.ValueIdx

/-- The scale, one eighth. -/
def eighth : EReal := Ideal.ofBits .f32 0x3E000000#32

/-- A score of the window. -/
def scoreR (x0 : A0) (n : Fin 16) (g : Fin 2) (r : Fin 4) (a : Fin 128) (c : Fin 256) : EReal :=
  (∑ d : Fin 64, win (fun l => kAt x0 l g d) n c * qAt x0 n g r a d) * eighth

/-- The reference's row: the window's scores where seen, and the sink. -/
def rowX (x0 : A0) (x2 : A2) (n : Fin 16) (g : Fin 2) (r : Fin 4) (a : Fin 128) (c : Fin 257) : EReal :=
  if h : c.val < 256 then (if seen n a ⟨c.val, h⟩ then scoreR x0 n g r a ⟨c.val, h⟩ else ⊥) else sinkAt x2 g r

/-- The reference's weights' cotangents: zero at the sink. -/
def rowY (x1 : A1) (x3 : A3) (n : Fin 16) (g : Fin 2) (r : Fin 4) (a : Fin 128) (c : Fin 257) : EReal :=
  if h : c.val < 256 then ∑ d : Fin 64, oAt x3 n g r a d * win (fun l => vAt x1 l g d) n ⟨c.val, h⟩ else 0

theorem inf_word : Ideal.ofBits .f32 0xFF800000#32 = (⊥ : EReal) := by simp [Ideal.ofBits, Ideal.ieee]

/-- A row value put in a column of its own. -/
theorem bcast_col (y : S1x16x2x4x128.Idx → EReal) (n : Fin 16) (g : Fin 2) (r : Fin 4) (a : Fin 128) :
    broadcastInDim S1x16x2x4x128x1 ![0, 1, 2, 3, 4] bcast_S1x16x2x4x128_S1x16x2x4x128x1_0_1_2_3_4 y (ix6 (0 : Fin 1) n g r a (0 : Fin 1))
      = y (ix5 (0 : Fin 1) n g r a) :=
  broadcastInDim_apply _ _ _ _ _ (fun b => match b with
    | ⟨0, _⟩ => rfl | ⟨1, _⟩ => rfl | ⟨2, _⟩ => rfl | ⟨3, _⟩ => rfl | ⟨4, _⟩ => rfl)

/-- A column repeated along the row. -/
theorem bcast_row (y : S1x16x2x4x128x1.Idx → EReal) (n : Fin 16) (g : Fin 2) (r : Fin 4) (a : Fin 128) (c : Fin 257) :
    broadcastInDim S1x16x2x4x128x257 ![0, 1, 2, 3, 4, 5] bcast_S1x16x2x4x128x1_S1x16x2x4x128x257_0_1_2_3_4_5 y (ix6 (0 : Fin 1) n g r a c)
      = y (ix6 (0 : Fin 1) n g r a (0 : Fin 1)) :=
  broadcastInDim_apply _ _ _ _ _ (fun b => match b with
    | ⟨0, _⟩ => rfl | ⟨1, _⟩ => rfl | ⟨2, _⟩ => rfl | ⟨3, _⟩ => rfl | ⟨4, _⟩ => rfl | ⟨5, _⟩ => rfl)

/-- A row value repeated along the row. -/
theorem bcast_all (y : S1x16x2x4x128.Idx → EReal) (n : Fin 16) (g : Fin 2) (r : Fin 4) (a : Fin 128) (c : Fin 257) :
    broadcastInDim S1x16x2x4x128x257 ![0, 1, 2, 3, 4] bcast_S1x16x2x4x128_S1x16x2x4x128x257_0_1_2_3_4 y (ix6 (0 : Fin 1) n g r a c)
      = y (ix5 (0 : Fin 1) n g r a) :=
  broadcastInDim_apply _ _ _ _ _ (fun b => match b with
    | ⟨0, _⟩ => rfl | ⟨1, _⟩ => rfl | ⟨2, _⟩ => rfl | ⟨3, _⟩ => rfl | ⟨4, _⟩ => rfl)

theorem row_lift (n : Fin 16) (g : Fin 2) (r : Fin 4) (a : Fin 128) (c : Fin 257)
    (h : Shape.Reduces S1x16x2x4x128x257 [5] S1x16x2x4x128) :
    h.lift (ix5 (0 : Fin 1) n g r a) c = ix6 (0 : Fin 1) n g r a c := by
  funext b
  match b with
  | ⟨0, _⟩ => rfl
  | ⟨1, _⟩ => rfl
  | ⟨2, _⟩ => rfl
  | ⟨3, _⟩ => rfl
  | ⟨4, _⟩ => rfl
  | ⟨5, _⟩ => rfl

theorem row_reduces : Shape.Reduces S1x16x2x4x128x257 [5] S1x16x2x4x128 := by decide

/-- The host's sum of a row. -/
theorem row_sum (y : FVec Ideal S1x16x2x4x128x257 .f32) (n : Fin 16) (g : Fin 2) (r : Fin 4) (a : Fin 128) :
    Host.reduceAdd (F := Ideal) y (constant S_ .f32 0x00000000#32) reducesTo_S1x16x2x4x128x257_S1x16x2x4x128_d5 h_S_ (ix5 (0 : Fin 1) n g r a)
      = ∑ c : Fin 257, y (ix6 (0 : Fin 1) n g r a c) := by
  rw [hostReduceAdd_apply, Ideal.hostReduceAdd_single _ row_reduces]
  refine (congrArg₂ (fun x y : EReal => x + y) zero_word rfl).trans ((zero_add _).trans ?_)
  exact Finset.sum_congr rfl fun c _ => congrArg y (row_lift n g r a c row_reduces)

/-- The host's maximum of a row. -/
theorem row_max (y : FVec Ideal S1x16x2x4x128x257 .f32) (n : Fin 16) (g : Fin 2) (r : Fin 4) (a : Fin 128) :
    Host.reduce (FloatOps.maximumf (F := Ideal) (φ := .f32)) y (constant S_ .f32 0xFF800000#32) reducesTo_S1x16x2x4x128x257_S1x16x2x4x128_d5 h_S_ (ix5 (0 : Fin 1) n g r a)
      = Finset.univ.sup fun c : Fin 257 => y (ix6 (0 : Fin 1) n g r a c) := by
  have h := hostReduce_maximumf_eq_multiReduction (F := Ideal) (φ := .f32) (u := S_) y (0xFF800000#32) reducesTo_S1x16x2x4x128x257_S1x16x2x4x128_d5 h_S_
    row_reduces (by decide) rfl
  refine (congrFun h (ix5 (0 : Fin 1) n g r a)).trans ?_
  refine (Ideal.multiReduction_maximumf_single y (0xFF800000#32) row_reduces (by decide) rfl (ix5 (0 : Fin 1) n g r a)).trans ?_
  have e : FloatOps.ofBits (F := Ideal) .f32 0xFF800000#32 = (⊥ : EReal) := inf_word
  rw [e]
  show Finset.univ.fold max ⊥ _ = Finset.univ.fold max ⊥ _
  exact congrArg (Finset.fold max ⊥ · Finset.univ) (funext fun c => congrArg y (row_lift n g r a c row_reduces))

theorem ref_v27 (x0 : A0) (n : Fin 16) (g : Fin 2) (r : Fin 4) (a : Fin 128) (c : Fin 256) :
    r_v27 x0 (ix6 (0 : Fin 1) n g r a c) = scoreR x0 n g r a c := by
  have e : r_v25 x0 (ix6 (0 : Fin 1) n g r a c) = r_v24 x0 (ix6 (0 : Fin 1) n g c a r) := by
    unfold r_v25
    generalize r_v24 x0 = y
    exact transpose_apply _ _ _ _ _ (fun b => match b with
      | ⟨0, _⟩ => rfl | ⟨1, _⟩ => rfl | ⟨2, _⟩ => rfl | ⟨3, _⟩ => rfl | ⟨4, _⟩ => rfl | ⟨5, _⟩ => rfl)
  unfold scoreR r_v27
  refine congrArg₂ (fun x y : EReal => x * y) (e.trans ?_) rfl
  unfold r_v24
  rw [dot_scores]
  exact Finset.sum_congr rfl fun d _ => by rw [ref_v17, ref_v11]

theorem ref_v59_0 (x0 : A0) (n : Fin 16) (g : Fin 2) (r : Fin 4) (a : Fin 128) (c : Fin 256) :
    r_v59_0 x0 (ix6 (0 : Fin 1) n g r a c) = if seen n a c then scoreR x0 n g r a c else ⊥ := by
  have e : r_v59_0 x0 (ix6 (0 : Fin 1) n g r a c)
      = Scalar.select (r_v59_1 (ix6 (0 : Fin 1) n g r a c)) (r_v27 x0 (ix6 (0 : Fin 1) n g r a c)) (Ideal.ofBits .f32 0xFF800000#32) := rfl
  rw [e, ref_mask, ref_v27, inf_word]
  by_cases h : seen n a c
  · rw [if_pos h, if_pos h]; rfl
  · rw [if_neg h, if_neg h]; rfl

theorem ref_v61 (x2 : A2) (n : Fin 16) (g : Fin 2) (r : Fin 4) (a : Fin 128) :
    r_v61 x2 (ix6 (0 : Fin 1) n g r a (0 : Fin 1)) = sinkAt x2 g r := by
  rw [← ref_v60]
  unfold r_v61
  generalize r_v60 x2 = y
  exact broadcastInDim_apply _ _ _ _ _ (fun b => match b with
    | ⟨0, _⟩ => rfl | ⟨1, _⟩ => rfl | ⟨2, _⟩ => rfl | ⟨3, _⟩ => rfl | ⟨4, _⟩ => rfl | ⟨5, _⟩ => rfl)

theorem ref_v62 (x0 : A0) (x2 : A2) (n : Fin 16) (g : Fin 2) (r : Fin 4) (a : Fin 128) (c : Fin 257) :
    r_v62 x0 x2 (ix6 (0 : Fin 1) n g r a c) = rowX x0 x2 n g r a c := by
  unfold rowX r_v62
  by_cases h : c.val < 256
  · rw [dif_pos h, ← ref_v59_0]
    generalize r_v59_0 x0 = y
    generalize r_v61 x2 = z
    exact concatenate_pair_apply_left (t := S1x16x2x4x128x257) (s₁ := S1x16x2x4x128x256) (s₂ := S1x16x2x4x128x1) (5 : Fin 6) _ _ _ _ rfl
      (ix6 (0 : Fin 1) n g r a (⟨c.val, h⟩ : Fin 256)) (fun b => match b with
        | ⟨0, _⟩ => rfl | ⟨1, _⟩ => rfl | ⟨2, _⟩ => rfl | ⟨3, _⟩ => rfl | ⟨4, _⟩ => rfl | ⟨5, _⟩ => rfl)
  · rw [dif_neg h, ← ref_v61 x2 n g r a]
    generalize r_v59_0 x0 = y
    generalize r_v61 x2 = z
    exact concatenate_pair_apply_right (t := S1x16x2x4x128x257) (s₁ := S1x16x2x4x128x256) (s₂ := S1x16x2x4x128x1) (5 : Fin 6) _ _ _ _ rfl rfl
      (ix6 (0 : Fin 1) n g r a (0 : Fin 1)) (fun b hb => match b, hb with
        | ⟨0, _⟩, _ => rfl | ⟨1, _⟩, _ => rfl | ⟨2, _⟩, _ => rfl | ⟨3, _⟩, _ => rfl | ⟨4, _⟩, _ => rfl | ⟨5, _⟩, hb => absurd rfl hb)
      (by show 0 + 256 = c.val; omega)

theorem ref_v70 (x0 : A0) (x2 : A2) (n : Fin 16) (g : Fin 2) (r : Fin 4) (a : Fin 128) :
    r_v70 x0 x2 (ix5 (0 : Fin 1) n g r a) = rM (rowX x0 x2 n g r a) := by
  have h : r_v63 x0 x2 (ix5 (0 : Fin 1) n g r a) = rM (rowX x0 x2 n g r a) := by
    unfold r_v63 rM r_cst_10
    exact (row_max (r_v62 x0 x2) n g r a).trans (congrArg (Finset.sup Finset.univ) (funext fun c => ref_v62 x0 x2 n g r a c))
  rw [← h]
  unfold r_v70 r_v69 r_cst_12
  generalize r_v63 x0 x2 = y
  rw [maximumf_apply]
  refine (congrArg₂ max (broadcastInDim_scalar_apply _ _ _) rfl).trans ?_
  show max (Ideal.ofBits .f32 0xFF800000#32) (y (ix5 (0 : Fin 1) n g r a)) = _
  rw [inf_word]
  exact max_eq_right bot_le

theorem ref_v83 (x0 : A0) (x2 : A2) (n : Fin 16) (g : Fin 2) (r : Fin 4) (a : Fin 128) (c : Fin 257) :
    r_v83 x0 x2 (ix6 (0 : Fin 1) n g r a c) = rE (rowX x0 x2 n g r a) c := by
  have e : r_v81 x0 x2 (ix6 (0 : Fin 1) n g r a c) = r_v70 x0 x2 (ix5 (0 : Fin 1) n g r a) :=
    (bcast_row (r_v80 x0 x2) n g r a c).trans (bcast_col (r_v70 x0 x2) n g r a)
  show Ideal.exp (r_v62 x0 x2 (ix6 (0 : Fin 1) n g r a c) - r_v81 x0 x2 (ix6 (0 : Fin 1) n g r a c)) = _
  rw [ref_v62, e, ref_v70]
  rfl

theorem ref_v85 (x0 : A0) (x2 : A2) (n : Fin 16) (g : Fin 2) (r : Fin 4) (a : Fin 128) :
    r_v85 x0 x2 (ix6 (0 : Fin 1) n g r a (0 : Fin 1)) = rS (rowX x0 x2 n g r a) := by
  refine (bcast_col (r_v84 x0 x2) n g r a).trans ((row_sum (r_v83 x0 x2) n g r a).trans ?_)
  exact Finset.sum_congr rfl fun c _ => ref_v83 x0 x2 n g r a c

theorem ref_v87 (x0 : A0) (x2 : A2) (n : Fin 16) (g : Fin 2) (r : Fin 4) (a : Fin 128) (c : Fin 257) :
    r_v87 x0 x2 (ix6 (0 : Fin 1) n g r a c) = rP (rowX x0 x2 n g r a) c := by
  have e : r_v86 x0 x2 (ix6 (0 : Fin 1) n g r a c) = rS (rowX x0 x2 n g r a) :=
    (bcast_row (r_v85 x0 x2) n g r a c).trans (ref_v85 x0 x2 n g r a)
  show Ideal.div (r_v83 x0 x2 (ix6 (0 : Fin 1) n g r a c)) (r_v86 x0 x2 (ix6 (0 : Fin 1) n g r a c)) = _
  rw [ref_v83, e]
  rfl

theorem ref_v91 (x0 : A0) (x2 : A2) (n : Fin 16) (g : Fin 2) (r : Fin 4) (a : Fin 128) (c : Fin 256) :
    r_v91 x0 x2 (ix6 (0 : Fin 1) n g r a c) = rP (rowX x0 x2 n g r a) ⟨c.val, by omega⟩ := by
  rw [← ref_v87]
  unfold r_v91
  generalize r_v87 x0 x2 = y
  exact extractStridedSlice_apply _ _ _ _ _ (fun b => match b with
    | ⟨0, _⟩ => rfl | ⟨1, _⟩ => (Nat.zero_add _).symm | ⟨2, _⟩ => (Nat.zero_add _).symm | ⟨3, _⟩ => (Nat.zero_add _).symm
    | ⟨4, _⟩ => (Nat.zero_add _).symm | ⟨5, _⟩ => (Nat.zero_add _).symm)

theorem ref_v96 (x3 : A3) (n : Fin 16) (g : Fin 2) (d : Fin 64) (r : Fin 4) (a : Fin 128) :
    r_v96 x3 (ix6 (0 : Fin 1) n g d r a) = oAt x3 n g r a d := by
  rw [← ref_v95]
  unfold r_v96
  generalize r_v95 x3 = y
  exact transpose_apply _ _ _ _ _ (fun b => match b with
    | ⟨0, _⟩ => rfl | ⟨1, _⟩ => rfl | ⟨2, _⟩ => rfl | ⟨3, _⟩ => rfl | ⟨4, _⟩ => rfl | ⟨5, _⟩ => rfl)

theorem ref_v100 (x1 : A1) (x3 : A3) (n : Fin 16) (g : Fin 2) (r : Fin 4) (a : Fin 128) (c : Fin 257) :
    r_v100 x1 x3 (ix6 (0 : Fin 1) n g r a c) = rowY x1 x3 n g r a c := by
  unfold rowY r_v100
  by_cases h : c.val < 256
  · rw [dif_pos h]
    have e : r_v97 x1 x3 (ix6 (0 : Fin 1) n g r a (⟨c.val, h⟩ : Fin 256)) = ∑ d : Fin 64, oAt x3 n g r a d * win (fun l => vAt x1 l g d) n ⟨c.val, h⟩ := by
      unfold r_v97
      rw [dot_dp]
      exact Finset.sum_congr rfl fun d _ => by rw [ref_v96, ref_v23]
    rw [← e]
    generalize r_v97 x1 x3 = y
    exact pad_apply_of_inside _ _ _ _ _ _ _ _ (ix6 (0 : Fin 1) n g r a (⟨c.val, h⟩ : Fin 256)) (fun b => match b with
      | ⟨0, _⟩ => rfl
      | ⟨1, _⟩ => by show n.val = 0 + n.val * (0 + 1); omega
      | ⟨2, _⟩ => by show g.val = 0 + g.val * (0 + 1); omega
      | ⟨3, _⟩ => by show r.val = 0 + r.val * (0 + 1); omega
      | ⟨4, _⟩ => by show a.val = 0 + a.val * (0 + 1); omega
      | ⟨5, _⟩ => by show c.val = 0 + c.val * (0 + 1); omega)
  · rw [dif_neg h]
    generalize r_v97 x1 x3 = y
    refine (pad_apply_of_not_inside _ _ _ _ _ _ _ _ (5 : Fin 6) ?_).trans zero_word
    show ¬(0 ≤ c.val ∧ (c.val - 0) % (0 + 1) = 0 ∧ (c.val - 0) / (0 + 1) < 256)
    omega

theorem ref_v104 (x0 : A0) (x1 : A1) (x2 : A2) (x3 : A3) (n : Fin 16) (g : Fin 2) (r : Fin 4) (a : Fin 128) :
    r_v104 x0 x1 x2 x3 (ix5 (0 : Fin 1) n g r a) = rT (rowX x0 x2 n g r a) (rowY x1 x3 n g r a) := by
  refine (row_sum (r_v103 x0 x1 x2 x3) n g r a).trans ?_
  refine Finset.sum_congr rfl fun c _ => ?_
  have e : r_v101 x0 x2 (ix6 (0 : Fin 1) n g r a c) = r_v90 x0 x2 (ix6 (0 : Fin 1) n g r a (0 : Fin 1)) := bcast_row (r_v90 x0 x2) n g r a c
  have e' : r_v90 x0 x2 (ix6 (0 : Fin 1) n g r a (0 : Fin 1)) = Ideal.div (Ideal.ofBits .f32 0x3F800000#32)
      (r_v85 x0 x2 (ix6 (0 : Fin 1) n g r a (0 : Fin 1)) * r_v85 x0 x2 (ix6 (0 : Fin 1) n g r a (0 : Fin 1))) := rfl
  show r_v100 x1 x3 (ix6 (0 : Fin 1) n g r a c) * r_v101 x0 x2 (ix6 (0 : Fin 1) n g r a c) * r_v83 x0 x2 (ix6 (0 : Fin 1) n g r a c) = _
  rw [e, e', ref_v100, ref_v83, ref_v85, Ideal.ofBits_one_f32]

theorem unit_drop (i : S1x16x2x4x128x1.Idx) :
    reducesTo_S1x16x2x4x128x1_S16x2x4x128_d0_5.drop i = ix4 (i 1 : Fin 16) (i 2 : Fin 2) (i 3 : Fin 4) (i 4 : Fin 128) := by
  funext b
  match b with
  | ⟨0, _⟩ => rfl
  | ⟨1, _⟩ => rfl
  | ⟨2, _⟩ => rfl
  | ⟨3, _⟩ => rfl

/-- A column's sum over nothing but unit axes is its one entry. -/
theorem unit_sum (y : FVec Ideal S1x16x2x4x128x1 .f32) (n : Fin 16) (g : Fin 2) (r : Fin 4) (a : Fin 128) :
    Host.reduceAdd (F := Ideal) y (constant S_ .f32 0x00000000#32) reducesTo_S1x16x2x4x128x1_S16x2x4x128_d0_5 h_S_ (ix4 n g r a)
      = y (ix6 (0 : Fin 1) n g r a (0 : Fin 1)) := by
  rw [hostReduceAdd_apply]
  unfold Ideal.hostReduceAdd
  refine (congrArg₂ (fun x y : EReal => x + y) zero_word rfl).trans ((zero_add _).trans ?_)
  have hs : (Finset.univ.filter fun i => reducesTo_S1x16x2x4x128x1_S16x2x4x128_d0_5.drop i = ix4 n g r a) = {ix6 (0 : Fin 1) n g r a (0 : Fin 1)} := by
    ext i
    rw [Finset.mem_filter, Finset.mem_singleton, unit_drop]
    constructor
    · intro h
      have h0 : i 1 = n := congrFun h.2 (0 : Fin 4)
      have h1 : i 2 = g := congrFun h.2 (1 : Fin 4)
      have h2 : i 3 = r := congrFun h.2 (2 : Fin 4)
      have h3 : i 4 = a := congrFun h.2 (3 : Fin 4)
      have e0 : i 0 = (0 : Fin 1) := Subsingleton.elim (α := Fin 1) _ _
      have e5 : i 5 = (0 : Fin 1) := Subsingleton.elim (α := Fin 1) _ _
      rw [eq_ix6 i, ← h0, ← h1, ← h2, ← h3, e0, e5]
      rfl
    · intro h
      rw [h]
      exact ⟨Finset.mem_univ _, rfl⟩
  rw [hs, Finset.sum_singleton]

theorem ref_v113 (x0 : A0) (x1 : A1) (x2 : A2) (x3 : A3) (n : Fin 16) (g : Fin 2) (r : Fin 4) (a : Fin 128) (c : Fin 257) :
    r_v113 x0 x1 x2 x3 (ix6 (0 : Fin 1) n g r a c) = rD (rowX x0 x2 n g r a) (rowY x1 x3 n g r a) c := by
  have e : r_v111 x0 x1 x2 x3 (ix6 (0 : Fin 1) n g r a c) = -(rT (rowX x0 x2 n g r a) (rowY x1 x3 n g r a)) := by
    refine (bcast_all (r_v110 x0 x1 x2 x3) n g r a c).trans ?_
    have e1 : r_v110 x0 x1 x2 x3 (ix5 (0 : Fin 1) n g r a) = r_v109 x0 x1 x2 x3 (ix4 n g r a) := by
      unfold r_v110
      generalize r_v109 x0 x1 x2 x3 = y
      exact broadcastInDim_apply _ _ _ _ _ (fun b => match b with
        | ⟨0, _⟩ => rfl | ⟨1, _⟩ => rfl | ⟨2, _⟩ => rfl | ⟨3, _⟩ => rfl)
    rw [e1]
    refine (unit_sum (r_v106 x0 x1 x2 x3) n g r a).trans ?_
    show -(r_v105 x0 x1 x2 x3 (ix6 (0 : Fin 1) n g r a (0 : Fin 1))) = _
    rw [← ref_v104]
    unfold r_v105
    generalize r_v104 x0 x1 x2 x3 = y
    rw [shapeCast_apply y _ (ix6 (0 : Fin 1) n g r a (0 : Fin 1)) (ix5 (0 : Fin 1) n g r a) (by
      rewrite [Shape.rowMajor_val_six, Shape.rowMajor_val_five]
      show (((0 * 16 + n.val) * 2 + g.val) * 4 + r.val) * 128 + a.val = ((((0 * 16 + n.val) * 2 + g.val) * 4 + r.val) * 128 + a.val) * 1 + 0
      omega)]
  have e7 : r_v107 x0 x2 (ix6 (0 : Fin 1) n g r a c) = rS (rowX x0 x2 n g r a) :=
    (bcast_row (r_v85 x0 x2) n g r a c).trans (ref_v85 x0 x2 n g r a)
  show (Ideal.div (r_v100 x1 x3 (ix6 (0 : Fin 1) n g r a c)) (r_v107 x0 x2 (ix6 (0 : Fin 1) n g r a c)) + r_v111 x0 x1 x2 x3 (ix6 (0 : Fin 1) n g r a c))
    * r_v83 x0 x2 (ix6 (0 : Fin 1) n g r a c) = _
  rw [e, e7, ref_v100, ref_v83]
  rfl

end Cert.Proof.Attn

end
-- ==== Proof.Attn.RefOut.lean ====
/- The reference's results at an index. -/
module

public import proofs.«01_k».proof.Proof.Attn.RefRow

@[expose] public section

set_option maxRecDepth 16384

noncomputable section

namespace Cert.Proof.Attn

open Cert.ReferenceIdeal Cert.ReferenceIdeal.Gen
open Idealize.ShloMosaic Idealize.ShloMosaic.ValueIdx

/-- A column of the window among the row's columns. -/
def wc (c : Fin 256) : Fin 257 := ⟨c.val, by omega⟩

/-- The reference's weight at a window column. -/
def refP (x0 : A0) (x2 : A2) (n : Fin 16) (g : Fin 2) (r : Fin 4) (a : Fin 128) (c : Fin 256) : EReal :=
  rP (rowX x0 x2 n g r a) (wc c)

/-- The reference's score cotangent at a window column, scaled. -/
def refD (x0 : A0) (x1 : A1) (x2 : A2) (x3 : A3) (n : Fin 16) (g : Fin 2) (r : Fin 4) (a : Fin 128) (c : Fin 256) : EReal :=
  (if seen n a c then rD (rowX x0 x2 n g r a) (rowY x1 x3 n g r a) (wc c) else 0) * eighth

theorem ref_v119 (x0 : A0) (x1 : A1) (x2 : A2) (x3 : A3) (n : Fin 16) (g : Fin 2) (r : Fin 4) (a : Fin 128) (c : Fin 256) :
    r_v121 x0 x1 x2 x3 (ix6 (0 : Fin 1) n g r a c) = refD x0 x1 x2 x3 n g r a c := by
  have e : r_v114 x0 x1 x2 x3 (ix6 (0 : Fin 1) n g r a c) = rD (rowX x0 x2 n g r a) (rowY x1 x3 n g r a) (wc c) := by
    rw [← ref_v113]
    unfold r_v114
    generalize r_v113 x0 x1 x2 x3 = y
    exact extractStridedSlice_apply _ _ _ _ _ (fun b => match b with
      | ⟨0, _⟩ => rfl | ⟨1, _⟩ => (Nat.zero_add _).symm | ⟨2, _⟩ => (Nat.zero_add _).symm | ⟨3, _⟩ => (Nat.zero_add _).symm
      | ⟨4, _⟩ => (Nat.zero_add _).symm | ⟨5, _⟩ => (Nat.zero_add _).symm)
  have e' : r_v119 x0 x1 x2 x3 (ix6 (0 : Fin 1) n g r a c)
      = Scalar.select (r_v59_1 (ix6 (0 : Fin 1) n g r a c)) (r_v114 x0 x1 x2 x3 (ix6 (0 : Fin 1) n g r a c)) (Ideal.ofBits .f32 0x00000000#32) := rfl
  unfold refD r_v121
  refine congrArg₂ (fun x y : EReal => x * y) (e'.trans ?_) rfl
  rw [ref_mask, e, zero_word]
  by_cases h : seen n a c
  · rw [if_pos h, if_pos h]; rfl
  · rw [if_neg h, if_neg h]; rfl

theorem ref_v122 (x0 : A0) (x1 : A1) (x2 : A2) (x3 : A3) (n : Fin 16) (g : Fin 2) (c : Fin 256) (a : Fin 128) (r : Fin 4) :
    r_v122 x0 x1 x2 x3 (ix6 (0 : Fin 1) n g c a r) = refD x0 x1 x2 x3 n g r a c := by
  rw [← ref_v119]
  unfold r_v122
  generalize r_v121 x0 x1 x2 x3 = y
  exact transpose_apply _ _ _ _ _ (fun b => match b with
    | ⟨0, _⟩ => rfl | ⟨1, _⟩ => rfl | ⟨2, _⟩ => rfl | ⟨3, _⟩ => rfl | ⟨4, _⟩ => rfl | ⟨5, _⟩ => rfl)

/-- The first result, the queries' cotangent. -/
theorem ref_dq (x0 : A0) (x1 : A1) (x2 : A2) (x3 : A3) (n : Fin 16) (a : Fin 128) (g : Fin 2) (r : Fin 4) (d : Fin 64) :
    r_v142 x0 x1 x2 x3 (ix2 (rowOf n a) (⟨64 * (4 * g.val + r.val) + d.val, by omega⟩ : Fin 512))
      = ∑ c : Fin 256, refD x0 x1 x2 x3 n g r a c * win (fun l => kAt x0 l g d) n c := by
  have e : r_v123 x0 x1 x2 x3 (ix6 (0 : Fin 1) n g a r d) = ∑ c : Fin 256, refD x0 x1 x2 x3 n g r a c * win (fun l => kAt x0 l g d) n c := by
    unfold r_v123
    rw [dot_dq]
    exact Finset.sum_congr rfl fun c _ => by rw [ref_v122, ref_v17]
  rw [← e]
  unfold r_v142 r_v141 r_v124
  generalize r_v123 x0 x1 x2 x3 = y
  rw [shapeCast_apply _ _ (ix2 (rowOf n a) (⟨64 * (4 * g.val + r.val) + d.val, by omega⟩ : Fin 512))
    (ix4 (0 : Fin 1) (rowOf n a) (⟨4 * g.val + r.val, by omega⟩ : Fin 8) d) (by
    rewrite [Shape.rowMajor_val_two, Shape.rowMajor_val_four]
    show ((0 * 2048 + (128 * n.val + a.val)) * 8 + (4 * g.val + r.val)) * 64 + d.val
      = (128 * n.val + a.val) * 512 + (64 * (4 * g.val + r.val) + d.val)
    omega)]
  rw [shapeCast_apply _ _ _ (ix6 (0 : Fin 1) n a g r d) (by
    rewrite [Shape.rowMajor_val_six, Shape.rowMajor_val_four]
    show ((((0 * 16 + n.val) * 128 + a.val) * 2 + g.val) * 4 + r.val) * 64 + d.val
      = ((0 * 2048 + (128 * n.val + a.val)) * 8 + (4 * g.val + r.val)) * 64 + d.val
    omega)]
  exact transpose_apply _ _ _ _ _ (fun b => match b with
    | ⟨0, _⟩ => rfl | ⟨1, _⟩ => rfl | ⟨2, _⟩ => rfl | ⟨3, _⟩ => rfl | ⟨4, _⟩ => rfl | ⟨5, _⟩ => rfl)

/-- A window's cotangent put back: the own block's half, and the half the block after holds. -/
def unwin (T : Fin 16 → Fin 256 → EReal) (n : Fin 16) (j : Fin 128) : EReal :=
  T n ⟨128 + j.val, by omega⟩ + (if h : n.val + 1 < 16 then T ⟨n.val + 1, h⟩ ⟨j.val, by omega⟩ else 0)

theorem put_back (y : FVec Ideal S1x16x256x2x64 .f32) (n : Fin 16) (j : Fin 128) (g : Fin 2) (d : Fin 64) :
    shapeCast S2048x128 (shapeCast S1x2048x2x64 (addf (F := Ideal) (φ := .f32)
      (extractStridedSlice S1x16x128x2x64 ![0, 0, 128, 0, 0] y slices_S1x16x256x2x64_S1x16x128x2x64_0_0_128_0_0)
      (pad S1x16x128x2x64 ![0, 0, 0, 0, 0] ![0, 1, 0, 0, 0] ![0, 0, 0, 0, 0]
        (extractStridedSlice S1x15x128x2x64 ![0, 1, 0, 0, 0]
          (extractStridedSlice S1x16x128x2x64 ![0, 0, 0, 0, 0] y slices_S1x16x256x2x64_S1x16x128x2x64_0_0_0_0_0)
          slices_S1x16x128x2x64_S1x15x128x2x64_0_1_0_0_0)
        (constant S_ .f32 0x00000000#32) pads_S1x15x128x2x64_S1x16x128x2x64_000_010_000_000_000 h_S_))
      shapeCasts_S1x16x128x2x64_S1x2048x2x64) shapeCasts_S1x2048x2x64_S2048x128
      (ix2 (rowOf n j) (⟨64 * g.val + d.val, by omega⟩ : Fin 128))
      = unwin (fun n c => y (ix5 (0 : Fin 1) n c g d)) n j := by
  rw [shapeCast_apply _ _ (ix2 (rowOf n j) (⟨64 * g.val + d.val, by omega⟩ : Fin 128)) (ix4 (0 : Fin 1) (rowOf n j) g d) (by
    rewrite [Shape.rowMajor_val_two, Shape.rowMajor_val_four]
    show ((0 * 2048 + (128 * n.val + j.val)) * 2 + g.val) * 64 + d.val = (128 * n.val + j.val) * 128 + (64 * g.val + d.val)
    omega)]
  rw [shapeCast_apply _ _ _ (ix5 (0 : Fin 1) n j g d) (by
    rewrite [Shape.rowMajor_val_five, Shape.rowMajor_val_four]
    show (((0 * 16 + n.val) * 128 + j.val) * 2 + g.val) * 64 + d.val = ((0 * 2048 + (128 * n.val + j.val)) * 2 + g.val) * 64 + d.val
    omega)]
  rw [addf_apply]
  unfold unwin
  refine congrArg₂ (fun x y : EReal => x + y) ?_ ?_
  · exact extractStridedSlice_apply _ _ _ _ _ (fun b => match b with
      | ⟨0, _⟩ => rfl | ⟨1, _⟩ => (Nat.zero_add _).symm | ⟨2, _⟩ => rfl | ⟨3, _⟩ => (Nat.zero_add _).symm | ⟨4, _⟩ => (Nat.zero_add _).symm)
  · by_cases h : n.val + 1 < 16
    · rw [dif_pos h]
      rw [pad_apply_of_inside _ _ _ _ _ _ _ _ (ix5 (0 : Fin 1) (⟨n.val, by omega⟩ : Fin 15) j g d) (fun b => match b with
        | ⟨0, _⟩ => rfl
        | ⟨1, _⟩ => by show n.val = 0 + n.val * (0 + 1); omega
        | ⟨2, _⟩ => by show j.val = 0 + j.val * (0 + 1); omega
        | ⟨3, _⟩ => by show g.val = 0 + g.val * (0 + 1); omega
        | ⟨4, _⟩ => by show d.val = 0 + d.val * (0 + 1); omega)]
      rw [extractStridedSlice_apply _ _ _ _ (ix5 (0 : Fin 1) (⟨n.val + 1, h⟩ : Fin 16) j g d) (fun b => match b with
        | ⟨0, _⟩ => rfl | ⟨1, _⟩ => Nat.add_comm _ _ | ⟨2, _⟩ => (Nat.zero_add _).symm | ⟨3, _⟩ => (Nat.zero_add _).symm | ⟨4, _⟩ => (Nat.zero_add _).symm)]
      exact extractStridedSlice_apply _ _ _ _ _ (fun b => match b with
        | ⟨0, _⟩ => rfl | ⟨1, _⟩ => (Nat.zero_add _).symm | ⟨2, _⟩ => (Nat.zero_add _).symm | ⟨3, _⟩ => (Nat.zero_add _).symm | ⟨4, _⟩ => (Nat.zero_add _).symm)
    · rw [dif_neg h]
      refine (pad_apply_of_not_inside _ _ _ _ _ _ _ _ (1 : Fin 5) ?_).trans zero_word
      show ¬(0 ≤ n.val ∧ (n.val - 0) % (0 + 1) = 0 ∧ (n.val - 0) / (0 + 1) < 15)
      omega

theorem unwin_congr {S T : Fin 16 → Fin 256 → EReal} (h : ∀ n c, S n c = T n c) (n : Fin 16) (j : Fin 128) : unwin S n j = unwin T n j := by
  rw [show S = T from funext fun n => funext fun c => h n c]

/-- The second result, the keys' cotangent. -/
theorem ref_dk (x0 : A0) (x1 : A1) (x2 : A2) (x3 : A3) (n : Fin 16) (j : Fin 128) (g : Fin 2) (d : Fin 64) :
    r_v143 x0 x1 x2 x3 (ix2 (rowOf n j) (⟨64 * g.val + d.val, by omega⟩ : Fin 128))
      = unwin (fun n c => ∑ a : Fin 128, ∑ r : Fin 4, refD x0 x1 x2 x3 n g r a c * qAt x0 n g r a d) n j := by
  have e : ∀ (n : Fin 16) (c : Fin 256), r_v126 x0 x1 x2 x3 (ix5 (0 : Fin 1) n c g d)
      = ∑ a : Fin 128, ∑ r : Fin 4, refD x0 x1 x2 x3 n g r a c * qAt x0 n g r a d := fun n c => by
    have e1 : r_v125 x0 x1 x2 x3 (ix5 (0 : Fin 1) n g c d) = ∑ a : Fin 128, ∑ r : Fin 4, refD x0 x1 x2 x3 n g r a c * qAt x0 n g r a d := by
      unfold r_v125
      rw [dot_dk]
      exact Finset.sum_congr rfl fun a _ => Finset.sum_congr rfl fun r _ => by rw [ref_v122, ref_v11]
    rw [← e1]
    unfold r_v126
    generalize r_v125 x0 x1 x2 x3 = y
    exact transpose_apply _ _ _ _ _ (fun b => match b with
      | ⟨0, _⟩ => rfl | ⟨1, _⟩ => rfl | ⟨2, _⟩ => rfl | ⟨3, _⟩ => rfl | ⟨4, _⟩ => rfl)
  unfold r_v143 r_v140 r_v139 r_v135 r_v138 r_v137 r_v134 r_cst_26
  exact (put_back (r_v126 x0 x1 x2 x3) n j g d).trans (unwin_congr e n j)

/-- The third result, the values' cotangent. -/
theorem ref_dv (x0 : A0) (x2 : A2) (x3 : A3) (n : Fin 16) (j : Fin 128) (g : Fin 2) (d : Fin 64) :
    r_v144 x0 x2 x3 (ix2 (rowOf n j) (⟨64 * g.val + d.val, by omega⟩ : Fin 128))
      = unwin (fun n c => ∑ r : Fin 4, ∑ a : Fin 128, oAt x3 n g r a d * refP x0 x2 n g r a c) n j := by
  have e : ∀ (n : Fin 16) (c : Fin 256), r_v99 x0 x2 x3 (ix5 (0 : Fin 1) n c g d)
      = ∑ r : Fin 4, ∑ a : Fin 128, oAt x3 n g r a d * refP x0 x2 n g r a c := fun n c => by
    have e1 : r_v98 x0 x2 x3 (ix5 (0 : Fin 1) n g d c) = ∑ r : Fin 4, ∑ a : Fin 128, oAt x3 n g r a d * refP x0 x2 n g r a c := by
      unfold r_v98
      rw [dot_dv]
      exact Finset.sum_congr rfl fun r _ => Finset.sum_congr rfl fun a _ => by rw [ref_v96, ref_v91]; rfl
    rw [← e1]
    unfold r_v99
    generalize r_v98 x0 x2 x3 = y
    exact transpose_apply _ _ _ _ _ (fun b => match b with
      | ⟨0, _⟩ => rfl | ⟨1, _⟩ => rfl | ⟨2, _⟩ => rfl | ⟨3, _⟩ => rfl | ⟨4, _⟩ => rfl)
  unfold r_v144 r_v133 r_v132 r_v128 r_v131 r_v130 r_v127 r_cst_25
  exact (put_back (r_v99 x0 x2 x3) n j g d).trans (unwin_congr e n j)

theorem all_drop (i : S1x16x2x4x128x1.Idx) :
    reducesTo_S1x16x2x4x128x1_S2x4_d0_1_4_5.drop i = ix2 (i 2 : Fin 2) (i 3 : Fin 4) := by
  funext b
  match b with
  | ⟨0, _⟩ => rfl
  | ⟨1, _⟩ => rfl

/-- The sum over blocks and rows. -/
theorem all_sum (y : FVec Ideal S1x16x2x4x128x1 .f32) (g : Fin 2) (r : Fin 4) :
    Host.reduceAdd (F := Ideal) y (constant S_ .f32 0x00000000#32) reducesTo_S1x16x2x4x128x1_S2x4_d0_1_4_5 h_S_ (ix2 g r)
      = ∑ n : Fin 16, ∑ a : Fin 128, y (ix6 (0 : Fin 1) n g r a (0 : Fin 1)) := by
  rw [hostReduceAdd_apply]
  unfold Ideal.hostReduceAdd
  refine (congrArg₂ (fun x y : EReal => x + y) zero_word rfl).trans ((zero_add _).trans ?_)
  rw [← Finset.sum_product']
  refine Finset.sum_nbij' (fun i => ((i 1 : Fin 16), (i 4 : Fin 128))) (fun p => ix6 (0 : Fin 1) p.1 g r p.2 (0 : Fin 1)) ?_ ?_ ?_ ?_ ?_
  · intro i _
    exact Finset.mem_product.mpr ⟨Finset.mem_univ _, Finset.mem_univ _⟩
  · intro p _
    rw [Finset.mem_filter, all_drop]
    exact ⟨Finset.mem_univ _, rfl⟩
  · intro i hi
    rw [Finset.mem_filter, all_drop] at hi
    have h2 : i 2 = g := congrFun hi.2 (0 : Fin 2)
    have h3 : i 3 = r := congrFun hi.2 (1 : Fin 2)
    have e0 : i 0 = (0 : Fin 1) := Subsingleton.elim (α := Fin 1) _ _
    have e5 : i 5 = (0 : Fin 1) := Subsingleton.elim (α := Fin 1) _ _
    show ix6 (0 : Fin 1) (i 1 : Fin 16) g r (i 4 : Fin 128) (0 : Fin 1) = i
    conv_rhs => rw [eq_ix6 i, h2, h3, e0, e5]
    rfl
  · intro p _
    rfl
  · intro i hi
    rw [Finset.mem_filter, all_drop] at hi
    have h2 : i 2 = g := congrFun hi.2 (0 : Fin 2)
    have h3 : i 3 = r := congrFun hi.2 (1 : Fin 2)
    have e0 : i 0 = (0 : Fin 1) := Subsingleton.elim (α := Fin 1) _ _
    have e5 : i 5 = (0 : Fin 1) := Subsingleton.elim (α := Fin 1) _ _
    refine congrArg y ?_
    show i = ix6 (0 : Fin 1) (i 1 : Fin 16) g r (i 4 : Fin 128) (0 : Fin 1)
    conv_lhs => rw [eq_ix6 i, h2, h3, e0, e5]
    rfl

/-- The fourth result, the sinks' cotangent, repeated along the lanes. -/
theorem ref_ds (x0 : A0) (x1 : A1) (x2 : A2) (x3 : A3) (g : Fin 2) (r : Fin 4) (l : Fin 128) :
    r_v146 x0 x1 x2 x3 (ix2 (⟨4 * g.val + r.val, by omega⟩ : Fin 8) l)
      = ∑ n : Fin 16, ∑ a : Fin 128, rD (rowX x0 x2 n g r a) (rowY x1 x3 n g r a) cl := by
  have e5 : ∀ n a, r_v115 x0 x1 x2 x3 (ix6 (0 : Fin 1) n g r a (0 : Fin 1)) = rD (rowX x0 x2 n g r a) (rowY x1 x3 n g r a) cl := fun n a => by
    rw [← ref_v113]
    unfold r_v115
    generalize r_v113 x0 x1 x2 x3 = y
    exact extractStridedSlice_apply _ _ _ _ _ (fun b => match b with
      | ⟨0, _⟩ => rfl | ⟨1, _⟩ => (Nat.zero_add _).symm | ⟨2, _⟩ => (Nat.zero_add _).symm | ⟨3, _⟩ => (Nat.zero_add _).symm
      | ⟨4, _⟩ => (Nat.zero_add _).symm | ⟨5, _⟩ => rfl)
  have e6 : r_v116 x0 x1 x2 x3 (ix2 g r) = ∑ n : Fin 16, ∑ a : Fin 128, rD (rowX x0 x2 n g r a) (rowY x1 x3 n g r a) cl := by
    unfold r_v116 r_cst_23
    exact (all_sum (r_v115 x0 x1 x2 x3) g r).trans (Finset.sum_congr rfl fun n _ => Finset.sum_congr rfl fun a _ => e5 n a)
  rw [← e6]
  unfold r_v146 r_v145 r_v118 r_v117
  generalize r_v116 x0 x1 x2 x3 = y
  rw [broadcastInDim_apply _ _ _ _ (ix2 (⟨4 * g.val + r.val, by omega⟩ : Fin 8) (0 : Fin 1)) (fun b => match b with
    | ⟨0, _⟩ => rfl | ⟨1, _⟩ => rfl)]
  rw [broadcastInDim_apply _ _ _ _ (ix1 (⟨4 * g.val + r.val, by omega⟩ : Fin 8)) (fun b => match b with
    | ⟨0, _⟩ => rfl)]
  rw [shapeCast_apply _ _ _ (ix6 (0 : Fin 1) (0 : Fin 1) g r (0 : Fin 1) (0 : Fin 1)) (by
    rewrite [Shape.rowMajor_val_one, Shape.rowMajor_val_six]
    show ((((0 * 1 + 0) * 2 + g.val) * 4 + r.val) * 1 + 0) * 1 + 0 = 4 * g.val + r.val
    omega)]
  exact broadcastInDim_apply _ _ _ _ _ (fun b => match b with
    | ⟨0, _⟩ => rfl | ⟨1, _⟩ => rfl)

end Cert.Proof.Attn

end
-- ==== Proof.Attn.EqRow.lean ====
/- The kernel's rows and the reference's: one row's data in the two layouts. -/
module

public import proofs.«01_k».proof.Proof.Attn.KArr
public import proofs.«01_k».proof.Proof.Attn.RefOut

@[expose] public section

set_option maxRecDepth 16384

noncomputable section

namespace Cert.Proof.Attn

open Cert.KernelIdeal Cert.KernelIdeal.Gen
open Idealize.ShloMosaic Idealize.ShloMosaic.ValueIdx

variable (m : (ℓ : Loc nD τ sig) → Buf (Elt Ideal) ℓ) (c : Dev nD)

/-- All four arguments are finite. -/
structure Finite : Prop where
  f0 : ∀ i, ∃ r : ℝ, g0 m c i = r
  f1 : ∀ i, ∃ r : ℝ, g1 m c i = r
  f2 : ∀ i, ∃ r : ℝ, g2 m c i = r
  f3 : ∀ i, ∃ r : ℝ, g3 m c i = r

/-- The two halves of a window's columns. -/
def wp (j : Fin 128) : Fin 256 := ⟨j.val, by omega⟩
def wo (j : Fin 128) : Fin 256 := ⟨128 + j.val, by omega⟩

theorem sum_win (f : Fin 256 → EReal) : ∑ c, f c = ∑ j, f (wp j) + ∑ j, f (wo j) :=
  Fin.sum_univ_add (a := 128) (b := 128) f

theorem win_own (T : Fin 2048 → EReal) (n : Fin 16) (j : Fin 128) : win T n (wo j) = T (rowOf n j) :=
  (dif_neg (show ¬ 128 + j.val < 128 by omega)).trans (congrArg (fun j => T (rowOf n j)) (Fin.ext (by show 128 + j.val - 128 = j.val; omega)))

theorem win_prev (T : Fin 2048 → EReal) (n : Fin 16) (h : n.val ≠ 0) (j : Fin 128) : win T n (wp j) = T (prevRow n j) :=
  (dif_pos (show j.val < 128 from j.isLt)).trans (dif_neg h)

theorem win_first (T : Fin 2048 → EReal) (n : Fin 16) (h : n.val = 0) (j : Fin 128) : win T n (wp j) = 0 :=
  (dif_pos (show j.val < 128 from j.isLt)).trans (dif_pos h)

theorem win_real (T : Fin 2048 → EReal) (hT : ∀ l, ∃ r : ℝ, T l = r) (n : Fin 16) (c : Fin 256) : ∃ r : ℝ, win T n c = r := by
  unfold win
  split
  · split
    · exact ⟨0, rfl⟩
    · exact hT _
  · exact hT _

theorem seen_own (n : Fin 16) (a j : Fin 128) : seen n a (wo j) ↔ j.val ≤ a.val := by
  show (128 + j.val ≤ a.val + 128 ∧ a.val < 128 + j.val ∧ 128 ≤ 128 * n.val + (128 + j.val)) ↔ _
  omega

theorem seen_prev (n : Fin 16) (a j : Fin 128) : seen n a (wp j) ↔ (¬ j.val ≤ a.val ∧ n.val ≠ 0) := by
  show (j.val ≤ a.val + 128 ∧ a.val < j.val ∧ 128 ≤ 128 * n.val + j.val) ↔ _
  omega

theorem eighth_eq : eighth = ((1 / 8 : ℝ) : EReal) := eighth_word

theorem bx_own (n : Fin 16) (g : Fin 2) (r : Fin 4) (a j : Fin 128) (h : j.val ≤ a.val) :
    bx (blkAt m c (pt n)) g r a j = scoreR (g0 m c) n g r a (wo j) := by
  unfold bx scoreR
  rw [if_pos h, eighth_eq]
  refine congrArg (fun x : EReal => x * ((1 / 8 : ℝ) : EReal)) (Finset.sum_congr rfl fun d _ => ?_)
  rw [bq_at, kOwn_at, win_own, mul_comm]

theorem bx_prev (n : Fin 16) (g : Fin 2) (r : Fin 4) (a j : Fin 128) (h : ¬ j.val ≤ a.val) (h0 : n.val ≠ 0) :
    bx (blkAt m c (pt n)) g r a j = scoreR (g0 m c) n g r a (wp j) := by
  unfold bx scoreR
  rw [if_neg h, if_neg (by rw [point_at]; exact h0), eighth_eq]
  refine congrArg (fun x : EReal => x * ((1 / 8 : ℝ) : EReal)) (Finset.sum_congr rfl fun d _ => ?_)
  rw [bq_at, kPrev_at, win_prev _ _ h0, mul_comm]

theorem bx_first (n : Fin 16) (g : Fin 2) (r : Fin 4) (a j : Fin 128) (h : ¬ j.val ≤ a.val) (h0 : n.val = 0) :
    bx (blkAt m c (pt n)) g r a j = ⊥ := by
  unfold bx
  rw [if_neg h, if_pos (by rw [point_at]; exact h0)]

theorem rowX_in (x0 : A0) (x2 : A2) (n : Fin 16) (g : Fin 2) (r : Fin 4) (a : Fin 128) (c : Fin 256) :
    rowX x0 x2 n g r a (wc c) = if seen n a c then scoreR x0 n g r a c else ⊥ :=
  dif_pos (show (wc c).val < 256 from c.isLt)

theorem rowX_last (x0 : A0) (x2 : A2) (n : Fin 16) (g : Fin 2) (r : Fin 4) (a : Fin 128) : rowX x0 x2 n g r a cl = sinkAt x2 g r :=
  dif_neg (show ¬ 256 < 256 by omega)

theorem rowY_in (x1 : A1) (x3 : A3) (n : Fin 16) (g : Fin 2) (r : Fin 4) (a : Fin 128) (c : Fin 256) :
    rowY x1 x3 n g r a (wc c) = ∑ d : Fin 64, oAt x3 n g r a d * win (fun l => vAt x1 l g d) n c :=
  dif_pos (show (wc c).val < 256 from c.isLt)

theorem rowY_last (x1 : A1) (x3 : A3) (n : Fin 16) (g : Fin 2) (r : Fin 4) (a : Fin 128) : rowY x1 x3 n g r a cl = 0 :=
  dif_neg (show ¬ 256 < 256 by omega)

/-- A sum of products of numbers is one. -/
theorem dot_real {k : ℕ} (f h : Fin k → EReal) (hf : ∀ d, ∃ r : ℝ, f d = r) (hh : ∀ d, ∃ r : ℝ, h d = r) : ∃ r : ℝ, ∑ d, f d * h d = r := by
  choose u hu using hf
  choose v hv using hh
  refine ⟨∑ d, u d * v d, ?_⟩
  rw [← sum_coe]
  exact Finset.sum_congr rfl fun d _ => by rw [hu, hv, EReal.coe_mul]

theorem mul_real {x y : EReal} (hx : ∃ r : ℝ, x = r) (hy : ∃ r : ℝ, y = r) : ∃ r : ℝ, x * y = r := by
  obtain ⟨u, rfl⟩ := hx
  obtain ⟨v, rfl⟩ := hy
  exact ⟨u * v, (EReal.coe_mul u v).symm⟩

variable {m c}

theorem row_of (F : Finite m c) (n : Fin 16) (g : Fin 2) (r : Fin 4) (a : Fin 128) :
    RowOf (fun j : Fin 128 => j.val ≤ a.val) (bx (blkAt m c (pt n)) g r a) (by_ (blkAt m c (pt n)) g r a) (bs (blkAt m c (pt n)) g r)
      (rowX (g0 m c) (g2 m c) n g r a) (rowY (g1 m c) (g3 m c) n g r a) where
  hx j := by
    have hs (c' : Fin 256) : ∃ r' : ℝ, scoreR (g0 m c) n g r a c' = r' :=
      mul_real (dot_real _ _ (fun d => win_real _ (fun l => F.f0 _) n c') (fun d => F.f0 _)) ⟨1 / 8, eighth_eq⟩
    by_cases h : j.val ≤ a.val
    · exact .inr (by rw [bx_own m c n g r a j h]; exact hs _)
    · by_cases h0 : n.val = 0
      · exact .inl (bx_first m c n g r a j h h0)
      · exact .inr (by rw [bx_prev m c n g r a j h h0]; exact hs _)
  hy j := by
    unfold by_
    split
    · exact dot_real _ _ (fun d => by rw [bo_at]; exact F.f3 _) (fun d => by rw [vOwn_at]; exact F.f1 _)
    · exact dot_real _ _ (fun d => by rw [bo_at]; exact F.f3 _) (fun d => by rw [vPrev_at]; exact F.f1 _)
  hσ := by rw [bs_at]; exact F.f2 _
  xo j := by
    refine (rowX_in _ _ n g r a (wo j)).trans ?_
    by_cases h : j.val ≤ a.val
    · rw [if_pos ((seen_own n a j).mpr h), if_pos h, bx_own m c n g r a j h]
    · rw [if_neg (mt (seen_own n a j).mp h), if_neg h]
  xp j := by
    refine (rowX_in _ _ n g r a (wp j)).trans ?_
    by_cases h : j.val ≤ a.val
    · rw [if_neg (fun e => ((seen_prev n a j).mp e).1 h), if_pos h]
    · rw [if_neg h]
      by_cases h0 : n.val = 0
      · rw [if_neg (fun e => ((seen_prev n a j).mp e).2 h0), bx_first m c n g r a j h h0]
      · rw [if_pos ((seen_prev n a j).mpr ⟨h, h0⟩), bx_prev m c n g r a j h h0]
  xl := (rowX_last _ _ n g r a).trans (bs_at m c n g r).symm
  hY k := by
    unfold rowY
    split
    · exact dot_real _ _ (fun d => F.f3 _) (fun d => win_real _ (fun l => F.f1 _) n _)
    · exact ⟨0, rfl⟩
  yo j h := by
    refine (rowY_in _ _ n g r a (wo j)).trans ?_
    unfold by_
    rw [if_pos h]
    exact Finset.sum_congr rfl fun d _ => by rw [bo_at, vOwn_at, win_own]
  yp j h hb := by
    have h0 : n.val ≠ 0 := fun e => hb (bx_first m c n g r a j h e)
    refine (rowY_in _ _ n g r a (wp j)).trans ?_
    unfold by_
    rw [if_neg h]
    exact Finset.sum_congr rfl fun d _ => by rw [bo_at, vPrev_at, win_prev _ _ h0]
  yl := rowY_last _ _ n g r a

/-- The derivative of a score is a number, as is a weight. -/
theorem bd_real (F : Finite m c) (n : Fin 16) (g : Fin 2) (r : Fin 4) (a j : Fin 128) : ∃ t : ℝ, bd (blkAt m c (pt n)) g r a j = t := by
  obtain ⟨p, d, ds, h1, h2, h3, h4, h5, h6, h7, h8⟩ := (row_of F n g r a).agree
  exact ⟨d j, h2 j⟩

theorem refP_own (F : Finite m c) (n : Fin 16) (g : Fin 2) (r : Fin 4) (a j : Fin 128) :
    refP (g0 m c) (g2 m c) n g r a (wo j) = if j.val ≤ a.val then bp (blkAt m c (pt n)) g r a j else 0 := by
  obtain ⟨p, d, ds, h1, h2, h3, h4, h5, h6, h7, h8⟩ := (row_of F n g r a).agree
  refine (h4 j).trans ?_
  split
  · exact (h1 j).symm
  · rfl

theorem refP_prev (F : Finite m c) (n : Fin 16) (g : Fin 2) (r : Fin 4) (a j : Fin 128) :
    refP (g0 m c) (g2 m c) n g r a (wp j) = if j.val ≤ a.val then 0 else bp (blkAt m c (pt n)) g r a j := by
  obtain ⟨p, d, ds, h1, h2, h3, h4, h5, h6, h7, h8⟩ := (row_of F n g r a).agree
  refine (h5 j).trans ?_
  split
  · rfl
  · exact (h1 j).symm

theorem refD_own (F : Finite m c) (n : Fin 16) (g : Fin 2) (r : Fin 4) (a j : Fin 128) :
    refD (g0 m c) (g1 m c) (g2 m c) (g3 m c) n g r a (wo j) = (if j.val ≤ a.val then bd (blkAt m c (pt n)) g r a j else 0) * ((1 / 8 : ℝ) : EReal) := by
  obtain ⟨p, d, ds, h1, h2, h3, h4, h5, h6, h7, h8⟩ := (row_of F n g r a).agree
  unfold refD
  refine congrArg₂ (fun x y : EReal => x * y) ?_ eighth_eq
  by_cases h : j.val ≤ a.val
  · rw [if_pos ((seen_own n a j).mpr h), if_pos h]
    exact (h6 j).trans ((if_pos h).trans (h2 j).symm)
  · rw [if_neg (mt (seen_own n a j).mp h), if_neg h]

theorem refD_prev (F : Finite m c) (n : Fin 16) (g : Fin 2) (r : Fin 4) (a j : Fin 128) :
    refD (g0 m c) (g1 m c) (g2 m c) (g3 m c) n g r a (wp j) = (if j.val ≤ a.val then 0 else bd (blkAt m c (pt n)) g r a j) * ((1 / 8 : ℝ) : EReal) := by
  obtain ⟨p, d, ds, h1, h2, h3, h4, h5, h6, h7, h8⟩ := (row_of F n g r a).agree
  unfold refD
  refine congrArg₂ (fun x y : EReal => x * y) ?_ eighth_eq
  by_cases h : j.val ≤ a.val
  · rw [if_neg (fun e => ((seen_prev n a j).mp e).1 h), if_pos h]
  · rw [if_neg h]
    by_cases h0 : n.val = 0
    · rw [if_neg (fun e => ((seen_prev n a j).mp e).2 h0)]
      exact (first_d _ ((point_at m c n).trans h0) g r a j h).symm
    · rw [if_pos ((seen_prev n a j).mpr ⟨h, h0⟩)]
      exact (h7 j).trans ((if_neg h).trans (h2 j).symm)

theorem ref_sink (F : Finite m c) (n : Fin 16) (g : Fin 2) (r : Fin 4) (a : Fin 128) :
    rD (rowX (g0 m c) (g2 m c) n g r a) (rowY (g1 m c) (g3 m c) n g r a) cl = bds (blkAt m c (pt n)) g r a := by
  obtain ⟨p, d, ds, h1, h2, h3, h4, h5, h6, h7, h8⟩ := (row_of F n g r a).agree
  exact h8.trans h3.symm

end Cert.Proof.Attn
-- ==== Proof.Attn.EqOut.lean ====
/- The kernel's four results are the reference's, at finite arguments. -/
module

public import proofs.«01_k».proof.Proof.Attn.EqRow

@[expose] public section

set_option maxRecDepth 16384

noncomputable section

namespace Cert.Proof.Attn

open Cert.KernelIdeal Cert.KernelIdeal.Gen
open Idealize.ShloMosaic Idealize.ShloMosaic.ValueIdx

variable {m : (ℓ : Loc nD τ sig) → Buf (Elt Ideal) ℓ} {c : Dev nD}

/-- The scale taken out of two sums of products of numbers. -/
theorem scale_two {p q : ℕ} (u v : Fin p → EReal) (u' v' : Fin q → EReal) (hu : ∀ j, ∃ r : ℝ, u j = r) (hv : ∀ j, ∃ r : ℝ, v j = r)
    (hu' : ∀ j, ∃ r : ℝ, u' j = r) (hv' : ∀ j, ∃ r : ℝ, v' j = r) (e : ℝ) :
    (∑ j, u j * v j + ∑ j, u' j * v' j) * (e : EReal) = ∑ j, u' j * (e : EReal) * v' j + ∑ j, u j * (e : EReal) * v j := by
  choose a ha using hu
  choose b hb using hv
  choose a' ha' using hu'
  choose b' hb' using hv'
  have s1 : ∑ j, u j * v j = ((∑ j, a j * b j : ℝ) : EReal) := by
    rw [← sum_coe]; exact Finset.sum_congr rfl fun j _ => by rw [ha, hb, EReal.coe_mul]
  have s2 : ∑ j, u' j * v' j = ((∑ j, a' j * b' j : ℝ) : EReal) := by
    rw [← sum_coe]; exact Finset.sum_congr rfl fun j _ => by rw [ha', hb', EReal.coe_mul]
  have s3 : ∑ j, u j * (e : EReal) * v j = ((∑ j, a j * e * b j : ℝ) : EReal) := by
    rw [← sum_coe]; exact Finset.sum_congr rfl fun j _ => by rw [ha, hb, EReal.coe_mul, EReal.coe_mul]
  have s4 : ∑ j, u' j * (e : EReal) * v' j = ((∑ j, a' j * e * b' j : ℝ) : EReal) := by
    rw [← sum_coe]; exact Finset.sum_congr rfl fun j _ => by rw [ha', hb', EReal.coe_mul, EReal.coe_mul]
  rw [s1, s2, s3, s4, ← EReal.coe_add, ← EReal.coe_add, ← EReal.coe_mul]
  refine congrArg _ ?_
  rw [add_mul, Finset.sum_mul, Finset.sum_mul, add_comm]
  exact congrArg₂ (fun x y : ℝ => x + y) (Finset.sum_congr rfl fun j _ => by ring) (Finset.sum_congr rfl fun j _ => by ring)

/-- The scale taken into a double sum of products of numbers, the sums exchanged. -/
theorem scale_swap {p q : ℕ} (u v : Fin p → Fin q → EReal) (hu : ∀ r a, ∃ t : ℝ, u r a = t) (hv : ∀ r a, ∃ t : ℝ, v r a = t) (e : ℝ) :
    (∑ r, ∑ a, u r a * v r a) * (e : EReal) = ∑ a, ∑ r, u r a * (e : EReal) * v r a := by
  choose x hx using hu
  choose y hy using hv
  have s1 : ∑ r, ∑ a, u r a * v r a = ((∑ r, ∑ a, x r a * y r a : ℝ) : EReal) := by
    rw [← sum_coe]
    refine Finset.sum_congr rfl fun r _ => ?_
    rw [← sum_coe]
    exact Finset.sum_congr rfl fun a _ => by rw [hx, hy, EReal.coe_mul]
  have s2 : ∑ a, ∑ r, u r a * (e : EReal) * v r a = ((∑ a, ∑ r, x r a * e * y r a : ℝ) : EReal) := by
    rw [← sum_coe]
    refine Finset.sum_congr rfl fun a _ => ?_
    rw [← sum_coe]
    exact Finset.sum_congr rfl fun r _ => by rw [hx, hy, EReal.coe_mul, EReal.coe_mul]
  rw [s1, s2, ← EReal.coe_mul]
  refine congrArg _ ?_
  rw [Finset.sum_comm, Finset.sum_mul]
  refine Finset.sum_congr rfl fun a _ => ?_
  rw [Finset.sum_mul]
  exact Finset.sum_congr rfl fun r _ => by ring

theorem part_real {P : Prop} [Decidable P] {x : EReal} (h : ∃ r : ℝ, x = r) : ∃ r : ℝ, (if P then x else 0) = r := by
  split
  · exact h
  · exact ⟨0, rfl⟩

theorem part_real' {P : Prop} [Decidable P] {x : EReal} (h : ∃ r : ℝ, x = r) : ∃ r : ℝ, (if P then 0 else x) = r := by
  split
  · exact ⟨0, rfl⟩
  · exact h

theorem dq_eq (F : Finite m c) (n : Fin 16) (a : Fin 128) (g : Fin 2) (r : Fin 4) (d : Fin 64) :
    dqRows (blkAt m c (pt n)) (ix2 a (hcol g r d))
      = ∑ c' : Fin 256, refD (g0 m c) (g1 m c) (g2 m c) (g3 m c) n g r a c' * win (fun l => kAt (g0 m c) l g d) n c' := by
  rw [dqRows_at, sum_win]
  refine (scale_two _ _ _ _ (fun j => part_real (bd_real F n g r a j)) (fun j => by rw [kOwn_at]; exact F.f0 _)
    (fun j => part_real' (bd_real F n g r a j)) (fun j => by rw [kPrev_at]; exact F.f0 _) (1 / 8)).trans ?_
  refine congrArg₂ (fun x y : EReal => x + y) (Finset.sum_congr rfl fun j _ => ?_) (Finset.sum_congr rfl fun j _ => ?_)
  · rw [refD_prev F, kPrev_at]
    by_cases h0 : n.val = 0
    · have z : (if j.val ≤ a.val then 0 else bd (blkAt m c (pt n)) g r a j) = 0 := by
        split
        · rfl
        · rename_i h
          exact first_d _ ((point_at m c n).trans h0) g r a j h
      rw [z, zero_mul, zero_mul, zero_mul]
    · rw [win_prev _ _ h0]
  · rw [refD_own F, kOwn_at, win_own]

theorem kO_eq (F : Finite m c) (n : Fin 16) (g : Fin 2) (d : Fin 64) (j : Fin 128) :
    kO (blkAt m c (pt n)) g d j
      = ∑ a : Fin 128, ∑ r : Fin 4, refD (g0 m c) (g1 m c) (g2 m c) (g3 m c) n g r a (wo j) * qAt (g0 m c) n g r a d := by
  unfold kO
  refine (scale_swap _ _ (fun r a => part_real (bd_real F n g r a j)) (fun r a => by rw [bq_at]; exact F.f0 _) (1 / 8)).trans ?_
  exact Finset.sum_congr rfl fun a _ => Finset.sum_congr rfl fun r _ => by rw [refD_own F, bq_at]

theorem kP_eq (F : Finite m c) (n : Fin 16) (g : Fin 2) (d : Fin 64) (j : Fin 128) :
    kP' (blkAt m c (pt n)) g d j
      = ∑ a : Fin 128, ∑ r : Fin 4, refD (g0 m c) (g1 m c) (g2 m c) (g3 m c) n g r a (wp j) * qAt (g0 m c) n g r a d := by
  unfold kP'
  refine (scale_swap _ _ (fun r a => part_real' (bd_real F n g r a j)) (fun r a => by rw [bq_at]; exact F.f0 _) (1 / 8)).trans ?_
  exact Finset.sum_congr rfl fun a _ => Finset.sum_congr rfl fun r _ => by rw [refD_prev F, bq_at]

theorem vO_eq (F : Finite m c) (n : Fin 16) (g : Fin 2) (d : Fin 64) (j : Fin 128) :
    vO (blkAt m c (pt n)) g d j = ∑ r : Fin 4, ∑ a : Fin 128, oAt (g3 m c) n g r a d * refP (g0 m c) (g2 m c) n g r a (wo j) := by
  unfold vO
  exact Finset.sum_congr rfl fun r _ => Finset.sum_congr rfl fun a _ => by rw [refP_own F, bo_at, mul_comm]

theorem vP_eq (F : Finite m c) (n : Fin 16) (g : Fin 2) (d : Fin 64) (j : Fin 128) :
    vP (blkAt m c (pt n)) g d j = ∑ r : Fin 4, ∑ a : Fin 128, oAt (g3 m c) n g r a d * refP (g0 m c) (g2 m c) n g r a (wp j) := by
  unfold vP
  exact Finset.sum_congr rfl fun r _ => Finset.sum_congr rfl fun a _ => by rw [refP_prev F, bo_at, mul_comm]

theorem hcol_surj (k : Fin 512) : ∃ (g : Fin 2) (r : Fin 4) (d : Fin 64), k = hcol g r d :=
  ⟨⟨k.val / 256, by omega⟩, ⟨k.val / 64 % 4, by omega⟩, ⟨k.val % 64, by omega⟩,
    Fin.ext (by show k.val = 64 * (4 * (k.val / 256) + k.val / 64 % 4) + k.val % 64; omega)⟩

theorem gcol_surj (k : Fin 128) : ∃ (g : Fin 2) (d : Fin 64), k = gcol g d :=
  ⟨⟨k.val / 64, by omega⟩, ⟨k.val % 64, by omega⟩, Fin.ext (by show k.val = 64 * (k.val / 64) + k.val % 64; omega)⟩

theorem hrow_surj (k : Fin 8) : ∃ (g : Fin 2) (r : Fin 4), k = ⟨4 * g.val + r.val, by omega⟩ :=
  ⟨⟨k.val / 4, by omega⟩, ⟨k.val % 4, by omega⟩, Fin.ext (by show k.val = 4 * (k.val / 4) + k.val % 4; omega)⟩

theorem row_surj (l : Fin 2048) : ∃ (n : Fin 16) (j : Fin 128), l = rowOf n j := ⟨_, _, row_eta l⟩

/-- The queries' derivative. -/
theorem out_q (F : Finite m c) : (dats m 0 c).arrAt 5 cfg0.N = r_v142 (g0 m c) (g1 m c) (g2 m c) (g3 m c) :=
  arr_5 m c _ fun n a k => by
    obtain ⟨g, r, d, rfl⟩ := hcol_surj k
    exact (dq_eq F n a g r d).trans (ref_dq (g0 m c) (g1 m c) (g2 m c) (g3 m c) n a g r d).symm

/-- The keys' derivative. -/
theorem out_k (F : Finite m c) : (dats m 0 c).arrAt 6 cfg0.N = r_v143 (g0 m c) (g1 m c) (g2 m c) (g3 m c) := by
  refine (arr_6 m c).trans (funext fun (y : S2048x128.Idx) => ?_)
  rw [eta2 y]
  obtain ⟨n, j, e⟩ := row_surj (y 0)
  obtain ⟨g, d, e'⟩ := gcol_surj (y 1)
  rw [e, e']
  refine (accK_at m c n j g d).trans (Eq.trans ?_ (ref_dk (g0 m c) (g1 m c) (g2 m c) (g3 m c) n j g d).symm)
  unfold unwin
  refine congrArg₂ (fun x y : EReal => x + y) (kO_eq F n g d j) ?_
  by_cases h : n.val + 1 < 16
  · rw [dif_pos h, dif_pos h]; exact kP_eq F _ g d j
  · rw [dif_neg h, dif_neg h]

/-- The values' derivative. -/
theorem out_v (F : Finite m c) : (dats m 0 c).arrAt 7 cfg0.N = r_v144 (g0 m c) (g2 m c) (g3 m c) := by
  refine (arr_7 m c).trans (funext fun (y : S2048x128.Idx) => ?_)
  rw [eta2 y]
  obtain ⟨n, j, e⟩ := row_surj (y 0)
  obtain ⟨g, d, e'⟩ := gcol_surj (y 1)
  rw [e, e']
  refine (accV_at m c n j g d).trans (Eq.trans ?_ (ref_dv (g0 m c) (g2 m c) (g3 m c) n j g d).symm)
  unfold unwin
  refine congrArg₂ (fun x y : EReal => x + y) (vO_eq F n g d j) ?_
  by_cases h : n.val + 1 < 16
  · rw [dif_pos h, dif_pos h]; exact vP_eq F _ g d j
  · rw [dif_neg h, dif_neg h]

/-- The sinks' derivative. -/
theorem out_s (F : Finite m c) : (dats m 0 c).arrAt 8 cfg0.N = r_v146 (g0 m c) (g1 m c) (g2 m c) (g3 m c) := by
  refine (arr_8 m c).trans (funext fun (y : S8x128.Idx) => ?_)
  rw [eta2 y]
  obtain ⟨g, r, e⟩ := hrow_surj (y 0)
  rw [e]
  refine (accS_at m c g r (y 1)).trans (Eq.trans ?_ (ref_ds (g0 m c) (g1 m c) (g2 m c) (g3 m c) g r (y 1)).symm)
  exact Finset.sum_congr rfl fun n _ => Finset.sum_congr rfl fun a _ => (ref_sink F n g r a).symm

end Cert.Proof.Attn
-- ==== Proof.Attn.Pre.lean ====
/- The precondition read: every entry of every argument is a number. -/
module

public import proofs.«01_k».proof.Proof.Attn.EqRow
public import proofs.«01_k».proof.Defs
public import proofs.«01_k».proof.Proof.Gen.Pre_finite
public import Idealize.ShloMosaic.Lib.ReduceAll

@[expose] public section

set_option maxRecDepth 16384

noncomputable section

namespace Cert.Proof.Attn

open Cert.KernelIdeal Cert.KernelIdeal.Gen
open Idealize.ShloMosaic Idealize.ShloMosaic.ValueIdx

/-- An entry whose magnitude is below infinity is a number. -/
theorem real_of_lt (x : EReal) (h : Ideal.cmp .olt (max x (-x)) (Ideal.ofBits .f32 0x7F800000#32) = 1#1) : ∃ r : ℝ, x = r := by
  induction x using EReal.rec with
  | bot => simp [Ideal.cmp, Ideal.ofBits, Ideal.ieee] at h
  | top => simp [Ideal.cmp, Ideal.ofBits, Ideal.ieee] at h
  | coe r => exact ⟨r, rfl⟩

theorem both {a b : BitVec 1} (h : IntOp.andi a b = 1#1) : a = 1#1 ∧ b = 1#1 := IntOp.andi_eq_one.1 h

instance : Subsingleton Cert.Pre_finite.S_.Idx := ⟨fun _ _ => funext fun b => b.elim0⟩

variable (m : (ℓ : Loc nD τ sig) → Buf (Elt Ideal) ℓ)

theorem finite_of (h : Cert.Pre_KernelIdeal_finite m) (c : Dev nD) : Finite m c := by
  have e := congrFun (h c) (Shape.Idx.first Cert.Pre_finite.Facts.h_S_)
  unfold Cert.Pre_finite.fn Cert.Pre_finite.fn_part1 at e
  obtain ⟨e012, e3⟩ := both e
  obtain ⟨e01, e2⟩ := both e012
  obtain ⟨e0, e1⟩ := both e01
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i)⟩

end Cert.Proof.Attn
-- ==== Proof.Attn.RefRun.lean ====
/- The terms the reference's run states are the stages. -/
module

public import proofs.«01_k».proof.Proof.Attn.RefOps
public import proofs.«01_k».proof.Proof.Gen.ReferenceIdeal.Run

@[expose] public section

set_option maxRecDepth 16384

noncomputable section

namespace Cert.Proof.Attn

open Cert.ReferenceIdeal Cert.ReferenceIdeal.Gen
open Idealize.ShloMosaic Idealize.ShloMosaic.ValueIdx

theorem e_v11 (V0 : Valuation τ sig (Elt Ideal)) : Cert.ReferenceIdeal.Value.res_main_v11 V0 = r_v11 (V0 (Proc.devRef .tc main_arg0)) := by
  unfold Cert.ReferenceIdeal.Value.res_main_v11
  rfl

theorem e_v12 (V0 : Valuation τ sig (Elt Ideal)) : Cert.ReferenceIdeal.Value.res_main_v12 V0 = r_v12 (V0 (Proc.devRef .tc main_arg0)) := by
  unfold Cert.ReferenceIdeal.Value.res_main_v12
  rfl

theorem e_v17 (V0 : Valuation τ sig (Elt Ideal)) : Cert.ReferenceIdeal.Value.res_main_v17 V0 = r_v17 (V0 (Proc.devRef .tc main_arg0)) := by
  unfold Cert.ReferenceIdeal.Value.res_main_v17
  rw [e_v12 V0]
  rfl

theorem e_v18 (V0 : Valuation τ sig (Elt Ideal)) : Cert.ReferenceIdeal.Value.res_main_v18 V0 = r_v18 (V0 (Proc.devRef .tc main_arg1)) := by
  unfold Cert.ReferenceIdeal.Value.res_main_v18
  rfl

theorem e_v23 (V0 : Valuation τ sig (Elt Ideal)) : Cert.ReferenceIdeal.Value.res_main_v23 V0 = r_v23 (V0 (Proc.devRef .tc main_arg1)) := by
  unfold Cert.ReferenceIdeal.Value.res_main_v23
  rw [e_v18 V0]
  rfl

theorem e_v31 (V0 : Valuation τ sig (Elt Ideal)) : Cert.ReferenceIdeal.Value.res_main_v31 V0 = r_v31 := by
  unfold Cert.ReferenceIdeal.Value.res_main_v31
  rfl

theorem e_v36 (V0 : Valuation τ sig (Elt Ideal)) : Cert.ReferenceIdeal.Value.res_main_v36 V0 = r_v36 := by
  unfold Cert.ReferenceIdeal.Value.res_main_v36
  rw [e_v31 V0]
  rfl

theorem e_v59_1 (V0 : Valuation τ sig (Elt Ideal)) : Cert.ReferenceIdeal.Value.res_main_v59_1 V0 = r_v59_1 := by
  unfold Cert.ReferenceIdeal.Value.res_main_v59_1
  rw [e_v31 V0]
  rw [e_v36 V0]
  rfl

theorem e_v62 (V0 : Valuation τ sig (Elt Ideal)) : Cert.ReferenceIdeal.Value.res_main_v62 V0 = r_v62 (V0 (Proc.devRef .tc main_arg0)) (V0 (Proc.devRef .tc main_arg2)) := by
  unfold Cert.ReferenceIdeal.Value.res_main_v62
  rw [e_v11 V0]
  rw [e_v17 V0]
  rw [e_v59_1 V0]
  rfl

theorem e_v63 (V0 : Valuation τ sig (Elt Ideal)) : Cert.ReferenceIdeal.Value.res_main_v63 V0 = r_v63 (V0 (Proc.devRef .tc main_arg0)) (V0 (Proc.devRef .tc main_arg2)) := by
  unfold Cert.ReferenceIdeal.Value.res_main_v63
  rw [e_v62 V0]
  rfl

theorem e_v83 (V0 : Valuation τ sig (Elt Ideal)) : Cert.ReferenceIdeal.Value.res_main_v83 V0 = r_v83 (V0 (Proc.devRef .tc main_arg0)) (V0 (Proc.devRef .tc main_arg2)) := by
  unfold Cert.ReferenceIdeal.Value.res_main_v83
  rw [e_v62 V0]
  rw [e_v63 V0]
  rfl

theorem e_v85 (V0 : Valuation τ sig (Elt Ideal)) : Cert.ReferenceIdeal.Value.res_main_v85 V0 = r_v85 (V0 (Proc.devRef .tc main_arg0)) (V0 (Proc.devRef .tc main_arg2)) := by
  unfold Cert.ReferenceIdeal.Value.res_main_v85
  rw [e_v83 V0]
  rfl

theorem e_v91 (V0 : Valuation τ sig (Elt Ideal)) : Cert.ReferenceIdeal.Value.res_main_v91 V0 = r_v91 (V0 (Proc.devRef .tc main_arg0)) (V0 (Proc.devRef .tc main_arg2)) := by
  unfold Cert.ReferenceIdeal.Value.res_main_v91
  rw [e_v83 V0]
  rw [e_v85 V0]
  rfl

theorem e_v96 (V0 : Valuation τ sig (Elt Ideal)) : Cert.ReferenceIdeal.Value.res_main_v96 V0 = r_v96 (V0 (Proc.devRef .tc main_arg3)) := by
  unfold Cert.ReferenceIdeal.Value.res_main_v96
  rfl

theorem e_v99 (V0 : Valuation τ sig (Elt Ideal)) : Cert.ReferenceIdeal.Value.res_main_v99 V0 = r_v99 (V0 (Proc.devRef .tc main_arg0)) (V0 (Proc.devRef .tc main_arg2)) (V0 (Proc.devRef .tc main_arg3)) := by
  unfold Cert.ReferenceIdeal.Value.res_main_v99
  rw [e_v91 V0]
  rw [e_v96 V0]
  rfl

theorem e_v100 (V0 : Valuation τ sig (Elt Ideal)) : Cert.ReferenceIdeal.Value.res_main_v100 V0 = r_v100 (V0 (Proc.devRef .tc main_arg1)) (V0 (Proc.devRef .tc main_arg3)) := by
  unfold Cert.ReferenceIdeal.Value.res_main_v100
  rw [e_v23 V0]
  rw [e_v96 V0]
  rfl

theorem e_v113 (V0 : Valuation τ sig (Elt Ideal)) : Cert.ReferenceIdeal.Value.res_main_v113 V0 = r_v113 (V0 (Proc.devRef .tc main_arg0)) (V0 (Proc.devRef .tc main_arg1)) (V0 (Proc.devRef .tc main_arg2)) (V0 (Proc.devRef .tc main_arg3)) := by
  unfold Cert.ReferenceIdeal.Value.res_main_v113
  rw [e_v83 V0]
  rw [e_v85 V0]
  rw [e_v100 V0]
  rfl

theorem e_v122 (V0 : Valuation τ sig (Elt Ideal)) : Cert.ReferenceIdeal.Value.res_main_v122 V0 = r_v122 (V0 (Proc.devRef .tc main_arg0)) (V0 (Proc.devRef .tc main_arg1)) (V0 (Proc.devRef .tc main_arg2)) (V0 (Proc.devRef .tc main_arg3)) := by
  unfold Cert.ReferenceIdeal.Value.res_main_v122
  rw [e_v59_1 V0]
  rw [e_v113 V0]
  rfl

theorem e_v126 (V0 : Valuation τ sig (Elt Ideal)) : Cert.ReferenceIdeal.Value.res_main_v126 V0 = r_v126 (V0 (Proc.devRef .tc main_arg0)) (V0 (Proc.devRef .tc main_arg1)) (V0 (Proc.devRef .tc main_arg2)) (V0 (Proc.devRef .tc main_arg3)) := by
  unfold Cert.ReferenceIdeal.Value.res_main_v126
  rw [e_v11 V0]
  rw [e_v122 V0]
  rfl

theorem e_v127 (V0 : Valuation τ sig (Elt Ideal)) : Cert.ReferenceIdeal.Value.res_main_v127 V0 = r_v127 (V0 (Proc.devRef .tc main_arg0)) (V0 (Proc.devRef .tc main_arg2)) (V0 (Proc.devRef .tc main_arg3)) := by
  unfold Cert.ReferenceIdeal.Value.res_main_v127
  rw [e_v99 V0]
  rfl

theorem e_v134 (V0 : Valuation τ sig (Elt Ideal)) : Cert.ReferenceIdeal.Value.res_main_v134 V0 = r_v134 (V0 (Proc.devRef .tc main_arg0)) (V0 (Proc.devRef .tc main_arg1)) (V0 (Proc.devRef .tc main_arg2)) (V0 (Proc.devRef .tc main_arg3)) := by
  unfold Cert.ReferenceIdeal.Value.res_main_v134
  rw [e_v126 V0]
  rfl

theorem e_v142 (V0 : Valuation τ sig (Elt Ideal)) :
    shapeCast _ (shapeCast _ (transpose S1x16x128x2x4x64 [0, 1, 3, 2, 4, 5] (Host.dotGeneral (φ₁ := .f32) (φ₂ := .f32) dot_S1x16x2x256x128x4_S1x16x256x2x64_S1x16x2x128x4x64_3_2_45_4_012_013 none (Cert.ReferenceIdeal.Value.res_main_v122 V0) (Cert.ReferenceIdeal.Value.res_main_v17 V0)) transposes_S1x16x2x128x4x64_S1x16x128x2x4x64_0_1_3_2_4_5) shapeCasts_S1x16x128x2x4x64_S1x2048x8x64) shapeCasts_S1x2048x8x64_S2048x512
      = r_v142 (V0 (Proc.devRef .tc main_arg0)) (V0 (Proc.devRef .tc main_arg1)) (V0 (Proc.devRef .tc main_arg2)) (V0 (Proc.devRef .tc main_arg3)) := by
  rw [e_v17 V0]
  rw [e_v122 V0]
  rfl

theorem e_v143 (V0 : Valuation τ sig (Elt Ideal)) :
    shapeCast _ (shapeCast _ (addf (extractStridedSlice S1x16x128x2x64 ![0, 0, 128, 0, 0] (Cert.ReferenceIdeal.Value.res_main_v126 V0) slices_S1x16x256x2x64_S1x16x128x2x64_0_0_128_0_0) (pad S1x16x128x2x64 ![0, 0, 0, 0, 0] ![0, 1, 0, 0, 0] ![0, 0, 0, 0, 0] (extractStridedSlice S1x15x128x2x64 ![0, 1, 0, 0, 0] (Cert.ReferenceIdeal.Value.res_main_v134 V0) slices_S1x16x128x2x64_S1x15x128x2x64_0_1_0_0_0) (constant S_ .f32 0x00000000#32) pads_S1x15x128x2x64_S1x16x128x2x64_000_010_000_000_000 h_S_)) shapeCasts_S1x16x128x2x64_S1x2048x2x64) shapeCasts_S1x2048x2x64_S2048x128
      = r_v143 (V0 (Proc.devRef .tc main_arg0)) (V0 (Proc.devRef .tc main_arg1)) (V0 (Proc.devRef .tc main_arg2)) (V0 (Proc.devRef .tc main_arg3)) := by
  rw [e_v126 V0]
  rw [e_v134 V0]
  rfl

theorem e_v144 (V0 : Valuation τ sig (Elt Ideal)) :
    shapeCast _ (shapeCast _ (addf (extractStridedSlice S1x16x128x2x64 ![0, 0, 128, 0, 0] (Cert.ReferenceIdeal.Value.res_main_v99 V0) slices_S1x16x256x2x64_S1x16x128x2x64_0_0_128_0_0) (pad S1x16x128x2x64 ![0, 0, 0, 0, 0] ![0, 1, 0, 0, 0] ![0, 0, 0, 0, 0] (extractStridedSlice S1x15x128x2x64 ![0, 1, 0, 0, 0] (Cert.ReferenceIdeal.Value.res_main_v127 V0) slices_S1x16x128x2x64_S1x15x128x2x64_0_1_0_0_0) (constant S_ .f32 0x00000000#32) pads_S1x15x128x2x64_S1x16x128x2x64_000_010_000_000_000 h_S_)) shapeCasts_S1x16x128x2x64_S1x2048x2x64) shapeCasts_S1x2048x2x64_S2048x128
      = r_v144 (V0 (Proc.devRef .tc main_arg0)) (V0 (Proc.devRef .tc main_arg2)) (V0 (Proc.devRef .tc main_arg3)) := by
  rw [e_v99 V0]
  rw [e_v127 V0]
  rfl

theorem e_v146 (V0 : Valuation τ sig (Elt Ideal)) :
    broadcastInDim S8x128 ![0, 1] bcast_S8x1_S8x128_0_1 (broadcastInDim S8x1 ![0] bcast_S8_S8x1_0 (shapeCast _ (broadcastInDim S1x1x2x4x1x1 ![2, 3] bcast_S2x4_S1x1x2x4x1x1_2_3 (Host.reduceAdd (extractStridedSlice S1x16x2x4x128x1 ![0, 0, 0, 0, 0, 256] (Cert.ReferenceIdeal.Value.res_main_v113 V0) slices_S1x16x2x4x128x257_S1x16x2x4x128x1_0_0_0_0_0_256) (constant S_ .f32 0x00000000#32) reducesTo_S1x16x2x4x128x1_S2x4_d0_1_4_5 h_S_)) shapeCasts_S1x1x2x4x1x1_S8))
      = r_v146 (V0 (Proc.devRef .tc main_arg0)) (V0 (Proc.devRef .tc main_arg1)) (V0 (Proc.devRef .tc main_arg2)) (V0 (Proc.devRef .tc main_arg3)) := by
  rw [e_v113 V0]
  rfl

end Cert.Proof.Attn

end
-- ==== Proof.Attn.Value.lean ====
/- The value claim: both programs leave the same four arrays, at finite arguments. -/
module

public import proofs.«01_k».proof.Proof.Attn.EqOut
public import proofs.«01_k».proof.Proof.Attn.Pre
public import proofs.«01_k».proof.Proof.Attn.RefRun

@[expose] public section

set_option maxRecDepth 16384

noncomputable section

namespace Cert.Proof.Attn

open Cert.KernelIdeal Cert.KernelIdeal.Gen
open Idealize.ShloMosaic Idealize.ShloMosaic.ValueIdx

open Idealize.SL.Sem Idealize.ShloMosaic.StableHlo

variable (m : (ℓ : Loc nD τ sig) → Buf (Elt Ideal) ℓ)

/-- The kernel's run, its four results at the reference's arrays. -/
theorem run_kernel (ρ : Dev nD → PrngReg) (F : ∀ c, Finite m c) :
    θ_run (defs (F := Ideal)) (onTc (τ := τ) (main (F := Ideal))) ⟨m, fun _ => 0, ρ⟩ (fun r => ∀ c : Dev nD,
      r.2.mem ((c.tc : Thread nD τ).loc main_v0_0) = r_v142 (g0 m c) (g1 m c) (g2 m c) (g3 m c)
      ∧ r.2.mem ((c.tc : Thread nD τ).loc main_v0_1) = r_v143 (g0 m c) (g1 m c) (g2 m c) (g3 m c)
      ∧ r.2.mem ((c.tc : Thread nD τ).loc main_v0_2) = r_v144 (g0 m c) (g2 m c) (g3 m c)
      ∧ r.2.mem ((c.tc : Thread nD τ).loc main_v0_3) = r_v146 (g0 m c) (g1 m c) (g2 m c) (g3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h.1 c).1 5).trans (out_q (F c)), ((h.1 c).1 6).trans (out_k (F c)), ((h.1 c).1 7).trans (out_v (F c)), ((h.1 c).1 8).trans (out_s (F c)),
      ((h.1 c).1 2).trans ((dats m 0 c).arrAt_in 2 rfl _), ((h.1 c).1 3).trans ((dats m 0 c).arrAt_in 3 rfl _),
      ((h.1 c).1 0).trans ((dats m 0 c).arrAt_in 0 rfl _), ((h.1 c).1 4).trans ((dats m 0 c).arrAt_in 4 rfl _)⟩)
    (run_main m ρ)

/-- The reference's run, its four results at the same stages of its own arguments. -/
theorem run_reference (m' : (ℓ : Loc Cert.ReferenceIdeal.nD Cert.ReferenceIdeal.τ Cert.ReferenceIdeal.sig) → Buf (Elt Ideal) ℓ)
    (ρ : Dev Cert.ReferenceIdeal.nD → PrngReg) (a0 : Dev nD → A0) (a1 : Dev nD → A1) (a2 : Dev nD → A2) (a3 : Dev nD → A3)
    (h0 : ∀ c : Dev nD, m' ((c.tc : Thread Cert.ReferenceIdeal.nD Cert.ReferenceIdeal.τ).loc Cert.ReferenceIdeal.main_arg0) = a0 c)
    (h1 : ∀ c : Dev nD, m' ((c.tc : Thread Cert.ReferenceIdeal.nD Cert.ReferenceIdeal.τ).loc Cert.ReferenceIdeal.main_arg1) = a1 c)
    (h2 : ∀ c : Dev nD, m' ((c.tc : Thread Cert.ReferenceIdeal.nD Cert.ReferenceIdeal.τ).loc Cert.ReferenceIdeal.main_arg2) = a2 c)
    (h3 : ∀ c : Dev nD, m' ((c.tc : Thread Cert.ReferenceIdeal.nD Cert.ReferenceIdeal.τ).loc Cert.ReferenceIdeal.main_arg3) = a3 c) :
    θ_run (Cert.ReferenceIdeal.defs (F := Ideal)) (onTc (τ := Cert.ReferenceIdeal.τ) (Cert.ReferenceIdeal.main (F := Ideal))) ⟨m', fun _ => 0, ρ⟩
      (fun r => ∀ c : Dev Cert.ReferenceIdeal.nD,
      r.2.mem ((c.tc : Thread Cert.ReferenceIdeal.nD Cert.ReferenceIdeal.τ).loc Cert.ReferenceIdeal.main_v142) = r_v142 (a0 c) (a1 c) (a2 c) (a3 c)
      ∧ r.2.mem ((c.tc : Thread Cert.ReferenceIdeal.nD Cert.ReferenceIdeal.τ).loc Cert.ReferenceIdeal.main_v143) = r_v143 (a0 c) (a1 c) (a2 c) (a3 c)
      ∧ r.2.mem ((c.tc : Thread Cert.ReferenceIdeal.nD Cert.ReferenceIdeal.τ).loc Cert.ReferenceIdeal.main_v144) = r_v144 (a0 c) (a2 c) (a3 c)
      ∧ r.2.mem ((c.tc : Thread Cert.ReferenceIdeal.nD Cert.ReferenceIdeal.τ).loc Cert.ReferenceIdeal.main_v146) = r_v146 (a0 c) (a1 c) (a2 c) (a3 c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) := by
  refine (θ_run Cert.ReferenceIdeal.defs _ _).mono (fun r h c => ?_) (Cert.ReferenceIdeal.Value.run (F := Ideal) m' ρ)
  obtain ⟨k0, k1, k2, k3, k4, k5, k6, k7⟩ := h c
  rw [← h0 c, ← h1 c, ← h2 c, ← h3 c]
  exact ⟨k0.trans (e_v142 (launchContents m' c)), k1.trans (e_v143 (launchContents m' c)), k2.trans (e_v144 (launchContents m' c)),
    k3.trans (e_v146 (launchContents m' c)), k4, k5, k6, k7⟩

/-- Over the extended reals the kernel computes the reference's gradients, at finite arguments. -/
theorem value : Cert.algebraic_KernelIdeal_ReferenceIdeal_pre_finite := fun m ρ m' ρ' hp hm =>
  ⟨_, _, _, _, run_kernel m ρ (finite_of m hp),
    run_reference m' ρ' (fun c => g0 m c) (fun c => g1 m c) (fun c => g2 m c) (fun c => g3 m c)
      (fun c => (hm c).1) (fun c => (hm c).2.1) (fun c => (hm c).2.2.1) (fun c => (hm c).2.2.2)⟩

end Cert.Proof.Attn
-- ==== Proof.Mm.Common.lean ====
/- Indices of small shapes by their coordinates, and rectangles that start at the origin. -/
module

public import Idealize.ShloMosaic.Lib.ValueIdx
public import Idealize.ShloMosaic.Lib.Pipeline.Value
public import Idealize.ShloMosaic.Lib.KernelVsHost
public import Idealize.ShloMosaic.PureOps.Ideal.Laws

@[expose] public section

set_option maxRecDepth 16384

noncomputable section

namespace Cert.Proof.Mm

open Idealize.ShloMosaic Idealize.ShloMosaic.ValueIdx

theorem origin2 : (![0, 0] : Fin 2 → ℕ) = fun _ => 0 := funext fun b => match b with | ⟨0, _⟩ => rfl | ⟨1, _⟩ => rfl
theorem origin3 : (![0, 0, 0] : Fin 3 → ℕ) = fun _ => 0 := funext fun b => match b with | ⟨0, _⟩ => rfl | ⟨1, _⟩ => rfl | ⟨2, _⟩ => rfl
theorem origin4 : (![0, 0, 0, 0] : Fin 4 → ℕ) = fun _ => 0 :=
  funext fun b => match b with | ⟨0, _⟩ => rfl | ⟨1, _⟩ => rfl | ⟨2, _⟩ => rfl | ⟨3, _⟩ => rfl

/-- A narrowing keeps the number. -/
theorem narrow_at {s : Shape} (v : FVec Ideal s .f32) (h : FTy.bits .bf16 < FTy.bits .f32) (i : s.Idx) :
    (truncf .bf16 v h i : EReal) = v i := rfl

/-- A two-axis index by its coordinates. -/
theorem by2 {p q : ℕ} (y : (⟨2, ![p, q]⟩ : Shape).Idx) : y = ix2 (y 0 : Fin p) (y 1 : Fin q) :=
  funext fun b => match b with | ⟨0, _⟩ => rfl | ⟨1, _⟩ => rfl

/-- A three-axis index by its coordinates. -/
theorem by3 {p q r : ℕ} (y : (⟨3, ![p, q, r]⟩ : Shape).Idx) : y = ix3 (y 0 : Fin p) (y 1 : Fin q) (y 2 : Fin r) :=
  funext fun b => match b with | ⟨0, _⟩ => rfl | ⟨1, _⟩ => rfl | ⟨2, _⟩ => rfl

/-- A number below a product, by quotient and remainder. -/
def join {p q : ℕ} (n : ℕ) (h : p * q = n) (a : Fin p) (b : Fin q) : Fin n :=
  ⟨q * a.val + b.val, by
    have := Nat.mul_le_mul_left q (Nat.succ_le_of_lt a.isLt)
    rw [← h, Nat.mul_comm p q]
    have hb := b.isLt
    rw [Nat.mul_succ] at this
    omega⟩

theorem join_surj {p q : ℕ} (n : ℕ) (h : p * q = n) (l : Fin n) : ∃ (a : Fin p) (b : Fin q), l = join n h a b := by
  have hq : 0 < q := Nat.pos_of_ne_zero fun h0 => by subst h0; rw [Nat.mul_zero] at h; have := l.isLt; omega
  refine ⟨⟨l.val / q, Nat.div_lt_of_lt_mul (by rw [Nat.mul_comm, h]; exact l.isLt)⟩, ⟨l.val % q, Nat.mod_lt _ hq⟩, Fin.ext ?_⟩
  exact (Nat.div_add_mod l.val q).symm

/-- A product on the matrix unit into nothing, with one summed axis, at an index. -/
theorem unit_sum {sl sr so : Shape} (D : DotDims sl sr so) (n : ℕ) (hr : D.contr.rank = 1) (hs : D.contr.size ⟨0, by omega⟩ = n) {φ ψ : FTy}
    (l : FVec Ideal sl φ) (q : FVec Ideal sr ψ) (i : so.Idx) (f : Fin n → sl.Idx) (g : Fin n → sr.Idx)
    (hf : ∀ k, D.lhsIdx i k = f (contrEquiv1 D n hr hs k)) (hg : ∀ k, D.rhsIdx i k = g (contrEquiv1 D n hr hs k)) :
    matmul D none l q (constant so .f32 0x00000000#32) i = ∑ r, l (f r) * q (g r) :=
  (Ideal.matmul_constant_zero_apply _ _ l q _).trans (Fintype.sum_equiv (contrEquiv1 D n hr hs) _ _ fun k =>
    congrArg₂ (fun x y : EReal => x * y) (congrArg l (hf k)) (congrArg q (hg k)))

/-- The reference's product likewise. -/
theorem host_sum {sl sr so : Shape} (D : DotDims sl sr so) (n : ℕ) (hr : D.contr.rank = 1) (hs : D.contr.size ⟨0, by omega⟩ = n) {φ ψ : FTy}
    (l : FVec Ideal sl φ) (q : FVec Ideal sr ψ) (i : so.Idx) (f : Fin n → sl.Idx) (g : Fin n → sr.Idx)
    (hf : ∀ k, D.lhsIdx i k = f (contrEquiv1 D n hr hs k)) (hg : ∀ k, D.rhsIdx i k = g (contrEquiv1 D n hr hs k)) :
    Host.dotGeneral (F := Ideal) D none l q i = ∑ r, l (f r) * q (g r) :=
  (Ideal.dotGeneral_apply _ _ _ l q _).trans (Fintype.sum_equiv (contrEquiv1 D n hr hs) _ _ fun k =>
    congrArg₂ (fun x y : EReal => x * y) (congrArg l (hf k)) (congrArg q (hg k)))

end Cert.Proof.Mm
-- ==== Proof.Mm.DownBlock.lean ====
/- One step of the gradient of the MLP's activation before its gate: the product of the step's blocks. -/
module

public import proofs.«01_k».proof.Proof.Gen.KernelDownIdeal.Frame
public import proofs.«01_k».proof.Proof.Mm.Common
public import Idealize.ShloMosaic.Lib.KernelVsHost
public import Idealize.ShloMosaic.PureOps.Ideal.Laws
public import Idealize.ShloMosaic.Lib.TwoAxisContraction
public import Idealize.ShloMosaic.Lib.Pipeline.ValueKit.Tiles

@[expose] public section

set_option maxRecDepth 16384

noncomputable section

namespace Cert.Proof.Mm.Down

open Cert.KernelDownIdeal Cert.KernelDownIdeal.Gen
open Idealize.ShloMosaic Idealize.ShloMosaic.ValueIdx

/-- The two constants of the body. -/
abbrev nilK : EReal := Ideal.ofBits .f32 0x00000000#32
abbrev twoK : EReal := Ideal.ofBits .f32 0x40000000#32

/-- Rows against rows. -/
theorem dot_at {φ ψ : FTy} (l : FVec Ideal S512x1024 φ) (q : FVec Ideal S512x1024 ψ) (a : Fin 512) (b : Fin 512) :
    matmul dot_S512x1024_S512x1024_S512x512_1_1_0_0_n_n none l q (constant S512x512 .f32 0x00000000#32) (ix2 a b)
      = ∑ r : Fin 1024, l (ix2 a r) * q (ix2 b r) :=
  unit_sum _ 1024 rfl rfl l q (ix2 a b) (fun r => ix2 a r) (fun r => ix2 b r)
    (fun _ => funext fun j => match j with
      | ⟨0, _⟩ => rfl
      | ⟨1, _⟩ => rfl) (fun _ => funext fun j => match j with
      | ⟨0, _⟩ => rfl
      | ⟨1, _⟩ => rfl)

/-- One stored tile, at an index. -/
theorem tile_at (x : Vec Ideal S512x1024 .f32) (w : Vec Ideal S1x1x512x1024 .bf16) (u : Vec Ideal S512x512 .f32) (a b : Fin 512) :
    k0_pay3 x w u (ix2 a b)
      = (∑ r : Fin 1024, x (ix2 a r) * w (ix4 (0 : Fin 1) (0 : Fin 1) b r)) * (twoK * max (u (ix2 a b) : EReal) nilK) := by
  unfold k0_pay3
  refine (narrow_at _ _ _).trans ?_
  refine congrArg (fun z : EReal => z * (twoK * max (u (ix2 a b) : EReal) nilK)) ?_
  refine (dot_at (φ := .bf16) (ψ := .bf16) (k0_pay2 x) _ a b).trans ?_
  refine Finset.sum_congr rfl fun r _ => congrArg (fun z : EReal => x (ix2 a r) * z) ?_
  exact shapeCast_apply _ _ (ix2 b r) (ix4 (0 : Fin 1) (0 : Fin 1) b r) (by
    rewrite [Shape.rowMajor_val_two, Shape.rowMajor_val_four]
    show ((0 * 1 + 0) * 512 + b.val) * 1024 + r.val = b.val * 1024 + r.val
    omega)

/-- The block a step leaves, at row `a` and column `b` of tile `n`. -/
def val (x : Vec Ideal S512x1024 .f32) (w : Vec Ideal S8x1x512x1024 .bf16) (u : Vec Ideal S512x4096 .f32) (a : Fin 512) (n : Fin 8) (b : Fin 512) : EReal :=
  (∑ r : Fin 1024, x (ix2 a r) * w (ix4 n (0 : Fin 1) b r)) * (twoK * max (u (ix2 a (join 4096 rfl n b)) : EReal) nilK)

/-- Tile `k` holds that block's columns from `512 k`. -/
theorem piece (x : Vec Ideal S512x1024 .f32) (w : Vec Ideal S8x1x512x1024 .bf16) (u : Vec Ideal S512x4096 .f32) (a : Fin 512) (n : Fin 8) (b : Fin 512)
    (k : ℕ) (hw : ∀ j, (![k, 0, 0, 0] : Fin 4 → ℕ) j + S1x1x512x1024.size j ≤ S8x1x512x1024.size j)
    (hu : ∀ j, (![0, 512 * k] : Fin 2 → ℕ) j + S512x512.size j ≤ S512x4096.size j) :
    View.TileAt (S := S512x4096) (Val := Elt Ideal) (e := .bf16) (ix2 a (join 4096 rfl n b)) ![0, 512 * k] S512x512.size
      (k0_pay3 x (View.ld w (Rect.unit (s := S8x1x512x1024) ![k, 0, 0, 0] S1x1x512x1024.size hw))
        (View.ld u (Rect.unit (s := S512x4096) ![0, 512 * k] S512x512.size hu))) (val x w u a n b) := by
  intro y hy
  obtain ⟨p, q, rfl⟩ : ∃ (p q : Fin 512), y = ix2 p q := ⟨y 0, y 1, by2 y⟩
  have h0 : a.val = 0 + p.val := hy 0
  have h1 : 512 * n.val + b.val = 512 * k + q.val := hy 1
  obtain rfl : a = p := Fin.ext (by omega)
  have hb := b.isLt
  have hq := q.isLt
  obtain rfl : n.val = k := by omega
  obtain rfl : b = q := Fin.ext (by omega)
  refine (tile_at _ _ _ a b).trans ?_
  refine congrArg₂ (fun s t : EReal => s * (twoK * max t nilK)) (Finset.sum_congr rfl fun r _ => congrArg (fun z : EReal => x (ix2 a r) * z) ?_) ?_
  · exact View.ld_unit_apply_of w _ _ _ _ (ix4 n (0 : Fin 1) b r) fun j => match j with
      | ⟨0, _⟩ => rfl
      | ⟨1, _⟩ => rfl
      | ⟨2, _⟩ => (Nat.zero_add _).symm
      | ⟨3, _⟩ => (Nat.zero_add _).symm
  · exact View.ld_unit_apply_of u _ _ _ _ (ix2 a (join 4096 rfl n b)) fun j => match j with
      | ⟨0, _⟩ => (Nat.zero_add _).symm
      | ⟨1, _⟩ => rfl

/-- What a step stores, at an index. -/
theorem out_at (c : Dev nD) (i : grid0.Coords) (a1 : Memref sig .tc .vmem S512x1024 .f32) (h1 : a1.IsWhole)
    (a2 : Memref sig .tc .vmem S8x1x512x1024 .bf16) (h2 : a2.IsWhole) (a3 : Memref sig .tc .vmem S512x4096 .f32) (h3 : a3.IsWhole)
    (a5 : Memref sig .tc .vmem S512x4096 .bf16) (h5 : a5.IsWhole)
    (x : Vec Ideal S512x1024 .f32) (w : Vec Ideal S8x1x512x1024 .bf16) (u : Vec Ideal S512x4096 .f32) (a : Fin 512) (n : Fin 8) (b : Fin 512) :
    out0_A_3 c i a1 h1 a2 h2 a3 h3 a5 h5 x w u (ix2 a (join 4096 rfl n b)) = val x w u a n b := by
  unfold out0_A_3
  rw [View.read_writes_junk_eq_canon]
  refine View.canon_eq_of_allAt _ _ _ (cover0_A_3 c i a1 h1 a2 h2 a3 h3 a5 h5 x w u _) ?_
  unfold kernelRun0_A
  dsimp only
  sl_unfold_words
  simp only [View.readAt_eq_ld, h1.read_unread, h2.read_unread, h3.read_unread, View.ld_unit_zero (S := S512x1024) origin2]
  refine View.allAt_cons_unit _ _ _ _ _ (piece x w u a n b 7 _ _) ?_
  refine View.allAt_cons_unit _ _ _ _ _ (piece x w u a n b 6 _ _) ?_
  refine View.allAt_cons_unit _ _ _ _ _ (piece x w u a n b 5 _ _) ?_
  refine View.allAt_cons_unit _ _ _ _ _ (piece x w u a n b 4 _ _) ?_
  refine View.allAt_cons_unit _ _ _ _ _ (piece x w u a n b 3 _ _) ?_
  refine View.allAt_cons_unit _ _ _ _ _ (piece x w u a n b 2 _ _) ?_
  refine View.allAt_cons_unit _ _ _ _ _ (piece x w u a n b 1 _ _) ?_
  refine View.allAt_cons_unit _ _ _ _ _ (piece x w u a n b 0 _ _) ?_
  exact View.allAt_nil _ _

end Cert.Proof.Mm.Down
-- ==== Proof.Mm.DownRef.lean ====
/- The gradient of the MLP's activation before its gate in the reference, at an index. -/
module

public import proofs.«01_k».proof.Proof.Gen.ReferenceDownIdeal
public import proofs.«01_k».proof.Proof.Mm.Common
public import Idealize.ShloMosaic.Lib.KernelVsHost
public import Idealize.ShloMosaic.PureOps.Ideal.Laws
public import Idealize.ShloMosaic.Lib.TwoAxisContraction
public import Idealize.ShloMosaic.Lib.Pipeline.ValueKit.Tiles

@[expose] public section

set_option maxRecDepth 16384

noncomputable section

namespace Cert.Proof.Mm.Down

open Cert.ReferenceDownIdeal Cert.ReferenceDownIdeal.Gen
open Idealize.ShloMosaic Idealize.ShloMosaic.ValueIdx

/-- The two constants. -/
abbrev nilR : EReal := Ideal.ofBits .f32 0x00000000#32
abbrev twoR : EReal := Ideal.ofBits .f32 0x40000000#32

theorem host_at (l : FVec Ideal S2048x1024 .f32) (q : FVec Ideal S4096x1024 .f32) (a : Fin 2048) (b : Fin 4096) :
    Host.dotGeneral (F := Ideal) dot_S2048x1024_S4096x1024_S2048x4096_1_1_0_0_n_n none l q (ix2 a b) = ∑ r : Fin 1024, l (ix2 a r) * q (ix2 b r) :=
  host_sum _ 1024 rfl rfl l q (ix2 a b) (fun r => ix2 a r) (fun r => ix2 b r)
    (fun _ => funext fun j => match j with
      | ⟨0, _⟩ => rfl
      | ⟨1, _⟩ => rfl) (fun _ => funext fun j => match j with
      | ⟨0, _⟩ => rfl
      | ⟨1, _⟩ => rfl)

/-- Where the choice is the constant, the factor is nothing already. -/
theorem gate (d u : EReal) :
    Scalar.select (FloatOps.cmpf (F := Ideal) (φ := .f32) .ogt u nilR) (d * (twoR * max u nilR)) nilR = d * (twoR * max u nilR) := by
  have hz : nilR = 0 := Ideal.ofBits_zero_f32
  by_cases h : nilR < u
  · exact if_pos (by
      show BitVec.ofBool (decide (nilR < u)) = 1#1
      rw [decide_eq_true h]
      rfl)
  · rw [max_eq_right (not_lt.mp h), hz, mul_zero, mul_zero]
    exact ite_self _

/-- The reference's result. -/
def result (x : FVec Ideal S2048x1024 .f32) (y : FVec Ideal S8x1x512x1024 .bf16) (u : FVec Ideal S2048x4096 .f32) : FVec Ideal S2048x4096 .bf16 :=
  truncf .bf16 (select (cmpf .ogt u (broadcastInDim S2048x4096 ![] bcast_S_S2048x4096 (constant S_ .f32 0x00000000#32))) (mulf (Host.dotGeneral dot_S2048x1024_S4096x1024_S2048x4096_1_1_0_0_n_n none x (extf .f32 (shapeCast _ y shapeCasts_S8x1x512x1024_S4096x1024) bitsLt_bf16_f32)) (mulf (broadcastInDim S2048x4096 ![] bcast_S_S2048x4096 (constant S_ .f32 0x40000000#32)) (maximumf u (broadcastInDim S2048x4096 ![] bcast_S_S2048x4096 (constant S_ .f32 0x00000000#32))))) (broadcastInDim S2048x4096 ![] bcast_S_S2048x4096 (constant S_ .f32 0x00000000#32))) bitsLt_bf16_f32

theorem result_at (x : FVec Ideal S2048x1024 .f32) (y : FVec Ideal S8x1x512x1024 .bf16) (u : FVec Ideal S2048x4096 .f32) (a : Fin 2048) (n : Fin 8) (b : Fin 512) :
    result x y u (ix2 a (join 4096 rfl n b))
      = (∑ r : Fin 1024, x (ix2 a r) * y (ix4 n (0 : Fin 1) b r)) * (twoR * max (u (ix2 a (join 4096 rfl n b)) : EReal) nilR) := by
  unfold result
  refine (narrow_at _ _ _).trans ?_
  refine (gate _ _).trans ?_
  refine congrArg (fun z : EReal => z * (twoR * max (u (ix2 a (join 4096 rfl n b)) : EReal) nilR)) ?_
  refine (host_at _ _ a (join 4096 rfl n b)).trans ?_
  refine Finset.sum_congr rfl fun r _ => congrArg (fun z : EReal => x (ix2 a r) * z) ?_
  exact shapeCast_apply _ _ (ix2 (join 4096 rfl n b) r) (ix4 n (0 : Fin 1) b r) (by
    rewrite [Shape.rowMajor_val_two, Shape.rowMajor_val_four]
    show ((n.val * 1 + 0) * 512 + b.val) * 1024 + r.val = (512 * n.val + b.val) * 1024 + r.val
    omega)

end Cert.Proof.Mm.Down
-- ==== Proof.Mm.Down.lean ====
/- The gradient of the MLP's activation before its gate: the whole array, and the claim. -/
module

public import proofs.«01_k».proof.Defs
public import proofs.«01_k».proof.Proof.Mm.DownBlock
public import proofs.«01_k».proof.Proof.Mm.DownRef
public import proofs.«01_k».proof.Proof.Gen.KernelDownIdeal.Value
public import proofs.«01_k».proof.Proof.Gen.ReferenceDownIdeal.Run

@[expose] public section

set_option maxRecDepth 16384

noncomputable section

namespace Cert.Proof.Mm.Down

open Cert.KernelDownIdeal Cert.KernelDownIdeal.Gen
open Idealize.ShloMosaic Idealize.ShloMosaic.ValueIdx Idealize.SL.Sem

variable (m : (ℓ : Loc nD τ sig) → Buf (Elt Ideal) ℓ) (c : Dev nD)

/-- Where an entry of a block lies in its array, along one axis. -/
theorem emb_val (w : Fin cfg0.W) (t : Fin cfg0.N) (y : ((cfg0.win w).xblock (cfg0.grid.coords t)).Idx) (b : Fin (cfg0.win w).shape.rank)
    (hk : (cfg0.win w).kind = .blocked) (k z : ℕ) (hi : (cfg0.win w).index t b = k) (hz : k * (cfg0.win w).size b + (y b).val = z) :
    (((cfg0.win w).rect t).emb y b : ℕ) = z :=
  ((cfg0.win w).rect_emb_val t y b hk).trans (by rw [hi]; exact hz)

/-- The arguments as arrays. -/
abbrev g0 : FVec Ideal S2048x1024 .f32 := m ((c.tc : Thread nD τ).loc main_arg0)
abbrev g1 : FVec Ideal S8x1x512x1024 .bf16 := m ((c.tc : Thread nD τ).loc main_arg1)
abbrev g2 : FVec Ideal S2048x4096 .f32 := m ((c.tc : Thread nD τ).loc main_arg2)

/-- A block of rows' number as a grid point. -/
def pt (n : Fin 4) : Fin cfg0.N := ⟨n.val, lt_of_lt_of_eq n.isLt N_0.symm⟩

theorem index_0 : ∀ t : Fin cfg0.N, (cfg0.win 0).index t = ![t.val, 0] := by decide +kernel
theorem index_1 : ∀ t : Fin cfg0.N, (cfg0.win 1).index t = ![0, 0, 0, 0] := by decide +kernel
theorem index_2 : ∀ t : Fin cfg0.N, (cfg0.win 2).index t = ![t.val, 0] := by decide +kernel
theorem index_3 : ∀ t : Fin cfg0.N, (cfg0.win 3).index t = ![t.val, 0] := by decide +kernel

theorem blk0_at (n : Fin 4) (a : Fin 512) (r : Fin 1024) : iblk m c 0 (pt n) (ix2 a r) = g0 m c (ix2 (join 2048 rfl n a) r) :=
  congrArg (g0 m c) (funext fun j => match j with
    | ⟨0, _⟩ => Fin.ext (emb_val 0 (pt n) (ix2 a r) ⟨0, by decide⟩ rfl n.val (512 * n.val + a.val) (congrFun (index_0 _) 0) (by show n.val * 512 + a.val = _; omega))
    | ⟨1, _⟩ => Fin.ext (emb_val 0 (pt n) (ix2 a r) ⟨1, by decide⟩ rfl 0 r.val (congrFun (index_0 _) 1) (by show 0 * 1024 + r.val = _; omega)))

theorem blk1_at (n : Fin 4) (k : Fin 8) (b : Fin 512) (r : Fin 1024) : iblk m c 1 (pt n) (ix4 k (0 : Fin 1) b r) = g1 m c (ix4 k (0 : Fin 1) b r) :=
  congrArg (g1 m c) (funext fun j => match j with
    | ⟨0, _⟩ => Fin.ext (emb_val 1 (pt n) (ix4 k (0 : Fin 1) b r) ⟨0, by decide⟩ rfl 0 k.val (congrFun (index_1 _) 0) (by show 0 * 8 + k.val = _; omega))
    | ⟨1, _⟩ => Fin.ext (emb_val 1 (pt n) (ix4 k (0 : Fin 1) b r) ⟨1, by decide⟩ rfl 0 0 (congrFun (index_1 _) 1) (by show 0 * 1 + 0 = _; omega))
    | ⟨2, _⟩ => Fin.ext (emb_val 1 (pt n) (ix4 k (0 : Fin 1) b r) ⟨2, by decide⟩ rfl 0 b.val (congrFun (index_1 _) 2) (by show 0 * 512 + b.val = _; omega))
    | ⟨3, _⟩ => Fin.ext (emb_val 1 (pt n) (ix4 k (0 : Fin 1) b r) ⟨3, by decide⟩ rfl 0 r.val (congrFun (index_1 _) 3) (by show 0 * 1024 + r.val = _; omega)))

theorem blk2_at (n : Fin 4) (a : Fin 512) (l : Fin 4096) : iblk m c 2 (pt n) (ix2 a l) = g2 m c (ix2 (join 2048 rfl n a) l) :=
  congrArg (g2 m c) (funext fun j => match j with
    | ⟨0, _⟩ => Fin.ext (emb_val 2 (pt n) (ix2 a l) ⟨0, by decide⟩ rfl n.val (512 * n.val + a.val) (congrFun (index_2 _) 0) (by show n.val * 512 + a.val = _; omega))
    | ⟨1, _⟩ => Fin.ext (emb_val 2 (pt n) (ix2 a l) ⟨1, by decide⟩ rfl 0 l.val (congrFun (index_2 _) 1) (by show 0 * 4096 + l.val = _; omega)))

theorem emb_3 (n : Fin 4) (a : Fin 512) (l : Fin 4096) : ((cfg0.win 3).blk (pt n)).view.emb (ix2 a l) = ix2 (join 2048 rfl n a) l :=
  funext fun j => match j with
    | ⟨0, _⟩ => Fin.ext (emb_val 3 (pt n) (ix2 a l) ⟨0, by decide⟩ rfl n.val (512 * n.val + a.val) (congrFun (index_3 _) 0) (by show n.val * 512 + a.val = _; omega))
    | ⟨1, _⟩ => Fin.ext (emb_val 3 (pt n) (ix2 a l) ⟨1, by decide⟩ rfl 0 l.val (congrFun (index_3 _) 1) (by show 0 * 4096 + l.val = _; omega))

/-- A step writes its block of the reference's result. -/
theorem step_at (n : Fin 4) (a : Fin 512) (k : Fin 8) (b : Fin 512) :
    outsAt0 m c (pt n) (ix2 a (join 4096 rfl k b)) = result (g0 m c) (g1 m c) (g2 m c) (ix2 (join 2048 rfl n a) (join 4096 rfl k b)) := by
  unfold outsAt0
  refine (out_at _ _ _ _ _ _ _ _ _ _ _ _ _ a k b).trans (Eq.trans ?_ (result_at (g0 m c) (g1 m c) (g2 m c) (join 2048 rfl n a) k b).symm)
  unfold val
  exact congrArg₂ (fun s t : EReal => s * (Ideal.ofBits .f32 0x40000000#32 * max t (Ideal.ofBits .f32 0x00000000#32))) (Finset.sum_congr rfl fun r _ =>
    congrArg₂ (fun x y : EReal => x * y) (blk0_at m c n a r) (blk1_at m c n k b r)) (blk2_at m c n a (join 4096 rfl k b))

/-- The array after the call is the reference's result. -/
theorem arr : (dats m 0 c).arrAt 3 cfg0.N = result (g0 m c) (g1 m c) (g2 m c) := by
  refine Pipeline.Dat.arrAt_eq_of_cover _ _ _ (fun t _ => ?_) fun i => ?_
  · obtain ⟨n, rfl⟩ : ∃ n : Fin 4, t = pt n := ⟨⟨t.val, lt_of_lt_of_eq t.isLt N_0⟩, rfl⟩
    refine funext fun (y : S512x4096.Idx) => ?_
    obtain ⟨a, l, rfl⟩ : ∃ (a : Fin 512) (l : Fin 4096), y = ix2 a l := ⟨y 0, y 1, by2 y⟩
    obtain ⟨k, b, rfl⟩ := join_surj (p := 8) (q := 512) 4096 rfl l
    refine Eq.trans ?_ ((step_at m c n a k b).trans (congrArg (result (g0 m c) (g1 m c) (g2 m c)) (emb_3 n a (join 4096 rfl k b)).symm))
    show (dats m 0 c).after 3 (pt n) (ix2 a (join 4096 rfl k b)) = _
    rw [after0_3]
  · obtain ⟨l', l, rfl⟩ : ∃ (l' : Fin 2048) (l : Fin 4096), i = ix2 l' l := ⟨i 0, i 1, by2 i⟩
    obtain ⟨n, a, rfl⟩ := join_surj (p := 4) (q := 512) 2048 rfl l'
    exact ⟨pt n, flush0_3 _, Finset.mem_map.mpr ⟨ix2 a l, Finset.mem_univ _, emb_3 n a l⟩⟩

/-- Over the extended reals the call computes the reference's gradient. -/
theorem value : Cert.algebraic_KernelDownIdeal_ReferenceDownIdeal := fun m ρ m' ρ' _ hm =>
  ⟨_, (θ_run _ _ _).mono (fun _ h c => ⟨((h c).1).trans (arr m c), (h c).2⟩) (Cert.KernelDownIdeal.Value.run_blocks (F := Ideal) m ρ),
    (θ_run _ _ _).mono (fun _ h c => ⟨((h c).1).trans (by
      rw [(hm c).1, (hm c).2.1, (hm c).2.2.1]; rfl), (h c).2⟩) (Cert.ReferenceDownIdeal.Value.run (F := Ideal) m' ρ')⟩

/-- The reference's frame. -/
theorem frame_ref : Cert.quiescent_ReferenceDownIdeal := fun m ρ _ =>
  (θ_run Cert.ReferenceDownIdeal.defs _ _).mono
    (fun r h => ⟨fun c => (h c).2, Idealize.ShloMosaic.sem_eq_zero_of_no_sems (by decide) r.2⟩)
    (Cert.ReferenceDownIdeal.Value.run (F := Ideal) m ρ)

end Cert.Proof.Mm.Down
-- ==== Proof.Mm.OutBlock.lean ====
/- One step of the gradient of the attention output projection's input: the product of the step's blocks. -/
module

public import proofs.«01_k».proof.Proof.Gen.KernelOutIdeal.Frame
public import proofs.«01_k».proof.Proof.Mm.Common
public import Idealize.ShloMosaic.Lib.KernelVsHost
public import Idealize.ShloMosaic.PureOps.Ideal.Laws
public import Idealize.ShloMosaic.Lib.TwoAxisContraction

@[expose] public section

set_option maxRecDepth 16384

noncomputable section

namespace Cert.Proof.Mm.Out

open Cert.KernelOutIdeal Cert.KernelOutIdeal.Gen
open Idealize.ShloMosaic Idealize.ShloMosaic.ValueIdx

/-- Rows against rows. -/
theorem dot_at {φ ψ : FTy} (l : FVec Ideal S512x1024 φ) (q : FVec Ideal S2048x1024 ψ) (a : Fin 512) (b : Fin 2048) :
    matmul dot_S512x1024_S2048x1024_S512x2048_1_1_0_0_n_n none l q (constant S512x2048 .f32 0x00000000#32) (ix2 a b)
      = ∑ r : Fin 1024, l (ix2 a r) * q (ix2 b r) :=
  unit_sum _ 1024 rfl rfl l q (ix2 a b) (fun r => ix2 a r) (fun r => ix2 b r)
    (fun _ => funext fun j => match j with
      | ⟨0, _⟩ => rfl
      | ⟨1, _⟩ => rfl) (fun _ => funext fun j => match j with
      | ⟨0, _⟩ => rfl
      | ⟨1, _⟩ => rfl)

/-- The product of a step's blocks, at an index. -/
theorem pay_at (x : Vec Ideal S512x1024 .f32) (y : Vec Ideal S8x1x256x1024 .bf16) (a : Fin 512) (n : Fin 8) (b : Fin 256) :
    k0_pay1 y x (ix2 a (join 2048 rfl n b)) = ∑ r : Fin 1024, x (ix2 a r) * y (ix4 n (0 : Fin 1) b r) := by
  unfold k0_pay1
  refine (dot_at (φ := .bf16) (ψ := .bf16) (truncf .bf16 x bitsLt_bf16_f32) _ a (join 2048 rfl n b)).trans ?_
  refine Finset.sum_congr rfl fun r _ => congrArg (fun z : EReal => x (ix2 a r) * z) ?_
  refine (shapeCast_apply _ _ (ix2 (join 2048 rfl n b) r) (ix3 n b r) (by
    rewrite [Shape.rowMajor_val_two, Shape.rowMajor_val_three]
    show (n.val * 256 + b.val) * 1024 + r.val = (256 * n.val + b.val) * 1024 + r.val
    omega)).trans ?_
  exact shapeCast_apply _ _ (ix3 n b r) (ix4 n (0 : Fin 1) b r) (by
    rewrite [Shape.rowMajor_val_three, Shape.rowMajor_val_four]
    show ((n.val * 1 + 0) * 256 + b.val) * 1024 + r.val = (n.val * 256 + b.val) * 1024 + r.val
    omega)

/-- What a step stores is that product. -/
theorem out_eq (c : Dev nD) (i : grid0.Coords) (a1 : Memref sig .tc .vmem S512x1024 .f32) (h1 : a1.IsWhole)
    (a2 : Memref sig .tc .vmem S8x1x256x1024 .bf16) (h2 : a2.IsWhole) (a4 : Memref sig .tc .vmem S512x2048 .f32) (h4 : a4.IsWhole)
    (x : Vec Ideal S512x1024 .f32) (y : Vec Ideal S8x1x256x1024 .bf16) :
    out0_A_2 c i a1 h1 a2 h2 a4 h4 x y = k0_pay1 y x := by
  unfold out0_A_2
  rw [View.read_writes_junk_eq_canon]
  unfold kernelRun0_A
  dsimp only
  rw [View.canon_unit_zero origin2, View.readAt_eq_ld, View.readAt_eq_ld, h1.read_unread, h2.read_unread,
    View.ld_unit_zero origin4, View.ld_unit_zero origin2]

end Cert.Proof.Mm.Out
-- ==== Proof.Mm.OutRef.lean ====
/- The gradient of the attention output projection's input in the reference, at an index. -/
module

public import proofs.«01_k».proof.Proof.Gen.ReferenceOutIdeal
public import proofs.«01_k».proof.Proof.Mm.Common
public import Idealize.ShloMosaic.Lib.KernelVsHost
public import Idealize.ShloMosaic.PureOps.Ideal.Laws
public import Idealize.ShloMosaic.Lib.TwoAxisContraction

@[expose] public section

set_option maxRecDepth 16384

noncomputable section

namespace Cert.Proof.Mm.Out

open Cert.ReferenceOutIdeal Cert.ReferenceOutIdeal.Gen
open Idealize.ShloMosaic Idealize.ShloMosaic.ValueIdx

theorem host_at (l : FVec Ideal S2048x1024 .f32) (q : FVec Ideal S2048x1024 .f32) (a : Fin 2048) (b : Fin 2048) :
    Host.dotGeneral (F := Ideal) dot_S2048x1024_S2048x1024_S2048x2048_1_1_0_0_n_n none l q (ix2 a b) = ∑ r : Fin 1024, l (ix2 a r) * q (ix2 b r) :=
  host_sum _ 1024 rfl rfl l q (ix2 a b) (fun r => ix2 a r) (fun r => ix2 b r)
    (fun _ => funext fun j => match j with
      | ⟨0, _⟩ => rfl
      | ⟨1, _⟩ => rfl) (fun _ => funext fun j => match j with
      | ⟨0, _⟩ => rfl
      | ⟨1, _⟩ => rfl)

/-- The reference's result. -/
def result (x : FVec Ideal S2048x1024 .f32) (y : FVec Ideal S8x1x256x1024 .bf16) : FVec Ideal S2048x2048 .f32 :=
  Host.dotGeneral dot_S2048x1024_S2048x1024_S2048x2048_1_1_0_0_n_n none x (extf .f32 (shapeCast _ y shapeCasts_S8x1x256x1024_S2048x1024) bitsLt_bf16_f32)

theorem result_at (x : FVec Ideal S2048x1024 .f32) (y : FVec Ideal S8x1x256x1024 .bf16) (a : Fin 2048) (n : Fin 8) (b : Fin 256) :
    result x y (ix2 a (join 2048 rfl n b)) = ∑ r : Fin 1024, x (ix2 a r) * y (ix4 n (0 : Fin 1) b r) := by
  unfold result
  refine (host_at _ _ a (join 2048 rfl n b)).trans ?_
  refine Finset.sum_congr rfl fun r _ => congrArg (fun z : EReal => x (ix2 a r) * z) ?_
  exact shapeCast_apply _ _ (ix2 (join 2048 rfl n b) r) (ix4 n (0 : Fin 1) b r) (by
    rewrite [Shape.rowMajor_val_two, Shape.rowMajor_val_four]
    show ((n.val * 1 + 0) * 256 + b.val) * 1024 + r.val = (256 * n.val + b.val) * 1024 + r.val
    omega)

end Cert.Proof.Mm.Out
-- ==== Proof.Mm.Out.lean ====
/- The gradient of the attention output projection's input: the whole array, and the claim. -/
module

public import proofs.«01_k».proof.Defs
public import proofs.«01_k».proof.Proof.Mm.OutBlock
public import proofs.«01_k».proof.Proof.Mm.OutRef
public import proofs.«01_k».proof.Proof.Gen.KernelOutIdeal.Value
public import proofs.«01_k».proof.Proof.Gen.ReferenceOutIdeal.Run

@[expose] public section

set_option maxRecDepth 16384

noncomputable section

namespace Cert.Proof.Mm.Out

open Cert.KernelOutIdeal Cert.KernelOutIdeal.Gen
open Idealize.ShloMosaic Idealize.ShloMosaic.ValueIdx Idealize.SL.Sem

variable (m : (ℓ : Loc nD τ sig) → Buf (Elt Ideal) ℓ) (c : Dev nD)

/-- Where an entry of a block lies in its array, along one axis. -/
theorem emb_val (w : Fin cfg0.W) (t : Fin cfg0.N) (y : ((cfg0.win w).xblock (cfg0.grid.coords t)).Idx) (b : Fin (cfg0.win w).shape.rank)
    (hk : (cfg0.win w).kind = .blocked) (k z : ℕ) (hi : (cfg0.win w).index t b = k) (hz : k * (cfg0.win w).size b + (y b).val = z) :
    (((cfg0.win w).rect t).emb y b : ℕ) = z :=
  ((cfg0.win w).rect_emb_val t y b hk).trans (by rw [hi]; exact hz)

/-- The arguments as arrays. -/
abbrev g0 : FVec Ideal S2048x1024 .f32 := m ((c.tc : Thread nD τ).loc main_arg0)
abbrev g1 : FVec Ideal S8x1x256x1024 .bf16 := m ((c.tc : Thread nD τ).loc main_arg1)

/-- A block of rows' number as a grid point. -/
def pt (n : Fin 4) : Fin cfg0.N := ⟨n.val, lt_of_lt_of_eq n.isLt N_0.symm⟩

theorem index_0 : ∀ t : Fin cfg0.N, (cfg0.win 0).index t = ![t.val, 0] := by decide +kernel
theorem index_1 : ∀ t : Fin cfg0.N, (cfg0.win 1).index t = ![0, 0, 0, 0] := by decide +kernel
theorem index_2 : ∀ t : Fin cfg0.N, (cfg0.win 2).index t = ![t.val, 0] := by decide +kernel

theorem blk0_at (n : Fin 4) (a : Fin 512) (r : Fin 1024) : iblk m c 0 (pt n) (ix2 a r) = g0 m c (ix2 (join 2048 rfl n a) r) :=
  congrArg (g0 m c) (funext fun j => match j with
    | ⟨0, _⟩ => Fin.ext (emb_val 0 (pt n) (ix2 a r) ⟨0, by decide⟩ rfl n.val (512 * n.val + a.val) (congrFun (index_0 _) 0) (by show n.val * 512 + a.val = _; omega))
    | ⟨1, _⟩ => Fin.ext (emb_val 0 (pt n) (ix2 a r) ⟨1, by decide⟩ rfl 0 r.val (congrFun (index_0 _) 1) (by show 0 * 1024 + r.val = _; omega)))

theorem blk1_at (n : Fin 4) (k : Fin 8) (b : Fin 256) (r : Fin 1024) : iblk m c 1 (pt n) (ix4 k (0 : Fin 1) b r) = g1 m c (ix4 k (0 : Fin 1) b r) :=
  congrArg (g1 m c) (funext fun j => match j with
    | ⟨0, _⟩ => Fin.ext (emb_val 1 (pt n) (ix4 k (0 : Fin 1) b r) ⟨0, by decide⟩ rfl 0 k.val (congrFun (index_1 _) 0) (by show 0 * 8 + k.val = _; omega))
    | ⟨1, _⟩ => Fin.ext (emb_val 1 (pt n) (ix4 k (0 : Fin 1) b r) ⟨1, by decide⟩ rfl 0 0 (congrFun (index_1 _) 1) (by show 0 * 1 + 0 = _; omega))
    | ⟨2, _⟩ => Fin.ext (emb_val 1 (pt n) (ix4 k (0 : Fin 1) b r) ⟨2, by decide⟩ rfl 0 b.val (congrFun (index_1 _) 2) (by show 0 * 256 + b.val = _; omega))
    | ⟨3, _⟩ => Fin.ext (emb_val 1 (pt n) (ix4 k (0 : Fin 1) b r) ⟨3, by decide⟩ rfl 0 r.val (congrFun (index_1 _) 3) (by show 0 * 1024 + r.val = _; omega)))

theorem emb_2 (n : Fin 4) (a : Fin 512) (l : Fin 2048) : ((cfg0.win 2).blk (pt n)).view.emb (ix2 a l) = ix2 (join 2048 rfl n a) l :=
  funext fun j => match j with
    | ⟨0, _⟩ => Fin.ext (emb_val 2 (pt n) (ix2 a l) ⟨0, by decide⟩ rfl n.val (512 * n.val + a.val) (congrFun (index_2 _) 0) (by show n.val * 512 + a.val = _; omega))
    | ⟨1, _⟩ => Fin.ext (emb_val 2 (pt n) (ix2 a l) ⟨1, by decide⟩ rfl 0 l.val (congrFun (index_2 _) 1) (by show 0 * 2048 + l.val = _; omega))

/-- A step writes its block of the reference's result. -/
theorem step_at (n : Fin 4) (a : Fin 512) (k : Fin 8) (b : Fin 256) :
    outsAt0 m c (pt n) (ix2 a (join 2048 rfl k b)) = result (g0 m c) (g1 m c) (ix2 (join 2048 rfl n a) (join 2048 rfl k b)) := by
  unfold outsAt0
  rw [out_eq]
  exact (pay_at _ _ a k b).trans (Eq.trans (Finset.sum_congr rfl fun r _ =>
    congrArg₂ (fun x y : EReal => x * y) (blk0_at m c n a r) (blk1_at m c n k b r)) (result_at (g0 m c) (g1 m c) (join 2048 rfl n a) k b).symm)

/-- The array after the call is the reference's result. -/
theorem arr : (dats m 0 c).arrAt 2 cfg0.N = result (g0 m c) (g1 m c) := by
  refine Pipeline.Dat.arrAt_eq_of_cover _ _ _ (fun t _ => ?_) fun i => ?_
  · obtain ⟨n, rfl⟩ : ∃ n : Fin 4, t = pt n := ⟨⟨t.val, lt_of_lt_of_eq t.isLt N_0⟩, rfl⟩
    refine funext fun (y : S512x2048.Idx) => ?_
    obtain ⟨a, l, rfl⟩ : ∃ (a : Fin 512) (l : Fin 2048), y = ix2 a l := ⟨y 0, y 1, by2 y⟩
    obtain ⟨k, b, rfl⟩ := join_surj (p := 8) (q := 256) 2048 rfl l
    refine Eq.trans ?_ ((step_at m c n a k b).trans (congrArg (result (g0 m c) (g1 m c)) (emb_2 n a (join 2048 rfl k b)).symm))
    show (dats m 0 c).after 2 (pt n) (ix2 a (join 2048 rfl k b)) = _
    rw [after0_2]
  · obtain ⟨l', l, rfl⟩ : ∃ (l' l : Fin 2048), i = ix2 l' l := ⟨i 0, i 1, by2 i⟩
    obtain ⟨n, a, rfl⟩ := join_surj (p := 4) (q := 512) 2048 rfl l'
    exact ⟨pt n, flush0_2 _, Finset.mem_map.mpr ⟨ix2 a l, Finset.mem_univ _, emb_2 n a l⟩⟩

/-- Over the extended reals the call computes the reference's gradient. -/
theorem value : Cert.algebraic_KernelOutIdeal_ReferenceOutIdeal := fun m ρ m' ρ' _ hm =>
  ⟨_, (θ_run _ _ _).mono (fun _ h c => ⟨((h c).1).trans (arr m c), (h c).2⟩) (Cert.KernelOutIdeal.Value.run_blocks (F := Ideal) m ρ),
    (θ_run _ _ _).mono (fun _ h c => ⟨((h c).1).trans (by
      rw [(hm c).1, (hm c).2.1]; rfl), (h c).2⟩) (Cert.ReferenceOutIdeal.Value.run (F := Ideal) m' ρ')⟩

/-- The reference's frame. -/
theorem frame_ref : Cert.quiescent_ReferenceOutIdeal := fun m ρ _ =>
  (θ_run Cert.ReferenceOutIdeal.defs _ _).mono
    (fun r h => ⟨fun c => (h c).2, Idealize.ShloMosaic.sem_eq_zero_of_no_sems (by decide) r.2⟩)
    (Cert.ReferenceOutIdeal.Value.run (F := Ideal) m ρ)

end Cert.Proof.Mm.Out
-- ==== Proof.Mm.DwDownBlock.lean ====
/- One step of the gradient of the down projection's weights: the product of the step's blocks. -/
module

public import proofs.«01_k».proof.Proof.Mm.Common
public import proofs.«01_k».proof.Proof.Gen.KernelDwDownIdeal.Frame
public import Idealize.ShloMosaic.Lib.KernelVsHost
public import Idealize.ShloMosaic.PureOps.Ideal.Laws
public import Idealize.ShloMosaic.Lib.TwoAxisContraction

@[expose] public section

set_option maxRecDepth 16384

noncomputable section

namespace Cert.Proof.Mm.DwDown

open Cert.KernelDwDownIdeal Cert.KernelDwDownIdeal.Gen
open Idealize.ShloMosaic Idealize.ShloMosaic.ValueIdx

/-- Columns against columns. -/
theorem dot_at {φ ψ : FTy} (l : FVec Ideal S2048x512 φ) (q : FVec Ideal S2048x1024 φ) (a : Fin 512) (b : Fin 1024) :
    matmul dot_S2048x512_S2048x1024_S512x1024_0_0_1_1_n_n none l q (constant S512x1024 .f32 0x00000000#32) (ix2 a b)
      = ∑ r : Fin 2048, l (ix2 r a) * q (ix2 r b) :=
  unit_sum _ 2048 rfl rfl l q (ix2 a b) (fun r => ix2 r a) (fun r => ix2 r b)
    (fun _ => funext fun j => match j with
      | ⟨0, _⟩ => rfl
      | ⟨1, _⟩ => rfl) (fun _ => funext fun j => match j with
      | ⟨0, _⟩ => rfl
      | ⟨1, _⟩ => rfl)

/-- What a step stores, at an index. -/
theorem out_at (x : Vec Ideal S2048x512 .bf16) (y : Vec Ideal S2048x1024 .f32) (a : Fin 512) (b : Fin 1024) :
    out0_2 x y (ix3 (0 : Fin 1) a b) = ∑ r : Fin 2048, x (ix2 r a) * y (ix2 r b) := by
  unfold out0_2
  rw [View.canon_unit_zero origin3, View.ld_unit_zero origin2, View.ld_unit_zero origin2]
  unfold k0_pay1
  refine (shapeCast_apply _ _ (ix3 (0 : Fin 1) a b) (ix2 a b) (by
    rewrite [Shape.rowMajor_val_two, Shape.rowMajor_val_three]
    show a.val * 1024 + b.val = (0 * 512 + a.val) * 1024 + b.val
    omega)).trans ?_
  exact (narrow_at _ _ _).trans (dot_at (φ := .bf16) (ψ := .bf16) x (truncf .bf16 y bitsLt_bf16_f32) a b)

end Cert.Proof.Mm.DwDown
-- ==== Proof.Mm.DwDownRef.lean ====
/- The gradient of the down projection's weights in the reference, at an index. -/
module

public import proofs.«01_k».proof.Proof.Gen.ReferenceDwDownIdeal
public import Idealize.ShloMosaic.Lib.ValueIdx
public import Idealize.ShloMosaic.Lib.KernelVsHost
public import Idealize.ShloMosaic.PureOps.Ideal.Laws
public import Idealize.ShloMosaic.Lib.TwoAxisContraction
public import proofs.«01_k».proof.Proof.Mm.Common

@[expose] public section

set_option maxRecDepth 16384

noncomputable section

namespace Cert.Proof.Mm.DwDown

open Cert.ReferenceDwDownIdeal Cert.ReferenceDwDownIdeal.Gen
open Idealize.ShloMosaic Idealize.ShloMosaic.ValueIdx

theorem host_at (l : FVec Ideal S2048x1024 .f32) (q : FVec Ideal S2048x4096 .f32) (b : Fin 1024) (k : Fin 4096) :
    Host.dotGeneral (F := Ideal) dot_S2048x1024_S2048x4096_S1024x4096_0_0_1_1_n_n none l q (ix2 b k) = ∑ r : Fin 2048, l (ix2 r b) * q (ix2 r k) :=
  host_sum _ 2048 rfl rfl l q (ix2 b k) (fun r => ix2 r b) (fun r => ix2 r k)
    (fun _ => funext fun j => match j with
      | ⟨0, _⟩ => rfl
      | ⟨1, _⟩ => rfl) (fun _ => funext fun j => match j with
      | ⟨0, _⟩ => rfl
      | ⟨1, _⟩ => rfl)

/-- The reference's result. -/
def result (x : FVec Ideal S2048x4096 .bf16) (y : FVec Ideal S2048x1024 .f32) : FVec Ideal S8x512x1024 .bf16 :=
  truncf .bf16 (shapeCast _ (transpose S4096x1024 [1, 0] (Host.dotGeneral dot_S2048x1024_S2048x4096_S1024x4096_0_0_1_1_n_n none y (extf .f32 x bitsLt_bf16_f32)) transposes_S1024x4096_S4096x1024_1_0) shapeCasts_S4096x1024_S8x512x1024) bitsLt_bf16_f32

theorem result_at (x : FVec Ideal S2048x4096 .bf16) (y : FVec Ideal S2048x1024 .f32) (n : Fin 8) (a : Fin 512) (b : Fin 1024) :
    result x y (ix3 n a b) = ∑ r : Fin 2048, x (ix2 r (join 4096 rfl n a)) * y (ix2 r b) := by
  unfold result
  refine (narrow_at _ _ _).trans ?_
  refine (shapeCast_apply _ _ (ix3 n a b) (ix2 (join 4096 rfl n a) b) (by
    rewrite [Shape.rowMajor_val_two, Shape.rowMajor_val_three]
    show (512 * n.val + a.val) * 1024 + b.val = (n.val * 512 + a.val) * 1024 + b.val
    omega)).trans ?_
  refine Eq.trans (transpose_apply _ _ _ _ (ix2 b (join 4096 rfl n a)) (fun j => match j with
    | ⟨0, _⟩ => rfl
    | ⟨1, _⟩ => rfl)) ?_
  refine (host_at _ _ b (join 4096 rfl n a)).trans ?_
  exact Finset.sum_congr rfl fun r _ => mul_comm _ _

end Cert.Proof.Mm.DwDown
-- ==== Proof.Mm.DwDown.lean ====
/- The gradient of the down projection's weights: the whole array, and the claim. -/
module

public import proofs.«01_k».proof.Defs
public import proofs.«01_k».proof.Proof.Mm.DwDownBlock
public import proofs.«01_k».proof.Proof.Mm.DwDownRef
public import proofs.«01_k».proof.Proof.Gen.KernelDwDownIdeal.Value
public import proofs.«01_k».proof.Proof.Gen.ReferenceDwDownIdeal.Run

@[expose] public section

set_option maxRecDepth 16384

noncomputable section

namespace Cert.Proof.Mm.DwDown

open Cert.KernelDwDownIdeal Cert.KernelDwDownIdeal.Gen
open Idealize.ShloMosaic Idealize.ShloMosaic.ValueIdx Idealize.SL.Sem

variable (m : (ℓ : Loc nD τ sig) → Buf (Elt Ideal) ℓ) (c : Dev nD)

/-- The arguments as arrays. -/
abbrev g0 : FVec Ideal S2048x4096 .bf16 := m ((c.tc : Thread nD τ).loc main_arg0)
abbrev g1 : FVec Ideal S2048x1024 .f32 := m ((c.tc : Thread nD τ).loc main_arg1)

/-- A block's number as a grid point. -/
def pt (n : Fin 8) : Fin cfg0.N := ⟨n.val, lt_of_lt_of_eq n.isLt N_0.symm⟩

theorem index_0 : ∀ t : Fin cfg0.N, (cfg0.win 0).index t = ![0, t.val] := by decide +kernel
theorem index_1 : ∀ t : Fin cfg0.N, (cfg0.win 1).index t = ![0, 0] := by decide +kernel
theorem index_2 : ∀ t : Fin cfg0.N, (cfg0.win 2).index t = ![t.val, 0, 0] := by decide +kernel

/-- Where an entry of a block lies in its array, along one axis. -/
theorem emb_val (w : Fin cfg0.W) (t : Fin cfg0.N) (y : ((cfg0.win w).xblock (cfg0.grid.coords t)).Idx) (b : Fin (cfg0.win w).shape.rank)
    (hk : (cfg0.win w).kind = .blocked) (k z : ℕ) (hi : (cfg0.win w).index t b = k) (hz : k * (cfg0.win w).size b + (y b).val = z) :
    (((cfg0.win w).rect t).emb y b : ℕ) = z :=
  ((cfg0.win w).rect_emb_val t y b hk).trans (by rw [hi]; exact hz)

theorem blk0_at (n : Fin 8) (r : Fin 2048) (a : Fin 512) : iblk m c 0 (pt n) (ix2 r a) = g0 m c (ix2 r (join 4096 rfl n a)) :=
  congrArg (g0 m c) (funext fun b => match b with
    | ⟨0, _⟩ => Fin.ext (emb_val 0 (pt n) (ix2 r a) ⟨0, by decide⟩ rfl 0 r.val (congrFun (index_0 _) 0) (by show 0 * 2048 + r.val = _; omega))
    | ⟨1, _⟩ => Fin.ext (emb_val 0 (pt n) (ix2 r a) ⟨1, by decide⟩ rfl n.val (512 * n.val + a.val) (congrFun (index_0 _) 1) (by show n.val * 512 + a.val = _; omega)))

theorem blk1_at (n : Fin 8) (r : Fin 2048) (b : Fin 1024) : iblk m c 1 (pt n) (ix2 r b) = g1 m c (ix2 r b) :=
  congrArg (g1 m c) (funext fun j => match j with
    | ⟨0, _⟩ => Fin.ext (emb_val 1 (pt n) (ix2 r b) ⟨0, by decide⟩ rfl 0 r.val (congrFun (index_1 _) 0) (by show 0 * 2048 + r.val = _; omega))
    | ⟨1, _⟩ => Fin.ext (emb_val 1 (pt n) (ix2 r b) ⟨1, by decide⟩ rfl 0 b.val (congrFun (index_1 _) 1) (by show 0 * 1024 + b.val = _; omega)))

theorem emb_2 (n : Fin 8) (a : Fin 512) (b : Fin 1024) : ((cfg0.win 2).blk (pt n)).view.emb (ix3 (0 : Fin 1) a b) = ix3 n a b :=
  funext fun j => match j with
    | ⟨0, _⟩ => Fin.ext (emb_val 2 (pt n) (ix3 (0 : Fin 1) a b) ⟨0, by decide⟩ rfl n.val n.val (congrFun (index_2 _) 0) (by show n.val * 1 + 0 = _; omega))
    | ⟨1, _⟩ => Fin.ext (emb_val 2 (pt n) (ix3 (0 : Fin 1) a b) ⟨1, by decide⟩ rfl 0 a.val (congrFun (index_2 _) 1) (by show 0 * 512 + a.val = _; omega))
    | ⟨2, _⟩ => Fin.ext (emb_val 2 (pt n) (ix3 (0 : Fin 1) a b) ⟨2, by decide⟩ rfl 0 b.val (congrFun (index_2 _) 2) (by show 0 * 1024 + b.val = _; omega))

/-- A step writes its block of the reference's result. -/
theorem step_at (n : Fin 8) (a : Fin 512) (b : Fin 1024) :
    out0_2 (iblk m c 0 (pt n)) (iblk m c 1 (pt n)) (ix3 (0 : Fin 1) a b) = result (g0 m c) (g1 m c) (ix3 n a b) :=
  (out_at _ _ a b).trans (Eq.trans (Finset.sum_congr rfl fun r _ =>
    congrArg₂ (fun x y : EReal => x * y) (blk0_at m c n r a) (blk1_at m c n r b)) (result_at (g0 m c) (g1 m c) n a b).symm)

/-- The array after the call is the reference's result. -/
theorem arr : (dats m 0 c).arrAt 2 cfg0.N = result (g0 m c) (g1 m c) := by
  refine Pipeline.Dat.arrAt_eq_of_cover _ _ _ (fun t _ => ?_) fun i => ?_
  · obtain ⟨n, rfl⟩ : ∃ n : Fin 8, t = pt n := ⟨⟨t.val, lt_of_lt_of_eq t.isLt N_0⟩, rfl⟩
    refine funext fun (y : S1x512x1024.Idx) => ?_
    obtain ⟨a, b, rfl⟩ : ∃ (a : Fin 512) (b : Fin 1024), y = ix3 (0 : Fin 1) a b :=
      ⟨y 1, y 2, (by3 y).trans (congrArg (fun z : Fin 1 => ix3 z (y 1 : Fin 512) (y 2 : Fin 1024)) (Subsingleton.elim _ _))⟩
    refine Eq.trans ?_ ((step_at m c n a b).trans (congrArg (result (g0 m c) (g1 m c)) (emb_2 n a b).symm))
    show (dats m 0 c).after 2 (pt n) (ix3 (0 : Fin 1) a b) = _
    rw [after0_2]
  · obtain ⟨n, a, b, rfl⟩ : ∃ (n : Fin 8) (a : Fin 512) (b : Fin 1024), i = ix3 n a b := ⟨i 0, i 1, i 2, by3 i⟩
    exact ⟨pt n, flush0_2 _, Finset.mem_map.mpr ⟨ix3 (0 : Fin 1) a b, Finset.mem_univ _, emb_2 n a b⟩⟩

/-- Over the extended reals the call computes the reference's gradient. -/
theorem value : Cert.algebraic_KernelDwDownIdeal_ReferenceDwDownIdeal := fun m ρ m' ρ' _ hm =>
  ⟨_, (θ_run _ _ _).mono (fun _ h c => ⟨((h c).1).trans (arr m c), (h c).2⟩) (Cert.KernelDwDownIdeal.Value.run_blocks (F := Ideal) m ρ),
    (θ_run _ _ _).mono (fun _ h c => ⟨((h c).1).trans (by
      rw [(hm c).1, (hm c).2]; rfl), (h c).2⟩) (Cert.ReferenceDwDownIdeal.Value.run (F := Ideal) m' ρ')⟩

/-- The reference's frame. -/
theorem frame_ref : Cert.quiescent_ReferenceDwDownIdeal := fun m ρ _ =>
  (θ_run Cert.ReferenceDwDownIdeal.defs _ _).mono
    (fun r h => ⟨fun c => (h c).2, Idealize.ShloMosaic.sem_eq_zero_of_no_sems (by decide) r.2⟩)
    (Cert.ReferenceDwDownIdeal.Value.run (F := Ideal) m ρ)

end Cert.Proof.Mm.DwDown
-- ==== Proof.Mm.DwUpBlock.lean ====
/- One step of the gradient of the up projection's weights: the product of the step's blocks. -/
module

public import proofs.«01_k».proof.Proof.Gen.KernelDwUpIdeal.Frame
public import proofs.«01_k».proof.Proof.Mm.Common
public import Idealize.ShloMosaic.Lib.KernelVsHost
public import Idealize.ShloMosaic.PureOps.Ideal.Laws
public import Idealize.ShloMosaic.Lib.TwoAxisContraction

@[expose] public section

set_option maxRecDepth 16384

noncomputable section

namespace Cert.Proof.Mm.DwUp

open Cert.KernelDwUpIdeal Cert.KernelDwUpIdeal.Gen
open Idealize.ShloMosaic Idealize.ShloMosaic.ValueIdx

/-- Columns against columns. -/
theorem dot_at {φ ψ : FTy} (l : FVec Ideal S2048x1024 φ) (q : FVec Ideal S2048x512 ψ) (a : Fin 1024) (b : Fin 512) :
    matmul dot_S2048x1024_S2048x512_S1024x512_0_0_1_1_n_n none l q (constant S1024x512 .f32 0x00000000#32) (ix2 a b)
      = ∑ r : Fin 2048, l (ix2 r a) * q (ix2 r b) :=
  unit_sum _ 2048 rfl rfl l q (ix2 a b) (fun r => ix2 r a) (fun r => ix2 r b)
    (fun _ => funext fun j => match j with
      | ⟨0, _⟩ => rfl
      | ⟨1, _⟩ => rfl) (fun _ => funext fun j => match j with
      | ⟨0, _⟩ => rfl
      | ⟨1, _⟩ => rfl)

/-- What a step stores, at an index. -/
theorem out_at (x : Vec Ideal S2048x1024 .bf16) (y : Vec Ideal S2048x512 .bf16) (a : Fin 1024) (b : Fin 512) :
    out0_2 x y (ix3 (0 : Fin 1) a b) = ∑ r : Fin 2048, x (ix2 r a) * y (ix2 r b) := by
  unfold out0_2
  rw [View.canon_unit_zero origin3, View.ld_unit_zero origin2, View.ld_unit_zero origin2]
  unfold k0_pay1
  refine (shapeCast_apply _ _ (ix3 (0 : Fin 1) a b) (ix2 a b) (by
    rewrite [Shape.rowMajor_val_two, Shape.rowMajor_val_three]
    show a.val * 512 + b.val = (0 * 1024 + a.val) * 512 + b.val
    omega)).trans ?_
  exact (narrow_at _ _ _).trans (dot_at (φ := .bf16) (ψ := .bf16) x y a b)

end Cert.Proof.Mm.DwUp
-- ==== Proof.Mm.DwUpRef.lean ====
/- The gradient of the up projection's weights in the reference, at an index. -/
module

public import proofs.«01_k».proof.Proof.Gen.ReferenceDwUpIdeal
public import proofs.«01_k».proof.Proof.Mm.Common
public import Idealize.ShloMosaic.Lib.KernelVsHost
public import Idealize.ShloMosaic.PureOps.Ideal.Laws
public import Idealize.ShloMosaic.Lib.TwoAxisContraction

@[expose] public section

set_option maxRecDepth 16384

noncomputable section

namespace Cert.Proof.Mm.DwUp

open Cert.ReferenceDwUpIdeal Cert.ReferenceDwUpIdeal.Gen
open Idealize.ShloMosaic Idealize.ShloMosaic.ValueIdx

theorem host_at (l : FVec Ideal S2048x4096 .f32) (q : FVec Ideal S2048x1024 .f32) (k : Fin 4096) (a : Fin 1024) :
    Host.dotGeneral (F := Ideal) dot_S2048x4096_S2048x1024_S4096x1024_0_0_1_1_n_n none l q (ix2 k a) = ∑ r : Fin 2048, l (ix2 r k) * q (ix2 r a) :=
  host_sum _ 2048 rfl rfl l q (ix2 k a) (fun r => ix2 r k) (fun r => ix2 r a)
    (fun _ => funext fun j => match j with
      | ⟨0, _⟩ => rfl
      | ⟨1, _⟩ => rfl) (fun _ => funext fun j => match j with
      | ⟨0, _⟩ => rfl
      | ⟨1, _⟩ => rfl)

/-- The reference's result. -/
def result (x : FVec Ideal S2048x1024 .bf16) (y : FVec Ideal S2048x4096 .bf16) : FVec Ideal S8x1024x512 .bf16 :=
  truncf .bf16 (transpose S8x1024x512 [1, 0, 2] (shapeCast _ (transpose S1024x4096 [1, 0] (Host.dotGeneral dot_S2048x4096_S2048x1024_S4096x1024_0_0_1_1_n_n none (extf .f32 y bitsLt_bf16_f32) (extf .f32 x bitsLt_bf16_f32)) transposes_S4096x1024_S1024x4096_1_0) shapeCasts_S1024x4096_S1024x8x512) transposes_S1024x8x512_S8x1024x512_1_0_2) bitsLt_bf16_f32

theorem result_at (x : FVec Ideal S2048x1024 .bf16) (y : FVec Ideal S2048x4096 .bf16) (n : Fin 8) (a : Fin 1024) (b : Fin 512) :
    result x y (ix3 n a b) = ∑ r : Fin 2048, x (ix2 r a) * y (ix2 r (join 4096 rfl n b)) := by
  unfold result
  refine (narrow_at _ _ _).trans ?_
  refine Eq.trans (transpose_apply _ _ _ _ (ix3 a n b) (fun j => match j with
    | ⟨0, _⟩ => rfl
    | ⟨1, _⟩ => rfl
    | ⟨2, _⟩ => rfl)) ?_
  refine (shapeCast_apply _ _ (ix3 a n b) (ix2 a (join 4096 rfl n b)) (by
    rewrite [Shape.rowMajor_val_two, Shape.rowMajor_val_three]
    show a.val * 4096 + (512 * n.val + b.val) = (a.val * 8 + n.val) * 512 + b.val
    omega)).trans ?_
  refine Eq.trans (transpose_apply _ _ _ _ (ix2 (join 4096 rfl n b) a) (fun j => match j with
    | ⟨0, _⟩ => rfl
    | ⟨1, _⟩ => rfl)) ?_
  refine (host_at _ _ (join 4096 rfl n b) a).trans ?_
  exact Finset.sum_congr rfl fun r _ => mul_comm _ _

end Cert.Proof.Mm.DwUp
-- ==== Proof.Mm.DwUp.lean ====
/- The gradient of the up projection's weights: the whole array, and the claim. -/
module

public import proofs.«01_k».proof.Defs
public import proofs.«01_k».proof.Proof.Mm.DwUpBlock
public import proofs.«01_k».proof.Proof.Mm.DwUpRef
public import proofs.«01_k».proof.Proof.Gen.KernelDwUpIdeal.Value
public import proofs.«01_k».proof.Proof.Gen.ReferenceDwUpIdeal.Run

@[expose] public section

set_option maxRecDepth 16384

noncomputable section

namespace Cert.Proof.Mm.DwUp

open Cert.KernelDwUpIdeal Cert.KernelDwUpIdeal.Gen
open Idealize.ShloMosaic Idealize.ShloMosaic.ValueIdx Idealize.SL.Sem

variable (m : (ℓ : Loc nD τ sig) → Buf (Elt Ideal) ℓ) (c : Dev nD)

/-- Where an entry of a block lies in its array, along one axis. -/
theorem emb_val (w : Fin cfg0.W) (t : Fin cfg0.N) (y : ((cfg0.win w).xblock (cfg0.grid.coords t)).Idx) (b : Fin (cfg0.win w).shape.rank)
    (hk : (cfg0.win w).kind = .blocked) (k z : ℕ) (hi : (cfg0.win w).index t b = k) (hz : k * (cfg0.win w).size b + (y b).val = z) :
    (((cfg0.win w).rect t).emb y b : ℕ) = z :=
  ((cfg0.win w).rect_emb_val t y b hk).trans (by rw [hi]; exact hz)

/-- The arguments as arrays. -/
abbrev g0 : FVec Ideal S2048x1024 .bf16 := m ((c.tc : Thread nD τ).loc main_arg0)
abbrev g1 : FVec Ideal S2048x4096 .bf16 := m ((c.tc : Thread nD τ).loc main_arg1)

/-- A block's number as a grid point. -/
def pt (n : Fin 8) : Fin cfg0.N := ⟨n.val, lt_of_lt_of_eq n.isLt N_0.symm⟩

theorem index_0 : ∀ t : Fin cfg0.N, (cfg0.win 0).index t = ![0, 0] := by decide +kernel
theorem index_1 : ∀ t : Fin cfg0.N, (cfg0.win 1).index t = ![0, t.val] := by decide +kernel
theorem index_2 : ∀ t : Fin cfg0.N, (cfg0.win 2).index t = ![t.val, 0, 0] := by decide +kernel

theorem blk0_at (n : Fin 8) (r : Fin 2048) (a : Fin 1024) : iblk m c 0 (pt n) (ix2 r a) = g0 m c (ix2 r a) :=
  congrArg (g0 m c) (funext fun j => match j with
    | ⟨0, _⟩ => Fin.ext (emb_val 0 (pt n) (ix2 r a) ⟨0, by decide⟩ rfl 0 r.val (congrFun (index_0 _) 0) (by show 0 * 2048 + r.val = _; omega))
    | ⟨1, _⟩ => Fin.ext (emb_val 0 (pt n) (ix2 r a) ⟨1, by decide⟩ rfl 0 a.val (congrFun (index_0 _) 1) (by show 0 * 1024 + a.val = _; omega)))

theorem blk1_at (n : Fin 8) (r : Fin 2048) (b : Fin 512) : iblk m c 1 (pt n) (ix2 r b) = g1 m c (ix2 r (join 4096 rfl n b)) :=
  congrArg (g1 m c) (funext fun j => match j with
    | ⟨0, _⟩ => Fin.ext (emb_val 1 (pt n) (ix2 r b) ⟨0, by decide⟩ rfl 0 r.val (congrFun (index_1 _) 0) (by show 0 * 2048 + r.val = _; omega))
    | ⟨1, _⟩ => Fin.ext (emb_val 1 (pt n) (ix2 r b) ⟨1, by decide⟩ rfl n.val (512 * n.val + b.val) (congrFun (index_1 _) 1) (by show n.val * 512 + b.val = _; omega)))

theorem emb_2 (n : Fin 8) (a : Fin 1024) (b : Fin 512) : ((cfg0.win 2).blk (pt n)).view.emb (ix3 (0 : Fin 1) a b) = ix3 n a b :=
  funext fun j => match j with
    | ⟨0, _⟩ => Fin.ext (emb_val 2 (pt n) (ix3 (0 : Fin 1) a b) ⟨0, by decide⟩ rfl n.val n.val (congrFun (index_2 _) 0) (by show n.val * 1 + 0 = _; omega))
    | ⟨1, _⟩ => Fin.ext (emb_val 2 (pt n) (ix3 (0 : Fin 1) a b) ⟨1, by decide⟩ rfl 0 a.val (congrFun (index_2 _) 1) (by show 0 * 1024 + a.val = _; omega))
    | ⟨2, _⟩ => Fin.ext (emb_val 2 (pt n) (ix3 (0 : Fin 1) a b) ⟨2, by decide⟩ rfl 0 b.val (congrFun (index_2 _) 2) (by show 0 * 512 + b.val = _; omega))

/-- A step writes its block of the reference's result. -/
theorem step_at (n : Fin 8) (a : Fin 1024) (b : Fin 512) :
    out0_2 (iblk m c 0 (pt n)) (iblk m c 1 (pt n)) (ix3 (0 : Fin 1) a b) = result (g0 m c) (g1 m c) (ix3 n a b) :=
  (out_at _ _ a b).trans (Eq.trans (Finset.sum_congr rfl fun r _ =>
    congrArg₂ (fun x y : EReal => x * y) (blk0_at m c n r a) (blk1_at m c n r b)) (result_at (g0 m c) (g1 m c) n a b).symm)

/-- The array after the call is the reference's result. -/
theorem arr : (dats m 0 c).arrAt 2 cfg0.N = result (g0 m c) (g1 m c) := by
  refine Pipeline.Dat.arrAt_eq_of_cover _ _ _ (fun t _ => ?_) fun i => ?_
  · obtain ⟨n, rfl⟩ : ∃ n : Fin 8, t = pt n := ⟨⟨t.val, lt_of_lt_of_eq t.isLt N_0⟩, rfl⟩
    refine funext fun (y : S1x1024x512.Idx) => ?_
    obtain ⟨a, b, rfl⟩ : ∃ (a : Fin 1024) (b : Fin 512), y = ix3 (0 : Fin 1) a b :=
      ⟨y 1, y 2, (by3 y).trans (congrArg (fun z : Fin 1 => ix3 z (y 1 : Fin 1024) (y 2 : Fin 512)) (Subsingleton.elim _ _))⟩
    refine Eq.trans ?_ ((step_at m c n a b).trans (congrArg (result (g0 m c) (g1 m c)) (emb_2 n a b).symm))
    show (dats m 0 c).after 2 (pt n) (ix3 (0 : Fin 1) a b) = _
    rw [after0_2]
  · obtain ⟨n, a, b, rfl⟩ : ∃ (n : Fin 8) (a : Fin 1024) (b : Fin 512), i = ix3 n a b := ⟨i 0, i 1, i 2, by3 i⟩
    exact ⟨pt n, flush0_2 _, Finset.mem_map.mpr ⟨ix3 (0 : Fin 1) a b, Finset.mem_univ _, emb_2 n a b⟩⟩

/-- Over the extended reals the call computes the reference's gradient. -/
theorem value : Cert.algebraic_KernelDwUpIdeal_ReferenceDwUpIdeal := fun m ρ m' ρ' _ hm =>
  ⟨_, (θ_run _ _ _).mono (fun _ h c => ⟨((h c).1).trans (arr m c), (h c).2⟩) (Cert.KernelDwUpIdeal.Value.run_blocks (F := Ideal) m ρ),
    (θ_run _ _ _).mono (fun _ h c => ⟨((h c).1).trans (by
      rw [(hm c).1, (hm c).2]; rfl), (h c).2⟩) (Cert.ReferenceDwUpIdeal.Value.run (F := Ideal) m' ρ')⟩

/-- The reference's frame. -/
theorem frame_ref : Cert.quiescent_ReferenceDwUpIdeal := fun m ρ _ =>
  (θ_run Cert.ReferenceDwUpIdeal.defs _ _).mono
    (fun r h => ⟨fun c => (h c).2, Idealize.ShloMosaic.sem_eq_zero_of_no_sems (by decide) r.2⟩)
    (Cert.ReferenceDwUpIdeal.Value.run (F := Ideal) m ρ)

end Cert.Proof.Mm.DwUp
-- ==== Proof.Mm.DwOutBlock.lean ====
/- One step of the gradient of the attention output projection's weights: the product of the step's blocks. -/
module

public import proofs.«01_k».proof.Proof.Gen.KernelDwOutIdeal.Frame
public import proofs.«01_k».proof.Proof.Mm.Common
public import Idealize.ShloMosaic.Lib.KernelVsHost
public import Idealize.ShloMosaic.PureOps.Ideal.Laws
public import Idealize.ShloMosaic.Lib.TwoAxisContraction

@[expose] public section

set_option maxRecDepth 16384

noncomputable section

namespace Cert.Proof.Mm.DwOut

open Cert.KernelDwOutIdeal Cert.KernelDwOutIdeal.Gen
open Idealize.ShloMosaic Idealize.ShloMosaic.ValueIdx

/-- Columns against columns. -/
theorem dot_at {φ ψ : FTy} (l : FVec Ideal S2048x512 φ) (q : FVec Ideal S2048x1024 ψ) (a : Fin 512) (b : Fin 1024) :
    matmul dot_S2048x512_S2048x1024_S512x1024_0_0_1_1_n_n none l q (constant S512x1024 .f32 0x00000000#32) (ix2 a b)
      = ∑ r : Fin 2048, l (ix2 r a) * q (ix2 r b) :=
  unit_sum _ 2048 rfl rfl l q (ix2 a b) (fun r => ix2 r a) (fun r => ix2 r b)
    (fun _ => funext fun j => match j with
      | ⟨0, _⟩ => rfl
      | ⟨1, _⟩ => rfl) (fun _ => funext fun j => match j with
      | ⟨0, _⟩ => rfl
      | ⟨1, _⟩ => rfl)

/-- What a step stores, at an index: two blocks of 256 rows. -/
theorem out_at (x : Vec Ideal S2048x512 .bf16) (y : Vec Ideal S2048x1024 .f32) (e : Fin 2) (a : Fin 256) (b : Fin 1024) :
    out0_2 x y (ix3 e a b) = ∑ r : Fin 2048, x (ix2 r (join 512 rfl e a)) * y (ix2 r b) := by
  unfold out0_2
  rw [View.canon_unit_zero origin3, View.ld_unit_zero origin2, View.ld_unit_zero origin2]
  unfold k0_pay1
  refine (shapeCast_apply _ _ (ix3 e a b) (ix2 (join 512 rfl e a) b) (by
    rewrite [Shape.rowMajor_val_two, Shape.rowMajor_val_three]
    show (256 * e.val + a.val) * 1024 + b.val = (e.val * 256 + a.val) * 1024 + b.val
    omega)).trans ?_
  exact (narrow_at _ _ _).trans (dot_at (φ := .bf16) (ψ := .bf16) x (truncf .bf16 y bitsLt_bf16_f32) (join 512 rfl e a) b)

end Cert.Proof.Mm.DwOut
-- ==== Proof.Mm.DwOutRef.lean ====
/- The gradient of the attention output projection's weights in the reference, at an index. -/
module

public import proofs.«01_k».proof.Proof.Gen.ReferenceDwOutIdeal
public import proofs.«01_k».proof.Proof.Mm.Common
public import Idealize.ShloMosaic.Lib.KernelVsHost
public import Idealize.ShloMosaic.PureOps.Ideal.Laws
public import Idealize.ShloMosaic.Lib.TwoAxisContraction

@[expose] public section

set_option maxRecDepth 16384

noncomputable section

namespace Cert.Proof.Mm.DwOut

open Cert.ReferenceDwOutIdeal Cert.ReferenceDwOutIdeal.Gen
open Idealize.ShloMosaic Idealize.ShloMosaic.ValueIdx

theorem host_at (l : FVec Ideal S2048x1024 .f32) (q : FVec Ideal S2048x2048 .f32) (b : Fin 1024) (k : Fin 2048) :
    Host.dotGeneral (F := Ideal) dot_S2048x1024_S2048x2048_S1024x2048_0_0_1_1_n_n none l q (ix2 b k) = ∑ r : Fin 2048, l (ix2 r b) * q (ix2 r k) :=
  host_sum _ 2048 rfl rfl l q (ix2 b k) (fun r => ix2 r b) (fun r => ix2 r k)
    (fun _ => funext fun j => match j with
      | ⟨0, _⟩ => rfl
      | ⟨1, _⟩ => rfl) (fun _ => funext fun j => match j with
      | ⟨0, _⟩ => rfl
      | ⟨1, _⟩ => rfl)

/-- The reference's result. -/
def result (x : FVec Ideal S2048x2048 .bf16) (y : FVec Ideal S2048x1024 .f32) : FVec Ideal S8x256x1024 .bf16 :=
  truncf .bf16 (shapeCast _ (transpose S2048x1024 [1, 0] (Host.dotGeneral dot_S2048x1024_S2048x2048_S1024x2048_0_0_1_1_n_n none y (extf .f32 x bitsLt_bf16_f32)) transposes_S1024x2048_S2048x1024_1_0) shapeCasts_S2048x1024_S8x256x1024) bitsLt_bf16_f32

theorem result_at (x : FVec Ideal S2048x2048 .bf16) (y : FVec Ideal S2048x1024 .f32) (n : Fin 8) (a : Fin 256) (b : Fin 1024) :
    result x y (ix3 n a b) = ∑ r : Fin 2048, x (ix2 r (join 2048 rfl n a)) * y (ix2 r b) := by
  unfold result
  refine (narrow_at _ _ _).trans ?_
  refine (shapeCast_apply _ _ (ix3 n a b) (ix2 (join 2048 rfl n a) b) (by
    rewrite [Shape.rowMajor_val_two, Shape.rowMajor_val_three]
    show (256 * n.val + a.val) * 1024 + b.val = (n.val * 256 + a.val) * 1024 + b.val
    omega)).trans ?_
  refine Eq.trans (transpose_apply _ _ _ _ (ix2 b (join 2048 rfl n a)) (fun j => match j with
    | ⟨0, _⟩ => rfl
    | ⟨1, _⟩ => rfl)) ?_
  refine (host_at _ _ b (join 2048 rfl n a)).trans ?_
  exact Finset.sum_congr rfl fun r _ => mul_comm _ _

end Cert.Proof.Mm.DwOut
-- ==== Proof.Mm.DwOut.lean ====
/- The gradient of the attention output projection's weights: the whole array, and the claim. -/
module

public import proofs.«01_k».proof.Defs
public import proofs.«01_k».proof.Proof.Mm.DwOutBlock
public import proofs.«01_k».proof.Proof.Mm.DwOutRef
public import proofs.«01_k».proof.Proof.Gen.KernelDwOutIdeal.Value
public import proofs.«01_k».proof.Proof.Gen.ReferenceDwOutIdeal.Run

@[expose] public section

set_option maxRecDepth 16384

noncomputable section

namespace Cert.Proof.Mm.DwOut

open Cert.KernelDwOutIdeal Cert.KernelDwOutIdeal.Gen
open Idealize.ShloMosaic Idealize.ShloMosaic.ValueIdx Idealize.SL.Sem

variable (m : (ℓ : Loc nD τ sig) → Buf (Elt Ideal) ℓ) (c : Dev nD)

/-- Where an entry of a block lies in its array, along one axis. -/
theorem emb_val (w : Fin cfg0.W) (t : Fin cfg0.N) (y : ((cfg0.win w).xblock (cfg0.grid.coords t)).Idx) (b : Fin (cfg0.win w).shape.rank)
    (hk : (cfg0.win w).kind = .blocked) (k z : ℕ) (hi : (cfg0.win w).index t b = k) (hz : k * (cfg0.win w).size b + (y b).val = z) :
    (((cfg0.win w).rect t).emb y b : ℕ) = z :=
  ((cfg0.win w).rect_emb_val t y b hk).trans (by rw [hi]; exact hz)

/-- The arguments as arrays. -/
abbrev g0 : FVec Ideal S2048x2048 .bf16 := m ((c.tc : Thread nD τ).loc main_arg0)
abbrev g1 : FVec Ideal S2048x1024 .f32 := m ((c.tc : Thread nD τ).loc main_arg1)

/-- A pair of blocks' number as a grid point. -/
def pt (n : Fin 4) : Fin cfg0.N := ⟨n.val, lt_of_lt_of_eq n.isLt N_0.symm⟩

theorem index_0 : ∀ t : Fin cfg0.N, (cfg0.win 0).index t = ![0, t.val] := by decide +kernel
theorem index_1 : ∀ t : Fin cfg0.N, (cfg0.win 1).index t = ![0, 0] := by decide +kernel
theorem index_2 : ∀ t : Fin cfg0.N, (cfg0.win 2).index t = ![t.val, 0, 0] := by decide +kernel

theorem blk0_at (n : Fin 4) (e : Fin 2) (r : Fin 2048) (a : Fin 256) :
    iblk m c 0 (pt n) (ix2 r (join 512 rfl e a)) = g0 m c (ix2 r (join 2048 rfl (join 8 rfl n e) a)) :=
  congrArg (g0 m c) (funext fun j => match j with
    | ⟨0, _⟩ => Fin.ext (emb_val 0 (pt n) (ix2 r (join 512 rfl e a)) ⟨0, by decide⟩ rfl 0 r.val (congrFun (index_0 _) 0) (by show 0 * 2048 + r.val = _; omega))
    | ⟨1, _⟩ => Fin.ext (emb_val 0 (pt n) (ix2 r (join 512 rfl e a)) ⟨1, by decide⟩ rfl n.val (256 * (2 * n.val + e.val) + a.val) (congrFun (index_0 _) 1)
        (by show n.val * 512 + (256 * e.val + a.val) = _; omega)))

theorem blk1_at (n : Fin 4) (r : Fin 2048) (b : Fin 1024) : iblk m c 1 (pt n) (ix2 r b) = g1 m c (ix2 r b) :=
  congrArg (g1 m c) (funext fun j => match j with
    | ⟨0, _⟩ => Fin.ext (emb_val 1 (pt n) (ix2 r b) ⟨0, by decide⟩ rfl 0 r.val (congrFun (index_1 _) 0) (by show 0 * 2048 + r.val = _; omega))
    | ⟨1, _⟩ => Fin.ext (emb_val 1 (pt n) (ix2 r b) ⟨1, by decide⟩ rfl 0 b.val (congrFun (index_1 _) 1) (by show 0 * 1024 + b.val = _; omega)))

theorem emb_2 (n : Fin 4) (e : Fin 2) (a : Fin 256) (b : Fin 1024) : ((cfg0.win 2).blk (pt n)).view.emb (ix3 e a b) = ix3 (join 8 rfl n e) a b :=
  funext fun j => match j with
    | ⟨0, _⟩ => Fin.ext (emb_val 2 (pt n) (ix3 e a b) ⟨0, by decide⟩ rfl n.val (2 * n.val + e.val) (congrFun (index_2 _) 0) (by show n.val * 2 + e.val = _; omega))
    | ⟨1, _⟩ => Fin.ext (emb_val 2 (pt n) (ix3 e a b) ⟨1, by decide⟩ rfl 0 a.val (congrFun (index_2 _) 1) (by show 0 * 256 + a.val = _; omega))
    | ⟨2, _⟩ => Fin.ext (emb_val 2 (pt n) (ix3 e a b) ⟨2, by decide⟩ rfl 0 b.val (congrFun (index_2 _) 2) (by show 0 * 1024 + b.val = _; omega))

/-- A step writes its blocks of the reference's result. -/
theorem step_at (n : Fin 4) (e : Fin 2) (a : Fin 256) (b : Fin 1024) :
    out0_2 (iblk m c 0 (pt n)) (iblk m c 1 (pt n)) (ix3 e a b) = result (g0 m c) (g1 m c) (ix3 (join 8 rfl n e) a b) :=
  (out_at _ _ e a b).trans (Eq.trans (Finset.sum_congr rfl fun r _ =>
    congrArg₂ (fun x y : EReal => x * y) (blk0_at m c n e r a) (blk1_at m c n r b)) (result_at (g0 m c) (g1 m c) (join 8 rfl n e) a b).symm)

/-- The array after the call is the reference's result. -/
theorem arr : (dats m 0 c).arrAt 2 cfg0.N = result (g0 m c) (g1 m c) := by
  refine Pipeline.Dat.arrAt_eq_of_cover _ _ _ (fun t _ => ?_) fun i => ?_
  · obtain ⟨n, rfl⟩ : ∃ n : Fin 4, t = pt n := ⟨⟨t.val, lt_of_lt_of_eq t.isLt N_0⟩, rfl⟩
    refine funext fun (y : S2x256x1024.Idx) => ?_
    obtain ⟨e, a, b, rfl⟩ : ∃ (e : Fin 2) (a : Fin 256) (b : Fin 1024), y = ix3 e a b := ⟨y 0, y 1, y 2, by3 y⟩
    refine Eq.trans ?_ ((step_at m c n e a b).trans (congrArg (result (g0 m c) (g1 m c)) (emb_2 n e a b).symm))
    show (dats m 0 c).after 2 (pt n) (ix3 e a b) = _
    rw [after0_2]
  · obtain ⟨k, a, b, rfl⟩ : ∃ (k : Fin 8) (a : Fin 256) (b : Fin 1024), i = ix3 k a b := ⟨i 0, i 1, i 2, by3 i⟩
    obtain ⟨n, e, rfl⟩ := join_surj (p := 4) (q := 2) 8 rfl k
    exact ⟨pt n, flush0_2 _, Finset.mem_map.mpr ⟨ix3 e a b, Finset.mem_univ _, emb_2 n e a b⟩⟩

/-- Over the extended reals the call computes the reference's gradient. -/
theorem value : Cert.algebraic_KernelDwOutIdeal_ReferenceDwOutIdeal := fun m ρ m' ρ' _ hm =>
  ⟨_, (θ_run _ _ _).mono (fun _ h c => ⟨((h c).1).trans (arr m c), (h c).2⟩) (Cert.KernelDwOutIdeal.Value.run_blocks (F := Ideal) m ρ),
    (θ_run _ _ _).mono (fun _ h c => ⟨((h c).1).trans (by
      rw [(hm c).1, (hm c).2]; rfl), (h c).2⟩) (Cert.ReferenceDwOutIdeal.Value.run (F := Ideal) m' ρ')⟩

/-- The reference's frame. -/
theorem frame_ref : Cert.quiescent_ReferenceDwOutIdeal := fun m ρ _ =>
  (θ_run Cert.ReferenceDwOutIdeal.defs _ _).mono
    (fun r h => ⟨fun c => (h c).2, Idealize.ShloMosaic.sem_eq_zero_of_no_sems (by decide) r.2⟩)
    (Cert.ReferenceDwOutIdeal.Value.run (F := Ideal) m ρ)

end Cert.Proof.Mm.DwOut
-- ==== Proof.Mm.DwInBlock.lean ====
/- One step of the gradient of the input projection's weights: the product of the step's blocks. -/
module

public import proofs.«01_k».proof.Proof.Gen.KernelDwInIdeal.Frame
public import proofs.«01_k».proof.Proof.Mm.Common
public import Idealize.ShloMosaic.Lib.KernelVsHost
public import Idealize.ShloMosaic.PureOps.Ideal.Laws
public import Idealize.ShloMosaic.Lib.TwoAxisContraction

@[expose] public section

set_option maxRecDepth 16384

noncomputable section

namespace Cert.Proof.Mm.DwIn

open Cert.KernelDwInIdeal Cert.KernelDwInIdeal.Gen
open Idealize.ShloMosaic Idealize.ShloMosaic.ValueIdx

/-- Columns against columns. -/
theorem dot_at {φ ψ : FTy} (l : FVec Ideal S2048x512 φ) (q : FVec Ideal S2048x640 ψ) (a : Fin 512) (b : Fin 640) :
    matmul dot_S2048x512_S2048x640_S512x640_0_0_1_1_n_n none l q (constant S512x640 .f32 0x00000000#32) (ix2 a b)
      = ∑ r : Fin 2048, l (ix2 r a) * q (ix2 r b) :=
  unit_sum _ 2048 rfl rfl l q (ix2 a b) (fun r => ix2 r a) (fun r => ix2 r b)
    (fun _ => funext fun j => match j with
      | ⟨0, _⟩ => rfl
      | ⟨1, _⟩ => rfl) (fun _ => funext fun j => match j with
      | ⟨0, _⟩ => rfl
      | ⟨1, _⟩ => rfl)

/-- What a step stores, at an index. -/
theorem out_at (x : Vec Ideal S2048x512 .bf16) (y : Vec Ideal S2048x640 .bf16) (a : Fin 512) (b : Fin 640) :
    out0_2 x y (ix2 a b) = ∑ r : Fin 2048, x (ix2 r a) * y (ix2 r b) := by
  unfold out0_2
  rw [View.canon_unit_zero origin2, View.ld_unit_zero origin2, View.ld_unit_zero origin2]
  unfold k0_pay1
  exact (narrow_at _ _ _).trans (dot_at (φ := .bf16) (ψ := .bf16) x y a b)

end Cert.Proof.Mm.DwIn
-- ==== Proof.Mm.DwInRef.lean ====
/- The gradient of the input projection's weights in the reference, at an index. -/
module

public import proofs.«01_k».proof.Proof.Gen.ReferenceDwInIdeal
public import proofs.«01_k».proof.Proof.Mm.Common
public import Idealize.ShloMosaic.Lib.KernelVsHost
public import Idealize.ShloMosaic.PureOps.Ideal.Laws
public import Idealize.ShloMosaic.Lib.TwoAxisContraction

@[expose] public section

set_option maxRecDepth 16384

noncomputable section

namespace Cert.Proof.Mm.DwIn

open Cert.ReferenceDwInIdeal Cert.ReferenceDwInIdeal.Gen
open Idealize.ShloMosaic Idealize.ShloMosaic.ValueIdx

theorem host_at (l : FVec Ideal S2048x4480 .f32) (q : FVec Ideal S2048x1024 .f32) (k : Fin 4480) (a : Fin 1024) :
    Host.dotGeneral (F := Ideal) dot_S2048x4480_S2048x1024_S4480x1024_0_0_1_1_n_n none l q (ix2 k a) = ∑ r : Fin 2048, l (ix2 r k) * q (ix2 r a) :=
  host_sum _ 2048 rfl rfl l q (ix2 k a) (fun r => ix2 r k) (fun r => ix2 r a)
    (fun _ => funext fun j => match j with
      | ⟨0, _⟩ => rfl
      | ⟨1, _⟩ => rfl) (fun _ => funext fun j => match j with
      | ⟨0, _⟩ => rfl
      | ⟨1, _⟩ => rfl)

/-- The reference's result. -/
def result (x : FVec Ideal S2048x1024 .bf16) (y : FVec Ideal S2048x4480 .bf16) : FVec Ideal S1024x4480 .bf16 :=
  truncf .bf16 (transpose S1024x4480 [1, 0] (Host.dotGeneral dot_S2048x4480_S2048x1024_S4480x1024_0_0_1_1_n_n none (extf .f32 y bitsLt_bf16_f32) (extf .f32 x bitsLt_bf16_f32)) transposes_S4480x1024_S1024x4480_1_0) bitsLt_bf16_f32

theorem result_at (x : FVec Ideal S2048x1024 .bf16) (y : FVec Ideal S2048x4480 .bf16) (a : Fin 1024) (k : Fin 4480) :
    result x y (ix2 a k) = ∑ r : Fin 2048, x (ix2 r a) * y (ix2 r k) := by
  unfold result
  refine (narrow_at _ _ _).trans ?_
  refine Eq.trans (transpose_apply _ _ _ _ (ix2 k a) (fun j => match j with
    | ⟨0, _⟩ => rfl
    | ⟨1, _⟩ => rfl)) ?_
  refine (host_at _ _ k a).trans ?_
  exact Finset.sum_congr rfl fun r _ => mul_comm _ _

end Cert.Proof.Mm.DwIn
-- ==== Proof.Mm.DwIn.lean ====
/- The gradient of the input projection's weights: the whole array, and the claim. -/
module

public import proofs.«01_k».proof.Defs
public import proofs.«01_k».proof.Proof.Mm.DwInBlock
public import proofs.«01_k».proof.Proof.Mm.DwInRef
public import proofs.«01_k».proof.Proof.Gen.KernelDwInIdeal.Value
public import proofs.«01_k».proof.Proof.Gen.ReferenceDwInIdeal.Run

@[expose] public section

set_option maxRecDepth 16384

noncomputable section

namespace Cert.Proof.Mm.DwIn

open Cert.KernelDwInIdeal Cert.KernelDwInIdeal.Gen
open Idealize.ShloMosaic Idealize.ShloMosaic.ValueIdx Idealize.SL.Sem

variable (m : (ℓ : Loc nD τ sig) → Buf (Elt Ideal) ℓ) (c : Dev nD)

/-- Where an entry of a block lies in its array, along one axis. -/
theorem emb_val (w : Fin cfg0.W) (t : Fin cfg0.N) (y : ((cfg0.win w).xblock (cfg0.grid.coords t)).Idx) (b : Fin (cfg0.win w).shape.rank)
    (hk : (cfg0.win w).kind = .blocked) (k z : ℕ) (hi : (cfg0.win w).index t b = k) (hz : k * (cfg0.win w).size b + (y b).val = z) :
    (((cfg0.win w).rect t).emb y b : ℕ) = z :=
  ((cfg0.win w).rect_emb_val t y b hk).trans (by rw [hi]; exact hz)

/-- The arguments as arrays. -/
abbrev g0 : FVec Ideal S2048x1024 .bf16 := m ((c.tc : Thread nD τ).loc main_arg0)
abbrev g1 : FVec Ideal S2048x4480 .bf16 := m ((c.tc : Thread nD τ).loc main_arg1)

/-- A block's row and column numbers as a grid point. -/
def pt (n : Fin 2) (k : Fin 7) : Fin cfg0.N := ⟨(join 14 rfl n k).val, lt_of_lt_of_eq (join 14 rfl n k).isLt N_0.symm⟩

theorem index_0' : ∀ t : Fin cfg0.N, (cfg0.win 0).index t = ![0, t.val / 7] := by decide +kernel
theorem index_1' : ∀ t : Fin cfg0.N, (cfg0.win 1).index t = ![0, t.val % 7] := by decide +kernel
theorem index_2' : ∀ t : Fin cfg0.N, (cfg0.win 2).index t = ![t.val / 7, t.val % 7] := by decide +kernel

theorem pt_div (n : Fin 2) (k : Fin 7) : (pt n k).val / 7 = n.val := by show (7 * n.val + k.val) / 7 = _; omega
theorem pt_mod (n : Fin 2) (k : Fin 7) : (pt n k).val % 7 = k.val := by show (7 * n.val + k.val) % 7 = _; omega

theorem index_0 (n : Fin 2) (k : Fin 7) : (cfg0.win 0).index (pt n k) = ![0, n.val] := (index_0' _).trans (by rw [pt_div])
theorem index_1 (n : Fin 2) (k : Fin 7) : (cfg0.win 1).index (pt n k) = ![0, k.val] := (index_1' _).trans (by rw [pt_mod])
theorem index_2 (n : Fin 2) (k : Fin 7) : (cfg0.win 2).index (pt n k) = ![n.val, k.val] := (index_2' _).trans (by rw [pt_div, pt_mod])

theorem blk0_at (n : Fin 2) (k : Fin 7) (r : Fin 2048) (a : Fin 512) : iblk m c 0 (pt n k) (ix2 r a) = g0 m c (ix2 r (join 1024 rfl n a)) :=
  congrArg (g0 m c) (funext fun j => match j with
    | ⟨0, _⟩ => Fin.ext (emb_val 0 (pt n k) (ix2 r a) ⟨0, by decide⟩ rfl 0 r.val (congrFun (index_0 n k) 0) (by show 0 * 2048 + r.val = _; omega))
    | ⟨1, _⟩ => Fin.ext (emb_val 0 (pt n k) (ix2 r a) ⟨1, by decide⟩ rfl n.val (512 * n.val + a.val) (congrFun (index_0 n k) 1) (by show n.val * 512 + a.val = _; omega)))

theorem blk1_at (n : Fin 2) (k : Fin 7) (r : Fin 2048) (b : Fin 640) : iblk m c 1 (pt n k) (ix2 r b) = g1 m c (ix2 r (join 4480 rfl k b)) :=
  congrArg (g1 m c) (funext fun j => match j with
    | ⟨0, _⟩ => Fin.ext (emb_val 1 (pt n k) (ix2 r b) ⟨0, by decide⟩ rfl 0 r.val (congrFun (index_1 n k) 0) (by show 0 * 2048 + r.val = _; omega))
    | ⟨1, _⟩ => Fin.ext (emb_val 1 (pt n k) (ix2 r b) ⟨1, by decide⟩ rfl k.val (640 * k.val + b.val) (congrFun (index_1 n k) 1) (by show k.val * 640 + b.val = _; omega)))

theorem emb_2 (n : Fin 2) (k : Fin 7) (a : Fin 512) (b : Fin 640) :
    ((cfg0.win 2).blk (pt n k)).view.emb (ix2 a b) = ix2 (join 1024 rfl n a) (join 4480 rfl k b) :=
  funext fun j => match j with
    | ⟨0, _⟩ => Fin.ext (emb_val 2 (pt n k) (ix2 a b) ⟨0, by decide⟩ rfl n.val (512 * n.val + a.val) (congrFun (index_2 n k) 0) (by show n.val * 512 + a.val = _; omega))
    | ⟨1, _⟩ => Fin.ext (emb_val 2 (pt n k) (ix2 a b) ⟨1, by decide⟩ rfl k.val (640 * k.val + b.val) (congrFun (index_2 n k) 1) (by show k.val * 640 + b.val = _; omega))

/-- A step writes its block of the reference's result. -/
theorem step_at (n : Fin 2) (k : Fin 7) (a : Fin 512) (b : Fin 640) :
    out0_2 (iblk m c 0 (pt n k)) (iblk m c 1 (pt n k)) (ix2 a b) = result (g0 m c) (g1 m c) (ix2 (join 1024 rfl n a) (join 4480 rfl k b)) :=
  (out_at _ _ a b).trans (Eq.trans (Finset.sum_congr rfl fun r _ =>
    congrArg₂ (fun x y : EReal => x * y) (blk0_at m c n k r a) (blk1_at m c n k r b)) (result_at (g0 m c) (g1 m c) _ _).symm)

/-- The array after the call is the reference's result. -/
theorem arr : (dats m 0 c).arrAt 2 cfg0.N = result (g0 m c) (g1 m c) := by
  refine Pipeline.Dat.arrAt_eq_of_cover _ _ _ (fun t _ => ?_) fun i => ?_
  · obtain ⟨n, k, rfl⟩ : ∃ (n : Fin 2) (k : Fin 7), t = pt n k := by
      obtain ⟨n, k, h⟩ := join_surj (p := 2) (q := 7) 14 rfl ⟨t.val, lt_of_lt_of_eq t.isLt N_0⟩
      exact ⟨n, k, Fin.ext (congrArg Fin.val h)⟩
    refine funext fun (y : S512x640.Idx) => ?_
    obtain ⟨a, b, rfl⟩ : ∃ (a : Fin 512) (b : Fin 640), y = ix2 a b := ⟨y 0, y 1, by2 y⟩
    refine Eq.trans ?_ ((step_at m c n k a b).trans (congrArg (result (g0 m c) (g1 m c)) (emb_2 n k a b).symm))
    show (dats m 0 c).after 2 (pt n k) (ix2 a b) = _
    rw [after0_2]
  · obtain ⟨l, l', rfl⟩ : ∃ (l : Fin 1024) (l' : Fin 4480), i = ix2 l l' := ⟨i 0, i 1, by2 i⟩
    obtain ⟨n, a, rfl⟩ := join_surj (p := 2) (q := 512) 1024 rfl l
    obtain ⟨k, b, rfl⟩ := join_surj (p := 7) (q := 640) 4480 rfl l'
    exact ⟨pt n k, flush0_2 _, Finset.mem_map.mpr ⟨ix2 a b, Finset.mem_univ _, emb_2 n k a b⟩⟩

/-- Over the extended reals the call computes the reference's gradient. -/
theorem value : Cert.algebraic_KernelDwInIdeal_ReferenceDwInIdeal := fun m ρ m' ρ' _ hm =>
  ⟨_, (θ_run _ _ _).mono (fun _ h c => ⟨((h c).1).trans (arr m c), (h c).2⟩) (Cert.KernelDwInIdeal.Value.run_blocks (F := Ideal) m ρ),
    (θ_run _ _ _).mono (fun _ h c => ⟨((h c).1).trans (by
      rw [(hm c).1, (hm c).2]; rfl), (h c).2⟩) (Cert.ReferenceDwInIdeal.Value.run (F := Ideal) m' ρ')⟩

/-- The reference's frame. -/
theorem frame_ref : Cert.quiescent_ReferenceDwInIdeal := fun m ρ _ =>
  (θ_run Cert.ReferenceDwInIdeal.defs _ _).mono
    (fun r h => ⟨fun c => (h c).2, Idealize.ShloMosaic.sem_eq_zero_of_no_sems (by decide) r.2⟩)
    (Cert.ReferenceDwInIdeal.Value.run (F := Ideal) m ρ)

end Cert.Proof.Mm.DwIn
-- ==== Proof.Mm.ResDownBlock.lean ====
/- One step of the MLP's down projection added to its residual: the product of the step's blocks, on the residual. -/
module

public import proofs.«01_k».proof.Proof.Gen.KernelResDownIdeal.Frame
public import proofs.«01_k».proof.Proof.Mm.Common
public import Idealize.ShloMosaic.Lib.TwoAxisContraction

@[expose] public section

set_option maxRecDepth 16384

noncomputable section

namespace Cert.Proof.Mm.ResDown

open Cert.KernelResDownIdeal Cert.KernelResDownIdeal.Gen
open Idealize.ShloMosaic Idealize.ShloMosaic.ValueIdx

/-- Rows against columns. -/
theorem dot_at {φ ψ : FTy} (l : FVec Ideal S512x4096 φ) (q : FVec Ideal S4096x1024 ψ) (a : Fin 512) (b : Fin 1024) :
    matmul dot_S512x4096_S4096x1024_S512x1024_1_0_0_1_n_n none l q (constant S512x1024 .f32 0x00000000#32) (ix2 a b)
      = ∑ r : Fin 4096, l (ix2 a r) * q (ix2 r b) :=
  unit_sum _ 4096 rfl rfl l q (ix2 a b) (fun r => ix2 a r) (fun r => ix2 r b)
    (fun _ => funext fun j => match j with
      | ⟨0, _⟩ => rfl
      | ⟨1, _⟩ => rfl) (fun _ => funext fun j => match j with
      | ⟨0, _⟩ => rfl
      | ⟨1, _⟩ => rfl)

/-- Where row `r` of the weights lies among the eight shards. -/
abbrev shard (r : Fin 4096) : Fin 8 := ⟨r.val / 512, by have := r.isLt; omega⟩
abbrev inner (r : Fin 4096) : Fin 512 := ⟨r.val % 512, by omega⟩

/-- The product of a step's blocks on the residual, at an index. -/
theorem pay_at (x : Vec Ideal S512x4096 .bf16) (w : Vec Ideal S8x1x512x1024 .bf16) (y : Vec Ideal S512x1024 .f32) (a : Fin 512) (b : Fin 1024) :
    k0_pay1 w y x (ix2 a b) = y (ix2 a b) + ∑ r : Fin 4096, x (ix2 a r) * w (ix4 (shard r) (0 : Fin 1) (inner r) b) := by
  unfold k0_pay1
  refine congrArg (fun z : EReal => y (ix2 a b) + z) ?_
  refine (dot_at (φ := .bf16) (ψ := .bf16) x _ a b).trans ?_
  refine Finset.sum_congr rfl fun r _ => congrArg (fun z : EReal => x (ix2 a r) * z) ?_
  refine (shapeCast_apply _ _ (ix2 r b) (ix3 (shard r) (inner r) b) (by
    rewrite [Shape.rowMajor_val_two, Shape.rowMajor_val_three]
    show (r.val / 512 * 512 + r.val % 512) * 1024 + b.val = r.val * 1024 + b.val
    omega)).trans ?_
  exact shapeCast_apply _ _ (ix3 (shard r) (inner r) b) (ix4 (shard r) (0 : Fin 1) (inner r) b) (by
    rewrite [Shape.rowMajor_val_three, Shape.rowMajor_val_four]
    show ((r.val / 512 * 1 + 0) * 512 + r.val % 512) * 1024 + b.val = (r.val / 512 * 512 + r.val % 512) * 1024 + b.val
    omega)

/-- What a step stores is that. -/
theorem out_eq (c : Dev nD) (i : grid0.Coords) (a1 : Memref sig .tc .vmem S512x4096 .bf16) (h1 : a1.IsWhole)
    (a2 : Memref sig .tc .vmem S8x1x512x1024 .bf16) (h2 : a2.IsWhole) (a3 : Memref sig .tc .vmem S512x1024 .f32) (h3 : a3.IsWhole)
    (a5 : Memref sig .tc .vmem S512x1024 .f32) (h5 : a5.IsWhole)
    (x : Vec Ideal S512x4096 .bf16) (w : Vec Ideal S8x1x512x1024 .bf16) (y : Vec Ideal S512x1024 .f32) :
    out0_A_3 c i a1 h1 a2 h2 a3 h3 a5 h5 x w y = k0_pay1 w y x := by
  unfold out0_A_3
  rw [View.read_writes_junk_eq_canon]
  unfold kernelRun0_A
  dsimp only
  rw [View.canon_unit_zero origin2, View.readAt_eq_ld, View.readAt_eq_ld, View.readAt_eq_ld, h1.read_unread, h2.read_unread, h3.read_unread,
    View.ld_unit_zero origin4, View.ld_unit_zero (S := S512x1024) origin2, View.ld_unit_zero (S := S512x4096) origin2]

end Cert.Proof.Mm.ResDown
-- ==== Proof.Mm.ResDownRef.lean ====
/- The reference of the MLP's down projection added to its residual, at an index. -/
module

public import proofs.«01_k».proof.Proof.Gen.ReferenceResDownIdeal
public import proofs.«01_k».proof.Proof.Mm.Common
public import Idealize.ShloMosaic.Lib.TwoAxisContraction

@[expose] public section

set_option maxRecDepth 16384

noncomputable section

namespace Cert.Proof.Mm.ResDown

open Cert.ReferenceResDownIdeal Cert.ReferenceResDownIdeal.Gen
open Idealize.ShloMosaic Idealize.ShloMosaic.ValueIdx

theorem host_at (l : FVec Ideal S2048x4096 .f32) (q : FVec Ideal S4096x1024 .f32) (a : Fin 2048) (b : Fin 1024) :
    Host.dotGeneral (F := Ideal) dot_S2048x4096_S4096x1024_S2048x1024_1_0_0_1_n_n none l q (ix2 a b) = ∑ r : Fin 4096, l (ix2 a r) * q (ix2 r b) :=
  host_sum _ 4096 rfl rfl l q (ix2 a b) (fun r => ix2 a r) (fun r => ix2 r b)
    (fun _ => funext fun j => match j with
      | ⟨0, _⟩ => rfl
      | ⟨1, _⟩ => rfl) (fun _ => funext fun j => match j with
      | ⟨0, _⟩ => rfl
      | ⟨1, _⟩ => rfl)

/-- The reference's result. -/
def result (x : FVec Ideal S2048x4096 .bf16) (w : FVec Ideal S8x1x512x1024 .bf16) (y : FVec Ideal S2048x1024 .f32) : FVec Ideal S2048x1024 .f32 :=
  addf y (Host.dotGeneral dot_S2048x4096_S4096x1024_S2048x1024_1_0_0_1_n_n none (extf .f32 x bitsLt_bf16_f32)
    (extf .f32 (shapeCast _ w shapeCasts_S8x1x512x1024_S4096x1024) bitsLt_bf16_f32))

theorem result_at (x : FVec Ideal S2048x4096 .bf16) (w : FVec Ideal S8x1x512x1024 .bf16) (y : FVec Ideal S2048x1024 .f32) (a : Fin 2048) (b : Fin 1024) :
    result x w y (ix2 a b) = y (ix2 a b) + ∑ r : Fin 4096, x (ix2 a r)
      * w (ix4 (⟨r.val / 512, by have := r.isLt; omega⟩ : Fin 8) (0 : Fin 1) (⟨r.val % 512, by omega⟩ : Fin 512) b) := by
  unfold result
  refine congrArg (fun z : EReal => y (ix2 a b) + z) ?_
  refine (host_at _ _ a b).trans ?_
  refine Finset.sum_congr rfl fun r _ => congrArg (fun z : EReal => x (ix2 a r) * z) ?_
  exact shapeCast_apply _ _ (ix2 r b) (ix4 (⟨r.val / 512, by have := r.isLt; omega⟩ : Fin 8) (0 : Fin 1) (⟨r.val % 512, by omega⟩ : Fin 512) b) (by
    rewrite [Shape.rowMajor_val_two, Shape.rowMajor_val_four]
    show ((r.val / 512 * 1 + 0) * 512 + r.val % 512) * 1024 + b.val = r.val * 1024 + b.val
    omega)

end Cert.Proof.Mm.ResDown
-- ==== Proof.Mm.ResDown.lean ====
/- The MLP's down projection added to its residual: the whole array, and the claim. -/
module

public import proofs.«01_k».proof.Defs
public import proofs.«01_k».proof.Proof.Mm.ResDownBlock
public import proofs.«01_k».proof.Proof.Mm.ResDownRef
public import proofs.«01_k».proof.Proof.Gen.KernelResDownIdeal.Value
public import proofs.«01_k».proof.Proof.Gen.ReferenceResDownIdeal.Run

@[expose] public section

set_option maxRecDepth 16384

noncomputable section

namespace Cert.Proof.Mm.ResDown

open Cert.KernelResDownIdeal Cert.KernelResDownIdeal.Gen
open Idealize.ShloMosaic Idealize.ShloMosaic.ValueIdx Idealize.SL.Sem

variable (m : (ℓ : Loc nD τ sig) → Buf (Elt Ideal) ℓ) (c : Dev nD)

/-- Where an entry of a block lies in its array, along one axis. -/
theorem emb_val (w : Fin cfg0.W) (t : Fin cfg0.N) (y : ((cfg0.win w).xblock (cfg0.grid.coords t)).Idx) (b : Fin (cfg0.win w).shape.rank)
    (hk : (cfg0.win w).kind = .blocked) (k z : ℕ) (hi : (cfg0.win w).index t b = k) (hz : k * (cfg0.win w).size b + (y b).val = z) :
    (((cfg0.win w).rect t).emb y b : ℕ) = z :=
  ((cfg0.win w).rect_emb_val t y b hk).trans (by rw [hi]; exact hz)

/-- The arguments as arrays. -/
abbrev g0 : FVec Ideal S2048x4096 .bf16 := m ((c.tc : Thread nD τ).loc main_arg0)
abbrev g1 : FVec Ideal S8x1x512x1024 .bf16 := m ((c.tc : Thread nD τ).loc main_arg1)
abbrev g2 : FVec Ideal S2048x1024 .f32 := m ((c.tc : Thread nD τ).loc main_arg2)

/-- A block of rows' number as a grid point. -/
def pt (n : Fin 4) : Fin cfg0.N := ⟨n.val, lt_of_lt_of_eq n.isLt N_0.symm⟩

theorem index_0 : ∀ t : Fin cfg0.N, (cfg0.win 0).index t = ![t.val, 0] := by decide +kernel
theorem index_1 : ∀ t : Fin cfg0.N, (cfg0.win 1).index t = ![0, 0, 0, 0] := by decide +kernel
theorem index_2 : ∀ t : Fin cfg0.N, (cfg0.win 2).index t = ![t.val, 0] := by decide +kernel
theorem index_3 : ∀ t : Fin cfg0.N, (cfg0.win 3).index t = ![t.val, 0] := by decide +kernel

theorem blk0_at (n : Fin 4) (a : Fin 512) (r : Fin 4096) : iblk m c 0 (pt n) (ix2 a r) = g0 m c (ix2 (join 2048 rfl n a) r) :=
  congrArg (g0 m c) (funext fun j => match j with
    | ⟨0, _⟩ => Fin.ext (emb_val 0 (pt n) (ix2 a r) ⟨0, by decide⟩ rfl n.val (512 * n.val + a.val) (congrFun (index_0 _) 0) (by show n.val * 512 + a.val = _; omega))
    | ⟨1, _⟩ => Fin.ext (emb_val 0 (pt n) (ix2 a r) ⟨1, by decide⟩ rfl 0 r.val (congrFun (index_0 _) 1) (by show 0 * 4096 + r.val = _; omega)))

theorem blk1_at (n : Fin 4) (k : Fin 8) (b : Fin 512) (r : Fin 1024) : iblk m c 1 (pt n) (ix4 k (0 : Fin 1) b r) = g1 m c (ix4 k (0 : Fin 1) b r) :=
  congrArg (g1 m c) (funext fun j => match j with
    | ⟨0, _⟩ => Fin.ext (emb_val 1 (pt n) (ix4 k (0 : Fin 1) b r) ⟨0, by decide⟩ rfl 0 k.val (congrFun (index_1 _) 0) (by show 0 * 8 + k.val = _; omega))
    | ⟨1, _⟩ => Fin.ext (emb_val 1 (pt n) (ix4 k (0 : Fin 1) b r) ⟨1, by decide⟩ rfl 0 0 (congrFun (index_1 _) 1) (by show 0 * 1 + 0 = _; omega))
    | ⟨2, _⟩ => Fin.ext (emb_val 1 (pt n) (ix4 k (0 : Fin 1) b r) ⟨2, by decide⟩ rfl 0 b.val (congrFun (index_1 _) 2) (by show 0 * 512 + b.val = _; omega))
    | ⟨3, _⟩ => Fin.ext (emb_val 1 (pt n) (ix4 k (0 : Fin 1) b r) ⟨3, by decide⟩ rfl 0 r.val (congrFun (index_1 _) 3) (by show 0 * 1024 + r.val = _; omega)))

theorem blk2_at (n : Fin 4) (a : Fin 512) (l : Fin 1024) : iblk m c 2 (pt n) (ix2 a l) = g2 m c (ix2 (join 2048 rfl n a) l) :=
  congrArg (g2 m c) (funext fun j => match j with
    | ⟨0, _⟩ => Fin.ext (emb_val 2 (pt n) (ix2 a l) ⟨0, by decide⟩ rfl n.val (512 * n.val + a.val) (congrFun (index_2 _) 0) (by show n.val * 512 + a.val = _; omega))
    | ⟨1, _⟩ => Fin.ext (emb_val 2 (pt n) (ix2 a l) ⟨1, by decide⟩ rfl 0 l.val (congrFun (index_2 _) 1) (by show 0 * 1024 + l.val = _; omega)))

theorem emb_3 (n : Fin 4) (a : Fin 512) (l : Fin 1024) : ((cfg0.win 3).blk (pt n)).view.emb (ix2 a l) = ix2 (join 2048 rfl n a) l :=
  funext fun j => match j with
    | ⟨0, _⟩ => Fin.ext (emb_val 3 (pt n) (ix2 a l) ⟨0, by decide⟩ rfl n.val (512 * n.val + a.val) (congrFun (index_3 _) 0) (by show n.val * 512 + a.val = _; omega))
    | ⟨1, _⟩ => Fin.ext (emb_val 3 (pt n) (ix2 a l) ⟨1, by decide⟩ rfl 0 l.val (congrFun (index_3 _) 1) (by show 0 * 1024 + l.val = _; omega))

/-- A step writes its block of the reference's result. -/
theorem step_at (n : Fin 4) (a : Fin 512) (b : Fin 1024) :
    outsAt0 m c (pt n) (ix2 a b) = result (g0 m c) (g1 m c) (g2 m c) (ix2 (join 2048 rfl n a) b) := by
  unfold outsAt0
  rw [out_eq]
  refine (pay_at _ _ _ a b).trans (Eq.trans ?_ (result_at (g0 m c) (g1 m c) (g2 m c) (join 2048 rfl n a) b).symm)
  exact congrArg₂ (fun s t : EReal => s + t) (blk2_at m c n a b) (Finset.sum_congr rfl fun r _ =>
    congrArg₂ (fun x y : EReal => x * y) (blk0_at m c n a r) (blk1_at m c n (shard r) (inner r) b))

/-- The array after the call is the reference's result. -/
theorem arr : (dats m 0 c).arrAt 3 cfg0.N = result (g0 m c) (g1 m c) (g2 m c) := by
  refine Pipeline.Dat.arrAt_eq_of_cover _ _ _ (fun t _ => ?_) fun i => ?_
  · obtain ⟨n, rfl⟩ : ∃ n : Fin 4, t = pt n := ⟨⟨t.val, lt_of_lt_of_eq t.isLt N_0⟩, rfl⟩
    refine funext fun (y : S512x1024.Idx) => ?_
    obtain ⟨a, b, rfl⟩ : ∃ (a : Fin 512) (b : Fin 1024), y = ix2 a b := ⟨y 0, y 1, by2 y⟩
    refine Eq.trans ?_ ((step_at m c n a b).trans (congrArg (result (g0 m c) (g1 m c) (g2 m c)) (emb_3 n a b).symm))
    show (dats m 0 c).after 3 (pt n) (ix2 a b) = _
    rw [after0_3]
  · obtain ⟨l', l, rfl⟩ : ∃ (l' : Fin 2048) (l : Fin 1024), i = ix2 l' l := ⟨i 0, i 1, by2 i⟩
    obtain ⟨n, a, rfl⟩ := join_surj (p := 4) (q := 512) 2048 rfl l'
    exact ⟨pt n, flush0_3 _, Finset.mem_map.mpr ⟨ix2 a l, Finset.mem_univ _, emb_3 n a l⟩⟩

/-- Over the extended reals the call computes the reference's result. -/
theorem value : Cert.algebraic_KernelResDownIdeal_ReferenceResDownIdeal := fun m ρ m' ρ' _ hm =>
  ⟨_, (θ_run _ _ _).mono (fun _ h c => ⟨((h c).1).trans (arr m c), (h c).2⟩) (Cert.KernelResDownIdeal.Value.run_blocks (F := Ideal) m ρ),
    (θ_run _ _ _).mono (fun _ h c => ⟨((h c).1).trans (by
      rw [(hm c).1, (hm c).2.1, (hm c).2.2.1]; rfl), (h c).2⟩) (Cert.ReferenceResDownIdeal.Value.run (F := Ideal) m' ρ')⟩

/-- The reference's frame. -/
theorem frame_ref : Cert.quiescent_ReferenceResDownIdeal := fun m ρ _ =>
  (θ_run Cert.ReferenceResDownIdeal.defs _ _).mono
    (fun r h => ⟨fun c => (h c).2, Idealize.ShloMosaic.sem_eq_zero_of_no_sems (by decide) r.2⟩)
    (Cert.ReferenceResDownIdeal.Value.run (F := Ideal) m ρ)

end Cert.Proof.Mm.ResDown
-- ==== Proof.Mm.ResOutBlock.lean ====
/- One step of the attention output projection added to its residual: the product of the step's blocks, on the residual. -/
module

public import proofs.«01_k».proof.Proof.Gen.KernelResOutIdeal.Frame
public import proofs.«01_k».proof.Proof.Mm.Common
public import Idealize.ShloMosaic.Lib.TwoAxisContraction

@[expose] public section

set_option maxRecDepth 16384

noncomputable section

namespace Cert.Proof.Mm.ResOut

open Cert.KernelResOutIdeal Cert.KernelResOutIdeal.Gen
open Idealize.ShloMosaic Idealize.ShloMosaic.ValueIdx

/-- Rows against columns. -/
theorem dot_at {φ ψ : FTy} (l : FVec Ideal S512x2048 φ) (q : FVec Ideal S2048x1024 ψ) (a : Fin 512) (b : Fin 1024) :
    matmul dot_S512x2048_S2048x1024_S512x1024_1_0_0_1_n_n none l q (constant S512x1024 .f32 0x00000000#32) (ix2 a b)
      = ∑ r : Fin 2048, l (ix2 a r) * q (ix2 r b) :=
  unit_sum _ 2048 rfl rfl l q (ix2 a b) (fun r => ix2 a r) (fun r => ix2 r b)
    (fun _ => funext fun j => match j with
      | ⟨0, _⟩ => rfl
      | ⟨1, _⟩ => rfl) (fun _ => funext fun j => match j with
      | ⟨0, _⟩ => rfl
      | ⟨1, _⟩ => rfl)

/-- Where row `r` of the weights lies among the eight shards. -/
abbrev shard (r : Fin 2048) : Fin 8 := ⟨r.val / 256, by have := r.isLt; omega⟩
abbrev inner (r : Fin 2048) : Fin 256 := ⟨r.val % 256, by omega⟩

/-- The product of a step's blocks on the residual, at an index. -/
theorem pay_at (x : Vec Ideal S512x2048 .bf16) (w : Vec Ideal S8x1x256x1024 .bf16) (y : Vec Ideal S512x1024 .f32) (a : Fin 512) (b : Fin 1024) :
    k0_pay1 w y x (ix2 a b) = y (ix2 a b) + ∑ r : Fin 2048, x (ix2 a r) * w (ix4 (shard r) (0 : Fin 1) (inner r) b) := by
  unfold k0_pay1
  refine congrArg (fun z : EReal => y (ix2 a b) + z) ?_
  refine (dot_at (φ := .bf16) (ψ := .bf16) x _ a b).trans ?_
  refine Finset.sum_congr rfl fun r _ => congrArg (fun z : EReal => x (ix2 a r) * z) ?_
  refine (shapeCast_apply _ _ (ix2 r b) (ix3 (shard r) (inner r) b) (by
    rewrite [Shape.rowMajor_val_two, Shape.rowMajor_val_three]
    show (r.val / 256 * 256 + r.val % 256) * 1024 + b.val = r.val * 1024 + b.val
    omega)).trans ?_
  exact shapeCast_apply _ _ (ix3 (shard r) (inner r) b) (ix4 (shard r) (0 : Fin 1) (inner r) b) (by
    rewrite [Shape.rowMajor_val_three, Shape.rowMajor_val_four]
    show ((r.val / 256 * 1 + 0) * 256 + r.val % 256) * 1024 + b.val = (r.val / 256 * 256 + r.val % 256) * 1024 + b.val
    omega)

/-- What a step stores is that. -/
theorem out_eq (c : Dev nD) (i : grid0.Coords) (a1 : Memref sig .tc .vmem S512x2048 .bf16) (h1 : a1.IsWhole)
    (a2 : Memref sig .tc .vmem S8x1x256x1024 .bf16) (h2 : a2.IsWhole) (a3 : Memref sig .tc .vmem S512x1024 .f32) (h3 : a3.IsWhole)
    (a5 : Memref sig .tc .vmem S512x1024 .f32) (h5 : a5.IsWhole)
    (x : Vec Ideal S512x2048 .bf16) (w : Vec Ideal S8x1x256x1024 .bf16) (y : Vec Ideal S512x1024 .f32) :
    out0_A_3 c i a1 h1 a2 h2 a3 h3 a5 h5 x w y = k0_pay1 w y x := by
  unfold out0_A_3
  rw [View.read_writes_junk_eq_canon]
  unfold kernelRun0_A
  dsimp only
  rw [View.canon_unit_zero origin2, View.readAt_eq_ld, View.readAt_eq_ld, View.readAt_eq_ld, h1.read_unread, h2.read_unread, h3.read_unread,
    View.ld_unit_zero origin4, View.ld_unit_zero (S := S512x1024) origin2, View.ld_unit_zero (S := S512x2048) origin2]

end Cert.Proof.Mm.ResOut
-- ==== Proof.Mm.ResOutRef.lean ====
/- The reference of the attention output projection added to its residual, at an index. -/
module

public import proofs.«01_k».proof.Proof.Gen.ReferenceResOutIdeal
public import proofs.«01_k».proof.Proof.Mm.Common
public import Idealize.ShloMosaic.Lib.TwoAxisContraction

@[expose] public section

set_option maxRecDepth 16384

noncomputable section

namespace Cert.Proof.Mm.ResOut

open Cert.ReferenceResOutIdeal Cert.ReferenceResOutIdeal.Gen
open Idealize.ShloMosaic Idealize.ShloMosaic.ValueIdx

theorem host_at (l : FVec Ideal S2048x2048 .f32) (q : FVec Ideal S2048x1024 .f32) (a : Fin 2048) (b : Fin 1024) :
    Host.dotGeneral (F := Ideal) dot_S2048x2048_S2048x1024_S2048x1024_1_0_0_1_n_n none l q (ix2 a b) = ∑ r : Fin 2048, l (ix2 a r) * q (ix2 r b) :=
  host_sum _ 2048 rfl rfl l q (ix2 a b) (fun r => ix2 a r) (fun r => ix2 r b)
    (fun _ => funext fun j => match j with
      | ⟨0, _⟩ => rfl
      | ⟨1, _⟩ => rfl) (fun _ => funext fun j => match j with
      | ⟨0, _⟩ => rfl
      | ⟨1, _⟩ => rfl)

/-- The reference's result. -/
def result (x : FVec Ideal S2048x2048 .bf16) (w : FVec Ideal S8x1x256x1024 .bf16) (y : FVec Ideal S2048x1024 .f32) : FVec Ideal S2048x1024 .f32 :=
  addf y (Host.dotGeneral dot_S2048x2048_S2048x1024_S2048x1024_1_0_0_1_n_n none (extf .f32 x bitsLt_bf16_f32)
    (extf .f32 (shapeCast _ w shapeCasts_S8x1x256x1024_S2048x1024) bitsLt_bf16_f32))

theorem result_at (x : FVec Ideal S2048x2048 .bf16) (w : FVec Ideal S8x1x256x1024 .bf16) (y : FVec Ideal S2048x1024 .f32) (a : Fin 2048) (b : Fin 1024) :
    result x w y (ix2 a b) = y (ix2 a b) + ∑ r : Fin 2048, x (ix2 a r)
      * w (ix4 (⟨r.val / 256, by have := r.isLt; omega⟩ : Fin 8) (0 : Fin 1) (⟨r.val % 256, by omega⟩ : Fin 256) b) := by
  unfold result
  refine congrArg (fun z : EReal => y (ix2 a b) + z) ?_
  refine (host_at _ _ a b).trans ?_
  refine Finset.sum_congr rfl fun r _ => congrArg (fun z : EReal => x (ix2 a r) * z) ?_
  exact shapeCast_apply _ _ (ix2 r b) (ix4 (⟨r.val / 256, by have := r.isLt; omega⟩ : Fin 8) (0 : Fin 1) (⟨r.val % 256, by omega⟩ : Fin 256) b) (by
    rewrite [Shape.rowMajor_val_two, Shape.rowMajor_val_four]
    show ((r.val / 256 * 1 + 0) * 256 + r.val % 256) * 1024 + b.val = r.val * 1024 + b.val
    omega)

end Cert.Proof.Mm.ResOut
-- ==== Proof.Mm.ResOut.lean ====
/- The attention output projection added to its residual: the whole array, and the claim. -/
module

public import proofs.«01_k».proof.Defs
public import proofs.«01_k».proof.Proof.Mm.ResOutBlock
public import proofs.«01_k».proof.Proof.Mm.ResOutRef
public import proofs.«01_k».proof.Proof.Gen.KernelResOutIdeal.Value
public import proofs.«01_k».proof.Proof.Gen.ReferenceResOutIdeal.Run

@[expose] public section

set_option maxRecDepth 16384

noncomputable section

namespace Cert.Proof.Mm.ResOut

open Cert.KernelResOutIdeal Cert.KernelResOutIdeal.Gen
open Idealize.ShloMosaic Idealize.ShloMosaic.ValueIdx Idealize.SL.Sem

variable (m : (ℓ : Loc nD τ sig) → Buf (Elt Ideal) ℓ) (c : Dev nD)

/-- Where an entry of a block lies in its array, along one axis. -/
theorem emb_val (w : Fin cfg0.W) (t : Fin cfg0.N) (y : ((cfg0.win w).xblock (cfg0.grid.coords t)).Idx) (b : Fin (cfg0.win w).shape.rank)
    (hk : (cfg0.win w).kind = .blocked) (k z : ℕ) (hi : (cfg0.win w).index t b = k) (hz : k * (cfg0.win w).size b + (y b).val = z) :
    (((cfg0.win w).rect t).emb y b : ℕ) = z :=
  ((cfg0.win w).rect_emb_val t y b hk).trans (by rw [hi]; exact hz)

/-- The arguments as arrays. -/
abbrev g0 : FVec Ideal S2048x2048 .bf16 := m ((c.tc : Thread nD τ).loc main_arg0)
abbrev g1 : FVec Ideal S8x1x256x1024 .bf16 := m ((c.tc : Thread nD τ).loc main_arg1)
abbrev g2 : FVec Ideal S2048x1024 .f32 := m ((c.tc : Thread nD τ).loc main_arg2)

/-- A block of rows' number as a grid point. -/
def pt (n : Fin 4) : Fin cfg0.N := ⟨n.val, lt_of_lt_of_eq n.isLt N_0.symm⟩

theorem index_0 : ∀ t : Fin cfg0.N, (cfg0.win 0).index t = ![t.val, 0] := by decide +kernel
theorem index_1 : ∀ t : Fin cfg0.N, (cfg0.win 1).index t = ![0, 0, 0, 0] := by decide +kernel
theorem index_2 : ∀ t : Fin cfg0.N, (cfg0.win 2).index t = ![t.val, 0] := by decide +kernel
theorem index_3 : ∀ t : Fin cfg0.N, (cfg0.win 3).index t = ![t.val, 0] := by decide +kernel

theorem blk0_at (n : Fin 4) (a : Fin 512) (r : Fin 2048) : iblk m c 0 (pt n) (ix2 a r) = g0 m c (ix2 (join 2048 rfl n a) r) :=
  congrArg (g0 m c) (funext fun j => match j with
    | ⟨0, _⟩ => Fin.ext (emb_val 0 (pt n) (ix2 a r) ⟨0, by decide⟩ rfl n.val (512 * n.val + a.val) (congrFun (index_0 _) 0) (by show n.val * 512 + a.val = _; omega))
    | ⟨1, _⟩ => Fin.ext (emb_val 0 (pt n) (ix2 a r) ⟨1, by decide⟩ rfl 0 r.val (congrFun (index_0 _) 1) (by show 0 * 2048 + r.val = _; omega)))

theorem blk1_at (n : Fin 4) (k : Fin 8) (b : Fin 256) (r : Fin 1024) : iblk m c 1 (pt n) (ix4 k (0 : Fin 1) b r) = g1 m c (ix4 k (0 : Fin 1) b r) :=
  congrArg (g1 m c) (funext fun j => match j with
    | ⟨0, _⟩ => Fin.ext (emb_val 1 (pt n) (ix4 k (0 : Fin 1) b r) ⟨0, by decide⟩ rfl 0 k.val (congrFun (index_1 _) 0) (by show 0 * 8 + k.val = _; omega))
    | ⟨1, _⟩ => Fin.ext (emb_val 1 (pt n) (ix4 k (0 : Fin 1) b r) ⟨1, by decide⟩ rfl 0 0 (congrFun (index_1 _) 1) (by show 0 * 1 + 0 = _; omega))
    | ⟨2, _⟩ => Fin.ext (emb_val 1 (pt n) (ix4 k (0 : Fin 1) b r) ⟨2, by decide⟩ rfl 0 b.val (congrFun (index_1 _) 2) (by show 0 * 256 + b.val = _; omega))
    | ⟨3, _⟩ => Fin.ext (emb_val 1 (pt n) (ix4 k (0 : Fin 1) b r) ⟨3, by decide⟩ rfl 0 r.val (congrFun (index_1 _) 3) (by show 0 * 1024 + r.val = _; omega)))

theorem blk2_at (n : Fin 4) (a : Fin 512) (l : Fin 1024) : iblk m c 2 (pt n) (ix2 a l) = g2 m c (ix2 (join 2048 rfl n a) l) :=
  congrArg (g2 m c) (funext fun j => match j with
    | ⟨0, _⟩ => Fin.ext (emb_val 2 (pt n) (ix2 a l) ⟨0, by decide⟩ rfl n.val (512 * n.val + a.val) (congrFun (index_2 _) 0) (by show n.val * 512 + a.val = _; omega))
    | ⟨1, _⟩ => Fin.ext (emb_val 2 (pt n) (ix2 a l) ⟨1, by decide⟩ rfl 0 l.val (congrFun (index_2 _) 1) (by show 0 * 1024 + l.val = _; omega)))

theorem emb_3 (n : Fin 4) (a : Fin 512) (l : Fin 1024) : ((cfg0.win 3).blk (pt n)).view.emb (ix2 a l) = ix2 (join 2048 rfl n a) l :=
  funext fun j => match j with
    | ⟨0, _⟩ => Fin.ext (emb_val 3 (pt n) (ix2 a l) ⟨0, by decide⟩ rfl n.val (512 * n.val + a.val) (congrFun (index_3 _) 0) (by show n.val * 512 + a.val = _; omega))
    | ⟨1, _⟩ => Fin.ext (emb_val 3 (pt n) (ix2 a l) ⟨1, by decide⟩ rfl 0 l.val (congrFun (index_3 _) 1) (by show 0 * 1024 + l.val = _; omega))

/-- A step writes its block of the reference's result. -/
theorem step_at (n : Fin 4) (a : Fin 512) (b : Fin 1024) :
    outsAt0 m c (pt n) (ix2 a b) = result (g0 m c) (g1 m c) (g2 m c) (ix2 (join 2048 rfl n a) b) := by
  unfold outsAt0
  rw [out_eq]
  refine (pay_at _ _ _ a b).trans (Eq.trans ?_ (result_at (g0 m c) (g1 m c) (g2 m c) (join 2048 rfl n a) b).symm)
  exact congrArg₂ (fun s t : EReal => s + t) (blk2_at m c n a b) (Finset.sum_congr rfl fun r _ =>
    congrArg₂ (fun x y : EReal => x * y) (blk0_at m c n a r) (blk1_at m c n (shard r) (inner r) b))

/-- The array after the call is the reference's result. -/
theorem arr : (dats m 0 c).arrAt 3 cfg0.N = result (g0 m c) (g1 m c) (g2 m c) := by
  refine Pipeline.Dat.arrAt_eq_of_cover _ _ _ (fun t _ => ?_) fun i => ?_
  · obtain ⟨n, rfl⟩ : ∃ n : Fin 4, t = pt n := ⟨⟨t.val, lt_of_lt_of_eq t.isLt N_0⟩, rfl⟩
    refine funext fun (y : S512x1024.Idx) => ?_
    obtain ⟨a, b, rfl⟩ : ∃ (a : Fin 512) (b : Fin 1024), y = ix2 a b := ⟨y 0, y 1, by2 y⟩
    refine Eq.trans ?_ ((step_at m c n a b).trans (congrArg (result (g0 m c) (g1 m c) (g2 m c)) (emb_3 n a b).symm))
    show (dats m 0 c).after 3 (pt n) (ix2 a b) = _
    rw [after0_3]
  · obtain ⟨l', l, rfl⟩ : ∃ (l' : Fin 2048) (l : Fin 1024), i = ix2 l' l := ⟨i 0, i 1, by2 i⟩
    obtain ⟨n, a, rfl⟩ := join_surj (p := 4) (q := 512) 2048 rfl l'
    exact ⟨pt n, flush0_3 _, Finset.mem_map.mpr ⟨ix2 a l, Finset.mem_univ _, emb_3 n a l⟩⟩

/-- Over the extended reals the call computes the reference's result. -/
theorem value : Cert.algebraic_KernelResOutIdeal_ReferenceResOutIdeal := fun m ρ m' ρ' _ hm =>
  ⟨_, (θ_run _ _ _).mono (fun _ h c => ⟨((h c).1).trans (arr m c), (h c).2⟩) (Cert.KernelResOutIdeal.Value.run_blocks (F := Ideal) m ρ),
    (θ_run _ _ _).mono (fun _ h c => ⟨((h c).1).trans (by
      rw [(hm c).1, (hm c).2.1, (hm c).2.2.1]; rfl), (h c).2⟩) (Cert.ReferenceResOutIdeal.Value.run (F := Ideal) m' ρ')⟩

/-- The reference's frame. -/
theorem frame_ref : Cert.quiescent_ReferenceResOutIdeal := fun m ρ _ =>
  (θ_run Cert.ReferenceResOutIdeal.defs _ _).mono
    (fun r h => ⟨fun c => (h c).2, Idealize.ShloMosaic.sem_eq_zero_of_no_sems (by decide) r.2⟩)
    (Cert.ReferenceResOutIdeal.Value.run (F := Ideal) m ρ)

end Cert.Proof.Mm.ResOut
-- ==== Proof.Mm.Norm.lean ====
/- A row over the root of its mean square: in the kernels, by blocks of rows, and in the references. -/
module

public import proofs.«01_k».proof.Proof.Mm.Common
public import Idealize.ShloMosaic.Lib.IdealHost

@[expose] public section

set_option maxRecDepth 16384

noncomputable section

namespace Cert.Proof.Mm

open Idealize.ShloMosaic Idealize.ShloMosaic.ValueIdx

/-- The row's width and the small number under the root. -/
abbrev width : EReal := Ideal.ofBits .f32 0x44800000#32
abbrev tiny : EReal := Ideal.ofBits .f32 0x358637BD#32

/-- One over the root of a row's mean square. -/
def scaleOf (x : Fin 1024 → EReal) : EReal := Ideal.rsqrt (Ideal.div (∑ j, x j * x j) width + tiny)

/-- The normed row, weighted. -/
def normed (x w : Fin 1024 → EReal) (r : Fin 1024) : EReal := x r * scaleOf x * w r

section Kernel

variable {n : ℕ} (X : FVec Ideal ⟨2, ![n, 1024]⟩ .f32)

/-- A sum over the columns, put in a column. -/
theorem col_sum (h : Shape.Reduces ⟨2, ![n, 1024]⟩ [1] ⟨1, ![n]⟩) (h1 : FKind.Formats .f32)
    (h2 : (0x00000000#32 : BitVec 32) = FKind.add.neutral .f32 h1) (hc : Shape.ShapeCasts ⟨1, ![n]⟩ ⟨2, ![n, 1]⟩) (a : Fin n) :
    shapeCast ⟨2, ![n, 1]⟩ (multiReduction (F := Ideal) .add [1] ⟨1, ![n]⟩ X 0x00000000#32 h h1 h2) hc (ix2 a (0 : Fin 1))
      = ∑ j : Fin 1024, X (ix2 a j) := by
  refine (shapeCast_apply _ _ _ (ix1 a) (by
    rw [Shape.rowMajor_val_one, Shape.rowMajor_val_two]
    show a.val = a.val * 1 + 0
    omega)).trans ?_
  refine (Ideal.multiReduction_add_single X _ h h1 h2 (ix1 a)).trans ?_
  exact Finset.sum_congr rfl fun c _ => congrArg X (funext fun b => match b with
    | ⟨0, _⟩ => rfl
    | ⟨1, _⟩ => rfl)

/-- A column spread over the rows. -/
theorem col_spread {α : Type} (y : (⟨2, ![n, 1]⟩ : Shape).Idx → α) (h : Shape.Broadcasts ⟨2, ![n, 1]⟩ ⟨2, ![n, 1024]⟩) (a : Fin n) (r : Fin 1024) :
    broadcastTo ⟨2, ![n, 1024]⟩ y h (ix2 a r) = y (ix2 a (0 : Fin 1)) :=
  broadcastTo_apply _ _ _ _ (fun b => match b with
    | ⟨0, _⟩ => (by
        show a.val = if n = 1 then 0 else a.val
        have := a.isLt
        split_ifs <;> omega)
    | ⟨1, _⟩ => rfl)

/-- The weights spread over the columns. -/
theorem row_spread (W : FVec Ideal ⟨3, ![1, 1, 1024]⟩ .f32) (hc : Shape.ShapeCasts ⟨3, ![1, 1, 1024]⟩ ⟨2, ![1, 1024]⟩)
    (h : Shape.Broadcasts ⟨2, ![1, 1024]⟩ ⟨2, ![n, 1024]⟩) (a : Fin n) (r : Fin 1024) :
    broadcastTo ⟨2, ![n, 1024]⟩ (shapeCast ⟨2, ![1, 1024]⟩ W hc) h (ix2 a r) = W (ix3 (0 : Fin 1) (0 : Fin 1) r) := by
  refine (broadcastTo_apply _ _ _ (ix2 (0 : Fin 1) r) (fun b => match b with
    | ⟨0, _⟩ => rfl
    | ⟨1, _⟩ => rfl)).trans ?_
  exact shapeCast_apply _ _ _ _ (by
    rw [Shape.rowMajor_val_three, Shape.rowMajor_val_two]
    show (0 * 1 + 0) * 1024 + r.val = 0 * 1024 + r.val
    omega)

/-- The kernels' scale of a row. -/
theorem kernel_scale (h : Shape.Reduces ⟨2, ![n, 1024]⟩ [1] ⟨1, ![n]⟩) (h1 : FKind.Formats .f32)
    (h2 : (0x00000000#32 : BitVec 32) = FKind.add.neutral .f32 h1) (hc : Shape.ShapeCasts ⟨1, ![n]⟩ ⟨2, ![n, 1]⟩) (a : Fin n) :
    rsqrt (addf (divf (shapeCast ⟨2, ![n, 1]⟩ (multiReduction (F := Ideal) .add [1] ⟨1, ![n]⟩ (mulf X X) 0x00000000#32 h h1 h2) hc)
      (broadcast ⟨2, ![n, 1]⟩ (Scalar.ofBits .f32 0x44800000#32))) (broadcast ⟨2, ![n, 1]⟩ (Scalar.ofBits .f32 0x358637BD#32))) (ix2 a (0 : Fin 1))
      = scaleOf fun j => X (ix2 a j) :=
  congrArg (fun z : EReal => Ideal.rsqrt (Ideal.div z width + tiny)) (col_sum (mulf X X) h h1 h2 hc a)

/-- The kernels' normed rows. -/
theorem kernel_norm (W : FVec Ideal ⟨3, ![1, 1, 1024]⟩ .f32) (h : Shape.Reduces ⟨2, ![n, 1024]⟩ [1] ⟨1, ![n]⟩) (h1 : FKind.Formats .f32)
    (h2 : (0x00000000#32 : BitVec 32) = FKind.add.neutral .f32 h1) (hc : Shape.ShapeCasts ⟨1, ![n]⟩ ⟨2, ![n, 1]⟩)
    (hb : Shape.Broadcasts ⟨2, ![n, 1]⟩ ⟨2, ![n, 1024]⟩) (hd : Shape.ShapeCasts ⟨3, ![1, 1, 1024]⟩ ⟨2, ![1, 1024]⟩)
    (he : Shape.Broadcasts ⟨2, ![1, 1024]⟩ ⟨2, ![n, 1024]⟩) (a : Fin n) (r : Fin 1024) :
    mulf (mulf X (broadcastTo ⟨2, ![n, 1024]⟩ (rsqrt (addf (divf (shapeCast ⟨2, ![n, 1]⟩
      (multiReduction (F := Ideal) .add [1] ⟨1, ![n]⟩ (mulf X X) 0x00000000#32 h h1 h2) hc)
      (broadcast ⟨2, ![n, 1]⟩ (Scalar.ofBits .f32 0x44800000#32))) (broadcast ⟨2, ![n, 1]⟩ (Scalar.ofBits .f32 0x358637BD#32)))) hb))
      (broadcastTo ⟨2, ![n, 1024]⟩ (shapeCast ⟨2, ![1, 1024]⟩ W hd) he) (ix2 a r)
      = normed (fun j => X (ix2 a j)) (fun j => W (ix3 (0 : Fin 1) (0 : Fin 1) j)) r :=
  congrArg₂ (fun s t : EReal => X (ix2 a r) * s * t) ((col_spread _ hb a r).trans (kernel_scale X h h1 h2 hc a)) (row_spread W hd he a r)

end Kernel

section Reference

variable (X : FVec Ideal ⟨2, ![2048, 1024]⟩ .f32)

/-- The reference's sum over the columns. -/
theorem host_row_sum (h : Shape.ReducesTo ⟨2, ![2048, 1024]⟩ [1] ⟨1, ![2048]⟩) (hu : 0 < (⟨0, ![]⟩ : Shape).numel) (a : Fin 2048) :
    Host.reduceAdd (F := Ideal) X (constant ⟨0, ![]⟩ .f32 0x00000000#32) h hu (ix1 a) = ∑ j : Fin 1024, X (ix2 a j) := by
  have hs : Shape.Reduces ⟨2, ![2048, 1024]⟩ [1] ⟨1, ![2048]⟩ := by decide
  rw [hostReduceAdd_apply, Ideal.hostReduceAdd_single _ hs]
  refine (congrArg₂ (fun x y : EReal => x + y) (Ideal.ofBits_zero_f32 : Ideal.ofBits .f32 0x00000000#32 = 0) rfl).trans ((zero_add _).trans ?_)
  exact Finset.sum_congr rfl fun c _ => congrArg X (funext fun b => match b with
    | ⟨0, _⟩ => rfl
    | ⟨1, _⟩ => rfl)

/-- The reference's rows spread, from a vector of one number a row. -/
theorem host_col {α : Type} (y : (⟨1, ![2048]⟩ : Shape).Idx → α) (h : Shape.BroadcastsInDim ⟨1, ![2048]⟩ ⟨2, ![2048, 1]⟩ ![0]) (a : Fin 2048) :
    broadcastInDim ⟨2, ![2048, 1]⟩ ![0] h y (ix2 a (0 : Fin 1)) = y (ix1 a) :=
  broadcastInDim_apply _ _ _ _ _ (fun b => match b with
    | ⟨0, _⟩ => rfl)

theorem host_spread {α : Type} (y : (⟨2, ![2048, 1]⟩ : Shape).Idx → α) (h : Shape.BroadcastsInDim ⟨2, ![2048, 1]⟩ ⟨2, ![2048, 1024]⟩ ![0, 1])
    (a : Fin 2048) (r : Fin 1024) : broadcastInDim ⟨2, ![2048, 1024]⟩ ![0, 1] h y (ix2 a r) = y (ix2 a (0 : Fin 1)) :=
  broadcastInDim_apply _ _ _ _ _ (fun b => match b with
    | ⟨0, _⟩ => rfl
    | ⟨1, _⟩ => rfl)

/-- The reference's scale of a row. -/
theorem host_scale (h : Shape.ReducesTo ⟨2, ![2048, 1024]⟩ [1] ⟨1, ![2048]⟩) (hu : 0 < (⟨0, ![]⟩ : Shape).numel)
    (hb : Shape.BroadcastsInDim ⟨1, ![2048]⟩ ⟨2, ![2048, 1]⟩ ![0]) (hk : Shape.BroadcastsInDim ⟨0, ![]⟩ ⟨2, ![2048, 1]⟩ ![]) (a : Fin 2048) :
    Host.rsqrt (addf (Host.divf (broadcastInDim ⟨2, ![2048, 1]⟩ ![0] hb (Host.reduceAdd (F := Ideal) (mulf X X) (constant ⟨0, ![]⟩ .f32 0x00000000#32) h hu))
      (broadcastInDim ⟨2, ![2048, 1]⟩ ![] hk (constant ⟨0, ![]⟩ .f32 0x44800000#32)))
      (broadcastInDim ⟨2, ![2048, 1]⟩ ![] hk (constant ⟨0, ![]⟩ .f32 0x358637BD#32))) (ix2 a (0 : Fin 1))
      = scaleOf fun j => X (ix2 a j) :=
  congrArg (fun z : EReal => Ideal.rsqrt (Ideal.div z width + tiny)) ((host_col _ hb a).trans (host_row_sum (mulf X X) h hu a))

/-- The layer's weights, spread over the rows. -/
theorem host_weight (W : FVec Ideal ⟨3, ![4, 1, 1024]⟩ .f32) (h0 : Shape.ShapeCasts ⟨3, ![4, 1, 1024]⟩ ⟨2, ![4, 1024]⟩)
    (h1 : Shape.Slices ⟨2, ![4, 1024]⟩ ![1, 0] ⟨2, ![1, 1024]⟩) (h2 : Shape.ShapeCasts ⟨2, ![1, 1024]⟩ ⟨1, ![1024]⟩)
    (h3 : Shape.BroadcastsInDim ⟨1, ![1024]⟩ ⟨2, ![1, 1024]⟩ ![1]) (h4 : Shape.BroadcastsInDim ⟨2, ![1, 1024]⟩ ⟨2, ![2048, 1024]⟩ ![0, 1])
    (a : Fin 2048) (r : Fin 1024) :
    broadcastInDim ⟨2, ![2048, 1024]⟩ ![0, 1] h4 (broadcastInDim ⟨2, ![1, 1024]⟩ ![1] h3
      (shapeCast ⟨1, ![1024]⟩ (extractStridedSlice ⟨2, ![1, 1024]⟩ ![1, 0] (shapeCast ⟨2, ![4, 1024]⟩ W h0) h1) h2)) (ix2 a r)
      = W (ix3 (1 : Fin 4) (0 : Fin 1) r) := by
  refine (broadcastInDim_apply _ _ _ _ (ix2 (0 : Fin 1) r) (fun b => match b with
    | ⟨0, _⟩ => rfl
    | ⟨1, _⟩ => rfl)).trans ?_
  refine (broadcastInDim_apply _ _ _ _ (ix1 r) (fun b => match b with
    | ⟨0, _⟩ => rfl)).trans ?_
  refine (shapeCast_apply _ _ _ (ix2 (0 : Fin 1) r) (by
    rw [Shape.rowMajor_val_two, Shape.rowMajor_val_one]
    show 0 * 1024 + r.val = r.val
    omega)).trans ?_
  refine (extractStridedSlice_apply _ _ _ _ (ix2 (1 : Fin 4) r) (fun b => match b with
    | ⟨0, _⟩ => rfl
    | ⟨1, _⟩ => (Nat.zero_add _).symm)).trans ?_
  exact shapeCast_apply _ _ _ _ (by
    rw [Shape.rowMajor_val_three, Shape.rowMajor_val_two]
    show (1 * 1 + 0) * 1024 + r.val = 1 * 1024 + r.val
    omega)

/-- The reference's normed rows. -/
theorem host_norm (W : FVec Ideal ⟨3, ![4, 1, 1024]⟩ .f32) (h : Shape.ReducesTo ⟨2, ![2048, 1024]⟩ [1] ⟨1, ![2048]⟩) (hu : 0 < (⟨0, ![]⟩ : Shape).numel)
    (hb : Shape.BroadcastsInDim ⟨1, ![2048]⟩ ⟨2, ![2048, 1]⟩ ![0]) (hk : Shape.BroadcastsInDim ⟨0, ![]⟩ ⟨2, ![2048, 1]⟩ ![])
    (hs : Shape.BroadcastsInDim ⟨2, ![2048, 1]⟩ ⟨2, ![2048, 1024]⟩ ![0, 1])
    (h0 : Shape.ShapeCasts ⟨3, ![4, 1, 1024]⟩ ⟨2, ![4, 1024]⟩)
    (h1 : Shape.Slices ⟨2, ![4, 1024]⟩ ![1, 0] ⟨2, ![1, 1024]⟩) (h2 : Shape.ShapeCasts ⟨2, ![1, 1024]⟩ ⟨1, ![1024]⟩)
    (h3 : Shape.BroadcastsInDim ⟨1, ![1024]⟩ ⟨2, ![1, 1024]⟩ ![1]) (h4 : Shape.BroadcastsInDim ⟨2, ![1, 1024]⟩ ⟨2, ![2048, 1024]⟩ ![0, 1])
    (a : Fin 2048) (r : Fin 1024) :
    mulf (mulf X (broadcastInDim ⟨2, ![2048, 1024]⟩ ![0, 1] hs (Host.rsqrt (addf (Host.divf (broadcastInDim ⟨2, ![2048, 1]⟩ ![0] hb
      (Host.reduceAdd (F := Ideal) (mulf X X) (constant ⟨0, ![]⟩ .f32 0x00000000#32) h hu))
      (broadcastInDim ⟨2, ![2048, 1]⟩ ![] hk (constant ⟨0, ![]⟩ .f32 0x44800000#32)))
      (broadcastInDim ⟨2, ![2048, 1]⟩ ![] hk (constant ⟨0, ![]⟩ .f32 0x358637BD#32))))))
      (broadcastInDim ⟨2, ![2048, 1024]⟩ ![0, 1] h4 (broadcastInDim ⟨2, ![1, 1024]⟩ ![1] h3
      (shapeCast ⟨1, ![1024]⟩ (extractStridedSlice ⟨2, ![1, 1024]⟩ ![1, 0] (shapeCast ⟨2, ![4, 1024]⟩ W h0) h1) h2))) (ix2 a r)
      = normed (fun j => X (ix2 a j)) (fun j => W (ix3 (1 : Fin 4) (0 : Fin 1) j)) r :=
  congrArg₂ (fun s t : EReal => X (ix2 a r) * s * t) ((host_spread _ hs a r).trans (host_scale X h hu hb hk a)) (host_weight W h0 h1 h2 h3 h4 a r)

end Reference

end Cert.Proof.Mm
-- ==== Proof.Mm.UpBlock.lean ====
/- One step of the MLP's up projection: the normed rows, their products by tiles, and the squared positive parts. -/
module

public import proofs.«01_k».proof.Proof.Gen.KernelUpIdeal.Frame
public import proofs.«01_k».proof.Proof.Mm.Norm
public import Idealize.ShloMosaic.Lib.TwoAxisContraction
public import Idealize.ShloMosaic.Lib.Pipeline.ValueKit.Tiles

@[expose] public section

set_option maxRecDepth 16384

noncomputable section

namespace Cert.Proof.Mm.Up

open Cert.KernelUpIdeal Cert.KernelUpIdeal.Gen
open Idealize.ShloMosaic Idealize.ShloMosaic.ValueIdx

abbrev nilK : EReal := Ideal.ofBits .f32 0x00000000#32

/-- The square of the positive part. -/
def sq (u : EReal) : EReal := max u nilK * max u nilK

/-- Rows against columns. -/
theorem dot_at {φ ψ : FTy} (l : FVec Ideal S256x1024 φ) (q : FVec Ideal S1024x512 ψ) (a : Fin 256) (b : Fin 512) :
    matmul dot_S256x1024_S1024x512_S256x512_1_0_0_1_n_n none l q (constant S256x512 .f32 0x00000000#32) (ix2 a b)
      = ∑ r : Fin 1024, l (ix2 a r) * q (ix2 r b) :=
  unit_sum _ 1024 rfl rfl l q (ix2 a b) (fun r => ix2 a r) (fun r => ix2 r b)
    (fun _ => funext fun j => match j with
      | ⟨0, _⟩ => rfl
      | ⟨1, _⟩ => rfl) (fun _ => funext fun j => match j with
      | ⟨0, _⟩ => rfl
      | ⟨1, _⟩ => rfl)

variable (x : Vec Ideal S256x1024 .f32) (n : Vec Ideal S1x1x1024 .f32)

/-- The normed block, at an index. -/
theorem norm_at (a : Fin 256) (r : Fin 1024) :
    (k0_pay3 x n (ix2 a r) : EReal) = normed (fun j => x (ix2 a j)) (fun j => n (ix3 (0 : Fin 1) (0 : Fin 1) j)) r := by
  unfold k0_pay3
  refine (narrow_at _ _ _).trans ?_
  exact kernel_norm x n _ _ _ _ _ _ _ a r

/-- One tile of the product, at an index. -/
theorem tile_at (w : Vec Ideal S1x1x1024x512 .bf16) (a : Fin 256) (b : Fin 512) :
    k0_pay4 x n w (ix2 a b) = ∑ r : Fin 1024, normed (fun j => x (ix2 a j)) (fun j => n (ix3 (0 : Fin 1) (0 : Fin 1) j)) r
      * w (ix4 (0 : Fin 1) (0 : Fin 1) r b) := by
  unfold k0_pay4
  refine (dot_at (φ := .bf16) (ψ := .bf16) (k0_pay3 x n) _ a b).trans ?_
  refine Finset.sum_congr rfl fun r _ => congrArg₂ (fun y z : EReal => y * z) (norm_at x n a r) ?_
  exact shapeCast_apply _ _ (ix2 r b) (ix4 (0 : Fin 1) (0 : Fin 1) r b) (by
    rewrite [Shape.rowMajor_val_two, Shape.rowMajor_val_four]
    show ((0 * 1 + 0) * 1024 + r.val) * 512 + b.val = r.val * 512 + b.val
    omega)

variable (w : Vec Ideal S8x1x1024x512 .bf16)

/-- The block a step leaves, at row `a` and column `b` of tile `k`. -/
def val (a : Fin 256) (k : Fin 8) (b : Fin 512) : EReal :=
  ∑ r : Fin 1024, normed (fun j => x (ix2 a j)) (fun j => n (ix3 (0 : Fin 1) (0 : Fin 1) j)) r * w (ix4 k (0 : Fin 1) r b)

/-- Tile `k` of the weights. -/
theorem ld_at (k : Fin 8) (hw : ∀ j, (![k.val, 0, 0, 0] : Fin 4 → ℕ) j + S1x1x1024x512.size j ≤ S8x1x1024x512.size j) (r : Fin 1024) (b : Fin 512) :
    View.ld w (Rect.unit (s := S8x1x1024x512) ![k.val, 0, 0, 0] S1x1x1024x512.size hw) (ix4 (0 : Fin 1) (0 : Fin 1) r b) = w (ix4 k (0 : Fin 1) r b) :=
  View.ld_unit_apply_of w _ _ _ _ (ix4 k (0 : Fin 1) r b) fun j => match j with
    | ⟨0, _⟩ => rfl
    | ⟨1, _⟩ => rfl
    | ⟨2, _⟩ => (Nat.zero_add _).symm
    | ⟨3, _⟩ => (Nat.zero_add _).symm

/-- An index in tile `k` is of that tile, at the column left. -/
theorem in_tile {a p : Fin 256} {t : Fin 8} {b q : Fin 512} {k : ℕ} (h0 : a.val = 0 + p.val) (h1 : 512 * t.val + b.val = 512 * k + q.val) :
    a = p ∧ t.val = k ∧ b = q := by
  have hb := b.isLt
  have hq := q.isLt
  exact ⟨Fin.ext (by omega), by omega, Fin.ext (by omega)⟩

variable (a : Fin 256) (t : Fin 8) (b : Fin 512)

/-- Tile `k` of the product holds that block's columns from `512 k`. -/
theorem piece (k : ℕ) (hw : ∀ j, (![k, 0, 0, 0] : Fin 4 → ℕ) j + S1x1x1024x512.size j ≤ S8x1x1024x512.size j) :
    View.TileAt (S := S256x4096) (Val := Elt Ideal) (e := .f32) (ix2 a (join 4096 rfl t b)) ![0, 512 * k] S256x512.size
      (k0_pay4 x n (View.ld w (Rect.unit (s := S8x1x1024x512) ![k, 0, 0, 0] S1x1x1024x512.size hw))) (val x n w a t b) := by
  intro y hy
  obtain ⟨p, q, rfl⟩ : ∃ (p : Fin 256) (q : Fin 512), y = ix2 p q := ⟨y 0, y 1, by2 y⟩
  obtain ⟨rfl, rfl, rfl⟩ := in_tile (hy 0) (hy 1)
  refine (tile_at x n _ a b).trans ?_
  exact Finset.sum_congr rfl fun r _ => congrArg (fun z : EReal => _ * z) (ld_at w t hw r b)

/-- Tile `k` of the activation likewise. -/
theorem piece_act (k : ℕ) (hw : ∀ j, (![k, 0, 0, 0] : Fin 4 → ℕ) j + S1x1x1024x512.size j ≤ S8x1x1024x512.size j) :
    View.TileAt (S := S256x4096) (Val := Elt Ideal) (e := .bf16) (ix2 a (join 4096 rfl t b)) ![0, 512 * k] S256x512.size
      (k0_pay5 x n (View.ld w (Rect.unit (s := S8x1x1024x512) ![k, 0, 0, 0] S1x1x1024x512.size hw))) (sq (val x n w a t b)) :=
  fun y hy => congrArg sq (piece x n w a t b k hw y hy)

/-- What a step stores as the normed rows. -/
theorem out_norm : out0_3 x n w = k0_pay3 x n := by
  unfold out0_3
  rw [View.canon_unit_zero origin2, View.ld_unit_zero origin2, View.ld_unit_zero origin3]

/-- What a step stores as the product, at an index. -/
theorem out_up : out0_4 x n w (ix2 a (join 4096 rfl t b)) = val x n w a t b := by
  unfold_out out0_4
  refine View.canon_eq_of_allAt _ _ _ (cover0_4 _ _ _ _ _ _ _ _ _) ?_
  simp only [View.ld_unit_zero (S := S256x1024) origin2, View.ld_unit_zero (S := S1x1x1024) origin3]
  refine View.allAt_cons_unit _ _ _ _ _ (piece x n w a t b 7 _) ?_
  refine View.allAt_cons_unit _ _ _ _ _ (piece x n w a t b 6 _) ?_
  refine View.allAt_cons_unit _ _ _ _ _ (piece x n w a t b 5 _) ?_
  refine View.allAt_cons_unit _ _ _ _ _ (piece x n w a t b 4 _) ?_
  refine View.allAt_cons_unit _ _ _ _ _ (piece x n w a t b 3 _) ?_
  refine View.allAt_cons_unit _ _ _ _ _ (piece x n w a t b 2 _) ?_
  refine View.allAt_cons_unit _ _ _ _ _ (piece x n w a t b 1 _) ?_
  refine View.allAt_cons_unit _ _ _ _ _ (piece x n w a t b 0 _) ?_
  exact View.allAt_nil _ _

/-- What a step stores as the activation, at an index. -/
theorem out_act : out0_5 x n w (ix2 a (join 4096 rfl t b)) = sq (val x n w a t b) := by
  unfold_out out0_5
  refine View.canon_eq_of_allAt _ _ _ (cover0_5 _ _ _ _ _ _ _ _ _) ?_
  simp only [View.ld_unit_zero (S := S256x1024) origin2, View.ld_unit_zero (S := S1x1x1024) origin3]
  refine View.allAt_cons_unit _ _ _ _ _ (piece_act x n w a t b 7 _) ?_
  refine View.allAt_cons_unit _ _ _ _ _ (piece_act x n w a t b 6 _) ?_
  refine View.allAt_cons_unit _ _ _ _ _ (piece_act x n w a t b 5 _) ?_
  refine View.allAt_cons_unit _ _ _ _ _ (piece_act x n w a t b 4 _) ?_
  refine View.allAt_cons_unit _ _ _ _ _ (piece_act x n w a t b 3 _) ?_
  refine View.allAt_cons_unit _ _ _ _ _ (piece_act x n w a t b 2 _) ?_
  refine View.allAt_cons_unit _ _ _ _ _ (piece_act x n w a t b 1 _) ?_
  refine View.allAt_cons_unit _ _ _ _ _ (piece_act x n w a t b 0 _) ?_
  exact View.allAt_nil _ _

end Cert.Proof.Mm.Up
-- ==== Proof.Mm.UpRef.lean ====
/- The MLP's up projection in the reference, at an index. -/
module

public import proofs.«01_k».proof.Proof.Gen.ReferenceUpIdeal
public import proofs.«01_k».proof.Proof.Mm.Norm
public import Idealize.ShloMosaic.Lib.TwoAxisContraction

@[expose] public section

set_option maxRecDepth 16384

noncomputable section

namespace Cert.Proof.Mm.Up

open Cert.ReferenceUpIdeal Cert.ReferenceUpIdeal.Gen
open Idealize.ShloMosaic Idealize.ShloMosaic.ValueIdx

theorem host_at (l : FVec Ideal S2048x1024 .f32) (q : FVec Ideal S1024x4096 .f32) (a : Fin 2048) (b : Fin 4096) :
    Host.dotGeneral (F := Ideal) dot_S2048x1024_S1024x4096_S2048x4096_1_0_0_1_n_n none l q (ix2 a b) = ∑ r : Fin 1024, l (ix2 a r) * q (ix2 r b) :=
  host_sum _ 1024 rfl rfl l q (ix2 a b) (fun r => ix2 a r) (fun r => ix2 r b)
    (fun _ => funext fun j => match j with
      | ⟨0, _⟩ => rfl
      | ⟨1, _⟩ => rfl) (fun _ => funext fun j => match j with
      | ⟨0, _⟩ => rfl
      | ⟨1, _⟩ => rfl)

variable (x : FVec Ideal S2048x1024 .f32) (n : FVec Ideal S4x1x1024 .f32) (w : FVec Ideal S8x1x1024x512 .bf16)

/-- The reference's normed rows. -/
def hid : FVec Ideal S2048x1024 .f32 :=
  mulf (mulf x (broadcastInDim S2048x1024 ![0,1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0,1] bcast_S1x1024_S2048x1024_0_1 (broadcastInDim S1x1024 ![1] bcast_S1024_S1x1024_1 (shapeCast _ (extractStridedSlice S1x1024 ![1,0] (shapeCast _ n shapeCasts_S4x1x1024_S4x1024) slices_S4x1024_S1x1024_1_0) shapeCasts_S1x1024_S1024)))

theorem hid_at (a : Fin 2048) (r : Fin 1024) : hid x n (ix2 a r) = normed (fun j => x (ix2 a j)) (fun j => n (ix3 (1 : Fin 4) (0 : Fin 1) j)) r :=
  host_norm x n _ _ _ _ _ _ _ _ _ _ a r

/-- The reference's results: the normed rows, their product with the weights, and the squared positive part. -/
def result_norm : FVec Ideal S2048x1024 .bf16 := truncf .bf16 (hid x n) bitsLt_bf16_f32
def result_up : FVec Ideal S2048x4096 .f32 :=
  Host.dotGeneral dot_S2048x1024_S1024x4096_S2048x4096_1_0_0_1_n_n none (hid x n) (extf .f32 (shapeCast _ (transpose S1024x8x512 [1,0,2] (shapeCast _ w shapeCasts_S8x1x1024x512_S8x1024x512) transposes_S8x1024x512_S1024x8x512_1_0_2) shapeCasts_S1024x8x512_S1024x4096) bitsLt_bf16_f32)
def result_act : FVec Ideal S2048x4096 .bf16 :=
  truncf .bf16 (mulf (maximumf (result_up x n w) (broadcastInDim S2048x4096 ![] bcast_S_S2048x4096 (constant S_ .f32 0x00000000#32))) (maximumf (result_up x n w) (broadcastInDim S2048x4096 ![] bcast_S_S2048x4096 (constant S_ .f32 0x00000000#32)))) bitsLt_bf16_f32

theorem result_norm_at (a : Fin 2048) (r : Fin 1024) :
    (result_norm x n (ix2 a r) : EReal) = normed (fun j => x (ix2 a j)) (fun j => n (ix3 (1 : Fin 4) (0 : Fin 1) j)) r :=
  (narrow_at _ _ _).trans (hid_at x n a r)

/-- The weights' shards side by side, at an index. -/
theorem weight_at (r : Fin 1024) (k : Fin 8) (b : Fin 512) :
    shapeCast S1024x4096 (transpose S1024x8x512 [1,0,2] (shapeCast S8x1024x512 w shapeCasts_S8x1x1024x512_S8x1024x512) transposes_S8x1024x512_S1024x8x512_1_0_2) shapeCasts_S1024x8x512_S1024x4096
      (ix2 r (join 4096 rfl k b)) = w (ix4 k (0 : Fin 1) r b) := by
  refine (shapeCast_apply _ _ (ix2 r (join 4096 rfl k b)) (ix3 r k b) (by
    rewrite [Shape.rowMajor_val_two, Shape.rowMajor_val_three]
    show (r.val * 8 + k.val) * 512 + b.val = r.val * 4096 + (512 * k.val + b.val)
    omega)).trans ?_
  refine (transpose_apply _ _ _ (ix3 r k b) (ix3 k r b) (fun j => match j with
    | ⟨0, _⟩ => rfl
    | ⟨1, _⟩ => rfl
    | ⟨2, _⟩ => rfl)).trans ?_
  exact shapeCast_apply _ _ (ix3 k r b) (ix4 k (0 : Fin 1) r b) (by
    rewrite [Shape.rowMajor_val_three, Shape.rowMajor_val_four]
    show ((k.val * 1 + 0) * 1024 + r.val) * 512 + b.val = (k.val * 1024 + r.val) * 512 + b.val
    omega)

theorem result_up_at (a : Fin 2048) (k : Fin 8) (b : Fin 512) :
    result_up x n w (ix2 a (join 4096 rfl k b)) = ∑ r : Fin 1024, normed (fun j => x (ix2 a j)) (fun j => n (ix3 (1 : Fin 4) (0 : Fin 1) j)) r
      * w (ix4 k (0 : Fin 1) r b) := by
  unfold result_up
  refine (host_at _ _ a (join 4096 rfl k b)).trans ?_
  exact Finset.sum_congr rfl fun r _ => congrArg₂ (fun y z : EReal => y * z) (hid_at x n a r) (weight_at w r k b)

theorem result_act_at (a : Fin 2048) (l : Fin 4096) :
    (result_act x n w (ix2 a l) : EReal) = max (result_up x n w (ix2 a l) : EReal) (Ideal.ofBits .f32 0x00000000#32)
      * max (result_up x n w (ix2 a l) : EReal) (Ideal.ofBits .f32 0x00000000#32) := rfl

end Cert.Proof.Mm.Up
-- ==== Proof.Mm.Up.lean ====
/- The MLP's up projection: the whole arrays, and the claim. -/
module

public import proofs.«01_k».proof.Defs
public import proofs.«01_k».proof.Proof.Mm.UpBlock
public import proofs.«01_k».proof.Proof.Mm.UpRef
public import proofs.«01_k».proof.Proof.Gen.KernelUpIdeal.Value
public import proofs.«01_k».proof.Proof.Gen.ReferenceUpIdeal.Run

@[expose] public section

set_option maxRecDepth 16384

noncomputable section

namespace Cert.Proof.Mm.Up

open Cert.KernelUpIdeal Cert.KernelUpIdeal.Gen
open Idealize.ShloMosaic Idealize.ShloMosaic.ValueIdx Idealize.SL.Sem

variable (m : (ℓ : Loc nD τ sig) → Buf (Elt Ideal) ℓ) (c : Dev nD)

/-- Where an entry of a block lies in its array, along one axis. -/
theorem emb_val (w : Fin cfg0.W) (t : Fin cfg0.N) (y : ((cfg0.win w).xblock (cfg0.grid.coords t)).Idx) (b : Fin (cfg0.win w).shape.rank)
    (hk : (cfg0.win w).kind = .blocked) (k z : ℕ) (hi : (cfg0.win w).index t b = k) (hz : k * (cfg0.win w).size b + (y b).val = z) :
    (((cfg0.win w).rect t).emb y b : ℕ) = z :=
  ((cfg0.win w).rect_emb_val t y b hk).trans (by rw [hi]; exact hz)

/-- The arguments as arrays. -/
abbrev g0 : FVec Ideal S2048x1024 .f32 := m ((c.tc : Thread nD τ).loc main_arg0)
abbrev g1 : FVec Ideal S4x1x1024 .f32 := m ((c.tc : Thread nD τ).loc main_arg1)
abbrev g2 : FVec Ideal S8x1x1024x512 .bf16 := m ((c.tc : Thread nD τ).loc main_arg2)

/-- A block of rows' number as a grid point. -/
def pt (n : Fin 8) : Fin cfg0.N := ⟨n.val, lt_of_lt_of_eq n.isLt N_0.symm⟩

theorem index_0 : ∀ t : Fin cfg0.N, (cfg0.win 0).index t = ![t.val, 0] := by decide +kernel
theorem index_1 : ∀ t : Fin cfg0.N, (cfg0.win 1).index t = ![1, 0, 0] := by decide +kernel
theorem index_2 : ∀ t : Fin cfg0.N, (cfg0.win 2).index t = ![0, 0, 0, 0] := by decide +kernel
theorem index_3 : ∀ t : Fin cfg0.N, (cfg0.win 3).index t = ![t.val, 0] := by decide +kernel
theorem index_4 : ∀ t : Fin cfg0.N, (cfg0.win 4).index t = ![t.val, 0] := by decide +kernel
theorem index_5 : ∀ t : Fin cfg0.N, (cfg0.win 5).index t = ![t.val, 0] := by decide +kernel

theorem blk0_at (n : Fin 8) (a : Fin 256) (r : Fin 1024) : iblk m c 0 (pt n) (ix2 a r) = g0 m c (ix2 (join 2048 rfl n a) r) :=
  congrArg (g0 m c) (funext fun j => match j with
    | ⟨0, _⟩ => Fin.ext (emb_val 0 (pt n) (ix2 a r) ⟨0, by decide⟩ rfl n.val (256 * n.val + a.val) (congrFun (index_0 _) 0) (by show n.val * 256 + a.val = _; omega))
    | ⟨1, _⟩ => Fin.ext (emb_val 0 (pt n) (ix2 a r) ⟨1, by decide⟩ rfl 0 r.val (congrFun (index_0 _) 1) (by show 0 * 1024 + r.val = _; omega)))

theorem blk1_at (n : Fin 8) (r : Fin 1024) : iblk m c 1 (pt n) (ix3 (0 : Fin 1) (0 : Fin 1) r) = g1 m c (ix3 (1 : Fin 4) (0 : Fin 1) r) :=
  congrArg (g1 m c) (funext fun j => match j with
    | ⟨0, _⟩ => Fin.ext (emb_val 1 (pt n) (ix3 (0 : Fin 1) (0 : Fin 1) r) ⟨0, by decide⟩ rfl 1 1 (congrFun (index_1 _) 0) (by show 1 * 1 + 0 = _; omega))
    | ⟨1, _⟩ => Fin.ext (emb_val 1 (pt n) (ix3 (0 : Fin 1) (0 : Fin 1) r) ⟨1, by decide⟩ rfl 0 0 (congrFun (index_1 _) 1) (by show 0 * 1 + 0 = _; omega))
    | ⟨2, _⟩ => Fin.ext (emb_val 1 (pt n) (ix3 (0 : Fin 1) (0 : Fin 1) r) ⟨2, by decide⟩ rfl 0 r.val (congrFun (index_1 _) 2) (by show 0 * 1024 + r.val = _; omega)))

/-- A block's normed row is the arrays'. -/
theorem row_at (n : Fin 8) (a : Fin 256) (r : Fin 1024) :
    normed (fun j => iblk m c 0 (pt n) (ix2 a j)) (fun j => iblk m c 1 (pt n) (ix3 (0 : Fin 1) (0 : Fin 1) j)) r
      = normed (fun j => g0 m c (ix2 (join 2048 rfl n a) j)) (fun j => g1 m c (ix3 (1 : Fin 4) (0 : Fin 1) j)) r :=
  congrArg₂ (fun s t : Fin 1024 → EReal => normed s t r) (funext fun j => blk0_at m c n a j) (funext fun j => blk1_at m c n j)

theorem blk2_at (n : Fin 8) (k : Fin 8) (r : Fin 1024) (b : Fin 512) : iblk m c 2 (pt n) (ix4 k (0 : Fin 1) r b) = g2 m c (ix4 k (0 : Fin 1) r b) :=
  congrArg (g2 m c) (funext fun j => match j with
    | ⟨0, _⟩ => Fin.ext (emb_val 2 (pt n) (ix4 k (0 : Fin 1) r b) ⟨0, by decide⟩ rfl 0 k.val (congrFun (index_2 _) 0) (by show 0 * 8 + k.val = _; omega))
    | ⟨1, _⟩ => Fin.ext (emb_val 2 (pt n) (ix4 k (0 : Fin 1) r b) ⟨1, by decide⟩ rfl 0 0 (congrFun (index_2 _) 1) (by show 0 * 1 + 0 = _; omega))
    | ⟨2, _⟩ => Fin.ext (emb_val 2 (pt n) (ix4 k (0 : Fin 1) r b) ⟨2, by decide⟩ rfl 0 r.val (congrFun (index_2 _) 2) (by show 0 * 1024 + r.val = _; omega))
    | ⟨3, _⟩ => Fin.ext (emb_val 2 (pt n) (ix4 k (0 : Fin 1) r b) ⟨3, by decide⟩ rfl 0 b.val (congrFun (index_2 _) 3) (by show 0 * 512 + b.val = _; omega)))

theorem emb_3 (n : Fin 8) (a : Fin 256) (l : Fin 1024) : ((cfg0.win 3).blk (pt n)).view.emb (ix2 a l) = ix2 (join 2048 rfl n a) l :=
  funext fun j => match j with
    | ⟨0, _⟩ => Fin.ext (emb_val 3 (pt n) (ix2 a l) ⟨0, by decide⟩ rfl n.val (256 * n.val + a.val) (congrFun (index_3 _) 0) (by show n.val * 256 + a.val = _; omega))
    | ⟨1, _⟩ => Fin.ext (emb_val 3 (pt n) (ix2 a l) ⟨1, by decide⟩ rfl 0 l.val (congrFun (index_3 _) 1) (by show 0 * 1024 + l.val = _; omega))

theorem emb_4 (n : Fin 8) (a : Fin 256) (l : Fin 4096) : ((cfg0.win 4).blk (pt n)).view.emb (ix2 a l) = ix2 (join 2048 rfl n a) l :=
  funext fun j => match j with
    | ⟨0, _⟩ => Fin.ext (emb_val 4 (pt n) (ix2 a l) ⟨0, by decide⟩ rfl n.val (256 * n.val + a.val) (congrFun (index_4 _) 0) (by show n.val * 256 + a.val = _; omega))
    | ⟨1, _⟩ => Fin.ext (emb_val 4 (pt n) (ix2 a l) ⟨1, by decide⟩ rfl 0 l.val (congrFun (index_4 _) 1) (by show 0 * 4096 + l.val = _; omega))

theorem emb_5 (n : Fin 8) (a : Fin 256) (l : Fin 4096) : ((cfg0.win 5).blk (pt n)).view.emb (ix2 a l) = ix2 (join 2048 rfl n a) l :=
  funext fun j => match j with
    | ⟨0, _⟩ => Fin.ext (emb_val 5 (pt n) (ix2 a l) ⟨0, by decide⟩ rfl n.val (256 * n.val + a.val) (congrFun (index_5 _) 0) (by show n.val * 256 + a.val = _; omega))
    | ⟨1, _⟩ => Fin.ext (emb_val 5 (pt n) (ix2 a l) ⟨1, by decide⟩ rfl 0 l.val (congrFun (index_5 _) 1) (by show 0 * 4096 + l.val = _; omega))

/-- A step writes its block of the normed rows. -/
theorem step_norm (n : Fin 8) (a : Fin 256) (r : Fin 1024) :
    out0_3 (iblk m c 0 (pt n)) (iblk m c 1 (pt n)) (iblk m c 2 (pt n)) (ix2 a r) = result_norm (g0 m c) (g1 m c) (ix2 (join 2048 rfl n a) r) :=
  (congrFun (out_norm _ _ _) _).trans ((norm_at _ _ a r).trans ((row_at m c n a r).trans (result_norm_at _ _ _ r).symm))

/-- A step's product is its block of the reference's. -/
theorem val_at (n : Fin 8) (a : Fin 256) (k : Fin 8) (b : Fin 512) :
    val (iblk m c 0 (pt n)) (iblk m c 1 (pt n)) (iblk m c 2 (pt n)) a k b
      = result_up (g0 m c) (g1 m c) (g2 m c) (ix2 (join 2048 rfl n a) (join 4096 rfl k b)) :=
  Eq.trans (Finset.sum_congr rfl fun r _ => congrArg₂ (fun y z : EReal => y * z) (row_at m c n a r) (blk2_at m c n k r b))
    (result_up_at (g0 m c) (g1 m c) (g2 m c) (join 2048 rfl n a) k b).symm

/-- A step writes its block of the product. -/
theorem step_up (n : Fin 8) (a : Fin 256) (l : Fin 4096) :
    out0_4 (iblk m c 0 (pt n)) (iblk m c 1 (pt n)) (iblk m c 2 (pt n)) (ix2 a l)
      = result_up (g0 m c) (g1 m c) (g2 m c) (ix2 (join 2048 rfl n a) l) := by
  obtain ⟨k, b, rfl⟩ := join_surj (p := 8) (q := 512) 4096 rfl l
  exact (out_up _ _ _ a k b).trans (val_at m c n a k b)

/-- A step writes its block of the activation. -/
theorem step_act (n : Fin 8) (a : Fin 256) (l : Fin 4096) :
    (out0_5 (iblk m c 0 (pt n)) (iblk m c 1 (pt n)) (iblk m c 2 (pt n)) (ix2 a l) : EReal)
      = result_act (g0 m c) (g1 m c) (g2 m c) (ix2 (join 2048 rfl n a) l) := by
  obtain ⟨k, b, rfl⟩ := join_surj (p := 8) (q := 512) 4096 rfl l
  exact (out_act _ _ _ a k b).trans ((congrArg sq (val_at m c n a k b)).trans (result_act_at (g0 m c) (g1 m c) (g2 m c) (join 2048 rfl n a) (join 4096 rfl k b)).symm)

/-- The arrays after the call are the reference's results: the normed rows, -/
theorem arr_3 : (dats m 0 c).arrAt 3 cfg0.N = result_norm (g0 m c) (g1 m c) := by
  refine Pipeline.Dat.arrAt_eq_of_cover _ _ _ (fun t _ => ?_) fun i => ?_
  · obtain ⟨n, rfl⟩ : ∃ n : Fin 8, t = pt n := ⟨⟨t.val, lt_of_lt_of_eq t.isLt N_0⟩, rfl⟩
    refine funext fun (y : S256x1024.Idx) => ?_
    obtain ⟨a, l, rfl⟩ : ∃ (a : Fin 256) (l : Fin 1024), y = ix2 a l := ⟨y 0, y 1, by2 y⟩
    refine Eq.trans ?_ ((step_norm m c n a l).trans (congrArg (result_norm (g0 m c) (g1 m c)) (emb_3 n a l).symm))
    show (dats m 0 c).after 3 (pt n) (ix2 a l) = _
    rw [after0_3]
  · obtain ⟨l', l, rfl⟩ : ∃ (l' : Fin 2048) (l : Fin 1024), i = ix2 l' l := ⟨i 0, i 1, by2 i⟩
    obtain ⟨n, a, rfl⟩ := join_surj (p := 8) (q := 256) 2048 rfl l'
    exact ⟨pt n, flush0_3 _, Finset.mem_map.mpr ⟨ix2 a l, Finset.mem_univ _, emb_3 n a l⟩⟩

/-- their product, -/
theorem arr_4 : (dats m 0 c).arrAt 4 cfg0.N = result_up (g0 m c) (g1 m c) (g2 m c) := by
  refine Pipeline.Dat.arrAt_eq_of_cover _ _ _ (fun t _ => ?_) fun i => ?_
  · obtain ⟨n, rfl⟩ : ∃ n : Fin 8, t = pt n := ⟨⟨t.val, lt_of_lt_of_eq t.isLt N_0⟩, rfl⟩
    refine funext fun (y : S256x4096.Idx) => ?_
    obtain ⟨a, l, rfl⟩ : ∃ (a : Fin 256) (l : Fin 4096), y = ix2 a l := ⟨y 0, y 1, by2 y⟩
    refine Eq.trans ?_ ((step_up m c n a l).trans (congrArg (result_up (g0 m c) (g1 m c) (g2 m c)) (emb_4 n a l).symm))
    show (dats m 0 c).after 4 (pt n) (ix2 a l) = _
    rw [after0_4]
  · obtain ⟨l', l, rfl⟩ : ∃ (l' : Fin 2048) (l : Fin 4096), i = ix2 l' l := ⟨i 0, i 1, by2 i⟩
    obtain ⟨n, a, rfl⟩ := join_surj (p := 8) (q := 256) 2048 rfl l'
    exact ⟨pt n, flush0_4 _, Finset.mem_map.mpr ⟨ix2 a l, Finset.mem_univ _, emb_4 n a l⟩⟩

/-- and the activation. -/
theorem arr_5 : (dats m 0 c).arrAt 5 cfg0.N = result_act (g0 m c) (g1 m c) (g2 m c) := by
  refine Pipeline.Dat.arrAt_eq_of_cover _ _ _ (fun t _ => ?_) fun i => ?_
  · obtain ⟨n, rfl⟩ : ∃ n : Fin 8, t = pt n := ⟨⟨t.val, lt_of_lt_of_eq t.isLt N_0⟩, rfl⟩
    refine funext fun (y : S256x4096.Idx) => ?_
    obtain ⟨a, l, rfl⟩ : ∃ (a : Fin 256) (l : Fin 4096), y = ix2 a l := ⟨y 0, y 1, by2 y⟩
    refine Eq.trans ?_ ((step_act m c n a l).trans (congrArg (result_act (g0 m c) (g1 m c) (g2 m c)) (emb_5 n a l).symm))
    show (dats m 0 c).after 5 (pt n) (ix2 a l) = _
    rw [after0_5]
  · obtain ⟨l', l, rfl⟩ : ∃ (l' : Fin 2048) (l : Fin 4096), i = ix2 l' l := ⟨i 0, i 1, by2 i⟩
    obtain ⟨n, a, rfl⟩ := join_surj (p := 8) (q := 256) 2048 rfl l'
    exact ⟨pt n, flush0_5 _, Finset.mem_map.mpr ⟨ix2 a l, Finset.mem_univ _, emb_5 n a l⟩⟩

/-- Over the extended reals the call computes the reference's results. -/
theorem value : Cert.algebraic_KernelUpIdeal_ReferenceUpIdeal := fun m ρ m' ρ' _ hm =>
  ⟨_, _, _, (θ_run _ _ _).mono (fun _ h c => ⟨((h c).1).trans (arr_3 m c), ((h c).2.1).trans (arr_4 m c), ((h c).2.2.1).trans (arr_5 m c), (h c).2.2.2⟩) (Cert.KernelUpIdeal.Value.run_blocks (F := Ideal) m ρ),
    (θ_run _ _ _).mono (fun _ h c => ⟨((h c).1).trans (by
      rw [(hm c).1, (hm c).2.1]; rfl), ((h c).2.1).trans (by
      rw [(hm c).1, (hm c).2.1, (hm c).2.2]; rfl), ((h c).2.2.1).trans (by
      rw [(hm c).1, (hm c).2.1, (hm c).2.2]; rfl), (h c).2.2.2⟩) (Cert.ReferenceUpIdeal.Value.run (F := Ideal) m' ρ')⟩

/-- The reference's frame. -/
theorem frame_ref : Cert.quiescent_ReferenceUpIdeal := fun m ρ _ =>
  (θ_run Cert.ReferenceUpIdeal.defs _ _).mono
    (fun r h => ⟨fun c => (h c).2.2.2, Idealize.ShloMosaic.sem_eq_zero_of_no_sems (by decide) r.2⟩)
    (Cert.ReferenceUpIdeal.Value.run (F := Ideal) m ρ)

end Cert.Proof.Mm.Up
-- ==== Proof.Mm.InBlock.lean ====
/- One step of the input projection: the normed rows, and their products with five groups of columns. -/
module

public import proofs.«01_k».proof.Proof.Gen.KernelInIdeal.Frame
public import proofs.«01_k».proof.Proof.Mm.Norm
public import Idealize.ShloMosaic.Lib.TwoAxisContraction
public import Idealize.ShloMosaic.Lib.Pipeline.ValueKit.Tiles

@[expose] public section

set_option maxRecDepth 16384

noncomputable section

namespace Cert.Proof.Mm.In

open Cert.KernelInIdeal Cert.KernelInIdeal.Gen
open Idealize.ShloMosaic Idealize.ShloMosaic.ValueIdx

variable (x : Vec Ideal S512x1024 .f32) (n : Vec Ideal S1x1x1024 .f32) (w : Vec Ideal S1024x4480 .bf16)

/-- The normed block, at an index. -/
theorem norm_at (a : Fin 512) (r : Fin 1024) :
    (k0_pay3 x n (ix2 a r) : EReal) = normed (fun j => x (ix2 a j)) (fun j => n (ix3 (0 : Fin 1) (0 : Fin 1) j)) r := by
  unfold k0_pay3
  refine (narrow_at _ _ _).trans ?_
  exact kernel_norm x n _ _ _ _ _ _ _ a r

/-- The product of the normed block and the whole of the weights, at row `a` and column `l`. -/
def entry (a : Fin 512) (l : Fin 4480) : EReal :=
  ∑ r : Fin 1024, normed (fun j => x (ix2 a j)) (fun j => n (ix3 (0 : Fin 1) (0 : Fin 1) j)) r * w (ix2 r l)

/-- The product with a group of columns from `off` holds that product's columns from there. -/
theorem prod_at {N off : ℕ} (D : DotDims S512x1024 ⟨2, ![1024, N]⟩ ⟨2, ![512, N]⟩) (hr : D.contr.rank = 1) (hs : D.contr.size ⟨0, by omega⟩ = 1024)
    (hw : ∀ j, (![0, off] : Fin 2 → ℕ) j + (⟨2, ![1024, N]⟩ : Shape).size j ≤ S1024x4480.size j) (a : Fin 512) (b : Fin N) (l : Fin 4480)
    (hl : l.val = off + b.val)
    (hf : ∀ k, D.lhsIdx (ix2 a b) k = ix2 a (contrEquiv1 D 1024 hr hs k)) (hg : ∀ k, D.rhsIdx (ix2 a b) k = ix2 (contrEquiv1 D 1024 hr hs k) b) :
    matmul (F := Ideal) (φ₂ := .bf16) D none (k0_pay3 x n) (View.ld w (Rect.unit (s := S1024x4480) ![0, off] (⟨2, ![1024, N]⟩ : Shape).size hw)) (constant ⟨2, ![512, N]⟩ .f32 0x00000000#32) (ix2 a b)
      = entry x n w a l := by
  refine (unit_sum D 1024 hr hs (φ := .bf16) (ψ := .bf16) (k0_pay3 x n) _ (ix2 a b) (fun r => ix2 a r) (fun r => ix2 r b) hf hg).trans ?_
  refine Finset.sum_congr rfl fun r _ => congrArg₂ (fun y z : EReal => y * z) (norm_at x n a r) ?_
  exact View.ld_unit_apply_of w _ _ _ _ (ix2 r l) fun j => match j with
    | ⟨0, _⟩ => (Nat.zero_add _).symm
    | ⟨1, _⟩ => hl

/-- What a step stores as the normed rows. -/
theorem out_norm : out0_3 x n w = k0_pay3 x n := by
  unfold out0_3
  rw [View.canon_unit_zero origin2, View.ld_unit_zero origin2, View.ld_unit_zero origin3]

/-! What a step stores as each group of columns. -/

theorem out_4 (a : Fin 512) (b : Fin 1024) : out0_4 x n w (ix2 a b) = entry x n w a ⟨0 + b.val, by have := b.isLt; omega⟩ := by
  unfold_out out0_4
  rw [View.canon_unit_zero origin2, View.ld_unit_zero (S := S512x1024) origin2, View.ld_unit_zero origin3]
  exact prod_at (off := 0) x n w dot_S512x1024_S1024x1024_S512x1024_1_0_0_1_n_n rfl rfl _ a b ⟨0 + b.val, by have := b.isLt; omega⟩ rfl
    (fun _ => funext fun j => match j with
      | ⟨0, _⟩ => rfl
      | ⟨1, _⟩ => rfl) (fun _ => funext fun j => match j with
      | ⟨0, _⟩ => rfl
      | ⟨1, _⟩ => rfl)

theorem out_5 (a : Fin 512) (b : Fin 1536) : out0_5 x n w (ix2 a b) = entry x n w a ⟨1024 + b.val, by have := b.isLt; omega⟩ := by
  unfold_out out0_5
  rw [View.canon_unit_zero origin2, View.ld_unit_zero (S := S512x1024) origin2, View.ld_unit_zero origin3]
  exact prod_at (off := 1024) x n w dot_S512x1024_S1024x1536_S512x1536_1_0_0_1_n_n rfl rfl _ a b ⟨1024 + b.val, by have := b.isLt; omega⟩ rfl
    (fun _ => funext fun j => match j with
      | ⟨0, _⟩ => rfl
      | ⟨1, _⟩ => rfl) (fun _ => funext fun j => match j with
      | ⟨0, _⟩ => rfl
      | ⟨1, _⟩ => rfl)

theorem out_6 (a : Fin 512) (b : Fin 768) : out0_6 x n w (ix2 a b) = entry x n w a ⟨2560 + b.val, by have := b.isLt; omega⟩ := by
  unfold_out out0_6
  rw [View.canon_unit_zero origin2, View.ld_unit_zero (S := S512x1024) origin2, View.ld_unit_zero origin3]
  exact prod_at (off := 2560) x n w dot_S512x1024_S1024x768_S512x768_1_0_0_1_n_n rfl rfl _ a b ⟨2560 + b.val, by have := b.isLt; omega⟩ rfl
    (fun _ => funext fun j => match j with
      | ⟨0, _⟩ => rfl
      | ⟨1, _⟩ => rfl) (fun _ => funext fun j => match j with
      | ⟨0, _⟩ => rfl
      | ⟨1, _⟩ => rfl)

theorem out_7 (a : Fin 512) (b : Fin 1024) : out0_7 x n w (ix2 a b) = entry x n w a ⟨3328 + b.val, by have := b.isLt; omega⟩ := by
  unfold_out out0_7
  rw [View.canon_unit_zero origin2, View.ld_unit_zero (S := S512x1024) origin2, View.ld_unit_zero origin3]
  exact prod_at (off := 3328) x n w dot_S512x1024_S1024x1024_S512x1024_1_0_0_1_n_n rfl rfl _ a b ⟨3328 + b.val, by have := b.isLt; omega⟩ rfl
    (fun _ => funext fun j => match j with
      | ⟨0, _⟩ => rfl
      | ⟨1, _⟩ => rfl) (fun _ => funext fun j => match j with
      | ⟨0, _⟩ => rfl
      | ⟨1, _⟩ => rfl)

theorem out_8 (a : Fin 512) (b : Fin 128) : out0_8 x n w (ix2 a b) = entry x n w a ⟨4352 + b.val, by have := b.isLt; omega⟩ := by
  unfold_out out0_8
  rw [View.canon_unit_zero origin2, View.ld_unit_zero (S := S512x1024) origin2, View.ld_unit_zero origin3]
  exact prod_at (off := 4352) x n w dot_S512x1024_S1024x128_S512x128_1_0_0_1_n_n rfl rfl _ a b ⟨4352 + b.val, by have := b.isLt; omega⟩ rfl
    (fun _ => funext fun j => match j with
      | ⟨0, _⟩ => rfl
      | ⟨1, _⟩ => rfl) (fun _ => funext fun j => match j with
      | ⟨0, _⟩ => rfl
      | ⟨1, _⟩ => rfl)

end Cert.Proof.Mm.In
-- ==== Proof.Mm.InRef.lean ====
/- The input projection in the reference, at an index. -/
module

public import proofs.«01_k».proof.Proof.Gen.ReferenceInIdeal
public import proofs.«01_k».proof.Proof.Mm.Norm
public import Idealize.ShloMosaic.Lib.TwoAxisContraction

@[expose] public section

set_option maxRecDepth 16384

noncomputable section

namespace Cert.Proof.Mm.In

open Cert.ReferenceInIdeal Cert.ReferenceInIdeal.Gen
open Idealize.ShloMosaic Idealize.ShloMosaic.ValueIdx

theorem host_at (l : FVec Ideal S2048x1024 .f32) (q : FVec Ideal S1024x4480 .f32) (a : Fin 2048) (b : Fin 4480) :
    Host.dotGeneral (F := Ideal) dot_S2048x1024_S1024x4480_S2048x4480_1_0_0_1_n_n none l q (ix2 a b) = ∑ r : Fin 1024, l (ix2 a r) * q (ix2 r b) :=
  host_sum _ 1024 rfl rfl l q (ix2 a b) (fun r => ix2 a r) (fun r => ix2 r b)
    (fun _ => funext fun j => match j with
      | ⟨0, _⟩ => rfl
      | ⟨1, _⟩ => rfl) (fun _ => funext fun j => match j with
      | ⟨0, _⟩ => rfl
      | ⟨1, _⟩ => rfl)

variable (x : FVec Ideal S2048x1024 .f32) (n : FVec Ideal S4x1x1024 .f32) (w : FVec Ideal S1024x4480 .bf16)

/-- The reference's normed rows. -/
def hid : FVec Ideal S2048x1024 .f32 :=
  mulf (mulf x (broadcastInDim S2048x1024 ![0,1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0,1] bcast_S1x1024_S2048x1024_0_1 (broadcastInDim S1x1024 ![1] bcast_S1024_S1x1024_1 (shapeCast _ (extractStridedSlice S1x1024 ![1,0] (shapeCast _ n shapeCasts_S4x1x1024_S4x1024) slices_S4x1024_S1x1024_1_0) shapeCasts_S1x1024_S1024)))

theorem hid_at (a : Fin 2048) (r : Fin 1024) : hid x n (ix2 a r) = normed (fun j => x (ix2 a j)) (fun j => n (ix3 (1 : Fin 4) (0 : Fin 1) j)) r :=
  host_norm x n _ _ _ _ _ _ _ _ _ _ a r

/-- The reference's results: the normed rows, and groups of columns of their product with the weights. -/
def result_norm : FVec Ideal S2048x1024 .bf16 := truncf .bf16 (hid x n) bitsLt_bf16_f32
def whole : FVec Ideal S2048x4480 .f32 :=
  Host.dotGeneral dot_S2048x1024_S1024x4480_S2048x4480_1_0_0_1_n_n none (hid x n) (extf .f32 w bitsLt_bf16_f32)
def part {N : ℕ} (off : ℕ) (h : S2048x4480.Slices ![0, off] ⟨2, ![2048, N]⟩) : FVec Ideal ⟨2, ![2048, N]⟩ .f32 :=
  extractStridedSlice ⟨2, ![2048, N]⟩ ![0, off] (whole x n w) h

theorem result_norm_at (a : Fin 2048) (r : Fin 1024) :
    (result_norm x n (ix2 a r) : EReal) = normed (fun j => x (ix2 a j)) (fun j => n (ix3 (1 : Fin 4) (0 : Fin 1) j)) r :=
  (narrow_at _ _ _).trans (hid_at x n a r)

theorem whole_at (a : Fin 2048) (l : Fin 4480) :
    whole x n w (ix2 a l) = ∑ r : Fin 1024, normed (fun j => x (ix2 a j)) (fun j => n (ix3 (1 : Fin 4) (0 : Fin 1) j)) r * w (ix2 r l) := by
  unfold whole
  refine (host_at _ _ a l).trans ?_
  exact Finset.sum_congr rfl fun r _ => congrArg (fun y : EReal => y * w (ix2 r l)) (hid_at x n a r)

theorem part_at {N : ℕ} (off : ℕ) (h : S2048x4480.Slices ![0, off] ⟨2, ![2048, N]⟩) (a : Fin 2048) (b : Fin N) (l : Fin 4480) (hl : l.val = off + b.val) :
    part x n w off h (ix2 a b) = ∑ r : Fin 1024, normed (fun j => x (ix2 a j)) (fun j => n (ix3 (1 : Fin 4) (0 : Fin 1) j)) r * w (ix2 r l) :=
  (extractStridedSlice_apply _ _ _ _ (ix2 a l) (fun j => match j with
    | ⟨0, _⟩ => (Nat.zero_add _).symm
    | ⟨1, _⟩ => hl)).trans (whole_at x n w a l)

end Cert.Proof.Mm.In
-- ==== Proof.Mm.In.lean ====
/- The input projection: the whole arrays, and the claim. -/
module

public import proofs.«01_k».proof.Defs
public import proofs.«01_k».proof.Proof.Mm.InBlock
public import proofs.«01_k».proof.Proof.Mm.InRef
public import proofs.«01_k».proof.Proof.Gen.KernelInIdeal.Value
public import proofs.«01_k».proof.Proof.Gen.ReferenceInIdeal.Run

@[expose] public section

set_option maxRecDepth 16384

noncomputable section

namespace Cert.Proof.Mm.In

open Cert.KernelInIdeal Cert.KernelInIdeal.Gen
open Idealize.ShloMosaic Idealize.ShloMosaic.ValueIdx Idealize.SL.Sem

variable (m : (ℓ : Loc nD τ sig) → Buf (Elt Ideal) ℓ) (c : Dev nD)

/-- Where an entry of a block lies in its array, along one axis. -/
theorem emb_val (w : Fin cfg0.W) (t : Fin cfg0.N) (y : ((cfg0.win w).xblock (cfg0.grid.coords t)).Idx) (b : Fin (cfg0.win w).shape.rank)
    (hk : (cfg0.win w).kind = .blocked) (k z : ℕ) (hi : (cfg0.win w).index t b = k) (hz : k * (cfg0.win w).size b + (y b).val = z) :
    (((cfg0.win w).rect t).emb y b : ℕ) = z :=
  ((cfg0.win w).rect_emb_val t y b hk).trans (by rw [hi]; exact hz)

/-- The arguments as arrays. -/
abbrev g0 : FVec Ideal S2048x1024 .f32 := m ((c.tc : Thread nD τ).loc main_arg0)
abbrev g1 : FVec Ideal S4x1x1024 .f32 := m ((c.tc : Thread nD τ).loc main_arg1)
abbrev g2 : FVec Ideal S1024x4480 .bf16 := m ((c.tc : Thread nD τ).loc main_arg2)

/-- A block of rows' number as a grid point. -/
def pt (n : Fin 4) : Fin cfg0.N := ⟨n.val, lt_of_lt_of_eq n.isLt N_0.symm⟩

theorem index_0 : ∀ t : Fin cfg0.N, (cfg0.win 0).index t = ![t.val, 0] := by decide +kernel
theorem index_1 : ∀ t : Fin cfg0.N, (cfg0.win 1).index t = ![1, 0, 0] := by decide +kernel
theorem index_2 : ∀ t : Fin cfg0.N, (cfg0.win 2).index t = ![0, 0] := by decide +kernel
theorem index_3 : ∀ t : Fin cfg0.N, (cfg0.win 3).index t = ![t.val, 0] := by decide +kernel
theorem index_4 : ∀ t : Fin cfg0.N, (cfg0.win 4).index t = ![t.val, 0] := by decide +kernel
theorem index_5 : ∀ t : Fin cfg0.N, (cfg0.win 5).index t = ![t.val, 0] := by decide +kernel
theorem index_6 : ∀ t : Fin cfg0.N, (cfg0.win 6).index t = ![t.val, 0] := by decide +kernel
theorem index_7 : ∀ t : Fin cfg0.N, (cfg0.win 7).index t = ![t.val, 0] := by decide +kernel
theorem index_8 : ∀ t : Fin cfg0.N, (cfg0.win 8).index t = ![t.val, 0] := by decide +kernel

theorem blk0_at (n : Fin 4) (a : Fin 512) (r : Fin 1024) : iblk m c 0 (pt n) (ix2 a r) = g0 m c (ix2 (join 2048 rfl n a) r) :=
  congrArg (g0 m c) (funext fun j => match j with
    | ⟨0, _⟩ => Fin.ext (emb_val 0 (pt n) (ix2 a r) ⟨0, by decide⟩ rfl n.val (512 * n.val + a.val) (congrFun (index_0 _) 0) (by show n.val * 512 + a.val = _; omega))
    | ⟨1, _⟩ => Fin.ext (emb_val 0 (pt n) (ix2 a r) ⟨1, by decide⟩ rfl 0 r.val (congrFun (index_0 _) 1) (by show 0 * 1024 + r.val = _; omega)))

theorem blk1_at (n : Fin 4) (r : Fin 1024) : iblk m c 1 (pt n) (ix3 (0 : Fin 1) (0 : Fin 1) r) = g1 m c (ix3 (1 : Fin 4) (0 : Fin 1) r) :=
  congrArg (g1 m c) (funext fun j => match j with
    | ⟨0, _⟩ => Fin.ext (emb_val 1 (pt n) (ix3 (0 : Fin 1) (0 : Fin 1) r) ⟨0, by decide⟩ rfl 1 1 (congrFun (index_1 _) 0) (by show 1 * 1 + 0 = _; omega))
    | ⟨1, _⟩ => Fin.ext (emb_val 1 (pt n) (ix3 (0 : Fin 1) (0 : Fin 1) r) ⟨1, by decide⟩ rfl 0 0 (congrFun (index_1 _) 1) (by show 0 * 1 + 0 = _; omega))
    | ⟨2, _⟩ => Fin.ext (emb_val 1 (pt n) (ix3 (0 : Fin 1) (0 : Fin 1) r) ⟨2, by decide⟩ rfl 0 r.val (congrFun (index_1 _) 2) (by show 0 * 1024 + r.val = _; omega)))

/-- A block's normed row is the arrays'. -/
theorem row_at (n : Fin 4) (a : Fin 512) (r : Fin 1024) :
    normed (fun j => iblk m c 0 (pt n) (ix2 a j)) (fun j => iblk m c 1 (pt n) (ix3 (0 : Fin 1) (0 : Fin 1) j)) r
      = normed (fun j => g0 m c (ix2 (join 2048 rfl n a) j)) (fun j => g1 m c (ix3 (1 : Fin 4) (0 : Fin 1) j)) r :=
  congrArg₂ (fun s t : Fin 1024 → EReal => normed s t r) (funext fun j => blk0_at m c n a j) (funext fun j => blk1_at m c n j)

theorem blk2_at (n : Fin 4) (r : Fin 1024) (l : Fin 4480) : iblk m c 2 (pt n) (ix2 r l) = g2 m c (ix2 r l) :=
  congrArg (g2 m c) (funext fun j => match j with
    | ⟨0, _⟩ => Fin.ext (emb_val 2 (pt n) (ix2 r l) ⟨0, by decide⟩ rfl 0 r.val (congrFun (index_2 _) 0) (by show 0 * 1024 + r.val = _; omega))
    | ⟨1, _⟩ => Fin.ext (emb_val 2 (pt n) (ix2 r l) ⟨1, by decide⟩ rfl 0 l.val (congrFun (index_2 _) 1) (by show 0 * 4480 + l.val = _; omega)))

theorem emb_3 (n : Fin 4) (a : Fin 512) (l : Fin 1024) : ((cfg0.win 3).blk (pt n)).view.emb (ix2 a l) = ix2 (join 2048 rfl n a) l :=
  funext fun j => match j with
    | ⟨0, _⟩ => Fin.ext (emb_val 3 (pt n) (ix2 a l) ⟨0, by decide⟩ rfl n.val (512 * n.val + a.val) (congrFun (index_3 _) 0) (by show n.val * 512 + a.val = _; omega))
    | ⟨1, _⟩ => Fin.ext (emb_val 3 (pt n) (ix2 a l) ⟨1, by decide⟩ rfl 0 l.val (congrFun (index_3 _) 1) (by show 0 * 1024 + l.val = _; omega))

theorem emb_4 (n : Fin 4) (a : Fin 512) (l : Fin 1024) : ((cfg0.win 4).blk (pt n)).view.emb (ix2 a l) = ix2 (join 2048 rfl n a) l :=
  funext fun j => match j with
    | ⟨0, _⟩ => Fin.ext (emb_val 4 (pt n) (ix2 a l) ⟨0, by decide⟩ rfl n.val (512 * n.val + a.val) (congrFun (index_4 _) 0) (by show n.val * 512 + a.val = _; omega))
    | ⟨1, _⟩ => Fin.ext (emb_val 4 (pt n) (ix2 a l) ⟨1, by decide⟩ rfl 0 l.val (congrFun (index_4 _) 1) (by show 0 * 1024 + l.val = _; omega))

theorem emb_5 (n : Fin 4) (a : Fin 512) (l : Fin 1536) : ((cfg0.win 5).blk (pt n)).view.emb (ix2 a l) = ix2 (join 2048 rfl n a) l :=
  funext fun j => match j with
    | ⟨0, _⟩ => Fin.ext (emb_val 5 (pt n) (ix2 a l) ⟨0, by decide⟩ rfl n.val (512 * n.val + a.val) (congrFun (index_5 _) 0) (by show n.val * 512 + a.val = _; omega))
    | ⟨1, _⟩ => Fin.ext (emb_val 5 (pt n) (ix2 a l) ⟨1, by decide⟩ rfl 0 l.val (congrFun (index_5 _) 1) (by show 0 * 1536 + l.val = _; omega))

theorem emb_6 (n : Fin 4) (a : Fin 512) (l : Fin 768) : ((cfg0.win 6).blk (pt n)).view.emb (ix2 a l) = ix2 (join 2048 rfl n a) l :=
  funext fun j => match j with
    | ⟨0, _⟩ => Fin.ext (emb_val 6 (pt n) (ix2 a l) ⟨0, by decide⟩ rfl n.val (512 * n.val + a.val) (congrFun (index_6 _) 0) (by show n.val * 512 + a.val = _; omega))
    | ⟨1, _⟩ => Fin.ext (emb_val 6 (pt n) (ix2 a l) ⟨1, by decide⟩ rfl 0 l.val (congrFun (index_6 _) 1) (by show 0 * 768 + l.val = _; omega))

theorem emb_7 (n : Fin 4) (a : Fin 512) (l : Fin 1024) : ((cfg0.win 7).blk (pt n)).view.emb (ix2 a l) = ix2 (join 2048 rfl n a) l :=
  funext fun j => match j with
    | ⟨0, _⟩ => Fin.ext (emb_val 7 (pt n) (ix2 a l) ⟨0, by decide⟩ rfl n.val (512 * n.val + a.val) (congrFun (index_7 _) 0) (by show n.val * 512 + a.val = _; omega))
    | ⟨1, _⟩ => Fin.ext (emb_val 7 (pt n) (ix2 a l) ⟨1, by decide⟩ rfl 0 l.val (congrFun (index_7 _) 1) (by show 0 * 1024 + l.val = _; omega))

theorem emb_8 (n : Fin 4) (a : Fin 512) (l : Fin 128) : ((cfg0.win 8).blk (pt n)).view.emb (ix2 a l) = ix2 (join 2048 rfl n a) l :=
  funext fun j => match j with
    | ⟨0, _⟩ => Fin.ext (emb_val 8 (pt n) (ix2 a l) ⟨0, by decide⟩ rfl n.val (512 * n.val + a.val) (congrFun (index_8 _) 0) (by show n.val * 512 + a.val = _; omega))
    | ⟨1, _⟩ => Fin.ext (emb_val 8 (pt n) (ix2 a l) ⟨1, by decide⟩ rfl 0 l.val (congrFun (index_8 _) 1) (by show 0 * 128 + l.val = _; omega))

/-- A step writes its block of the normed rows. -/
theorem step_norm (n : Fin 4) (a : Fin 512) (r : Fin 1024) :
    out0_3 (iblk m c 0 (pt n)) (iblk m c 1 (pt n)) (iblk m c 2 (pt n)) (ix2 a r) = result_norm (g0 m c) (g1 m c) (ix2 (join 2048 rfl n a) r) :=
  (congrFun (out_norm _ _ _) _).trans ((norm_at _ _ a r).trans ((row_at m c n a r).trans (result_norm_at _ _ _ r).symm))

/-- A step's product is that group of columns of the reference's. -/
theorem step_part {N : ℕ} (off : ℕ) (h : Cert.ReferenceInIdeal.S2048x4480.Slices ![0, off] ⟨2, ![2048, N]⟩) (n : Fin 4) (a : Fin 512) (b : Fin N) (l : Fin 4480)
    (hl : l.val = off + b.val) :
    entry (iblk m c 0 (pt n)) (iblk m c 1 (pt n)) (iblk m c 2 (pt n)) a l = part (g0 m c) (g1 m c) (g2 m c) off h (ix2 (join 2048 rfl n a) b) :=
  Eq.trans (Finset.sum_congr rfl fun r _ => congrArg₂ (fun y z : EReal => y * z) (row_at m c n a r) (blk2_at m c n r l))
    (part_at (g0 m c) (g1 m c) (g2 m c) off h (join 2048 rfl n a) b l hl).symm

/-- The arrays after the call are the reference's results. -/
theorem arr_3 : (dats m 0 c).arrAt 3 cfg0.N = result_norm (g0 m c) (g1 m c) := by
  refine Pipeline.Dat.arrAt_eq_of_cover _ _ _ (fun t _ => ?_) fun i => ?_
  · obtain ⟨n, rfl⟩ : ∃ n : Fin 4, t = pt n := ⟨⟨t.val, lt_of_lt_of_eq t.isLt N_0⟩, rfl⟩
    refine funext fun (y : S512x1024.Idx) => ?_
    obtain ⟨a, l, rfl⟩ : ∃ (a : Fin 512) (l : Fin 1024), y = ix2 a l := ⟨y 0, y 1, by2 y⟩
    refine Eq.trans ?_ ((step_norm m c n a l).trans (congrArg (result_norm (g0 m c) (g1 m c)) (emb_3 n a l).symm))
    show (dats m 0 c).after 3 (pt n) (ix2 a l) = _
    rw [after0_3]
  · obtain ⟨l', l, rfl⟩ : ∃ (l' : Fin 2048) (l : Fin 1024), i = ix2 l' l := ⟨i 0, i 1, by2 i⟩
    obtain ⟨n, a, rfl⟩ := join_surj (p := 4) (q := 512) 2048 rfl l'
    exact ⟨pt n, flush0_3 _, Finset.mem_map.mpr ⟨ix2 a l, Finset.mem_univ _, emb_3 n a l⟩⟩

/-- Columns from 0. -/
theorem arr_4 : (dats m 0 c).arrAt 4 cfg0.N = part (g0 m c) (g1 m c) (g2 m c) 0 Cert.ReferenceInIdeal.Gen.slices_S2048x4480_S2048x1024_0_0 := by
  refine Pipeline.Dat.arrAt_eq_of_cover _ _ _ (fun t _ => ?_) fun i => ?_
  · obtain ⟨n, rfl⟩ : ∃ n : Fin 4, t = pt n := ⟨⟨t.val, lt_of_lt_of_eq t.isLt N_0⟩, rfl⟩
    refine funext fun (y : S512x1024.Idx) => ?_
    obtain ⟨a, l, rfl⟩ : ∃ (a : Fin 512) (l : Fin 1024), y = ix2 a l := ⟨y 0, y 1, by2 y⟩
    refine Eq.trans ?_ (((out_4 _ _ _ a l).trans (step_part m c 0 Cert.ReferenceInIdeal.Gen.slices_S2048x4480_S2048x1024_0_0 n a l _ rfl)).trans (congrArg (part (g0 m c) (g1 m c) (g2 m c) 0 Cert.ReferenceInIdeal.Gen.slices_S2048x4480_S2048x1024_0_0) (emb_4 n a l).symm))
    show (dats m 0 c).after 4 (pt n) (ix2 a l) = _
    rw [after0_4]
  · obtain ⟨l', l, rfl⟩ : ∃ (l' : Fin 2048) (l : Fin 1024), i = ix2 l' l := ⟨i 0, i 1, by2 i⟩
    obtain ⟨n, a, rfl⟩ := join_surj (p := 4) (q := 512) 2048 rfl l'
    exact ⟨pt n, flush0_4 _, Finset.mem_map.mpr ⟨ix2 a l, Finset.mem_univ _, emb_4 n a l⟩⟩

/-- Columns from 1024. -/
theorem arr_5 : (dats m 0 c).arrAt 5 cfg0.N = part (g0 m c) (g1 m c) (g2 m c) 1024 Cert.ReferenceInIdeal.Gen.slices_S2048x4480_S2048x1536_0_1024 := by
  refine Pipeline.Dat.arrAt_eq_of_cover _ _ _ (fun t _ => ?_) fun i => ?_
  · obtain ⟨n, rfl⟩ : ∃ n : Fin 4, t = pt n := ⟨⟨t.val, lt_of_lt_of_eq t.isLt N_0⟩, rfl⟩
    refine funext fun (y : S512x1536.Idx) => ?_
    obtain ⟨a, l, rfl⟩ : ∃ (a : Fin 512) (l : Fin 1536), y = ix2 a l := ⟨y 0, y 1, by2 y⟩
    refine Eq.trans ?_ (((out_5 _ _ _ a l).trans (step_part m c 1024 Cert.ReferenceInIdeal.Gen.slices_S2048x4480_S2048x1536_0_1024 n a l _ rfl)).trans (congrArg (part (g0 m c) (g1 m c) (g2 m c) 1024 Cert.ReferenceInIdeal.Gen.slices_S2048x4480_S2048x1536_0_1024) (emb_5 n a l).symm))
    show (dats m 0 c).after 5 (pt n) (ix2 a l) = _
    rw [after0_5]
  · obtain ⟨l', l, rfl⟩ : ∃ (l' : Fin 2048) (l : Fin 1536), i = ix2 l' l := ⟨i 0, i 1, by2 i⟩
    obtain ⟨n, a, rfl⟩ := join_surj (p := 4) (q := 512) 2048 rfl l'
    exact ⟨pt n, flush0_5 _, Finset.mem_map.mpr ⟨ix2 a l, Finset.mem_univ _, emb_5 n a l⟩⟩

/-- Columns from 2560. -/
theorem arr_6 : (dats m 0 c).arrAt 6 cfg0.N = part (g0 m c) (g1 m c) (g2 m c) 2560 Cert.ReferenceInIdeal.Gen.slices_S2048x4480_S2048x768_0_2560 := by
  refine Pipeline.Dat.arrAt_eq_of_cover _ _ _ (fun t _ => ?_) fun i => ?_
  · obtain ⟨n, rfl⟩ : ∃ n : Fin 4, t = pt n := ⟨⟨t.val, lt_of_lt_of_eq t.isLt N_0⟩, rfl⟩
    refine funext fun (y : S512x768.Idx) => ?_
    obtain ⟨a, l, rfl⟩ : ∃ (a : Fin 512) (l : Fin 768), y = ix2 a l := ⟨y 0, y 1, by2 y⟩
    refine Eq.trans ?_ (((out_6 _ _ _ a l).trans (step_part m c 2560 Cert.ReferenceInIdeal.Gen.slices_S2048x4480_S2048x768_0_2560 n a l _ rfl)).trans (congrArg (part (g0 m c) (g1 m c) (g2 m c) 2560 Cert.ReferenceInIdeal.Gen.slices_S2048x4480_S2048x768_0_2560) (emb_6 n a l).symm))
    show (dats m 0 c).after 6 (pt n) (ix2 a l) = _
    rw [after0_6]
  · obtain ⟨l', l, rfl⟩ : ∃ (l' : Fin 2048) (l : Fin 768), i = ix2 l' l := ⟨i 0, i 1, by2 i⟩
    obtain ⟨n, a, rfl⟩ := join_surj (p := 4) (q := 512) 2048 rfl l'
    exact ⟨pt n, flush0_6 _, Finset.mem_map.mpr ⟨ix2 a l, Finset.mem_univ _, emb_6 n a l⟩⟩

/-- Columns from 3328. -/
theorem arr_7 : (dats m 0 c).arrAt 7 cfg0.N = part (g0 m c) (g1 m c) (g2 m c) 3328 Cert.ReferenceInIdeal.Gen.slices_S2048x4480_S2048x1024_0_3328 := by
  refine Pipeline.Dat.arrAt_eq_of_cover _ _ _ (fun t _ => ?_) fun i => ?_
  · obtain ⟨n, rfl⟩ : ∃ n : Fin 4, t = pt n := ⟨⟨t.val, lt_of_lt_of_eq t.isLt N_0⟩, rfl⟩
    refine funext fun (y : S512x1024.Idx) => ?_
    obtain ⟨a, l, rfl⟩ : ∃ (a : Fin 512) (l : Fin 1024), y = ix2 a l := ⟨y 0, y 1, by2 y⟩
    refine Eq.trans ?_ (((out_7 _ _ _ a l).trans (step_part m c 3328 Cert.ReferenceInIdeal.Gen.slices_S2048x4480_S2048x1024_0_3328 n a l _ rfl)).trans (congrArg (part (g0 m c) (g1 m c) (g2 m c) 3328 Cert.ReferenceInIdeal.Gen.slices_S2048x4480_S2048x1024_0_3328) (emb_7 n a l).symm))
    show (dats m 0 c).after 7 (pt n) (ix2 a l) = _
    rw [after0_7]
  · obtain ⟨l', l, rfl⟩ : ∃ (l' : Fin 2048) (l : Fin 1024), i = ix2 l' l := ⟨i 0, i 1, by2 i⟩
    obtain ⟨n, a, rfl⟩ := join_surj (p := 4) (q := 512) 2048 rfl l'
    exact ⟨pt n, flush0_7 _, Finset.mem_map.mpr ⟨ix2 a l, Finset.mem_univ _, emb_7 n a l⟩⟩

/-- Columns from 4352. -/
theorem arr_8 : (dats m 0 c).arrAt 8 cfg0.N = part (g0 m c) (g1 m c) (g2 m c) 4352 Cert.ReferenceInIdeal.Gen.slices_S2048x4480_S2048x128_0_4352 := by
  refine Pipeline.Dat.arrAt_eq_of_cover _ _ _ (fun t _ => ?_) fun i => ?_
  · obtain ⟨n, rfl⟩ : ∃ n : Fin 4, t = pt n := ⟨⟨t.val, lt_of_lt_of_eq t.isLt N_0⟩, rfl⟩
    refine funext fun (y : S512x128.Idx) => ?_
    obtain ⟨a, l, rfl⟩ : ∃ (a : Fin 512) (l : Fin 128), y = ix2 a l := ⟨y 0, y 1, by2 y⟩
    refine Eq.trans ?_ (((out_8 _ _ _ a l).trans (step_part m c 4352 Cert.ReferenceInIdeal.Gen.slices_S2048x4480_S2048x128_0_4352 n a l _ rfl)).trans (congrArg (part (g0 m c) (g1 m c) (g2 m c) 4352 Cert.ReferenceInIdeal.Gen.slices_S2048x4480_S2048x128_0_4352) (emb_8 n a l).symm))
    show (dats m 0 c).after 8 (pt n) (ix2 a l) = _
    rw [after0_8]
  · obtain ⟨l', l, rfl⟩ : ∃ (l' : Fin 2048) (l : Fin 128), i = ix2 l' l := ⟨i 0, i 1, by2 i⟩
    obtain ⟨n, a, rfl⟩ := join_surj (p := 4) (q := 512) 2048 rfl l'
    exact ⟨pt n, flush0_8 _, Finset.mem_map.mpr ⟨ix2 a l, Finset.mem_univ _, emb_8 n a l⟩⟩

/-- Over the extended reals the call computes the reference's results. -/
theorem value : Cert.algebraic_KernelInIdeal_ReferenceInIdeal := fun m ρ m' ρ' _ hm =>
  ⟨_, _, _, _, _, _, (θ_run _ _ _).mono (fun _ h c => ⟨((h c).1).trans (arr_3 m c), ((h c).2.1).trans (arr_4 m c), ((h c).2.2.1).trans (arr_5 m c), ((h c).2.2.2.1).trans (arr_6 m c), ((h c).2.2.2.2.1).trans (arr_7 m c), ((h c).2.2.2.2.2.1).trans (arr_8 m c), (h c).2.2.2.2.2.2⟩) (Cert.KernelInIdeal.Value.run_blocks (F := Ideal) m ρ),
    (θ_run _ _ _).mono (fun _ h c => ⟨((h c).1).trans (by
      rw [(hm c).1, (hm c).2.1]; rfl), ((h c).2.1).trans (by
      rw [(hm c).1, (hm c).2.1, (hm c).2.2]; rfl), ((h c).2.2.1).trans (by
      rw [(hm c).1, (hm c).2.1, (hm c).2.2]; rfl), ((h c).2.2.2.1).trans (by
      rw [(hm c).1, (hm c).2.1, (hm c).2.2]; rfl), ((h c).2.2.2.2.1).trans (by
      rw [(hm c).1, (hm c).2.1, (hm c).2.2]; rfl), ((h c).2.2.2.2.2.1).trans (by
      rw [(hm c).1, (hm c).2.1, (hm c).2.2]; rfl), (h c).2.2.2.2.2.2⟩) (Cert.ReferenceInIdeal.Value.run (F := Ideal) m' ρ')⟩

/-- The reference's frame. -/
theorem frame_ref : Cert.quiescent_ReferenceInIdeal := fun m ρ _ =>
  (θ_run Cert.ReferenceInIdeal.defs _ _).mono
    (fun r h => ⟨fun c => (h c).2.2.2.2.2.2, Idealize.ShloMosaic.sem_eq_zero_of_no_sems (by decide) r.2⟩)
    (Cert.ReferenceInIdeal.Value.run (F := Ideal) m ρ)

end Cert.Proof.Mm.In
-- ==== Proof.Mm.NormBack.lean ====
/- The gradient of a row over the root of its mean square: the kernels' form and the derivative's are one. -/
module

public import proofs.«01_k».proof.Proof.Mm.Norm

@[expose] public section

set_option maxRecDepth 16384

noncomputable section

namespace Cert.Proof.Mm

open Idealize.ShloMosaic Idealize.ShloMosaic.ValueIdx

/-- The kernels' factor for a mean, and the factor of the root's derivative. -/
abbrev inv : EReal := Ideal.ofBits .f32 0x3A800000#32
abbrev mhalf : EReal := Ideal.ofBits .f32 0xBF000000#32

theorem inv_word : inv = ((1 / 1024 : ℝ) : EReal) := by
  simp only [inv, Ideal.ofBits, Ideal.ieee]
  simp
  refine (EReal.coe_mul _ _).symm.trans (congrArg _ ?_)
  norm_num

theorem mhalf_word : mhalf = ((-(1 / 2) : ℝ) : EReal) := by
  simp only [mhalf, Ideal.ofBits, Ideal.ieee]
  simp
  refine (EReal.coe_mul _ _).symm.trans (congrArg _ ?_)
  norm_num

theorem width_word : width = ((1024 : ℝ) : EReal) := by
  simp only [width, Ideal.ofBits, Ideal.ieee]
  simp
  refine (EReal.coe_mul _ _).symm.trans (congrArg _ ?_)
  norm_num

theorem tiny_pos : ∃ e : ℝ, 0 < e ∧ tiny = (e : EReal) := by
  simp only [tiny, Ideal.ofBits, Ideal.ieee]
  simp
  exact ⟨_, by positivity, rfl⟩

/-- A mean by division is a mean by the factor. -/
theorem div_width (y : EReal) : Ideal.div y width = y * inv := by
  have h : width ≠ 0 := by
    rw [width_word]
    exact EReal.coe_ne_zero.mpr (by norm_num)
  unfold Ideal.div
  rw [if_neg h, width_word, inv_word, ← EReal.coe_inv]
  norm_num

theorem sq_nonneg' (y : EReal) : 0 ≤ y * y := by
  rcases le_total 0 y with h | h
  · exact EReal.mul_nonneg h h
  · exact EReal.mul_nonneg_iff.mpr (.inr ⟨h, h⟩)

/-- A finite factor at least zero, out of a sum. -/
theorem sum_mul_out {n : ℕ} (s : ℝ) (hs : 0 ≤ s) (f : Fin n → EReal) : ∑ j, f j * (s : EReal) = (∑ j, f j) * (s : EReal) := by
  have key : ∀ t : Finset (Fin n), ∑ j ∈ t, f j * (s : EReal) = (∑ j ∈ t, f j) * (s : EReal) := fun t => by
    classical
    refine Finset.induction_on t (by simp) fun a t ha ih => ?_
    rw [Finset.sum_insert ha, Finset.sum_insert ha, ih,
      EReal.right_distrib_of_nonneg_of_ne_top (EReal.coe_nonneg.mpr hs) (EReal.coe_ne_top s)]
  exact key Finset.univ

variable (x d : Fin 1024 → EReal)

/-- The number under the root. -/
def under : EReal := Ideal.div (∑ j, x j * x j) width + tiny

/-- The kernels' gradient of a row, from the weighted gradient of the normed row. -/
def kernelBack (r : Fin 1024) : EReal :=
  scaleOf x * (d r - x r * scaleOf x * ((∑ j, d j * (x j * scaleOf x)) * inv))

/-- The derivative's: through the factor, and twice through the square. -/
def backMean : EReal := Ideal.div ((∑ j, x j * d j) * (mhalf * Ideal.div (scaleOf x) (under x))) width

/-- It is no number only at the top, and above zero. -/
theorem under_cases : under x = ⊤ ∨ ∃ v : ℝ, 0 < v ∧ under x = (v : EReal) := by
  obtain ⟨e, he, ht⟩ := tiny_pos
  have hq : 0 ≤ (∑ j, x j * x j) * inv :=
    EReal.mul_nonneg (Finset.sum_nonneg fun j _ => sq_nonneg' (x j)) (by rw [inv_word]; exact EReal.coe_nonneg.mpr (by norm_num))
  unfold under
  rw [div_width, ht]
  induction h : (∑ j, x j * x j) * inv with
  | bot => rw [h] at hq; exact absurd hq (by simp)
  | top => exact .inl (EReal.top_add_coe e)
  | coe q =>
    rw [h] at hq
    exact .inr ⟨q + e, add_pos_of_nonneg_of_pos (EReal.coe_nonneg.mp hq) he, (EReal.coe_add q e).symm⟩

/-- The two gradients of a row are one, on whatever was there. -/
theorem back_eq (c : EReal) (r : Fin 1024) :
    c + kernelBack x d r = c + d r * scaleOf x + x r * backMean x d + backMean x d * x r := by
  have hs : scaleOf x = Ideal.rsqrt (under x) := rfl
  unfold kernelBack backMean
  rcases under_cases x with h | ⟨v, hv, h⟩
  · have h0 : scaleOf x = 0 := by rw [hs, h]; rfl
    have h1 : Ideal.div (0 : EReal) ⊤ = 0 := by unfold Ideal.div; rw [if_neg (by simp), zero_mul]
    rw [h, h0, h1, div_width]
    simp
  · have hr : 0 < Real.sqrt v := Real.sqrt_pos.mpr hv
    have h0 : scaleOf x = (((Real.sqrt v)⁻¹ : ℝ) : EReal) := by
      rw [hs, h, Ideal.rsqrt_coe, if_neg (not_lt.mpr hv.le), if_neg hv.ne']
    have h1 : Ideal.div (((Real.sqrt v)⁻¹ : ℝ) : EReal) (v : EReal) = (((Real.sqrt v)⁻¹ * v⁻¹ : ℝ) : EReal) := by
      unfold Ideal.div
      rw [if_neg (EReal.coe_ne_zero.mpr hv.ne'), ← EReal.coe_inv, ← EReal.coe_mul]
    have hvv : v⁻¹ = (Real.sqrt v)⁻¹ * (Real.sqrt v)⁻¹ := by
      rw [← mul_inv, Real.mul_self_sqrt hv.le]
    rw [h0, h, h1, div_width, hvv, inv_word, mhalf_word]
    generalize hσ : (Real.sqrt v)⁻¹ = s
    have hsp : 0 ≤ s := by rw [← hσ]; exact inv_nonneg.mpr hr.le
    have hsum : (∑ j, d j * (x j * (s : EReal))) = (∑ j, x j * d j) * (s : EReal) := by
      rw [← sum_mul_out s hsp]
      exact Finset.sum_congr rfl fun j _ => by rw [mul_comm (x j) (d j), mul_assoc]
    rw [hsum]
    generalize (∑ j, x j * d j) = D
    have hk : ∀ a b : ℝ, (D * (a : EReal)) * (b : EReal) = D * ((a * b : ℝ) : EReal) := fun a b => by rw [mul_assoc, ← EReal.coe_mul]
    rw [← EReal.coe_mul, hk, hk]
    have hneg : D * ((-(1 / 2) * (s * (s * s)) * (1 / 1024) : ℝ) : EReal) = -(D * ((s * s * s / 2048 : ℝ) : EReal)) := by
      rw [← mul_neg, ← EReal.coe_neg]
      exact congrArg (fun z : ℝ => D * (z : EReal)) (by ring)
    rw [hneg, sub_eq_add_neg, EReal.left_distrib_of_nonneg_of_ne_top (EReal.coe_nonneg.mpr hsp) (EReal.coe_ne_top s),
      mul_comm (s : EReal) (d r), add_assoc, add_assoc, ← add_assoc]
    have hq : 0 ≤ s * s * s / 2048 := by positivity
    have e1 : x r * -(D * ((s * s * s / 2048 : ℝ) : EReal)) = -(x r * D) * ((s * s * s / 2048 : ℝ) : EReal) := by
      rw [mul_neg, ← mul_assoc, neg_mul]
    have e2 : (s : EReal) * -(x r * (s : EReal) * (D * ((s * (1 / 1024) : ℝ) : EReal)))
        = -(x r * D) * (((s * s * s / 2048 : ℝ) : EReal) + ((s * s * s / 2048 : ℝ) : EReal)) := by
      have e3 : x r * (s : EReal) * (D * ((s * (1 / 1024) : ℝ) : EReal)) = x r * D * ((s * (s * (1 / 1024)) : ℝ) : EReal) := by
        rw [EReal.coe_mul s]
        ac_rfl
      rw [e3, mul_neg, mul_left_comm, ← EReal.coe_mul, neg_mul, ← EReal.coe_add]
      exact congrArg (fun z : ℝ => -(x r * D * (z : EReal))) (by ring)
    rw [mul_comm _ (x r), e1, e2, EReal.left_distrib_of_nonneg (EReal.coe_nonneg.mpr hq) (EReal.coe_nonneg.mpr hq), add_assoc]

section Kernel

variable {n : ℕ} (X D : FVec Ideal ⟨2, ![n, 1024]⟩ .f32)

/-- The scale of a row, where the mean is by the factor. -/
theorem kernel_scale_inv (h : Shape.Reduces ⟨2, ![n, 1024]⟩ [1] ⟨1, ![n]⟩) (h1 : FKind.Formats .f32)
    (h2 : (0x00000000#32 : BitVec 32) = FKind.add.neutral .f32 h1) (hc : Shape.ShapeCasts ⟨1, ![n]⟩ ⟨2, ![n, 1]⟩) (a : Fin n) :
    rsqrt (addf (mulf (shapeCast ⟨2, ![n, 1]⟩ (multiReduction (F := Ideal) .add [1] ⟨1, ![n]⟩ (mulf X X) 0x00000000#32 h h1 h2) hc)
      (broadcast ⟨2, ![n, 1]⟩ (Scalar.ofBits .f32 0x3A800000#32))) (broadcast ⟨2, ![n, 1]⟩ (Scalar.ofBits .f32 0x358637BD#32))) (ix2 a (0 : Fin 1))
      = scaleOf fun j => X (ix2 a j) :=
  (congrArg (fun z : EReal => Ideal.rsqrt (z * inv + tiny)) (col_sum (mulf X X) h h1 h2 hc a)).trans
    (congrArg (fun z : EReal => Ideal.rsqrt (z + tiny)) (div_width _).symm)

/-- The rows times their scales, where `R` holds the scales. -/
theorem kernel_hat (R : FVec Ideal ⟨2, ![n, 1]⟩ .f32) (hR : ∀ a, R (ix2 a (0 : Fin 1)) = scaleOf fun j => X (ix2 a j))
    (hb : Shape.Broadcasts ⟨2, ![n, 1]⟩ ⟨2, ![n, 1024]⟩) (a : Fin n) (r : Fin 1024) :
    mulf X (broadcastTo ⟨2, ![n, 1024]⟩ R hb) (ix2 a r) = X (ix2 a r) * scaleOf fun j => X (ix2 a j) :=
  congrArg (fun s : EReal => X (ix2 a r) * s) ((col_spread R hb a r).trans (hR a))

/-- The gradient of the rows. -/
theorem kernel_back (R : FVec Ideal ⟨2, ![n, 1]⟩ .f32) (hR : ∀ a, R (ix2 a (0 : Fin 1)) = scaleOf fun j => X (ix2 a j))
    (hb : Shape.Broadcasts ⟨2, ![n, 1]⟩ ⟨2, ![n, 1024]⟩) (h : Shape.Reduces ⟨2, ![n, 1024]⟩ [1] ⟨1, ![n]⟩) (h1 : FKind.Formats .f32)
    (h2 : (0x00000000#32 : BitVec 32) = FKind.add.neutral .f32 h1) (hc : Shape.ShapeCasts ⟨1, ![n]⟩ ⟨2, ![n, 1]⟩) (a : Fin n) (r : Fin 1024) :
    mulf (broadcastTo ⟨2, ![n, 1024]⟩ R hb) (subf D (mulf (mulf X (broadcastTo ⟨2, ![n, 1024]⟩ R hb)) (broadcastTo ⟨2, ![n, 1024]⟩
      (mulf (shapeCast ⟨2, ![n, 1]⟩ (multiReduction (F := Ideal) .add [1] ⟨1, ![n]⟩ (mulf D (mulf X (broadcastTo ⟨2, ![n, 1024]⟩ R hb))) 0x00000000#32 h h1 h2) hc)
        (broadcast ⟨2, ![n, 1]⟩ (Scalar.ofBits .f32 0x3A800000#32))) hb))) (ix2 a r)
      = kernelBack (fun j => X (ix2 a j)) (fun j => D (ix2 a j)) r := by
  have hm : mulf (shapeCast ⟨2, ![n, 1]⟩ (multiReduction (F := Ideal) .add [1] ⟨1, ![n]⟩ (mulf D (mulf X (broadcastTo ⟨2, ![n, 1024]⟩ R hb))) 0x00000000#32 h h1 h2) hc)
      (broadcast ⟨2, ![n, 1]⟩ (Scalar.ofBits .f32 0x3A800000#32)) (ix2 a (0 : Fin 1))
      = (∑ j, D (ix2 a j) * (X (ix2 a j) * scaleOf fun j => X (ix2 a j))) * inv :=
    congrArg (fun z : EReal => z * inv) ((col_sum _ h h1 h2 hc a).trans
      (Finset.sum_congr rfl fun j _ => congrArg (fun z : EReal => D (ix2 a j) * z) (kernel_hat X R hR hb a j)))
  have hr : broadcastTo ⟨2, ![n, 1024]⟩ R hb (ix2 a r) = scaleOf fun j => X (ix2 a j) := (col_spread R hb a r).trans (hR a)
  exact congrArg₂ (fun s t : EReal => s * (D (ix2 a r) - t)) hr
    (congrArg₂ (fun s t : EReal => s * t) (kernel_hat X R hR hb a r) ((col_spread _ hb a r).trans hm))

/-- A sum over the rows, put in a row. -/
theorem row_total (h : Shape.Reduces ⟨2, ![n, 1024]⟩ [0] ⟨1, ![1024]⟩) (h1 : FKind.Formats .f32)
    (h2 : (0x00000000#32 : BitVec 32) = FKind.add.neutral .f32 h1) (hc : Shape.ShapeCasts ⟨1, ![1024]⟩ ⟨2, ![1, 1024]⟩) (r : Fin 1024) :
    shapeCast ⟨2, ![1, 1024]⟩ (multiReduction (F := Ideal) .add [0] ⟨1, ![1024]⟩ X 0x00000000#32 h h1 h2) hc (ix2 (0 : Fin 1) r)
      = ∑ a : Fin n, X (ix2 a r) := by
  refine (shapeCast_apply _ _ _ (ix1 r) (by
    rw [Shape.rowMajor_val_one, Shape.rowMajor_val_two]
    show r.val = 0 * 1024 + r.val
    omega)).trans ?_
  refine (Ideal.multiReduction_add_single X _ h h1 h2 (ix1 r)).trans ?_
  exact Finset.sum_congr rfl fun c _ => congrArg X (funext fun b => match b with
    | ⟨0, _⟩ => rfl
    | ⟨1, _⟩ => rfl)

/-- The gradient of the rows where the normed rows are weighted, on whatever was there. -/
theorem kernel_rows (Y G : FVec Ideal ⟨2, ![n, 1024]⟩ .f32) (W : FVec Ideal ⟨3, ![1, 1, 1024]⟩ .f32)
    (R : FVec Ideal ⟨2, ![n, 1]⟩ .f32) (hR : ∀ a, R (ix2 a (0 : Fin 1)) = scaleOf fun j => X (ix2 a j))
    (hb : Shape.Broadcasts ⟨2, ![n, 1]⟩ ⟨2, ![n, 1024]⟩) (h : Shape.Reduces ⟨2, ![n, 1024]⟩ [1] ⟨1, ![n]⟩) (h1 : FKind.Formats .f32)
    (h2 : (0x00000000#32 : BitVec 32) = FKind.add.neutral .f32 h1) (hc : Shape.ShapeCasts ⟨1, ![n]⟩ ⟨2, ![n, 1]⟩)
    (hd : Shape.ShapeCasts ⟨3, ![1, 1, 1024]⟩ ⟨2, ![1, 1024]⟩) (he : Shape.Broadcasts ⟨2, ![1, 1024]⟩ ⟨2, ![n, 1024]⟩)
    (hD : D = mulf G (broadcastTo ⟨2, ![n, 1024]⟩ (shapeCast ⟨2, ![1, 1024]⟩ W hd) he)) (a : Fin n) (r : Fin 1024) :
    addf Y (mulf (broadcastTo ⟨2, ![n, 1024]⟩ R hb) (subf D (mulf (mulf X (broadcastTo ⟨2, ![n, 1024]⟩ R hb)) (broadcastTo ⟨2, ![n, 1024]⟩
      (mulf (shapeCast ⟨2, ![n, 1]⟩ (multiReduction (F := Ideal) .add [1] ⟨1, ![n]⟩ (mulf D (mulf X (broadcastTo ⟨2, ![n, 1024]⟩ R hb))) 0x00000000#32 h h1 h2) hc)
        (broadcast ⟨2, ![n, 1]⟩ (Scalar.ofBits .f32 0x3A800000#32))) hb)))) (ix2 a r)
      = Y (ix2 a r) + kernelBack (fun j => X (ix2 a j)) (fun j => G (ix2 a j) * W (ix3 (0 : Fin 1) (0 : Fin 1) j)) r := by
  refine congrArg (fun z : EReal => Y (ix2 a r) + z) ((kernel_back X D R hR hb h h1 h2 hc a r).trans ?_)
  refine congrArg (fun d => kernelBack (fun j => X (ix2 a j)) d r) (funext fun j => ?_)
  rw [hD]
  exact congrArg (fun z : EReal => G (ix2 a j) * z) (row_spread W hd he a j)

/-- The gradient of the weights, added to what was there. -/
theorem kernel_weights (G : FVec Ideal ⟨2, ![n, 1024]⟩ .f32) (V : FVec Ideal ⟨2, ![1, 1024]⟩ .f32)
    (R : FVec Ideal ⟨2, ![n, 1]⟩ .f32) (hR : ∀ a, R (ix2 a (0 : Fin 1)) = scaleOf fun j => X (ix2 a j))
    (hb : Shape.Broadcasts ⟨2, ![n, 1]⟩ ⟨2, ![n, 1024]⟩) (h : Shape.Reduces ⟨2, ![n, 1024]⟩ [0] ⟨1, ![1024]⟩) (h1 : FKind.Formats .f32)
    (h2 : (0x00000000#32 : BitVec 32) = FKind.add.neutral .f32 h1) (hc : Shape.ShapeCasts ⟨1, ![1024]⟩ ⟨2, ![1, 1024]⟩)
    (hv : Shape.ShapeCasts ⟨2, ![1, 1024]⟩ ⟨2, ![1, 1024]⟩) (r : Fin 1024) :
    addf (shapeCast ⟨2, ![1, 1024]⟩ V hv) (shapeCast ⟨2, ![1, 1024]⟩ (multiReduction (F := Ideal) .add [0] ⟨1, ![1024]⟩
      (mulf G (mulf X (broadcastTo ⟨2, ![n, 1024]⟩ R hb))) 0x00000000#32 h h1 h2) hc) (ix2 (0 : Fin 1) r)
      = V (ix2 (0 : Fin 1) r) + ∑ a : Fin n, G (ix2 a r) * (X (ix2 a r) * scaleOf fun j => X (ix2 a j)) :=
  congrArg₂ (fun s t : EReal => s + t) (congrFun (shapeCast_self _ _) _) ((row_total _ h h1 h2 hc r).trans
    (Finset.sum_congr rfl fun a _ => congrArg (fun z : EReal => G (ix2 a r) * z) (kernel_hat X R hR hb a r)))

end Kernel

section Reference

variable (X D : FVec Ideal ⟨2, ![2048, 1024]⟩ .f32)

/-- The reference's sum over one axis of two, from nothing. -/
theorem host_cols {p q : ℕ} (Y : FVec Ideal ⟨2, ![p, q]⟩ .f32) (h : Shape.ReducesTo ⟨2, ![p, q]⟩ [1] ⟨1, ![p]⟩)
    (hu : 0 < (⟨0, ![]⟩ : Shape).numel) (hs : Shape.Reduces ⟨2, ![p, q]⟩ [1] ⟨1, ![p]⟩) (a : Fin p) :
    Host.reduceAdd (F := Ideal) Y (constant ⟨0, ![]⟩ .f32 0x00000000#32) h hu (ix1 a) = ∑ j : Fin q, Y (ix2 a j) := by
  rw [hostReduceAdd_apply, Ideal.hostReduceAdd_single _ hs]
  refine (congrArg₂ (fun x y : EReal => x + y) (Ideal.ofBits_zero_f32 : Ideal.ofBits .f32 0x00000000#32 = 0) rfl).trans ((zero_add _).trans ?_)
  exact Finset.sum_congr rfl fun c _ => congrArg Y (funext fun b => match b with
    | ⟨0, _⟩ => rfl
    | ⟨1, _⟩ => rfl)

theorem host_rows {p q : ℕ} (Y : FVec Ideal ⟨2, ![p, q]⟩ .f32) (h : Shape.ReducesTo ⟨2, ![p, q]⟩ [0] ⟨1, ![q]⟩)
    (hu : 0 < (⟨0, ![]⟩ : Shape).numel) (hs : Shape.Reduces ⟨2, ![p, q]⟩ [0] ⟨1, ![q]⟩) (r : Fin q) :
    Host.reduceAdd (F := Ideal) Y (constant ⟨0, ![]⟩ .f32 0x00000000#32) h hu (ix1 r) = ∑ a : Fin p, Y (ix2 a r) := by
  rw [hostReduceAdd_apply, Ideal.hostReduceAdd_single _ hs]
  refine (congrArg₂ (fun x y : EReal => x + y) (Ideal.ofBits_zero_f32 : Ideal.ofBits .f32 0x00000000#32 = 0) rfl).trans ((zero_add _).trans ?_)
  exact Finset.sum_congr rfl fun c _ => congrArg Y (funext fun b => match b with
    | ⟨0, _⟩ => rfl
    | ⟨1, _⟩ => rfl)

/-- The number under the reference's root. -/
theorem host_under (h : Shape.ReducesTo ⟨2, ![2048, 1024]⟩ [1] ⟨1, ![2048]⟩) (hu : 0 < (⟨0, ![]⟩ : Shape).numel)
    (hb : Shape.BroadcastsInDim ⟨1, ![2048]⟩ ⟨2, ![2048, 1]⟩ ![0]) (hk : Shape.BroadcastsInDim ⟨0, ![]⟩ ⟨2, ![2048, 1]⟩ ![]) (a : Fin 2048) :
    addf (Host.divf (broadcastInDim ⟨2, ![2048, 1]⟩ ![0] hb (Host.reduceAdd (F := Ideal) (mulf X X) (constant ⟨0, ![]⟩ .f32 0x00000000#32) h hu))
      (broadcastInDim ⟨2, ![2048, 1]⟩ ![] hk (constant ⟨0, ![]⟩ .f32 0x44800000#32)))
      (broadcastInDim ⟨2, ![2048, 1]⟩ ![] hk (constant ⟨0, ![]⟩ .f32 0x358637BD#32)) (ix2 a (0 : Fin 1))
      = under fun j => X (ix2 a j) :=
  congrArg (fun z : EReal => Ideal.div z width + tiny) ((host_col _ hb a).trans (host_row_sum (mulf X X) h hu a))

/-- The derivative through the square, where `S` holds the scales and `V` the numbers under the roots. -/
theorem host_mean (S V : FVec Ideal ⟨2, ![2048, 1]⟩ .f32) (hS : ∀ a, S (ix2 a (0 : Fin 1)) = scaleOf fun j => X (ix2 a j))
    (hV : ∀ a, V (ix2 a (0 : Fin 1)) = under fun j => X (ix2 a j))
    (h : Shape.ReducesTo ⟨2, ![2048, 1024]⟩ [1] ⟨1, ![2048]⟩) (hu : 0 < (⟨0, ![]⟩ : Shape).numel)
    (hc : Shape.ShapeCasts ⟨1, ![2048]⟩ ⟨2, ![2048, 1]⟩) (hk : Shape.BroadcastsInDim ⟨0, ![]⟩ ⟨2, ![2048, 1]⟩ ![])
    (hl : Shape.ReducesTo ⟨2, ![2048, 1]⟩ [1] ⟨1, ![2048]⟩) (a : Fin 2048) :
    Host.reduceAdd (F := Ideal) (Host.divf (mulf (shapeCast ⟨2, ![2048, 1]⟩ (Host.reduceAdd (F := Ideal) (mulf X D) (constant ⟨0, ![]⟩ .f32 0x00000000#32) h hu) hc)
      (mulf (broadcastInDim ⟨2, ![2048, 1]⟩ ![] hk (constant ⟨0, ![]⟩ .f32 0xBF000000#32)) (Host.divf S V)))
      (broadcastInDim ⟨2, ![2048, 1]⟩ ![] hk (constant ⟨0, ![]⟩ .f32 0x44800000#32))) (constant ⟨0, ![]⟩ .f32 0x00000000#32) hl hu (ix1 a)
      = backMean (fun j => X (ix2 a j)) (fun j => D (ix2 a j)) := by
  refine (host_cols _ hl hu (by decide) a).trans ((Fin.sum_univ_one _).trans ?_)
  have e : shapeCast ⟨2, ![2048, 1]⟩ (Host.reduceAdd (F := Ideal) (mulf X D) (constant ⟨0, ![]⟩ .f32 0x00000000#32) h hu) hc (ix2 a (0 : Fin 1))
      = ∑ j : Fin 1024, X (ix2 a j) * D (ix2 a j) :=
    (shapeCast_apply _ _ _ (ix1 a) (by
      rw [Shape.rowMajor_val_one, Shape.rowMajor_val_two]
      show a.val = a.val * 1 + 0
      omega)).trans (host_row_sum (mulf X D) h hu a)
  refine (congrArg₂ (fun s t : EReal => Ideal.div (s * (mhalf * t)) width) e (congrArg₂ Ideal.div (hS a) (hV a))).trans ?_
  rfl

/-- One number a row, spread. -/
theorem host_each {α : Type} (y : (⟨1, ![2048]⟩ : Shape).Idx → α) (h : Shape.BroadcastsInDim ⟨1, ![2048]⟩ ⟨2, ![2048, 1024]⟩ ![0])
    (a : Fin 2048) (r : Fin 1024) : broadcastInDim ⟨2, ![2048, 1024]⟩ ![0] h y (ix2 a r) = y (ix1 a) :=
  broadcastInDim_apply _ _ _ _ _ (fun b => match b with
    | ⟨0, _⟩ => rfl)

/-- The reference's gradient of the rows is the kernels'. -/
theorem host_back (Y : FVec Ideal ⟨2, ![2048, 1024]⟩ .f32) (S : FVec Ideal ⟨2, ![2048, 1]⟩ .f32) (E : FVec Ideal ⟨1, ![2048]⟩ .f32)
    (hS : ∀ a, S (ix2 a (0 : Fin 1)) = scaleOf fun j => X (ix2 a j))
    (hE : ∀ a, E (ix1 a) = backMean (fun j => X (ix2 a j)) (fun j => D (ix2 a j)))
    (hs : Shape.BroadcastsInDim ⟨2, ![2048, 1]⟩ ⟨2, ![2048, 1024]⟩ ![0, 1]) (h : Shape.BroadcastsInDim ⟨1, ![2048]⟩ ⟨2, ![2048, 1024]⟩ ![0])
    (a : Fin 2048) (r : Fin 1024) :
    addf (addf (addf Y (mulf D (broadcastInDim ⟨2, ![2048, 1024]⟩ ![0, 1] hs S))) (mulf X (broadcastInDim ⟨2, ![2048, 1024]⟩ ![0] h E)))
      (mulf (broadcastInDim ⟨2, ![2048, 1024]⟩ ![0] h E) X) (ix2 a r)
      = Y (ix2 a r) + kernelBack (fun j => X (ix2 a j)) (fun j => D (ix2 a j)) r := by
  have e : broadcastInDim ⟨2, ![2048, 1024]⟩ ![0] h E (ix2 a r) = backMean (fun j => X (ix2 a j)) (fun j => D (ix2 a j)) :=
    (host_each E h a r).trans (hE a)
  have f : broadcastInDim ⟨2, ![2048, 1024]⟩ ![0, 1] hs S (ix2 a r) = scaleOf fun j => X (ix2 a j) := (host_spread S hs a r).trans (hS a)
  refine Eq.trans ?_ (back_eq (fun j => X (ix2 a j)) (fun j => D (ix2 a j)) (Y (ix2 a r)) r).symm
  exact congrArg₂ (fun s t : EReal => Y (ix2 a r) + D (ix2 a r) * s + X (ix2 a r) * t + t * X (ix2 a r)) f e

/-- The reference's gradient of the weights. -/
theorem host_weights (G : FVec Ideal ⟨2, ![2048, 1024]⟩ .f32) (S : FVec Ideal ⟨2, ![2048, 1]⟩ .f32)
    (hS : ∀ a, S (ix2 a (0 : Fin 1)) = scaleOf fun j => X (ix2 a j))
    (hs : Shape.BroadcastsInDim ⟨2, ![2048, 1]⟩ ⟨2, ![2048, 1024]⟩ ![0, 1]) (h : Shape.ReducesTo ⟨2, ![2048, 1024]⟩ [0] ⟨1, ![1024]⟩)
    (hu : 0 < (⟨0, ![]⟩ : Shape).numel) (hc : Shape.ShapeCasts ⟨1, ![1024]⟩ ⟨2, ![1, 1024]⟩) (hl : Shape.ReducesTo ⟨2, ![1, 1024]⟩ [0] ⟨1, ![1024]⟩) (r : Fin 1024) :
    shapeCast ⟨2, ![1, 1024]⟩ (Host.reduceAdd (F := Ideal) (shapeCast ⟨2, ![1, 1024]⟩ (Host.reduceAdd (F := Ideal)
      (mulf (mulf X (broadcastInDim ⟨2, ![2048, 1024]⟩ ![0, 1] hs S)) G) (constant ⟨0, ![]⟩ .f32 0x00000000#32) h hu) hc)
      (constant ⟨0, ![]⟩ .f32 0x00000000#32) hl hu) hc (ix2 (0 : Fin 1) r)
      = ∑ a : Fin 2048, G (ix2 a r) * (X (ix2 a r) * scaleOf fun j => X (ix2 a j)) := by
  have c : ∀ y : FVec Ideal ⟨1, ![1024]⟩ .f32, shapeCast ⟨2, ![1, 1024]⟩ y hc (ix2 (0 : Fin 1) r) = y (ix1 r) := fun y =>
    shapeCast_apply _ _ _ (ix1 r) (by
      rw [Shape.rowMajor_val_one, Shape.rowMajor_val_two]
      show r.val = 0 * 1024 + r.val
      omega)
  refine (c _).trans ((host_rows _ hl hu (by decide) r).trans ((Fin.sum_univ_one _).trans ((c _).trans ((host_rows _ h hu (by decide) r).trans ?_))))
  refine Finset.sum_congr rfl fun a _ => (mul_comm _ _).trans ?_
  exact congrArg (fun z : EReal => G (ix2 a r) * (X (ix2 a r) * z)) ((host_spread S hs a r).trans (hS a))

end Reference

/-- A sum by quotient and remainder. -/
theorem sum_join {p q : ℕ} (n : ℕ) (h : p * q = n) (f : Fin n → EReal) : ∑ l, f l = ∑ a : Fin p, ∑ b : Fin q, f (join n h a b) := by
  subst h
  rw [← Fintype.sum_prod_type' (fun a b => f (join (p * q) rfl a b))]
  exact (Fintype.sum_equiv (finProdFinEquiv (m := p) (n := q)) _ _ fun x => congrArg f (Fin.ext (Nat.add_comm _ _))).symm

end Cert.Proof.Mm
-- ==== Proof.Mm.UpBwdBlock.lean ====
/- One step of the gradient behind the MLP's norm: the products by tiles summed, and the gradient of the normed rows. -/
module

public import proofs.«01_k».proof.Proof.Gen.KernelUpBwdIdeal.Frame
public import proofs.«01_k».proof.Proof.Mm.NormBack
public import Idealize.ShloMosaic.Lib.TwoAxisContraction
public import Idealize.ShloMosaic.Lib.Pipeline.ValueKit.Tiles

@[expose] public section

set_option maxRecDepth 16384

noncomputable section

namespace Cert.Proof.Mm.UpBwd

open Cert.KernelUpBwdIdeal Cert.KernelUpBwdIdeal.Gen
open Idealize.ShloMosaic Idealize.ShloMosaic.ValueIdx

/-- Rows against rows. -/
theorem dot_at {φ ψ : FTy} (l : FVec Ideal S512x512 φ) (q : FVec Ideal S1024x512 ψ) (a : Fin 512) (r : Fin 1024) :
    matmul dot_S512x512_S1024x512_S512x1024_1_1_0_0_n_n none l q (constant S512x1024 .f32 0x00000000#32) (ix2 a r)
      = ∑ b : Fin 512, l (ix2 a b) * q (ix2 r b) :=
  unit_sum _ 512 rfl rfl l q (ix2 a r) (fun b => ix2 a b) (fun b => ix2 r b)
    (fun _ => funext fun j => match j with
      | ⟨0, _⟩ => rfl
      | ⟨1, _⟩ => rfl) (fun _ => funext fun j => match j with
      | ⟨0, _⟩ => rfl
      | ⟨1, _⟩ => rfl)

section Rows

variable (u : Vec Ideal S512x4096 .bf16) (w : Vec Ideal S8x1x1024x512 .bf16) (y x : Vec Ideal S512x1024 .f32) (n : Vec Ideal S1x1x1024 .f32)
  (v : Vec Ideal S1x1024 .f32) (a : Fin 512) (r : Fin 1024)

/-- One tile's product. -/
def part (k : Fin 8) : EReal := ∑ b : Fin 512, u (ix2 a (join 4096 rfl k b)) * w (ix4 k (0 : Fin 1) r b)

theorem part_at (k : Fin 8) (hu : ∀ j, (![0, 512 * k.val] : Fin 2 → ℕ) j + S512x512.size j ≤ S512x4096.size j)
    (hw : ∀ j, (![k.val, 0, 0, 0] : Fin 4 → ℕ) j + S1x1x1024x512.size j ≤ S8x1x1024x512.size j) :
    matmul (F := Ideal) (φ₁ := .bf16) (φ₂ := .bf16) dot_S512x512_S1024x512_S512x1024_1_1_0_0_n_n none (View.ld u (Rect.unit (s := S512x4096) ![0, 512 * k.val] S512x512.size hu))
      (shapeCast S1024x512 (View.ld w (Rect.unit (s := S8x1x1024x512) ![k.val, 0, 0, 0] S1x1x1024x512.size hw)) shapeCasts_S1x1x1024x512_S1024x512)
      (constant S512x1024 .f32 0x00000000#32) (ix2 a r) = part u w a r k := by
  refine (dot_at (φ := .bf16) (ψ := .bf16) _ _ a r).trans (Finset.sum_congr rfl fun b _ => congrArg₂ (fun s t : EReal => s * t) ?_ ?_)
  · exact View.ld_unit_apply_of u _ _ _ _ (ix2 a (join 4096 rfl k b)) fun j => match j with
      | ⟨0, _⟩ => (Nat.zero_add _).symm
      | ⟨1, _⟩ => rfl
  · refine (shapeCast_apply _ _ (ix2 r b) (ix4 (0 : Fin 1) (0 : Fin 1) r b) (by
      rewrite [Shape.rowMajor_val_two, Shape.rowMajor_val_four]
      show ((0 * 1 + 0) * 1024 + r.val) * 512 + b.val = r.val * 512 + b.val
      omega)).trans ?_
    exact View.ld_unit_apply_of w _ _ _ _ (ix4 k (0 : Fin 1) r b) fun j => match j with
      | ⟨0, _⟩ => rfl
      | ⟨1, _⟩ => rfl
      | ⟨2, _⟩ => (Nat.zero_add _).symm
      | ⟨3, _⟩ => (Nat.zero_add _).symm

/-- The gradient of the normed rows. -/
def dh : FVec Ideal S512x1024 .f32 :=
  k0_pay6 (k0_pay4 (View.ld u (Rect.unit (s := S512x4096) ![0, 0] S512x512.size inb_S512x4096_S512x512_0_0)) (View.ld w (Rect.unit (s := S8x1x1024x512) ![0, 0, 0, 0] S1x1x1024x512.size inb_S8x1x1024x512_S1x1x1024x512_0_0_0_0))
    (View.ld u (Rect.unit (s := S512x4096) ![0, 512] S512x512.size inb_S512x4096_S512x512_0_512)) (View.ld w (Rect.unit (s := S8x1x1024x512) ![1, 0, 0, 0] S1x1x1024x512.size inb_S8x1x1024x512_S1x1x1024x512_1_0_0_0))
    (View.ld u (Rect.unit (s := S512x4096) ![0, 1024] S512x512.size inb_S512x4096_S512x512_0_1024)) (View.ld w (Rect.unit (s := S8x1x1024x512) ![2, 0, 0, 0] S1x1x1024x512.size inb_S8x1x1024x512_S1x1x1024x512_2_0_0_0))
    (View.ld u (Rect.unit (s := S512x4096) ![0, 1536] S512x512.size inb_S512x4096_S512x512_0_1536)) (View.ld w (Rect.unit (s := S8x1x1024x512) ![3, 0, 0, 0] S1x1x1024x512.size inb_S8x1x1024x512_S1x1x1024x512_3_0_0_0)))
    (View.ld u (Rect.unit (s := S512x4096) ![0, 2048] S512x512.size inb_S512x4096_S512x512_0_2048)) (k0_pay5 (View.ld w (Rect.unit (s := S8x1x1024x512) ![4, 0, 0, 0] S1x1x1024x512.size inb_S8x1x1024x512_S1x1x1024x512_4_0_0_0)))
    (View.ld u (Rect.unit (s := S512x4096) ![0, 2560] S512x512.size inb_S512x4096_S512x512_0_2560)) (View.ld w (Rect.unit (s := S8x1x1024x512) ![5, 0, 0, 0] S1x1x1024x512.size inb_S8x1x1024x512_S1x1x1024x512_5_0_0_0))
    (View.ld u (Rect.unit (s := S512x4096) ![0, 3072] S512x512.size inb_S512x4096_S512x512_0_3072)) (View.ld w (Rect.unit (s := S8x1x1024x512) ![6, 0, 0, 0] S1x1x1024x512.size inb_S8x1x1024x512_S1x1x1024x512_6_0_0_0))
    (View.ld u (Rect.unit (s := S512x4096) ![0, 3584] S512x512.size inb_S512x4096_S512x512_0_3584)) (View.ld w (Rect.unit (s := S8x1x1024x512) ![7, 0, 0, 0] S1x1x1024x512.size inb_S8x1x1024x512_S1x1x1024x512_7_0_0_0))

theorem add_both {s t s' t' : EReal} (h : s = s') (h' : t = t') : s + t = s' + t' := congrArg₂ (fun s t => s + t) h h'

theorem dh_at : dh u w (ix2 a r) = ∑ k : Fin 8, part u w a r k := by
  have z : Ideal.ofBits .f32 0x00000000#32 + part u w a r 0 = part u w a r 0 :=
    (congrArg (fun s : EReal => s + part u w a r 0) (Ideal.ofBits_zero_f32 : Ideal.ofBits .f32 0x00000000#32 = 0)).trans (zero_add _)
  refine Eq.trans ?_ (Fin.sum_univ_eight _).symm
  unfold dh k0_pay6 k0_pay4 k0_pay5
  refine add_both (add_both (add_both (add_both (add_both (add_both (add_both (Eq.trans (add_both rfl (part_at u w a r 0 _ _)) z)
    (part_at u w a r 1 _ _)) (part_at u w a r 2 _ _)) (part_at u w a r 3 _ _)) (part_at u w a r 4 _ _)) (part_at u w a r 5 _ _))
    (part_at u w a r 6 _ _)) (part_at u w a r 7 _ _)

/-- The scales of a block's rows. -/
theorem scale_at : k0_pay8 x (ix2 a (0 : Fin 1)) = scaleOf fun j => x (ix2 a j) :=
  kernel_scale_inv x _ _ _ _ a

theorem rows_at (G : FVec Ideal S512x1024 .f32) : k0_pay1 G (k0_pay7 n) (k0_pay8 x) (k0_pay9 x) y (ix2 a r)
    = y (ix2 a r) + kernelBack (fun j => x (ix2 a j)) (fun j => G (ix2 a j) * n (ix3 (0 : Fin 1) (0 : Fin 1) j)) r :=
  kernel_rows x _ y G n (k0_pay8 x) (scale_at x) broadcasts_S512x1_S512x1024 reduces_S512x1024_S512 (.inl rfl) rfl shapeCasts_S512_S512x1
    shapeCasts_S1x1x1024_S1x1024 broadcasts_S1x1024_S512x1024 rfl a r

theorem weights_at (G : FVec Ideal S512x1024 .f32) : k0_pay3 G (k0_pay9 x) v (ix2 (0 : Fin 1) r)
    = v (ix2 (0 : Fin 1) r) + ∑ a : Fin 512, G (ix2 a r) * (x (ix2 a r) * scaleOf fun j => x (ix2 a j)) :=
  kernel_weights x G v (k0_pay8 x) (scale_at x) broadcasts_S512x1_S512x1024 reduces_S512x1024_S1024 (.inl rfl) rfl shapeCasts_S1024_S1x1024
    shapeCasts_S1x1024_S1x1024 r

theorem start_at : (k0_pay2 : FVec Ideal S1x1024 .f32) (ix2 (0 : Fin 1) r) = 0 := Ideal.ofBits_zero_f32

end Rows

variable (c : Dev nD) (i : grid0.Coords) (a1 : Memref sig .tc .vmem S512x4096 .bf16) (h1 : a1.IsWhole) (a2 : Memref sig .tc .vmem S8x1x1024x512 .bf16) (h2 : a2.IsWhole)
  (a3 : Memref sig .tc .vmem S512x1024 .f32) (h3 : a3.IsWhole) (a4 : Memref sig .tc .vmem S512x1024 .f32) (h4 : a4.IsWhole)
  (a5 : Memref sig .tc .vmem S1x1x1024 .f32) (h5 : a5.IsWhole) (a6 : Memref sig .tc .vmem S512x1024 .f32) (h6 : a6.IsWhole)
  (a7 : Memref sig .tc .vmem S1x1024 .f32) (h7 : a7.IsWhole)
  (u : Vec Ideal S512x4096 .bf16) (w : Vec Ideal S8x1x1024x512 .bf16) (y : Vec Ideal S512x1024 .f32) (x : Vec Ideal S512x1024 .f32) (n : Vec Ideal S1x1x1024 .f32)

/-- What the first step stores as the gradient of the rows, -/
theorem rows_first (h : cond0_0 i) : out0_A_5 c i a1 h1 a2 h2 a3 h3 a4 h4 a5 h5 a6 h6 a7 h7 h u w y x n = k0_pay1 (dh u w) (k0_pay7 n) (k0_pay8 x) (k0_pay9 x) y := by
  unfold out0_A_5
  rw [View.read_writes_junk_eq_canon]
  unfold kernelRun0_A
  dsimp only
  sl_unfold_words
  simp only [View.readAt_eq_ld, h1.read_unread, h2.read_unread, h3.read_unread, h4.read_unread, h5.read_unread, View.ld_unit_zero (S := S512x1024) origin2, View.ld_unit_zero (S := S1x1x1024) origin3]
  rw [View.canon_unit_zero origin2]
  rfl

/-- and a later step. -/
theorem rows_later (h : ¬ cond0_0 i) (v : Vec Ideal S1x1024 .f32) : out0_B_5 c i a1 h1 a2 h2 a3 h3 a4 h4 a5 h5 a6 h6 a7 h7 h u w y x n v = k0_pay1 (dh u w) (k0_pay7 n) (k0_pay8 x) (k0_pay9 x) y := by
  unfold out0_B_5
  rw [View.read_writes_junk_eq_canon]
  unfold kernelRun0_B
  dsimp only
  sl_unfold_words
  simp only [View.readAt_eq_ld, h1.read_unread, h2.read_unread, h3.read_unread, h4.read_unread, h5.read_unread, h7.read_unread, View.ld_unit_zero (S := S512x1024) origin2, View.ld_unit_zero (S := S1x1024) origin2, View.ld_unit_zero (S := S1x1x1024) origin3]
  rw [View.canon_unit_zero origin2]
  rfl

/-- The first step starts the gradient of the norm's weights, -/
theorem wts_first (h : cond0_0 i) : out0_A_6 c i a1 h1 a2 h2 a3 h3 a4 h4 a5 h5 a6 h6 a7 h7 h u w y x n = k0_pay3 (dh u w) (k0_pay9 x) (k0_pay2 (F := Ideal)) := by
  unfold out0_A_6
  rw [View.read_writes_junk_eq_canon]
  unfold kernelRun0_A
  dsimp only
  sl_unfold_words
  simp only [View.readAt_eq_ld, h1.read_unread, h2.read_unread, h3.read_unread, h4.read_unread, h5.read_unread, View.ld_unit_zero (S := S512x1024) origin2, View.ld_unit_zero (S := S1x1x1024) origin3]
  rw [View.canon_cons_unit_zero origin2, View.readCov_unit_zero _ origin2]
  rfl

/-- and a later step adds to it. -/
theorem wts_later (h : ¬ cond0_0 i) (v : Vec Ideal S1x1024 .f32) : out0_B_6 c i a1 h1 a2 h2 a3 h3 a4 h4 a5 h5 a6 h6 a7 h7 h u w y x n v = k0_pay3 (dh u w) (k0_pay9 x) v := by
  unfold out0_B_6
  rw [View.read_writes_junk_eq_canon]
  unfold kernelRun0_B
  dsimp only
  sl_unfold_words
  simp only [View.readAt_eq_ld, h1.read_unread, h2.read_unread, h3.read_unread, h4.read_unread, h5.read_unread, h7.read_unread, View.ld_unit_zero (S := S512x1024) origin2, View.ld_unit_zero (S := S1x1024) origin2, View.ld_unit_zero (S := S1x1x1024) origin3]
  rw [View.canon_unit_zero origin2]
  rfl

end Cert.Proof.Mm.UpBwd
-- ==== Proof.Mm.HostBack.lean ====
/- The gradients behind a norm as the references write them. -/
module

public import proofs.«01_k».proof.Proof.Mm.NormBack

@[expose] public section

set_option maxRecDepth 16384

noncomputable section

namespace Cert.Proof.Mm

open Idealize.ShloMosaic Idealize.ShloMosaic.ValueIdx

theorem over_cols : Shape.ReducesTo ⟨2, ![2048, 1024]⟩ [1] ⟨1, ![2048]⟩ := by decide
theorem over_unit : Shape.ReducesTo ⟨2, ![2048, 1]⟩ [1] ⟨1, ![2048]⟩ := by decide
theorem over_rows : Shape.ReducesTo ⟨2, ![2048, 1024]⟩ [0] ⟨1, ![1024]⟩ := by decide
theorem over_one : Shape.ReducesTo ⟨2, ![1, 1024]⟩ [0] ⟨1, ![1024]⟩ := by decide
theorem row_cast : Shape.ShapeCasts ⟨1, ![1024]⟩ ⟨2, ![1, 1024]⟩ := by decide
theorem col_cast : Shape.ShapeCasts ⟨1, ![2048]⟩ ⟨2, ![2048, 1]⟩ := by decide

variable (y x : FVec Ideal ⟨2, ![2048, 1024]⟩ .f32) (n : FVec Ideal ⟨3, ![4, 1, 1024]⟩ .f32) (G : FVec Ideal ⟨2, ![2048, 1024]⟩ .f32)

/-- The weights on every row, the numbers under the roots and the scales. -/
def refSpread : FVec Ideal ⟨2, ![2048, 1024]⟩ .f32 :=
  broadcastInDim ⟨2, ![2048, 1024]⟩ ![0, 1] (by decide) (broadcastInDim ⟨2, ![1, 1024]⟩ ![1] (by decide) (shapeCast ⟨1, ![1024]⟩ (extractStridedSlice ⟨2, ![1, 1024]⟩ ![1, 0] (shapeCast ⟨2, ![4, 1024]⟩ n (by decide)) (by decide)) (by decide)))
def refRoots : FVec Ideal ⟨2, ![2048, 1]⟩ .f32 :=
  addf (Host.divf (broadcastInDim ⟨2, ![2048, 1]⟩ ![0] (by decide) (Host.reduceAdd (mulf x x) (constant ⟨0, ![]⟩ .f32 0x00000000#32) over_cols (by decide))) (broadcastInDim ⟨2, ![2048, 1]⟩ ![] (by decide) (constant ⟨0, ![]⟩ .f32 0x44800000#32))) (broadcastInDim ⟨2, ![2048, 1]⟩ ![] (by decide) (constant ⟨0, ![]⟩ .f32 0x358637BD#32))
def refScales : FVec Ideal ⟨2, ![2048, 1]⟩ .f32 := Host.rsqrt (refRoots x)

/-- The derivative through the rows' squares. -/
def refMeans (D : FVec Ideal ⟨2, ![2048, 1024]⟩ .f32) : FVec Ideal ⟨1, ![2048]⟩ .f32 :=
  Host.reduceAdd (Host.divf (mulf (shapeCast ⟨2, ![2048, 1]⟩ (Host.reduceAdd (mulf x D) (constant ⟨0, ![]⟩ .f32 0x00000000#32) over_cols (by decide)) col_cast) (mulf (broadcastInDim ⟨2, ![2048, 1]⟩ ![] (by decide) (constant ⟨0, ![]⟩ .f32 0xBF000000#32)) (Host.divf (refScales x) (refRoots x)))) (broadcastInDim ⟨2, ![2048, 1]⟩ ![] (by decide) (constant ⟨0, ![]⟩ .f32 0x44800000#32))) (constant ⟨0, ![]⟩ .f32 0x00000000#32) over_unit (by decide)

/-- The reference's two gradients behind the norm, from the gradient `G` of its result. -/
def refBack : FVec Ideal ⟨2, ![2048, 1024]⟩ .f32 :=
  addf (addf (addf y (mulf (mulf G (refSpread n)) (broadcastInDim ⟨2, ![2048, 1024]⟩ ![0, 1] (by decide) (refScales x)))) (mulf x (broadcastInDim ⟨2, ![2048, 1024]⟩ ![0] (by decide) (refMeans x (mulf G (refSpread n)))))) (mulf (broadcastInDim ⟨2, ![2048, 1024]⟩ ![0] (by decide) (refMeans x (mulf G (refSpread n)))) x)
def refTotals : FVec Ideal ⟨2, ![1, 1024]⟩ .f32 :=
  shapeCast ⟨2, ![1, 1024]⟩ (Host.reduceAdd (shapeCast ⟨2, ![1, 1024]⟩ (Host.reduceAdd (mulf (mulf x (broadcastInDim ⟨2, ![2048, 1024]⟩ ![0, 1] (by decide) (refScales x))) G) (constant ⟨0, ![]⟩ .f32 0x00000000#32) over_rows (by decide)) row_cast) (constant ⟨0, ![]⟩ .f32 0x00000000#32) over_one (by decide)) row_cast

theorem refRoots_at (a : Fin 2048) : refRoots x (ix2 a (0 : Fin 1)) = under fun j => x (ix2 a j) := host_under x _ _ _ _ a

theorem refScales_at (a : Fin 2048) : refScales x (ix2 a (0 : Fin 1)) = scaleOf fun j => x (ix2 a j) := host_scale x _ _ _ _ a

theorem refMeans_at (D : FVec Ideal ⟨2, ![2048, 1024]⟩ .f32) (a : Fin 2048) : refMeans x D (ix1 a) = backMean (fun j => x (ix2 a j)) (fun j => D (ix2 a j)) :=
  host_mean x D (refScales x) (refRoots x) (refScales_at x) (refRoots_at x) _ _ _ _ _ a

theorem refSpread_at (a : Fin 2048) (r : Fin 1024) : refSpread n (ix2 a r) = n (ix3 (1 : Fin 4) (0 : Fin 1) r) := host_weight n _ _ _ _ _ a r

theorem refBack_at (a : Fin 2048) (r : Fin 1024) : refBack y x n G (ix2 a r)
    = y (ix2 a r) + kernelBack (fun j => x (ix2 a j)) (fun j => G (ix2 a j) * n (ix3 (1 : Fin 4) (0 : Fin 1) j)) r :=
  (host_back x (mulf G (refSpread n)) y (refScales x) (refMeans x (mulf G (refSpread n))) (refScales_at x) (refMeans_at x _) _ _ a r).trans
    (congrArg (fun d => y (ix2 a r) + kernelBack (fun j => x (ix2 a j)) d r) (funext fun j => congrArg (fun z : EReal => G (ix2 a j) * z) (refSpread_at n a j)))

theorem refTotals_at (r : Fin 1024) : refTotals x G (ix2 (0 : Fin 1) r) = ∑ a : Fin 2048, G (ix2 a r) * (x (ix2 a r) * scaleOf fun j => x (ix2 a j)) :=
  host_weights x G (refScales x) (refScales_at x) _ _ _ _ _ r

end Cert.Proof.Mm
-- ==== Proof.Mm.UpBwdRef.lean ====
/- The gradient behind the MLP's norm in the reference, at an index. -/
module

public import proofs.«01_k».proof.Proof.Gen.ReferenceUpBwdIdeal
public import proofs.«01_k».proof.Proof.Mm.HostBack
public import Idealize.ShloMosaic.Lib.TwoAxisContraction

@[expose] public section

set_option maxRecDepth 16384

noncomputable section

namespace Cert.Proof.Mm.UpBwd

open Cert.ReferenceUpBwdIdeal Cert.ReferenceUpBwdIdeal.Gen
open Idealize.ShloMosaic Idealize.ShloMosaic.ValueIdx

theorem host_at (l : FVec Ideal S2048x4096 .f32) (q : FVec Ideal S1024x4096 .f32) (a : Fin 2048) (r : Fin 1024) :
    Host.dotGeneral (F := Ideal) dot_S2048x4096_S1024x4096_S2048x1024_1_1_0_0_n_n none l q (ix2 a r) = ∑ b : Fin 4096, l (ix2 a b) * q (ix2 r b) :=
  host_sum _ 4096 rfl rfl l q (ix2 a r) (fun b => ix2 a b) (fun b => ix2 r b)
    (fun _ => funext fun j => match j with
      | ⟨0, _⟩ => rfl
      | ⟨1, _⟩ => rfl) (fun _ => funext fun j => match j with
      | ⟨0, _⟩ => rfl
      | ⟨1, _⟩ => rfl)

section Product

variable (u : FVec Ideal S2048x4096 .bf16) (w : FVec Ideal S8x1x1024x512 .bf16)

/-- The weights' shards side by side, at an index. -/
theorem weight_at (r : Fin 1024) (k : Fin 8) (b : Fin 512) :
    shapeCast S1024x4096 (transpose S1024x8x512 [1, 0, 2] (shapeCast S8x1024x512 w shapeCasts_S8x1x1024x512_S8x1024x512) transposes_S8x1024x512_S1024x8x512_1_0_2) shapeCasts_S1024x8x512_S1024x4096
      (ix2 r (join 4096 rfl k b)) = w (ix4 k (0 : Fin 1) r b) := by
  refine (shapeCast_apply _ _ (ix2 r (join 4096 rfl k b)) (ix3 r k b) (by
    rewrite [Shape.rowMajor_val_two, Shape.rowMajor_val_three]
    show (r.val * 8 + k.val) * 512 + b.val = r.val * 4096 + (512 * k.val + b.val)
    omega)).trans ?_
  refine (transpose_apply _ _ _ (ix3 r k b) (ix3 k r b) (fun j => match j with
    | ⟨0, _⟩ => rfl
    | ⟨1, _⟩ => rfl
    | ⟨2, _⟩ => rfl)).trans ?_
  exact shapeCast_apply _ _ (ix3 k r b) (ix4 k (0 : Fin 1) r b) (by
    rewrite [Shape.rowMajor_val_three, Shape.rowMajor_val_four]
    show ((k.val * 1 + 0) * 1024 + r.val) * 512 + b.val = (k.val * 1024 + r.val) * 512 + b.val
    omega)

/-- The gradient of the normed rows in the reference. -/
def grad : FVec Ideal S2048x1024 .f32 :=
  Host.dotGeneral dot_S2048x4096_S1024x4096_S2048x1024_1_1_0_0_n_n none (extf .f32 u bitsLt_bf16_f32) (extf .f32 (shapeCast _ (transpose S1024x8x512 [1, 0, 2] (shapeCast _ w shapeCasts_S8x1x1024x512_S8x1024x512) transposes_S8x1024x512_S1024x8x512_1_0_2) shapeCasts_S1024x8x512_S1024x4096) bitsLt_bf16_f32)

theorem grad_at (a : Fin 2048) (r : Fin 1024) :
    grad u w (ix2 a r) = ∑ k : Fin 8, ∑ b : Fin 512, u (ix2 a (join 4096 rfl k b)) * w (ix4 k (0 : Fin 1) r b) := by
  unfold grad
  refine (host_at _ _ a r).trans ((sum_join (p := 8) (q := 512) 4096 rfl _).trans ?_)
  exact Finset.sum_congr rfl fun k _ => Finset.sum_congr rfl fun b _ =>
    congrArg (fun z : EReal => u (ix2 a (join 4096 rfl k b)) * z) (weight_at w r k b)

end Product

end Cert.Proof.Mm.UpBwd
-- ==== Proof.Mm.UpBwd.lean ====
/- The gradient behind the MLP's norm: the whole arrays, and the claim. -/
module

public import proofs.«01_k».proof.Defs
public import proofs.«01_k».proof.Proof.Mm.UpBwdBlock
public import proofs.«01_k».proof.Proof.Mm.UpBwdRef
public import proofs.«01_k».proof.Proof.Gen.KernelUpBwdIdeal.Value
public import proofs.«01_k».proof.Proof.Gen.ReferenceUpBwdIdeal.Run

@[expose] public section

set_option maxRecDepth 16384

noncomputable section

namespace Cert.Proof.Mm.UpBwd

open Cert.KernelUpBwdIdeal Cert.KernelUpBwdIdeal.Gen
open Idealize.ShloMosaic Idealize.ShloMosaic.ValueIdx Idealize.SL.Sem

variable (m : (ℓ : Loc nD τ sig) → Buf (Elt Ideal) ℓ) (c : Dev nD)

/-- Where an entry of a block lies in its array, along one axis. -/
theorem emb_val (w : Fin cfg0.W) (t : Fin cfg0.N) (y : ((cfg0.win w).xblock (cfg0.grid.coords t)).Idx) (b : Fin (cfg0.win w).shape.rank)
    (hk : (cfg0.win w).kind = .blocked) (k z : ℕ) (hi : (cfg0.win w).index t b = k) (hz : k * (cfg0.win w).size b + (y b).val = z) :
    (((cfg0.win w).rect t).emb y b : ℕ) = z :=
  ((cfg0.win w).rect_emb_val t y b hk).trans (by rw [hi]; exact hz)

/-- The arguments as arrays. -/
abbrev g0 : FVec Ideal S2048x4096 .bf16 := m ((c.tc : Thread nD τ).loc main_arg0)
abbrev g1 : FVec Ideal S8x1x1024x512 .bf16 := m ((c.tc : Thread nD τ).loc main_arg1)
abbrev g2 : FVec Ideal S2048x1024 .f32 := m ((c.tc : Thread nD τ).loc main_arg2)
abbrev g3 : FVec Ideal S2048x1024 .f32 := m ((c.tc : Thread nD τ).loc main_arg3)
abbrev g4 : FVec Ideal S4x1x1024 .f32 := m ((c.tc : Thread nD τ).loc main_arg4)

/-- A block of rows' number as a grid point. -/
def pt (n : Fin 4) : Fin cfg0.N := ⟨n.val, lt_of_lt_of_eq n.isLt N_0.symm⟩

theorem index_0 : ∀ t : Fin cfg0.N, (cfg0.win 0).index t = ![t.val, 0] := by decide +kernel
theorem index_1 : ∀ t : Fin cfg0.N, (cfg0.win 1).index t = ![0, 0, 0, 0] := by decide +kernel
theorem index_2 : ∀ t : Fin cfg0.N, (cfg0.win 2).index t = ![t.val, 0] := by decide +kernel
theorem index_3 : ∀ t : Fin cfg0.N, (cfg0.win 3).index t = ![t.val, 0] := by decide +kernel
theorem index_4 : ∀ t : Fin cfg0.N, (cfg0.win 4).index t = ![1, 0, 0] := by decide +kernel
theorem index_5 : ∀ t : Fin cfg0.N, (cfg0.win 5).index t = ![t.val, 0] := by decide +kernel
theorem index_6 : ∀ t : Fin cfg0.N, (cfg0.win 6).index t = ![0, 0] := by decide +kernel

theorem blk0_at (n : Fin 4) (a : Fin 512) (l : Fin 4096) : iblk m c 0 (pt n) (ix2 a l) = g0 m c (ix2 (join 2048 rfl n a) l) :=
  congrArg (g0 m c) (funext fun j => match j with
    | ⟨0, _⟩ => Fin.ext (emb_val 0 (pt n) (ix2 a l) ⟨0, by decide⟩ rfl n.val (512 * n.val + a.val) (congrFun (index_0 _) 0) (by show n.val * 512 + a.val = _; omega))
    | ⟨1, _⟩ => Fin.ext (emb_val 0 (pt n) (ix2 a l) ⟨1, by decide⟩ rfl 0 l.val (congrFun (index_0 _) 1) (by show 0 * 4096 + l.val = _; omega)))

theorem blk1_at (n : Fin 4) (k : Fin 8) (r : Fin 1024) (b : Fin 512) : iblk m c 1 (pt n) (ix4 k (0 : Fin 1) r b) = g1 m c (ix4 k (0 : Fin 1) r b) :=
  congrArg (g1 m c) (funext fun j => match j with
    | ⟨0, _⟩ => Fin.ext (emb_val 1 (pt n) (ix4 k (0 : Fin 1) r b) ⟨0, by decide⟩ rfl 0 k.val (congrFun (index_1 _) 0) (by show 0 * 8 + k.val = _; omega))
    | ⟨1, _⟩ => Fin.ext (emb_val 1 (pt n) (ix4 k (0 : Fin 1) r b) ⟨1, by decide⟩ rfl 0 0 (congrFun (index_1 _) 1) (by show 0 * 1 + 0 = _; omega))
    | ⟨2, _⟩ => Fin.ext (emb_val 1 (pt n) (ix4 k (0 : Fin 1) r b) ⟨2, by decide⟩ rfl 0 r.val (congrFun (index_1 _) 2) (by show 0 * 1024 + r.val = _; omega))
    | ⟨3, _⟩ => Fin.ext (emb_val 1 (pt n) (ix4 k (0 : Fin 1) r b) ⟨3, by decide⟩ rfl 0 b.val (congrFun (index_1 _) 3) (by show 0 * 512 + b.val = _; omega)))

theorem blk2_at (n : Fin 4) (a : Fin 512) (r : Fin 1024) : iblk m c 2 (pt n) (ix2 a r) = g2 m c (ix2 (join 2048 rfl n a) r) :=
  congrArg (g2 m c) (funext fun j => match j with
    | ⟨0, _⟩ => Fin.ext (emb_val 2 (pt n) (ix2 a r) ⟨0, by decide⟩ rfl n.val (512 * n.val + a.val) (congrFun (index_2 _) 0) (by show n.val * 512 + a.val = _; omega))
    | ⟨1, _⟩ => Fin.ext (emb_val 2 (pt n) (ix2 a r) ⟨1, by decide⟩ rfl 0 r.val (congrFun (index_2 _) 1) (by show 0 * 1024 + r.val = _; omega)))

theorem blk3_at (n : Fin 4) (a : Fin 512) (r : Fin 1024) : iblk m c 3 (pt n) (ix2 a r) = g3 m c (ix2 (join 2048 rfl n a) r) :=
  congrArg (g3 m c) (funext fun j => match j with
    | ⟨0, _⟩ => Fin.ext (emb_val 3 (pt n) (ix2 a r) ⟨0, by decide⟩ rfl n.val (512 * n.val + a.val) (congrFun (index_3 _) 0) (by show n.val * 512 + a.val = _; omega))
    | ⟨1, _⟩ => Fin.ext (emb_val 3 (pt n) (ix2 a r) ⟨1, by decide⟩ rfl 0 r.val (congrFun (index_3 _) 1) (by show 0 * 1024 + r.val = _; omega)))

theorem blk4_at (n : Fin 4) (r : Fin 1024) : iblk m c 4 (pt n) (ix3 (0 : Fin 1) (0 : Fin 1) r) = g4 m c (ix3 (1 : Fin 4) (0 : Fin 1) r) :=
  congrArg (g4 m c) (funext fun j => match j with
    | ⟨0, _⟩ => Fin.ext (emb_val 4 (pt n) (ix3 (0 : Fin 1) (0 : Fin 1) r) ⟨0, by decide⟩ rfl 1 1 (congrFun (index_4 _) 0) (by show 1 * 1 + 0 = _; omega))
    | ⟨1, _⟩ => Fin.ext (emb_val 4 (pt n) (ix3 (0 : Fin 1) (0 : Fin 1) r) ⟨1, by decide⟩ rfl 0 0 (congrFun (index_4 _) 1) (by show 0 * 1 + 0 = _; omega))
    | ⟨2, _⟩ => Fin.ext (emb_val 4 (pt n) (ix3 (0 : Fin 1) (0 : Fin 1) r) ⟨2, by decide⟩ rfl 0 r.val (congrFun (index_4 _) 2) (by show 0 * 1024 + r.val = _; omega)))

theorem emb_5 (n : Fin 4) (a : Fin 512) (l : Fin 1024) : ((cfg0.win 5).blk (pt n)).view.emb (ix2 a l) = ix2 (join 2048 rfl n a) l :=
  funext fun j => match j with
    | ⟨0, _⟩ => Fin.ext (emb_val 5 (pt n) (ix2 a l) ⟨0, by decide⟩ rfl n.val (512 * n.val + a.val) (congrFun (index_5 _) 0) (by show n.val * 512 + a.val = _; omega))
    | ⟨1, _⟩ => Fin.ext (emb_val 5 (pt n) (ix2 a l) ⟨1, by decide⟩ rfl 0 l.val (congrFun (index_5 _) 1) (by show 0 * 1024 + l.val = _; omega))

theorem emb_6 (t : Fin cfg0.N) (r : Fin 1024) : ((cfg0.win 6).blk t).view.emb (ix2 (0 : Fin 1) r) = ix2 (0 : Fin 1) r :=
  funext fun j => match j with
    | ⟨0, _⟩ => Fin.ext (emb_val 6 t (ix2 (0 : Fin 1) r) ⟨0, by decide⟩ rfl 0 0 (congrFun (index_6 _) 0) (by show 0 * 1 + 0 = _; omega))
    | ⟨1, _⟩ => Fin.ext (emb_val 6 t (ix2 (0 : Fin 1) r) ⟨1, by decide⟩ rfl 0 r.val (congrFun (index_6 _) 1) (by show 0 * 1024 + r.val = _; omega))

/-- The reference's gradient of the normed rows, and its results. -/
abbrev gr : FVec Ideal S2048x1024 .f32 := grad (g0 m c) (g1 m c)
abbrev resRows : FVec Ideal S2048x1024 .f32 := refBack (g2 m c) (g3 m c) (g4 m c) (gr m c)
abbrev resWts : FVec Ideal S1x1024 .f32 := refTotals (g3 m c) (gr m c)

/-- A step's product is its block of the reference's. -/
theorem dh_blk (n : Fin 4) (a : Fin 512) (r : Fin 1024) : dh (iblk m c 0 (pt n)) (iblk m c 1 (pt n)) (ix2 a r) = gr m c (ix2 (join 2048 rfl n a) r) :=
  (dh_at _ _ a r).trans (Eq.trans (Finset.sum_congr rfl fun k _ => Finset.sum_congr rfl fun b _ =>
    congrArg₂ (fun y z : EReal => y * z) (blk0_at m c n a (join 4096 rfl k b)) (blk1_at m c n k r b)) (grad_at (g0 m c) (g1 m c) (join 2048 rfl n a) r).symm)

theorem row_blk (n : Fin 4) (a : Fin 512) : (fun j => iblk m c 3 (pt n) (ix2 a j)) = fun j : Fin 1024 => g3 m c (ix2 (join 2048 rfl n a) j) :=
  funext fun j => blk3_at m c n a j

/-- What a step stores as the gradient of the rows. -/
theorem rows_step (t : Fin cfg0.N) : (outsAt0 m c t.val t.isLt).1
    = k0_pay1 (dh (iblk m c 0 t) (iblk m c 1 t)) (k0_pay7 (iblk m c 4 t)) (k0_pay8 (iblk m c 3 t)) (k0_pay9 (iblk m c 3 t)) (iblk m c 2 t) := by
  by_cases h : t.val % 4 = 0
  · rw [outsAt0_A m c t h]
    dsimp only
    rw [rows_first]
  · rw [outsAt0_B m c t h]
    dsimp only
    rw [rows_later]

/-- What the first step stores as the gradient of the norm's weights, and a later one. -/
theorem wts_step_first (t : Fin cfg0.N) (h : t.val % 4 = 0) : (outsAt0 m c t.val t.isLt).2
    = k0_pay3 (dh (iblk m c 0 t) (iblk m c 1 t)) (k0_pay9 (iblk m c 3 t)) (k0_pay2 (F := Ideal)) := by
  rw [outsAt0_A m c t h]
  dsimp only
  rw [wts_first]

theorem wts_step_later (t : Fin cfg0.N) (h : ¬ t.val % 4 = 0) : (outsAt0 m c t.val t.isLt).2
    = k0_pay3 (dh (iblk m c 0 t) (iblk m c 1 t)) (k0_pay9 (iblk m c 3 t)) (outsAt0 m c (t.val - 1) (Nat.lt_of_le_of_lt (Nat.sub_le _ _) t.isLt)).2 := by
  rw [outsAt0_B m c t h]
  dsimp only
  rw [wts_later]

theorem rows_blk (n : Fin 4) (a : Fin 512) (r : Fin 1024) : (outsAt0 m c (pt n).val (pt n).isLt).1 (ix2 a r) = resRows m c (ix2 (join 2048 rfl n a) r) := by
  rw [rows_step]
  refine (rows_at _ _ _ a r _).trans (Eq.trans ?_ (refBack_at (g2 m c) (g3 m c) (g4 m c) (gr m c) (join 2048 rfl n a) r).symm)
  refine congrArg₂ (fun s t : EReal => s + t) (blk2_at m c n a r) (congrArg₂ (fun x d => kernelBack x d r) (row_blk m c n a) (funext fun j => ?_))
  exact congrArg₂ (fun s t : EReal => s * t) (dh_blk m c n a j) (blk4_at m c n j)

/-- What a step adds to the gradient of the norm's weights. -/
def term (r : Fin 1024) (n : Fin 4) : EReal :=
  ∑ a : Fin 512, gr m c (ix2 (join 2048 rfl n a) r) * (g3 m c (ix2 (join 2048 rfl n a) r) * scaleOf fun j => g3 m c (ix2 (join 2048 rfl n a) j))

theorem wts_blk (n : Fin 4) (r : Fin 1024) (v : Vec Ideal S1x1024 .f32) :
    k0_pay3 (dh (iblk m c 0 (pt n)) (iblk m c 1 (pt n))) (k0_pay9 (iblk m c 3 (pt n))) v (ix2 (0 : Fin 1) r) = v (ix2 (0 : Fin 1) r) + term m c r n := by
  refine (weights_at _ v r _).trans (congrArg (fun z : EReal => v (ix2 (0 : Fin 1) r) + z) (Finset.sum_congr rfl fun a _ => ?_))
  exact congrArg₂ (fun s t : EReal => s * t) (dh_blk m c n a r) (congrArg₂ (fun s t : EReal => s * t) (blk3_at m c n a r) (congrArg scaleOf (row_blk m c n a)))

/-- The gradient of the weights after each step. -/
theorem wts_upto (n : ℕ) (h : n < cfg0.N) (r : Fin 1024) :
    (outsAt0 m c n h).2 (ix2 (0 : Fin 1) r) = ∑ k : Fin (n + 1), term m c r ⟨k.val, lt_of_lt_of_eq (lt_of_lt_of_le k.isLt h) N_0⟩ := by
  induction n with
  | zero =>
    rw [Fin.sum_univ_one]
    refine (congrFun (wts_step_first m c (pt 0) rfl) _).trans ((wts_blk m c 0 r _).trans ?_)
    exact (congrArg (fun z : EReal => z + term m c r 0) (start_at r)).trans (zero_add _)
  | succ n ih =>
    have h4 := lt_of_lt_of_eq h N_0
    rw [Fin.sum_univ_castSucc]
    refine (congrFun (wts_step_later m c (pt ⟨n + 1, h4⟩) (by show ¬ (n + 1) % 4 = 0; omega)) _).trans ((wts_blk m c ⟨n + 1, h4⟩ r _).trans ?_)
    exact congrArg (fun x : EReal => x + term m c r ⟨n + 1, h4⟩) (ih (Nat.lt_of_succ_lt h))

theorem last_lt : 3 < cfg0.N := by rw [show cfg0.N = 4 from N_0]; omega

theorem wts_all (r : Fin 1024) : (outsAt0 m c 3 last_lt).2 (ix2 (0 : Fin 1) r) = resWts m c (ix2 (0 : Fin 1) r) :=
  (wts_upto m c 3 last_lt r).trans (((refTotals_at (g3 m c) (gr m c) r).trans (sum_join (p := 4) (q := 512) 2048 rfl _)).symm)

/-- The arrays after the call are the reference's results: the gradient of the rows, -/
theorem arr_5 : (dats m 0 c).arrAt 5 cfg0.N = resRows m c := by
  refine Pipeline.Dat.arrAt_eq_of_cover _ _ _ (fun t _ => ?_) fun i => ?_
  · obtain ⟨n, rfl⟩ : ∃ n : Fin 4, t = pt n := ⟨⟨t.val, lt_of_lt_of_eq t.isLt N_0⟩, rfl⟩
    refine funext fun (y : S512x1024.Idx) => ?_
    obtain ⟨a, l, rfl⟩ : ∃ (a : Fin 512) (l : Fin 1024), y = ix2 a l := ⟨y 0, y 1, by2 y⟩
    refine Eq.trans ?_ ((rows_blk m c n a l).trans (congrArg (resRows m c) (emb_5 n a l).symm))
    show (dats m 0 c).after 5 (pt n) (ix2 a l) = _
    rw [after0_5]
  · obtain ⟨l', l, rfl⟩ : ∃ (l' : Fin 2048) (l : Fin 1024), i = ix2 l' l := ⟨i 0, i 1, by2 i⟩
    obtain ⟨n, a, rfl⟩ := join_surj (p := 4) (q := 512) 2048 rfl l'
    exact ⟨pt n, flush0_5 _, Finset.mem_map.mpr ⟨ix2 a l, Finset.mem_univ _, emb_5 n a l⟩⟩

theorem last_of {t : Fin cfg0.N} (h : t.val % 4 = 3) : t = ⟨3, last_lt⟩ :=
  Fin.ext (by have := lt_of_lt_of_eq t.isLt N_0; show t.val = 3; omega)

/-- and the gradient of the norm's weights. -/
theorem arr_6 : (dats m 0 c).arrAt 6 cfg0.N = resWts m c := by
  refine Pipeline.Dat.arrAt_eq_of_cover _ _ _ (fun t ht => ?_) fun i => ?_
  · rw [last_of ((flush0_6 t).mp ht)]
    refine funext fun (y : S1x1024.Idx) => ?_
    obtain ⟨a, r, rfl⟩ : ∃ (a : Fin 1) (r : Fin 1024), y = ix2 a r := ⟨y 0, y 1, by2 y⟩
    obtain rfl : a = 0 := Subsingleton.elim _ _
    refine Eq.trans ?_ ((wts_all m c r).trans (congrArg (resWts m c) (emb_6 ⟨3, last_lt⟩ r).symm))
    show (dats m 0 c).after 6 ⟨3, last_lt⟩ (ix2 (0 : Fin 1) r) = _
    rw [after0_6]
  · obtain ⟨a, r, rfl⟩ : ∃ (a : Fin 1) (r : Fin 1024), i = ix2 a r := ⟨i 0, i 1, by2 i⟩
    obtain rfl : a = 0 := Subsingleton.elim _ _
    exact ⟨⟨3, last_lt⟩, (flush0_6 _).mpr rfl, Finset.mem_map.mpr ⟨ix2 (0 : Fin 1) r, Finset.mem_univ _, emb_6 _ r⟩⟩

/-- Over the extended reals the call computes the reference's results. -/
theorem value : Cert.algebraic_KernelUpBwdIdeal_ReferenceUpBwdIdeal := fun m ρ m' ρ' _ hm =>
  ⟨_, _, (θ_run _ _ _).mono (fun _ h c => ⟨((h c).1).trans (arr_5 m c), ((h c).2.1).trans (arr_6 m c), (h c).2.2⟩) (Cert.KernelUpBwdIdeal.Value.run_blocks (F := Ideal) m ρ),
    (θ_run _ _ _).mono (fun _ h c => ⟨((h c).1).trans (by
      unfold Cert.ReferenceUpBwdIdeal.Value.res_main_v46
      rw [(hm c).1, (hm c).2.1, (hm c).2.2.1, (hm c).2.2.2.1, (hm c).2.2.2.2]; rfl), ((h c).2.1).trans (by
      rw [(hm c).1, (hm c).2.1, (hm c).2.2.2.1]; rfl), (h c).2.2⟩) (Cert.ReferenceUpBwdIdeal.Value.run (F := Ideal) m' ρ')⟩

/-- The reference's frame. -/
theorem frame_ref : Cert.quiescent_ReferenceUpBwdIdeal := fun m ρ _ =>
  (θ_run Cert.ReferenceUpBwdIdeal.defs _ _).mono
    (fun r h => ⟨fun c => (h c).2.2, Idealize.ShloMosaic.sem_eq_zero_of_no_sems (by decide) r.2⟩)
    (Cert.ReferenceUpBwdIdeal.Value.run (F := Ideal) m ρ)

end Cert.Proof.Mm.UpBwd
-- ==== Proof.Mm.InBwdBlock.lean ====
/- One step of the gradient behind the mixer's norm: the pieces side by side, their product, and the gradient of the normed rows. -/
module

public import proofs.«01_k».proof.Proof.Gen.KernelInBwdIdeal.Frame
public import proofs.«01_k».proof.Proof.Mm.NormBack
public import Idealize.ShloMosaic.Lib.TwoAxisContraction
public import Idealize.ShloMosaic.Lib.Pipeline.ValueKit.Tiles

@[expose] public section

set_option maxRecDepth 16384

noncomputable section

namespace Cert.Proof.Mm.InBwd

open Cert.KernelInBwdIdeal Cert.KernelInBwdIdeal.Gen
open Idealize.ShloMosaic Idealize.ShloMosaic.ValueIdx

/-- Rows against rows. -/
theorem dot_at {φ ψ : FTy} (l : FVec Ideal S256x4480 φ) (q : FVec Ideal S1024x4480 ψ) (a : Fin 256) (r : Fin 1024) :
    matmul dot_S256x4480_S1024x4480_S256x1024_1_1_0_0_n_n none l q (constant S256x1024 .f32 0x00000000#32) (ix2 a r)
      = ∑ b : Fin 4480, l (ix2 a b) * q (ix2 r b) :=
  unit_sum _ 4480 rfl rfl l q (ix2 a r) (fun b => ix2 a b) (fun b => ix2 r b)
    (fun _ => funext fun j => match j with
      | ⟨0, _⟩ => rfl
      | ⟨1, _⟩ => rfl) (fun _ => funext fun j => match j with
      | ⟨0, _⟩ => rfl
      | ⟨1, _⟩ => rfl)

section Pieces

variable (x0 : Vec Ideal S256x1024 .bf16) (x1 : Vec Ideal S256x1536 .bf16) (x2 : Vec Ideal S256x640 .bf16) (x3 : Vec Ideal S256x128 .f32) (x4 : Vec Ideal S256x512 .bf16) (x5 : Vec Ideal S256x512 .bf16) (x6 : Vec Ideal S256x128 .bf16)

/-- The pieces of the upstream gradient, each at its columns. -/
def parts : List (View.Piece (Elt Ideal) S256x4480 .bf16) :=
  [⟨Rect.unit (s := S256x4480) ![0, 4352] S256x128.size inb_S256x4480_S256x128_0_4352, x6⟩,
   ⟨Rect.unit (s := S256x4480) ![0, 3840] S256x512.size inb_S256x4480_S256x512_0_3840, x5⟩,
   ⟨Rect.unit (s := S256x4480) ![0, 3328] S256x512.size inb_S256x4480_S256x512_0_3328, x4⟩,
   ⟨Rect.unit (s := S256x4480) ![0, 3200] S256x128.size inb_S256x4480_S256x128_0_3200, k0_pay1 x3⟩,
   ⟨Rect.unit (s := S256x4480) ![0, 2560] S256x640.size inb_S256x4480_S256x640_0_2560, x2⟩,
   ⟨Rect.unit (s := S256x4480) ![0, 1024] S256x1536.size inb_S256x4480_S256x1536_0_1024, x1⟩,
   ⟨Rect.unit (s := S256x4480) ![0, 0] S256x1024.size inb_S256x4480_S256x1024_0_0, x0⟩]

/-- The pieces side by side. -/
def du : Vec Ideal S256x4480 .bf16 := View.canon (parts x0 x1 x2 x3 x4 x5 x6)

theorem covered (i : S256x4480.Idx) : ∃ p ∈ parts x0 x1 x2 x3 x4 x5 x6, i ∈ p.1.set :=
  View.cover_of_tiledBy (parts x0 x1 x2 x3 x4 x5 x6) ![256, 128] (by sl_kernel_rfl) i

/-- A piece that agrees with `V` at its columns. -/
theorem piece (V : Fin 256 → Fin 4480 → EReal) (o p : ℕ) (h : o + p ≤ 4480) (x : (⟨2, ![256, p]⟩ : Shape).Idx → EReal)
    (e : ∀ (a : Fin 256) (b : Fin p), x (ix2 a b) = V a ⟨o + b.val, by omega⟩) (a : Fin 256) (l : Fin 4480) :
    View.TileAt (S := S256x4480) (Val := Elt Ideal) (e := .bf16) (ix2 a l) ![0, o] ![256, p] x (V a l) := by
  intro y hy
  obtain ⟨a', b, rfl⟩ : ∃ (a' : Fin 256) (b : Fin p), y = ix2 a' b := ⟨y 0, y 1, by2 y⟩
  have h0 : a.val = 0 + a'.val := hy 0
  have h1 : l.val = o + b.val := hy 1
  obtain rfl : a = a' := Fin.ext (by omega)
  exact (e a b).trans (congrArg (V a) (Fin.ext h1.symm))

/-- Where every piece agrees with `V`, so does the whole. -/
theorem du_at (V : Fin 256 → Fin 4480 → EReal)
    (e0 : ∀ (a : Fin 256) (b : Fin 1024), x0 (ix2 a b) = V a ⟨0 + b.val, by omega⟩)
    (e1 : ∀ (a : Fin 256) (b : Fin 1536), x1 (ix2 a b) = V a ⟨1024 + b.val, by omega⟩)
    (e2 : ∀ (a : Fin 256) (b : Fin 640), x2 (ix2 a b) = V a ⟨2560 + b.val, by omega⟩)
    (e3 : ∀ (a : Fin 256) (b : Fin 128), (x3 (ix2 a b) : EReal) = V a ⟨3200 + b.val, by omega⟩)
    (e4 : ∀ (a : Fin 256) (b : Fin 512), x4 (ix2 a b) = V a ⟨3328 + b.val, by omega⟩)
    (e5 : ∀ (a : Fin 256) (b : Fin 512), x5 (ix2 a b) = V a ⟨3840 + b.val, by omega⟩)
    (e6 : ∀ (a : Fin 256) (b : Fin 128), x6 (ix2 a b) = V a ⟨4352 + b.val, by omega⟩)
    (a : Fin 256) (l : Fin 4480) : (du x0 x1 x2 x3 x4 x5 x6 (ix2 a l) : EReal) = V a l := by
  refine View.canon_eq_of_allAt _ _ _ (covered x0 x1 x2 x3 x4 x5 x6 _) ?_
  refine View.allAt_cons_unit _ _ _ _ _ (piece V 4352 128 (by decide) x6 e6 a l) ?_
  refine View.allAt_cons_unit _ _ _ _ _ (piece V 3840 512 (by decide) x5 e5 a l) ?_
  refine View.allAt_cons_unit _ _ _ _ _ (piece V 3328 512 (by decide) x4 e4 a l) ?_
  refine View.allAt_cons_unit _ _ _ _ _ (piece V 3200 128 (by decide) (k0_pay1 x3) e3 a l) ?_
  refine View.allAt_cons_unit _ _ _ _ _ (piece V 2560 640 (by decide) x2 e2 a l) ?_
  refine View.allAt_cons_unit _ _ _ _ _ (piece V 1024 1536 (by decide) x1 e1 a l) ?_
  refine View.allAt_cons_unit _ _ _ _ _ (piece V 0 1024 (by decide) x0 e0 a l) ?_
  exact View.allAt_nil _ _

end Pieces

section Rows

variable (y x : Vec Ideal S256x1024 .f32) (n : Vec Ideal S1x1x1024 .f32) (v : Vec Ideal S1x1024 .f32) (G : FVec Ideal S256x1024 .f32) (a : Fin 256) (r : Fin 1024)

theorem prod_at (u : Vec Ideal S256x4480 .bf16) (w : Vec Ideal S1024x4480 .bf16) : k0_pay2 u w (ix2 a r) = ∑ b : Fin 4480, u (ix2 a b) * w (ix2 r b) := by
  unfold k0_pay2
  refine (dot_at (φ := .bf16) (ψ := .bf16) _ w a r).trans (Finset.sum_congr rfl fun b _ => ?_)
  exact congrArg (fun z : EReal => z * w (ix2 r b)) (congrFun (shapeCast_self u _) (ix2 a b))

/-- The scales of a block's rows. -/
theorem scale_at : k0_pay3 x (ix2 a (0 : Fin 1)) = scaleOf fun j => x (ix2 a j) :=
  kernel_scale_inv x _ _ _ _ a

theorem rows_at : k0_pay5 G x n y (ix2 a r)
    = y (ix2 a r) + kernelBack (fun j => x (ix2 a j)) (fun j => G (ix2 a j) * n (ix3 (0 : Fin 1) (0 : Fin 1) j)) r :=
  kernel_rows x _ y G n (k0_pay3 x) (scale_at x) broadcasts_S256x1_S256x1024 reduces_S256x1024_S256 (.inl rfl) rfl shapeCasts_S256_S256x1
    shapeCasts_S1x1x1024_S1x1024 broadcasts_S1x1024_S256x1024 rfl a r

theorem weights_at : k0_pay7 G x v (ix2 (0 : Fin 1) r)
    = v (ix2 (0 : Fin 1) r) + ∑ a : Fin 256, G (ix2 a r) * (x (ix2 a r) * scaleOf fun j => x (ix2 a j)) :=
  kernel_weights x G v (k0_pay3 x) (scale_at x) broadcasts_S256x1_S256x1024 reduces_S256x1024_S1024 (.inl rfl) rfl shapeCasts_S1024_S1x1024
    shapeCasts_S1x1024_S1x1024 r

theorem start_at : (k0_pay6 : FVec Ideal S1x1024 .f32) (ix2 (0 : Fin 1) r) = 0 := Ideal.ofBits_zero_f32

end Rows

section Steps

variable (c : Dev nD) (i : grid0.Coords) (a1 : Memref sig .tc .vmem S256x1024 .bf16) (h1 : a1.IsWhole) (a2 : Memref sig .tc .vmem S256x1536 .bf16) (h2 : a2.IsWhole) (a3 : Memref sig .tc .vmem S256x640 .bf16) (h3 : a3.IsWhole) (a4 : Memref sig .tc .vmem S256x128 .f32) (h4 : a4.IsWhole) (a5 : Memref sig .tc .vmem S256x512 .bf16) (h5 : a5.IsWhole) (a6 : Memref sig .tc .vmem S256x512 .bf16) (h6 : a6.IsWhole) (a7 : Memref sig .tc .vmem S256x128 .bf16) (h7 : a7.IsWhole) (a8 : Memref sig .tc .vmem S1024x4480 .bf16) (h8 : a8.IsWhole) (a9 : Memref sig .tc .vmem S256x1024 .f32) (h9 : a9.IsWhole) (a10 : Memref sig .tc .vmem S256x1024 .f32) (h10 : a10.IsWhole) (a11 : Memref sig .tc .vmem S1x1x1024 .f32) (h11 : a11.IsWhole) (a12 : Memref sig .tc .vmem S256x1024 .f32) (h12 : a12.IsWhole) (a13 : Memref sig .tc .vmem S1x1024 .f32) (h13 : a13.IsWhole) (a14 : Memref sig .tc .vmem S256x4480 .bf16) (h14 : a14.IsWhole)
  (x0 : Vec Ideal S256x1024 .bf16) (x1 : Vec Ideal S256x1536 .bf16) (x2 : Vec Ideal S256x640 .bf16) (x3 : Vec Ideal S256x128 .f32) (x4 : Vec Ideal S256x512 .bf16) (x5 : Vec Ideal S256x512 .bf16) (x6 : Vec Ideal S256x128 .bf16) (x7 : Vec Ideal S1024x4480 .bf16) (x8 x9 : Vec Ideal S256x1024 .f32) (x10 : Vec Ideal S1x1x1024 .f32)

/-- What the body reads back of the pieces it has stored. -/
theorem read_back {sp : Space} (V : View sig .tc sp S256x4480 .bf16) :
    V.readCov (parts x0 x1 x2 x3 x4 x5 x6) (Rect.unit (s := S256x4480) ![0, 0] S256x4480.size inb_S256x4480_S256x4480_0_0).toLoadRect = du x0 x1 x2 x3 x4 x5 x6 :=
  (View.readCov_eq_canon' V _ _).trans (View.ld_unit_zero (S := S256x4480) origin2 inb_S256x4480_S256x4480_0_0 (View.canon (parts x0 x1 x2 x3 x4 x5 x6)))

/-- What the first step stores as the gradient of the rows, -/
theorem rows_first (h : cond0_0 i) : out0_A_11 c i a1 h1 a2 h2 a3 h3 a4 h4 a5 h5 a6 h6 a7 h7 a8 h8 a9 h9 a10 h10 a11 h11 a12 h12 a13 h13 a14 h14 h x0 x1 x2 x3 x4 x5 x6 x7 x8 x9 x10
    = k0_pay5 (k0_pay2 (du x0 x1 x2 x3 x4 x5 x6) x7) x9 x10 x8 := by
  unfold out0_A_11
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) origin2, View.ld_unit_zero (S := S256x1536) origin2, View.ld_unit_zero (S := S256x640) origin2, View.ld_unit_zero (S := S256x128) origin2, View.ld_unit_zero (S := S256x512) origin2, View.ld_unit_zero (S := S1024x4480) origin2, View.ld_unit_zero (S := S1x1x1024) origin3]
  rw [View.canon_unit_zero origin2]
  exact congrArg (fun u => k0_pay5 (k0_pay2 u x7) x9 x10 x8) (read_back x0 x1 x2 x3 x4 x5 x6 _)

/-- and a later step. -/
theorem rows_later (h : ¬ cond0_0 i) (v : Vec Ideal S1x1024 .f32) : out0_B_11 c i a1 h1 a2 h2 a3 h3 a4 h4 a5 h5 a6 h6 a7 h7 a8 h8 a9 h9 a10 h10 a11 h11 a12 h12 a13 h13 a14 h14 h x0 x1 x2 x3 x4 x5 x6 x7 x8 x9 x10 v
    = k0_pay5 (k0_pay2 (du x0 x1 x2 x3 x4 x5 x6) x7) x9 x10 x8 := by
  unfold out0_B_11
  rw [View.read_writes_junk_eq_canon]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) origin2, View.ld_unit_zero (S := S256x1536) origin2, View.ld_unit_zero (S := S256x640) origin2, View.ld_unit_zero (S := S256x128) origin2, View.ld_unit_zero (S := S256x512) origin2, View.ld_unit_zero (S := S1024x4480) origin2, View.ld_unit_zero (S := S1x1x1024) origin3, h13.read_unread, View.ld_unit_zero (S := S1x1024) origin2]
  rw [View.canon_unit_zero origin2]
  exact congrArg (fun u => k0_pay5 (k0_pay2 u x7) x9 x10 x8) (read_back x0 x1 x2 x3 x4 x5 x6 _)

/-- The first step starts the gradient of the norm's weights, -/
theorem wts_first (h : cond0_0 i) : out0_A_12 c i a1 h1 a2 h2 a3 h3 a4 h4 a5 h5 a6 h6 a7 h7 a8 h8 a9 h9 a10 h10 a11 h11 a12 h12 a13 h13 a14 h14 h x0 x1 x2 x3 x4 x5 x6 x7 x8 x9 x10
    = k0_pay7 (k0_pay2 (du x0 x1 x2 x3 x4 x5 x6) x7) x9 (k0_pay6 (F := Ideal)) := by
  unfold out0_A_12
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) origin2, View.ld_unit_zero (S := S256x1536) origin2, View.ld_unit_zero (S := S256x640) origin2, View.ld_unit_zero (S := S256x128) origin2, View.ld_unit_zero (S := S256x512) origin2, View.ld_unit_zero (S := S1024x4480) origin2, View.ld_unit_zero (S := S1x1x1024) origin3]
  rw [View.canon_cons_unit_zero origin2, View.readCov_unit_zero _ origin2]
  exact congrArg (fun u => k0_pay7 (k0_pay2 u x7) x9 (k0_pay6 (F := Ideal))) (read_back x0 x1 x2 x3 x4 x5 x6 _)

/-- and a later step adds to it. -/
theorem wts_later (h : ¬ cond0_0 i) (v : Vec Ideal S1x1024 .f32) : out0_B_12 c i a1 h1 a2 h2 a3 h3 a4 h4 a5 h5 a6 h6 a7 h7 a8 h8 a9 h9 a10 h10 a11 h11 a12 h12 a13 h13 a14 h14 h x0 x1 x2 x3 x4 x5 x6 x7 x8 x9 x10 v
    = k0_pay7 (k0_pay2 (du x0 x1 x2 x3 x4 x5 x6) x7) x9 v := by
  unfold out0_B_12
  rw [View.read_writes_junk_eq_canon]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) origin2, View.ld_unit_zero (S := S256x1536) origin2, View.ld_unit_zero (S := S256x640) origin2, View.ld_unit_zero (S := S256x128) origin2, View.ld_unit_zero (S := S256x512) origin2, View.ld_unit_zero (S := S1024x4480) origin2, View.ld_unit_zero (S := S1x1x1024) origin3, h13.read_unread, View.ld_unit_zero (S := S1x1024) origin2]
  rw [View.canon_unit_zero origin2]
  exact congrArg (fun u => k0_pay7 (k0_pay2 u x7) x9 v) (read_back x0 x1 x2 x3 x4 x5 x6 _)

/-- The first step stores the pieces side by side, -/
theorem du_first (h : cond0_0 i) : out0_A_13 c i a1 h1 a2 h2 a3 h3 a4 h4 a5 h5 a6 h6 a7 h7 a8 h8 a9 h9 a10 h10 a11 h11 a12 h12 a13 h13 a14 h14 h x0 x1 x2 x3 x4 x5 x6 x7 x8 x9 x10
    = du x0 x1 x2 x3 x4 x5 x6 := by
  unfold out0_A_13
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) origin2, View.ld_unit_zero (S := S256x1536) origin2, View.ld_unit_zero (S := S256x640) origin2, View.ld_unit_zero (S := S256x128) origin2, View.ld_unit_zero (S := S256x512) origin2, View.ld_unit_zero (S := S1024x4480) origin2, View.ld_unit_zero (S := S1x1x1024) origin3]
  rfl

/-- and so does a later step. -/
theorem du_later (h : ¬ cond0_0 i) (v : Vec Ideal S1x1024 .f32) : out0_B_13 c i a1 h1 a2 h2 a3 h3 a4 h4 a5 h5 a6 h6 a7 h7 a8 h8 a9 h9 a10 h10 a11 h11 a12 h12 a13 h13 a14 h14 h x0 x1 x2 x3 x4 x5 x6 x7 x8 x9 x10 v
    = du x0 x1 x2 x3 x4 x5 x6 := by
  unfold out0_B_13
  rw [View.read_writes_junk_eq_canon]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) origin2, View.ld_unit_zero (S := S256x1536) origin2, View.ld_unit_zero (S := S256x640) origin2, View.ld_unit_zero (S := S256x128) origin2, View.ld_unit_zero (S := S256x512) origin2, View.ld_unit_zero (S := S1024x4480) origin2, View.ld_unit_zero (S := S1x1x1024) origin3, h13.read_unread, View.ld_unit_zero (S := S1x1024) origin2]
  rfl

end Steps

end Cert.Proof.Mm.InBwd
-- ==== Proof.Mm.InBwdRef.lean ====
/- The gradient behind the mixer's norm in the reference, at an index. -/
module

public import proofs.«01_k».proof.Proof.Gen.ReferenceInBwdIdeal.Run
public import proofs.«01_k».proof.Proof.Mm.HostBack
public import Idealize.ShloMosaic.Lib.TwoAxisContraction

@[expose] public section

set_option maxRecDepth 16384

noncomputable section

namespace Cert.Proof.Mm.InBwd

open Cert.ReferenceInBwdIdeal Cert.ReferenceInBwdIdeal.Gen
open Idealize.ShloMosaic Idealize.ShloMosaic.ValueIdx

theorem host_at (l : FVec Ideal S2048x4480 .f32) (q : FVec Ideal S1024x4480 .f32) (a : Fin 2048) (r : Fin 1024) :
    Host.dotGeneral (F := Ideal) dot_S2048x4480_S1024x4480_S2048x1024_1_1_0_0_n_n none l q (ix2 a r) = ∑ b : Fin 4480, l (ix2 a b) * q (ix2 r b) :=
  host_sum _ 4480 rfl rfl l q (ix2 a r) (fun b => ix2 a b) (fun b => ix2 r b)
    (fun _ => funext fun j => match j with
      | ⟨0, _⟩ => rfl
      | ⟨1, _⟩ => rfl) (fun _ => funext fun j => match j with
      | ⟨0, _⟩ => rfl
      | ⟨1, _⟩ => rfl)

variable (x0 : FVec Ideal S2048x1024 .bf16) (x1 : FVec Ideal S2048x1536 .bf16) (x2 : FVec Ideal S2048x640 .bf16) (x3 : FVec Ideal S2048x128 .f32) (x4 : FVec Ideal S2048x512 .bf16) (x5 : FVec Ideal S2048x512 .bf16) (x6 : FVec Ideal S2048x128 .bf16) (w : FVec Ideal S1024x4480 .bf16)

/-- The pieces in the reference, each as it stands. -/
abbrev sides : List ((s : Shape) × (⟨s, .f32⟩ : BufTy).Contents (Elt Ideal)) :=
  [⟨S2048x1024, (extf .f32 x0 bitsLt_bf16_f32 : (⟨S2048x1024, .f32⟩ : BufTy).Contents (Elt Ideal))⟩, ⟨S2048x1536, (extf .f32 x1 bitsLt_bf16_f32 : (⟨S2048x1536, .f32⟩ : BufTy).Contents (Elt Ideal))⟩, ⟨S2048x640, (extf .f32 x2 bitsLt_bf16_f32 : (⟨S2048x640, .f32⟩ : BufTy).Contents (Elt Ideal))⟩, ⟨S2048x128, (x3 : (⟨S2048x128, .f32⟩ : BufTy).Contents (Elt Ideal))⟩, ⟨S2048x512, (extf .f32 x4 bitsLt_bf16_f32 : (⟨S2048x512, .f32⟩ : BufTy).Contents (Elt Ideal))⟩, ⟨S2048x512, (extf .f32 x5 bitsLt_bf16_f32 : (⟨S2048x512, .f32⟩ : BufTy).Contents (Elt Ideal))⟩, ⟨S2048x128, (extf .f32 x6 bitsLt_bf16_f32 : (⟨S2048x128, .f32⟩ : BufTy).Contents (Elt Ideal))⟩]

/-- The pieces side by side in the reference. -/
def cat : FVec Ideal S2048x4480 .f32 :=
  concatenate S2048x4480 1 (sides x0 x1 x2 x3 x4 x5 x6) concatenates_S2048x1024_S2048x1536_S2048x640_S2048x128_S2048x512_S2048x512_S2048x128_S2048x4480_d1

/-- Each piece lies at its columns. -/
theorem cat0_at (a : Fin 2048) (b : Fin 1024) : cat x0 x1 x2 x3 x4 x5 x6 (ix2 a (⟨0 + b.val, by omega⟩ : Fin 4480)) = x0 (ix2 a b) :=
  concatenate_apply_piece (t := S2048x4480) (1 : Fin 2) (sides x0 x1 x2 x3 x4 x5 x6) concatenates_S2048x1024_S2048x1536_S2048x640_S2048x128_S2048x512_S2048x512_S2048x128_S2048x4480_d1 _ 0 (by decide : 0 < 7) S2048x1024 _ rfl rfl 0 rfl (ix2 a b)
    (fun j hj => match j, hj with | ⟨0, _⟩, _ => rfl | ⟨1, _⟩, hj => absurd rfl hj) rfl

theorem cat1_at (a : Fin 2048) (b : Fin 1536) : cat x0 x1 x2 x3 x4 x5 x6 (ix2 a (⟨1024 + b.val, by omega⟩ : Fin 4480)) = x1 (ix2 a b) :=
  concatenate_apply_piece (t := S2048x4480) (1 : Fin 2) (sides x0 x1 x2 x3 x4 x5 x6) concatenates_S2048x1024_S2048x1536_S2048x640_S2048x128_S2048x512_S2048x512_S2048x128_S2048x4480_d1 _ 1 (by decide : 1 < 7) S2048x1536 _ rfl rfl 1024 rfl (ix2 a b)
    (fun j hj => match j, hj with | ⟨0, _⟩, _ => rfl | ⟨1, _⟩, hj => absurd rfl hj) rfl

theorem cat2_at (a : Fin 2048) (b : Fin 640) : cat x0 x1 x2 x3 x4 x5 x6 (ix2 a (⟨2560 + b.val, by omega⟩ : Fin 4480)) = x2 (ix2 a b) :=
  concatenate_apply_piece (t := S2048x4480) (1 : Fin 2) (sides x0 x1 x2 x3 x4 x5 x6) concatenates_S2048x1024_S2048x1536_S2048x640_S2048x128_S2048x512_S2048x512_S2048x128_S2048x4480_d1 _ 2 (by decide : 2 < 7) S2048x640 _ rfl rfl 2560 rfl (ix2 a b)
    (fun j hj => match j, hj with | ⟨0, _⟩, _ => rfl | ⟨1, _⟩, hj => absurd rfl hj) rfl

theorem cat3_at (a : Fin 2048) (b : Fin 128) : cat x0 x1 x2 x3 x4 x5 x6 (ix2 a (⟨3200 + b.val, by omega⟩ : Fin 4480)) = x3 (ix2 a b) :=
  concatenate_apply_piece (t := S2048x4480) (1 : Fin 2) (sides x0 x1 x2 x3 x4 x5 x6) concatenates_S2048x1024_S2048x1536_S2048x640_S2048x128_S2048x512_S2048x512_S2048x128_S2048x4480_d1 _ 3 (by decide : 3 < 7) S2048x128 _ rfl rfl 3200 rfl (ix2 a b)
    (fun j hj => match j, hj with | ⟨0, _⟩, _ => rfl | ⟨1, _⟩, hj => absurd rfl hj) rfl

theorem cat4_at (a : Fin 2048) (b : Fin 512) : cat x0 x1 x2 x3 x4 x5 x6 (ix2 a (⟨3328 + b.val, by omega⟩ : Fin 4480)) = x4 (ix2 a b) :=
  concatenate_apply_piece (t := S2048x4480) (1 : Fin 2) (sides x0 x1 x2 x3 x4 x5 x6) concatenates_S2048x1024_S2048x1536_S2048x640_S2048x128_S2048x512_S2048x512_S2048x128_S2048x4480_d1 _ 4 (by decide : 4 < 7) S2048x512 _ rfl rfl 3328 rfl (ix2 a b)
    (fun j hj => match j, hj with | ⟨0, _⟩, _ => rfl | ⟨1, _⟩, hj => absurd rfl hj) rfl

theorem cat5_at (a : Fin 2048) (b : Fin 512) : cat x0 x1 x2 x3 x4 x5 x6 (ix2 a (⟨3840 + b.val, by omega⟩ : Fin 4480)) = x5 (ix2 a b) :=
  concatenate_apply_piece (t := S2048x4480) (1 : Fin 2) (sides x0 x1 x2 x3 x4 x5 x6) concatenates_S2048x1024_S2048x1536_S2048x640_S2048x128_S2048x512_S2048x512_S2048x128_S2048x4480_d1 _ 5 (by decide : 5 < 7) S2048x512 _ rfl rfl 3840 rfl (ix2 a b)
    (fun j hj => match j, hj with | ⟨0, _⟩, _ => rfl | ⟨1, _⟩, hj => absurd rfl hj) rfl

theorem cat6_at (a : Fin 2048) (b : Fin 128) : cat x0 x1 x2 x3 x4 x5 x6 (ix2 a (⟨4352 + b.val, by omega⟩ : Fin 4480)) = x6 (ix2 a b) :=
  concatenate_apply_piece (t := S2048x4480) (1 : Fin 2) (sides x0 x1 x2 x3 x4 x5 x6) concatenates_S2048x1024_S2048x1536_S2048x640_S2048x128_S2048x512_S2048x512_S2048x128_S2048x4480_d1 _ 6 (by decide : 6 < 7) S2048x128 _ rfl rfl 4352 rfl (ix2 a b)
    (fun j hj => match j, hj with | ⟨0, _⟩, _ => rfl | ⟨1, _⟩, hj => absurd rfl hj) rfl

/-- The gradient of the normed rows in the reference, and the pieces as it returns them. -/
def grad : FVec Ideal S2048x1024 .f32 :=
  Host.dotGeneral dot_S2048x4480_S1024x4480_S2048x1024_1_1_0_0_n_n none (cat x0 x1 x2 x3 x4 x5 x6) (extf .f32 w bitsLt_bf16_f32)
def catNarrow : FVec Ideal S2048x4480 .bf16 := truncf .bf16 (cat x0 x1 x2 x3 x4 x5 x6) bitsLt_bf16_f32

theorem grad_at (a : Fin 2048) (r : Fin 1024) : grad x0 x1 x2 x3 x4 x5 x6 w (ix2 a r) = ∑ b : Fin 4480, cat x0 x1 x2 x3 x4 x5 x6 (ix2 a b) * w (ix2 r b) := by
  unfold grad
  exact host_at _ _ a r

theorem catNarrow_at (a : Fin 2048) (l : Fin 4480) : (catNarrow x0 x1 x2 x3 x4 x5 x6 (ix2 a l) : EReal) = cat x0 x1 x2 x3 x4 x5 x6 (ix2 a l) :=
  narrow_at _ _ _

/-- The reference's gradient of the rows, in those terms. -/
theorem ref_rows (m : (ℓ : Loc nD τ sig) → Buf (Elt Ideal) ℓ) (c : Dev nD) : Cert.ReferenceInBwdIdeal.Value.res_main_v49 m c
    = refBack (m ((c.tc : Thread nD τ).loc main_arg8)) (m ((c.tc : Thread nD τ).loc main_arg9)) (m ((c.tc : Thread nD τ).loc main_arg10)) (grad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  unfold Cert.ReferenceInBwdIdeal.Value.res_main_v49
  rfl

end Cert.Proof.Mm.InBwd
-- ==== Proof.Mm.InBwdAt.lean ====
/- The gradient behind the mixer's norm: where a step's blocks lie in the arrays. -/
module

public import proofs.«01_k».proof.Proof.Gen.KernelInBwdIdeal.Frame
public import proofs.«01_k».proof.Proof.Mm.Common
public import Idealize.ShloMosaic.Lib.Pipeline.Value

@[expose] public section

set_option maxRecDepth 16384

noncomputable section

namespace Cert.Proof.Mm.InBwd

open Cert.KernelInBwdIdeal Cert.KernelInBwdIdeal.Gen
open Idealize.ShloMosaic Idealize.ShloMosaic.ValueIdx Idealize.SL.Sem

variable (m : (ℓ : Loc nD τ sig) → Buf (Elt Ideal) ℓ) (c : Dev nD)

/-- Where an entry of a block lies in its array, along one axis. -/
theorem emb_val (w : Fin cfg0.W) (t : Fin cfg0.N) (y : ((cfg0.win w).xblock (cfg0.grid.coords t)).Idx) (b : Fin (cfg0.win w).shape.rank)
    (hk : (cfg0.win w).kind = .blocked) (k z : ℕ) (hi : (cfg0.win w).index t b = k) (hz : k * (cfg0.win w).size b + (y b).val = z) :
    (((cfg0.win w).rect t).emb y b : ℕ) = z :=
  ((cfg0.win w).rect_emb_val t y b hk).trans (by rw [hi]; exact hz)

/-- The entry of an array of rows that lies at a given row of a given block. -/
theorem row_eq {p : ℕ} (i : (⟨2, ![2048, p]⟩ : Shape).Idx) (n : Fin 8) (a : Fin 256) (l : Fin p)
    (h0 : (i 0).val = 256 * n.val + a.val) (h1 : (i 1).val = l.val) : i = ix2 (join 2048 rfl n a) l :=
  funext fun j => match j with
    | ⟨0, _⟩ => Fin.ext h0
    | ⟨1, _⟩ => Fin.ext h1

/-- The arguments as arrays. -/
abbrev g0 : FVec Ideal S2048x1024 .bf16 := m ((c.tc : Thread nD τ).loc main_arg0)
abbrev g1 : FVec Ideal S2048x1536 .bf16 := m ((c.tc : Thread nD τ).loc main_arg1)
abbrev g2 : FVec Ideal S2048x640 .bf16 := m ((c.tc : Thread nD τ).loc main_arg2)
abbrev g3 : FVec Ideal S2048x128 .f32 := m ((c.tc : Thread nD τ).loc main_arg3)
abbrev g4 : FVec Ideal S2048x512 .bf16 := m ((c.tc : Thread nD τ).loc main_arg4)
abbrev g5 : FVec Ideal S2048x512 .bf16 := m ((c.tc : Thread nD τ).loc main_arg5)
abbrev g6 : FVec Ideal S2048x128 .bf16 := m ((c.tc : Thread nD τ).loc main_arg6)
abbrev g7 : FVec Ideal S1024x4480 .bf16 := m ((c.tc : Thread nD τ).loc main_arg7)
abbrev g8 : FVec Ideal S2048x1024 .f32 := m ((c.tc : Thread nD τ).loc main_arg8)
abbrev g9 : FVec Ideal S2048x1024 .f32 := m ((c.tc : Thread nD τ).loc main_arg9)
abbrev g10 : FVec Ideal S4x1x1024 .f32 := m ((c.tc : Thread nD τ).loc main_arg10)

/-- A block of rows' number as a grid point. -/
def pt (n : Fin 8) : Fin cfg0.N := ⟨n.val, lt_of_lt_of_eq n.isLt N_0.symm⟩

theorem index_0 : ∀ t : Fin cfg0.N, (cfg0.win 0).index t = ![t.val, 0] := by decide +kernel
theorem index_1 : ∀ t : Fin cfg0.N, (cfg0.win 1).index t = ![t.val, 0] := by decide +kernel
theorem index_2 : ∀ t : Fin cfg0.N, (cfg0.win 2).index t = ![t.val, 0] := by decide +kernel
theorem index_3 : ∀ t : Fin cfg0.N, (cfg0.win 3).index t = ![t.val, 0] := by decide +kernel
theorem index_4 : ∀ t : Fin cfg0.N, (cfg0.win 4).index t = ![t.val, 0] := by decide +kernel
theorem index_5 : ∀ t : Fin cfg0.N, (cfg0.win 5).index t = ![t.val, 0] := by decide +kernel
theorem index_6 : ∀ t : Fin cfg0.N, (cfg0.win 6).index t = ![t.val, 0] := by decide +kernel
theorem index_7 : ∀ t : Fin cfg0.N, (cfg0.win 7).index t = ![0, 0] := by decide +kernel
theorem index_8 : ∀ t : Fin cfg0.N, (cfg0.win 8).index t = ![t.val, 0] := by decide +kernel
theorem index_9 : ∀ t : Fin cfg0.N, (cfg0.win 9).index t = ![t.val, 0] := by decide +kernel
theorem index_10 : ∀ t : Fin cfg0.N, (cfg0.win 10).index t = ![1, 0, 0] := by decide +kernel
theorem index_11 : ∀ t : Fin cfg0.N, (cfg0.win 11).index t = ![t.val, 0] := by decide +kernel
theorem index_12 : ∀ t : Fin cfg0.N, (cfg0.win 12).index t = ![0, 0] := by decide +kernel
theorem index_13 : ∀ t : Fin cfg0.N, (cfg0.win 13).index t = ![t.val, 0] := by decide +kernel

theorem blk0_at (n : Fin 8) (a : Fin 256) (l : Fin 1024) : iblk m c 0 (pt n) (ix2 a l) = g0 m c (ix2 (join 2048 rfl n a) l) :=
  congrArg (g0 m c) (row_eq _ n a l (emb_val 0 (pt n) (ix2 a l) ⟨0, by decide⟩ rfl n.val _ (congrFun (index_0 _) 0) (by show n.val * 256 + a.val = _; omega))
    (emb_val 0 (pt n) (ix2 a l) ⟨1, by decide⟩ rfl 0 l.val (congrFun (index_0 _) 1) (by show 0 * 1024 + l.val = _; omega)))

theorem blk1_at (n : Fin 8) (a : Fin 256) (l : Fin 1536) : iblk m c 1 (pt n) (ix2 a l) = g1 m c (ix2 (join 2048 rfl n a) l) :=
  congrArg (g1 m c) (row_eq _ n a l (emb_val 1 (pt n) (ix2 a l) ⟨0, by decide⟩ rfl n.val _ (congrFun (index_1 _) 0) (by show n.val * 256 + a.val = _; omega))
    (emb_val 1 (pt n) (ix2 a l) ⟨1, by decide⟩ rfl 0 l.val (congrFun (index_1 _) 1) (by show 0 * 1536 + l.val = _; omega)))

theorem blk2_at (n : Fin 8) (a : Fin 256) (l : Fin 640) : iblk m c 2 (pt n) (ix2 a l) = g2 m c (ix2 (join 2048 rfl n a) l) :=
  congrArg (g2 m c) (row_eq _ n a l (emb_val 2 (pt n) (ix2 a l) ⟨0, by decide⟩ rfl n.val _ (congrFun (index_2 _) 0) (by show n.val * 256 + a.val = _; omega))
    (emb_val 2 (pt n) (ix2 a l) ⟨1, by decide⟩ rfl 0 l.val (congrFun (index_2 _) 1) (by show 0 * 640 + l.val = _; omega)))

theorem blk3_at (n : Fin 8) (a : Fin 256) (l : Fin 128) : iblk m c 3 (pt n) (ix2 a l) = g3 m c (ix2 (join 2048 rfl n a) l) :=
  congrArg (g3 m c) (row_eq _ n a l (emb_val 3 (pt n) (ix2 a l) ⟨0, by decide⟩ rfl n.val _ (congrFun (index_3 _) 0) (by show n.val * 256 + a.val = _; omega))
    (emb_val 3 (pt n) (ix2 a l) ⟨1, by decide⟩ rfl 0 l.val (congrFun (index_3 _) 1) (by show 0 * 128 + l.val = _; omega)))

theorem blk4_at (n : Fin 8) (a : Fin 256) (l : Fin 512) : iblk m c 4 (pt n) (ix2 a l) = g4 m c (ix2 (join 2048 rfl n a) l) :=
  congrArg (g4 m c) (row_eq _ n a l (emb_val 4 (pt n) (ix2 a l) ⟨0, by decide⟩ rfl n.val _ (congrFun (index_4 _) 0) (by show n.val * 256 + a.val = _; omega))
    (emb_val 4 (pt n) (ix2 a l) ⟨1, by decide⟩ rfl 0 l.val (congrFun (index_4 _) 1) (by show 0 * 512 + l.val = _; omega)))

theorem blk5_at (n : Fin 8) (a : Fin 256) (l : Fin 512) : iblk m c 5 (pt n) (ix2 a l) = g5 m c (ix2 (join 2048 rfl n a) l) :=
  congrArg (g5 m c) (row_eq _ n a l (emb_val 5 (pt n) (ix2 a l) ⟨0, by decide⟩ rfl n.val _ (congrFun (index_5 _) 0) (by show n.val * 256 + a.val = _; omega))
    (emb_val 5 (pt n) (ix2 a l) ⟨1, by decide⟩ rfl 0 l.val (congrFun (index_5 _) 1) (by show 0 * 512 + l.val = _; omega)))

theorem blk6_at (n : Fin 8) (a : Fin 256) (l : Fin 128) : iblk m c 6 (pt n) (ix2 a l) = g6 m c (ix2 (join 2048 rfl n a) l) :=
  congrArg (g6 m c) (row_eq _ n a l (emb_val 6 (pt n) (ix2 a l) ⟨0, by decide⟩ rfl n.val _ (congrFun (index_6 _) 0) (by show n.val * 256 + a.val = _; omega))
    (emb_val 6 (pt n) (ix2 a l) ⟨1, by decide⟩ rfl 0 l.val (congrFun (index_6 _) 1) (by show 0 * 128 + l.val = _; omega)))

theorem blk8_at (n : Fin 8) (a : Fin 256) (l : Fin 1024) : iblk m c 8 (pt n) (ix2 a l) = g8 m c (ix2 (join 2048 rfl n a) l) :=
  congrArg (g8 m c) (row_eq _ n a l (emb_val 8 (pt n) (ix2 a l) ⟨0, by decide⟩ rfl n.val _ (congrFun (index_8 _) 0) (by show n.val * 256 + a.val = _; omega))
    (emb_val 8 (pt n) (ix2 a l) ⟨1, by decide⟩ rfl 0 l.val (congrFun (index_8 _) 1) (by show 0 * 1024 + l.val = _; omega)))

theorem blk9_at (n : Fin 8) (a : Fin 256) (l : Fin 1024) : iblk m c 9 (pt n) (ix2 a l) = g9 m c (ix2 (join 2048 rfl n a) l) :=
  congrArg (g9 m c) (row_eq _ n a l (emb_val 9 (pt n) (ix2 a l) ⟨0, by decide⟩ rfl n.val _ (congrFun (index_9 _) 0) (by show n.val * 256 + a.val = _; omega))
    (emb_val 9 (pt n) (ix2 a l) ⟨1, by decide⟩ rfl 0 l.val (congrFun (index_9 _) 1) (by show 0 * 1024 + l.val = _; omega)))

theorem blk7_at (t : Fin cfg0.N) (r : Fin 1024) (l : Fin 4480) : iblk m c 7 t (ix2 r l) = g7 m c (ix2 r l) :=
  congrArg (g7 m c) (funext fun j => match j with
    | ⟨0, _⟩ => Fin.ext (emb_val 7 t (ix2 r l) ⟨0, by decide⟩ rfl 0 r.val (congrFun (index_7 _) 0) (by show 0 * 1024 + r.val = _; omega))
    | ⟨1, _⟩ => Fin.ext (emb_val 7 t (ix2 r l) ⟨1, by decide⟩ rfl 0 l.val (congrFun (index_7 _) 1) (by show 0 * 4480 + l.val = _; omega)))

theorem blk10_at (t : Fin cfg0.N) (r : Fin 1024) : iblk m c 10 t (ix3 (0 : Fin 1) (0 : Fin 1) r) = g10 m c (ix3 (1 : Fin 4) (0 : Fin 1) r) :=
  congrArg (g10 m c) (funext fun j => match j with
    | ⟨0, _⟩ => Fin.ext (emb_val 10 t (ix3 (0 : Fin 1) (0 : Fin 1) r) ⟨0, by decide⟩ rfl 1 1 (congrFun (index_10 _) 0) rfl)
    | ⟨1, _⟩ => Fin.ext (emb_val 10 t (ix3 (0 : Fin 1) (0 : Fin 1) r) ⟨1, by decide⟩ rfl 0 0 (congrFun (index_10 _) 1) rfl)
    | ⟨2, _⟩ => Fin.ext (emb_val 10 t (ix3 (0 : Fin 1) (0 : Fin 1) r) ⟨2, by decide⟩ rfl 0 r.val (congrFun (index_10 _) 2) (by show 0 * 1024 + r.val = _; omega)))

theorem emb_11 (n : Fin 8) (a : Fin 256) (l : Fin 1024) : ((cfg0.win 11).blk (pt n)).view.emb (ix2 a l) = ix2 (join 2048 rfl n a) l :=
  row_eq _ n a l (emb_val 11 (pt n) (ix2 a l) ⟨0, by decide⟩ rfl n.val _ (congrFun (index_11 _) 0) (by show n.val * 256 + a.val = _; omega))
    (emb_val 11 (pt n) (ix2 a l) ⟨1, by decide⟩ rfl 0 l.val (congrFun (index_11 _) 1) (by show 0 * 1024 + l.val = _; omega))

theorem emb_13 (n : Fin 8) (a : Fin 256) (l : Fin 4480) : ((cfg0.win 13).blk (pt n)).view.emb (ix2 a l) = ix2 (join 2048 rfl n a) l :=
  row_eq _ n a l (emb_val 13 (pt n) (ix2 a l) ⟨0, by decide⟩ rfl n.val _ (congrFun (index_13 _) 0) (by show n.val * 256 + a.val = _; omega))
    (emb_val 13 (pt n) (ix2 a l) ⟨1, by decide⟩ rfl 0 l.val (congrFun (index_13 _) 1) (by show 0 * 4480 + l.val = _; omega))

theorem emb_12 (t : Fin cfg0.N) (r : Fin 1024) : ((cfg0.win 12).blk t).view.emb (ix2 (0 : Fin 1) r) = ix2 (0 : Fin 1) r :=
  funext fun j => match j with
    | ⟨0, _⟩ => Fin.ext (emb_val 12 t (ix2 (0 : Fin 1) r) ⟨0, by decide⟩ rfl 0 0 (congrFun (index_12 _) 0) rfl)
    | ⟨1, _⟩ => Fin.ext (emb_val 12 t (ix2 (0 : Fin 1) r) ⟨1, by decide⟩ rfl 0 r.val (congrFun (index_12 _) 1) (by show 0 * 1024 + r.val = _; omega))

end Cert.Proof.Mm.InBwd
-- ==== Proof.Mm.InBwd.lean ====
/- The gradient behind the mixer's norm: the whole arrays, and the claim. -/
module

public import proofs.«01_k».proof.Defs
public import proofs.«01_k».proof.Proof.Mm.InBwdBlock
public import proofs.«01_k».proof.Proof.Mm.InBwdRef
public import proofs.«01_k».proof.Proof.Mm.InBwdAt
public import proofs.«01_k».proof.Proof.Gen.KernelInBwdIdeal.Value
public import proofs.«01_k».proof.Proof.Gen.ReferenceInBwdIdeal.Run

@[expose] public section

set_option maxRecDepth 16384

noncomputable section

namespace Cert.Proof.Mm.InBwd

open Cert.KernelInBwdIdeal Cert.KernelInBwdIdeal.Gen
open Idealize.ShloMosaic Idealize.ShloMosaic.ValueIdx Idealize.SL.Sem

variable (m : (ℓ : Loc nD τ sig) → Buf (Elt Ideal) ℓ) (c : Dev nD)

/-- The reference's pieces side by side, its gradient of the normed rows, and its results. -/
abbrev ct : FVec Ideal S2048x4480 .f32 := cat (g0 m c) (g1 m c) (g2 m c) (g3 m c) (g4 m c) (g5 m c) (g6 m c)
abbrev gr : FVec Ideal S2048x1024 .f32 := grad (g0 m c) (g1 m c) (g2 m c) (g3 m c) (g4 m c) (g5 m c) (g6 m c) (g7 m c)
abbrev resRows : FVec Ideal S2048x1024 .f32 := refBack (g8 m c) (g9 m c) (g10 m c) (gr m c)
abbrev resWts : FVec Ideal S1x1024 .f32 := refTotals (g9 m c) (gr m c)
abbrev resParts : FVec Ideal S2048x4480 .bf16 := catNarrow (g0 m c) (g1 m c) (g2 m c) (g3 m c) (g4 m c) (g5 m c) (g6 m c)

/-- What a step stores of the pieces, and its product. -/
abbrev du' (t : Fin cfg0.N) : Vec Ideal S256x4480 .bf16 := du (iblk m c 0 t) (iblk m c 1 t) (iblk m c 2 t) (iblk m c 3 t) (iblk m c 4 t) (iblk m c 5 t) (iblk m c 6 t)
abbrev dh' (t : Fin cfg0.N) : FVec Ideal S256x1024 .f32 := k0_pay2 (du' m c t) (iblk m c 7 t)

/-- A step's pieces are its block of the reference's. -/
theorem du_blk (n : Fin 8) (a : Fin 256) (l : Fin 4480) : (du' m c (pt n) (ix2 a l) : EReal) = ct m c (ix2 (join 2048 rfl n a) l) :=
  du_at _ _ _ _ _ _ _ (fun a l => ct m c (ix2 (join 2048 rfl n a) l))
    (fun a b => (blk0_at m c n a b).trans (cat0_at (g0 m c) (g1 m c) (g2 m c) (g3 m c) (g4 m c) (g5 m c) (g6 m c) (join 2048 rfl n a) b).symm)
    (fun a b => (blk1_at m c n a b).trans (cat1_at (g0 m c) (g1 m c) (g2 m c) (g3 m c) (g4 m c) (g5 m c) (g6 m c) (join 2048 rfl n a) b).symm)
    (fun a b => (blk2_at m c n a b).trans (cat2_at (g0 m c) (g1 m c) (g2 m c) (g3 m c) (g4 m c) (g5 m c) (g6 m c) (join 2048 rfl n a) b).symm)
    (fun a b => (blk3_at m c n a b).trans (cat3_at (g0 m c) (g1 m c) (g2 m c) (g3 m c) (g4 m c) (g5 m c) (g6 m c) (join 2048 rfl n a) b).symm)
    (fun a b => (blk4_at m c n a b).trans (cat4_at (g0 m c) (g1 m c) (g2 m c) (g3 m c) (g4 m c) (g5 m c) (g6 m c) (join 2048 rfl n a) b).symm)
    (fun a b => (blk5_at m c n a b).trans (cat5_at (g0 m c) (g1 m c) (g2 m c) (g3 m c) (g4 m c) (g5 m c) (g6 m c) (join 2048 rfl n a) b).symm)
    (fun a b => (blk6_at m c n a b).trans (cat6_at (g0 m c) (g1 m c) (g2 m c) (g3 m c) (g4 m c) (g5 m c) (g6 m c) (join 2048 rfl n a) b).symm)
    a l

/-- So is its product. -/
theorem dh_blk (n : Fin 8) (a : Fin 256) (r : Fin 1024) : dh' m c (pt n) (ix2 a r) = gr m c (ix2 (join 2048 rfl n a) r) :=
  (prod_at a r _ _).trans (Eq.trans (Finset.sum_congr rfl fun b _ =>
    congrArg₂ (fun y z : EReal => y * z) (du_blk m c n a b) (blk7_at m c (pt n) r b)) (grad_at (g0 m c) (g1 m c) (g2 m c) (g3 m c) (g4 m c) (g5 m c) (g6 m c) (g7 m c) (join 2048 rfl n a) r).symm)

theorem row_blk (n : Fin 8) (a : Fin 256) : (fun j => iblk m c 9 (pt n) (ix2 a j)) = fun j : Fin 1024 => g9 m c (ix2 (join 2048 rfl n a) j) :=
  funext fun j => blk9_at m c n a j

/-- What a step stores as the gradient of the rows, -/
theorem rows_step (t : Fin cfg0.N) : (outsAt0 m c t.val t.isLt).1 = k0_pay5 (dh' m c t) (iblk m c 9 t) (iblk m c 10 t) (iblk m c 8 t) := by
  by_cases h : t.val % 8 = 0
  · rw [outsAt0_A m c t h]
    dsimp only
    rw [rows_first]
  · rw [outsAt0_B m c t h]
    dsimp only
    rw [rows_later]

/-- as the pieces, -/
theorem du_step (t : Fin cfg0.N) : (outsAt0 m c t.val t.isLt).2.2 = du' m c t := by
  by_cases h : t.val % 8 = 0
  · rw [outsAt0_A m c t h]
    dsimp only
    rw [du_first]
  · rw [outsAt0_B m c t h]
    dsimp only
    rw [du_later]

/-- and, first and later, as the gradient of the norm's weights. -/
theorem wts_step_first (t : Fin cfg0.N) (h : t.val % 8 = 0) : (outsAt0 m c t.val t.isLt).2.1 = k0_pay7 (dh' m c t) (iblk m c 9 t) (k0_pay6 (F := Ideal)) := by
  rw [outsAt0_A m c t h]
  dsimp only
  rw [wts_first]

theorem wts_step_later (t : Fin cfg0.N) (h : ¬ t.val % 8 = 0) : (outsAt0 m c t.val t.isLt).2.1
    = k0_pay7 (dh' m c t) (iblk m c 9 t) (outsAt0 m c (t.val - 1) (Nat.lt_of_le_of_lt (Nat.sub_le _ _) t.isLt)).2.1 := by
  rw [outsAt0_B m c t h]
  dsimp only
  rw [wts_later]

theorem rows_blk (n : Fin 8) (a : Fin 256) (r : Fin 1024) : (outsAt0 m c (pt n).val (pt n).isLt).1 (ix2 a r) = resRows m c (ix2 (join 2048 rfl n a) r) := by
  rw [rows_step]
  refine (rows_at _ _ _ _ a r).trans (Eq.trans ?_ (refBack_at (g8 m c) (g9 m c) (g10 m c) (gr m c) (join 2048 rfl n a) r).symm)
  refine congrArg₂ (fun s t : EReal => s + t) (blk8_at m c n a r) (congrArg₂ (fun x d => kernelBack x d r) (row_blk m c n a) (funext fun j => ?_))
  exact congrArg₂ (fun s t : EReal => s * t) (dh_blk m c n a j) (blk10_at m c (pt n) j)

/-- What a step adds to the gradient of the norm's weights. -/
def term (r : Fin 1024) (n : Fin 8) : EReal :=
  ∑ a : Fin 256, gr m c (ix2 (join 2048 rfl n a) r) * (g9 m c (ix2 (join 2048 rfl n a) r) * scaleOf fun j => g9 m c (ix2 (join 2048 rfl n a) j))

theorem wts_blk (n : Fin 8) (r : Fin 1024) (v : Vec Ideal S1x1024 .f32) :
    k0_pay7 (dh' m c (pt n)) (iblk m c 9 (pt n)) v (ix2 (0 : Fin 1) r) = v (ix2 (0 : Fin 1) r) + term m c r n := by
  refine (weights_at _ v _ r).trans (congrArg (fun z : EReal => v (ix2 (0 : Fin 1) r) + z) (Finset.sum_congr rfl fun a _ => ?_))
  exact congrArg₂ (fun s t : EReal => s * t) (dh_blk m c n a r) (congrArg₂ (fun s t : EReal => s * t) (blk9_at m c n a r) (congrArg scaleOf (row_blk m c n a)))

/-- The gradient of the weights after each step. -/
theorem wts_upto (n : ℕ) (h : n < cfg0.N) (r : Fin 1024) :
    (outsAt0 m c n h).2.1 (ix2 (0 : Fin 1) r) = ∑ k : Fin (n + 1), term m c r ⟨k.val, lt_of_lt_of_eq (lt_of_lt_of_le k.isLt h) N_0⟩ := by
  induction n with
  | zero =>
    rw [Fin.sum_univ_one]
    refine (congrFun (wts_step_first m c (pt 0) rfl) _).trans ((wts_blk m c 0 r _).trans ?_)
    exact (congrArg (fun z : EReal => z + term m c r 0) (start_at r)).trans (zero_add _)
  | succ n ih =>
    have h4 := lt_of_lt_of_eq h N_0
    rw [Fin.sum_univ_castSucc]
    refine (congrFun (wts_step_later m c (pt ⟨n + 1, h4⟩) (by show ¬ (n + 1) % 8 = 0; omega)) _).trans ((wts_blk m c ⟨n + 1, h4⟩ r _).trans ?_)
    exact congrArg (fun x : EReal => x + term m c r ⟨n + 1, h4⟩) (ih (Nat.lt_of_succ_lt h))

theorem last_lt : 7 < cfg0.N := by rw [show cfg0.N = 8 from N_0]; omega

theorem wts_all (r : Fin 1024) : (outsAt0 m c 7 last_lt).2.1 (ix2 (0 : Fin 1) r) = resWts m c (ix2 (0 : Fin 1) r) :=
  (wts_upto m c 7 last_lt r).trans (((refTotals_at (g9 m c) (gr m c) r).trans (sum_join (p := 8) (q := 256) 2048 rfl _)).symm)

/-- The arrays after the call are the reference's results: the gradient of the rows, -/
theorem arr_11 : (dats m 0 c).arrAt 11 cfg0.N = resRows m c := by
  refine Pipeline.Dat.arrAt_eq_of_cover _ _ _ (fun t _ => ?_) fun i => ?_
  · obtain ⟨n, rfl⟩ : ∃ n : Fin 8, t = pt n := ⟨⟨t.val, lt_of_lt_of_eq t.isLt N_0⟩, rfl⟩
    refine funext fun (y : S256x1024.Idx) => ?_
    obtain ⟨a, l, rfl⟩ : ∃ (a : Fin 256) (l : Fin 1024), y = ix2 a l := ⟨y 0, y 1, by2 y⟩
    refine Eq.trans ?_ ((rows_blk m c n a l).trans (congrArg (resRows m c) (emb_11 n a l).symm))
    show (dats m 0 c).after 11 (pt n) (ix2 a l) = _
    rw [after0_11]
  · obtain ⟨l', l, rfl⟩ : ∃ (l' : Fin 2048) (l : Fin 1024), i = ix2 l' l := ⟨i 0, i 1, by2 i⟩
    obtain ⟨n, a, rfl⟩ := join_surj (p := 8) (q := 256) 2048 rfl l'
    exact ⟨pt n, flush0_11 _, Finset.mem_map.mpr ⟨ix2 a l, Finset.mem_univ _, emb_11 n a l⟩⟩

theorem last_of {t : Fin cfg0.N} (h : t.val % 8 = 7) : t = ⟨7, last_lt⟩ :=
  Fin.ext (by have := lt_of_lt_of_eq t.isLt N_0; show t.val = 7; omega)

/-- the gradient of the norm's weights, -/
theorem arr_12 : (dats m 0 c).arrAt 12 cfg0.N = resWts m c := by
  refine Pipeline.Dat.arrAt_eq_of_cover _ _ _ (fun t ht => ?_) fun i => ?_
  · rw [last_of ((flush0_12 t).mp ht)]
    refine funext fun (y : S1x1024.Idx) => ?_
    obtain ⟨a, r, rfl⟩ : ∃ (a : Fin 1) (r : Fin 1024), y = ix2 a r := ⟨y 0, y 1, by2 y⟩
    obtain rfl : a = 0 := Subsingleton.elim _ _
    refine Eq.trans ?_ ((wts_all m c r).trans (congrArg (resWts m c) (emb_12 ⟨7, last_lt⟩ r).symm))
    show (dats m 0 c).after 12 ⟨7, last_lt⟩ (ix2 (0 : Fin 1) r) = _
    rw [after0_12]
  · obtain ⟨a, r, rfl⟩ : ∃ (a : Fin 1) (r : Fin 1024), i = ix2 a r := ⟨i 0, i 1, by2 i⟩
    obtain rfl : a = 0 := Subsingleton.elim _ _
    exact ⟨⟨7, last_lt⟩, (flush0_12 _).mpr rfl, Finset.mem_map.mpr ⟨ix2 (0 : Fin 1) r, Finset.mem_univ _, emb_12 _ r⟩⟩

/-- and the pieces side by side. -/
theorem arr_13 : (dats m 0 c).arrAt 13 cfg0.N = resParts m c := by
  refine Pipeline.Dat.arrAt_eq_of_cover _ _ _ (fun t _ => ?_) fun i => ?_
  · obtain ⟨n, rfl⟩ : ∃ n : Fin 8, t = pt n := ⟨⟨t.val, lt_of_lt_of_eq t.isLt N_0⟩, rfl⟩
    refine funext fun (y : S256x4480.Idx) => ?_
    obtain ⟨a, l, rfl⟩ : ∃ (a : Fin 256) (l : Fin 4480), y = ix2 a l := ⟨y 0, y 1, by2 y⟩
    refine Eq.trans ?_ (((du_blk m c n a l).trans (catNarrow_at (g0 m c) (g1 m c) (g2 m c) (g3 m c) (g4 m c) (g5 m c) (g6 m c) (join 2048 rfl n a) l).symm).trans (congrArg (resParts m c) (emb_13 n a l).symm))
    show (dats m 0 c).after 13 (pt n) (ix2 a l) = _
    rw [after0_13, du_step]
  · obtain ⟨l', l, rfl⟩ : ∃ (l' : Fin 2048) (l : Fin 4480), i = ix2 l' l := ⟨i 0, i 1, by2 i⟩
    obtain ⟨n, a, rfl⟩ := join_surj (p := 8) (q := 256) 2048 rfl l'
    exact ⟨pt n, flush0_13 _, Finset.mem_map.mpr ⟨ix2 a l, Finset.mem_univ _, emb_13 n a l⟩⟩

/-- Over the extended reals the call computes the reference's results. -/
theorem value : Cert.algebraic_KernelInBwdIdeal_ReferenceInBwdIdeal := fun m ρ m' ρ' _ hm =>
  ⟨_, _, _, (θ_run _ _ _).mono (fun _ h c => ⟨((h c).1).trans (arr_11 m c), ((h c).2.1).trans (arr_12 m c), ((h c).2.2.1).trans (arr_13 m c), (h c).2.2.2⟩)
      (Cert.KernelInBwdIdeal.Value.run_blocks (F := Ideal) m ρ),
    (θ_run _ _ _).mono (fun _ h c => ⟨((h c).1).trans ((ref_rows m' c).trans (by
      rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.1, (hm c).2.2.2.2.2.2.2.2.2.1, (hm c).2.2.2.2.2.2.2.2.2.2])), ((h c).2.1).trans (by
      rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.2.1]; rfl), ((h c).2.2.1).trans (by
      rw [(hm c).1, (hm c).2.1, (hm c).2.2.1, (hm c).2.2.2.1, (hm c).2.2.2.2.1, (hm c).2.2.2.2.2.1, (hm c).2.2.2.2.2.2.1]; rfl), (h c).2.2.2⟩) (Cert.ReferenceInBwdIdeal.Value.run (F := Ideal) m' ρ')⟩

/-- The reference's frame. -/
theorem frame_ref : Cert.quiescent_ReferenceInBwdIdeal := fun m ρ _ =>
  (θ_run Cert.ReferenceInBwdIdeal.defs _ _).mono
    (fun r h => ⟨fun c => (h c).2.2.2, Idealize.ShloMosaic.sem_eq_zero_of_no_sems (by decide) r.2⟩)
    (Cert.ReferenceInBwdIdeal.Value.run (F := Ideal) m ρ)

end Cert.Proof.Mm.InBwd
-- ==== Proof.lean ====
/- The claims: the programs' frames, and the equality of their results over the extended reals: for the attention
   gradient at finite arguments, for the layer's products at any. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.KernelDwDown
public import proofs.«01_k».proof.Proof.Gen.KernelDwDown.Skeleton
public import proofs.«01_k».proof.Proof.Gen.KernelDwDown.Launch
public import proofs.«01_k».proof.Proof.Gen.KernelDwDown.Points
public import proofs.«01_k».proof.Proof.Gen.KernelDwDown.Frame
public import proofs.«01_k».proof.Proof.Gen.KernelDwDownIdeal
public import proofs.«01_k».proof.Proof.Gen.KernelDwDownIdeal.Skeleton
public import proofs.«01_k».proof.Proof.Gen.KernelDwDownIdeal.Launch
public import proofs.«01_k».proof.Proof.Gen.KernelDwDownIdeal.Points
public import proofs.«01_k».proof.Proof.Gen.KernelDwDownIdeal.Frame
public import proofs.«01_k».proof.Proof.Gen.KernelDwDownIdeal.Value
public import proofs.«01_k».proof.Proof.Gen.ReferenceDwDownIdeal
public import proofs.«01_k».proof.Proof.Gen.ReferenceDwDownIdeal.Run
public import proofs.«01_k».proof.Proof.Gen.KernelDwUp
public import proofs.«01_k».proof.Proof.Gen.KernelDwUp.Skeleton
public import proofs.«01_k».proof.Proof.Gen.KernelDwUp.Launch
public import proofs.«01_k».proof.Proof.Gen.KernelDwUp.Points
public import proofs.«01_k».proof.Proof.Gen.KernelDwUp.Frame
public import proofs.«01_k».proof.Proof.Gen.KernelDwUpIdeal
public import proofs.«01_k».proof.Proof.Gen.KernelDwUpIdeal.Skeleton
public import proofs.«01_k».proof.Proof.Gen.KernelDwUpIdeal.Launch
public import proofs.«01_k».proof.Proof.Gen.KernelDwUpIdeal.Points
public import proofs.«01_k».proof.Proof.Gen.KernelDwUpIdeal.Frame
public import proofs.«01_k».proof.Proof.Gen.KernelDwUpIdeal.Value
public import proofs.«01_k».proof.Proof.Gen.ReferenceDwUpIdeal
public import proofs.«01_k».proof.Proof.Gen.ReferenceDwUpIdeal.Run
public import proofs.«01_k».proof.Proof.Gen.KernelDwOut
public import proofs.«01_k».proof.Proof.Gen.KernelDwOut.Skeleton
public import proofs.«01_k».proof.Proof.Gen.KernelDwOut.Launch
public import proofs.«01_k».proof.Proof.Gen.KernelDwOut.Points
public import proofs.«01_k».proof.Proof.Gen.KernelDwOut.Frame
public import proofs.«01_k».proof.Proof.Gen.KernelDwOutIdeal
public import proofs.«01_k».proof.Proof.Gen.KernelDwOutIdeal.Skeleton
public import proofs.«01_k».proof.Proof.Gen.KernelDwOutIdeal.Launch
public import proofs.«01_k».proof.Proof.Gen.KernelDwOutIdeal.Points
public import proofs.«01_k».proof.Proof.Gen.KernelDwOutIdeal.Frame
public import proofs.«01_k».proof.Proof.Gen.KernelDwOutIdeal.Value
public import proofs.«01_k».proof.Proof.Gen.ReferenceDwOutIdeal
public import proofs.«01_k».proof.Proof.Gen.ReferenceDwOutIdeal.Run
public import proofs.«01_k».proof.Proof.Gen.KernelDwIn
public import proofs.«01_k».proof.Proof.Gen.KernelDwIn.Skeleton
public import proofs.«01_k».proof.Proof.Gen.KernelDwIn.Launch
public import proofs.«01_k».proof.Proof.Gen.KernelDwIn.Points
public import proofs.«01_k».proof.Proof.Gen.KernelDwIn.Frame
public import proofs.«01_k».proof.Proof.Gen.KernelDwInIdeal
public import proofs.«01_k».proof.Proof.Gen.KernelDwInIdeal.Skeleton
public import proofs.«01_k».proof.Proof.Gen.KernelDwInIdeal.Launch
public import proofs.«01_k».proof.Proof.Gen.KernelDwInIdeal.Points
public import proofs.«01_k».proof.Proof.Gen.KernelDwInIdeal.Frame
public import proofs.«01_k».proof.Proof.Gen.KernelDwInIdeal.Value
public import proofs.«01_k».proof.Proof.Gen.ReferenceDwInIdeal
public import proofs.«01_k».proof.Proof.Gen.ReferenceDwInIdeal.Run
public import proofs.«01_k».proof.Proof.Attn.Frames
public import proofs.«01_k».proof.Proof.Attn.Value
public import proofs.«01_k».proof.Proof.Gen.KernelResDown
public import proofs.«01_k».proof.Proof.Gen.KernelResDown.Skeleton
public import proofs.«01_k».proof.Proof.Gen.KernelResDown.Launch
public import proofs.«01_k».proof.Proof.Gen.KernelResDown.Points
public import proofs.«01_k».proof.Proof.Gen.KernelResDown.Frame
public import proofs.«01_k».proof.Proof.Gen.KernelResDownIdeal
public import proofs.«01_k».proof.Proof.Gen.KernelResDownIdeal.Skeleton
public import proofs.«01_k».proof.Proof.Gen.KernelResDownIdeal.Launch
public import proofs.«01_k».proof.Proof.Gen.KernelResDownIdeal.Points
public import proofs.«01_k».proof.Proof.Gen.KernelResDownIdeal.Frame
public import proofs.«01_k».proof.Proof.Gen.KernelResDownIdeal.Value
public import proofs.«01_k».proof.Proof.Gen.ReferenceResDownIdeal
public import proofs.«01_k».proof.Proof.Gen.ReferenceResDownIdeal.Run
public import proofs.«01_k».proof.Proof.Gen.KernelResOut
public import proofs.«01_k».proof.Proof.Gen.KernelResOut.Skeleton
public import proofs.«01_k».proof.Proof.Gen.KernelResOut.Launch
public import proofs.«01_k».proof.Proof.Gen.KernelResOut.Points
public import proofs.«01_k».proof.Proof.Gen.KernelResOut.Frame
public import proofs.«01_k».proof.Proof.Gen.KernelResOutIdeal
public import proofs.«01_k».proof.Proof.Gen.KernelResOutIdeal.Skeleton
public import proofs.«01_k».proof.Proof.Gen.KernelResOutIdeal.Launch
public import proofs.«01_k».proof.Proof.Gen.KernelResOutIdeal.Points
public import proofs.«01_k».proof.Proof.Gen.KernelResOutIdeal.Frame
public import proofs.«01_k».proof.Proof.Gen.KernelResOutIdeal.Value
public import proofs.«01_k».proof.Proof.Gen.ReferenceResOutIdeal
public import proofs.«01_k».proof.Proof.Gen.ReferenceResOutIdeal.Run
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.KernelUpBwd
public import proofs.«01_k».proof.Proof.Gen.KernelUpBwd.Skeleton
public import proofs.«01_k».proof.Proof.Gen.KernelUpBwd.Launch
public import proofs.«01_k».proof.Proof.Gen.KernelUpBwd.Points
public import proofs.«01_k».proof.Proof.Gen.KernelUpBwd.Frame
public import proofs.«01_k».proof.Proof.Gen.KernelUpBwdIdeal
public import proofs.«01_k».proof.Proof.Gen.KernelUpBwdIdeal.Skeleton
public import proofs.«01_k».proof.Proof.Gen.KernelUpBwdIdeal.Launch
public import proofs.«01_k».proof.Proof.Gen.KernelUpBwdIdeal.Points
public import proofs.«01_k».proof.Proof.Gen.KernelUpBwdIdeal.Frame
public import proofs.«01_k».proof.Proof.Gen.KernelUpBwdIdeal.Value
public import proofs.«01_k».proof.Proof.Gen.ReferenceUpBwdIdeal
public import proofs.«01_k».proof.Proof.Gen.ReferenceUpBwdIdeal.Run
public import proofs.«01_k».proof.Proof.Gen.KernelInBwd
public import proofs.«01_k».proof.Proof.Gen.KernelInBwd.Skeleton
public import proofs.«01_k».proof.Proof.Gen.KernelInBwd.Launch
public import proofs.«01_k».proof.Proof.Gen.KernelInBwd.Points
public import proofs.«01_k».proof.Proof.Gen.KernelInBwd.Frame
public import proofs.«01_k».proof.Proof.Gen.KernelInBwdIdeal
public import proofs.«01_k».proof.Proof.Gen.KernelInBwdIdeal.Skeleton
public import proofs.«01_k».proof.Proof.Gen.KernelInBwdIdeal.Launch
public import proofs.«01_k».proof.Proof.Gen.KernelInBwdIdeal.Points
public import proofs.«01_k».proof.Proof.Gen.KernelInBwdIdeal.Frame
public import proofs.«01_k».proof.Proof.Gen.KernelInBwdIdeal.Value
public import proofs.«01_k».proof.Proof.Gen.ReferenceInBwdIdeal
public import proofs.«01_k».proof.Proof.Gen.ReferenceInBwdIdeal.Run
public import proofs.«01_k».proof.Proof.Mm.Down
public import proofs.«01_k».proof.Proof.Mm.Out
public import proofs.«01_k».proof.Proof.Mm.DwDown
public import proofs.«01_k».proof.Proof.Mm.DwUp
public import proofs.«01_k».proof.Proof.Mm.DwOut
public import proofs.«01_k».proof.Proof.Mm.DwIn
public import proofs.«01_k».proof.Proof.Mm.ResDown
public import proofs.«01_k».proof.Proof.Mm.ResOut
public import proofs.«01_k».proof.Proof.Mm.Up
public import proofs.«01_k».proof.Proof.Mm.In
public import proofs.«01_k».proof.Proof.Mm.UpBwd
public import proofs.«01_k».proof.Proof.Mm.InBwd
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.KernelDown.Gen.facts, Cert.KernelDownIdeal.Gen.facts, Cert.ReferenceDownIdeal.Gen.facts,
    Cert.KernelOut.Gen.facts, Cert.KernelOutIdeal.Gen.facts, Cert.ReferenceOutIdeal.Gen.facts,
    Cert.KernelDwDown.Gen.facts, Cert.KernelDwDownIdeal.Gen.facts, Cert.ReferenceDwDownIdeal.Gen.facts,
    Cert.KernelDwUp.Gen.facts, Cert.KernelDwUpIdeal.Gen.facts, Cert.ReferenceDwUpIdeal.Gen.facts,
    Cert.KernelDwOut.Gen.facts, Cert.KernelDwOutIdeal.Gen.facts, Cert.ReferenceDwOutIdeal.Gen.facts,
    Cert.KernelDwIn.Gen.facts, Cert.KernelDwInIdeal.Gen.facts, Cert.ReferenceDwInIdeal.Gen.facts,
    Cert.KernelResDown.Gen.facts, Cert.KernelResDownIdeal.Gen.facts, Cert.ReferenceResDownIdeal.Gen.facts,
    Cert.KernelResOut.Gen.facts, Cert.KernelResOutIdeal.Gen.facts, Cert.ReferenceResOutIdeal.Gen.facts,
    Cert.KernelUp.Gen.facts, Cert.KernelUpIdeal.Gen.facts, Cert.ReferenceUpIdeal.Gen.facts,
    Cert.KernelIn.Gen.facts, Cert.KernelInIdeal.Gen.facts, Cert.ReferenceInIdeal.Gen.facts,
    Cert.KernelUpBwd.Gen.facts, Cert.KernelUpBwdIdeal.Gen.facts, Cert.ReferenceUpBwdIdeal.Gen.facts,
    Cert.KernelInBwd.Gen.facts, Cert.KernelInBwdIdeal.Gen.facts, Cert.ReferenceInBwdIdeal.Gen.facts,
    Cert.Pre_finite.Gen.facts,
    Attn.frame_kernel, Attn.frame_kernelIdeal, fun m ρ _ => Attn.frame_kernelIdeal m ρ trivial,
    Attn.frame_reference, fun m ρ _ => Attn.frame_reference m ρ trivial,
    fun m ρ _ => Cert.KernelDown.Gen.frame m ρ, fun m ρ _ => Cert.KernelDownIdeal.Gen.frame m ρ, Mm.Down.frame_ref,
    fun m ρ _ => Cert.KernelOut.Gen.frame m ρ, fun m ρ _ => Cert.KernelOutIdeal.Gen.frame m ρ, Mm.Out.frame_ref,
    fun m ρ _ => Cert.KernelDwDown.Gen.frame m ρ, fun m ρ _ => Cert.KernelDwDownIdeal.Gen.frame m ρ, Mm.DwDown.frame_ref,
    fun m ρ _ => Cert.KernelDwUp.Gen.frame m ρ, fun m ρ _ => Cert.KernelDwUpIdeal.Gen.frame m ρ, Mm.DwUp.frame_ref,
    fun m ρ _ => Cert.KernelDwOut.Gen.frame m ρ, fun m ρ _ => Cert.KernelDwOutIdeal.Gen.frame m ρ, Mm.DwOut.frame_ref,
    fun m ρ _ => Cert.KernelDwIn.Gen.frame m ρ, fun m ρ _ => Cert.KernelDwInIdeal.Gen.frame m ρ, Mm.DwIn.frame_ref,
    fun m ρ _ => Cert.KernelResDown.Gen.frame m ρ, fun m ρ _ => Cert.KernelResDownIdeal.Gen.frame m ρ, Mm.ResDown.frame_ref,
    fun m ρ _ => Cert.KernelResOut.Gen.frame m ρ, fun m ρ _ => Cert.KernelResOutIdeal.Gen.frame m ρ, Mm.ResOut.frame_ref,
    fun m ρ _ => Cert.KernelUp.Gen.frame m ρ, fun m ρ _ => Cert.KernelUpIdeal.Gen.frame m ρ, Mm.Up.frame_ref,
    fun m ρ _ => Cert.KernelIn.Gen.frame m ρ, fun m ρ _ => Cert.KernelInIdeal.Gen.frame m ρ, Mm.In.frame_ref,
    fun m ρ _ => Cert.KernelUpBwd.Gen.frame m ρ, fun m ρ _ => Cert.KernelUpBwdIdeal.Gen.frame m ρ, Mm.UpBwd.frame_ref,
    fun m ρ _ => Cert.KernelInBwd.Gen.frame m ρ, fun m ρ _ => Cert.KernelInBwdIdeal.Gen.frame m ρ, Mm.InBwd.frame_ref,
    trivial, Attn.value,
    trivial, Mm.Down.value,
    trivial, Mm.Out.value,
    trivial, Mm.DwDown.value,
    trivial, Mm.DwUp.value,
    trivial, Mm.DwOut.value,
    trivial, Mm.DwIn.value,
    trivial, Mm.ResDown.value,
    trivial, Mm.ResOut.value,
    trivial, Mm.Up.value,
    trivial, Mm.In.value,
    trivial, Mm.UpBwd.value,
    trivial, Mm.InBwd.value⟩

end Cert.Proof

end
